-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_assignable [hPre_assignable : Cert.Pre_assignable.Facts] (m : (ℓ : Loc Cert.KernelIdeal.nD Cert.KernelIdeal.τ Cert.KernelIdeal.sig) → Buf (Elt Ideal) ℓ) : Prop :=
  ∀ c : Dev Cert.KernelIdeal.nD,
    (Cert.Pre_assignable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_assignable [hPre_assignable : Cert.Pre_assignable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_assignable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_assignable [hKernelIdeal : Cert.KernelIdeal.Facts] [hPre_assignable : Cert.Pre_assignable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_assignable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_assignable [hReferenceIdeal : Cert.ReferenceIdeal.Facts] [hPre_assignable : Cert.Pre_assignable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_assignable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_assignable [hKernelIdeal : Cert.KernelIdeal.Facts] [hReferenceIdeal : Cert.ReferenceIdeal.Facts] [hPre_assignable : Cert.Pre_assignable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_assignable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v472) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_assignable : Cert.Pre_assignable.Facts),
    quiescent_Kernel (hKernel := hKernel)
    ∧ quiescent_KernelIdeal (hKernelIdeal := hKernelIdeal)
    ∧ quiescent_KernelIdeal_pre_assignable (hKernelIdeal := hKernelIdeal) (hPre_assignable := hPre_assignable)
    ∧ quiescent_ReferenceIdeal (hReferenceIdeal := hReferenceIdeal)
    ∧ quiescent_ReferenceIdeal_pre_assignable (hReferenceIdeal := hReferenceIdeal) (hPre_assignable := hPre_assignable)
    ∧ preserves_Kernel_KernelIdeal
    ∧ algebraic_KernelIdeal_ReferenceIdeal_pre_assignable (hKernelIdeal := hKernelIdeal) (hReferenceIdeal := hReferenceIdeal) (hPre_assignable := hPre_assignable)
-- ==== Pre_assignable.lean ====
abbrev S8x33600x80 : Shape := ⟨3, ![8, 33600, 80]⟩
abbrev S8x33600x4 : Shape := ⟨3, ![8, 33600, 4]⟩
abbrev S8x33600x1 : Shape := ⟨3, ![8, 33600, 1]⟩
abbrev S33600x2 : Shape := ⟨2, ![33600, 2]⟩
abbrev S8x33600 : Shape := ⟨2, ![8, 33600]⟩
abbrev S8x60 : Shape := ⟨2, ![8, 60]⟩
abbrev S8x60x4 : Shape := ⟨3, ![8, 60, 4]⟩
abbrev S33600x1 : Shape := ⟨2, ![33600, 1]⟩
abbrev S33600 : Shape := ⟨1, ![33600]⟩
abbrev S1x33600 : Shape := ⟨2, ![1, 33600]⟩
abbrev S8x60x1 : Shape := ⟨3, ![8, 60, 1]⟩
abbrev S1x1x33600 : Shape := ⟨3, ![1, 1, 33600]⟩
abbrev S8x60x33600 : Shape := ⟨3, ![8, 60, 33600]⟩
abbrev S_ : Shape := ⟨0, ![]⟩
abbrev S8x60x2 : Shape := ⟨3, ![8, 60, 2]⟩
abbrev S8x60x1x2 : Shape := ⟨4, ![8, 60, 1, 2]⟩
abbrev S8x33600x2 : Shape := ⟨3, ![8, 33600, 2]⟩
abbrev S8x1x33600x2 : Shape := ⟨4, ![8, 1, 33600, 2]⟩
abbrev S8x60x33600x2 : Shape := ⟨4, ![8, 60, 33600, 2]⟩
abbrev S8x60x33600x1 : Shape := ⟨4, ![8, 60, 33600, 1]⟩
abbrev S8x1x33600 : Shape := ⟨3, ![8, 1, 33600]⟩
abbrev S33600x80 : Shape := ⟨2, ![33600, 80]⟩
abbrev S1x33600x80 : Shape := ⟨3, ![1, 33600, 80]⟩
abbrev S8x33600x60 : Shape := ⟨3, ![8, 33600, 60]⟩
abbrev S8x60x10 : Shape := ⟨3, ![8, 60, 10]⟩
abbrev S8x60x9 : Shape := ⟨3, ![8, 60, 9]⟩

class Facts : Prop where
  slices_S33600x2_S33600x1_0_0 : S33600x2.Slices ![0, 0] S33600x1
  shapeCasts_S33600x1_S33600 : S33600x1.ShapeCasts S33600
  bcast_S33600_S1x33600_1 : S33600.BroadcastsInDim S1x33600 (![1] : Fin 1 → Fin S1x33600.rank)
  slices_S33600x2_S33600x1_0_1 : S33600x2.Slices ![0, 1] S33600x1
  slices_S8x60x4_S8x60x1_0_0_0 : S8x60x4.Slices ![0, 0, 0] S8x60x1
  bcast_S1x33600_S1x1x33600_1_2 : S1x33600.BroadcastsInDim S1x1x33600 (![1, 2] : Fin 2 → Fin S1x1x33600.rank)
  bcast_S1x1x33600_S8x60x33600_0_1_2 : S1x1x33600.BroadcastsInDim S8x60x33600 (![0, 1, 2] : Fin 3 → Fin S8x60x33600.rank)
  bcast_S8x60x1_S8x60x33600_0_1_2 : S8x60x1.BroadcastsInDim S8x60x33600 (![0, 1, 2] : Fin 3 → Fin S8x60x33600.rank)
  slices_S8x60x4_S8x60x1_0_0_2 : S8x60x4.Slices ![0, 0, 2] S8x60x1
  slices_S8x60x4_S8x60x1_0_0_1 : S8x60x4.Slices ![0, 0, 1] S8x60x1
  slices_S8x60x4_S8x60x1_0_0_3 : S8x60x4.Slices ![0, 0, 3] S8x60x1
  shapeCasts_S8x60x1_S8x60 : S8x60x1.ShapeCasts S8x60
  bcast_S_S8x60 : S_.BroadcastsInDim S8x60 (![] : Fin 0 → Fin S8x60.rank)
  bcast_S8x60_S8x60x1_0_1 : S8x60.BroadcastsInDim S8x60x1 (![0, 1] : Fin 2 → Fin S8x60x1.rank)
  bcast_S_S8x60x1 : S_.BroadcastsInDim S8x60x1 (![] : Fin 0 → Fin S8x60x1.rank)
  reducesTo_S8x60x33600_S8x33600_d1 : S8x60x33600.ReducesTo [1] S8x33600
  h_S_ : 0 < S_.numel
  slices_S8x60x4_S8x60x2_0_0_0 : S8x60x4.Slices ![0, 0, 0] S8x60x2
  bcast_S8x60x2_S8x60x1x2_0_1_3 : S8x60x2.BroadcastsInDim S8x60x1x2 (![0, 1, 3] : Fin 3 → Fin S8x60x1x2.rank)
  slices_S8x33600x4_S8x33600x2_0_0_0 : S8x33600x4.Slices ![0, 0, 0] S8x33600x2
  bcast_S8x33600x2_S8x1x33600x2_0_2_3 : S8x33600x2.BroadcastsInDim S8x1x33600x2 (![0, 2, 3] : Fin 3 → Fin S8x1x33600x2.rank)
  bcast_S8x60x1x2_S8x60x33600x2_0_1_2_3 : S8x60x1x2.BroadcastsInDim S8x60x33600x2 (![0, 1, 2, 3] : Fin 4 → Fin S8x60x33600x2.rank)
  bcast_S8x1x33600x2_S8x60x33600x2_0_1_2_3 : S8x1x33600x2.BroadcastsInDim S8x60x33600x2 (![0, 1, 2, 3] : Fin 4 → Fin S8x60x33600x2.rank)
  slices_S8x60x4_S8x60x2_0_0_2 : S8x60x4.Slices ![0, 0, 2] S8x60x2
  slices_S8x33600x4_S8x33600x2_0_0_2 : S8x33600x4.Slices ![0, 0, 2] S8x33600x2
  bcast_S_S8x60x33600x2 : S_.BroadcastsInDim S8x60x33600x2 (![] : Fin 0 → Fin S8x60x33600x2.rank)
  slices_S8x60x33600x2_S8x60x33600x1_0_0_0_0 : S8x60x33600x2.Slices ![0, 0, 0, 0] S8x60x33600x1
  shapeCasts_S8x60x33600x1_S8x60x33600 : S8x60x33600x1.ShapeCasts S8x60x33600
  slices_S8x60x33600x2_S8x60x33600x1_0_0_0_1 : S8x60x33600x2.Slices ![0, 0, 0, 1] S8x60x33600x1
  slices_S8x33600x4_S8x33600x1_0_0_2 : S8x33600x4.Slices ![0, 0, 2] S8x33600x1
  shapeCasts_S8x33600x1_S8x33600 : S8x33600x1.ShapeCasts S8x33600
  slices_S8x33600x4_S8x33600x1_0_0_0 : S8x33600x4.Slices ![0, 0, 0] S8x33600x1
  bcast_S_S8x33600 : S_.BroadcastsInDim S8x33600 (![] : Fin 0 → Fin S8x33600.rank)
  slices_S8x33600x4_S8x33600x1_0_0_3 : S8x33600x4.Slices ![0, 0, 3] S8x33600x1
  slices_S8x33600x4_S8x33600x1_0_0_1 : S8x33600x4.Slices ![0, 0, 1] S8x33600x1
  bcast_S8x33600_S8x1x33600_0_2 : S8x33600.BroadcastsInDim S8x1x33600 (![0, 2] : Fin 2 → Fin S8x1x33600.rank)
  bcast_S8x1x33600_S8x60x33600_0_1_2 : S8x1x33600.BroadcastsInDim S8x60x33600 (![0, 1, 2] : Fin 3 → Fin S8x60x33600.rank)
  bcast_S_S8x60x33600 : S_.BroadcastsInDim S8x60x33600 (![] : Fin 0 → Fin S8x60x33600.rank)
  bcast_S_S33600x80 : S_.BroadcastsInDim S33600x80 (![] : Fin 0 → Fin S33600x80.rank)
  bcast_S_S8x33600x80 : S_.BroadcastsInDim S8x33600x80 (![] : Fin 0 → Fin S8x33600x80.rank)
  bcast_S33600x80_S1x33600x80_1_2 : S33600x80.BroadcastsInDim S1x33600x80 (![1, 2] : Fin 2 → Fin S1x33600x80.rank)
  bcast_S1x33600x80_S8x33600x80_0_1_2 : S1x33600x80.BroadcastsInDim S8x33600x80 (![0, 1, 2] : Fin 3 → Fin S8x33600x80.rank)
  reducesTo_S8x33600x80_S8x33600_d2 : S8x33600x80.ReducesTo [2] S8x33600
  transposes_S8x33600x60_S8x60x33600_0_2_1 : S8x33600x60.Transposes [0, 2, 1] S8x60x33600
  bcast_S_S8x1x33600 : S_.BroadcastsInDim S8x1x33600 (![] : Fin 0 → Fin S8x1x33600.rank)
  sliceFits_S8x60x33600_S8x60x10 : S8x60x33600.Slices (fun _ => 0) S8x60x10
  reducesTo_S8x33600x80_S_d0_1_2 : S8x33600x80.ReducesTo [0, 1, 2] S_
  bcast_S_S8x60x4 : S_.BroadcastsInDim S8x60x4 (![] : Fin 0 → Fin S8x60x4.rank)
  reducesTo_S8x60x4_S_d0_1_2 : S8x60x4.ReducesTo [0, 1, 2] S_
  reducesTo_S8x60_S_d0_1 : S8x60.ReducesTo [0, 1] S_
  slices_S8x60x33600_S8x60x10_0_0_0 : S8x60x33600.Slices ![0, 0, 0] S8x60x10
  slices_S8x60x33600_S8x60x10_0_0_1 : S8x60x33600.Slices ![0, 0, 1] S8x60x10
  reducesTo_S8x60x10_S_d0_1_2 : S8x60x10.ReducesTo [0, 1, 2] S_
  slices_S8x60x10_S8x60x9_0_0_0 : S8x60x10.Slices ![0, 0, 0] S8x60x9
  slices_S8x60x10_S8x60x9_0_0_1 : S8x60x10.Slices ![0, 0, 1] S8x60x9
  bcast_S_S8x60x9 : S_.BroadcastsInDim S8x60x9 (![] : Fin 0 → Fin S8x60x9.rank)
  reducesTo_S8x60x9_S_d0_1_2 : S8x60x9.ReducesTo [0, 1, 2] S_
  gather_S8x33600x80_S8x60x1_S8x33600x60_1_2_0_0_2_2_1336001_wf : GatherDims.WF S8x33600x80 S8x60x1 S8x33600x60 [1] [2] [0] [2] [0] 2 ![1, 33600, 1]

variable [Facts]

variable {F : FTy → Type} [FloatOps F]
def gather_S8x33600x80_S8x60x1_S8x33600x60_1_2_0_0_2_2_1336001 : GatherDims S8x33600x80 S8x60x1 S8x33600x60 where
  offsetDims := [1]
  collapsedSliceDims := [2]
  operandBatchingDims := [0]
  startIndicesBatchingDims := [0]
  startIndexMap := [2]
  indexVectorDim := 2
  sliceSizes := ![1, 33600, 1]
  wf := gather_S8x33600x80_S8x60x1_S8x33600x60_1_2_0_0_2_2_1336001_wf
def comparator_f32_d2 : F .f32 → F .f32 → BitVec 1 :=
  fun l r =>
    let cst_52 := FloatOps.ofBits .f32 0x00000000#32
    let v301 := FloatOps.cmpf .oeq l cst_52
    let cst_53 := FloatOps.ofBits .f32 0x00000000#32
    let v302 := Scalar.select v301 cst_53 l
    let v303 := FloatOps.cmpf .une l l
    let cst_54 := FloatOps.ofBits .f32 0x7FC00000#32
    let v304 := Scalar.select v303 cst_54 v302
    let cst_55 := FloatOps.ofBits .f32 0x00000000#32
    let v305 := FloatOps.cmpf .oeq r cst_55
    let cst_56 := FloatOps.ofBits .f32 0x00000000#32
    let v306 := Scalar.select v305 cst_56 r
    let v307 := FloatOps.cmpf .une r r
    let cst_57 := FloatOps.ofBits .f32 0x7FC00000#32
    let v308 := Scalar.select v307 cst_57 v306
    let v309 := FloatOps.cmpfTotal .lt v304 v308
    v309

def fn_part14 {F : FTy → Type} [FloatOps F] (main_v266 : FVec F S8x60x33600 .f32) (main_values : FVec F S8x60x10 .f32) (main_v279 : IVec S_ 1) (main_v281 : IVec S8x60 1) (main_v283 : IVec S8x60 1) : IVec S_ 1 :=
  let main_v284 : IVec S8x60 1 := andi main_v281 main_v283
  let main_c_48 : IVec S_ 1 := constantI S_ 1 1#1
  let main_v285 : IVec S_ 1 := (fun x v => Host.reduce IntOp.andi x v reducesTo_S8x60_S_d0_1 h_S_) main_v284 main_c_48
  let main_v286 : FVec F S8x60x10 .f32 := (extractStridedSlice S8x60x10 ![0, 0, 0] · slices_S8x60x33600_S8x60x10_0_0_0) main_v266
  let main_v287 : FVec F S8x60x10 .f32 := (extractStridedSlice S8x60x10 ![0, 0, 1] · slices_S8x60x33600_S8x60x10_0_0_1) main_v266
  let main_v288 : IVec S8x60x10 1 := cmpf .olt main_v286 main_v287
  let main_c_49 : IVec S_ 1 := constantI S_ 1 1#1
  let main_v289 : IVec S_ 1 := (fun x v => Host.reduce IntOp.andi x v reducesTo_S8x60x10_S_d0_1_2 h_S_) main_v288 main_c_49
  let main_v290 : FVec F S8x60x9 .f32 := (extractStridedSlice S8x60x9 ![0, 0, 0] · slices_S8x60x10_S8x60x9_0_0_0) main_values
  let main_v291 : FVec F S8x60x9 .f32 := (extractStridedSlice S8x60x9 ![0, 0, 1] · slices_S8x60x10_S8x60x9_0_0_1) main_values
  let main_v292 : IVec S8x60x9 1 := cmpf .ogt main_v290 main_v291
  let main_v293 : FVec F S8x60x9 .f32 := (extractStridedSlice S8x60x9 ![0, 0, 0] · slices_S8x60x10_S8x60x9_0_0_0) main_values
  let main_cst_50 : FVec F S_ .f32 := constant S_ .f32 0x00000000#32
  let main_v294 : FVec F S8x60x9 .f32 := broadcastInDim S8x60x9 ![] bcast_S_S8x60x9 main_cst_50
  let main_v295 : IVec S8x60x9 1 := cmpf .ole main_v293 main_v294
  let main_v296 : IVec S8x60x9 1 := ori main_v292 main_v295
  let main_c_51 : IVec S_ 1 := constantI S_ 1 1#1
  let main_v297 : IVec S_ 1 := (fun x v => Host.reduce IntOp.andi x v reducesTo_S8x60x9_S_d0_1_2 h_S_) main_v296 main_c_51
  let main_v298 : IVec S_ 1 := andi main_v279 main_v285
  let main_v299 : IVec S_ 1 := andi main_v298 main_v289
  let main_v300 : IVec S_ 1 := andi main_v299 main_v297
  main_v300

def fn_part13 {F : FTy → Type} [FloatOps F] (main_arg0 : FVec F S8x33600x80 .f32) (main_arg5 : IVec S8x60 32) (main_arg6 : FVec F S8x60x4 .f32) (main_v135 : FVec F S8x60x33600 .f32) (main_v266 : FVec F S8x60x33600 .f32) (main_v267 : FVec F S8x33600 .f32) : IVec S_ 1 :=
  let main_v268 : FVec F S8x1x33600 .f32 := broadcastInDim S8x1x33600 ![0, 2] bcast_S8x33600_S8x1x33600_0_2 main_v267
  let main_v269 : FVec F S8x60x33600 .f32 := broadcastInDim S8x60x33600 ![0, 1, 2] bcast_S8x1x33600_S8x60x33600_0_1_2 main_v268
  let main_v270 : FVec F S8x60x33600 .f32 := mulf main_v135 main_v269
  let main_values : FVec F S8x60x10 .f32 := (fun x => (Host.topK S8x60x10 2 (FloatOps.cmpfTotal .gt) x sliceFits_S8x60x33600_S8x60x10).1) main_v270
  let main_indices : IVec S8x60x10 32 := (fun x => (Host.topK S8x60x10 2 (FloatOps.cmpfTotal .gt) x sliceFits_S8x60x33600_S8x60x10).2) main_v270
  let main_v271 : FVec F S8x33600x80 .f32 := Host.absf main_arg0
  let main_cst_42 : FVec F S_ .f32 := constant S_ .f32 0x7F800000#32
  let main_v272 : FVec F S8x33600x80 .f32 := broadcastInDim S8x33600x80 ![] bcast_S_S8x33600x80 main_cst_42
  let main_v273 : IVec S8x33600x80 1 := cmpf .olt main_v271 main_v272
  let main_c_43 : IVec S_ 1 := constantI S_ 1 1#1
  let main_v274 : IVec S_ 1 := (fun x v => Host.reduce IntOp.andi x v reducesTo_S8x33600x80_S_d0_1_2 h_S_) main_v273 main_c_43
  let main_v275 : FVec F S8x60x4 .f32 := Host.absf main_arg6
  let main_cst_44 : FVec F S_ .f32 := constant S_ .f32 0x7F800000#32
  let main_v276 : FVec F S8x60x4 .f32 := broadcastInDim S8x60x4 ![] bcast_S_S8x60x4 main_cst_44
  let main_v277 : IVec S8x60x4 1 := cmpf .olt main_v275 main_v276
  let main_c_45 : IVec S_ 1 := constantI S_ 1 1#1
  let main_v278 : IVec S_ 1 := (fun x v => Host.reduce IntOp.andi x v reducesTo_S8x60x4_S_d0_1_2 h_S_) main_v277 main_c_45
  let main_v279 : IVec S_ 1 := andi main_v274 main_v278
  let main_c_46 : IVec S_ 32 := constantI S_ 32 0#32
  let main_v280 : IVec S8x60 32 := broadcastInDim S8x60 ![] bcast_S_S8x60 main_c_46
  let main_v281 : IVec S8x60 1 := cmpi .sge main_arg5 main_v280
  let main_c_47 : IVec S_ 32 := constantI S_ 32 80#32
  let main_v282 : IVec S8x60 32 := broadcastInDim S8x60 ![] bcast_S_S8x60 main_c_47
  let main_v283 : IVec S8x60 1 := cmpi .slt main_arg5 main_v282
  fn_part14 (F := F) main_v266 main_values main_v279 main_v281 main_v283

def fn_part12 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v239 : FVec F S8x60x33600 .f32) (main_v246 : FVec F S8x33600x60 .f32) : IVec S_ 1 :=
  let main_v247 : FVec F S8x60x33600 .f32 := (transpose S8x60x33600 [0, 2, 1] · transposes_S8x33600x60_S8x60x33600_0_2_1) main_v246
  let main_v248 : FVec F S8x60x33600 .f32 := addf main_v239 main_v247
  let main_cst_39 : FVec F S_ .f32 := constant S_ .f32 0x40400000#32
  let main_v249 : FVec F S8x60x33600 .f32 := broadcastInDim S8x60x33600 ![] bcast_S_S8x60x33600 main_cst_39
  let main_v250 : FVec F S8x60x33600 .f32 := mulf main_v249 main_v139
  let main_v251 : FVec F S8x60x33600 .f32 := addf main_v248 main_v250
  let main_v252 : IVec S8x60x33600 1 := noti main_v74
  let main_v253 : FVec F S8x60x33600 .f32 := uitofp .f32 main_v252
  let main_cst_40 : FVec F S_ .f32 := constant S_ .f32 0x47C35000#32
  let main_v254 : FVec F S8x60x33600 .f32 := broadcastInDim S8x60x33600 ![] bcast_S_S8x60x33600 main_cst_40
  let main_v255 : FVec F S8x60x33600 .f32 := mulf main_v254 main_v253
  let main_v256 : FVec F S8x60x33600 .f32 := id main_v255
  let main_v257 : FVec F S8x60x33600 .f32 := addf main_v251 main_v256
  let main_v258 : IVec S8x33600 1 := noti main_v73
  let main_v259 : IVec S8x1x33600 1 := broadcastInDim S8x1x33600 ![0, 2] bcast_S8x33600_S8x1x33600_0_2 main_v258
  let main_v260 : FVec F S8x1x33600 .f32 := uitofp .f32 main_v259
  let main_cst_41 : FVec F S_ .f32 := constant S_ .f32 0x47C35000#32
  let main_v261 : FVec F S8x1x33600 .f32 := broadcastInDim S8x1x33600 ![] bcast_S_S8x1x33600 main_cst_41
  let main_v262 : FVec F S8x1x33600 .f32 := mulf main_v261 main_v260
  let main_v263 : FVec F S8x1x33600 .f32 := id main_v262
  let main_v264 : FVec F S8x60x33600 .f32 := broadcastInDim S8x60x33600 ![0, 1, 2] bcast_S8x1x33600_S8x60x33600_0_1_2 main_v263
  let main_v265 : FVec F S8x60x33600 .f32 := addf main_v257 main_v264
  let main_v266 : FVec F S8x60x33600 .f32 := (fun x => Host.sort S8x60x33600 2 comparator_f32_d2 x) main_v265
  let main_v267 : FVec F S8x33600 .f32 := uitofp .f32 main_v73
  fn_part13 (F := F) main_arg0 main_arg5 main_arg6 main_v135 main_v266 main_v267

def fn_part11 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v183 : FVec F S8x33600x80 .f32) (main_v227 : FVec F S8x33600x80 .f32) : IVec S_ 1 :=
  let main_cst_34 : FVec F S_ .f32 := constant S_ .f32 0x00000000#32
  let main_v228 : FVec F S8x33600 .f32 := (fun x v => Host.reduceAdd x v reducesTo_S8x33600x80_S8x33600_d2 h_S_) main_v227 main_cst_34
  let main_v229 : FVec F S8x1x33600 .f32 := broadcastInDim S8x1x33600 ![0, 2] bcast_S8x33600_S8x1x33600_0_2 main_v228
  let main_c_35 : IVec S_ 32 := constantI S_ 32 0#32
  let main_v230 : IVec S8x60 32 := broadcastInDim S8x60 ![] bcast_S_S8x60 main_c_35
  let main_v231 : IVec S8x60 1 := cmpi .slt main_arg5 main_v230
  let main_c_36 : IVec S_ 32 := constantI S_ 32 80#32
  let main_v232 : IVec S8x60 32 := broadcastInDim S8x60 ![] bcast_S_S8x60 main_c_36
  let main_v233 : IVec S8x60 32 := addi main_arg5 main_v232
  let main_v234 : IVec S8x60 32 := select main_v231 main_v233 main_arg5
  let main_v235 : IVec S8x60x1 32 := broadcastInDim S8x60x1 ![0, 1] bcast_S8x60_S8x60x1_0_1 main_v234
  let main_v236 : FVec F S8x33600x60 .f32 := (fun x i => Host.gather gather_S8x33600x80_S8x60x1_S8x33600x60_1_2_0_0_2_2_1336001 x i) main_v227 main_v235
  let main_v237 : FVec F S8x60x33600 .f32 := (transpose S8x60x33600 [0, 2, 1] · transposes_S8x33600x60_S8x60x33600_0_2_1) main_v236
  let main_v238 : FVec F S8x60x33600 .f32 := broadcastInDim S8x60x33600 ![0, 1, 2] bcast_S8x1x33600_S8x60x33600_0_1_2 main_v229
  let main_v239 : FVec F S8x60x33600 .f32 := subf main_v238 main_v237
  let main_c_37 : IVec S_ 32 := constantI S_ 32 0#32
  let main_v240 : IVec S8x60 32 := broadcastInDim S8x60 ![] bcast_S_S8x60 main_c_37
  let main_v241 : IVec S8x60 1 := cmpi .slt main_arg5 main_v240
  let main_c_38 : IVec S_ 32 := constantI S_ 32 80#32
  let main_v242 : IVec S8x60 32 := broadcastInDim S8x60 ![] bcast_S_S8x60 main_c_38
  let main_v243 : IVec S8x60 32 := addi main_arg5 main_v242
  let main_v244 : IVec S8x60 32 := select main_v241 main_v243 main_arg5
  let main_v245 : IVec S8x60x1 32 := broadcastInDim S8x60x1 ![0, 1] bcast_S8x60_S8x60x1_0_1 main_v244
  let main_v246 : FVec F S8x33600x60 .f32 := (fun x i => Host.gather gather_S8x33600x80_S8x60x1_S8x33600x60_1_2_0_0_2_2_1336001 x i) main_v183 main_v245
  fn_part12 (F := F) main_arg0 main_arg5 main_arg6 main_v73 main_v74 main_v135 main_v139 main_v239 main_v246

def fn_part10 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v183 : FVec F S8x33600x80 .f32) (main_v184 : FVec F S33600x80 .f32) (main_v201 : FVec F S8x33600x80 .f32) (main_v204 : FVec F S8x33600x80 .f32) (main_v206 : FVec F S8x33600x80 .f32) (main_v208 : FVec F S33600x80 .f32) : IVec S_ 1 :=
  let main_v209 : FVec F S1x33600x80 .f32 := broadcastInDim S1x33600x80 ![1, 2] bcast_S33600x80_S1x33600x80_1_2 main_v208
  let main_v210 : FVec F S8x33600x80 .f32 := broadcastInDim S8x33600x80 ![0, 1, 2] bcast_S1x33600x80_S8x33600x80_0_1_2 main_v209
  let main_v211 : FVec F S8x33600x80 .f32 := mulf main_v206 main_v210
  let main_v212 : FVec F S8x33600x80 .f32 := addf main_v204 main_v211
  let main_cst_29 : FVec F S_ .f32 := constant S_ .f32 0x3F800000#32
  let main_v213 : FVec F S8x33600x80 .f32 := broadcastInDim S8x33600x80 ![] bcast_S_S8x33600x80 main_cst_29
  let main_v214 : FVec F S8x33600x80 .f32 := subf main_v213 main_v212
  let main_cst_30 : FVec F S_ .f32 := constant S_ .f32 0x40000000#32
  let main_v215 : FVec F S8x33600x80 .f32 := broadcastInDim S8x33600x80 ![] bcast_S_S8x33600x80 main_cst_30
  let main_v216 : FVec F S8x33600x80 .f32 := Host.powf main_v214 main_v215
  let main_v217 : FVec F S8x33600x80 .f32 := mulf main_v201 main_v216
  let main_cst_31 : FVec F S_ .f32 := constant S_ .f32 0x3E800000#32
  let main_v218 : FVec F S33600x80 .f32 := broadcastInDim S33600x80 ![] bcast_S_S33600x80 main_cst_31
  let main_v219 : FVec F S33600x80 .f32 := mulf main_v218 main_v184
  let main_cst_32 : FVec F S_ .f32 := constant S_ .f32 0x3F800000#32
  let main_v220 : FVec F S33600x80 .f32 := broadcastInDim S33600x80 ![] bcast_S_S33600x80 main_cst_32
  let main_v221 : FVec F S33600x80 .f32 := subf main_v220 main_v184
  let main_cst_33 : FVec F S_ .f32 := constant S_ .f32 0x3F400000#32
  let main_v222 : FVec F S33600x80 .f32 := broadcastInDim S33600x80 ![] bcast_S_S33600x80 main_cst_33
  let main_v223 : FVec F S33600x80 .f32 := mulf main_v222 main_v221
  let main_v224 : FVec F S33600x80 .f32 := addf main_v219 main_v223
  let main_v225 : FVec F S1x33600x80 .f32 := broadcastInDim S1x33600x80 ![1, 2] bcast_S33600x80_S1x33600x80_1_2 main_v224
  let main_v226 : FVec F S8x33600x80 .f32 := broadcastInDim S8x33600x80 ![0, 1, 2] bcast_S1x33600x80_S8x33600x80_0_1_2 main_v225
  let main_v227 : FVec F S8x33600x80 .f32 := mulf main_v226 main_v217
  fn_part11 (F := F) main_arg0 main_arg5 main_arg6 main_v73 main_v74 main_v135 main_v139 main_v183 main_v227

def fn_part9 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v183 : FVec F S8x33600x80 .f32) (main_v184 : FVec F S33600x80 .f32) (main_v188 : FVec F S8x33600x80 .f32) : IVec S_ 1 :=
  let main_cst_25 : FVec F S_ .f32 := constant S_ .f32 0x3F800000#32
  let main_v189 : FVec F S8x33600x80 .f32 := broadcastInDim S8x33600x80 ![] bcast_S_S8x33600x80 main_cst_25
  let main_v190 : FVec F S8x33600x80 .f32 := Host.divf main_v189 main_v188
  let main_cst_26 : FVec F S_ .f32 := constant S_ .f32 0x00000000#32
  let main_v191 : FVec F S8x33600x80 .f32 := broadcastInDim S8x33600x80 ![] bcast_S_S8x33600x80 main_cst_26
  let main_v192 : FVec F S8x33600x80 .f32 := maximumf main_arg0 main_v191
  let main_v193 : FVec F S1x33600x80 .f32 := broadcastInDim S1x33600x80 ![1, 2] bcast_S33600x80_S1x33600x80_1_2 main_v184
  let main_v194 : FVec F S8x33600x80 .f32 := broadcastInDim S8x33600x80 ![0, 1, 2] bcast_S1x33600x80_S8x33600x80_0_1_2 main_v193
  let main_v195 : FVec F S8x33600x80 .f32 := mulf main_arg0 main_v194
  let main_v196 : FVec F S8x33600x80 .f32 := subf main_v192 main_v195
  let main_v197 : FVec F S8x33600x80 .f32 := Host.absf main_arg0
  let main_v198 : FVec F S8x33600x80 .f32 := Host.negf main_v197
  let main_v199 : FVec F S8x33600x80 .f32 := Host.exp main_v198
  let main_v200 : FVec F S8x33600x80 .f32 := Host.log1p main_v199
  let main_v201 : FVec F S8x33600x80 .f32 := addf main_v196 main_v200
  let main_v202 : FVec F S1x33600x80 .f32 := broadcastInDim S1x33600x80 ![1, 2] bcast_S33600x80_S1x33600x80_1_2 main_v184
  let main_v203 : FVec F S8x33600x80 .f32 := broadcastInDim S8x33600x80 ![0, 1, 2] bcast_S1x33600x80_S8x33600x80_0_1_2 main_v202
  let main_v204 : FVec F S8x33600x80 .f32 := mulf main_v190 main_v203
  let main_cst_27 : FVec F S_ .f32 := constant S_ .f32 0x3F800000#32
  let main_v205 : FVec F S8x33600x80 .f32 := broadcastInDim S8x33600x80 ![] bcast_S_S8x33600x80 main_cst_27
  let main_v206 : FVec F S8x33600x80 .f32 := subf main_v205 main_v190
  let main_cst_28 : FVec F S_ .f32 := constant S_ .f32 0x3F800000#32
  let main_v207 : FVec F S33600x80 .f32 := broadcastInDim S33600x80 ![] bcast_S_S33600x80 main_cst_28
  let main_v208 : FVec F S33600x80 .f32 := subf main_v207 main_v184
  fn_part10 (F := F) main_arg0 main_arg5 main_arg6 main_v73 main_v74 main_v135 main_v139 main_v183 main_v184 main_v201 main_v204 main_v206 main_v208

def fn_part8 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v140 : FVec F S33600x80 .f32) (main_v157 : FVec F S8x33600x80 .f32) (main_v170 : FVec F S8x33600x80 .f32) : IVec S_ 1 :=
  let main_cst_19 : FVec F S_ .f32 := constant S_ .f32 0x40000000#32
  let main_v171 : FVec F S8x33600x80 .f32 := broadcastInDim S8x33600x80 ![] bcast_S_S8x33600x80 main_cst_19
  let main_v172 : FVec F S8x33600x80 .f32 := Host.powf main_v170 main_v171
  let main_v173 : FVec F S8x33600x80 .f32 := mulf main_v157 main_v172
  let main_cst_20 : FVec F S_ .f32 := constant S_ .f32 0x3E800000#32
  let main_v174 : FVec F S33600x80 .f32 := broadcastInDim S33600x80 ![] bcast_S_S33600x80 main_cst_20
  let main_v175 : FVec F S33600x80 .f32 := mulf main_v174 main_v140
  let main_cst_21 : FVec F S_ .f32 := constant S_ .f32 0x3F800000#32
  let main_v176 : FVec F S33600x80 .f32 := broadcastInDim S33600x80 ![] bcast_S_S33600x80 main_cst_21
  let main_v177 : FVec F S33600x80 .f32 := subf main_v176 main_v140
  let main_cst_22 : FVec F S_ .f32 := constant S_ .f32 0x3F400000#32
  let main_v178 : FVec F S33600x80 .f32 := broadcastInDim S33600x80 ![] bcast_S_S33600x80 main_cst_22
  let main_v179 : FVec F S33600x80 .f32 := mulf main_v178 main_v177
  let main_v180 : FVec F S33600x80 .f32 := addf main_v175 main_v179
  let main_v181 : FVec F S1x33600x80 .f32 := broadcastInDim S1x33600x80 ![1, 2] bcast_S33600x80_S1x33600x80_1_2 main_v180
  let main_v182 : FVec F S8x33600x80 .f32 := broadcastInDim S8x33600x80 ![0, 1, 2] bcast_S1x33600x80_S8x33600x80_0_1_2 main_v181
  let main_v183 : FVec F S8x33600x80 .f32 := mulf main_v182 main_v173
  let main_cst_23 : FVec F S_ .f32 := constant S_ .f32 0x00000000#32
  let main_v184 : FVec F S33600x80 .f32 := broadcastInDim S33600x80 ![] bcast_S_S33600x80 main_cst_23
  let main_v185 : FVec F S8x33600x80 .f32 := Host.negf main_arg0
  let main_v186 : FVec F S8x33600x80 .f32 := Host.exp main_v185
  let main_cst_24 : FVec F S_ .f32 := constant S_ .f32 0x3F800000#32
  let main_v187 : FVec F S8x33600x80 .f32 := broadcastInDim S8x33600x80 ![] bcast_S_S8x33600x80 main_cst_24
  let main_v188 : FVec F S8x33600x80 .f32 := addf main_v187 main_v186
  fn_part9 (F := F) main_arg0 main_arg5 main_arg6 main_v73 main_v74 main_v135 main_v139 main_v183 main_v184 main_v188

def fn_part7 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v135 : FVec F S8x60x33600 .f32) (main_v139 : FVec F S8x60x33600 .f32) (main_v140 : FVec F S33600x80 .f32) (main_v146 : FVec F S8x33600x80 .f32) (main_v148 : FVec F S8x33600x80 .f32) (main_v149 : FVec F S1x33600x80 .f32) : IVec S_ 1 :=
  let main_v150 : FVec F S8x33600x80 .f32 := broadcastInDim S8x33600x80 ![0, 1, 2] bcast_S1x33600x80_S8x33600x80_0_1_2 main_v149
  let main_v151 : FVec F S8x33600x80 .f32 := mulf main_arg0 main_v150
  let main_v152 : FVec F S8x33600x80 .f32 := subf main_v148 main_v151
  let main_v153 : FVec F S8x33600x80 .f32 := Host.absf main_arg0
  let main_v154 : FVec F S8x33600x80 .f32 := Host.negf main_v153
  let main_v155 : FVec F S8x33600x80 .f32 := Host.exp main_v154
  let main_v156 : FVec F S8x33600x80 .f32 := Host.log1p main_v155
  let main_v157 : FVec F S8x33600x80 .f32 := addf main_v152 main_v156
  let main_v158 : FVec F S1x33600x80 .f32 := broadcastInDim S1x33600x80 ![1, 2] bcast_S33600x80_S1x33600x80_1_2 main_v140
  let main_v159 : FVec F S8x33600x80 .f32 := broadcastInDim S8x33600x80 ![0, 1, 2] bcast_S1x33600x80_S8x33600x80_0_1_2 main_v158
  let main_v160 : FVec F S8x33600x80 .f32 := mulf main_v146 main_v159
  let main_cst_16 : FVec F S_ .f32 := constant S_ .f32 0x3F800000#32
  let main_v161 : FVec F S8x33600x80 .f32 := broadcastInDim S8x33600x80 ![] bcast_S_S8x33600x80 main_cst_16
  let main_v162 : FVec F S8x33600x80 .f32 := subf main_v161 main_v146
  let main_cst_17 : FVec F S_ .f32 := constant S_ .f32 0x3F800000#32
  let main_v163 : FVec F S33600x80 .f32 := broadcastInDim S33600x80 ![] bcast_S_S33600x80 main_cst_17
  let main_v164 : FVec F S33600x80 .f32 := subf main_v163 main_v140
  let main_v165 : FVec F S1x33600x80 .f32 := broadcastInDim S1x33600x80 ![1, 2] bcast_S33600x80_S1x33600x80_1_2 main_v164
  let main_v166 : FVec F S8x33600x80 .f32 := broadcastInDim S8x33600x80 ![0, 1, 2] bcast_S1x33600x80_S8x33600x80_0_1_2 main_v165
  let main_v167 : FVec F S8x33600x80 .f32 := mulf main_v162 main_v166
  let main_v168 : FVec F S8x33600x80 .f32 := addf main_v160 main_v167
  let main_cst_18 : FVec F S_ .f32 := constant S_ .f32 0x3F800000#32
  let main_v169 : FVec F S8x33600x80 .f32 := broadcastInDim S8x33600x80 ![] bcast_S_S8x33600x80 main_cst_18
  let main_v170 : FVec F S8x33600x80 .f32 := subf main_v169 main_v168
  fn_part8 (F := F) main_arg0 main_arg5 main_arg6 main_v73 main_v74 main_v135 main_v139 main_v140 main_v157 main_v170

def fn_part6 {F : FTy → Type} [FloatOps F] (main_arg0 : FVec F S8x33600x80 .f32) (main_arg5 : IVec S8x60 32) (main_arg6 : FVec F S8x60x4 .f32) (main_v73 : IVec S8x33600 1) (main_v74 : IVec S8x60x33600 1) (main_v96 : FVec F S8x60x33600 .f32) (main_v131 : FVec F S8x60x33600 .f32) : IVec S_ 1 :=
  let main_v132 : FVec F S8x60x33600 .f32 := subf main_v131 main_v96
  let main_cst_10 : FVec F S_ .f32 := constant S_ .f32 0x322BCC77#32
  let main_v133 : FVec F S8x60x33600 .f32 := broadcastInDim S8x60x33600 ![] bcast_S_S8x60x33600 main_cst_10
  let main_v134 : FVec F S8x60x33600 .f32 := maximumf main_v132 main_v133
  let main_v135 : FVec F S8x60x33600 .f32 := Host.divf main_v96 main_v134
  let main_cst_11 : FVec F S_ .f32 := constant S_ .f32 0x322BCC77#32
  let main_v136 : FVec F S8x60x33600 .f32 := broadcastInDim S8x60x33600 ![] bcast_S_S8x60x33600 main_cst_11
  let main_v137 : FVec F S8x60x33600 .f32 := addf main_v135 main_v136
  let main_v138 : FVec F S8x60x33600 .f32 := Host.log main_v137
  let main_v139 : FVec F S8x60x33600 .f32 := Host.negf main_v138
  let main_cst_12 : FVec F S_ .f32 := constant S_ .f32 0x3F800000#32
  let main_v140 : FVec F S33600x80 .f32 := broadcastInDim S33600x80 ![] bcast_S_S33600x80 main_cst_12
  let main_v141 : FVec F S8x33600x80 .f32 := Host.negf main_arg0
  let main_v142 : FVec F S8x33600x80 .f32 := Host.exp main_v141
  let main_cst_13 : FVec F S_ .f32 := constant S_ .f32 0x3F800000#32
  let main_v143 : FVec F S8x33600x80 .f32 := broadcastInDim S8x33600x80 ![] bcast_S_S8x33600x80 main_cst_13
  let main_v144 : FVec F S8x33600x80 .f32 := addf main_v143 main_v142
  let main_cst_14 : FVec F S_ .f32 := constant S_ .f32 0x3F800000#32
  let main_v145 : FVec F S8x33600x80 .f32 := broadcastInDim S8x33600x80 ![] bcast_S_S8x33600x80 main_cst_14
  let main_v146 : FVec F S8x33600x80 .f32 := Host.divf main_v145 main_v144
  let main_cst_15 : FVec F S_ .f32 := constant S_ .f32 0x00000000#32
  let main_v147 : FVec F S8x33600x80 .f32 := broadcastInDim S8x33600x80 ![] bcast_S_S8x33600x80 main_cst_15
  let main_v148 : FVec F S8x33600x80 .f32 := maximumf main_arg0 main_v147
  let main_v149 : FVec F S1x33600x80 .f32 := broadcastInDim S1x33600x80 ![1, 2] bcast_S33600x80_S1x33600x80_1_2 main_v140
  fn_part7 (F := F) main_arg0 main_arg5 main_arg6 main_v73 main_v74 main_v135 main_v139 main_v140 main_v146 main_v148 main_v149

def fn_part5 {F : FTy → Type} [FloatOps F] (main_arg0 : FVec F S8x33600x80 .f32) (main_arg1 : FVec F S8x33600x4 .f32) (main_arg5 : IVec S8x60 32) (main_arg6 : FVec F S8x60x4 .f32) (main_v73 : IVec S8x33600 1) (main_v74 : IVec S8x60x33600 1) (main_v96 : FVec F S8x60x33600 .f32) (main_v103 : FVec F S8x60 .f32) (main_v108 : FVec F S8x60 .f32) (main_v109 : FVec F S8x60 .f32) : IVec S_ 1 :=
  let main_v110 : FVec F S8x60 .f32 := maximumf main_v108 main_v109
  let main_v111 : FVec F S8x60 .f32 := mulf main_v103 main_v110
  let main_v112 : FVec F S8x33600x1 .f32 := (extractStridedSlice S8x33600x1 ![0, 0, 2] · slices_S8x33600x4_S8x33600x1_0_0_2) main_arg1
  let main_v113 : FVec F S8x33600 .f32 := shapeCast S8x33600 main_v112 shapeCasts_S8x33600x1_S8x33600
  let main_v114 : FVec F S8x33600x1 .f32 := (extractStridedSlice S8x33600x1 ![0, 0, 0] · slices_S8x33600x4_S8x33600x1_0_0_0) main_arg1
  let main_v115 : FVec F S8x33600 .f32 := shapeCast S8x33600 main_v114 shapeCasts_S8x33600x1_S8x33600
  let main_v116 : FVec F S8x33600 .f32 := subf main_v113 main_v115
  let main_cst_8 : FVec F S_ .f32 := constant S_ .f32 0x00000000#32
  let main_v117 : FVec F S8x33600 .f32 := broadcastInDim S8x33600 ![] bcast_S_S8x33600 main_cst_8
  let main_v118 : FVec F S8x33600 .f32 := maximumf main_v116 main_v117
  let main_v119 : FVec F S8x33600x1 .f32 := (extractStridedSlice S8x33600x1 ![0, 0, 3] · slices_S8x33600x4_S8x33600x1_0_0_3) main_arg1
  let main_v120 : FVec F S8x33600 .f32 := shapeCast S8x33600 main_v119 shapeCasts_S8x33600x1_S8x33600
  let main_v121 : FVec F S8x33600x1 .f32 := (extractStridedSlice S8x33600x1 ![0, 0, 1] · slices_S8x33600x4_S8x33600x1_0_0_1) main_arg1
  let main_v122 : FVec F S8x33600 .f32 := shapeCast S8x33600 main_v121 shapeCasts_S8x33600x1_S8x33600
  let main_v123 : FVec F S8x33600 .f32 := subf main_v120 main_v122
  let main_cst_9 : FVec F S_ .f32 := constant S_ .f32 0x00000000#32
  let main_v124 : FVec F S8x33600 .f32 := broadcastInDim S8x33600 ![] bcast_S_S8x33600 main_cst_9
  let main_v125 : FVec F S8x33600 .f32 := maximumf main_v123 main_v124
  let main_v126 : FVec F S8x33600 .f32 := mulf main_v118 main_v125
  let main_v127 : FVec F S8x60x1 .f32 := broadcastInDim S8x60x1 ![0, 1] bcast_S8x60_S8x60x1_0_1 main_v111
  let main_v128 : FVec F S8x1x33600 .f32 := broadcastInDim S8x1x33600 ![0, 2] bcast_S8x33600_S8x1x33600_0_2 main_v126
  let main_v129 : FVec F S8x60x33600 .f32 := broadcastInDim S8x60x33600 ![0, 1, 2] bcast_S8x60x1_S8x60x33600_0_1_2 main_v127
  let main_v130 : FVec F S8x60x33600 .f32 := broadcastInDim S8x60x33600 ![0, 1, 2] bcast_S8x1x33600_S8x60x33600_0_1_2 main_v128
  let main_v131 : FVec F S8x60x33600 .f32 := addf main_v129 main_v130
  fn_part6 (F := F) main_arg0 main_arg5 main_arg6 main_v73 main_v74 main_v96 main_v131

def fn_part4 {F : FTy → Type} [FloatOps F] (main_arg0 : FVec F S8x33600x80 .f32) (main_arg1 : FVec F S8x33600x4 .f32) (main_arg5 : IVec S8x60 32) (main_arg6 : FVec F S8x60x4 .f32) (main_v73 : IVec S8x33600 1) (main_v74 : IVec S8x60x33600 1) (main_v81 : FVec F S8x60x33600x2 .f32) (main_v88 : FVec F S8x60x33600x2 .f32) : IVec S_ 1 :=
  let main_v89 : FVec F S8x60x33600x2 .f32 := subf main_v88 main_v81
  let main_cst_5 : FVec F S_ .f32 := constant S_ .f32 0x00000000#32
  let main_v90 : FVec F S8x60x33600x2 .f32 := broadcastInDim S8x60x33600x2 ![] bcast_S_S8x60x33600x2 main_cst_5
  let main_v91 : FVec F S8x60x33600x2 .f32 := maximumf main_v89 main_v90
  let main_v92 : FVec F S8x60x33600x1 .f32 := (extractStridedSlice S8x60x33600x1 ![0, 0, 0, 0] · slices_S8x60x33600x2_S8x60x33600x1_0_0_0_0) main_v91
  let main_v93 : FVec F S8x60x33600 .f32 := shapeCast S8x60x33600 main_v92 shapeCasts_S8x60x33600x1_S8x60x33600
  let main_v94 : FVec F S8x60x33600x1 .f32 := (extractStridedSlice S8x60x33600x1 ![0, 0, 0, 1] · slices_S8x60x33600x2_S8x60x33600x1_0_0_0_1) main_v91
  let main_v95 : FVec F S8x60x33600 .f32 := shapeCast S8x60x33600 main_v94 shapeCasts_S8x60x33600x1_S8x60x33600
  let main_v96 : FVec F S8x60x33600 .f32 := mulf main_v93 main_v95
  let main_v97 : FVec F S8x60x1 .f32 := (extractStridedSlice S8x60x1 ![0, 0, 2] · slices_S8x60x4_S8x60x1_0_0_2) main_arg6
  let main_v98 : FVec F S8x60 .f32 := shapeCast S8x60 main_v97 shapeCasts_S8x60x1_S8x60
  let main_v99 : FVec F S8x60x1 .f32 := (extractStridedSlice S8x60x1 ![0, 0, 0] · slices_S8x60x4_S8x60x1_0_0_0) main_arg6
  let main_v100 : FVec F S8x60 .f32 := shapeCast S8x60 main_v99 shapeCasts_S8x60x1_S8x60
  let main_v101 : FVec F S8x60 .f32 := subf main_v98 main_v100
  let main_cst_6 : FVec F S_ .f32 := constant S_ .f32 0x00000000#32
  let main_v102 : FVec F S8x60 .f32 := broadcastInDim S8x60 ![] bcast_S_S8x60 main_cst_6
  let main_v103 : FVec F S8x60 .f32 := maximumf main_v101 main_v102
  let main_v104 : FVec F S8x60x1 .f32 := (extractStridedSlice S8x60x1 ![0, 0, 3] · slices_S8x60x4_S8x60x1_0_0_3) main_arg6
  let main_v105 : FVec F S8x60 .f32 := shapeCast S8x60 main_v104 shapeCasts_S8x60x1_S8x60
  let main_v106 : FVec F S8x60x1 .f32 := (extractStridedSlice S8x60x1 ![0, 0, 1] · slices_S8x60x4_S8x60x1_0_0_1) main_arg6
  let main_v107 : FVec F S8x60 .f32 := shapeCast S8x60 main_v106 shapeCasts_S8x60x1_S8x60
  let main_v108 : FVec F S8x60 .f32 := subf main_v105 main_v107
  let main_cst_7 : FVec F S_ .f32 := constant S_ .f32 0x00000000#32
  let main_v109 : FVec F S8x60 .f32 := broadcastInDim S8x60 ![] bcast_S_S8x60 main_cst_7
  fn_part5 (F := F) main_arg0 main_arg1 main_arg5 main_arg6 main_v73 main_v74 main_v96 main_v103 main_v108 main_v109

def fn_part3 {F : FTy → Type} [FloatOps F] (main_arg0 : FVec F S8x33600x80 .f32) (main_arg1 : FVec F S8x33600x4 .f32) (main_arg5 : IVec S8x60 32) (main_arg6 : FVec F S8x60x4 .f32) (main_v5 : FVec F S1x33600 .f32) (main_v28 : IVec S8x60x33600 1) (main_v44 : FVec F S8x60x1 .f32) (main_v64 : IVec S8x60x33600 1) (main_v65 : FVec F S8x60x1 .f32) : IVec S_ 1 :=
  let main_v66 : FVec F S8x60x1 .f32 := addf main_v44 main_v65
  let main_v67 : FVec F S1x1x33600 .f32 := broadcastInDim S1x1x33600 ![1, 2] bcast_S1x33600_S1x1x33600_1_2 main_v5
  let main_v68 : FVec F S8x60x33600 .f32 := broadcastInDim S8x60x33600 ![0, 1, 2] bcast_S1x1x33600_S8x60x33600_0_1_2 main_v67
  let main_v69 : FVec F S8x60x33600 .f32 := broadcastInDim S8x60x33600 ![0, 1, 2] bcast_S8x60x1_S8x60x33600_0_1_2 main_v66
  let main_v70 : IVec S8x60x33600 1 := cmpf .olt main_v68 main_v69
  let main_v71 : IVec S8x60x33600 1 := andi main_v64 main_v70
  let main_v72 : IVec S8x60x33600 1 := ori main_v28 main_v71
  let main_c : IVec S_ 1 := constantI S_ 1 0#1
  let main_v73 : IVec S8x33600 1 := (fun x v => Host.reduce IntOp.ori x v reducesTo_S8x60x33600_S8x33600_d1 h_S_) main_v72 main_c
  let main_v74 : IVec S8x60x33600 1 := andi main_v28 main_v71
  let main_v75 : FVec F S8x60x2 .f32 := (extractStridedSlice S8x60x2 ![0, 0, 0] · slices_S8x60x4_S8x60x2_0_0_0) main_arg6
  let main_v76 : FVec F S8x60x1x2 .f32 := broadcastInDim S8x60x1x2 ![0, 1, 3] bcast_S8x60x2_S8x60x1x2_0_1_3 main_v75
  let main_v77 : FVec F S8x33600x2 .f32 := (extractStridedSlice S8x33600x2 ![0, 0, 0] · slices_S8x33600x4_S8x33600x2_0_0_0) main_arg1
  let main_v78 : FVec F S8x1x33600x2 .f32 := broadcastInDim S8x1x33600x2 ![0, 2, 3] bcast_S8x33600x2_S8x1x33600x2_0_2_3 main_v77
  let main_v79 : FVec F S8x60x33600x2 .f32 := broadcastInDim S8x60x33600x2 ![0, 1, 2, 3] bcast_S8x60x1x2_S8x60x33600x2_0_1_2_3 main_v76
  let main_v80 : FVec F S8x60x33600x2 .f32 := broadcastInDim S8x60x33600x2 ![0, 1, 2, 3] bcast_S8x1x33600x2_S8x60x33600x2_0_1_2_3 main_v78
  let main_v81 : FVec F S8x60x33600x2 .f32 := maximumf main_v79 main_v80
  let main_v82 : FVec F S8x60x2 .f32 := (extractStridedSlice S8x60x2 ![0, 0, 2] · slices_S8x60x4_S8x60x2_0_0_2) main_arg6
  let main_v83 : FVec F S8x60x1x2 .f32 := broadcastInDim S8x60x1x2 ![0, 1, 3] bcast_S8x60x2_S8x60x1x2_0_1_3 main_v82
  let main_v84 : FVec F S8x33600x2 .f32 := (extractStridedSlice S8x33600x2 ![0, 0, 2] · slices_S8x33600x4_S8x33600x2_0_0_2) main_arg1
  let main_v85 : FVec F S8x1x33600x2 .f32 := broadcastInDim S8x1x33600x2 ![0, 2, 3] bcast_S8x33600x2_S8x1x33600x2_0_2_3 main_v84
  let main_v86 : FVec F S8x60x33600x2 .f32 := broadcastInDim S8x60x33600x2 ![0, 1, 2, 3] bcast_S8x60x1x2_S8x60x33600x2_0_1_2_3 main_v83
  let main_v87 : FVec F S8x60x33600x2 .f32 := broadcastInDim S8x60x33600x2 ![0, 1, 2, 3] bcast_S8x1x33600x2_S8x60x33600x2_0_1_2_3 main_v85
  let main_v88 : FVec F S8x60x33600x2 .f32 := minimumf main_v86 main_v87
  fn_part4 (F := F) main_arg0 main_arg1 main_arg5 main_arg6 main_v73 main_v74 main_v81 main_v88

def fn_part2 {F : FTy → Type} [FloatOps F] (main_arg0 : FVec F S8x33600x80 .f32) (main_arg1 : FVec F S8x33600x4 .f32) (main_arg5 : IVec S8x60 32) (main_arg6 : FVec F S8x60x4 .f32) (main_v2 : FVec F S1x33600 .f32) (main_v5 : FVec F S1x33600 .f32) (main_v28 : IVec S8x60x33600 1) (main_v36 : FVec F S8x60x1 .f32) (main_v44 : FVec F S8x60x1 .f32) (main_cst_1 : FVec F S_ .f32) : IVec S_ 1 :=
  let main_v45 : FVec F S8x60x1 .f32 := broadcastInDim S8x60x1 ![] bcast_S_S8x60x1 main_cst_1
  let main_v46 : FVec F S8x60x1 .f32 := subf main_v36 main_v45
  let main_v47 : FVec F S1x1x33600 .f32 := broadcastInDim S1x1x33600 ![1, 2] bcast_S1x33600_S1x1x33600_1_2 main_v2
  let main_v48 : FVec F S8x60x33600 .f32 := broadcastInDim S8x60x33600 ![0, 1, 2] bcast_S1x1x33600_S8x60x33600_0_1_2 main_v47
  let main_v49 : FVec F S8x60x33600 .f32 := broadcastInDim S8x60x33600 ![0, 1, 2] bcast_S8x60x1_S8x60x33600_0_1_2 main_v46
  let main_v50 : IVec S8x60x33600 1 := cmpf .ogt main_v48 main_v49
  let main_cst_2 : FVec F S_ .f32 := constant S_ .f32 0x41A00000#32
  let main_v51 : FVec F S8x60x1 .f32 := broadcastInDim S8x60x1 ![] bcast_S_S8x60x1 main_cst_2
  let main_v52 : FVec F S8x60x1 .f32 := addf main_v36 main_v51
  let main_v53 : FVec F S1x1x33600 .f32 := broadcastInDim S1x1x33600 ![1, 2] bcast_S1x33600_S1x1x33600_1_2 main_v2
  let main_v54 : FVec F S8x60x33600 .f32 := broadcastInDim S8x60x33600 ![0, 1, 2] bcast_S1x1x33600_S8x60x33600_0_1_2 main_v53
  let main_v55 : FVec F S8x60x33600 .f32 := broadcastInDim S8x60x33600 ![0, 1, 2] bcast_S8x60x1_S8x60x33600_0_1_2 main_v52
  let main_v56 : IVec S8x60x33600 1 := cmpf .olt main_v54 main_v55
  let main_v57 : IVec S8x60x33600 1 := andi main_v50 main_v56
  let main_cst_3 : FVec F S_ .f32 := constant S_ .f32 0x41A00000#32
  let main_v58 : FVec F S8x60x1 .f32 := broadcastInDim S8x60x1 ![] bcast_S_S8x60x1 main_cst_3
  let main_v59 : FVec F S8x60x1 .f32 := subf main_v44 main_v58
  let main_v60 : FVec F S1x1x33600 .f32 := broadcastInDim S1x1x33600 ![1, 2] bcast_S1x33600_S1x1x33600_1_2 main_v5
  let main_v61 : FVec F S8x60x33600 .f32 := broadcastInDim S8x60x33600 ![0, 1, 2] bcast_S1x1x33600_S8x60x33600_0_1_2 main_v60
  let main_v62 : FVec F S8x60x33600 .f32 := broadcastInDim S8x60x33600 ![0, 1, 2] bcast_S8x60x1_S8x60x33600_0_1_2 main_v59
  let main_v63 : IVec S8x60x33600 1 := cmpf .ogt main_v61 main_v62
  let main_v64 : IVec S8x60x33600 1 := andi main_v57 main_v63
  let main_cst_4 : FVec F S_ .f32 := constant S_ .f32 0x41A00000#32
  let main_v65 : FVec F S8x60x1 .f32 := broadcastInDim S8x60x1 ![] bcast_S_S8x60x1 main_cst_4
  fn_part3 (F := F) main_arg0 main_arg1 main_arg5 main_arg6 main_v5 main_v28 main_v44 main_v64 main_v65

def fn_part1 {F : FTy → Type} [FloatOps F] (main_arg0 : FVec F S8x33600x80 .f32) (main_arg1 : FVec F S8x33600x4 .f32) (main_arg5 : IVec S8x60 32) (main_arg6 : FVec F S8x60x4 .f32) (main_v2 : FVec F S1x33600 .f32) (main_v5 : FVec F S1x33600 .f32) (main_v22 : IVec S8x60x33600 1) (main_v23 : FVec F S8x60x1 .f32) : IVec S_ 1 :=
  let main_v24 : FVec F S1x1x33600 .f32 := broadcastInDim S1x1x33600 ![1, 2] bcast_S1x33600_S1x1x33600_1_2 main_v5
  let main_v25 : FVec F S8x60x33600 .f32 := broadcastInDim S8x60x33600 ![0, 1, 2] bcast_S1x1x33600_S8x60x33600_0_1_2 main_v24
  let main_v26 : FVec F S8x60x33600 .f32 := broadcastInDim S8x60x33600 ![0, 1, 2] bcast_S8x60x1_S8x60x33600_0_1_2 main_v23
  let main_v27 : IVec S8x60x33600 1 := cmpf .olt main_v25 main_v26
  let main_v28 : IVec S8x60x33600 1 := andi main_v22 main_v27
  let main_v29 : FVec F S8x60x1 .f32 := (extractStridedSlice S8x60x1 ![0, 0, 0] · slices_S8x60x4_S8x60x1_0_0_0) main_arg6
  let main_v30 : FVec F S8x60 .f32 := shapeCast S8x60 main_v29 shapeCasts_S8x60x1_S8x60
  let main_v31 : FVec F S8x60x1 .f32 := (extractStridedSlice S8x60x1 ![0, 0, 2] · slices_S8x60x4_S8x60x1_0_0_2) main_arg6
  let main_v32 : FVec F S8x60 .f32 := shapeCast S8x60 main_v31 shapeCasts_S8x60x1_S8x60
  let main_v33 : FVec F S8x60 .f32 := addf main_v30 main_v32
  let main_cst : FVec F S_ .f32 := constant S_ .f32 0x3F000000#32
  let main_v34 : FVec F S8x60 .f32 := broadcastInDim S8x60 ![] bcast_S_S8x60 main_cst
  let main_v35 : FVec F S8x60 .f32 := mulf main_v33 main_v34
  let main_v36 : FVec F S8x60x1 .f32 := broadcastInDim S8x60x1 ![0, 1] bcast_S8x60_S8x60x1_0_1 main_v35
  let main_v37 : FVec F S8x60x1 .f32 := (extractStridedSlice S8x60x1 ![0, 0, 1] · slices_S8x60x4_S8x60x1_0_0_1) main_arg6
  let main_v38 : FVec F S8x60 .f32 := shapeCast S8x60 main_v37 shapeCasts_S8x60x1_S8x60
  let main_v39 : FVec F S8x60x1 .f32 := (extractStridedSlice S8x60x1 ![0, 0, 3] · slices_S8x60x4_S8x60x1_0_0_3) main_arg6
  let main_v40 : FVec F S8x60 .f32 := shapeCast S8x60 main_v39 shapeCasts_S8x60x1_S8x60
  let main_v41 : FVec F S8x60 .f32 := addf main_v38 main_v40
  let main_cst_0 : FVec F S_ .f32 := constant S_ .f32 0x3F000000#32
  let main_v42 : FVec F S8x60 .f32 := broadcastInDim S8x60 ![] bcast_S_S8x60 main_cst_0
  let main_v43 : FVec F S8x60 .f32 := mulf main_v41 main_v42
  let main_v44 : FVec F S8x60x1 .f32 := broadcastInDim S8x60x1 ![0, 1] bcast_S8x60_S8x60x1_0_1 main_v43
  let main_cst_1 : FVec F S_ .f32 := constant S_ .f32 0x41A00000#32
  fn_part2 (F := F) main_arg0 main_arg1 main_arg5 main_arg6 main_v2 main_v5 main_v28 main_v36 main_v44 main_cst_1

def fn {F : FTy → Type} [FloatOps F] (main_arg0 : FVec F S8x33600x80 .f32) (main_arg1 : FVec F S8x33600x4 .f32) (main_arg2 : FVec F S8x33600x1 .f32) (main_arg3 : FVec F S33600x2 .f32) (main_arg4 : IVec S8x33600 1) (main_arg5 : IVec S8x60 32) (main_arg6 : FVec F S8x60x4 .f32) : IVec S_ 1 :=
  let main_v0 : FVec F S33600x1 .f32 := (extractStridedSlice S33600x1 ![0, 0] · slices_S33600x2_S33600x1_0_0) main_arg3
  let main_v1 : FVec F S33600 .f32 := shapeCast S33600 main_v0 shapeCasts_S33600x1_S33600
  let main_v2 : FVec F S1x33600 .f32 := broadcastInDim S1x33600 ![1] bcast_S33600_S1x33600_1 main_v1
  let main_v3 : FVec F S33600x1 .f32 := (extractStridedSlice S33600x1 ![0, 1] · slices_S33600x2_S33600x1_0_1) main_arg3
  let main_v4 : FVec F S33600 .f32 := shapeCast S33600 main_v3 shapeCasts_S33600x1_S33600
  let main_v5 : FVec F S1x33600 .f32 := broadcastInDim S1x33600 ![1] bcast_S33600_S1x33600_1 main_v4
  let main_v6 : FVec F S8x60x1 .f32 := (extractStridedSlice S8x60x1 ![0, 0, 0] · slices_S8x60x4_S8x60x1_0_0_0) main_arg6
  let main_v7 : FVec F S1x1x33600 .f32 := broadcastInDim S1x1x33600 ![1, 2] bcast_S1x33600_S1x1x33600_1_2 main_v2
  let main_v8 : FVec F S8x60x33600 .f32 := broadcastInDim S8x60x33600 ![0, 1, 2] bcast_S1x1x33600_S8x60x33600_0_1_2 main_v7
  let main_v9 : FVec F S8x60x33600 .f32 := broadcastInDim S8x60x33600 ![0, 1, 2] bcast_S8x60x1_S8x60x33600_0_1_2 main_v6
  let main_v10 : IVec S8x60x33600 1 := cmpf .ogt main_v8 main_v9
  let main_v11 : FVec F S8x60x1 .f32 := (extractStridedSlice S8x60x1 ![0, 0, 2] · slices_S8x60x4_S8x60x1_0_0_2) main_arg6
  let main_v12 : FVec F S1x1x33600 .f32 := broadcastInDim S1x1x33600 ![1, 2] bcast_S1x33600_S1x1x33600_1_2 main_v2
  let main_v13 : FVec F S8x60x33600 .f32 := broadcastInDim S8x60x33600 ![0, 1, 2] bcast_S1x1x33600_S8x60x33600_0_1_2 main_v12
  let main_v14 : FVec F S8x60x33600 .f32 := broadcastInDim S8x60x33600 ![0, 1, 2] bcast_S8x60x1_S8x60x33600_0_1_2 main_v11
  let main_v15 : IVec S8x60x33600 1 := cmpf .olt main_v13 main_v14
  let main_v16 : IVec S8x60x33600 1 := andi main_v10 main_v15
  let main_v17 : FVec F S8x60x1 .f32 := (extractStridedSlice S8x60x1 ![0, 0, 1] · slices_S8x60x4_S8x60x1_0_0_1) main_arg6
  let main_v18 : FVec F S1x1x33600 .f32 := broadcastInDim S1x1x33600 ![1, 2] bcast_S1x33600_S1x1x33600_1_2 main_v5
  let main_v19 : FVec F S8x60x33600 .f32 := broadcastInDim S8x60x33600 ![0, 1, 2] bcast_S1x1x33600_S8x60x33600_0_1_2 main_v18
  let main_v20 : FVec F S8x60x33600 .f32 := broadcastInDim S8x60x33600 ![0, 1, 2] bcast_S8x60x1_S8x60x33600_0_1_2 main_v17
  let main_v21 : IVec S8x60x33600 1 := cmpf .ogt main_v19 main_v20
  let main_v22 : IVec S8x60x33600 1 := andi main_v16 main_v21
  let main_v23 : FVec F S8x60x1 .f32 := (extractStridedSlice S8x60x1 ![0, 0, 3] · slices_S8x60x4_S8x60x1_0_0_3) main_arg6
  fn_part1 (F := F) main_arg0 main_arg1 main_arg5 main_arg6 main_v2 main_v5 main_v22 main_v23
-- ==== Kernel.lean ====
abbrev S8x33600x80 : Shape := ⟨3, ![8, 33600, 80]⟩
abbrev S8x33600x4 : Shape := ⟨3, ![8, 33600, 4]⟩
abbrev S8x33600x1 : Shape := ⟨3, ![8, 33600, 1]⟩
abbrev S33600x2 : Shape := ⟨2, ![33600, 2]⟩
abbrev S8x33600 : Shape := ⟨2, ![8, 33600]⟩
abbrev S8x60 : Shape := ⟨2, ![8, 60]⟩
abbrev S8x60x4 : Shape := ⟨3, ![8, 60, 4]⟩
abbrev S8x1x60 : Shape := ⟨3, ![8, 1, 60]⟩
abbrev S8x4x60 : Shape := ⟨3, ![8, 4, 60]⟩
abbrev S8x33600x60 : Shape := ⟨3, ![8, 33600, 60]⟩
abbrev S8x8x10x60 : Shape := ⟨4, ![8, 8, 10, 60]⟩
abbrev S1x4200x80 : Shape := ⟨3, ![1, 4200, 80]⟩
abbrev S1x4200x4 : Shape := ⟨3, ![1, 4200, 4]⟩
abbrev S4200x2 : Shape := ⟨2, ![4200, 2]⟩
abbrev S1x1x60 : Shape := ⟨3, ![1, 1, 60]⟩
abbrev S1x4x60 : Shape := ⟨3, ![1, 4, 60]⟩
abbrev S1x4200x1 : Shape := ⟨3, ![1, 4200, 1]⟩
abbrev S1x4200x60 : Shape := ⟨3, ![1, 4200, 60]⟩
abbrev S1x1x10x60 : Shape := ⟨4, ![1, 1, 10, 60]⟩
abbrev S4200x80 : Shape := ⟨2, ![4200, 80]⟩
abbrev S4200x4 : Shape := ⟨2, ![4200, 4]⟩
abbrev S1x60 : Shape := ⟨2, ![1, 60]⟩
abbrev S4x60 : Shape := ⟨2, ![4, 60]⟩
abbrev S4200 : Shape := ⟨1, ![4200]⟩
abbrev S4200x1 : Shape := ⟨2, ![4200, 1]⟩
abbrev S80x60 : Shape := ⟨2, ![80, 60]⟩
abbrev S4200x60 : Shape := ⟨2, ![4200, 60]⟩
abbrev S60 : Shape := ⟨1, ![60]⟩
abbrev S10x60 : Shape := ⟨2, ![10, 60]⟩
abbrev S1x8x10x60 : Shape := ⟨4, ![1, 8, 10, 60]⟩
abbrev S8x10x60 : Shape := ⟨3, ![8, 10, 60]⟩
abbrev S1x10x60 : Shape := ⟨3, ![1, 10, 60]⟩
abbrev S8x1x4 : Shape := ⟨3, ![8, 1, 4]⟩
abbrev S1x1x4 : Shape := ⟨3, ![1, 1, 4]⟩
abbrev S1 : Shape := ⟨1, ![1]⟩
abbrev S1x1x1 : Shape := ⟨3, ![1, 1, 1]⟩
abbrev S1x1 : Shape := ⟨2, ![1, 1]⟩
abbrev S1x4 : Shape := ⟨2, ![1, 4]⟩
abbrev S8x4 : Shape := ⟨2, ![8, 4]⟩
abbrev S_ : Shape := ⟨0, ![]⟩
abbrev S4 : Shape := ⟨1, ![4]⟩
abbrev S3 : Shape := ⟨1, ![3]⟩

abbrev nBuf : Space → Nat
  | .hbm => 37
  | .vmem => 42
  | .smem => 0
  | _ => 0

abbrev bufTy : (tb : Table) → Fin (tcTables nBuf tb) → BufTy
  | .hbm, ⟨0, _⟩ => ⟨S8x33600x80, .f32⟩
  | .hbm, ⟨1, _⟩ => ⟨S8x33600x4, .f32⟩
  | .hbm, ⟨2, _⟩ => ⟨S8x33600x1, .f32⟩
  | .hbm, ⟨3, _⟩ => ⟨S33600x2, .f32⟩
  | .hbm, ⟨4, _⟩ => ⟨S8x33600, .i1⟩
  | .hbm, ⟨5, _⟩ => ⟨S8x60, .i32⟩
  | .hbm, ⟨6, _⟩ => ⟨S8x60x4, .f32⟩
  | .hbm, ⟨7, _⟩ => ⟨S8x1x60, .i32⟩
  | .hbm, ⟨8, _⟩ => ⟨S8x4x60, .f32⟩
  | .hbm, ⟨9, _⟩ => ⟨S8x33600, .i1⟩
  | .hbm, ⟨10, _⟩ => ⟨S8x33600, .f32⟩
  | .hbm, ⟨11, _⟩ => ⟨S8x33600x1, .f32⟩
  | .hbm, ⟨12, _⟩ => ⟨S8x33600x1, .f32⟩
  | .hbm, ⟨13, _⟩ => ⟨S8x33600x60, .bf16⟩
  | .hbm, ⟨14, _⟩ => ⟨S8x8x10x60, .f32⟩
  | .hbm, ⟨15, _⟩ => ⟨S8x8x10x60, .f32⟩
  | .hbm, ⟨16, _⟩ => ⟨S8x1x60, .f32⟩
  | .hbm, ⟨17, _⟩ => ⟨S8x1x4, .f32⟩
  | .hbm, ⟨18, _⟩ => ⟨S8x4, .f32⟩
  | .hbm, ⟨19, _⟩ => ⟨S_, .f32⟩
  | .hbm, ⟨20, _⟩ => ⟨S4, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1, .f32⟩
  | .hbm, ⟨34, _⟩ => ⟨S3, .f32⟩
  | .hbm, ⟨35, _⟩ => ⟨S3, .f32⟩
  | .hbm, ⟨36, _⟩ => ⟨S3, .f32⟩
  | .local _ .vmem, ⟨0, _⟩ => ⟨S1x4200x80, .f32⟩
  | .local _ .vmem, ⟨1, _⟩ => ⟨S1x4200x80, .f32⟩
  | .local _ .vmem, ⟨2, _⟩ => ⟨S1x4200x4, .f32⟩
  | .local _ .vmem, ⟨3, _⟩ => ⟨S1x4200x4, .f32⟩
  | .local _ .vmem, ⟨4, _⟩ => ⟨S4200x2, .f32⟩
  | .local _ .vmem, ⟨5, _⟩ => ⟨S4200x2, .f32⟩
  | .local _ .vmem, ⟨6, _⟩ => ⟨S1x1x60, .i32⟩
  | .local _ .vmem, ⟨7, _⟩ => ⟨S1x1x60, .i32⟩
  | .local _ .vmem, ⟨8, _⟩ => ⟨S1x4x60, .f32⟩
  | .local _ .vmem, ⟨9, _⟩ => ⟨S1x4x60, .f32⟩
  | .local _ .vmem, ⟨10, _⟩ => ⟨S1x4200x1, .f32⟩
  | .local _ .vmem, ⟨11, _⟩ => ⟨S1x4200x1, .f32⟩
  | .local _ .vmem, ⟨12, _⟩ => ⟨S1x4200x60, .bf16⟩
  | .local _ .vmem, ⟨13, _⟩ => ⟨S1x4200x60, .bf16⟩
  | .local _ .vmem, ⟨14, _⟩ => ⟨S1x1x10x60, .f32⟩
  | .local _ .vmem, ⟨15, _⟩ => ⟨S1x1x10x60, .f32⟩
  | .local _ .vmem, ⟨16, _⟩ => ⟨S1x1x10x60, .f32⟩
  | .local _ .vmem, ⟨17, _⟩ => ⟨S1x1x10x60, .f32⟩
  | .local _ .vmem, ⟨18, _⟩ => ⟨S1x8x10x60, .f32⟩
  | .local _ .vmem, ⟨19, _⟩ => ⟨S1x8x10x60, .f32⟩
  | .local _ .vmem, ⟨20, _⟩ => ⟨S1x8x10x60, .f32⟩
  | .local _ .vmem, ⟨21, _⟩ => ⟨S1x8x10x60, .f32⟩
  | .local _ .vmem, ⟨22, _⟩ => ⟨S1x1x60, .f32⟩
  | .local _ .vmem, ⟨23, _⟩ => ⟨S1x1x60, .f32⟩
  | .local _ .vmem, ⟨24, _⟩ => ⟨S1x4200x4, .f32⟩
  | .local _ .vmem, ⟨25, _⟩ => ⟨S1x4200x4, .f32⟩
  | .local _ .vmem, ⟨26, _⟩ => ⟨S4200x2, .f32⟩
  | .local _ .vmem, ⟨27, _⟩ => ⟨S4200x2, .f32⟩
  | .local _ .vmem, ⟨28, _⟩ => ⟨S1x4x60, .f32⟩
  | .local _ .vmem, ⟨29, _⟩ => ⟨S1x4x60, .f32⟩
  | .local _ .vmem, ⟨30, _⟩ => ⟨S1x4200x1, .f32⟩
  | .local _ .vmem, ⟨31, _⟩ => ⟨S1x4200x1, .f32⟩
  | .local _ .vmem, ⟨32, _⟩ => ⟨S1x4200x60, .bf16⟩
  | .local _ .vmem, ⟨33, _⟩ => ⟨S1x4200x60, .bf16⟩
  | .local _ .vmem, ⟨34, _⟩ => ⟨S1x1x60, .f32⟩
  | .local _ .vmem, ⟨35, _⟩ => ⟨S1x1x60, .f32⟩
  | .local _ .vmem, ⟨36, _⟩ => ⟨S1x4200x1, .f32⟩
  | .local _ .vmem, ⟨37, _⟩ => ⟨S1x4200x1, .f32⟩
  | .local _ .vmem, ⟨38, _⟩ => ⟨S1x4200x1, .f32⟩
  | .local _ .vmem, ⟨39, _⟩ => ⟨S1x4200x1, .f32⟩
  | .local _ .vmem, ⟨40, _⟩ => ⟨S1x1x4, .f32⟩
  | .local _ .vmem, ⟨41, _⟩ => ⟨S1x1x4, .f32⟩
  | _, _ => ⟨S8x33600x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4200x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4200x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x60 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x60 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4200x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4200x60 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x10x60 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x10x60 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x10x60 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x10x60 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x60 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4200x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4200x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x4x60 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x4200x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x4200x60 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x60 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x4200x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x4200x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x4 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]
-- ==== KernelIdeal.lean ====
variable {F : FTy → Type} [FloatOps F] [Named F]
def κ : String → Option EReal := fun
  | "mask" => some ⊤
  | _ => none
-- ==== ReferenceIdeal.lean ====
abbrev S8x33600x80 : Shape := ⟨3, ![8, 33600, 80]⟩
abbrev S8x33600x4 : Shape := ⟨3, ![8, 33600, 4]⟩
abbrev S8x33600x1 : Shape := ⟨3, ![8, 33600, 1]⟩
abbrev S33600x2 : Shape := ⟨2, ![33600, 2]⟩
abbrev S8x33600 : Shape := ⟨2, ![8, 33600]⟩
abbrev S8x60 : Shape := ⟨2, ![8, 60]⟩
abbrev S8x60x4 : Shape := ⟨3, ![8, 60, 4]⟩
abbrev S33600x1 : Shape := ⟨2, ![33600, 1]⟩
abbrev S33600 : Shape := ⟨1, ![33600]⟩
abbrev S1x33600 : Shape := ⟨2, ![1, 33600]⟩
abbrev S8x60x1 : Shape := ⟨3, ![8, 60, 1]⟩
abbrev S1x1x33600 : Shape := ⟨3, ![1, 1, 33600]⟩
abbrev S8x60x33600 : Shape := ⟨3, ![8, 60, 33600]⟩
abbrev S_ : Shape := ⟨0, ![]⟩
abbrev S8x60x2 : Shape := ⟨3, ![8, 60, 2]⟩
abbrev S8x60x1x2 : Shape := ⟨4, ![8, 60, 1, 2]⟩
abbrev S8x33600x2 : Shape := ⟨3, ![8, 33600, 2]⟩
abbrev S8x1x33600x2 : Shape := ⟨4, ![8, 1, 33600, 2]⟩
abbrev S8x60x33600x2 : Shape := ⟨4, ![8, 60, 33600, 2]⟩
abbrev S8x60x33600x1 : Shape := ⟨4, ![8, 60, 33600, 1]⟩
abbrev S8x1x33600 : Shape := ⟨3, ![8, 1, 33600]⟩
abbrev S33600x80 : Shape := ⟨2, ![33600, 80]⟩
abbrev S1x33600x80 : Shape := ⟨3, ![1, 33600, 80]⟩
abbrev S8x33600x60 : Shape := ⟨3, ![8, 33600, 60]⟩
abbrev S60x33600 : Shape := ⟨2, ![60, 33600]⟩
abbrev S8x60x10 : Shape := ⟨3, ![8, 60, 10]⟩
abbrev S1x60 : Shape := ⟨2, ![1, 60]⟩
abbrev S1x1x60 : Shape := ⟨3, ![1, 1, 60]⟩
abbrev S33600x4 : Shape := ⟨2, ![33600, 4]⟩
abbrev S1x1x80 : Shape := ⟨3, ![1, 1, 80]⟩
abbrev S1 : Shape := ⟨1, ![1]⟩
abbrev S3 : Shape := ⟨1, ![3]⟩

abbrev nBuf : Space → Nat
  | .hbm => 615
  | .vmem => 0
  | .smem => 0
  | _ => 0

abbrev hbmTy0_0 (i : Nat) : BufTy := match i % 128 with
  | 0 => ⟨S8x33600x80, .f32⟩
  | 1 => ⟨S8x33600x4, .f32⟩
  | 2 => ⟨S8x33600x1, .f32⟩
  | 3 => ⟨S33600x2, .f32⟩
  | 4 => ⟨S8x33600, .i1⟩
  | 5 => ⟨S8x60, .i32⟩
  | 6 => ⟨S8x60x4, .f32⟩
  | 7 => ⟨S33600x1, .f32⟩
  | 8 => ⟨S33600, .f32⟩
  | 9 => ⟨S1x33600, .f32⟩
  | 10 => ⟨S33600x1, .f32⟩
  | 11 => ⟨S33600, .f32⟩
  | 12 => ⟨S1x33600, .f32⟩
  | 13 => ⟨S8x60x1, .f32⟩
  | 14 => ⟨S1x1x33600, .f32⟩
  | 15 => ⟨S8x60x33600, .f32⟩
  | 16 => ⟨S8x60x33600, .f32⟩
  | 17 => ⟨S8x60x33600, .i1⟩
  | 18 => ⟨S8x60x1, .f32⟩
  | 19 => ⟨S1x1x33600, .f32⟩
  | 20 => ⟨S8x60x33600, .f32⟩
  | 21 => ⟨S8x60x33600, .f32⟩
  | 22 => ⟨S8x60x33600, .i1⟩
  | 23 => ⟨S8x60x33600, .i1⟩
  | 24 => ⟨S8x60x1, .f32⟩
  | 25 => ⟨S1x1x33600, .f32⟩
  | 26 => ⟨S8x60x33600, .f32⟩
  | 27 => ⟨S8x60x33600, .f32⟩
  | 28 => ⟨S8x60x33600, .i1⟩
  | 29 => ⟨S8x60x33600, .i1⟩
  | 30 => ⟨S8x60x1, .f32⟩
  | 31 => ⟨S1x1x33600, .f32⟩
  | 32 => ⟨S8x60x33600, .f32⟩
  | 33 => ⟨S8x60x33600, .f32⟩
  | 34 => ⟨S8x60x33600, .i1⟩
  | 35 => ⟨S8x60x33600, .i1⟩
  | 36 => ⟨S8x60x1, .f32⟩
  | 37 => ⟨S8x60, .f32⟩
  | 38 => ⟨S8x60x1, .f32⟩
  | 39 => ⟨S8x60, .f32⟩
  | 40 => ⟨S8x60, .f32⟩
  | 41 => ⟨S_, .f32⟩
  | 42 => ⟨S8x60, .f32⟩
  | 43 => ⟨S8x60, .f32⟩
  | 44 => ⟨S8x60x1, .f32⟩
  | 45 => ⟨S8x60x1, .f32⟩
  | 46 => ⟨S8x60, .f32⟩
  | 47 => ⟨S8x60x1, .f32⟩
  | 48 => ⟨S8x60, .f32⟩
  | 49 => ⟨S8x60, .f32⟩
  | 50 => ⟨S_, .f32⟩
  | 51 => ⟨S8x60, .f32⟩
  | 52 => ⟨S8x60, .f32⟩
  | 53 => ⟨S8x60x1, .f32⟩
  | 54 => ⟨S_, .f32⟩
  | 55 => ⟨S8x60x1, .f32⟩
  | 56 => ⟨S8x60x1, .f32⟩
  | 57 => ⟨S1x1x33600, .f32⟩
  | 58 => ⟨S8x60x33600, .f32⟩
  | 59 => ⟨S8x60x33600, .f32⟩
  | 60 => ⟨S8x60x33600, .i1⟩
  | 61 => ⟨S_, .f32⟩
  | 62 => ⟨S8x60x1, .f32⟩
  | 63 => ⟨S8x60x1, .f32⟩
  | 64 => ⟨S1x1x33600, .f32⟩
  | 65 => ⟨S8x60x33600, .f32⟩
  | 66 => ⟨S8x60x33600, .f32⟩
  | 67 => ⟨S8x60x33600, .i1⟩
  | 68 => ⟨S8x60x33600, .i1⟩
  | 69 => ⟨S_, .f32⟩
  | 70 => ⟨S8x60x1, .f32⟩
  | 71 => ⟨S8x60x1, .f32⟩
  | 72 => ⟨S1x1x33600, .f32⟩
  | 73 => ⟨S8x60x33600, .f32⟩
  | 74 => ⟨S8x60x33600, .f32⟩
  | 75 => ⟨S8x60x33600, .i1⟩
  | 76 => ⟨S8x60x33600, .i1⟩
  | 77 => ⟨S_, .f32⟩
  | 78 => ⟨S8x60x1, .f32⟩
  | 79 => ⟨S8x60x1, .f32⟩
  | 80 => ⟨S1x1x33600, .f32⟩
  | 81 => ⟨S8x60x33600, .f32⟩
  | 82 => ⟨S8x60x33600, .f32⟩
  | 83 => ⟨S8x60x33600, .i1⟩
  | 84 => ⟨S8x60x33600, .i1⟩
  | 85 => ⟨S8x60x33600, .i1⟩
  | 86 => ⟨S_, .i1⟩
  | 87 => ⟨S8x33600, .i1⟩
  | 88 => ⟨S8x60x33600, .i1⟩
  | 89 => ⟨S8x60x2, .f32⟩
  | 90 => ⟨S8x60x1x2, .f32⟩
  | 91 => ⟨S8x33600x2, .f32⟩
  | 92 => ⟨S8x1x33600x2, .f32⟩
  | 93 => ⟨S8x60x33600x2, .f32⟩
  | 94 => ⟨S8x60x33600x2, .f32⟩
  | 95 => ⟨S8x60x33600x2, .f32⟩
  | 96 => ⟨S8x60x2, .f32⟩
  | 97 => ⟨S8x60x1x2, .f32⟩
  | 98 => ⟨S8x33600x2, .f32⟩
  | 99 => ⟨S8x1x33600x2, .f32⟩
  | 100 => ⟨S8x60x33600x2, .f32⟩
  | 101 => ⟨S8x60x33600x2, .f32⟩
  | 102 => ⟨S8x60x33600x2, .f32⟩
  | 103 => ⟨S8x60x33600x2, .f32⟩
  | 104 => ⟨S_, .f32⟩
  | 105 => ⟨S8x60x33600x2, .f32⟩
  | 106 => ⟨S8x60x33600x2, .f32⟩
  | 107 => ⟨S8x60x33600x1, .f32⟩
  | 108 => ⟨S8x60x33600, .f32⟩
  | 109 => ⟨S8x60x33600x1, .f32⟩
  | 110 => ⟨S8x60x33600, .f32⟩
  | 111 => ⟨S8x60x33600, .f32⟩
  | 112 => ⟨S8x60x1, .f32⟩
  | 113 => ⟨S8x60, .f32⟩
  | 114 => ⟨S8x60x1, .f32⟩
  | 115 => ⟨S8x60, .f32⟩
  | 116 => ⟨S8x60, .f32⟩
  | 117 => ⟨S_, .f32⟩
  | 118 => ⟨S8x60, .f32⟩
  | 119 => ⟨S8x60, .f32⟩
  | 120 => ⟨S8x60x1, .f32⟩
  | 121 => ⟨S8x60, .f32⟩
  | 122 => ⟨S8x60x1, .f32⟩
  | 123 => ⟨S8x60, .f32⟩
  | 124 => ⟨S8x60, .f32⟩
  | 125 => ⟨S_, .f32⟩
  | 126 => ⟨S8x60, .f32⟩
  | 127 => ⟨S8x60, .f32⟩
  | _ => ⟨S8x33600x80, .f32⟩

abbrev hbmTy0_1 (i : Nat) : BufTy := match i % 128 with
  | 0 => ⟨S8x60, .f32⟩
  | 1 => ⟨S8x33600x1, .f32⟩
  | 2 => ⟨S8x33600, .f32⟩
  | 3 => ⟨S8x33600x1, .f32⟩
  | 4 => ⟨S8x33600, .f32⟩
  | 5 => ⟨S8x33600, .f32⟩
  | 6 => ⟨S_, .f32⟩
  | 7 => ⟨S8x33600, .f32⟩
  | 8 => ⟨S8x33600, .f32⟩
  | 9 => ⟨S8x33600x1, .f32⟩
  | 10 => ⟨S8x33600, .f32⟩
  | 11 => ⟨S8x33600x1, .f32⟩
  | 12 => ⟨S8x33600, .f32⟩
  | 13 => ⟨S8x33600, .f32⟩
  | 14 => ⟨S_, .f32⟩
  | 15 => ⟨S8x33600, .f32⟩
  | 16 => ⟨S8x33600, .f32⟩
  | 17 => ⟨S8x33600, .f32⟩
  | 18 => ⟨S8x60x1, .f32⟩
  | 19 => ⟨S8x1x33600, .f32⟩
  | 20 => ⟨S8x60x33600, .f32⟩
  | 21 => ⟨S8x60x33600, .f32⟩
  | 22 => ⟨S8x60x33600, .f32⟩
  | 23 => ⟨S8x60x33600, .f32⟩
  | 24 => ⟨S_, .f32⟩
  | 25 => ⟨S8x60x33600, .f32⟩
  | 26 => ⟨S8x60x33600, .f32⟩
  | 27 => ⟨S8x60x33600, .f32⟩
  | 28 => ⟨S_, .f32⟩
  | 29 => ⟨S8x60x33600, .f32⟩
  | 30 => ⟨S8x60x33600, .f32⟩
  | 31 => ⟨S8x60x33600, .f32⟩
  | 32 => ⟨S8x60x33600, .f32⟩
  | 33 => ⟨S_, .f32⟩
  | 34 => ⟨S33600x80, .f32⟩
  | 35 => ⟨S8x33600x80, .f32⟩
  | 36 => ⟨S8x33600x80, .f32⟩
  | 37 => ⟨S_, .f32⟩
  | 38 => ⟨S8x33600x80, .f32⟩
  | 39 => ⟨S8x33600x80, .f32⟩
  | 40 => ⟨S_, .f32⟩
  | 41 => ⟨S8x33600x80, .f32⟩
  | 42 => ⟨S8x33600x80, .f32⟩
  | 43 => ⟨S_, .f32⟩
  | 44 => ⟨S8x33600x80, .f32⟩
  | 45 => ⟨S8x33600x80, .f32⟩
  | 46 => ⟨S1x33600x80, .f32⟩
  | 47 => ⟨S8x33600x80, .f32⟩
  | 48 => ⟨S8x33600x80, .f32⟩
  | 49 => ⟨S8x33600x80, .f32⟩
  | 50 => ⟨S8x33600x80, .f32⟩
  | 51 => ⟨S8x33600x80, .f32⟩
  | 52 => ⟨S8x33600x80, .f32⟩
  | 53 => ⟨S8x33600x80, .f32⟩
  | 54 => ⟨S8x33600x80, .f32⟩
  | 55 => ⟨S1x33600x80, .f32⟩
  | 56 => ⟨S8x33600x80, .f32⟩
  | 57 => ⟨S8x33600x80, .f32⟩
  | 58 => ⟨S_, .f32⟩
  | 59 => ⟨S8x33600x80, .f32⟩
  | 60 => ⟨S8x33600x80, .f32⟩
  | 61 => ⟨S_, .f32⟩
  | 62 => ⟨S33600x80, .f32⟩
  | 63 => ⟨S33600x80, .f32⟩
  | 64 => ⟨S1x33600x80, .f32⟩
  | 65 => ⟨S8x33600x80, .f32⟩
  | 66 => ⟨S8x33600x80, .f32⟩
  | 67 => ⟨S8x33600x80, .f32⟩
  | 68 => ⟨S_, .f32⟩
  | 69 => ⟨S8x33600x80, .f32⟩
  | 70 => ⟨S8x33600x80, .f32⟩
  | 71 => ⟨S_, .f32⟩
  | 72 => ⟨S8x33600x80, .f32⟩
  | 73 => ⟨S8x33600x80, .f32⟩
  | 74 => ⟨S8x33600x80, .f32⟩
  | 75 => ⟨S_, .f32⟩
  | 76 => ⟨S33600x80, .f32⟩
  | 77 => ⟨S33600x80, .f32⟩
  | 78 => ⟨S_, .f32⟩
  | 79 => ⟨S33600x80, .f32⟩
  | 80 => ⟨S33600x80, .f32⟩
  | 81 => ⟨S_, .f32⟩
  | 82 => ⟨S33600x80, .f32⟩
  | 83 => ⟨S33600x80, .f32⟩
  | 84 => ⟨S33600x80, .f32⟩
  | 85 => ⟨S1x33600x80, .f32⟩
  | 86 => ⟨S8x33600x80, .f32⟩
  | 87 => ⟨S8x33600x80, .f32⟩
  | 88 => ⟨S_, .f32⟩
  | 89 => ⟨S33600x80, .f32⟩
  | 90 => ⟨S8x33600x80, .f32⟩
  | 91 => ⟨S8x33600x80, .f32⟩
  | 92 => ⟨S_, .f32⟩
  | 93 => ⟨S8x33600x80, .f32⟩
  | 94 => ⟨S8x33600x80, .f32⟩
  | 95 => ⟨S_, .f32⟩
  | 96 => ⟨S8x33600x80, .f32⟩
  | 97 => ⟨S8x33600x80, .f32⟩
  | 98 => ⟨S_, .f32⟩
  | 99 => ⟨S8x33600x80, .f32⟩
  | 100 => ⟨S8x33600x80, .f32⟩
  | 101 => ⟨S1x33600x80, .f32⟩
  | 102 => ⟨S8x33600x80, .f32⟩
  | 103 => ⟨S8x33600x80, .f32⟩
  | 104 => ⟨S8x33600x80, .f32⟩
  | 105 => ⟨S8x33600x80, .f32⟩
  | 106 => ⟨S8x33600x80, .f32⟩
  | 107 => ⟨S8x33600x80, .f32⟩
  | 108 => ⟨S8x33600x80, .f32⟩
  | 109 => ⟨S8x33600x80, .f32⟩
  | 110 => ⟨S1x33600x80, .f32⟩
  | 111 => ⟨S8x33600x80, .f32⟩
  | 112 => ⟨S8x33600x80, .f32⟩
  | 113 => ⟨S_, .f32⟩
  | 114 => ⟨S8x33600x80, .f32⟩
  | 115 => ⟨S8x33600x80, .f32⟩
  | 116 => ⟨S_, .f32⟩
  | 117 => ⟨S33600x80, .f32⟩
  | 118 => ⟨S33600x80, .f32⟩
  | 119 => ⟨S1x33600x80, .f32⟩
  | 120 => ⟨S8x33600x80, .f32⟩
  | 121 => ⟨S8x33600x80, .f32⟩
  | 122 => ⟨S8x33600x80, .f32⟩
  | 123 => ⟨S_, .f32⟩
  | 124 => ⟨S8x33600x80, .f32⟩
  | 125 => ⟨S8x33600x80, .f32⟩
  | 126 => ⟨S_, .f32⟩
  | 127 => ⟨S8x33600x80, .f32⟩
  | _ => ⟨S8x33600x80, .f32⟩

abbrev hbmTy0_2 (i : Nat) : BufTy := match i % 128 with
  | 0 => ⟨S8x33600x80, .f32⟩
  | 1 => ⟨S8x33600x80, .f32⟩
  | 2 => ⟨S_, .f32⟩
  | 3 => ⟨S33600x80, .f32⟩
  | 4 => ⟨S33600x80, .f32⟩
  | 5 => ⟨S_, .f32⟩
  | 6 => ⟨S33600x80, .f32⟩
  | 7 => ⟨S33600x80, .f32⟩
  | 8 => ⟨S_, .f32⟩
  | 9 => ⟨S33600x80, .f32⟩
  | 10 => ⟨S33600x80, .f32⟩
  | 11 => ⟨S33600x80, .f32⟩
  | 12 => ⟨S1x33600x80, .f32⟩
  | 13 => ⟨S8x33600x80, .f32⟩
  | 14 => ⟨S8x33600x80, .f32⟩
  | 15 => ⟨S_, .f32⟩
  | 16 => ⟨S8x33600, .f32⟩
  | 17 => ⟨S8x1x33600, .f32⟩
  | 18 => ⟨S_, .i32⟩
  | 19 => ⟨S8x60, .i32⟩
  | 20 => ⟨S8x60, .i1⟩
  | 21 => ⟨S_, .i32⟩
  | 22 => ⟨S8x60, .i32⟩
  | 23 => ⟨S8x60, .i32⟩
  | 24 => ⟨S8x60, .i32⟩
  | 25 => ⟨S8x60x1, .i32⟩
  | 26 => ⟨S8x33600x60, .f32⟩
  | 27 => ⟨S8x60x33600, .f32⟩
  | 28 => ⟨S8x60x33600, .f32⟩
  | 29 => ⟨S8x60x33600, .f32⟩
  | 30 => ⟨S_, .i32⟩
  | 31 => ⟨S8x60, .i32⟩
  | 32 => ⟨S8x60, .i1⟩
  | 33 => ⟨S_, .i32⟩
  | 34 => ⟨S8x60, .i32⟩
  | 35 => ⟨S8x60, .i32⟩
  | 36 => ⟨S8x60, .i32⟩
  | 37 => ⟨S8x60x1, .i32⟩
  | 38 => ⟨S8x33600x60, .f32⟩
  | 39 => ⟨S8x60x33600, .f32⟩
  | 40 => ⟨S8x60x33600, .f32⟩
  | 41 => ⟨S_, .f32⟩
  | 42 => ⟨S8x60x33600, .f32⟩
  | 43 => ⟨S8x60x33600, .f32⟩
  | 44 => ⟨S8x60x33600, .f32⟩
  | 45 => ⟨S8x60x33600, .i1⟩
  | 46 => ⟨S8x60x33600, .f32⟩
  | 47 => ⟨S_, .f32⟩
  | 48 => ⟨S8x60x33600, .f32⟩
  | 49 => ⟨S8x60x33600, .f32⟩
  | 50 => ⟨S8x60x33600, .f32⟩
  | 51 => ⟨S8x60x33600, .f32⟩
  | 52 => ⟨S8x33600, .i1⟩
  | 53 => ⟨S8x1x33600, .i1⟩
  | 54 => ⟨S8x1x33600, .f32⟩
  | 55 => ⟨S_, .f32⟩
  | 56 => ⟨S8x1x33600, .f32⟩
  | 57 => ⟨S8x1x33600, .f32⟩
  | 58 => ⟨S8x1x33600, .f32⟩
  | 59 => ⟨S8x60x33600, .f32⟩
  | 60 => ⟨S8x60x33600, .f32⟩
  | 61 => ⟨S8x1x33600, .i1⟩
  | 62 => ⟨S_, .f32⟩
  | 63 => ⟨S_, .f32⟩
  | 64 => ⟨S8x60x33600, .i1⟩
  | 65 => ⟨S60x33600, .f32⟩
  | 66 => ⟨S8x60x33600, .f32⟩
  | 67 => ⟨S8x60x33600, .f32⟩
  | 68 => ⟨S8x60x10, .f32⟩
  | 69 => ⟨S8x60x10, .i32⟩
  | 70 => ⟨S_, .f32⟩
  | 71 => ⟨S8x60, .f32⟩
  | 72 => ⟨S8x60, .i32⟩
  | 73 => ⟨S_, .i32⟩
  | 74 => ⟨S8x60, .i32⟩
  | 75 => ⟨S8x60, .i32⟩
  | 76 => ⟨S60x33600, .i32⟩
  | 77 => ⟨S8x60x33600, .i32⟩
  | 78 => ⟨S8x60x33600, .f32⟩
  | 79 => ⟨S8x60x33600, .i32⟩
  | 80 => ⟨S60x33600, .i32⟩
  | 81 => ⟨S8x60x33600, .i32⟩
  | 82 => ⟨S8x60x33600, .i32⟩
  | 83 => ⟨S8x60x33600, .i32⟩
  | 84 => ⟨S8x60x1, .i32⟩
  | 85 => ⟨S8x60x33600, .i32⟩
  | 86 => ⟨S8x60x33600, .i1⟩
  | 87 => ⟨S8x60x33600, .f32⟩
  | 88 => ⟨S_, .f32⟩
  | 89 => ⟨S8x33600, .f32⟩
  | 90 => ⟨S_, .f32⟩
  | 91 => ⟨S8x33600, .f32⟩
  | 92 => ⟨S8x33600, .i1⟩
  | 93 => ⟨S8x60x33600, .i32⟩
  | 94 => ⟨S_, .f32⟩
  | 95 => ⟨S_, .i32⟩
  | 96 => ⟨S8x33600, .f32⟩
  | 97 => ⟨S8x33600, .i32⟩
  | 98 => ⟨S8x33600x1, .i32⟩
  | 99 => ⟨S1x60, .i32⟩
  | 100 => ⟨S1x1x60, .i32⟩
  | 101 => ⟨S8x33600x60, .i32⟩
  | 102 => ⟨S8x33600x60, .i32⟩
  | 103 => ⟨S8x33600x60, .i1⟩
  | 104 => ⟨S8x33600x60, .f32⟩
  | 105 => ⟨S8x60x33600, .f32⟩
  | 106 => ⟨S8x1x33600, .i1⟩
  | 107 => ⟨S8x60x33600, .i1⟩
  | 108 => ⟨S8x60x33600, .f32⟩
  | 109 => ⟨S_, .f32⟩
  | 110 => ⟨S8x33600, .f32⟩
  | 111 => ⟨S_, .f32⟩
  | 112 => ⟨S8x33600, .f32⟩
  | 113 => ⟨S8x33600, .i1⟩
  | 114 => ⟨S8x33600, .i1⟩
  | 115 => ⟨S8x60x33600, .i32⟩
  | 116 => ⟨S_, .f32⟩
  | 117 => ⟨S_, .i32⟩
  | 118 => ⟨S8x33600, .f32⟩
  | 119 => ⟨S8x33600, .i32⟩
  | 120 => ⟨S_, .i32⟩
  | 121 => ⟨S8x33600, .i32⟩
  | 122 => ⟨S8x33600, .i1⟩
  | 123 => ⟨S_, .i32⟩
  | 124 => ⟨S8x33600, .i32⟩
  | 125 => ⟨S8x33600, .i32⟩
  | 126 => ⟨S8x33600, .i32⟩
  | 127 => ⟨S8x33600x1, .i32⟩
  | _ => ⟨S8x33600x80, .f32⟩

abbrev hbmTy0_3 (i : Nat) : BufTy := match i % 128 with
  | 0 => ⟨S8x33600, .i32⟩
  | 1 => ⟨S_, .i32⟩
  | 2 => ⟨S_, .i32⟩
  | 3 => ⟨S33600, .i32⟩
  | 4 => ⟨S8x33600, .i32⟩
  | 5 => ⟨S8x33600, .i32⟩
  | 6 => ⟨S8x33600x1, .i1⟩
  | 7 => ⟨S_, .i32⟩
  | 8 => ⟨S8x33600, .i32⟩
  | 9 => ⟨S8x33600, .i1⟩
  | 10 => ⟨S_, .i32⟩
  | 11 => ⟨S8x33600, .i32⟩
  | 12 => ⟨S8x33600, .i32⟩
  | 13 => ⟨S8x33600, .i32⟩
  | 14 => ⟨S8x33600x1, .i32⟩
  | 15 => ⟨S8x33600x4, .f32⟩
  | 16 => ⟨S_, .f32⟩
  | 17 => ⟨S_, .f32⟩
  | 18 => ⟨S8x33600x4, .i1⟩
  | 19 => ⟨S33600x4, .f32⟩
  | 20 => ⟨S8x33600x4, .f32⟩
  | 21 => ⟨S8x33600x4, .f32⟩
  | 22 => ⟨S33600, .i32⟩
  | 23 => ⟨S_, .i32⟩
  | 24 => ⟨S8x33600, .i32⟩
  | 25 => ⟨S8x33600, .i1⟩
  | 26 => ⟨S_, .i32⟩
  | 27 => ⟨S8x33600, .i32⟩
  | 28 => ⟨S8x33600, .i32⟩
  | 29 => ⟨S8x33600, .i32⟩
  | 30 => ⟨S_, .i32⟩
  | 31 => ⟨S33600, .i32⟩
  | 32 => ⟨S33600, .i1⟩
  | 33 => ⟨S_, .i32⟩
  | 34 => ⟨S33600, .i32⟩
  | 35 => ⟨S33600, .i32⟩
  | 36 => ⟨S33600, .i32⟩
  | 37 => ⟨S8x33600x1, .i32⟩
  | 38 => ⟨S33600x1, .i32⟩
  | 39 => ⟨S8x33600x1, .i32⟩
  | 40 => ⟨S8x33600x2, .i32⟩
  | 41 => ⟨S8x33600, .f32⟩
  | 42 => ⟨S_, .f32⟩
  | 43 => ⟨S_, .f32⟩
  | 44 => ⟨S33600, .f32⟩
  | 45 => ⟨S8x33600, .f32⟩
  | 46 => ⟨S8x33600, .f32⟩
  | 47 => ⟨S_, .i32⟩
  | 48 => ⟨S8x33600, .i32⟩
  | 49 => ⟨S8x33600, .i1⟩
  | 50 => ⟨S_, .i32⟩
  | 51 => ⟨S8x33600, .i32⟩
  | 52 => ⟨S8x33600, .i1⟩
  | 53 => ⟨S8x33600, .i1⟩
  | 54 => ⟨S8x33600, .f32⟩
  | 55 => ⟨S_, .f32⟩
  | 56 => ⟨S_, .f32⟩
  | 57 => ⟨S_, .f32⟩
  | 58 => ⟨S_, .f32⟩
  | 59 => ⟨S8x33600, .i1⟩
  | 60 => ⟨S_, .i32⟩
  | 61 => ⟨S8x33600, .i32⟩
  | 62 => ⟨S8x33600, .i1⟩
  | 63 => ⟨S8x33600, .i1⟩
  | 64 => ⟨S8x33600, .f32⟩
  | 65 => ⟨S_, .i32⟩
  | 66 => ⟨S_, .i32⟩
  | 67 => ⟨S8x33600, .i32⟩
  | 68 => ⟨S8x33600, .i32⟩
  | 69 => ⟨S8x33600x1, .i32⟩
  | 70 => ⟨S1x1x80, .i32⟩
  | 71 => ⟨S8x33600x80, .i32⟩
  | 72 => ⟨S8x33600x80, .i32⟩
  | 73 => ⟨S8x33600x80, .i1⟩
  | 74 => ⟨S8x33600x80, .f32⟩
  | 75 => ⟨S8x33600x1, .f32⟩
  | 76 => ⟨S8x33600x80, .f32⟩
  | 77 => ⟨S8x33600x80, .f32⟩
  | 78 => ⟨S8x33600x80, .f32⟩
  | 79 => ⟨S8x33600x80, .f32⟩
  | 80 => ⟨S_, .f32⟩
  | 81 => ⟨S8x33600x80, .f32⟩
  | 82 => ⟨S8x33600x80, .f32⟩
  | 83 => ⟨S_, .f32⟩
  | 84 => ⟨S8x33600x80, .f32⟩
  | 85 => ⟨S8x33600x80, .f32⟩
  | 86 => ⟨S_, .f32⟩
  | 87 => ⟨S8x33600x80, .f32⟩
  | 88 => ⟨S8x33600x80, .f32⟩
  | 89 => ⟨S8x33600x80, .f32⟩
  | 90 => ⟨S8x33600x80, .f32⟩
  | 91 => ⟨S8x33600x80, .f32⟩
  | 92 => ⟨S8x33600x80, .f32⟩
  | 93 => ⟨S8x33600x80, .f32⟩
  | 94 => ⟨S8x33600x80, .f32⟩
  | 95 => ⟨S8x33600x80, .f32⟩
  | 96 => ⟨S8x33600x80, .f32⟩
  | 97 => ⟨S_, .f32⟩
  | 98 => ⟨S8x33600x80, .f32⟩
  | 99 => ⟨S8x33600x80, .f32⟩
  | 100 => ⟨S_, .f32⟩
  | 101 => ⟨S8x33600x80, .f32⟩
  | 102 => ⟨S8x33600x80, .f32⟩
  | 103 => ⟨S8x33600x80, .f32⟩
  | 104 => ⟨S8x33600x80, .f32⟩
  | 105 => ⟨S_, .f32⟩
  | 106 => ⟨S8x33600x80, .f32⟩
  | 107 => ⟨S8x33600x80, .f32⟩
  | 108 => ⟨S_, .f32⟩
  | 109 => ⟨S8x33600x80, .f32⟩
  | 110 => ⟨S8x33600x80, .f32⟩
  | 111 => ⟨S8x33600x80, .f32⟩
  | 112 => ⟨S_, .f32⟩
  | 113 => ⟨S8x33600x80, .f32⟩
  | 114 => ⟨S8x33600x80, .f32⟩
  | 115 => ⟨S_, .f32⟩
  | 116 => ⟨S8x33600x80, .f32⟩
  | 117 => ⟨S8x33600x80, .f32⟩
  | 118 => ⟨S_, .f32⟩
  | 119 => ⟨S8x33600x80, .f32⟩
  | 120 => ⟨S8x33600x80, .f32⟩
  | 121 => ⟨S8x33600x80, .f32⟩
  | 122 => ⟨S8x33600x80, .f32⟩
  | 123 => ⟨S8x33600x1, .f32⟩
  | 124 => ⟨S8x33600x80, .f32⟩
  | 125 => ⟨S8x33600x80, .f32⟩
  | 126 => ⟨S_, .f32⟩
  | 127 => ⟨S_, .f32⟩
  | _ => ⟨S8x33600x80, .f32⟩

abbrev hbmTy0_4 (i : Nat) : BufTy := match i % 128 with
  | 0 => ⟨S_, .f32⟩
  | 1 => ⟨S8x33600x2, .f32⟩
  | 2 => ⟨S8x33600x2, .f32⟩
  | 3 => ⟨S8x33600x2, .f32⟩
  | 4 => ⟨S8x33600x2, .f32⟩
  | 5 => ⟨S8x33600x2, .f32⟩
  | 6 => ⟨S8x33600x2, .f32⟩
  | 7 => ⟨S8x33600x2, .f32⟩
  | 8 => ⟨S_, .f32⟩
  | 9 => ⟨S8x33600x2, .f32⟩
  | 10 => ⟨S8x33600x2, .f32⟩
  | 11 => ⟨S8x33600x1, .f32⟩
  | 12 => ⟨S8x33600, .f32⟩
  | 13 => ⟨S8x33600x1, .f32⟩
  | 14 => ⟨S8x33600, .f32⟩
  | 15 => ⟨S8x33600, .f32⟩
  | 16 => ⟨S8x33600x1, .f32⟩
  | 17 => ⟨S8x33600, .f32⟩
  | 18 => ⟨S8x33600x1, .f32⟩
  | 19 => ⟨S8x33600, .f32⟩
  | 20 => ⟨S8x33600, .f32⟩
  | 21 => ⟨S_, .f32⟩
  | 22 => ⟨S8x33600, .f32⟩
  | 23 => ⟨S8x33600, .f32⟩
  | 24 => ⟨S8x33600x1, .f32⟩
  | 25 => ⟨S8x33600, .f32⟩
  | 26 => ⟨S8x33600x1, .f32⟩
  | 27 => ⟨S8x33600, .f32⟩
  | 28 => ⟨S8x33600, .f32⟩
  | 29 => ⟨S_, .f32⟩
  | 30 => ⟨S8x33600, .f32⟩
  | 31 => ⟨S8x33600, .f32⟩
  | 32 => ⟨S8x33600, .f32⟩
  | 33 => ⟨S8x33600x1, .f32⟩
  | 34 => ⟨S8x33600, .f32⟩
  | 35 => ⟨S8x33600x1, .f32⟩
  | 36 => ⟨S8x33600, .f32⟩
  | 37 => ⟨S8x33600, .f32⟩
  | 38 => ⟨S_, .f32⟩
  | 39 => ⟨S8x33600, .f32⟩
  | 40 => ⟨S8x33600, .f32⟩
  | 41 => ⟨S8x33600x1, .f32⟩
  | 42 => ⟨S8x33600, .f32⟩
  | 43 => ⟨S8x33600x1, .f32⟩
  | 44 => ⟨S8x33600, .f32⟩
  | 45 => ⟨S8x33600, .f32⟩
  | 46 => ⟨S_, .f32⟩
  | 47 => ⟨S8x33600, .f32⟩
  | 48 => ⟨S8x33600, .f32⟩
  | 49 => ⟨S8x33600, .f32⟩
  | 50 => ⟨S8x33600, .f32⟩
  | 51 => ⟨S8x33600, .f32⟩
  | 52 => ⟨S_, .f32⟩
  | 53 => ⟨S8x33600, .f32⟩
  | 54 => ⟨S8x33600, .f32⟩
  | 55 => ⟨S8x33600, .f32⟩
  | 56 => ⟨S8x33600x2, .f32⟩
  | 57 => ⟨S8x33600x2, .f32⟩
  | 58 => ⟨S8x33600x2, .f32⟩
  | 59 => ⟨S8x33600x2, .f32⟩
  | 60 => ⟨S8x33600x2, .f32⟩
  | 61 => ⟨S8x33600x2, .f32⟩
  | 62 => ⟨S8x33600x2, .f32⟩
  | 63 => ⟨S_, .f32⟩
  | 64 => ⟨S8x33600x2, .f32⟩
  | 65 => ⟨S8x33600x2, .f32⟩
  | 66 => ⟨S8x33600x1, .f32⟩
  | 67 => ⟨S8x33600, .f32⟩
  | 68 => ⟨S8x33600x1, .f32⟩
  | 69 => ⟨S8x33600, .f32⟩
  | 70 => ⟨S8x33600, .f32⟩
  | 71 => ⟨S8x33600, .f32⟩
  | 72 => ⟨S_, .f32⟩
  | 73 => ⟨S8x33600, .f32⟩
  | 74 => ⟨S8x33600, .f32⟩
  | 75 => ⟨S8x33600, .f32⟩
  | 76 => ⟨S8x33600, .f32⟩
  | 77 => ⟨S_, .f32⟩
  | 78 => ⟨S8x33600, .f32⟩
  | 79 => ⟨S8x33600, .f32⟩
  | 80 => ⟨S8x33600, .f32⟩
  | 81 => ⟨S_, .f32⟩
  | 82 => ⟨S_, .f32⟩
  | 83 => ⟨S_, .f32⟩
  | 84 => ⟨S8x33600, .f32⟩
  | 85 => ⟨S_, .f32⟩
  | 86 => ⟨S8x33600, .f32⟩
  | 87 => ⟨S8x33600, .f32⟩
  | 88 => ⟨S8x33600, .f32⟩
  | 89 => ⟨S8x33600, .f32⟩
  | 90 => ⟨S8x33600, .f32⟩
  | 91 => ⟨S8x33600, .f32⟩
  | 92 => ⟨S8x33600, .f32⟩
  | 93 => ⟨S8x33600, .f32⟩
  | 94 => ⟨S8x33600, .f32⟩
  | 95 => ⟨S8x33600, .f32⟩
  | 96 => ⟨S_, .f32⟩
  | 97 => ⟨S_, .f32⟩
  | 98 => ⟨S_, .f32⟩
  | 99 => ⟨S1, .f32⟩
  | 100 => ⟨S1, .f32⟩
  | 101 => ⟨S1, .f32⟩
  | 102 => ⟨S3, .f32⟩
  | _ => ⟨S8x33600x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x33600x80, .f32⟩

abbrev bufTy : (tb : Table) → Fin (tcTables nBuf tb) → BufTy
  | .hbm, ⟨i, _⟩ => hbmTy i
  | _, _ => ⟨S8x33600x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_2 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_c : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_5 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_6 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_7 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_cst_8 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_cst_9 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_10 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_11 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_12 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_13 : Ref sig .tc := ⟨.hbm, 165, rfl⟩
abbrev main_v143 : Ref sig .tc := ⟨.hbm, 166, rfl⟩
abbrev main_v144 : Ref sig .tc := ⟨.hbm, 167, rfl⟩
abbrev main_cst_14 : Ref sig .tc := ⟨.hbm, 168, rfl⟩
abbrev main_v145 : Ref sig .tc := ⟨.hbm, 169, rfl⟩
abbrev main_v146 : Ref sig .tc := ⟨.hbm, 170, rfl⟩
abbrev main_cst_15 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_16 : Ref sig .tc := ⟨.hbm, 186, rfl⟩
abbrev main_v161 : Ref sig .tc := ⟨.hbm, 187, rfl⟩
abbrev main_v162 : Ref sig .tc := ⟨.hbm, 188, rfl⟩
abbrev main_cst_17 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_18 : Ref sig .tc := ⟨.hbm, 196, rfl⟩
abbrev main_v169 : Ref sig .tc := ⟨.hbm, 197, rfl⟩
abbrev main_v170 : Ref sig .tc := ⟨.hbm, 198, rfl⟩
abbrev main_cst_19 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_20 : Ref sig .tc := ⟨.hbm, 203, rfl⟩
abbrev main_v174 : Ref sig .tc := ⟨.hbm, 204, rfl⟩
abbrev main_v175 : Ref sig .tc := ⟨.hbm, 205, rfl⟩
abbrev main_cst_21 : Ref sig .tc := ⟨.hbm, 206, rfl⟩
abbrev main_v176 : Ref sig .tc := ⟨.hbm, 207, rfl⟩
abbrev main_v177 : Ref sig .tc := ⟨.hbm, 208, rfl⟩
abbrev main_cst_22 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_cst_23 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_cst_24 : Ref sig .tc := ⟨.hbm, 220, rfl⟩
abbrev main_v187 : Ref sig .tc := ⟨.hbm, 221, rfl⟩
abbrev main_v188 : Ref sig .tc := ⟨.hbm, 222, rfl⟩
abbrev main_cst_25 : Ref sig .tc := ⟨.hbm, 223, rfl⟩
abbrev main_v189 : Ref sig .tc := ⟨.hbm, 224, rfl⟩
abbrev main_v190 : Ref sig .tc := ⟨.hbm, 225, rfl⟩
abbrev main_cst_26 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_cst_27 : Ref sig .tc := ⟨.hbm, 241, rfl⟩
abbrev main_v205 : Ref sig .tc := ⟨.hbm, 242, rfl⟩
abbrev main_v206 : Ref sig .tc := ⟨.hbm, 243, rfl⟩
abbrev main_cst_28 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_cst_29 : Ref sig .tc := ⟨.hbm, 251, rfl⟩
abbrev main_v213 : Ref sig .tc := ⟨.hbm, 252, rfl⟩
abbrev main_v214 : Ref sig .tc := ⟨.hbm, 253, rfl⟩
abbrev main_cst_30 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_cst_31 : Ref sig .tc := ⟨.hbm, 258, rfl⟩
abbrev main_v218 : Ref sig .tc := ⟨.hbm, 259, rfl⟩
abbrev main_v219 : Ref sig .tc := ⟨.hbm, 260, rfl⟩
abbrev main_cst_32 : Ref sig .tc := ⟨.hbm, 261, rfl⟩
abbrev main_v220 : Ref sig .tc := ⟨.hbm, 262, rfl⟩
abbrev main_v221 : Ref sig .tc := ⟨.hbm, 263, rfl⟩
abbrev main_cst_33 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_cst_34 : Ref sig .tc := ⟨.hbm, 271, rfl⟩
abbrev main_v228 : Ref sig .tc := ⟨.hbm, 272, rfl⟩
abbrev main_v229 : Ref sig .tc := ⟨.hbm, 273, rfl⟩
abbrev main_c_35 : Ref sig .tc := ⟨.hbm, 274, rfl⟩
abbrev main_v230 : Ref sig .tc := ⟨.hbm, 275, rfl⟩
abbrev main_v231 : Ref sig .tc := ⟨.hbm, 276, rfl⟩
abbrev main_c_36 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_c_37 : Ref sig .tc := ⟨.hbm, 286, rfl⟩
abbrev main_v240 : Ref sig .tc := ⟨.hbm, 287, rfl⟩
abbrev main_v241 : Ref sig .tc := ⟨.hbm, 288, rfl⟩
abbrev main_c_38 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_cst_39 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_cst_40 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_cst_41 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_cst_42 : Ref sig .tc := ⟨.hbm, 318, rfl⟩
abbrev main_call0_v0 : Ref sig .tc := ⟨.hbm, 319, rfl⟩
abbrev main_call0_v1 : Ref sig .tc := ⟨.hbm, 320, rfl⟩
abbrev main_call0_v2 : Ref sig .tc := ⟨.hbm, 321, rfl⟩
abbrev main_call0_v3 : Ref sig .tc := ⟨.hbm, 322, rfl⟩
abbrev main_v267 : Ref sig .tc := ⟨.hbm, 323, rfl⟩
abbrev main_values : Ref sig .tc := ⟨.hbm, 324, rfl⟩
abbrev main_indices : Ref sig .tc := ⟨.hbm, 325, rfl⟩
abbrev main_cst_43 : Ref sig .tc := ⟨.hbm, 326, rfl⟩
abbrev main_v268 : Ref sig .tc := ⟨.hbm, 327, rfl⟩
abbrev main_v269 : Ref sig .tc := ⟨.hbm, 328, rfl⟩
abbrev main_c_44 : Ref sig .tc := ⟨.hbm, 329, rfl⟩
abbrev main_v270 : Ref sig .tc := ⟨.hbm, 330, rfl⟩
abbrev main_v271 : Ref sig .tc := ⟨.hbm, 331, rfl⟩
abbrev main_call1_v0 : Ref sig .tc := ⟨.hbm, 332, rfl⟩
abbrev main_call1_v1 : Ref sig .tc := ⟨.hbm, 333, rfl⟩
abbrev main_call1_v2_0 : Ref sig .tc := ⟨.hbm, 334, rfl⟩
abbrev main_v272 : Ref sig .tc := ⟨.hbm, 335, rfl⟩
abbrev main_call2_v0 : Ref sig .tc := ⟨.hbm, 336, rfl⟩
abbrev main_call2_v1 : Ref sig .tc := ⟨.hbm, 337, rfl⟩
abbrev main_call2_v2_0 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_cst_45 : Ref sig .tc := ⟨.hbm, 344, rfl⟩
abbrev main_v278 : Ref sig .tc := ⟨.hbm, 345, rfl⟩
abbrev main_cst_46 : Ref sig .tc := ⟨.hbm, 346, rfl⟩
abbrev main_v279 : Ref sig .tc := ⟨.hbm, 347, rfl⟩
abbrev main_v280 : Ref sig .tc := ⟨.hbm, 348, rfl⟩
abbrev main_call3_v0 : Ref sig .tc := ⟨.hbm, 349, rfl⟩
abbrev main_call3_cst : Ref sig .tc := ⟨.hbm, 350, rfl⟩
abbrev main_call3_c : Ref sig .tc := ⟨.hbm, 351, rfl⟩
abbrev main_call3_v1_0 : Ref sig .tc := ⟨.hbm, 352, rfl⟩
abbrev main_v281 : Ref sig .tc := ⟨.hbm, 353, rfl⟩
abbrev main_call4_v0 : Ref sig .tc := ⟨.hbm, 354, rfl⟩
abbrev main_call4_v1 : Ref sig .tc := ⟨.hbm, 355, rfl⟩
abbrev main_call4_v2 : Ref sig .tc := ⟨.hbm, 356, rfl⟩
abbrev main_call4_v3 : Ref sig .tc := ⟨.hbm, 357, rfl⟩
abbrev main_call4_v4 : Ref sig .tc := ⟨.hbm, 358, rfl⟩
abbrev main_call4_v5 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_call5_v0 : Ref sig .tc := ⟨.hbm, 363, rfl⟩
abbrev main_v285 : Ref sig .tc := ⟨.hbm, 364, rfl⟩
abbrev main_cst_47 : Ref sig .tc := ⟨.hbm, 365, rfl⟩
abbrev main_v286 : Ref sig .tc := ⟨.hbm, 366, rfl⟩
abbrev main_cst_48 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_call6_v0 : Ref sig .tc := ⟨.hbm, 371, rfl⟩
abbrev main_call6_cst : Ref sig .tc := ⟨.hbm, 372, rfl⟩
abbrev main_call6_c : Ref sig .tc := ⟨.hbm, 373, rfl⟩
abbrev main_call6_v1_0 : Ref sig .tc := ⟨.hbm, 374, rfl⟩
abbrev main_v290 : Ref sig .tc := ⟨.hbm, 375, rfl⟩
abbrev main_c_49 : Ref sig .tc := ⟨.hbm, 376, rfl⟩
abbrev main_v291 : Ref sig .tc := ⟨.hbm, 377, rfl⟩
abbrev main_v292 : Ref sig .tc := ⟨.hbm, 378, rfl⟩
abbrev main_c_50 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_c_51 : Ref sig .tc := ⟨.hbm, 385, rfl⟩
abbrev main_call7_v0 : Ref sig .tc := ⟨.hbm, 386, rfl⟩
abbrev main_call7_v1 : Ref sig .tc := ⟨.hbm, 387, rfl⟩
abbrev main_call7_v2 : Ref sig .tc := ⟨.hbm, 388, rfl⟩
abbrev main_v298 : Ref sig .tc := ⟨.hbm, 389, rfl⟩
abbrev main_v299 : Ref sig .tc := ⟨.hbm, 390, rfl⟩
abbrev main_c_52 : Ref sig .tc := ⟨.hbm, 391, rfl⟩
abbrev main_v300 : Ref sig .tc := ⟨.hbm, 392, rfl⟩
abbrev main_v301 : Ref sig .tc := ⟨.hbm, 393, rfl⟩
abbrev main_c_53 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_cst_54 : Ref sig .tc := ⟨.hbm, 400, rfl⟩
abbrev main_call8_v0 : Ref sig .tc := ⟨.hbm, 401, rfl⟩
abbrev main_call8_v1 : Ref sig .tc := ⟨.hbm, 402, rfl⟩
abbrev main_call8_v2 : Ref sig .tc := ⟨.hbm, 403, rfl⟩
abbrev main_call8_v3 : Ref sig .tc := ⟨.hbm, 404, rfl⟩
abbrev main_v307 : Ref sig .tc := ⟨.hbm, 405, rfl⟩
abbrev main_v308 : Ref sig .tc := ⟨.hbm, 406, rfl⟩
abbrev main_c_55 : Ref sig .tc := ⟨.hbm, 407, rfl⟩
abbrev main_v309 : Ref sig .tc := ⟨.hbm, 408, rfl⟩
abbrev main_v310 : Ref sig .tc := ⟨.hbm, 409, rfl⟩
abbrev main_c_56 : Ref sig .tc := ⟨.hbm, 410, rfl⟩
abbrev main_v311 : Ref sig .tc := ⟨.hbm, 411, rfl⟩
abbrev main_v312 : Ref sig .tc := ⟨.hbm, 412, rfl⟩
abbrev main_v313 : Ref sig .tc := ⟨.hbm, 413, rfl⟩
abbrev main_c_57 : Ref sig .tc := ⟨.hbm, 414, rfl⟩
abbrev main_v314 : Ref sig .tc := ⟨.hbm, 415, rfl⟩
abbrev main_v315 : Ref sig .tc := ⟨.hbm, 416, rfl⟩
abbrev main_c_58 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_v322 : Ref sig .tc := ⟨.hbm, 424, rfl⟩
abbrev main_v323 : Ref sig .tc := ⟨.hbm, 425, rfl⟩
abbrev main_cst_59 : Ref sig .tc := ⟨.hbm, 426, rfl⟩
abbrev main_call9_v0 : Ref sig .tc := ⟨.hbm, 427, rfl⟩
abbrev main_call9_v1 : Ref sig .tc := ⟨.hbm, 428, rfl⟩
abbrev main_call9_v2 : Ref sig .tc := ⟨.hbm, 429, rfl⟩
abbrev main_v324 : Ref sig .tc := ⟨.hbm, 430, rfl⟩
abbrev main_c_60 : Ref sig .tc := ⟨.hbm, 431, rfl⟩
abbrev main_v325 : Ref sig .tc := ⟨.hbm, 432, rfl⟩
abbrev main_v326 : Ref sig .tc := ⟨.hbm, 433, rfl⟩
abbrev main_c_61 : Ref sig .tc := ⟨.hbm, 434, rfl⟩
abbrev main_v327 : Ref sig .tc := ⟨.hbm, 435, rfl⟩
abbrev main_v328 : Ref sig .tc := ⟨.hbm, 436, rfl⟩
abbrev main_v329 : Ref sig .tc := ⟨.hbm, 437, rfl⟩
abbrev main_v330 : Ref sig .tc := ⟨.hbm, 438, rfl⟩
abbrev main_cst_62 : Ref sig .tc := ⟨.hbm, 439, rfl⟩
abbrev main_v331 : Ref sig .tc := ⟨.hbm, 440, rfl⟩
abbrev main_cst_63 : Ref sig .tc := ⟨.hbm, 441, rfl⟩
abbrev main_v332 : Ref sig .tc := ⟨.hbm, 442, rfl⟩
abbrev main_v333 : Ref sig .tc := ⟨.hbm, 443, rfl⟩
abbrev main_c_64 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_c_65 : Ref sig .tc := ⟨.hbm, 449, rfl⟩
abbrev main_call10_v0 : Ref sig .tc := ⟨.hbm, 450, rfl⟩
abbrev main_call10_v1 : Ref sig .tc := ⟨.hbm, 451, rfl⟩
abbrev main_v338 : Ref sig .tc := ⟨.hbm, 452, rfl⟩
abbrev main_call11_v0 : Ref sig .tc := ⟨.hbm, 453, rfl⟩
abbrev main_call11_v1 : Ref sig .tc := ⟨.hbm, 454, rfl⟩
abbrev main_call11_v2 : Ref sig .tc := ⟨.hbm, 455, rfl⟩
abbrev main_call11_v3 : Ref sig .tc := ⟨.hbm, 456, rfl⟩
abbrev main_call11_v4 : Ref sig .tc := ⟨.hbm, 457, rfl⟩
abbrev main_v339 : Ref sig .tc := ⟨.hbm, 458, rfl⟩
abbrev main_v340 : Ref sig .tc := ⟨.hbm, 459, rfl⟩
abbrev main_v341 : Ref sig .tc := ⟨.hbm, 460, rfl⟩
abbrev main_v342 : Ref sig .tc := ⟨.hbm, 461, rfl⟩
abbrev main_v343 : Ref sig .tc := ⟨.hbm, 462, rfl⟩
abbrev main_v344 : Ref sig .tc := ⟨.hbm, 463, rfl⟩
abbrev main_cst_66 : Ref sig .tc := ⟨.hbm, 464, rfl⟩
abbrev main_v345 : Ref sig .tc := ⟨.hbm, 465, rfl⟩
abbrev main_v346 : Ref sig .tc := ⟨.hbm, 466, rfl⟩
abbrev main_cst_67 : Ref sig .tc := ⟨.hbm, 467, rfl⟩
abbrev main_v347 : Ref sig .tc := ⟨.hbm, 468, rfl⟩
abbrev main_v348 : Ref sig .tc := ⟨.hbm, 469, rfl⟩
abbrev main_cst_68 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_v352 : Ref sig .tc := ⟨.hbm, 474, rfl⟩
abbrev main_v353 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_cst_69 : Ref sig .tc := ⟨.hbm, 481, rfl⟩
abbrev main_v359 : Ref sig .tc := ⟨.hbm, 482, rfl⟩
abbrev main_v360 : Ref sig .tc := ⟨.hbm, 483, rfl⟩
abbrev main_cst_70 : Ref sig .tc := ⟨.hbm, 484, rfl⟩
abbrev main_v361 : Ref sig .tc := ⟨.hbm, 485, rfl⟩
abbrev main_v362 : Ref sig .tc := ⟨.hbm, 486, rfl⟩
abbrev main_v363 : Ref sig .tc := ⟨.hbm, 487, rfl⟩
abbrev main_v364 : Ref sig .tc := ⟨.hbm, 488, rfl⟩
abbrev main_cst_71 : Ref sig .tc := ⟨.hbm, 489, rfl⟩
abbrev main_v365 : Ref sig .tc := ⟨.hbm, 490, rfl⟩
abbrev main_v366 : Ref sig .tc := ⟨.hbm, 491, rfl⟩
abbrev main_cst_72 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_cst_73 : Ref sig .tc := ⟨.hbm, 496, rfl⟩
abbrev main_v370 : Ref sig .tc := ⟨.hbm, 497, rfl⟩
abbrev main_v371 : Ref sig .tc := ⟨.hbm, 498, rfl⟩
abbrev main_cst_74 : Ref sig .tc := ⟨.hbm, 499, rfl⟩
abbrev main_v372 : Ref sig .tc := ⟨.hbm, 500, rfl⟩
abbrev main_v373 : Ref sig .tc := ⟨.hbm, 501, rfl⟩
abbrev main_cst_75 : Ref sig .tc := ⟨.hbm, 502, rfl⟩
abbrev main_v374 : Ref sig .tc := ⟨.hbm, 503, rfl⟩
abbrev main_v375 : Ref sig .tc := ⟨.hbm, 504, rfl⟩
abbrev main_v376 : Ref sig .tc := ⟨.hbm, 505, rfl⟩
abbrev main_v377 : Ref sig .tc := ⟨.hbm, 506, rfl⟩
abbrev main_v378 : Ref sig .tc := ⟨.hbm, 507, rfl⟩
abbrev main_v379 : Ref sig .tc := ⟨.hbm, 508, rfl⟩
abbrev main_v380 : Ref sig .tc := ⟨.hbm, 509, rfl⟩
abbrev main_cst_76 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_v384 : Ref sig .tc := ⟨.hbm, 514, rfl⟩
abbrev main_v385 : Ref sig .tc := ⟨.hbm, 515, rfl⟩
abbrev main_v386 : Ref sig .tc := ⟨.hbm, 516, rfl⟩
abbrev main_v387 : Ref sig .tc := ⟨.hbm, 517, rfl⟩
abbrev main_v388 : Ref sig .tc := ⟨.hbm, 518, rfl⟩
abbrev main_v389 : Ref sig .tc := ⟨.hbm, 519, rfl⟩
abbrev main_cst_77 : Ref sig .tc := ⟨.hbm, 520, rfl⟩
abbrev main_v390 : Ref sig .tc := ⟨.hbm, 521, rfl⟩
abbrev main_v391 : Ref sig .tc := ⟨.hbm, 522, rfl⟩
abbrev main_v392 : Ref sig .tc := ⟨.hbm, 523, rfl⟩
abbrev main_v393 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_v397 : Ref sig .tc := ⟨.hbm, 528, rfl⟩
abbrev main_v398 : Ref sig .tc := ⟨.hbm, 529, rfl⟩
abbrev main_v399 : Ref sig .tc := ⟨.hbm, 530, rfl⟩
abbrev main_v400 : Ref sig .tc := ⟨.hbm, 531, rfl⟩
abbrev main_v401 : Ref sig .tc := ⟨.hbm, 532, rfl⟩
abbrev main_cst_78 : Ref sig .tc := ⟨.hbm, 533, rfl⟩
abbrev main_v402 : Ref sig .tc := ⟨.hbm, 534, rfl⟩
abbrev main_v403 : Ref sig .tc := ⟨.hbm, 535, rfl⟩
abbrev main_v404 : Ref sig .tc := ⟨.hbm, 536, rfl⟩
abbrev main_v405 : Ref sig .tc := ⟨.hbm, 537, rfl⟩
abbrev main_v406 : Ref sig .tc := ⟨.hbm, 538, rfl⟩
abbrev main_v407 : Ref sig .tc := ⟨.hbm, 539, rfl⟩
abbrev main_v408 : Ref sig .tc := ⟨.hbm, 540, rfl⟩
abbrev main_cst_79 : Ref sig .tc := ⟨.hbm, 541, rfl⟩
abbrev main_v409 : Ref sig .tc := ⟨.hbm, 542, rfl⟩
abbrev main_v410 : Ref sig .tc := ⟨.hbm, 543, rfl⟩
abbrev main_v411 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_v415 : Ref sig .tc := ⟨.hbm, 548, rfl⟩
abbrev main_v416 : Ref sig .tc := ⟨.hbm, 549, rfl⟩
abbrev main_cst_80 : Ref sig .tc := ⟨.hbm, 550, rfl⟩
abbrev main_v417 : Ref sig .tc := ⟨.hbm, 551, rfl⟩
abbrev main_v418 : Ref sig .tc := ⟨.hbm, 552, rfl⟩
abbrev main_v419 : Ref sig .tc := ⟨.hbm, 553, rfl⟩
abbrev main_v420 : Ref sig .tc := ⟨.hbm, 554, rfl⟩
abbrev main_v421 : Ref sig .tc := ⟨.hbm, 555, rfl⟩
abbrev main_v422 : Ref sig .tc := ⟨.hbm, 556, rfl⟩
abbrev main_v423 : Ref sig .tc := ⟨.hbm, 557, rfl⟩
abbrev main_cst_81 : Ref sig .tc := ⟨.hbm, 558, rfl⟩
abbrev main_v424 : Ref sig .tc := ⟨.hbm, 559, rfl⟩
abbrev main_v425 : Ref sig .tc := ⟨.hbm, 560, rfl⟩
abbrev main_v426 : Ref sig .tc := ⟨.hbm, 561, rfl⟩
abbrev main_v427 : Ref sig .tc := ⟨.hbm, 562, rfl⟩
abbrev main_v428 : Ref sig .tc := ⟨.hbm, 563, rfl⟩
abbrev main_cst_82 : Ref sig .tc := ⟨.hbm, 564, rfl⟩
abbrev main_v429 : Ref sig .tc := ⟨.hbm, 565, rfl⟩
abbrev main_v430 : Ref sig .tc := ⟨.hbm, 566, rfl⟩
abbrev main_v431 : Ref sig .tc := ⟨.hbm, 567, rfl⟩
abbrev main_v432 : Ref sig .tc := ⟨.hbm, 568, rfl⟩
abbrev main_v433 : Ref sig .tc := ⟨.hbm, 569, rfl⟩
abbrev main_v434 : Ref sig .tc := ⟨.hbm, 570, rfl⟩
abbrev main_v435 : Ref sig .tc := ⟨.hbm, 571, rfl⟩
abbrev main_v436 : Ref sig .tc := ⟨.hbm, 572, rfl⟩
abbrev main_v437 : Ref sig .tc := ⟨.hbm, 573, rfl⟩
abbrev main_v438 : Ref sig .tc := ⟨.hbm, 574, rfl⟩
abbrev main_cst_83 : Ref sig .tc := ⟨.hbm, 575, rfl⟩
abbrev main_v439 : Ref sig .tc := ⟨.hbm, 576, rfl⟩
abbrev main_v440 : Ref sig .tc := ⟨.hbm, 577, rfl⟩
abbrev main_v441 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_v446 : Ref sig .tc := ⟨.hbm, 583, rfl⟩
abbrev main_cst_84 : Ref sig .tc := ⟨.hbm, 584, rfl⟩
abbrev main_v447 : Ref sig .tc := ⟨.hbm, 585, rfl⟩
abbrev main_v448 : Ref sig .tc := ⟨.hbm, 586, rfl⟩
abbrev main_v449 : Ref sig .tc := ⟨.hbm, 587, rfl⟩
abbrev main_v450 : Ref sig .tc := ⟨.hbm, 588, rfl⟩
abbrev main_cst_85 : Ref sig .tc := ⟨.hbm, 589, rfl⟩
abbrev main_v451 : Ref sig .tc := ⟨.hbm, 590, rfl⟩
abbrev main_v452 : Ref sig .tc := ⟨.hbm, 591, rfl⟩
abbrev main_v453 : Ref sig .tc := ⟨.hbm, 592, rfl⟩
abbrev main_cst_86 : Ref sig .tc := ⟨.hbm, 593, rfl⟩
abbrev main_v454 : Ref sig .tc := ⟨.hbm, 594, rfl⟩
abbrev main_v455 : Ref sig .tc := ⟨.hbm, 595, rfl⟩
abbrev main_v456 : Ref sig .tc := ⟨.hbm, 596, rfl⟩
abbrev main_cst_87 : Ref sig .tc := ⟨.hbm, 597, rfl⟩
abbrev main_v457 : Ref sig .tc := ⟨.hbm, 598, rfl⟩
abbrev main_v458 : Ref sig .tc := ⟨.hbm, 599, rfl⟩
abbrev main_v459 : Ref sig .tc := ⟨.hbm, 600, rfl⟩
abbrev main_v460 : Ref sig .tc := ⟨.hbm, 601, rfl⟩
abbrev main_v461 : Ref sig .tc := ⟨.hbm, 602, rfl⟩
abbrev main_v462 : Ref sig .tc := ⟨.hbm, 603, rfl⟩
abbrev main_v463 : Ref sig .tc := ⟨.hbm, 604, rfl⟩
abbrev main_v464 : Ref sig .tc := ⟨.hbm, 605, rfl⟩
abbrev main_v465 : Ref sig .tc := ⟨.hbm, 606, rfl⟩
abbrev main_v466 : Ref sig .tc := ⟨.hbm, 607, rfl⟩
abbrev main_cst_88 : Ref sig .tc := ⟨.hbm, 608, rfl⟩
abbrev main_v467 : Ref sig .tc := ⟨.hbm, 609, rfl⟩
abbrev main_v468 : Ref sig .tc := ⟨.hbm, 610, rfl⟩
abbrev main_v469 : Ref sig .tc := ⟨.hbm, 611, rfl⟩
abbrev main_v470 : Ref sig .tc := ⟨.hbm, 612, rfl⟩
abbrev main_v471 : Ref sig .tc := ⟨.hbm, 613, rfl⟩
abbrev main_v472 : Ref sig .tc := ⟨.hbm, 614, rfl⟩

abbrev nD : Nat := 1
abbrev τ : Topo := Topo.v7x

variable {F : FTy → Type} [FloatOps F]
-- ==== Proof.Ssa.lean ====
/-
  A line of host operations in which operation `i` writes the buffer numbered `base + i` and nothing
  else: after the whole line, each buffer is its operation applied to the final contents of the
  buffers it reads.
-/
module

public import Idealize.ShloMosaic.Lib.StableHlo.Run
public import Idealize.ShloMosaic.Lib.Pipeline.Frame

@[expose] public section

noncomputable section

namespace Cert.ReferenceIdeal.Own

open Idealize.ShloMosaic Idealize.ShloMosaic.StableHlo

variable {τ : Topo} {sig : RefSig} {Val : EltTy → Type}

/-- Operation `j` of the line writes exactly one buffer, the one numbered `base + j`. -/
structure LineOk (ops : List (HloOp τ sig Val)) (base : ℕ) : Prop where
  writes : ∀ j op, ops[j]? = some op →
    ∃ y : Ref sig .tc, op.writes = {Proc.devRef (τ := τ) .tc y} ∧ y.idx.val = base + j

theorem lineOk_of_lists {ops : List (HloOp τ sig Val)} {base n : ℕ} {wl : List (Ref sig .tc)}
    (h : ops.map HloOp.writes = wl.map fun r => {Proc.devRef (τ := τ) .tc r})
    (hi : wl.map (fun r => r.idx.val) = List.range' base n) : LineOk ops base where
  writes j op hj := by
    have h1 : (ops.map HloOp.writes)[j]? = some op.writes := by rw [List.getElem?_map, hj]; rfl
    rw [h, List.getElem?_map] at h1
    cases hw : wl[j]? with
    | none => rw [hw] at h1; cases h1
    | some y =>
      rw [hw] at h1
      refine ⟨y, (Option.some.inj h1).symm, ?_⟩
      have h2 : (wl.map (fun r => r.idx.val))[j]? = some y.idx.val := by rw [List.getElem?_map, hw]; rfl
      have hj : j < n := by
        by_contra hn
        rw [hi, List.getElem?_eq_none (by simpa using hn)] at h2
        cases h2
      rw [hi, List.getElem?_range' hj] at h2
      simpa using (Option.some.inj h2).symm

namespace LineOk

variable {ops : List (HloOp τ sig Val)} {base : ℕ} (L : LineOk ops base) (V : Valuation τ sig Val)
include L

theorem not_mem {j : ℕ} {op : HloOp τ sig Val} (h : ops[j]? = some op) {r : Ref sig .tc}
    (hr : r.idx.val ≠ base + j) : Proc.devRef (τ := τ) .tc r ∉ op.writes := by
  obtain ⟨y, hy, hi⟩ := L.writes j op h
  rw [hy, Finset.mem_singleton]
  exact devRef_ne_of_ne fun e => hr (e ▸ hi)

/-- A buffer numbered below `base + i` is settled after the first `i` operations. -/
theorem keep (i : ℕ) {r : Ref sig .tc} (hr : r.idx.val < base + i) :
    after ops V (Proc.devRef .tc r) = after (ops.take i) V (Proc.devRef .tc r) := by
  conv_lhs => rw [← List.take_append_drop i ops, after_append]
  refine after_of_forall_not_mem _ _ fun op hop => ?_
  obtain ⟨j, hj⟩ := List.mem_iff_getElem?.mp hop
  rw [List.getElem?_drop] at hj
  exact L.not_mem hj (by omega)

theorem arg {r : Ref sig .tc} (hr : r.idx.val < base) :
    after ops V (Proc.devRef .tc r) = V (Proc.devRef .tc r) := by
  rw [L.keep V 0 (by omega)]; rfl

/-- The buffer operation `i` writes holds, at the end, what that operation left there. -/
theorem at_op (i : ℕ) {op : HloOp τ sig Val} (h : ops[i]? = some op) {y : Ref sig .tc}
    (hy : y.idx.val = base + i) :
    after ops V (Proc.devRef .tc y) = op.result (after (ops.take i) V) (Proc.devRef .tc y) := by
  rw [L.keep V (i + 1) (by omega), List.take_add_one, h, after_append]
  rfl

theorem s0 (i : ℕ) {y : Ref sig .tc} {v : y.ty.Contents Val} {hy}
    (h : ops[i]? = some (nullary (τ := τ) y v hy)) (hi : y.idx.val = base + i) :
    after ops V (Proc.devRef .tc y) = v := by
  rw [L.at_op V i h hi]; exact nullary_result y v hy _

theorem s1 (i : ℕ) {x y : Ref sig .tc} {f : x.ty.Contents Val → y.ty.Contents Val} {hx hy}
    (h : ops[i]? = some (unary (τ := τ) x y f hx hy)) (hi : y.idx.val = base + i)
    (h1 : x.idx.val < base + i) :
    after ops V (Proc.devRef .tc y) = f (after ops V (Proc.devRef .tc x)) := by
  rw [L.at_op V i h hi, L.keep V i h1]; exact unary_result x y f hx hy _

theorem sr (i : ℕ) {x y : Ref sig .tc} {he hn hx hy}
    (h : ops[i]? = some (reshape (τ := τ) (Val := Val) x y he hn hx hy)) (hi : y.idx.val = base + i)
    (h1 : x.idx.val < base + i) :
    after ops V (Proc.devRef .tc y) = fun i => he ▸ shapeCast y.ty.shape (after ops V (Proc.devRef .tc x)) hn i := by
  rw [L.at_op V i h hi, L.keep V i h1]; exact reshape_result x y he hn hx hy _

theorem s2 (i : ℕ) {a b y : Ref sig .tc} {f : a.ty.Contents Val → b.ty.Contents Val → y.ty.Contents Val} {ha hb hy}
    (h : ops[i]? = some (binary (τ := τ) a b y f ha hb hy)) (hi : y.idx.val = base + i)
    (h1 : a.idx.val < base + i) (h2 : b.idx.val < base + i) :
    after ops V (Proc.devRef .tc y) = f (after ops V (Proc.devRef .tc a)) (after ops V (Proc.devRef .tc b)) := by
  rw [L.at_op V i h hi, L.keep V i h1, L.keep V i h2]; exact binary_result a b y f ha hb hy _

theorem s3 (i : ℕ) {c a b y : Ref sig .tc}
    {f : c.ty.Contents Val → a.ty.Contents Val → b.ty.Contents Val → y.ty.Contents Val} {hc ha hb hy}
    (h : ops[i]? = some (ternary (τ := τ) c a b y f hc ha hb hy)) (hi : y.idx.val = base + i)
    (h0 : c.idx.val < base + i) (h1 : a.idx.val < base + i) (h2 : b.idx.val < base + i) :
    after ops V (Proc.devRef .tc y)
      = f (after ops V (Proc.devRef .tc c)) (after ops V (Proc.devRef .tc a)) (after ops V (Proc.devRef .tc b)) := by
  rw [L.at_op V i h hi, L.keep V i h0, L.keep V i h1, L.keep V i h2]; exact ternary_result c a b y f hc ha hb hy _

theorem s4 (i : ℕ) {a b c e y : Ref sig .tc}
    {f : a.ty.Contents Val → b.ty.Contents Val → c.ty.Contents Val → e.ty.Contents Val → y.ty.Contents Val}
    {ha hb hc he hy}
    (h : ops[i]? = some (quaternary (τ := τ) a b c e y f ha hb hc he hy)) (hi : y.idx.val = base + i)
    (h1 : a.idx.val < base + i) (h2 : b.idx.val < base + i) (h3 : c.idx.val < base + i) (h4 : e.idx.val < base + i) :
    after ops V (Proc.devRef .tc y)
      = f (after ops V (Proc.devRef .tc a)) (after ops V (Proc.devRef .tc b)) (after ops V (Proc.devRef .tc c))
        (after ops V (Proc.devRef .tc e)) := by
  rw [L.at_op V i h hi, L.keep V i h1, L.keep V i h2, L.keep V i h3, L.keep V i h4]
  exact quaternary_result a b c e y f ha hb hc he hy _

theorem sn (i : ℕ) {n : ℕ} {xs : Fin n → Ref sig .tc} {y : Ref sig .tc}
    {f : ((k : Fin n) → (xs k).ty.Contents Val) → y.ty.Contents Val} {hxs hy}
    (h : ops[i]? = some (nary (τ := τ) xs y f hxs hy)) (hi : y.idx.val = base + i)
    (h1 : ∀ k, (xs k).idx.val < base + i) :
    after ops V (Proc.devRef .tc y) = f (fun k => after ops V (Proc.devRef .tc (xs k))) := by
  rw [L.at_op V i h hi]
  have : (fun k => after ops V (Proc.devRef .tc (xs k))) = fun k => after (ops.take i) V (Proc.devRef .tc (xs k)) :=
    funext fun k => L.keep V i (h1 k)
  rw [this]; exact nary_result xs y f hxs hy _

end LineOk

end Cert.ReferenceIdeal.Own
-- ==== Proof.RefOps.lean ====
/-
  The reference program as the list of its host operations, and its run.
-/
module

public import proofs.«01_k».proof.Proof.Gen.ReferenceIdeal
public import proofs.«01_k».proof.Proof.Ssa
public import Idealize.ShloMosaic.Lib.StableHlo.Run
public import Idealize.ShloMosaic.PureOps.Ideal
public import Idealize.ShloMosaic.Lib.Pipeline.Frame

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo

/-- The contents of a buffer of shape `S` and element type `t`. -/
abbrev C (F : FTy → Type) [FloatOps F] (S : Shape) (t : EltTy) : Type := (⟨S, t⟩ : BufTy).Contents (Elt F)

/-- One host operation of the reference. -/
abbrev Op (F : FTy → Type) [FloatOps F] : Type := HloOp τ sig (Elt F)

variable {F : FTy → Type} [FloatOps F]

/-- Operations of the window `part0`. -/
abbrev ops_part0 : List (Op F) :=
  [unary main_arg3 main_v0 ((extractStridedSlice S33600x1 ![0, 0] · slices_S33600x2_S33600x1_0_0) : C F S33600x2 .f32 → C F S33600x1 .f32),
   reshape main_v0 main_v1 (rfl : (.f32 : EltTy) = .f32) shapeCasts_S33600x1_S33600,
   unary main_v1 main_v2 (broadcastInDim S1x33600 ![1] bcast_S33600_S1x33600_1 : C F S33600 .f32 → C F S1x33600 .f32),
   unary main_arg3 main_v3 ((extractStridedSlice S33600x1 ![0, 1] · slices_S33600x2_S33600x1_0_1) : C F S33600x2 .f32 → C F S33600x1 .f32),
   reshape main_v3 main_v4 (rfl : (.f32 : EltTy) = .f32) shapeCasts_S33600x1_S33600,
   unary main_v4 main_v5 (broadcastInDim S1x33600 ![1] bcast_S33600_S1x33600_1 : C F S33600 .f32 → C F S1x33600 .f32),
   unary main_arg6 main_v6 ((extractStridedSlice S8x60x1 ![0, 0, 0] · slices_S8x60x4_S8x60x1_0_0_0) : C F S8x60x4 .f32 → C F S8x60x1 .f32),
   unary main_v2 main_v7 (broadcastInDim S1x1x33600 ![1, 2] bcast_S1x33600_S1x1x33600_1_2 : C F S1x33600 .f32 → C F S1x1x33600 .f32),
   unary main_v7 main_v8 (broadcastInDim S8x60x33600 ![0, 1, 2] bcast_S1x1x33600_S8x60x33600_0_1_2 : C F S1x1x33600 .f32 → C F S8x60x33600 .f32),
   unary main_v6 main_v9 (broadcastInDim S8x60x33600 ![0, 1, 2] bcast_S8x60x1_S8x60x33600_0_1_2 : C F S8x60x1 .f32 → C F S8x60x33600 .f32),
   binary main_v8 main_v9 main_v10 (cmpf .ogt : C F S8x60x33600 .f32 → C F S8x60x33600 .f32 → C F S8x60x33600 .i1),
   unary main_arg6 main_v11 ((extractStridedSlice S8x60x1 ![0, 0, 2] · slices_S8x60x4_S8x60x1_0_0_2) : C F S8x60x4 .f32 → C F S8x60x1 .f32),
   unary main_v2 main_v12 (broadcastInDim S1x1x33600 ![1, 2] bcast_S1x33600_S1x1x33600_1_2 : C F S1x33600 .f32 → C F S1x1x33600 .f32),
   unary main_v12 main_v13 (broadcastInDim S8x60x33600 ![0, 1, 2] bcast_S1x1x33600_S8x60x33600_0_1_2 : C F S1x1x33600 .f32 → C F S8x60x33600 .f32),
   unary main_v11 main_v14 (broadcastInDim S8x60x33600 ![0, 1, 2] bcast_S8x60x1_S8x60x33600_0_1_2 : C F S8x60x1 .f32 → C F S8x60x33600 .f32),
   binary main_v13 main_v14 main_v15 (cmpf .olt : C F S8x60x33600 .f32 → C F S8x60x33600 .f32 → C F S8x60x33600 .i1),
   binary main_v10 main_v15 main_v16 (andi : C F S8x60x33600 .i1 → C F S8x60x33600 .i1 → C F S8x60x33600 .i1),
   unary main_arg6 main_v17 ((extractStridedSlice S8x60x1 ![0, 0, 1] · slices_S8x60x4_S8x60x1_0_0_1) : C F S8x60x4 .f32 → C F S8x60x1 .f32),
   unary main_v5 main_v18 (broadcastInDim S1x1x33600 ![1, 2] bcast_S1x33600_S1x1x33600_1_2 : C F S1x33600 .f32 → C F S1x1x33600 .f32),
   unary main_v18 main_v19 (broadcastInDim S8x60x33600 ![0, 1, 2] bcast_S1x1x33600_S8x60x33600_0_1_2 : C F S1x1x33600 .f32 → C F S8x60x33600 .f32),
   unary main_v17 main_v20 (broadcastInDim S8x60x33600 ![0, 1, 2] bcast_S8x60x1_S8x60x33600_0_1_2 : C F S8x60x1 .f32 → C F S8x60x33600 .f32),
   binary main_v19 main_v20 main_v21 (cmpf .ogt : C F S8x60x33600 .f32 → C F S8x60x33600 .f32 → C F S8x60x33600 .i1),
   binary main_v16 main_v21 main_v22 (andi : C F S8x60x33600 .i1 → C F S8x60x33600 .i1 → C F S8x60x33600 .i1),
   unary main_arg6 main_v23 ((extractStridedSlice S8x60x1 ![0, 0, 3] · slices_S8x60x4_S8x60x1_0_0_3) : C F S8x60x4 .f32 → C F S8x60x1 .f32),
   unary main_v5 main_v24 (broadcastInDim S1x1x33600 ![1, 2] bcast_S1x33600_S1x1x33600_1_2 : C F S1x33600 .f32 → C F S1x1x33600 .f32),
   unary main_v24 main_v25 (broadcastInDim S8x60x33600 ![0, 1, 2] bcast_S1x1x33600_S8x60x33600_0_1_2 : C F S1x1x33600 .f32 → C F S8x60x33600 .f32),
   unary main_v23 main_v26 (broadcastInDim S8x60x33600 ![0, 1, 2] bcast_S8x60x1_S8x60x33600_0_1_2 : C F S8x60x1 .f32 → C F S8x60x33600 .f32),
   binary main_v25 main_v26 main_v27 (cmpf .olt : C F S8x60x33600 .f32 → C F S8x60x33600 .f32 → C F S8x60x33600 .i1),
   binary main_v22 main_v27 main_v28 (andi : C F S8x60x33600 .i1 → C F S8x60x33600 .i1 → C F S8x60x33600 .i1),
   unary main_arg6 main_v29 ((extractStridedSlice S8x60x1 ![0, 0, 0] · slices_S8x60x4_S8x60x1_0_0_0) : C F S8x60x4 .f32 → C F S8x60x1 .f32),
   reshape main_v29 main_v30 (rfl : (.f32 : EltTy) = .f32) shapeCasts_S8x60x1_S8x60,
   unary main_arg6 main_v31 ((extractStridedSlice S8x60x1 ![0, 0, 2] · slices_S8x60x4_S8x60x1_0_0_2) : C F S8x60x4 .f32 → C F S8x60x1 .f32),
   reshape main_v31 main_v32 (rfl : (.f32 : EltTy) = .f32) shapeCasts_S8x60x1_S8x60,
   binary main_v30 main_v32 main_v33 (addf : C F S8x60 .f32 → C F S8x60 .f32 → C F S8x60 .f32),
   nullary main_cst ((constant S_ .f32 0x3F000000#32) : C F S_ .f32),
   unary main_cst main_v34 (broadcastInDim S8x60 ![] bcast_S_S8x60 : C F S_ .f32 → C F S8x60 .f32),
   binary main_v33 main_v34 main_v35 (mulf : C F S8x60 .f32 → C F S8x60 .f32 → C F S8x60 .f32),
   unary main_v35 main_v36 (broadcastInDim S8x60x1 ![0, 1] bcast_S8x60_S8x60x1_0_1 : C F S8x60 .f32 → C F S8x60x1 .f32),
   unary main_arg6 main_v37 ((extractStridedSlice S8x60x1 ![0, 0, 1] · slices_S8x60x4_S8x60x1_0_0_1) : C F S8x60x4 .f32 → C F S8x60x1 .f32),
   reshape main_v37 main_v38 (rfl : (.f32 : EltTy) = .f32) shapeCasts_S8x60x1_S8x60,
   unary main_arg6 main_v39 ((extractStridedSlice S8x60x1 ![0, 0, 3] · slices_S8x60x4_S8x60x1_0_0_3) : C F S8x60x4 .f32 → C F S8x60x1 .f32),
   reshape main_v39 main_v40 (rfl : (.f32 : EltTy) = .f32) shapeCasts_S8x60x1_S8x60,
   binary main_v38 main_v40 main_v41 (addf : C F S8x60 .f32 → C F S8x60 .f32 → C F S8x60 .f32),
   nullary main_cst_0 ((constant S_ .f32 0x3F000000#32) : C F S_ .f32),
   unary main_cst_0 main_v42 (broadcastInDim S8x60 ![] bcast_S_S8x60 : C F S_ .f32 → C F S8x60 .f32),
   binary main_v41 main_v42 main_v43 (mulf : C F S8x60 .f32 → C F S8x60 .f32 → C F S8x60 .f32),
   unary main_v43 main_v44 (broadcastInDim S8x60x1 ![0, 1] bcast_S8x60_S8x60x1_0_1 : C F S8x60 .f32 → C F S8x60x1 .f32),
   nullary main_cst_1 ((constant S_ .f32 0x41A00000#32) : C F S_ .f32),
   unary main_cst_1 main_v45 (broadcastInDim S8x60x1 ![] bcast_S_S8x60x1 : C F S_ .f32 → C F S8x60x1 .f32),
   binary main_v36 main_v45 main_v46 (subf : C F S8x60x1 .f32 → C F S8x60x1 .f32 → C F S8x60x1 .f32),
   unary main_v2 main_v47 (broadcastInDim S1x1x33600 ![1, 2] bcast_S1x33600_S1x1x33600_1_2 : C F S1x33600 .f32 → C F S1x1x33600 .f32),
   unary main_v47 main_v48 (broadcastInDim S8x60x33600 ![0, 1, 2] bcast_S1x1x33600_S8x60x33600_0_1_2 : C F S1x1x33600 .f32 → C F S8x60x33600 .f32),
   unary main_v46 main_v49 (broadcastInDim S8x60x33600 ![0, 1, 2] bcast_S8x60x1_S8x60x33600_0_1_2 : C F S8x60x1 .f32 → C F S8x60x33600 .f32),
   binary main_v48 main_v49 main_v50 (cmpf .ogt : C F S8x60x33600 .f32 → C F S8x60x33600 .f32 → C F S8x60x33600 .i1),
   nullary main_cst_2 ((constant S_ .f32 0x41A00000#32) : C F S_ .f32),
   unary main_cst_2 main_v51 (broadcastInDim S8x60x1 ![] bcast_S_S8x60x1 : C F S_ .f32 → C F S8x60x1 .f32),
   binary main_v36 main_v51 main_v52 (addf : C F S8x60x1 .f32 → C F S8x60x1 .f32 → C F S8x60x1 .f32),
   unary main_v2 main_v53 (broadcastInDim S1x1x33600 ![1, 2] bcast_S1x33600_S1x1x33600_1_2 : C F S1x33600 .f32 → C F S1x1x33600 .f32),
   unary main_v53 main_v54 (broadcastInDim S8x60x33600 ![0, 1, 2] bcast_S1x1x33600_S8x60x33600_0_1_2 : C F S1x1x33600 .f32 → C F S8x60x33600 .f32),
   unary main_v52 main_v55 (broadcastInDim S8x60x33600 ![0, 1, 2] bcast_S8x60x1_S8x60x33600_0_1_2 : C F S8x60x1 .f32 → C F S8x60x33600 .f32)]

/-- Operations of the window `part1`. -/
abbrev ops_part1 : List (Op F) :=
  [binary main_v54 main_v55 main_v56 (cmpf .olt : C F S8x60x33600 .f32 → C F S8x60x33600 .f32 → C F S8x60x33600 .i1),
   binary main_v50 main_v56 main_v57 (andi : C F S8x60x33600 .i1 → C F S8x60x33600 .i1 → C F S8x60x33600 .i1),
   nullary main_cst_3 ((constant S_ .f32 0x41A00000#32) : C F S_ .f32),
   unary main_cst_3 main_v58 (broadcastInDim S8x60x1 ![] bcast_S_S8x60x1 : C F S_ .f32 → C F S8x60x1 .f32),
   binary main_v44 main_v58 main_v59 (subf : C F S8x60x1 .f32 → C F S8x60x1 .f32 → C F S8x60x1 .f32),
   unary main_v5 main_v60 (broadcastInDim S1x1x33600 ![1, 2] bcast_S1x33600_S1x1x33600_1_2 : C F S1x33600 .f32 → C F S1x1x33600 .f32),
   unary main_v60 main_v61 (broadcastInDim S8x60x33600 ![0, 1, 2] bcast_S1x1x33600_S8x60x33600_0_1_2 : C F S1x1x33600 .f32 → C F S8x60x33600 .f32),
   unary main_v59 main_v62 (broadcastInDim S8x60x33600 ![0, 1, 2] bcast_S8x60x1_S8x60x33600_0_1_2 : C F S8x60x1 .f32 → C F S8x60x33600 .f32),
   binary main_v61 main_v62 main_v63 (cmpf .ogt : C F S8x60x33600 .f32 → C F S8x60x33600 .f32 → C F S8x60x33600 .i1),
   binary main_v57 main_v63 main_v64 (andi : C F S8x60x33600 .i1 → C F S8x60x33600 .i1 → C F S8x60x33600 .i1),
   nullary main_cst_4 ((constant S_ .f32 0x41A00000#32) : C F S_ .f32),
   unary main_cst_4 main_v65 (broadcastInDim S8x60x1 ![] bcast_S_S8x60x1 : C F S_ .f32 → C F S8x60x1 .f32),
   binary main_v44 main_v65 main_v66 (addf : C F S8x60x1 .f32 → C F S8x60x1 .f32 → C F S8x60x1 .f32),
   unary main_v5 main_v67 (broadcastInDim S1x1x33600 ![1, 2] bcast_S1x33600_S1x1x33600_1_2 : C F S1x33600 .f32 → C F S1x1x33600 .f32),
   unary main_v67 main_v68 (broadcastInDim S8x60x33600 ![0, 1, 2] bcast_S1x1x33600_S8x60x33600_0_1_2 : C F S1x1x33600 .f32 → C F S8x60x33600 .f32),
   unary main_v66 main_v69 (broadcastInDim S8x60x33600 ![0, 1, 2] bcast_S8x60x1_S8x60x33600_0_1_2 : C F S8x60x1 .f32 → C F S8x60x33600 .f32),
   binary main_v68 main_v69 main_v70 (cmpf .olt : C F S8x60x33600 .f32 → C F S8x60x33600 .f32 → C F S8x60x33600 .i1),
   binary main_v64 main_v70 main_v71 (andi : C F S8x60x33600 .i1 → C F S8x60x33600 .i1 → C F S8x60x33600 .i1),
   binary main_v28 main_v71 main_v72 (ori : C F S8x60x33600 .i1 → C F S8x60x33600 .i1 → C F S8x60x33600 .i1),
   nullary main_c ((constantI S_ 1 0#1) : C F S_ .i1),
   binary main_v72 main_c main_v73 ((fun x v => Host.reduce IntOp.ori x v reducesTo_S8x60x33600_S8x33600_d1 h_S_) : C F S8x60x33600 .i1 → C F S_ .i1 → C F S8x33600 .i1),
   binary main_v28 main_v71 main_v74 (andi : C F S8x60x33600 .i1 → C F S8x60x33600 .i1 → C F S8x60x33600 .i1),
   unary main_arg6 main_v75 ((extractStridedSlice S8x60x2 ![0, 0, 0] · slices_S8x60x4_S8x60x2_0_0_0) : C F S8x60x4 .f32 → C F S8x60x2 .f32),
   unary main_v75 main_v76 (broadcastInDim S8x60x1x2 ![0, 1, 3] bcast_S8x60x2_S8x60x1x2_0_1_3 : C F S8x60x2 .f32 → C F S8x60x1x2 .f32),
   unary main_arg1 main_v77 ((extractStridedSlice S8x33600x2 ![0, 0, 0] · slices_S8x33600x4_S8x33600x2_0_0_0) : C F S8x33600x4 .f32 → C F S8x33600x2 .f32),
   unary main_v77 main_v78 (broadcastInDim S8x1x33600x2 ![0, 2, 3] bcast_S8x33600x2_S8x1x33600x2_0_2_3 : C F S8x33600x2 .f32 → C F S8x1x33600x2 .f32),
   unary main_v76 main_v79 (broadcastInDim S8x60x33600x2 ![0, 1, 2, 3] bcast_S8x60x1x2_S8x60x33600x2_0_1_2_3 : C F S8x60x1x2 .f32 → C F S8x60x33600x2 .f32),
   unary main_v78 main_v80 (broadcastInDim S8x60x33600x2 ![0, 1, 2, 3] bcast_S8x1x33600x2_S8x60x33600x2_0_1_2_3 : C F S8x1x33600x2 .f32 → C F S8x60x33600x2 .f32),
   binary main_v79 main_v80 main_v81 (maximumf : C F S8x60x33600x2 .f32 → C F S8x60x33600x2 .f32 → C F S8x60x33600x2 .f32),
   unary main_arg6 main_v82 ((extractStridedSlice S8x60x2 ![0, 0, 2] · slices_S8x60x4_S8x60x2_0_0_2) : C F S8x60x4 .f32 → C F S8x60x2 .f32),
   unary main_v82 main_v83 (broadcastInDim S8x60x1x2 ![0, 1, 3] bcast_S8x60x2_S8x60x1x2_0_1_3 : C F S8x60x2 .f32 → C F S8x60x1x2 .f32),
   unary main_arg1 main_v84 ((extractStridedSlice S8x33600x2 ![0, 0, 2] · slices_S8x33600x4_S8x33600x2_0_0_2) : C F S8x33600x4 .f32 → C F S8x33600x2 .f32),
   unary main_v84 main_v85 (broadcastInDim S8x1x33600x2 ![0, 2, 3] bcast_S8x33600x2_S8x1x33600x2_0_2_3 : C F S8x33600x2 .f32 → C F S8x1x33600x2 .f32),
   unary main_v83 main_v86 (broadcastInDim S8x60x33600x2 ![0, 1, 2, 3] bcast_S8x60x1x2_S8x60x33600x2_0_1_2_3 : C F S8x60x1x2 .f32 → C F S8x60x33600x2 .f32),
   unary main_v85 main_v87 (broadcastInDim S8x60x33600x2 ![0, 1, 2, 3] bcast_S8x1x33600x2_S8x60x33600x2_0_1_2_3 : C F S8x1x33600x2 .f32 → C F S8x60x33600x2 .f32),
   binary main_v86 main_v87 main_v88 (minimumf : C F S8x60x33600x2 .f32 → C F S8x60x33600x2 .f32 → C F S8x60x33600x2 .f32),
   binary main_v88 main_v81 main_v89 (subf : C F S8x60x33600x2 .f32 → C F S8x60x33600x2 .f32 → C F S8x60x33600x2 .f32),
   nullary main_cst_5 ((constant S_ .f32 0x00000000#32) : C F S_ .f32),
   unary main_cst_5 main_v90 (broadcastInDim S8x60x33600x2 ![] bcast_S_S8x60x33600x2 : C F S_ .f32 → C F S8x60x33600x2 .f32),
   binary main_v89 main_v90 main_v91 (maximumf : C F S8x60x33600x2 .f32 → C F S8x60x33600x2 .f32 → C F S8x60x33600x2 .f32),
   unary main_v91 main_v92 ((extractStridedSlice S8x60x33600x1 ![0, 0, 0, 0] · slices_S8x60x33600x2_S8x60x33600x1_0_0_0_0) : C F S8x60x33600x2 .f32 → C F S8x60x33600x1 .f32),
   reshape main_v92 main_v93 (rfl : (.f32 : EltTy) = .f32) shapeCasts_S8x60x33600x1_S8x60x33600,
   unary main_v91 main_v94 ((extractStridedSlice S8x60x33600x1 ![0, 0, 0, 1] · slices_S8x60x33600x2_S8x60x33600x1_0_0_0_1) : C F S8x60x33600x2 .f32 → C F S8x60x33600x1 .f32),
   reshape main_v94 main_v95 (rfl : (.f32 : EltTy) = .f32) shapeCasts_S8x60x33600x1_S8x60x33600,
   binary main_v93 main_v95 main_v96 (mulf : C F S8x60x33600 .f32 → C F S8x60x33600 .f32 → C F S8x60x33600 .f32),
   unary main_arg6 main_v97 ((extractStridedSlice S8x60x1 ![0, 0, 2] · slices_S8x60x4_S8x60x1_0_0_2) : C F S8x60x4 .f32 → C F S8x60x1 .f32),
   reshape main_v97 main_v98 (rfl : (.f32 : EltTy) = .f32) shapeCasts_S8x60x1_S8x60,
   unary main_arg6 main_v99 ((extractStridedSlice S8x60x1 ![0, 0, 0] · slices_S8x60x4_S8x60x1_0_0_0) : C F S8x60x4 .f32 → C F S8x60x1 .f32),
   reshape main_v99 main_v100 (rfl : (.f32 : EltTy) = .f32) shapeCasts_S8x60x1_S8x60,
   binary main_v98 main_v100 main_v101 (subf : C F S8x60 .f32 → C F S8x60 .f32 → C F S8x60 .f32),
   nullary main_cst_6 ((constant S_ .f32 0x00000000#32) : C F S_ .f32),
   unary main_cst_6 main_v102 (broadcastInDim S8x60 ![] bcast_S_S8x60 : C F S_ .f32 → C F S8x60 .f32),
   binary main_v101 main_v102 main_v103 (maximumf : C F S8x60 .f32 → C F S8x60 .f32 → C F S8x60 .f32),
   unary main_arg6 main_v104 ((extractStridedSlice S8x60x1 ![0, 0, 3] · slices_S8x60x4_S8x60x1_0_0_3) : C F S8x60x4 .f32 → C F S8x60x1 .f32),
   reshape main_v104 main_v105 (rfl : (.f32 : EltTy) = .f32) shapeCasts_S8x60x1_S8x60,
   unary main_arg6 main_v106 ((extractStridedSlice S8x60x1 ![0, 0, 1] · slices_S8x60x4_S8x60x1_0_0_1) : C F S8x60x4 .f32 → C F S8x60x1 .f32),
   reshape main_v106 main_v107 (rfl : (.f32 : EltTy) = .f32) shapeCasts_S8x60x1_S8x60,
   binary main_v105 main_v107 main_v108 (subf : C F S8x60 .f32 → C F S8x60 .f32 → C F S8x60 .f32),
   nullary main_cst_7 ((constant S_ .f32 0x00000000#32) : C F S_ .f32),
   unary main_cst_7 main_v109 (broadcastInDim S8x60 ![] bcast_S_S8x60 : C F S_ .f32 → C F S8x60 .f32)]

/-- Operations of the window `part2`. -/
abbrev ops_part2 : List (Op F) :=
  [binary main_v108 main_v109 main_v110 (maximumf : C F S8x60 .f32 → C F S8x60 .f32 → C F S8x60 .f32),
   binary main_v103 main_v110 main_v111 (mulf : C F S8x60 .f32 → C F S8x60 .f32 → C F S8x60 .f32),
   unary main_arg1 main_v112 ((extractStridedSlice S8x33600x1 ![0, 0, 2] · slices_S8x33600x4_S8x33600x1_0_0_2) : C F S8x33600x4 .f32 → C F S8x33600x1 .f32),
   reshape main_v112 main_v113 (rfl : (.f32 : EltTy) = .f32) shapeCasts_S8x33600x1_S8x33600,
   unary main_arg1 main_v114 ((extractStridedSlice S8x33600x1 ![0, 0, 0] · slices_S8x33600x4_S8x33600x1_0_0_0) : C F S8x33600x4 .f32 → C F S8x33600x1 .f32),
   reshape main_v114 main_v115 (rfl : (.f32 : EltTy) = .f32) shapeCasts_S8x33600x1_S8x33600,
   binary main_v113 main_v115 main_v116 (subf : C F S8x33600 .f32 → C F S8x33600 .f32 → C F S8x33600 .f32),
   nullary main_cst_8 ((constant S_ .f32 0x00000000#32) : C F S_ .f32),
   unary main_cst_8 main_v117 (broadcastInDim S8x33600 ![] bcast_S_S8x33600 : C F S_ .f32 → C F S8x33600 .f32),
   binary main_v116 main_v117 main_v118 (maximumf : C F S8x33600 .f32 → C F S8x33600 .f32 → C F S8x33600 .f32),
   unary main_arg1 main_v119 ((extractStridedSlice S8x33600x1 ![0, 0, 3] · slices_S8x33600x4_S8x33600x1_0_0_3) : C F S8x33600x4 .f32 → C F S8x33600x1 .f32),
   reshape main_v119 main_v120 (rfl : (.f32 : EltTy) = .f32) shapeCasts_S8x33600x1_S8x33600,
   unary main_arg1 main_v121 ((extractStridedSlice S8x33600x1 ![0, 0, 1] · slices_S8x33600x4_S8x33600x1_0_0_1) : C F S8x33600x4 .f32 → C F S8x33600x1 .f32),
   reshape main_v121 main_v122 (rfl : (.f32 : EltTy) = .f32) shapeCasts_S8x33600x1_S8x33600,
   binary main_v120 main_v122 main_v123 (subf : C F S8x33600 .f32 → C F S8x33600 .f32 → C F S8x33600 .f32),
   nullary main_cst_9 ((constant S_ .f32 0x00000000#32) : C F S_ .f32),
   unary main_cst_9 main_v124 (broadcastInDim S8x33600 ![] bcast_S_S8x33600 : C F S_ .f32 → C F S8x33600 .f32),
   binary main_v123 main_v124 main_v125 (maximumf : C F S8x33600 .f32 → C F S8x33600 .f32 → C F S8x33600 .f32),
   binary main_v118 main_v125 main_v126 (mulf : C F S8x33600 .f32 → C F S8x33600 .f32 → C F S8x33600 .f32),
   unary main_v111 main_v127 (broadcastInDim S8x60x1 ![0, 1] bcast_S8x60_S8x60x1_0_1 : C F S8x60 .f32 → C F S8x60x1 .f32),
   unary main_v126 main_v128 (broadcastInDim S8x1x33600 ![0, 2] bcast_S8x33600_S8x1x33600_0_2 : C F S8x33600 .f32 → C F S8x1x33600 .f32),
   unary main_v127 main_v129 (broadcastInDim S8x60x33600 ![0, 1, 2] bcast_S8x60x1_S8x60x33600_0_1_2 : C F S8x60x1 .f32 → C F S8x60x33600 .f32),
   unary main_v128 main_v130 (broadcastInDim S8x60x33600 ![0, 1, 2] bcast_S8x1x33600_S8x60x33600_0_1_2 : C F S8x1x33600 .f32 → C F S8x60x33600 .f32),
   binary main_v129 main_v130 main_v131 (addf : C F S8x60x33600 .f32 → C F S8x60x33600 .f32 → C F S8x60x33600 .f32),
   binary main_v131 main_v96 main_v132 (subf : C F S8x60x33600 .f32 → C F S8x60x33600 .f32 → C F S8x60x33600 .f32),
   nullary main_cst_10 ((constant S_ .f32 0x322BCC77#32) : C F S_ .f32),
   unary main_cst_10 main_v133 (broadcastInDim S8x60x33600 ![] bcast_S_S8x60x33600 : C F S_ .f32 → C F S8x60x33600 .f32),
   binary main_v132 main_v133 main_v134 (maximumf : C F S8x60x33600 .f32 → C F S8x60x33600 .f32 → C F S8x60x33600 .f32),
   binary main_v96 main_v134 main_v135 (Host.divf : C F S8x60x33600 .f32 → C F S8x60x33600 .f32 → C F S8x60x33600 .f32),
   nullary main_cst_11 ((constant S_ .f32 0x322BCC77#32) : C F S_ .f32),
   unary main_cst_11 main_v136 (broadcastInDim S8x60x33600 ![] bcast_S_S8x60x33600 : C F S_ .f32 → C F S8x60x33600 .f32),
   binary main_v135 main_v136 main_v137 (addf : C F S8x60x33600 .f32 → C F S8x60x33600 .f32 → C F S8x60x33600 .f32),
   unary main_v137 main_v138 (Host.log : C F S8x60x33600 .f32 → C F S8x60x33600 .f32),
   unary main_v138 main_v139 (Host.negf : C F S8x60x33600 .f32 → C F S8x60x33600 .f32),
   nullary main_cst_12 ((constant S_ .f32 0x3F800000#32) : C F S_ .f32),
   unary main_cst_12 main_v140 (broadcastInDim S33600x80 ![] bcast_S_S33600x80 : C F S_ .f32 → C F S33600x80 .f32),
   unary main_arg0 main_v141 (Host.negf : C F S8x33600x80 .f32 → C F S8x33600x80 .f32),
   unary main_v141 main_v142 (Host.exp : C F S8x33600x80 .f32 → C F S8x33600x80 .f32),
   nullary main_cst_13 ((constant S_ .f32 0x3F800000#32) : C F S_ .f32),
   unary main_cst_13 main_v143 (broadcastInDim S8x33600x80 ![] bcast_S_S8x33600x80 : C F S_ .f32 → C F S8x33600x80 .f32),
   binary main_v143 main_v142 main_v144 (addf : C F S8x33600x80 .f32 → C F S8x33600x80 .f32 → C F S8x33600x80 .f32),
   nullary main_cst_14 ((constant S_ .f32 0x3F800000#32) : C F S_ .f32),
   unary main_cst_14 main_v145 (broadcastInDim S8x33600x80 ![] bcast_S_S8x33600x80 : C F S_ .f32 → C F S8x33600x80 .f32),
   binary main_v145 main_v144 main_v146 (Host.divf : C F S8x33600x80 .f32 → C F S8x33600x80 .f32 → C F S8x33600x80 .f32),
   nullary main_cst_15 ((constant S_ .f32 0x00000000#32) : C F S_ .f32),
   unary main_cst_15 main_v147 (broadcastInDim S8x33600x80 ![] bcast_S_S8x33600x80 : C F S_ .f32 → C F S8x33600x80 .f32),
   binary main_arg0 main_v147 main_v148 (maximumf : C F S8x33600x80 .f32 → C F S8x33600x80 .f32 → C F S8x33600x80 .f32),
   unary main_v140 main_v149 (broadcastInDim S1x33600x80 ![1, 2] bcast_S33600x80_S1x33600x80_1_2 : C F S33600x80 .f32 → C F S1x33600x80 .f32),
   unary main_v149 main_v150 (broadcastInDim S8x33600x80 ![0, 1, 2] bcast_S1x33600x80_S8x33600x80_0_1_2 : C F S1x33600x80 .f32 → C F S8x33600x80 .f32),
   binary main_arg0 main_v150 main_v151 (mulf : C F S8x33600x80 .f32 → C F S8x33600x80 .f32 → C F S8x33600x80 .f32),
   binary main_v148 main_v151 main_v152 (subf : C F S8x33600x80 .f32 → C F S8x33600x80 .f32 → C F S8x33600x80 .f32),
   unary main_arg0 main_v153 (Host.absf : C F S8x33600x80 .f32 → C F S8x33600x80 .f32),
   unary main_v153 main_v154 (Host.negf : C F S8x33600x80 .f32 → C F S8x33600x80 .f32),
   unary main_v154 main_v155 (Host.exp : C F S8x33600x80 .f32 → C F S8x33600x80 .f32),
   unary main_v155 main_v156 (Host.log1p : C F S8x33600x80 .f32 → C F S8x33600x80 .f32),
   binary main_v152 main_v156 main_v157 (addf : C F S8x33600x80 .f32 → C F S8x33600x80 .f32 → C F S8x33600x80 .f32),
   unary main_v140 main_v158 (broadcastInDim S1x33600x80 ![1, 2] bcast_S33600x80_S1x33600x80_1_2 : C F S33600x80 .f32 → C F S1x33600x80 .f32),
   unary main_v158 main_v159 (broadcastInDim S8x33600x80 ![0, 1, 2] bcast_S1x33600x80_S8x33600x80_0_1_2 : C F S1x33600x80 .f32 → C F S8x33600x80 .f32),
   binary main_v146 main_v159 main_v160 (mulf : C F S8x33600x80 .f32 → C F S8x33600x80 .f32 → C F S8x33600x80 .f32),
   nullary main_cst_16 ((constant S_ .f32 0x3F800000#32) : C F S_ .f32)]

/-- Operations of the window `part3`. -/
abbrev ops_part3 : List (Op F) :=
  [unary main_cst_16 main_v161 (broadcastInDim S8x33600x80 ![] bcast_S_S8x33600x80 : C F S_ .f32 → C F S8x33600x80 .f32),
   binary main_v161 main_v146 main_v162 (subf : C F S8x33600x80 .f32 → C F S8x33600x80 .f32 → C F S8x33600x80 .f32),
   nullary main_cst_17 ((constant S_ .f32 0x3F800000#32) : C F S_ .f32),
   unary main_cst_17 main_v163 (broadcastInDim S33600x80 ![] bcast_S_S33600x80 : C F S_ .f32 → C F S33600x80 .f32),
   binary main_v163 main_v140 main_v164 (subf : C F S33600x80 .f32 → C F S33600x80 .f32 → C F S33600x80 .f32),
   unary main_v164 main_v165 (broadcastInDim S1x33600x80 ![1, 2] bcast_S33600x80_S1x33600x80_1_2 : C F S33600x80 .f32 → C F S1x33600x80 .f32),
   unary main_v165 main_v166 (broadcastInDim S8x33600x80 ![0, 1, 2] bcast_S1x33600x80_S8x33600x80_0_1_2 : C F S1x33600x80 .f32 → C F S8x33600x80 .f32),
   binary main_v162 main_v166 main_v167 (mulf : C F S8x33600x80 .f32 → C F S8x33600x80 .f32 → C F S8x33600x80 .f32),
   binary main_v160 main_v167 main_v168 (addf : C F S8x33600x80 .f32 → C F S8x33600x80 .f32 → C F S8x33600x80 .f32),
   nullary main_cst_18 ((constant S_ .f32 0x3F800000#32) : C F S_ .f32),
   unary main_cst_18 main_v169 (broadcastInDim S8x33600x80 ![] bcast_S_S8x33600x80 : C F S_ .f32 → C F S8x33600x80 .f32),
   binary main_v169 main_v168 main_v170 (subf : C F S8x33600x80 .f32 → C F S8x33600x80 .f32 → C F S8x33600x80 .f32),
   nullary main_cst_19 ((constant S_ .f32 0x40000000#32) : C F S_ .f32),
   unary main_cst_19 main_v171 (broadcastInDim S8x33600x80 ![] bcast_S_S8x33600x80 : C F S_ .f32 → C F S8x33600x80 .f32),
   binary main_v170 main_v171 main_v172 (Host.powf : C F S8x33600x80 .f32 → C F S8x33600x80 .f32 → C F S8x33600x80 .f32),
   binary main_v157 main_v172 main_v173 (mulf : C F S8x33600x80 .f32 → C F S8x33600x80 .f32 → C F S8x33600x80 .f32),
   nullary main_cst_20 ((constant S_ .f32 0x3E800000#32) : C F S_ .f32),
   unary main_cst_20 main_v174 (broadcastInDim S33600x80 ![] bcast_S_S33600x80 : C F S_ .f32 → C F S33600x80 .f32),
   binary main_v174 main_v140 main_v175 (mulf : C F S33600x80 .f32 → C F S33600x80 .f32 → C F S33600x80 .f32),
   nullary main_cst_21 ((constant S_ .f32 0x3F800000#32) : C F S_ .f32),
   unary main_cst_21 main_v176 (broadcastInDim S33600x80 ![] bcast_S_S33600x80 : C F S_ .f32 → C F S33600x80 .f32),
   binary main_v176 main_v140 main_v177 (subf : C F S33600x80 .f32 → C F S33600x80 .f32 → C F S33600x80 .f32),
   nullary main_cst_22 ((constant S_ .f32 0x3F400000#32) : C F S_ .f32),
   unary main_cst_22 main_v178 (broadcastInDim S33600x80 ![] bcast_S_S33600x80 : C F S_ .f32 → C F S33600x80 .f32),
   binary main_v178 main_v177 main_v179 (mulf : C F S33600x80 .f32 → C F S33600x80 .f32 → C F S33600x80 .f32),
   binary main_v175 main_v179 main_v180 (addf : C F S33600x80 .f32 → C F S33600x80 .f32 → C F S33600x80 .f32),
   unary main_v180 main_v181 (broadcastInDim S1x33600x80 ![1, 2] bcast_S33600x80_S1x33600x80_1_2 : C F S33600x80 .f32 → C F S1x33600x80 .f32),
   unary main_v181 main_v182 (broadcastInDim S8x33600x80 ![0, 1, 2] bcast_S1x33600x80_S8x33600x80_0_1_2 : C F S1x33600x80 .f32 → C F S8x33600x80 .f32),
   binary main_v182 main_v173 main_v183 (mulf : C F S8x33600x80 .f32 → C F S8x33600x80 .f32 → C F S8x33600x80 .f32),
   nullary main_cst_23 ((constant S_ .f32 0x00000000#32) : C F S_ .f32),
   unary main_cst_23 main_v184 (broadcastInDim S33600x80 ![] bcast_S_S33600x80 : C F S_ .f32 → C F S33600x80 .f32),
   unary main_arg0 main_v185 (Host.negf : C F S8x33600x80 .f32 → C F S8x33600x80 .f32),
   unary main_v185 main_v186 (Host.exp : C F S8x33600x80 .f32 → C F S8x33600x80 .f32),
   nullary main_cst_24 ((constant S_ .f32 0x3F800000#32) : C F S_ .f32),
   unary main_cst_24 main_v187 (broadcastInDim S8x33600x80 ![] bcast_S_S8x33600x80 : C F S_ .f32 → C F S8x33600x80 .f32),
   binary main_v187 main_v186 main_v188 (addf : C F S8x33600x80 .f32 → C F S8x33600x80 .f32 → C F S8x33600x80 .f32),
   nullary main_cst_25 ((constant S_ .f32 0x3F800000#32) : C F S_ .f32),
   unary main_cst_25 main_v189 (broadcastInDim S8x33600x80 ![] bcast_S_S8x33600x80 : C F S_ .f32 → C F S8x33600x80 .f32),
   binary main_v189 main_v188 main_v190 (Host.divf : C F S8x33600x80 .f32 → C F S8x33600x80 .f32 → C F S8x33600x80 .f32),
   nullary main_cst_26 ((constant S_ .f32 0x00000000#32) : C F S_ .f32),
   unary main_cst_26 main_v191 (broadcastInDim S8x33600x80 ![] bcast_S_S8x33600x80 : C F S_ .f32 → C F S8x33600x80 .f32),
   binary main_arg0 main_v191 main_v192 (maximumf : C F S8x33600x80 .f32 → C F S8x33600x80 .f32 → C F S8x33600x80 .f32),
   unary main_v184 main_v193 (broadcastInDim S1x33600x80 ![1, 2] bcast_S33600x80_S1x33600x80_1_2 : C F S33600x80 .f32 → C F S1x33600x80 .f32),
   unary main_v193 main_v194 (broadcastInDim S8x33600x80 ![0, 1, 2] bcast_S1x33600x80_S8x33600x80_0_1_2 : C F S1x33600x80 .f32 → C F S8x33600x80 .f32),
   binary main_arg0 main_v194 main_v195 (mulf : C F S8x33600x80 .f32 → C F S8x33600x80 .f32 → C F S8x33600x80 .f32),
   binary main_v192 main_v195 main_v196 (subf : C F S8x33600x80 .f32 → C F S8x33600x80 .f32 → C F S8x33600x80 .f32),
   unary main_arg0 main_v197 (Host.absf : C F S8x33600x80 .f32 → C F S8x33600x80 .f32),
   unary main_v197 main_v198 (Host.negf : C F S8x33600x80 .f32 → C F S8x33600x80 .f32),
   unary main_v198 main_v199 (Host.exp : C F S8x33600x80 .f32 → C F S8x33600x80 .f32),
   unary main_v199 main_v200 (Host.log1p : C F S8x33600x80 .f32 → C F S8x33600x80 .f32),
   binary main_v196 main_v200 main_v201 (addf : C F S8x33600x80 .f32 → C F S8x33600x80 .f32 → C F S8x33600x80 .f32),
   unary main_v184 main_v202 (broadcastInDim S1x33600x80 ![1, 2] bcast_S33600x80_S1x33600x80_1_2 : C F S33600x80 .f32 → C F S1x33600x80 .f32),
   unary main_v202 main_v203 (broadcastInDim S8x33600x80 ![0, 1, 2] bcast_S1x33600x80_S8x33600x80_0_1_2 : C F S1x33600x80 .f32 → C F S8x33600x80 .f32),
   binary main_v190 main_v203 main_v204 (mulf : C F S8x33600x80 .f32 → C F S8x33600x80 .f32 → C F S8x33600x80 .f32),
   nullary main_cst_27 ((constant S_ .f32 0x3F800000#32) : C F S_ .f32),
   unary main_cst_27 main_v205 (broadcastInDim S8x33600x80 ![] bcast_S_S8x33600x80 : C F S_ .f32 → C F S8x33600x80 .f32),
   binary main_v205 main_v190 main_v206 (subf : C F S8x33600x80 .f32 → C F S8x33600x80 .f32 → C F S8x33600x80 .f32),
   nullary main_cst_28 ((constant S_ .f32 0x3F800000#32) : C F S_ .f32),
   unary main_cst_28 main_v207 (broadcastInDim S33600x80 ![] bcast_S_S33600x80 : C F S_ .f32 → C F S33600x80 .f32),
   binary main_v207 main_v184 main_v208 (subf : C F S33600x80 .f32 → C F S33600x80 .f32 → C F S33600x80 .f32)]

/-- Operations of the window `part4`. -/
abbrev ops_part4 : List (Op F) :=
  [unary main_v208 main_v209 (broadcastInDim S1x33600x80 ![1, 2] bcast_S33600x80_S1x33600x80_1_2 : C F S33600x80 .f32 → C F S1x33600x80 .f32),
   unary main_v209 main_v210 (broadcastInDim S8x33600x80 ![0, 1, 2] bcast_S1x33600x80_S8x33600x80_0_1_2 : C F S1x33600x80 .f32 → C F S8x33600x80 .f32),
   binary main_v206 main_v210 main_v211 (mulf : C F S8x33600x80 .f32 → C F S8x33600x80 .f32 → C F S8x33600x80 .f32),
   binary main_v204 main_v211 main_v212 (addf : C F S8x33600x80 .f32 → C F S8x33600x80 .f32 → C F S8x33600x80 .f32),
   nullary main_cst_29 ((constant S_ .f32 0x3F800000#32) : C F S_ .f32),
   unary main_cst_29 main_v213 (broadcastInDim S8x33600x80 ![] bcast_S_S8x33600x80 : C F S_ .f32 → C F S8x33600x80 .f32),
   binary main_v213 main_v212 main_v214 (subf : C F S8x33600x80 .f32 → C F S8x33600x80 .f32 → C F S8x33600x80 .f32),
   nullary main_cst_30 ((constant S_ .f32 0x40000000#32) : C F S_ .f32),
   unary main_cst_30 main_v215 (broadcastInDim S8x33600x80 ![] bcast_S_S8x33600x80 : C F S_ .f32 → C F S8x33600x80 .f32),
   binary main_v214 main_v215 main_v216 (Host.powf : C F S8x33600x80 .f32 → C F S8x33600x80 .f32 → C F S8x33600x80 .f32),
   binary main_v201 main_v216 main_v217 (mulf : C F S8x33600x80 .f32 → C F S8x33600x80 .f32 → C F S8x33600x80 .f32),
   nullary main_cst_31 ((constant S_ .f32 0x3E800000#32) : C F S_ .f32),
   unary main_cst_31 main_v218 (broadcastInDim S33600x80 ![] bcast_S_S33600x80 : C F S_ .f32 → C F S33600x80 .f32),
   binary main_v218 main_v184 main_v219 (mulf : C F S33600x80 .f32 → C F S33600x80 .f32 → C F S33600x80 .f32),
   nullary main_cst_32 ((constant S_ .f32 0x3F800000#32) : C F S_ .f32),
   unary main_cst_32 main_v220 (broadcastInDim S33600x80 ![] bcast_S_S33600x80 : C F S_ .f32 → C F S33600x80 .f32),
   binary main_v220 main_v184 main_v221 (subf : C F S33600x80 .f32 → C F S33600x80 .f32 → C F S33600x80 .f32),
   nullary main_cst_33 ((constant S_ .f32 0x3F400000#32) : C F S_ .f32),
   unary main_cst_33 main_v222 (broadcastInDim S33600x80 ![] bcast_S_S33600x80 : C F S_ .f32 → C F S33600x80 .f32),
   binary main_v222 main_v221 main_v223 (mulf : C F S33600x80 .f32 → C F S33600x80 .f32 → C F S33600x80 .f32),
   binary main_v219 main_v223 main_v224 (addf : C F S33600x80 .f32 → C F S33600x80 .f32 → C F S33600x80 .f32),
   unary main_v224 main_v225 (broadcastInDim S1x33600x80 ![1, 2] bcast_S33600x80_S1x33600x80_1_2 : C F S33600x80 .f32 → C F S1x33600x80 .f32),
   unary main_v225 main_v226 (broadcastInDim S8x33600x80 ![0, 1, 2] bcast_S1x33600x80_S8x33600x80_0_1_2 : C F S1x33600x80 .f32 → C F S8x33600x80 .f32),
   binary main_v226 main_v217 main_v227 (mulf : C F S8x33600x80 .f32 → C F S8x33600x80 .f32 → C F S8x33600x80 .f32),
   nullary main_cst_34 ((constant S_ .f32 0x00000000#32) : C F S_ .f32),
   binary main_v227 main_cst_34 main_v228 ((fun x v => Host.reduceAdd x v reducesTo_S8x33600x80_S8x33600_d2 h_S_) : C F S8x33600x80 .f32 → C F S_ .f32 → C F S8x33600 .f32),
   unary main_v228 main_v229 (broadcastInDim S8x1x33600 ![0, 2] bcast_S8x33600_S8x1x33600_0_2 : C F S8x33600 .f32 → C F S8x1x33600 .f32),
   nullary main_c_35 ((constantI S_ 32 0#32) : C F S_ .i32),
   unary main_c_35 main_v230 (broadcastInDim S8x60 ![] bcast_S_S8x60 : C F S_ .i32 → C F S8x60 .i32),
   binary main_arg5 main_v230 main_v231 (cmpi .slt : C F S8x60 .i32 → C F S8x60 .i32 → C F S8x60 .i1),
   nullary main_c_36 ((constantI S_ 32 80#32) : C F S_ .i32),
   unary main_c_36 main_v232 (broadcastInDim S8x60 ![] bcast_S_S8x60 : C F S_ .i32 → C F S8x60 .i32),
   binary main_arg5 main_v232 main_v233 (addi : C F S8x60 .i32 → C F S8x60 .i32 → C F S8x60 .i32),
   ternary main_v231 main_v233 main_arg5 main_v234 (select : C F S8x60 .i1 → C F S8x60 .i32 → C F S8x60 .i32 → C F S8x60 .i32),
   unary main_v234 main_v235 (broadcastInDim S8x60x1 ![0, 1] bcast_S8x60_S8x60x1_0_1 : C F S8x60 .i32 → C F S8x60x1 .i32),
   binary main_v227 main_v235 main_v236 ((fun x i => Host.gather gather_S8x33600x80_S8x60x1_S8x33600x60_1_2_0_0_2_2_1336001 x i) : C F S8x33600x80 .f32 → C F S8x60x1 .i32 → C F S8x33600x60 .f32),
   unary main_v236 main_v237 ((transpose S8x60x33600 [0, 2, 1] · transposes_S8x33600x60_S8x60x33600_0_2_1) : C F S8x33600x60 .f32 → C F S8x60x33600 .f32),
   unary main_v229 main_v238 (broadcastInDim S8x60x33600 ![0, 1, 2] bcast_S8x1x33600_S8x60x33600_0_1_2 : C F S8x1x33600 .f32 → C F S8x60x33600 .f32),
   binary main_v238 main_v237 main_v239 (subf : C F S8x60x33600 .f32 → C F S8x60x33600 .f32 → C F S8x60x33600 .f32),
   nullary main_c_37 ((constantI S_ 32 0#32) : C F S_ .i32),
   unary main_c_37 main_v240 (broadcastInDim S8x60 ![] bcast_S_S8x60 : C F S_ .i32 → C F S8x60 .i32),
   binary main_arg5 main_v240 main_v241 (cmpi .slt : C F S8x60 .i32 → C F S8x60 .i32 → C F S8x60 .i1),
   nullary main_c_38 ((constantI S_ 32 80#32) : C F S_ .i32),
   unary main_c_38 main_v242 (broadcastInDim S8x60 ![] bcast_S_S8x60 : C F S_ .i32 → C F S8x60 .i32),
   binary main_arg5 main_v242 main_v243 (addi : C F S8x60 .i32 → C F S8x60 .i32 → C F S8x60 .i32),
   ternary main_v241 main_v243 main_arg5 main_v244 (select : C F S8x60 .i1 → C F S8x60 .i32 → C F S8x60 .i32 → C F S8x60 .i32),
   unary main_v244 main_v245 (broadcastInDim S8x60x1 ![0, 1] bcast_S8x60_S8x60x1_0_1 : C F S8x60 .i32 → C F S8x60x1 .i32),
   binary main_v183 main_v245 main_v246 ((fun x i => Host.gather gather_S8x33600x80_S8x60x1_S8x33600x60_1_2_0_0_2_2_1336001 x i) : C F S8x33600x80 .f32 → C F S8x60x1 .i32 → C F S8x33600x60 .f32),
   unary main_v246 main_v247 ((transpose S8x60x33600 [0, 2, 1] · transposes_S8x33600x60_S8x60x33600_0_2_1) : C F S8x33600x60 .f32 → C F S8x60x33600 .f32),
   binary main_v239 main_v247 main_v248 (addf : C F S8x60x33600 .f32 → C F S8x60x33600 .f32 → C F S8x60x33600 .f32),
   nullary main_cst_39 ((constant S_ .f32 0x40400000#32) : C F S_ .f32),
   unary main_cst_39 main_v249 (broadcastInDim S8x60x33600 ![] bcast_S_S8x60x33600 : C F S_ .f32 → C F S8x60x33600 .f32),
   binary main_v249 main_v139 main_v250 (mulf : C F S8x60x33600 .f32 → C F S8x60x33600 .f32 → C F S8x60x33600 .f32),
   binary main_v248 main_v250 main_v251 (addf : C F S8x60x33600 .f32 → C F S8x60x33600 .f32 → C F S8x60x33600 .f32),
   unary main_v74 main_v252 (noti : C F S8x60x33600 .i1 → C F S8x60x33600 .i1),
   unary main_v252 main_v253 (uitofp .f32 : C F S8x60x33600 .i1 → C F S8x60x33600 .f32),
   nullary main_cst_40 ((constant S_ .f32 0x47C35000#32) : C F S_ .f32),
   unary main_cst_40 main_v254 (broadcastInDim S8x60x33600 ![] bcast_S_S8x60x33600 : C F S_ .f32 → C F S8x60x33600 .f32),
   binary main_v254 main_v253 main_v255 (mulf : C F S8x60x33600 .f32 → C F S8x60x33600 .f32 → C F S8x60x33600 .f32),
   unary main_v255 main_v256 (id : C F S8x60x33600 .f32 → C F S8x60x33600 .f32)]

/-- Operations of the window `part5_0`. -/
abbrev ops_part5_0 : List (Op F) :=
  [binary main_v251 main_v256 main_v257 (addf : C F S8x60x33600 .f32 → C F S8x60x33600 .f32 → C F S8x60x33600 .f32),
   unary main_v73 main_v258 (noti : C F S8x33600 .i1 → C F S8x33600 .i1),
   unary main_v258 main_v259 (broadcastInDim S8x1x33600 ![0, 2] bcast_S8x33600_S8x1x33600_0_2 : C F S8x33600 .i1 → C F S8x1x33600 .i1),
   unary main_v259 main_v260 (uitofp .f32 : C F S8x1x33600 .i1 → C F S8x1x33600 .f32),
   nullary main_cst_41 ((constant S_ .f32 0x47C35000#32) : C F S_ .f32),
   unary main_cst_41 main_v261 (broadcastInDim S8x1x33600 ![] bcast_S_S8x1x33600 : C F S_ .f32 → C F S8x1x33600 .f32),
   binary main_v261 main_v260 main_v262 (mulf : C F S8x1x33600 .f32 → C F S8x1x33600 .f32 → C F S8x1x33600 .f32),
   unary main_v262 main_v263 (id : C F S8x1x33600 .f32 → C F S8x1x33600 .f32),
   unary main_v263 main_v264 (broadcastInDim S8x60x33600 ![0, 1, 2] bcast_S8x1x33600_S8x60x33600_0_1_2 : C F S8x1x33600 .f32 → C F S8x60x33600 .f32),
   binary main_v257 main_v264 main_v265 (addf : C F S8x60x33600 .f32 → C F S8x60x33600 .f32 → C F S8x60x33600 .f32),
   unary main_v73 main_v266 (broadcastInDim S8x1x33600 ![0, 2] bcast_S8x33600_S8x1x33600_0_2 : C F S8x33600 .i1 → C F S8x1x33600 .i1),
   nullary main_cst_42 ((constant S_ .f32 0x00000000#32) : C F S_ .f32),
   unary main_cst_42 main_call0_v0 (id : C F S_ .f32 → C F S_ .f32),
   unary main_v266 main_call0_v1 ((broadcastInDim S8x60x33600 ![0, 1, 2] bcast_S8x1x33600_S8x60x33600_0_1_2) : C F S8x1x33600 .i1 → C F S8x60x33600 .i1),
   unary main_call0_v0 main_call0_v2 ((broadcastInDim S60x33600 ![] bcast_S_S60x33600) : C F S_ .f32 → C F S60x33600 .f32),
   unary main_call0_v2 main_call0_v3 ((broadcastInDim S8x60x33600 ![1, 2] bcast_S60x33600_S8x60x33600_1_2) : C F S60x33600 .f32 → C F S8x60x33600 .f32),
   ternary main_call0_v1 main_v135 main_call0_v3 main_v267 (select : C F S8x60x33600 .i1 → C F S8x60x33600 .f32 → C F S8x60x33600 .f32 → C F S8x60x33600 .f32),
   unary main_v267 main_values ((fun x => (Host.topK S8x60x10 2 (FloatOps.cmpfTotal .gt) x sliceFits_S8x60x33600_S8x60x10).1) : C F S8x60x33600 .f32 → C F S8x60x10 .f32),
   unary main_v267 main_indices ((fun x => (Host.topK S8x60x10 2 (FloatOps.cmpfTotal .gt) x sliceFits_S8x60x33600_S8x60x10).2) : C F S8x60x33600 .f32 → C F S8x60x10 .i32),
   nullary main_cst_43 ((constant S_ .f32 0x00000000#32) : C F S_ .f32),
   binary main_values main_cst_43 main_v268 ((fun x v => Host.reduceAdd x v reducesTo_S8x60x10_S8x60_d2 h_S_) : C F S8x60x10 .f32 → C F S_ .f32 → C F S8x60 .f32),
   unary main_v268 main_v269 (fptosi 32 : C F S8x60 .f32 → C F S8x60 .i32),
   nullary main_c_44 ((constantI S_ 32 1#32) : C F S_ .i32),
   unary main_c_44 main_v270 (broadcastInDim S8x60 ![] bcast_S_S8x60 : C F S_ .i32 → C F S8x60 .i32),
   binary main_v269 main_v270 main_v271 (maxsi : C F S8x60 .i32 → C F S8x60 .i32 → C F S8x60 .i32),
   nullary main_call1_v0 ((iotaInDim S60x33600 32 1) : C F S60x33600 .i32),
   unary main_call1_v0 main_call1_v1 ((broadcastInDim S8x60x33600 ![1, 2] bcast_S60x33600_S8x60x33600_1_2) : C F S60x33600 .i32 → C F S8x60x33600 .i32),
   binary main_v265 main_call1_v1 main_call1_v2_0 ((fun x y => (Host.sort2 S8x60x33600 2 comparator_f32_i32_d2 x y).1) : C F S8x60x33600 .f32 → C F S8x60x33600 .i32 → C F S8x60x33600 .f32),
   binary main_v265 main_call1_v1 main_v272 ((fun x y => (Host.sort2 S8x60x33600 2 comparator_f32_i32_d2 x y).2) : C F S8x60x33600 .f32 → C F S8x60x33600 .i32 → C F S8x60x33600 .i32),
   nullary main_call2_v0 ((iotaInDim S60x33600 32 1) : C F S60x33600 .i32)]

/-- Operations of the window `part5_1`. -/
abbrev ops_part5_1 : List (Op F) :=
  [unary main_call2_v0 main_call2_v1 ((broadcastInDim S8x60x33600 ![1, 2] bcast_S60x33600_S8x60x33600_1_2) : C F S60x33600 .i32 → C F S8x60x33600 .i32),
   binary main_v272 main_call2_v1 main_call2_v2_0 ((fun x y => (Host.sort2 S8x60x33600 2 comparator_i32_i32_d2 x y).1) : C F S8x60x33600 .i32 → C F S8x60x33600 .i32 → C F S8x60x33600 .i32),
   binary main_v272 main_call2_v1 main_v273 ((fun x y => (Host.sort2 S8x60x33600 2 comparator_i32_i32_d2 x y).2) : C F S8x60x33600 .i32 → C F S8x60x33600 .i32 → C F S8x60x33600 .i32),
   unary main_v271 main_v274 (broadcastInDim S8x60x1 ![0, 1] bcast_S8x60_S8x60x1_0_1 : C F S8x60 .i32 → C F S8x60x1 .i32),
   unary main_v274 main_v275 (broadcastInDim S8x60x33600 ![0, 1, 2] bcast_S8x60x1_S8x60x33600_0_1_2 : C F S8x60x1 .i32 → C F S8x60x33600 .i32),
   binary main_v273 main_v275 main_v276 (cmpi .slt : C F S8x60x33600 .i32 → C F S8x60x33600 .i32 → C F S8x60x33600 .i1),
   unary main_v276 main_v277 (uitofp .f32 : C F S8x60x33600 .i1 → C F S8x60x33600 .f32),
   nullary main_cst_45 ((constant S_ .f32 0x00000000#32) : C F S_ .f32),
   binary main_v277 main_cst_45 main_v278 ((fun x v => Host.reduceAdd x v reducesTo_S8x60x33600_S8x33600_d1 h_S_) : C F S8x60x33600 .f32 → C F S_ .f32 → C F S8x33600 .f32),
   nullary main_cst_46 ((constant S_ .f32 0x3F800000#32) : C F S_ .f32),
   unary main_cst_46 main_v279 (broadcastInDim S8x33600 ![] bcast_S_S8x33600 : C F S_ .f32 → C F S8x33600 .f32),
   binary main_v278 main_v279 main_v280 (cmpf .ogt : C F S8x33600 .f32 → C F S8x33600 .f32 → C F S8x33600 .i1),
   nullary main_call3_v0 ((iotaInDim S8x60x33600 32 1) : C F S8x60x33600 .i32),
   nullary main_call3_cst ((constant S_ .f32 0x7F800000#32) : C F S_ .f32),
   nullary main_call3_c ((constantI S_ 32 0#32) : C F S_ .i32),
   quaternary main_v265 main_call3_v0 main_call3_cst main_call3_c main_call3_v1_0 ((fun x y u v j => (Host.argReduce reducer_argmin_f32_i32 x y u v reducesTo_S8x60x33600_S8x33600_d1 h_S_ j).1) : C F S8x60x33600 .f32 → C F S8x60x33600 .i32 → C F S_ .f32 → C F S_ .i32 → C F S8x33600 .f32),
   quaternary main_v265 main_call3_v0 main_call3_cst main_call3_c main_v281 ((fun x y u v j => (Host.argReduce reducer_argmin_f32_i32 x y u v reducesTo_S8x60x33600_S8x33600_d1 h_S_ j).2) : C F S8x60x33600 .f32 → C F S8x60x33600 .i32 → C F S_ .f32 → C F S_ .i32 → C F S8x33600 .i32),
   unary main_v281 main_call4_v0 ((broadcastInDim S8x33600x1 ![0, 1] bcast_S8x33600_S8x33600x1_0_1) : C F S8x33600 .i32 → C F S8x33600x1 .i32),
   nullary main_call4_v1 ((iotaInDim S1x60 32 1) : C F S1x60 .i32),
   unary main_call4_v1 main_call4_v2 ((broadcastInDim S1x1x60 ![1, 2] bcast_S1x60_S1x1x60_1_2) : C F S1x60 .i32 → C F S1x1x60 .i32),
   unary main_call4_v0 main_call4_v3 ((broadcastInDim S8x33600x60 ![0, 1, 2] bcast_S8x33600x1_S8x33600x60_0_1_2) : C F S8x33600x1 .i32 → C F S8x33600x60 .i32),
   unary main_call4_v2 main_call4_v4 ((broadcastInDim S8x33600x60 ![0, 1, 2] bcast_S1x1x60_S8x33600x60_0_1_2) : C F S1x1x60 .i32 → C F S8x33600x60 .i32),
   binary main_call4_v3 main_call4_v4 main_call4_v5 ((cmpi .eq) : C F S8x33600x60 .i32 → C F S8x33600x60 .i32 → C F S8x33600x60 .i1),
   unary main_call4_v5 main_v282 ((uitofp .f32) : C F S8x33600x60 .i1 → C F S8x33600x60 .f32),
   unary main_v282 main_v283 ((transpose S8x60x33600 [0, 2, 1] · transposes_S8x33600x60_S8x60x33600_0_2_1) : C F S8x33600x60 .f32 → C F S8x60x33600 .f32),
   unary main_v280 main_v284 (broadcastInDim S8x1x33600 ![0, 2] bcast_S8x33600_S8x1x33600_0_2 : C F S8x33600 .i1 → C F S8x1x33600 .i1),
   unary main_v284 main_call5_v0 ((broadcastInDim S8x60x33600 ![0, 1, 2] bcast_S8x1x33600_S8x60x33600_0_1_2) : C F S8x1x33600 .i1 → C F S8x60x33600 .i1),
   ternary main_call5_v0 main_v283 main_v277 main_v285 (select : C F S8x60x33600 .i1 → C F S8x60x33600 .f32 → C F S8x60x33600 .f32 → C F S8x60x33600 .f32),
   nullary main_cst_47 ((constant S_ .f32 0x00000000#32) : C F S_ .f32),
   binary main_v285 main_cst_47 main_v286 ((fun x v => Host.reduceAdd x v reducesTo_S8x60x33600_S8x33600_d1 h_S_) : C F S8x60x33600 .f32 → C F S_ .f32 → C F S8x33600 .f32)]

/-- Operations of the window `part5_2`. -/
abbrev ops_part5_2 : List (Op F) :=
  [nullary main_cst_48 ((constant S_ .f32 0x00000000#32) : C F S_ .f32),
   unary main_cst_48 main_v287 (broadcastInDim S8x33600 ![] bcast_S_S8x33600 : C F S_ .f32 → C F S8x33600 .f32),
   binary main_v286 main_v287 main_v288 (cmpf .ogt : C F S8x33600 .f32 → C F S8x33600 .f32 → C F S8x33600 .i1),
   binary main_v288 main_v73 main_v289 (andi : C F S8x33600 .i1 → C F S8x33600 .i1 → C F S8x33600 .i1),
   nullary main_call6_v0 ((iotaInDim S8x60x33600 32 1) : C F S8x60x33600 .i32),
   nullary main_call6_cst ((constant S_ .f32 0xFF800000#32) : C F S_ .f32),
   nullary main_call6_c ((constantI S_ 32 0#32) : C F S_ .i32),
   quaternary main_v285 main_call6_v0 main_call6_cst main_call6_c main_call6_v1_0 ((fun x y u v j => (Host.argReduce reducer_argmax_f32_i32 x y u v reducesTo_S8x60x33600_S8x33600_d1 h_S_ j).1) : C F S8x60x33600 .f32 → C F S8x60x33600 .i32 → C F S_ .f32 → C F S_ .i32 → C F S8x33600 .f32),
   quaternary main_v285 main_call6_v0 main_call6_cst main_call6_c main_v290 ((fun x y u v j => (Host.argReduce reducer_argmax_f32_i32 x y u v reducesTo_S8x60x33600_S8x33600_d1 h_S_ j).2) : C F S8x60x33600 .f32 → C F S8x60x33600 .i32 → C F S_ .f32 → C F S_ .i32 → C F S8x33600 .i32),
   nullary main_c_49 ((constantI S_ 32 0#32) : C F S_ .i32),
   unary main_c_49 main_v291 (broadcastInDim S8x33600 ![] bcast_S_S8x33600 : C F S_ .i32 → C F S8x33600 .i32),
   binary main_v290 main_v291 main_v292 (cmpi .slt : C F S8x33600 .i32 → C F S8x33600 .i32 → C F S8x33600 .i1),
   nullary main_c_50 ((constantI S_ 32 60#32) : C F S_ .i32),
   unary main_c_50 main_v293 (broadcastInDim S8x33600 ![] bcast_S_S8x33600 : C F S_ .i32 → C F S8x33600 .i32),
   binary main_v290 main_v293 main_v294 (addi : C F S8x33600 .i32 → C F S8x33600 .i32 → C F S8x33600 .i32),
   ternary main_v292 main_v294 main_v290 main_v295 (select : C F S8x33600 .i1 → C F S8x33600 .i32 → C F S8x33600 .i32 → C F S8x33600 .i32),
   unary main_v295 main_v296 (broadcastInDim S8x33600x1 ![0, 1] bcast_S8x33600_S8x33600x1_0_1 : C F S8x33600 .i32 → C F S8x33600x1 .i32),
   binary main_arg5 main_v296 main_v297 ((fun x i => Host.gather gather_S8x60_S8x33600x1_S8x33600_n_1_0_0_1_2_11 x i) : C F S8x60 .i32 → C F S8x33600x1 .i32 → C F S8x33600 .i32),
   nullary main_c_51 ((constantI S_ 32 80#32) : C F S_ .i32),
   unary main_c_51 main_call7_v0 (id : C F S_ .i32 → C F S_ .i32),
   unary main_call7_v0 main_call7_v1 ((broadcastInDim S33600 ![] bcast_S_S33600) : C F S_ .i32 → C F S33600 .i32),
   unary main_call7_v1 main_call7_v2 ((broadcastInDim S8x33600 ![1] bcast_S33600_S8x33600_1) : C F S33600 .i32 → C F S8x33600 .i32),
   ternary main_v289 main_v297 main_call7_v2 main_v298 (select : C F S8x33600 .i1 → C F S8x33600 .i32 → C F S8x33600 .i32 → C F S8x33600 .i32),
   unary main_v289 main_v299 (broadcastInDim S8x33600x1 ![0, 1] bcast_S8x33600_S8x33600x1_0_1 : C F S8x33600 .i1 → C F S8x33600x1 .i1),
   nullary main_c_52 ((constantI S_ 32 0#32) : C F S_ .i32),
   unary main_c_52 main_v300 (broadcastInDim S8x33600 ![] bcast_S_S8x33600 : C F S_ .i32 → C F S8x33600 .i32),
   binary main_v290 main_v300 main_v301 (cmpi .slt : C F S8x33600 .i32 → C F S8x33600 .i32 → C F S8x33600 .i1),
   nullary main_c_53 ((constantI S_ 32 60#32) : C F S_ .i32)]

/-- Operations of the window `part6_0`. -/
abbrev ops_part6_0 : List (Op F) :=
  [unary main_c_53 main_v302 (broadcastInDim S8x33600 ![] bcast_S_S8x33600 : C F S_ .i32 → C F S8x33600 .i32),
   binary main_v290 main_v302 main_v303 (addi : C F S8x33600 .i32 → C F S8x33600 .i32 → C F S8x33600 .i32),
   ternary main_v301 main_v303 main_v290 main_v304 (select : C F S8x33600 .i1 → C F S8x33600 .i32 → C F S8x33600 .i32 → C F S8x33600 .i32),
   unary main_v304 main_v305 (broadcastInDim S8x33600x1 ![0, 1] bcast_S8x33600_S8x33600x1_0_1 : C F S8x33600 .i32 → C F S8x33600x1 .i32),
   binary main_arg6 main_v305 main_v306 ((fun x i => Host.gather gather_S8x60x4_S8x33600x1_S8x33600x4_2_1_0_0_1_2_114 x i) : C F S8x60x4 .f32 → C F S8x33600x1 .i32 → C F S8x33600x4 .f32),
   nullary main_cst_54 ((constant S_ .f32 0x00000000#32) : C F S_ .f32),
   unary main_cst_54 main_call8_v0 (id : C F S_ .f32 → C F S_ .f32),
   unary main_v299 main_call8_v1 ((broadcastInDim S8x33600x4 ![0, 1, 2] bcast_S8x33600x1_S8x33600x4_0_1_2) : C F S8x33600x1 .i1 → C F S8x33600x4 .i1),
   unary main_call8_v0 main_call8_v2 ((broadcastInDim S33600x4 ![] bcast_S_S33600x4) : C F S_ .f32 → C F S33600x4 .f32),
   unary main_call8_v2 main_call8_v3 ((broadcastInDim S8x33600x4 ![1, 2] bcast_S33600x4_S8x33600x4_1_2) : C F S33600x4 .f32 → C F S8x33600x4 .f32),
   ternary main_call8_v1 main_v306 main_call8_v3 main_v307 (select : C F S8x33600x4 .i1 → C F S8x33600x4 .f32 → C F S8x33600x4 .f32 → C F S8x33600x4 .f32),
   nullary main_v308 ((iotaInDim S33600 32 0) : C F S33600 .i32),
   nullary main_c_55 ((constantI S_ 32 0#32) : C F S_ .i32),
   unary main_c_55 main_v309 (broadcastInDim S8x33600 ![] bcast_S_S8x33600 : C F S_ .i32 → C F S8x33600 .i32),
   binary main_v290 main_v309 main_v310 (cmpi .slt : C F S8x33600 .i32 → C F S8x33600 .i32 → C F S8x33600 .i1),
   nullary main_c_56 ((constantI S_ 32 60#32) : C F S_ .i32),
   unary main_c_56 main_v311 (broadcastInDim S8x33600 ![] bcast_S_S8x33600 : C F S_ .i32 → C F S8x33600 .i32),
   binary main_v290 main_v311 main_v312 (addi : C F S8x33600 .i32 → C F S8x33600 .i32 → C F S8x33600 .i32),
   ternary main_v310 main_v312 main_v290 main_v313 (select : C F S8x33600 .i1 → C F S8x33600 .i32 → C F S8x33600 .i32 → C F S8x33600 .i32),
   nullary main_c_57 ((constantI S_ 32 0#32) : C F S_ .i32),
   unary main_c_57 main_v314 (broadcastInDim S33600 ![] bcast_S_S33600 : C F S_ .i32 → C F S33600 .i32),
   binary main_v308 main_v314 main_v315 (cmpi .slt : C F S33600 .i32 → C F S33600 .i32 → C F S33600 .i1),
   nullary main_c_58 ((constantI S_ 32 33600#32) : C F S_ .i32),
   unary main_c_58 main_v316 (broadcastInDim S33600 ![] bcast_S_S33600 : C F S_ .i32 → C F S33600 .i32),
   binary main_v308 main_v316 main_v317 (addi : C F S33600 .i32 → C F S33600 .i32 → C F S33600 .i32),
   ternary main_v315 main_v317 main_v308 main_v318 (select : C F S33600 .i1 → C F S33600 .i32 → C F S33600 .i32 → C F S33600 .i32),
   unary main_v313 main_v319 (broadcastInDim S8x33600x1 ![0, 1] bcast_S8x33600_S8x33600x1_0_1 : C F S8x33600 .i32 → C F S8x33600x1 .i32),
   unary main_v318 main_v320 (broadcastInDim S33600x1 ![0] bcast_S33600_S33600x1_0 : C F S33600 .i32 → C F S33600x1 .i32),
   unary main_v320 main_v321 (broadcastInDim S8x33600x1 ![1, 2] bcast_S33600x1_S8x33600x1_1_2 : C F S33600x1 .i32 → C F S8x33600x1 .i32),
   binary main_v319 main_v321 main_v322 ((fun a b => concatenate S8x33600x2 2 [⟨S8x33600x1, a⟩, ⟨S8x33600x1, b⟩] concatenates_S8x33600x1_S8x33600x1_S8x33600x2_d2) : C F S8x33600x1 .i32 → C F S8x33600x1 .i32 → C F S8x33600x2 .i32)]

/-- Operations of the window `part6_1`. -/
abbrev ops_part6_1 : List (Op F) :=
  [binary main_v135 main_v322 main_v323 ((fun x i => Host.gather gather_S8x60x33600_S8x33600x2_S8x33600_n_12_0_0_12_2_111 x i) : C F S8x60x33600 .f32 → C F S8x33600x2 .i32 → C F S8x33600 .f32),
   nullary main_cst_59 ((constant S_ .f32 0x00000000#32) : C F S_ .f32),
   unary main_cst_59 main_call9_v0 (id : C F S_ .f32 → C F S_ .f32),
   unary main_call9_v0 main_call9_v1 ((broadcastInDim S33600 ![] bcast_S_S33600) : C F S_ .f32 → C F S33600 .f32),
   unary main_call9_v1 main_call9_v2 ((broadcastInDim S8x33600 ![1] bcast_S33600_S8x33600_1) : C F S33600 .f32 → C F S8x33600 .f32),
   ternary main_v289 main_v323 main_call9_v2 main_v324 (select : C F S8x33600 .i1 → C F S8x33600 .f32 → C F S8x33600 .f32 → C F S8x33600 .f32),
   nullary main_c_60 ((constantI S_ 32 0#32) : C F S_ .i32),
   unary main_c_60 main_v325 (broadcastInDim S8x33600 ![] bcast_S_S8x33600 : C F S_ .i32 → C F S8x33600 .i32),
   binary main_v298 main_v325 main_v326 (cmpi .sge : C F S8x33600 .i32 → C F S8x33600 .i32 → C F S8x33600 .i1),
   nullary main_c_61 ((constantI S_ 32 80#32) : C F S_ .i32),
   unary main_c_61 main_v327 (broadcastInDim S8x33600 ![] bcast_S_S8x33600 : C F S_ .i32 → C F S8x33600 .i32),
   binary main_v298 main_v327 main_v328 (cmpi .ne : C F S8x33600 .i32 → C F S8x33600 .i32 → C F S8x33600 .i1),
   binary main_v326 main_v328 main_v329 (andi : C F S8x33600 .i1 → C F S8x33600 .i1 → C F S8x33600 .i1),
   unary main_v329 main_v330 (uitofp .f32 : C F S8x33600 .i1 → C F S8x33600 .f32),
   nullary main_cst_62 ((constant S_ .f32 0x00000000#32) : C F S_ .f32),
   binary main_v330 main_cst_62 main_v331 ((fun x v => Host.reduceAdd x v reducesTo_S8x33600_S_d0_1 h_S_) : C F S8x33600 .f32 → C F S_ .f32 → C F S_ .f32),
   nullary main_cst_63 ((constant S_ .f32 0x3F800000#32) : C F S_ .f32),
   binary main_v331 main_cst_63 main_v332 (maximumf : C F S_ .f32 → C F S_ .f32 → C F S_ .f32),
   unary main_arg4 main_v333 (noti : C F S8x33600 .i1 → C F S8x33600 .i1),
   nullary main_c_64 ((constantI S_ 32 0#32) : C F S_ .i32),
   unary main_c_64 main_v334 (broadcastInDim S8x33600 ![] bcast_S_S8x33600 : C F S_ .i32 → C F S8x33600 .i32),
   binary main_v298 main_v334 main_v335 (cmpi .sge : C F S8x33600 .i32 → C F S8x33600 .i32 → C F S8x33600 .i1),
   binary main_v333 main_v335 main_v336 (andi : C F S8x33600 .i1 → C F S8x33600 .i1 → C F S8x33600 .i1),
   unary main_v336 main_v337 (uitofp .f32 : C F S8x33600 .i1 → C F S8x33600 .f32),
   nullary main_c_65 ((constantI S_ 32 0#32) : C F S_ .i32),
   unary main_c_65 main_call10_v0 (id : C F S_ .i32 → C F S_ .i32),
   unary main_call10_v0 main_call10_v1 ((broadcastInDim S8x33600 ![] bcast_S_S8x33600) : C F S_ .i32 → C F S8x33600 .i32),
   ternary main_v329 main_v298 main_call10_v1 main_v338 (select : C F S8x33600 .i1 → C F S8x33600 .i32 → C F S8x33600 .i32 → C F S8x33600 .i32),
   unary main_v338 main_call11_v0 ((broadcastInDim S8x33600x1 ![0, 1] bcast_S8x33600_S8x33600x1_0_1) : C F S8x33600 .i32 → C F S8x33600x1 .i32),
   nullary main_call11_v1 ((iotaInDim S1x1x80 32 2) : C F S1x1x80 .i32)]

/-- Operations of the window `part6_2`. -/
abbrev ops_part6_2 : List (Op F) :=
  [unary main_call11_v0 main_call11_v2 ((broadcastInDim S8x33600x80 ![0, 1, 2] bcast_S8x33600x1_S8x33600x80_0_1_2) : C F S8x33600x1 .i32 → C F S8x33600x80 .i32),
   unary main_call11_v1 main_call11_v3 ((broadcastInDim S8x33600x80 ![0, 1, 2] bcast_S1x1x80_S8x33600x80_0_1_2) : C F S1x1x80 .i32 → C F S8x33600x80 .i32),
   binary main_call11_v2 main_call11_v3 main_call11_v4 ((cmpi .eq) : C F S8x33600x80 .i32 → C F S8x33600x80 .i32 → C F S8x33600x80 .i1),
   unary main_call11_v4 main_v339 ((uitofp .f32) : C F S8x33600x80 .i1 → C F S8x33600x80 .f32),
   unary main_v330 main_v340 (broadcastInDim S8x33600x1 ![0, 1] bcast_S8x33600_S8x33600x1_0_1 : C F S8x33600 .f32 → C F S8x33600x1 .f32),
   unary main_v340 main_v341 (broadcastInDim S8x33600x80 ![0, 1, 2] bcast_S8x33600x1_S8x33600x80_0_1_2 : C F S8x33600x1 .f32 → C F S8x33600x80 .f32),
   binary main_v339 main_v341 main_v342 (mulf : C F S8x33600x80 .f32 → C F S8x33600x80 .f32 → C F S8x33600x80 .f32),
   unary main_arg0 main_v343 (Host.negf : C F S8x33600x80 .f32 → C F S8x33600x80 .f32),
   unary main_v343 main_v344 (Host.exp : C F S8x33600x80 .f32 → C F S8x33600x80 .f32),
   nullary main_cst_66 ((constant S_ .f32 0x3F800000#32) : C F S_ .f32),
   unary main_cst_66 main_v345 (broadcastInDim S8x33600x80 ![] bcast_S_S8x33600x80 : C F S_ .f32 → C F S8x33600x80 .f32),
   binary main_v345 main_v344 main_v346 (addf : C F S8x33600x80 .f32 → C F S8x33600x80 .f32 → C F S8x33600x80 .f32),
   nullary main_cst_67 ((constant S_ .f32 0x3F800000#32) : C F S_ .f32),
   unary main_cst_67 main_v347 (broadcastInDim S8x33600x80 ![] bcast_S_S8x33600x80 : C F S_ .f32 → C F S8x33600x80 .f32)]

/-- Operations of the window `part7`. -/
abbrev ops_part7 : List (Op F) :=
  [binary main_v347 main_v346 main_v348 (Host.divf : C F S8x33600x80 .f32 → C F S8x33600x80 .f32 → C F S8x33600x80 .f32),
   nullary main_cst_68 ((constant S_ .f32 0x00000000#32) : C F S_ .f32),
   unary main_cst_68 main_v349 (broadcastInDim S8x33600x80 ![] bcast_S_S8x33600x80 : C F S_ .f32 → C F S8x33600x80 .f32),
   binary main_arg0 main_v349 main_v350 (maximumf : C F S8x33600x80 .f32 → C F S8x33600x80 .f32 → C F S8x33600x80 .f32),
   binary main_arg0 main_v342 main_v351 (mulf : C F S8x33600x80 .f32 → C F S8x33600x80 .f32 → C F S8x33600x80 .f32),
   binary main_v350 main_v351 main_v352 (subf : C F S8x33600x80 .f32 → C F S8x33600x80 .f32 → C F S8x33600x80 .f32),
   unary main_arg0 main_v353 (Host.absf : C F S8x33600x80 .f32 → C F S8x33600x80 .f32),
   unary main_v353 main_v354 (Host.negf : C F S8x33600x80 .f32 → C F S8x33600x80 .f32),
   unary main_v354 main_v355 (Host.exp : C F S8x33600x80 .f32 → C F S8x33600x80 .f32),
   unary main_v355 main_v356 (Host.log1p : C F S8x33600x80 .f32 → C F S8x33600x80 .f32),
   binary main_v352 main_v356 main_v357 (addf : C F S8x33600x80 .f32 → C F S8x33600x80 .f32 → C F S8x33600x80 .f32),
   binary main_v348 main_v342 main_v358 (mulf : C F S8x33600x80 .f32 → C F S8x33600x80 .f32 → C F S8x33600x80 .f32),
   nullary main_cst_69 ((constant S_ .f32 0x3F800000#32) : C F S_ .f32),
   unary main_cst_69 main_v359 (broadcastInDim S8x33600x80 ![] bcast_S_S8x33600x80 : C F S_ .f32 → C F S8x33600x80 .f32),
   binary main_v359 main_v348 main_v360 (subf : C F S8x33600x80 .f32 → C F S8x33600x80 .f32 → C F S8x33600x80 .f32),
   nullary main_cst_70 ((constant S_ .f32 0x3F800000#32) : C F S_ .f32),
   unary main_cst_70 main_v361 (broadcastInDim S8x33600x80 ![] bcast_S_S8x33600x80 : C F S_ .f32 → C F S8x33600x80 .f32),
   binary main_v361 main_v342 main_v362 (subf : C F S8x33600x80 .f32 → C F S8x33600x80 .f32 → C F S8x33600x80 .f32),
   binary main_v360 main_v362 main_v363 (mulf : C F S8x33600x80 .f32 → C F S8x33600x80 .f32 → C F S8x33600x80 .f32),
   binary main_v358 main_v363 main_v364 (addf : C F S8x33600x80 .f32 → C F S8x33600x80 .f32 → C F S8x33600x80 .f32),
   nullary main_cst_71 ((constant S_ .f32 0x3F800000#32) : C F S_ .f32),
   unary main_cst_71 main_v365 (broadcastInDim S8x33600x80 ![] bcast_S_S8x33600x80 : C F S_ .f32 → C F S8x33600x80 .f32),
   binary main_v365 main_v364 main_v366 (subf : C F S8x33600x80 .f32 → C F S8x33600x80 .f32 → C F S8x33600x80 .f32),
   nullary main_cst_72 ((constant S_ .f32 0x40000000#32) : C F S_ .f32),
   unary main_cst_72 main_v367 (broadcastInDim S8x33600x80 ![] bcast_S_S8x33600x80 : C F S_ .f32 → C F S8x33600x80 .f32),
   binary main_v366 main_v367 main_v368 (Host.powf : C F S8x33600x80 .f32 → C F S8x33600x80 .f32 → C F S8x33600x80 .f32),
   binary main_v357 main_v368 main_v369 (mulf : C F S8x33600x80 .f32 → C F S8x33600x80 .f32 → C F S8x33600x80 .f32),
   nullary main_cst_73 ((constant S_ .f32 0x3E800000#32) : C F S_ .f32),
   unary main_cst_73 main_v370 (broadcastInDim S8x33600x80 ![] bcast_S_S8x33600x80 : C F S_ .f32 → C F S8x33600x80 .f32),
   binary main_v370 main_v342 main_v371 (mulf : C F S8x33600x80 .f32 → C F S8x33600x80 .f32 → C F S8x33600x80 .f32),
   nullary main_cst_74 ((constant S_ .f32 0x3F800000#32) : C F S_ .f32),
   unary main_cst_74 main_v372 (broadcastInDim S8x33600x80 ![] bcast_S_S8x33600x80 : C F S_ .f32 → C F S8x33600x80 .f32),
   binary main_v372 main_v342 main_v373 (subf : C F S8x33600x80 .f32 → C F S8x33600x80 .f32 → C F S8x33600x80 .f32),
   nullary main_cst_75 ((constant S_ .f32 0x3F400000#32) : C F S_ .f32),
   unary main_cst_75 main_v374 (broadcastInDim S8x33600x80 ![] bcast_S_S8x33600x80 : C F S_ .f32 → C F S8x33600x80 .f32),
   binary main_v374 main_v373 main_v375 (mulf : C F S8x33600x80 .f32 → C F S8x33600x80 .f32 → C F S8x33600x80 .f32),
   binary main_v371 main_v375 main_v376 (addf : C F S8x33600x80 .f32 → C F S8x33600x80 .f32 → C F S8x33600x80 .f32),
   binary main_v376 main_v369 main_v377 (mulf : C F S8x33600x80 .f32 → C F S8x33600x80 .f32 → C F S8x33600x80 .f32),
   unary main_v337 main_v378 (broadcastInDim S8x33600x1 ![0, 1] bcast_S8x33600_S8x33600x1_0_1 : C F S8x33600 .f32 → C F S8x33600x1 .f32),
   unary main_v378 main_v379 (broadcastInDim S8x33600x80 ![0, 1, 2] bcast_S8x33600x1_S8x33600x80_0_1_2 : C F S8x33600x1 .f32 → C F S8x33600x80 .f32),
   binary main_v377 main_v379 main_v380 (mulf : C F S8x33600x80 .f32 → C F S8x33600x80 .f32 → C F S8x33600x80 .f32),
   nullary main_cst_76 ((constant S_ .f32 0x00000000#32) : C F S_ .f32),
   binary main_v380 main_cst_76 main_v381 ((fun x v => Host.reduceAdd x v reducesTo_S8x33600x80_S_d0_1_2 h_S_) : C F S8x33600x80 .f32 → C F S_ .f32 → C F S_ .f32),
   binary main_v381 main_v332 main_v382 (Host.divf : C F S_ .f32 → C F S_ .f32 → C F S_ .f32),
   unary main_arg1 main_v383 ((extractStridedSlice S8x33600x2 ![0, 0, 0] · slices_S8x33600x4_S8x33600x2_0_0_0) : C F S8x33600x4 .f32 → C F S8x33600x2 .f32),
   unary main_v307 main_v384 ((extractStridedSlice S8x33600x2 ![0, 0, 0] · slices_S8x33600x4_S8x33600x2_0_0_0) : C F S8x33600x4 .f32 → C F S8x33600x2 .f32),
   binary main_v383 main_v384 main_v385 (maximumf : C F S8x33600x2 .f32 → C F S8x33600x2 .f32 → C F S8x33600x2 .f32),
   unary main_arg1 main_v386 ((extractStridedSlice S8x33600x2 ![0, 0, 2] · slices_S8x33600x4_S8x33600x2_0_0_2) : C F S8x33600x4 .f32 → C F S8x33600x2 .f32),
   unary main_v307 main_v387 ((extractStridedSlice S8x33600x2 ![0, 0, 2] · slices_S8x33600x4_S8x33600x2_0_0_2) : C F S8x33600x4 .f32 → C F S8x33600x2 .f32),
   binary main_v386 main_v387 main_v388 (minimumf : C F S8x33600x2 .f32 → C F S8x33600x2 .f32 → C F S8x33600x2 .f32),
   binary main_v388 main_v385 main_v389 (subf : C F S8x33600x2 .f32 → C F S8x33600x2 .f32 → C F S8x33600x2 .f32),
   nullary main_cst_77 ((constant S_ .f32 0x00000000#32) : C F S_ .f32),
   unary main_cst_77 main_v390 (broadcastInDim S8x33600x2 ![] bcast_S_S8x33600x2 : C F S_ .f32 → C F S8x33600x2 .f32),
   binary main_v389 main_v390 main_v391 (maximumf : C F S8x33600x2 .f32 → C F S8x33600x2 .f32 → C F S8x33600x2 .f32),
   unary main_v391 main_v392 ((extractStridedSlice S8x33600x1 ![0, 0, 0] · slices_S8x33600x2_S8x33600x1_0_0_0) : C F S8x33600x2 .f32 → C F S8x33600x1 .f32),
   reshape main_v392 main_v393 (rfl : (.f32 : EltTy) = .f32) shapeCasts_S8x33600x1_S8x33600,
   unary main_v391 main_v394 ((extractStridedSlice S8x33600x1 ![0, 0, 1] · slices_S8x33600x2_S8x33600x1_0_0_1) : C F S8x33600x2 .f32 → C F S8x33600x1 .f32),
   reshape main_v394 main_v395 (rfl : (.f32 : EltTy) = .f32) shapeCasts_S8x33600x1_S8x33600,
   binary main_v393 main_v395 main_v396 (mulf : C F S8x33600 .f32 → C F S8x33600 .f32 → C F S8x33600 .f32),
   unary main_arg1 main_v397 ((extractStridedSlice S8x33600x1 ![0, 0, 2] · slices_S8x33600x4_S8x33600x1_0_0_2) : C F S8x33600x4 .f32 → C F S8x33600x1 .f32)]

/-- Operations of the window `part8`. -/
abbrev ops_part8 : List (Op F) :=
  [reshape main_v397 main_v398 (rfl : (.f32 : EltTy) = .f32) shapeCasts_S8x33600x1_S8x33600,
   unary main_arg1 main_v399 ((extractStridedSlice S8x33600x1 ![0, 0, 0] · slices_S8x33600x4_S8x33600x1_0_0_0) : C F S8x33600x4 .f32 → C F S8x33600x1 .f32),
   reshape main_v399 main_v400 (rfl : (.f32 : EltTy) = .f32) shapeCasts_S8x33600x1_S8x33600,
   binary main_v398 main_v400 main_v401 (subf : C F S8x33600 .f32 → C F S8x33600 .f32 → C F S8x33600 .f32),
   nullary main_cst_78 ((constant S_ .f32 0x00000000#32) : C F S_ .f32),
   unary main_cst_78 main_v402 (broadcastInDim S8x33600 ![] bcast_S_S8x33600 : C F S_ .f32 → C F S8x33600 .f32),
   binary main_v401 main_v402 main_v403 (maximumf : C F S8x33600 .f32 → C F S8x33600 .f32 → C F S8x33600 .f32),
   unary main_arg1 main_v404 ((extractStridedSlice S8x33600x1 ![0, 0, 3] · slices_S8x33600x4_S8x33600x1_0_0_3) : C F S8x33600x4 .f32 → C F S8x33600x1 .f32),
   reshape main_v404 main_v405 (rfl : (.f32 : EltTy) = .f32) shapeCasts_S8x33600x1_S8x33600,
   unary main_arg1 main_v406 ((extractStridedSlice S8x33600x1 ![0, 0, 1] · slices_S8x33600x4_S8x33600x1_0_0_1) : C F S8x33600x4 .f32 → C F S8x33600x1 .f32),
   reshape main_v406 main_v407 (rfl : (.f32 : EltTy) = .f32) shapeCasts_S8x33600x1_S8x33600,
   binary main_v405 main_v407 main_v408 (subf : C F S8x33600 .f32 → C F S8x33600 .f32 → C F S8x33600 .f32),
   nullary main_cst_79 ((constant S_ .f32 0x00000000#32) : C F S_ .f32),
   unary main_cst_79 main_v409 (broadcastInDim S8x33600 ![] bcast_S_S8x33600 : C F S_ .f32 → C F S8x33600 .f32),
   binary main_v408 main_v409 main_v410 (maximumf : C F S8x33600 .f32 → C F S8x33600 .f32 → C F S8x33600 .f32),
   binary main_v403 main_v410 main_v411 (mulf : C F S8x33600 .f32 → C F S8x33600 .f32 → C F S8x33600 .f32),
   unary main_v307 main_v412 ((extractStridedSlice S8x33600x1 ![0, 0, 2] · slices_S8x33600x4_S8x33600x1_0_0_2) : C F S8x33600x4 .f32 → C F S8x33600x1 .f32),
   reshape main_v412 main_v413 (rfl : (.f32 : EltTy) = .f32) shapeCasts_S8x33600x1_S8x33600,
   unary main_v307 main_v414 ((extractStridedSlice S8x33600x1 ![0, 0, 0] · slices_S8x33600x4_S8x33600x1_0_0_0) : C F S8x33600x4 .f32 → C F S8x33600x1 .f32),
   reshape main_v414 main_v415 (rfl : (.f32 : EltTy) = .f32) shapeCasts_S8x33600x1_S8x33600,
   binary main_v413 main_v415 main_v416 (subf : C F S8x33600 .f32 → C F S8x33600 .f32 → C F S8x33600 .f32),
   nullary main_cst_80 ((constant S_ .f32 0x00000000#32) : C F S_ .f32),
   unary main_cst_80 main_v417 (broadcastInDim S8x33600 ![] bcast_S_S8x33600 : C F S_ .f32 → C F S8x33600 .f32),
   binary main_v416 main_v417 main_v418 (maximumf : C F S8x33600 .f32 → C F S8x33600 .f32 → C F S8x33600 .f32),
   unary main_v307 main_v419 ((extractStridedSlice S8x33600x1 ![0, 0, 3] · slices_S8x33600x4_S8x33600x1_0_0_3) : C F S8x33600x4 .f32 → C F S8x33600x1 .f32),
   reshape main_v419 main_v420 (rfl : (.f32 : EltTy) = .f32) shapeCasts_S8x33600x1_S8x33600,
   unary main_v307 main_v421 ((extractStridedSlice S8x33600x1 ![0, 0, 1] · slices_S8x33600x4_S8x33600x1_0_0_1) : C F S8x33600x4 .f32 → C F S8x33600x1 .f32),
   reshape main_v421 main_v422 (rfl : (.f32 : EltTy) = .f32) shapeCasts_S8x33600x1_S8x33600,
   binary main_v420 main_v422 main_v423 (subf : C F S8x33600 .f32 → C F S8x33600 .f32 → C F S8x33600 .f32),
   nullary main_cst_81 ((constant S_ .f32 0x00000000#32) : C F S_ .f32),
   unary main_cst_81 main_v424 (broadcastInDim S8x33600 ![] bcast_S_S8x33600 : C F S_ .f32 → C F S8x33600 .f32),
   binary main_v423 main_v424 main_v425 (maximumf : C F S8x33600 .f32 → C F S8x33600 .f32 → C F S8x33600 .f32),
   binary main_v418 main_v425 main_v426 (mulf : C F S8x33600 .f32 → C F S8x33600 .f32 → C F S8x33600 .f32),
   binary main_v411 main_v426 main_v427 (addf : C F S8x33600 .f32 → C F S8x33600 .f32 → C F S8x33600 .f32),
   binary main_v427 main_v396 main_v428 (subf : C F S8x33600 .f32 → C F S8x33600 .f32 → C F S8x33600 .f32),
   nullary main_cst_82 ((constant S_ .f32 0x322BCC77#32) : C F S_ .f32),
   unary main_cst_82 main_v429 (broadcastInDim S8x33600 ![] bcast_S_S8x33600 : C F S_ .f32 → C F S8x33600 .f32),
   binary main_v428 main_v429 main_v430 (maximumf : C F S8x33600 .f32 → C F S8x33600 .f32 → C F S8x33600 .f32),
   binary main_v396 main_v430 main_v431 (Host.divf : C F S8x33600 .f32 → C F S8x33600 .f32 → C F S8x33600 .f32),
   unary main_arg1 main_v432 ((extractStridedSlice S8x33600x2 ![0, 0, 0] · slices_S8x33600x4_S8x33600x2_0_0_0) : C F S8x33600x4 .f32 → C F S8x33600x2 .f32),
   unary main_v307 main_v433 ((extractStridedSlice S8x33600x2 ![0, 0, 0] · slices_S8x33600x4_S8x33600x2_0_0_0) : C F S8x33600x4 .f32 → C F S8x33600x2 .f32),
   binary main_v432 main_v433 main_v434 (minimumf : C F S8x33600x2 .f32 → C F S8x33600x2 .f32 → C F S8x33600x2 .f32),
   unary main_arg1 main_v435 ((extractStridedSlice S8x33600x2 ![0, 0, 2] · slices_S8x33600x4_S8x33600x2_0_0_2) : C F S8x33600x4 .f32 → C F S8x33600x2 .f32),
   unary main_v307 main_v436 ((extractStridedSlice S8x33600x2 ![0, 0, 2] · slices_S8x33600x4_S8x33600x2_0_0_2) : C F S8x33600x4 .f32 → C F S8x33600x2 .f32),
   binary main_v435 main_v436 main_v437 (maximumf : C F S8x33600x2 .f32 → C F S8x33600x2 .f32 → C F S8x33600x2 .f32),
   binary main_v437 main_v434 main_v438 (subf : C F S8x33600x2 .f32 → C F S8x33600x2 .f32 → C F S8x33600x2 .f32),
   nullary main_cst_83 ((constant S_ .f32 0x00000000#32) : C F S_ .f32),
   unary main_cst_83 main_v439 (broadcastInDim S8x33600x2 ![] bcast_S_S8x33600x2 : C F S_ .f32 → C F S8x33600x2 .f32),
   binary main_v438 main_v439 main_v440 (maximumf : C F S8x33600x2 .f32 → C F S8x33600x2 .f32 → C F S8x33600x2 .f32),
   unary main_v440 main_v441 ((extractStridedSlice S8x33600x1 ![0, 0, 0] · slices_S8x33600x2_S8x33600x1_0_0_0) : C F S8x33600x2 .f32 → C F S8x33600x1 .f32),
   reshape main_v441 main_v442 (rfl : (.f32 : EltTy) = .f32) shapeCasts_S8x33600x1_S8x33600,
   unary main_v440 main_v443 ((extractStridedSlice S8x33600x1 ![0, 0, 1] · slices_S8x33600x2_S8x33600x1_0_0_1) : C F S8x33600x2 .f32 → C F S8x33600x1 .f32),
   reshape main_v443 main_v444 (rfl : (.f32 : EltTy) = .f32) shapeCasts_S8x33600x1_S8x33600,
   binary main_v442 main_v444 main_v445 (mulf : C F S8x33600 .f32 → C F S8x33600 .f32 → C F S8x33600 .f32),
   binary main_v445 main_v428 main_v446 (subf : C F S8x33600 .f32 → C F S8x33600 .f32 → C F S8x33600 .f32),
   nullary main_cst_84 ((constant S_ .f32 0x322BCC77#32) : C F S_ .f32),
   unary main_cst_84 main_v447 (broadcastInDim S8x33600 ![] bcast_S_S8x33600 : C F S_ .f32 → C F S8x33600 .f32),
   binary main_v445 main_v447 main_v448 (maximumf : C F S8x33600 .f32 → C F S8x33600 .f32 → C F S8x33600 .f32),
   binary main_v446 main_v448 main_v449 (Host.divf : C F S8x33600 .f32 → C F S8x33600 .f32 → C F S8x33600 .f32),
   binary main_v431 main_v449 main_v450 (subf : C F S8x33600 .f32 → C F S8x33600 .f32 → C F S8x33600 .f32)]

/-- Operations of the window `part9`. -/
abbrev ops_part9 : List (Op F) :=
  [nullary main_cst_85 ((constant S_ .f32 0x3F800000#32) : C F S_ .f32),
   unary main_cst_85 main_v451 (broadcastInDim S8x33600 ![] bcast_S_S8x33600 : C F S_ .f32 → C F S8x33600 .f32),
   binary main_v451 main_v450 main_v452 (subf : C F S8x33600 .f32 → C F S8x33600 .f32 → C F S8x33600 .f32),
   binary main_v452 main_v330 main_v453 (mulf : C F S8x33600 .f32 → C F S8x33600 .f32 → C F S8x33600 .f32),
   nullary main_cst_86 ((constant S_ .f32 0x00000000#32) : C F S_ .f32),
   binary main_v453 main_cst_86 main_v454 ((fun x v => Host.reduceAdd x v reducesTo_S8x33600_S_d0_1 h_S_) : C F S8x33600 .f32 → C F S_ .f32 → C F S_ .f32),
   binary main_v454 main_v332 main_v455 (Host.divf : C F S_ .f32 → C F S_ .f32 → C F S_ .f32),
   reshape main_arg2 main_v456 (rfl : (.f32 : EltTy) = .f32) shapeCasts_S8x33600x1_S8x33600,
   nullary main_cst_87 ((constant S_ .f32 0x00000000#32) : C F S_ .f32),
   unary main_cst_87 main_v457 (broadcastInDim S8x33600 ![] bcast_S_S8x33600 : C F S_ .f32 → C F S8x33600 .f32),
   binary main_v456 main_v457 main_v458 (maximumf : C F S8x33600 .f32 → C F S8x33600 .f32 → C F S8x33600 .f32),
   binary main_v456 main_v324 main_v459 (mulf : C F S8x33600 .f32 → C F S8x33600 .f32 → C F S8x33600 .f32),
   binary main_v458 main_v459 main_v460 (subf : C F S8x33600 .f32 → C F S8x33600 .f32 → C F S8x33600 .f32),
   unary main_v456 main_v461 (Host.absf : C F S8x33600 .f32 → C F S8x33600 .f32),
   unary main_v461 main_v462 (Host.negf : C F S8x33600 .f32 → C F S8x33600 .f32),
   unary main_v462 main_v463 (Host.exp : C F S8x33600 .f32 → C F S8x33600 .f32),
   unary main_v463 main_v464 (Host.log1p : C F S8x33600 .f32 → C F S8x33600 .f32),
   binary main_v460 main_v464 main_v465 (addf : C F S8x33600 .f32 → C F S8x33600 .f32 → C F S8x33600 .f32),
   binary main_v465 main_v330 main_v466 (mulf : C F S8x33600 .f32 → C F S8x33600 .f32 → C F S8x33600 .f32),
   nullary main_cst_88 ((constant S_ .f32 0x00000000#32) : C F S_ .f32),
   binary main_v466 main_cst_88 main_v467 ((fun x v => Host.reduceAdd x v reducesTo_S8x33600_S_d0_1 h_S_) : C F S8x33600 .f32 → C F S_ .f32 → C F S_ .f32),
   binary main_v467 main_v332 main_v468 (Host.divf : C F S_ .f32 → C F S_ .f32 → C F S_ .f32),
   unary main_v382 main_v469 (broadcastInDim S1 ![] bcast_S_S1 : C F S_ .f32 → C F S1 .f32),
   unary main_v455 main_v470 (broadcastInDim S1 ![] bcast_S_S1 : C F S_ .f32 → C F S1 .f32),
   unary main_v468 main_v471 (broadcastInDim S1 ![] bcast_S_S1 : C F S_ .f32 → C F S1 .f32),
   nary ![main_v469, main_v470, main_v471] main_v472 (fun u => (concatenate S3 0 [⟨S1, (u 0 : C F S1 .f32)⟩, ⟨S1, (u 1 : C F S1 .f32)⟩, ⟨S1, (u 2 : C F S1 .f32)⟩] concatenates_S1_S1_S1_S3_d0 : C F S3 .f32))]

/-- The window `part5`. -/
abbrev ops_part5 : List (Op F) := ops_part5_0 ++ (ops_part5_1 ++ (ops_part5_2))

/-- The window `part6`. -/
abbrev ops_part6 : List (Op F) := ops_part6_0 ++ (ops_part6_1 ++ (ops_part6_2))

/-- The whole line. -/
abbrev ops : List (Op F) := ops_part0 ++ (ops_part1 ++ (ops_part2 ++ (ops_part3 ++ (ops_part4 ++ (ops_part5 ++ (ops_part6 ++ (ops_part7 ++ (ops_part8 ++ (ops_part9)))))))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
set_option maxHeartbeats 4000000 in
theorem main_part6_eq (c : Dev nD) : main_part6 (F := F) c = seq ops_part6 := rfl
set_option maxRecDepth 8192 in
set_option maxHeartbeats 4000000 in
theorem main_part7_eq (c : Dev nD) : main_part7 (F := F) c = seq ops_part7 := rfl
set_option maxRecDepth 8192 in
set_option maxHeartbeats 4000000 in
theorem main_part8_eq (c : Dev nD) : main_part8 (F := F) c = seq ops_part8 := rfl
set_option maxRecDepth 8192 in
set_option maxHeartbeats 4000000 in
theorem main_part9_eq (c : Dev nD) : main_part9 (F := F) c = seq ops_part9 := rfl

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl

/-- The references the line writes, in order. -/
def wl : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst, main_v34, main_v35, main_v36, main_v37, main_v38, main_v39, main_v40, main_v41, main_cst_0, main_v42, main_v43, main_v44, main_cst_1, main_v45, main_v46, main_v47, main_v48, main_v49, main_v50, main_cst_2, main_v51, main_v52, main_v53, main_v54, main_v55, main_v56, main_v57, main_cst_3, main_v58, main_v59, main_v60, main_v61, main_v62, main_v63, main_v64, main_cst_4, main_v65, main_v66, main_v67, main_v68, main_v69, main_v70, main_v71, main_v72, main_c, main_v73, main_v74, main_v75, main_v76, main_v77, main_v78, main_v79, main_v80, main_v81, main_v82, main_v83, main_v84, main_v85, main_v86, main_v87, main_v88, main_v89, main_cst_5, main_v90, main_v91, main_v92, main_v93, main_v94, main_v95, main_v96, main_v97, main_v98, main_v99, main_v100, main_v101, main_cst_6, main_v102, main_v103, main_v104, main_v105, main_v106, main_v107, main_v108, main_cst_7, main_v109, main_v110, main_v111, main_v112, main_v113, main_v114, main_v115, main_v116, main_cst_8, main_v117, main_v118, main_v119, main_v120, main_v121, main_v122, main_v123, main_cst_9, main_v124, main_v125, main_v126, main_v127, main_v128, main_v129, main_v130, main_v131, main_v132, main_cst_10, main_v133, main_v134, main_v135, main_cst_11, main_v136, main_v137, main_v138, main_v139, main_cst_12, main_v140, main_v141, main_v142, main_cst_13, main_v143, main_v144, main_cst_14, main_v145, main_v146, main_cst_15, main_v147, main_v148, main_v149, main_v150, main_v151, main_v152, main_v153, main_v154, main_v155, main_v156, main_v157, main_v158, main_v159, main_v160, main_cst_16, main_v161, main_v162, main_cst_17, main_v163, main_v164, main_v165, main_v166, main_v167, main_v168, main_cst_18, main_v169, main_v170, main_cst_19, main_v171, main_v172, main_v173, main_cst_20, main_v174, main_v175, main_cst_21, main_v176, main_v177, main_cst_22, main_v178, main_v179, main_v180, main_v181, main_v182, main_v183, main_cst_23, main_v184, main_v185, main_v186, main_cst_24, main_v187, main_v188, main_cst_25, main_v189, main_v190, main_cst_26, main_v191, main_v192, main_v193, main_v194, main_v195, main_v196, main_v197, main_v198, main_v199, main_v200, main_v201, main_v202, main_v203, main_v204, main_cst_27, main_v205, main_v206, main_cst_28, main_v207, main_v208, main_v209, main_v210, main_v211, main_v212, main_cst_29, main_v213, main_v214, main_cst_30, main_v215, main_v216, main_v217, main_cst_31, main_v218, main_v219, main_cst_32, main_v220, main_v221, main_cst_33, main_v222, main_v223, main_v224, main_v225, main_v226, main_v227, main_cst_34, main_v228, main_v229, main_c_35, main_v230, main_v231, main_c_36, main_v232, main_v233, main_v234, main_v235, main_v236, main_v237, main_v238, main_v239, main_c_37, main_v240, main_v241, main_c_38, main_v242, main_v243, main_v244, main_v245, main_v246, main_v247, main_v248, main_cst_39, main_v249, main_v250, main_v251, main_v252, main_v253, main_cst_40, main_v254, main_v255, main_v256, main_v257, main_v258, main_v259, main_v260, main_cst_41, main_v261, main_v262, main_v263, main_v264, main_v265, main_v266, main_cst_42, main_call0_v0, main_call0_v1, main_call0_v2, main_call0_v3, main_v267, main_values, main_indices, main_cst_43, main_v268, main_v269, main_c_44, main_v270, main_v271, main_call1_v0, main_call1_v1, main_call1_v2_0, main_v272, main_call2_v0, main_call2_v1, main_call2_v2_0, main_v273, main_v274, main_v275, main_v276, main_v277, main_cst_45, main_v278, main_cst_46, main_v279, main_v280, main_call3_v0, main_call3_cst, main_call3_c, main_call3_v1_0, main_v281, main_call4_v0, main_call4_v1, main_call4_v2, main_call4_v3, main_call4_v4, main_call4_v5, main_v282, main_v283, main_v284, main_call5_v0, main_v285, main_cst_47, main_v286, main_cst_48, main_v287, main_v288, main_v289, main_call6_v0, main_call6_cst, main_call6_c, main_call6_v1_0, main_v290, main_c_49, main_v291, main_v292, main_c_50, main_v293, main_v294, main_v295, main_v296, main_v297, main_c_51, main_call7_v0, main_call7_v1, main_call7_v2, main_v298, main_v299, main_c_52, main_v300, main_v301, main_c_53, main_v302, main_v303, main_v304, main_v305, main_v306, main_cst_54, main_call8_v0, main_call8_v1, main_call8_v2, main_call8_v3, main_v307, main_v308, main_c_55, main_v309, main_v310, main_c_56, main_v311, main_v312, main_v313, main_c_57, main_v314, main_v315, main_c_58, main_v316, main_v317, main_v318, main_v319, main_v320, main_v321, main_v322, main_v323, main_cst_59, main_call9_v0, main_call9_v1, main_call9_v2, main_v324, main_c_60, main_v325, main_v326, main_c_61, main_v327, main_v328, main_v329, main_v330, main_cst_62, main_v331, main_cst_63, main_v332, main_v333, main_c_64, main_v334, main_v335, main_v336, main_v337, main_c_65, main_call10_v0, main_call10_v1, main_v338, main_call11_v0, main_call11_v1, main_call11_v2, main_call11_v3, main_call11_v4, main_v339, main_v340, main_v341, main_v342, main_v343, main_v344, main_cst_66, main_v345, main_v346, main_cst_67, main_v347, main_v348, main_cst_68, main_v349, main_v350, main_v351, main_v352, main_v353, main_v354, main_v355, main_v356, main_v357, main_v358, main_cst_69, main_v359, main_v360, main_cst_70, main_v361, main_v362, main_v363, main_v364, main_cst_71, main_v365, main_v366, main_cst_72, main_v367, main_v368, main_v369, main_cst_73, main_v370, main_v371, main_cst_74, main_v372, main_v373, main_cst_75, main_v374, main_v375, main_v376, main_v377, main_v378, main_v379, main_v380, main_cst_76, main_v381, main_v382, main_v383, main_v384, main_v385, main_v386, main_v387, main_v388, main_v389, main_cst_77, main_v390, main_v391, main_v392, main_v393, main_v394, main_v395, main_v396, main_v397, main_v398, main_v399, main_v400, main_v401, main_cst_78, main_v402, main_v403, main_v404, main_v405, main_v406, main_v407, main_v408, main_cst_79, main_v409, main_v410, main_v411, main_v412, main_v413, main_v414, main_v415, main_v416, main_cst_80, main_v417, main_v418, main_v419, main_v420, main_v421, main_v422, main_v423, main_cst_81, main_v424, main_v425, main_v426, main_v427, main_v428, main_cst_82, main_v429, main_v430, main_v431, main_v432, main_v433, main_v434, main_v435, main_v436, main_v437, main_v438, main_cst_83, main_v439, main_v440, main_v441, main_v442, main_v443, main_v444, main_v445, main_v446, main_cst_84, main_v447, main_v448, main_v449, main_v450, main_cst_85, main_v451, main_v452, main_v453, main_cst_86, main_v454, main_v455, main_v456, main_cst_87, main_v457, main_v458, main_v459, main_v460, main_v461, main_v462, main_v463, main_v464, main_v465, main_v466, main_cst_88, main_v467, main_v468, main_v469, main_v470, main_v471, main_v472]

set_option maxRecDepth 16384 in
theorem ops_writes : (ops : List (Op F)).map HloOp.writes = wl.map fun r => {Proc.devRef (τ := τ) .tc r} := rfl

set_option maxRecDepth 16384 in
theorem wl_idx : wl.map (fun r => r.idx.val) = List.range' 7 608 := by decide

theorem line_ok : LineOk (ops : List (Op Ideal)) 7 := lineOk_of_lists ops_writes wl_idx

theorem scoped_refs : (Finset.univ.filter fun b : Ref sig .tc => b.isScoped) = ∅ := by decide
theorem scoped_sems : (Finset.univ.filter fun sm : SemLoc sig => sm.isScoped .tc) = ∅ := by decide

set_option maxRecDepth 8192 in
theorem ops_part0_sub : (ops_part0 : List (Op F)).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., unary_bufs_sub .., reshape_bufs_sub .., unary_bufs_sub .., reshape_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub ..⟩
theorem ops_part0_fresh : (ops_part0 : List (Op F)).Forall fun op => op.fresh = ∅ :=
  forall_fresh_of_map rfl
set_option maxRecDepth 8192 in
theorem ops_part1_sub : (ops_part1 : List (Op F)).Forall fun op => op.bufs ⊆ tcRefs τ sig :=
  ⟨binary_bufs_sub .., binary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., unary_bufs_sub .., unary_bufs_sub .., unary_bufs_sub .., binary_bufs_sub .., binary_bufs_sub .., binary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub ..⟩
theorem ops_part1_fresh : (ops_part1 : List (Op F)).Forall fun op => op.fresh = ∅ :=
  forall_fresh_of_map rfl
set_option maxRecDepth 8192 in
theorem ops_part2_sub : (ops_part2 : List (Op F)).Forall fun op => op.bufs ⊆ tcRefs τ sig :=
  ⟨binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub ..⟩
theorem ops_part2_fresh : (ops_part2 : List (Op F)).Forall fun op => op.fresh = ∅ :=
  forall_fresh_of_map rfl
set_option maxRecDepth 8192 in
theorem ops_part3_sub : (ops_part3 : List (Op F)).Forall fun op => op.bufs ⊆ tcRefs τ sig :=
  ⟨unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem ops_part3_fresh : (ops_part3 : List (Op F)).Forall fun op => op.fresh = ∅ :=
  forall_fresh_of_map rfl
set_option maxRecDepth 8192 in
theorem ops_part4_sub : (ops_part4 : List (Op F)).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., unary_bufs_sub ..⟩
theorem ops_part4_fresh : (ops_part4 : List (Op F)).Forall fun op => op.fresh = ∅ :=
  forall_fresh_of_map rfl
set_option maxRecDepth 8192 in
theorem ops_part5_0_sub : (ops_part5_0 : List (Op F)).Forall fun op => op.bufs ⊆ tcRefs τ sig :=
  ⟨binary_bufs_sub .., unary_bufs_sub .., unary_bufs_sub .., unary_bufs_sub .., nullary_bufs_sub .., unary_bufs_sub .., binary_bufs_sub .., unary_bufs_sub .., unary_bufs_sub .., binary_bufs_sub .., unary_bufs_sub .., nullary_bufs_sub .., unary_bufs_sub .., unary_bufs_sub .., unary_bufs_sub .., unary_bufs_sub .., ternary_bufs_sub .., unary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub ..⟩
theorem ops_part5_0_fresh : (ops_part5_0 : List (Op F)).Forall fun op => op.fresh = ∅ :=
  forall_fresh_of_map rfl
set_option maxRecDepth 8192 in
theorem ops_part5_1_sub : (ops_part5_1 : List (Op F)).Forall fun op => op.bufs ⊆ tcRefs τ sig :=
  ⟨unary_bufs_sub .., binary_bufs_sub .., binary_bufs_sub .., unary_bufs_sub .., unary_bufs_sub .., binary_bufs_sub .., unary_bufs_sub .., nullary_bufs_sub .., binary_bufs_sub .., nullary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., unary_bufs_sub .., binary_bufs_sub .., unary_bufs_sub .., unary_bufs_sub .., unary_bufs_sub .., unary_bufs_sub .., ternary_bufs_sub .., nullary_bufs_sub .., binary_bufs_sub ..⟩
theorem ops_part5_1_fresh : (ops_part5_1 : List (Op F)).Forall fun op => op.fresh = ∅ :=
  forall_fresh_of_map rfl
set_option maxRecDepth 8192 in
theorem ops_part5_2_sub : (ops_part5_2 : List (Op F)).Forall fun op => op.bufs ⊆ tcRefs τ sig :=
  ⟨nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., nullary_bufs_sub .., unary_bufs_sub .., binary_bufs_sub .., nullary_bufs_sub ..⟩
theorem ops_part5_2_fresh : (ops_part5_2 : List (Op F)).Forall fun op => op.fresh = ∅ :=
  forall_fresh_of_map rfl
set_option maxRecDepth 8192 in
theorem ops_part6_0_sub : (ops_part6_0 : List (Op F)).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., unary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
theorem ops_part6_0_fresh : (ops_part6_0 : List (Op F)).Forall fun op => op.fresh = ∅ :=
  forall_fresh_of_map rfl
set_option maxRecDepth 8192 in
theorem ops_part6_1_sub : (ops_part6_1 : List (Op F)).Forall fun op => op.bufs ⊆ tcRefs τ sig :=
  ⟨binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., binary_bufs_sub .., unary_bufs_sub .., nullary_bufs_sub .., unary_bufs_sub .., binary_bufs_sub .., binary_bufs_sub .., unary_bufs_sub .., nullary_bufs_sub .., unary_bufs_sub .., unary_bufs_sub .., ternary_bufs_sub .., unary_bufs_sub .., nullary_bufs_sub ..⟩
theorem ops_part6_1_fresh : (ops_part6_1 : List (Op F)).Forall fun op => op.fresh = ∅ :=
  forall_fresh_of_map rfl
set_option maxRecDepth 8192 in
theorem ops_part6_2_sub : (ops_part6_2 : List (Op F)).Forall fun op => op.bufs ⊆ tcRefs τ sig :=
  ⟨unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub ..⟩
theorem ops_part6_2_fresh : (ops_part6_2 : List (Op F)).Forall fun op => op.fresh = ∅ :=
  forall_fresh_of_map rfl
set_option maxRecDepth 8192 in
theorem ops_part7_sub : (ops_part7 : List (Op F)).Forall fun op => op.bufs ⊆ tcRefs τ sig :=
  ⟨binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub ..⟩
theorem ops_part7_fresh : (ops_part7 : List (Op F)).Forall fun op => op.fresh = ∅ :=
  forall_fresh_of_map rfl
set_option maxRecDepth 8192 in
theorem ops_part8_sub : (ops_part8 : List (Op F)).Forall fun op => op.bufs ⊆ tcRefs τ sig :=
  ⟨reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., nullary_bufs_sub .., unary_bufs_sub .., binary_bufs_sub .., binary_bufs_sub .., binary_bufs_sub ..⟩
theorem ops_part8_fresh : (ops_part8 : List (Op F)).Forall fun op => op.fresh = ∅ :=
  forall_fresh_of_map rfl
set_option maxRecDepth 8192 in
theorem ops_part9_sub : (ops_part9 : List (Op F)).Forall fun op => op.bufs ⊆ tcRefs τ sig :=
  ⟨nullary_bufs_sub .., unary_bufs_sub .., binary_bufs_sub .., binary_bufs_sub .., nullary_bufs_sub .., binary_bufs_sub .., binary_bufs_sub .., reshape_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., binary_bufs_sub .., binary_bufs_sub .., unary_bufs_sub .., unary_bufs_sub .., unary_bufs_sub .., nary_bufs_sub ..⟩
theorem ops_part9_fresh : (ops_part9 : List (Op F)).Forall fun op => op.fresh = ∅ :=
  forall_fresh_of_map rfl

theorem ops_sub : (ops : List (Op F)).Forall fun op => op.bufs ⊆ tcRefs τ sig := by
  simp only [ops, ops_part5, ops_part6, List.forall_append]
  exact ⟨ops_part0_sub, ops_part1_sub, ops_part2_sub, ops_part3_sub, ops_part4_sub, ⟨ops_part5_0_sub, ops_part5_1_sub, ops_part5_2_sub⟩, ⟨ops_part6_0_sub, ops_part6_1_sub, ops_part6_2_sub⟩, ops_part7_sub, ops_part8_sub, ops_part9_sub⟩
theorem ops_fresh : ∀ op ∈ (ops : List (Op F)), op.fresh = ∅ := by
  refine List.forall_iff_forall_mem.mp ?_
  simp only [ops, ops_part5, ops_part6, List.forall_append]
  exact ⟨ops_part0_fresh, ops_part1_fresh, ops_part2_fresh, ops_part3_fresh, ops_part4_fresh, ⟨ops_part5_0_fresh, ops_part5_1_fresh, ops_part5_2_fresh⟩, ⟨ops_part6_0_fresh, ops_part6_1_fresh, ops_part6_2_fresh⟩, ops_part7_fresh, ops_part8_fresh, ops_part9_fresh⟩

/-- Every execution of the reference ends, with the line's contents in every buffer. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ (c : Dev nD) (b : Ref sig .tc),
      r.2.mem ((c.tc : Thread nD τ).loc b) = after (ops (F := Ideal)) (launchContents m c) (Proc.devRef .tc b)) :=
  run_seq scoped_refs scoped_sems defs main (fun _ => ops (F := Ideal)) main_eq (fun _ => ops_sub) m g fun _ => ops_fresh

end Cert.ReferenceIdeal.Own
-- ==== Proof.RefEqs0.lean ====
/-
  The buffers of the reference after the run, each as its operation applied to the buffers it reads (first half).
-/
module

public import proofs.«01_k».proof.Proof.RefOps

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo

/-- The contents of one device's buffers. -/
abbrev Vl : Type := Valuation τ sig (Elt Ideal)

set_option maxRecDepth 8192

/-- The argument buffer. -/
def b_arg0 (V : Valuation τ sig (Elt Ideal)) : FVec Ideal S8x33600x80 .f32 := V (Proc.devRef .tc main_arg0)
theorem k_arg0 (V : Valuation τ sig (Elt Ideal)) : after (ops (F := Ideal)) V (Proc.devRef .tc main_arg0) = b_arg0 V := line_ok.arg V (by decide)
/-- The argument buffer. -/
def b_arg1 (V : Valuation τ sig (Elt Ideal)) : FVec Ideal S8x33600x4 .f32 := V (Proc.devRef .tc main_arg1)
theorem k_arg1 (V : Valuation τ sig (Elt Ideal)) : after (ops (F := Ideal)) V (Proc.devRef .tc main_arg1) = b_arg1 V := line_ok.arg V (by decide)
/-- The argument buffer. -/
def b_arg2 (V : Valuation τ sig (Elt Ideal)) : FVec Ideal S8x33600x1 .f32 := V (Proc.devRef .tc main_arg2)
theorem k_arg2 (V : Valuation τ sig (Elt Ideal)) : after (ops (F := Ideal)) V (Proc.devRef .tc main_arg2) = b_arg2 V := line_ok.arg V (by decide)
/-- The argument buffer. -/
def b_arg3 (V : Valuation τ sig (Elt Ideal)) : FVec Ideal S33600x2 .f32 := V (Proc.devRef .tc main_arg3)
theorem k_arg3 (V : Valuation τ sig (Elt Ideal)) : after (ops (F := Ideal)) V (Proc.devRef .tc main_arg3) = b_arg3 V := line_ok.arg V (by decide)
/-- The argument buffer. -/
def b_arg4 (V : Valuation τ sig (Elt Ideal)) : IVec S8x33600 1 := V (Proc.devRef .tc main_arg4)
theorem k_arg4 (V : Valuation τ sig (Elt Ideal)) : after (ops (F := Ideal)) V (Proc.devRef .tc main_arg4) = b_arg4 V := line_ok.arg V (by decide)
/-- The argument buffer. -/
def b_arg5 (V : Valuation τ sig (Elt Ideal)) : IVec S8x60 32 := V (Proc.devRef .tc main_arg5)
theorem k_arg5 (V : Valuation τ sig (Elt Ideal)) : after (ops (F := Ideal)) V (Proc.devRef .tc main_arg5) = b_arg5 V := line_ok.arg V (by decide)
/-- The argument buffer. -/
def b_arg6 (V : Valuation τ sig (Elt Ideal)) : FVec Ideal S8x60x4 .f32 := V (Proc.devRef .tc main_arg6)
theorem k_arg6 (V : Valuation τ sig (Elt Ideal)) : after (ops (F := Ideal)) V (Proc.devRef .tc main_arg6) = b_arg6 V := line_ok.arg V (by decide)
def b_v0 (V : Vl) : FVec Ideal S33600x1 .f32 := after (ops (F := Ideal)) V (Proc.devRef .tc main_v0)
theorem e_v0 (V : Vl) : b_v0 V = extractStridedSlice S33600x1 ![0, 0] (b_arg3 V) slices_S33600x2_S33600x1_0_0 := by
  have h := line_ok.s1 V 0 rfl (by decide) (by decide)
  rw [k_arg3] at h
  exact h
def b_v1 (V : Vl) : FVec Ideal S33600 .f32 := after (ops (F := Ideal)) V (Proc.devRef .tc main_v1)
theorem e_v1 (V : Vl) : b_v1 V = shapeCast S33600 (b_v0 V) shapeCasts_S33600x1_S33600 := by
  have h := line_ok.sr V 1 rfl (by decide) (by decide)
  exact h
def b_v2 (V : Vl) : FVec Ideal S1x33600 .f32 := after (ops (F := Ideal)) V (Proc.devRef .tc main_v2)
theorem e_v2 (V : Vl) : b_v2 V = broadcastInDim S1x33600 ![1] bcast_S33600_S1x33600_1 (b_v1 V) := by
  have h := line_ok.s1 V 2 rfl (by decide) (by decide)
  exact h
def b_v3 (V : Vl) : FVec Ideal S33600x1 .f32 := after (ops (F := Ideal)) V (Proc.devRef .tc main_v3)
theorem e_v3 (V : Vl) : b_v3 V = extractStridedSlice S33600x1 ![0, 1] (b_arg3 V) slices_S33600x2_S33600x1_0_1 := by
  have h := line_ok.s1 V 3 rfl (by decide) (by decide)
  rw [k_arg3] at h
  exact h
def b_v4 (V : Vl) : FVec Ideal S33600 .f32 := after (ops (F := Ideal)) V (Proc.devRef .tc main_v4)
theorem e_v4 (V : Vl) : b_v4 V = shapeCast S33600 (b_v3 V) shapeCasts_S33600x1_S33600 := by
  have h := line_ok.sr V 4 rfl (by decide) (by decide)
  exact h
def b_v5 (V : Vl) : FVec Ideal S1x33600 .f32 := after (ops (F := Ideal)) V (Proc.devRef .tc main_v5)
theorem e_v5 (V : Vl) : b_v5 V = broadcastInDim S1x33600 ![1] bcast_S33600_S1x33600_1 (b_v4 V) := by
  have h := line_ok.s1 V 5 rfl (by decide) (by decide)
  exact h
def b_v6 (V : Vl) : FVec Ideal S8x60x1 .f32 := after (ops (F := Ideal)) V (Proc.devRef .tc main_v6)
theorem e_v6 (V : Vl) : b_v6 V = extractStridedSlice S8x60x1 ![0, 0, 0] (b_arg6 V) slices_S8x60x4_S8x60x1_0_0_0 := by
  have h := line_ok.s1 V 6 rfl (by decide) (by decide)
  rw [k_arg6] at h
  exact h
def b_v7 (V : Vl) : FVec Ideal S1x1x33600 .f32 := after (ops (F := Ideal)) V (Proc.devRef .tc main_v7)
theorem e_v7 (V : Vl) : b_v7 V = broadcastInDim S1x1x33600 ![1, 2] bcast_S1x33600_S1x1x33600_1_2 (b_v2 V) := by
  have h := line_ok.s1 V 7 rfl (by decide) (by decide)
  exact h
def b_v8 (V : Vl) : FVec Ideal S8x60x33600 .f32 := after (ops (F := Ideal)) V (Proc.devRef .tc main_v8)
theorem e_v8 (V : Vl) : b_v8 V = broadcastInDim S8x60x33600 ![0, 1, 2] bcast_S1x1x33600_S8x60x33600_0_1_2 (b_v7 V) := by
  have h := line_ok.s1 V 8 rfl (by decide) (by decide)
  exact h
def b_v9 (V : Vl) : FVec Ideal S8x60x33600 .f32 := after (ops (F := Ideal)) V (Proc.devRef .tc main_v9)
theorem e_v9 (V : Vl) : b_v9 V = broadcastInDim S8x60x33600 ![0, 1, 2] bcast_S8x60x1_S8x60x33600_0_1_2 (b_v6 V) := by
  have h := line_ok.s1 V 9 rfl (by decide) (by decide)
  exact h
def b_v10 (V : Vl) : IVec S8x60x33600 1 := after (ops (F := Ideal)) V (Proc.devRef .tc main_v10)
theorem e_v10 (V : Vl) : b_v10 V = cmpf .ogt (b_v8 V) (b_v9 V) := by
  have h := line_ok.s2 V 10 rfl (by decide) (by decide) (by decide)
  exact h
def b_v11 (V : Vl) : FVec Ideal S8x60x1 .f32 := after (ops (F := Ideal)) V (Proc.devRef .tc main_v11)
theorem e_v11 (V : Vl) : b_v11 V = extractStridedSlice S8x60x1 ![0, 0, 2] (b_arg6 V) slices_S8x60x4_S8x60x1_0_0_2 := by
  have h := line_ok.s1 V 11 rfl (by decide) (by decide)
  rw [k_arg6] at h
  exact h
def b_v12 (V : Vl) : FVec Ideal S1x1x33600 .f32 := after (ops (F := Ideal)) V (Proc.devRef .tc main_v12)
theorem e_v12 (V : Vl) : b_v12 V = broadcastInDim S1x1x33600 ![1, 2] bcast_S1x33600_S1x1x33600_1_2 (b_v2 V) := by
  have h := line_ok.s1 V 12 rfl (by decide) (by decide)
  exact h
def b_v13 (V : Vl) : FVec Ideal S8x60x33600 .f32 := after (ops (F := Ideal)) V (Proc.devRef .tc main_v13)
theorem e_v13 (V : Vl) : b_v13 V = broadcastInDim S8x60x33600 ![0, 1, 2] bcast_S1x1x33600_S8x60x33600_0_1_2 (b_v12 V) := by
  have h := line_ok.s1 V 13 rfl (by decide) (by decide)
  exact h
def b_v14 (V : Vl) : FVec Ideal S8x60x33600 .f32 := after (ops (F := Ideal)) V (Proc.devRef .tc main_v14)
theorem e_v14 (V : Vl) : b_v14 V = broadcastInDim S8x60x33600 ![0, 1, 2] bcast_S8x60x1_S8x60x33600_0_1_2 (b_v11 V) := by
  have h := line_ok.s1 V 14 rfl (by decide) (by decide)
  exact h
def b_v15 (V : Vl) : IVec S8x60x33600 1 := after (ops (F := Ideal)) V (Proc.devRef .tc main_v15)
theorem e_v15 (V : Vl) : b_v15 V = cmpf .olt (b_v13 V) (b_v14 V) := by
  have h := line_ok.s2 V 15 rfl (by decide) (by decide) (by decide)
  exact h
def b_v16 (V : Vl) : IVec S8x60x33600 1 := after (ops (F := Ideal)) V (Proc.devRef .tc main_v16)
theorem e_v16 (V : Vl) : b_v16 V = andi (b_v10 V) (b_v15 V) := by
  have h := line_ok.s2 V 16 rfl (by decide) (by decide) (by decide)
  exact h
def b_v17 (V : Vl) : FVec Ideal S8x60x1 .f32 := after (ops (F := Ideal)) V (Proc.devRef .tc main_v17)
theorem e_v17 (V : Vl) : b_v17 V = extractStridedSlice S8x60x1 ![0, 0, 1] (b_arg6 V) slices_S8x60x4_S8x60x1_0_0_1 := by
  have h := line_ok.s1 V 17 rfl (by decide) (by decide)
  rw [k_arg6] at h
  exact h
def b_v18 (V : Vl) : FVec Ideal S1x1x33600 .f32 := after (ops (F := Ideal)) V (Proc.devRef .tc main_v18)
theorem e_v18 (V : Vl) : b_v18 V = broadcastInDim S1x1x33600 ![1, 2] bcast_S1x33600_S1x1x33600_1_2 (b_v5 V) := by
  have h := line_ok.s1 V 18 rfl (by decide) (by decide)
  exact h
def b_v19 (V : Vl) : FVec Ideal S8x60x33600 .f32 := after (ops (F := Ideal)) V (Proc.devRef .tc main_v19)
theorem e_v19 (V : Vl) : b_v19 V = broadcastInDim S8x60x33600 ![0, 1, 2] bcast_S1x1x33600_S8x60x33600_0_1_2 (b_v18 V) := by
  have h := line_ok.s1 V 19 rfl (by decide) (by decide)
  exact h
def b_v20 (V : Vl) : FVec Ideal S8x60x33600 .f32 := after (ops (F := Ideal)) V (Proc.devRef .tc main_v20)
theorem e_v20 (V : Vl) : b_v20 V = broadcastInDim S8x60x33600 ![0, 1, 2] bcast_S8x60x1_S8x60x33600_0_1_2 (b_v17 V) := by
  have h := line_ok.s1 V 20 rfl (by decide) (by decide)
  exact h
def b_v21 (V : Vl) : IVec S8x60x33600 1 := after (ops (F := Ideal)) V (Proc.devRef .tc main_v21)
theorem e_v21 (V : Vl) : b_v21 V = cmpf .ogt (b_v19 V) (b_v20 V) := by
  have h := line_ok.s2 V 21 rfl (by decide) (by decide) (by decide)
  exact h
def b_v22 (V : Vl) : IVec S8x60x33600 1 := after (ops (F := Ideal)) V (Proc.devRef .tc main_v22)
theorem e_v22 (V : Vl) : b_v22 V = andi (b_v16 V) (b_v21 V) := by
  have h := line_ok.s2 V 22 rfl (by decide) (by decide) (by decide)
  exact h
def b_v23 (V : Vl) : FVec Ideal S8x60x1 .f32 := after (ops (F := Ideal)) V (Proc.devRef .tc main_v23)
theorem e_v23 (V : Vl) : b_v23 V = extractStridedSlice S8x60x1 ![0, 0, 3] (b_arg6 V) slices_S8x60x4_S8x60x1_0_0_3 := by
  have h := line_ok.s1 V 23 rfl (by decide) (by decide)
  rw [k_arg6] at h
  exact h
def b_v24 (V : Vl) : FVec Ideal S1x1x33600 .f32 := after (ops (F := Ideal)) V (Proc.devRef .tc main_v24)
theorem e_v24 (V : Vl) : b_v24 V = broadcastInDim S1x1x33600 ![1, 2] bcast_S1x33600_S1x1x33600_1_2 (b_v5 V) := by
  have h := line_ok.s1 V 24 rfl (by decide) (by decide)
  exact h
def b_v25 (V : Vl) : FVec Ideal S8x60x33600 .f32 := after (ops (F := Ideal)) V (Proc.devRef .tc main_v25)
theorem e_v25 (V : Vl) : b_v25 V = broadcastInDim S8x60x33600 ![0, 1, 2] bcast_S1x1x33600_S8x60x33600_0_1_2 (b_v24 V) := by
  have h := line_ok.s1 V 25 rfl (by decide) (by decide)
  exact h
def b_v26 (V : Vl) : FVec Ideal S8x60x33600 .f32 := after (ops (F := Ideal)) V (Proc.devRef .tc main_v26)
theorem e_v26 (V : Vl) : b_v26 V = broadcastInDim S8x60x33600 ![0, 1, 2] bcast_S8x60x1_S8x60x33600_0_1_2 (b_v23 V) := by
  have h := line_ok.s1 V 26 rfl (by decide) (by decide)
  exact h
def b_v27 (V : Vl) : IVec S8x60x33600 1 := after (ops (F := Ideal)) V (Proc.devRef .tc main_v27)
theorem e_v27 (V : Vl) : b_v27 V = cmpf .olt (b_v25 V) (b_v26 V) := by
  have h := line_ok.s2 V 27 rfl (by decide) (by decide) (by decide)
  exact h
def b_v28 (V : Vl) : IVec S8x60x33600 1 := after (ops (F := Ideal)) V (Proc.devRef .tc main_v28)
theorem e_v28 (V : Vl) : b_v28 V = andi (b_v22 V) (b_v27 V) := by
  have h := line_ok.s2 V 28 rfl (by decide) (by decide) (by decide)
  exact h
def b_v29 (V : Vl) : FVec Ideal S8x60x1 .f32 := after (ops (F := Ideal)) V (Proc.devRef .tc main_v29)
theorem e_v29 (V : Vl) : b_v29 V = extractStridedSlice S8x60x1 ![0, 0, 0] (b_arg6 V) slices_S8x60x4_S8x60x1_0_0_0 := by
  have h := line_ok.s1 V 29 rfl (by decide) (by decide)
  rw [k_arg6] at h
  exact h
def b_v30 (V : Vl) : FVec Ideal S8x60 .f32 := after (ops (F := Ideal)) V (Proc.devRef .tc main_v30)
theorem e_v30 (V : Vl) : b_v30 V = shapeCast S8x60 (b_v29 V) shapeCasts_S8x60x1_S8x60 := by
  have h := line_ok.sr V 30 rfl (by decide) (by decide)
  exact h
def b_v31 (V : Vl) : FVec Ideal S8x60x1 .f32 := after (ops (F := Ideal)) V (Proc.devRef .tc main_v31)
theorem e_v31 (V : Vl) : b_v31 V = extractStridedSlice S8x60x1 ![0, 0, 2] (b_arg6 V) slices_S8x60x4_S8x60x1_0_0_2 := by
  have h := line_ok.s1 V 31 rfl (by decide) (by decide)
  rw [k_arg6] at h
  exact h
def b_v32 (V : Vl) : FVec Ideal S8x60 .f32 := after (ops (F := Ideal)) V (Proc.devRef .tc main_v32)
theorem e_v32 (V : Vl) : b_v32 V = shapeCast S8x60 (b_v31 V) shapeCasts_S8x60x1_S8x60 := by
  have h := line_ok.sr V 32 rfl (by decide) (by decide)
  exact h
def b_v33 (V : Vl) : FVec Ideal S8x60 .f32 := after (ops (F := Ideal)) V (Proc.devRef .tc main_v33)
theorem e_v33 (V : Vl) : b_v33 V = addf (b_v30 V) (b_v32 V) := by
  have h := line_ok.s2 V 33 rfl (by decide) (by decide) (by decide)
  exact h
def b_cst (V : Vl) : FVec Ideal S_ .f32 := after (ops (F := Ideal)) V (Proc.devRef .tc main_cst)
theorem e_cst (V : Vl) : b_cst V = (constant S_ .f32 0x3F000000#32) := by
  have h := line_ok.s0 V 34 rfl (by decide)
  exact h
def b_v34 (V : Vl) : FVec Ideal S8x60 .f32 := after (ops (F := Ideal)) V (Proc.devRef .tc main_v34)
theorem e_v34 (V : Vl) : b_v34 V = broadcastInDim S8x60 ![] bcast_S_S8x60 (b_cst V) := by
  have h := line_ok.s1 V 35 rfl (by decide) (by decide)
  exact h
def b_v35 (V : Vl) : FVec Ideal S8x60 .f32 := after (ops (F := Ideal)) V (Proc.devRef .tc main_v35)
theorem e_v35 (V : Vl) : b_v35 V = mulf (b_v33 V) (b_v34 V) := by
  have h := line_ok.s2 V 36 rfl (by decide) (by decide) (by decide)
  exact h
def b_v36 (V : Vl) : FVec Ideal S8x60x1 .f32 := after (ops (F := Ideal)) V (Proc.devRef .tc main_v36)
theorem e_v36 (V : Vl) : b_v36 V = broadcastInDim S8x60x1 ![0, 1] bcast_S8x60_S8x60x1_0_1 (b_v35 V) := by
  have h := line_ok.s1 V 37 rfl (by decide) (by decide)
  exact h
def b_v37 (V : Vl) : FVec Ideal S8x60x1 .f32 := after (ops (F := Ideal)) V (Proc.devRef .tc main_v37)
theorem e_v37 (V : Vl) : b_v37 V = extractStridedSlice S8x60x1 ![0, 0, 1] (b_arg6 V) slices_S8x60x4_S8x60x1_0_0_1 := by
  have h := line_ok.s1 V 38 rfl (by decide) (by decide)
  rw [k_arg6] at h
  exact h
def b_v38 (V : Vl) : FVec Ideal S8x60 .f32 := after (ops (F := Ideal)) V (Proc.devRef .tc main_v38)
theorem e_v38 (V : Vl) : b_v38 V = shapeCast S8x60 (b_v37 V) shapeCasts_S8x60x1_S8x60 := by
  have h := line_ok.sr V 39 rfl (by decide) (by decide)
  exact h
def b_v39 (V : Vl) : FVec Ideal S8x60x1 .f32 := after (ops (F := Ideal)) V (Proc.devRef .tc main_v39)
theorem e_v39 (V : Vl) : b_v39 V = extractStridedSlice S8x60x1 ![0, 0, 3] (b_arg6 V) slices_S8x60x4_S8x60x1_0_0_3 := by
  have h := line_ok.s1 V 40 rfl (by decide) (by decide)
  rw [k_arg6] at h
  exact h
def b_v40 (V : Vl) : FVec Ideal S8x60 .f32 := after (ops (F := Ideal)) V (Proc.devRef .tc main_v40)
theorem e_v40 (V : Vl) : b_v40 V = shapeCast S8x60 (b_v39 V) shapeCasts_S8x60x1_S8x60 := by
  have h := line_ok.sr V 41 rfl (by decide) (by decide)
  exact h
def b_v41 (V : Vl) : FVec Ideal S8x60 .f32 := after (ops (F := Ideal)) V (Proc.devRef .tc main_v41)
theorem e_v41 (V : Vl) : b_v41 V = addf (b_v38 V) (b_v40 V) := by
  have h := line_ok.s2 V 42 rfl (by decide) (by decide) (by decide)
  exact h
def b_cst_0 (V : Vl) : FVec Ideal S_ .f32 := after (ops (F := Ideal)) V (Proc.devRef .tc main_cst_0)
theorem e_cst_0 (V : Vl) : b_cst_0 V = (constant S_ .f32 0x3F000000#32) := by
  have h := line_ok.s0 V 43 rfl (by decide)
  exact h
def b_v42 (V : Vl) : FVec Ideal S8x60 .f32 := after (ops (F := Ideal)) V (Proc.devRef .tc main_v42)
theorem e_v42 (V : Vl) : b_v42 V = broadcastInDim S8x60 ![] bcast_S_S8x60 (b_cst_0 V) := by
  have h := line_ok.s1 V 44 rfl (by decide) (by decide)
  exact h
def b_v43 (V : Vl) : FVec Ideal S8x60 .f32 := after (ops (F := Ideal)) V (Proc.devRef .tc main_v43)
theorem e_v43 (V : Vl) : b_v43 V = mulf (b_v41 V) (b_v42 V) := by
  have h := line_ok.s2 V 45 rfl (by decide) (by decide) (by decide)
  exact h
def b_v44 (V : Vl) : FVec Ideal S8x60x1 .f32 := after (ops (F := Ideal)) V (Proc.devRef .tc main_v44)
theorem e_v44 (V : Vl) : b_v44 V = broadcastInDim S8x60x1 ![0, 1] bcast_S8x60_S8x60x1_0_1 (b_v43 V) := by
  have h := line_ok.s1 V 46 rfl (by decide) (by decide)
  exact h
def b_cst_1 (V : Vl) : FVec Ideal S_ .f32 := after (ops (F := Ideal)) V (Proc.devRef .tc main_cst_1)
theorem e_cst_1 (V : Vl) : b_cst_1 V = (constant S_ .f32 0x41A00000#32) := by
  have h := line_ok.s0 V 47 rfl (by decide)
  exact h
def b_v45 (V : Vl) : FVec Ideal S8x60x1 .f32 := after (ops (F := Ideal)) V (Proc.devRef .tc main_v45)
theorem e_v45 (V : Vl) : b_v45 V = broadcastInDim S8x60x1 ![] bcast_S_S8x60x1 (b_cst_1 V) := by
  have h := line_ok.s1 V 48 rfl (by decide) (by decide)
  exact h
def b_v46 (V : Vl) : FVec Ideal S8x60x1 .f32 := after (ops (F := Ideal)) V (Proc.devRef .tc main_v46)
theorem e_v46 (V : Vl) : b_v46 V = subf (b_v36 V) (b_v45 V) := by
  have h := line_ok.s2 V 49 rfl (by decide) (by decide) (by decide)
  exact h
def b_v47 (V : Vl) : FVec Ideal S1x1x33600 .f32 := after (ops (F := Ideal)) V (Proc.devRef .tc main_v47)
theorem e_v47 (V : Vl) : b_v47 V = broadcastInDim S1x1x33600 ![1, 2] bcast_S1x33600_S1x1x33600_1_2 (b_v2 V) := by
  have h := line_ok.s1 V 50 rfl (by decide) (by decide)
  exact h
def b_v48 (V : Vl) : FVec Ideal S8x60x33600 .f32 := after (ops (F := Ideal)) V (Proc.devRef .tc main_v48)
theorem e_v48 (V : Vl) : b_v48 V = broadcastInDim S8x60x33600 ![0, 1, 2] bcast_S1x1x33600_S8x60x33600_0_1_2 (b_v47 V) := by
  have h := line_ok.s1 V 51 rfl (by decide) (by decide)
  exact h
def b_v49 (V : Vl) : FVec Ideal S8x60x33600 .f32 := after (ops (F := Ideal)) V (Proc.devRef .tc main_v49)
theorem e_v49 (V : Vl) : b_v49 V = broadcastInDim S8x60x33600 ![0, 1, 2] bcast_S8x60x1_S8x60x33600_0_1_2 (b_v46 V) := by
  have h := line_ok.s1 V 52 rfl (by decide) (by decide)
  exact h
def b_v50 (V : Vl) : IVec S8x60x33600 1 := after (ops (F := Ideal)) V (Proc.devRef .tc main_v50)
theorem e_v50 (V : Vl) : b_v50 V = cmpf .ogt (b_v48 V) (b_v49 V) := by
  have h := line_ok.s2 V 53 rfl (by decide) (by decide) (by decide)
  exact h
def b_cst_2 (V : Vl) : FVec Ideal S_ .f32 := after (ops (F := Ideal)) V (Proc.devRef .tc main_cst_2)
theorem e_cst_2 (V : Vl) : b_cst_2 V = (constant S_ .f32 0x41A00000#32) := by
  have h := line_ok.s0 V 54 rfl (by decide)
  exact h
def b_v51 (V : Vl) : FVec Ideal S8x60x1 .f32 := after (ops (F := Ideal)) V (Proc.devRef .tc main_v51)
theorem e_v51 (V : Vl) : b_v51 V = broadcastInDim S8x60x1 ![] bcast_S_S8x60x1 (b_cst_2 V) := by
  have h := line_ok.s1 V 55 rfl (by decide) (by decide)
  exact h
def b_v52 (V : Vl) : FVec Ideal S8x60x1 .f32 := after (ops (F := Ideal)) V (Proc.devRef .tc main_v52)
theorem e_v52 (V : Vl) : b_v52 V = addf (b_v36 V) (b_v51 V) := by
  have h := line_ok.s2 V 56 rfl (by decide) (by decide) (by decide)
  exact h
def b_v53 (V : Vl) : FVec Ideal S1x1x33600 .f32 := after (ops (F := Ideal)) V (Proc.devRef .tc main_v53)
theorem e_v53 (V : Vl) : b_v53 V = broadcastInDim S1x1x33600 ![1, 2] bcast_S1x33600_S1x1x33600_1_2 (b_v2 V) := by
  have h := line_ok.s1 V 57 rfl (by decide) (by decide)
  exact h
def b_v54 (V : Vl) : FVec Ideal S8x60x33600 .f32 := after (ops (F := Ideal)) V (Proc.devRef .tc main_v54)
theorem e_v54 (V : Vl) : b_v54 V = broadcastInDim S8x60x33600 ![0, 1, 2] bcast_S1x1x33600_S8x60x33600_0_1_2 (b_v53 V) := by
  have h := line_ok.s1 V 58 rfl (by decide) (by decide)
  exact h
def b_v55 (V : Vl) : FVec Ideal S8x60x33600 .f32 := after (ops (F := Ideal)) V (Proc.devRef .tc main_v55)
theorem e_v55 (V : Vl) : b_v55 V = broadcastInDim S8x60x33600 ![0, 1, 2] bcast_S8x60x1_S8x60x33600_0_1_2 (b_v52 V) := by
  have h := line_ok.s1 V 59 rfl (by decide) (by decide)
  exact h
def b_v56 (V : Vl) : IVec S8x60x33600 1 := after (ops (F := Ideal)) V (Proc.devRef .tc main_v56)
theorem e_v56 (V : Vl) : b_v56 V = cmpf .olt (b_v54 V) (b_v55 V) := by
  have h := line_ok.s2 V 60 rfl (by decide) (by decide) (by decide)
  exact h
def b_v57 (V : Vl) : IVec S8x60x33600 1 := after (ops (F := Ideal)) V (Proc.devRef .tc main_v57)
theorem e_v57 (V : Vl) : b_v57 V = andi (b_v50 V) (b_v56 V) := by
  have h := line_ok.s2 V 61 rfl (by decide) (by decide) (by decide)
  exact h
def b_cst_3 (V : Vl) : FVec Ideal S_ .f32 := after (ops (F := Ideal)) V (Proc.devRef .tc main_cst_3)
theorem e_cst_3 (V : Vl) : b_cst_3 V = (constant S_ .f32 0x41A00000#32) := by
  have h := line_ok.s0 V 62 rfl (by decide)
  exact h
def b_v58 (V : Vl) : FVec Ideal S8x60x1 .f32 := after (ops (F := Ideal)) V (Proc.devRef .tc main_v58)
theorem e_v58 (V : Vl) : b_v58 V = broadcastInDim S8x60x1 ![] bcast_S_S8x60x1 (b_cst_3 V) := by
  have h := line_ok.s1 V 63 rfl (by decide) (by decide)
  exact h
def b_v59 (V : Vl) : FVec Ideal S8x60x1 .f32 := after (ops (F := Ideal)) V (Proc.devRef .tc main_v59)
theorem e_v59 (V : Vl) : b_v59 V = subf (b_v44 V) (b_v58 V) := by
  have h := line_ok.s2 V 64 rfl (by decide) (by decide) (by decide)
  exact h
def b_v60 (V : Vl) : FVec Ideal S1x1x33600 .f32 := after (ops (F := Ideal)) V (Proc.devRef .tc main_v60)
theorem e_v60 (V : Vl) : b_v60 V = broadcastInDim S1x1x33600 ![1, 2] bcast_S1x33600_S1x1x33600_1_2 (b_v5 V) := by
  have h := line_ok.s1 V 65 rfl (by decide) (by decide)
  exact h
def b_v61 (V : Vl) : FVec Ideal S8x60x33600 .f32 := after (ops (F := Ideal)) V (Proc.devRef .tc main_v61)
theorem e_v61 (V : Vl) : b_v61 V = broadcastInDim S8x60x33600 ![0, 1, 2] bcast_S1x1x33600_S8x60x33600_0_1_2 (b_v60 V) := by
  have h := line_ok.s1 V 66 rfl (by decide) (by decide)
  exact h
def b_v62 (V : Vl) : FVec Ideal S8x60x33600 .f32 := after (ops (F := Ideal)) V (Proc.devRef .tc main_v62)
theorem e_v62 (V : Vl) : b_v62 V = broadcastInDim S8x60x33600 ![0, 1, 2] bcast_S8x60x1_S8x60x33600_0_1_2 (b_v59 V) := by
  have h := line_ok.s1 V 67 rfl (by decide) (by decide)
  exact h
def b_v63 (V : Vl) : IVec S8x60x33600 1 := after (ops (F := Ideal)) V (Proc.devRef .tc main_v63)
theorem e_v63 (V : Vl) : b_v63 V = cmpf .ogt (b_v61 V) (b_v62 V) := by
  have h := line_ok.s2 V 68 rfl (by decide) (by decide) (by decide)
  exact h
def b_v64 (V : Vl) : IVec S8x60x33600 1 := after (ops (F := Ideal)) V (Proc.devRef .tc main_v64)
theorem e_v64 (V : Vl) : b_v64 V = andi (b_v57 V) (b_v63 V) := by
  have h := line_ok.s2 V 69 rfl (by decide) (by decide) (by decide)
  exact h
def b_cst_4 (V : Vl) : FVec Ideal S_ .f32 := after (ops (F := Ideal)) V (Proc.devRef .tc main_cst_4)
theorem e_cst_4 (V : Vl) : b_cst_4 V = (constant S_ .f32 0x41A00000#32) := by
  have h := line_ok.s0 V 70 rfl (by decide)
  exact h
def b_v65 (V : Vl) : FVec Ideal S8x60x1 .f32 := after (ops (F := Ideal)) V (Proc.devRef .tc main_v65)
theorem e_v65 (V : Vl) : b_v65 V = broadcastInDim S8x60x1 ![] bcast_S_S8x60x1 (b_cst_4 V) := by
  have h := line_ok.s1 V 71 rfl (by decide) (by decide)
  exact h
def b_v66 (V : Vl) : FVec Ideal S8x60x1 .f32 := after (ops (F := Ideal)) V (Proc.devRef .tc main_v66)
theorem e_v66 (V : Vl) : b_v66 V = addf (b_v44 V) (b_v65 V) := by
  have h := line_ok.s2 V 72 rfl (by decide) (by decide) (by decide)
  exact h
def b_v67 (V : Vl) : FVec Ideal S1x1x33600 .f32 := after (ops (F := Ideal)) V (Proc.devRef .tc main_v67)
theorem e_v67 (V : Vl) : b_v67 V = broadcastInDim S1x1x33600 ![1, 2] bcast_S1x33600_S1x1x33600_1_2 (b_v5 V) := by
  have h := line_ok.s1 V 73 rfl (by decide) (by decide)
  exact h
def b_v68 (V : Vl) : FVec Ideal S8x60x33600 .f32 := after (ops (F := Ideal)) V (Proc.devRef .tc main_v68)
theorem e_v68 (V : Vl) : b_v68 V = broadcastInDim S8x60x33600 ![0, 1, 2] bcast_S1x1x33600_S8x60x33600_0_1_2 (b_v67 V) := by
  have h := line_ok.s1 V 74 rfl (by decide) (by decide)
  exact h
def b_v69 (V : Vl) : FVec Ideal S8x60x33600 .f32 := after (ops (F := Ideal)) V (Proc.devRef .tc main_v69)
theorem e_v69 (V : Vl) : b_v69 V = broadcastInDim S8x60x33600 ![0, 1, 2] bcast_S8x60x1_S8x60x33600_0_1_2 (b_v66 V) := by
  have h := line_ok.s1 V 75 rfl (by decide) (by decide)
  exact h
def b_v70 (V : Vl) : IVec S8x60x33600 1 := after (ops (F := Ideal)) V (Proc.devRef .tc main_v70)
theorem e_v70 (V : Vl) : b_v70 V = cmpf .olt (b_v68 V) (b_v69 V) := by
  have h := line_ok.s2 V 76 rfl (by decide) (by decide) (by decide)
  exact h
def b_v71 (V : Vl) : IVec S8x60x33600 1 := after (ops (F := Ideal)) V (Proc.devRef .tc main_v71)
theorem e_v71 (V : Vl) : b_v71 V = andi (b_v64 V) (b_v70 V) := by
  have h := line_ok.s2 V 77 rfl (by decide) (by decide) (by decide)
  exact h
def b_v72 (V : Vl) : IVec S8x60x33600 1 := after (ops (F := Ideal)) V (Proc.devRef .tc main_v72)
theorem e_v72 (V : Vl) : b_v72 V = ori (b_v28 V) (b_v71 V) := by
  have h := line_ok.s2 V 78 rfl (by decide) (by decide) (by decide)
  exact h
def b_c (V : Vl) : IVec S_ 1 := after (ops (F := Ideal)) V (Proc.devRef .tc main_c)
theorem e_c (V : Vl) : b_c V = (constantI S_ 1 0#1) := by
  have h := line_ok.s0 V 79 rfl (by decide)
  exact h
def b_v73 (V : Vl) : IVec S8x33600 1 := after (ops (F := Ideal)) V (Proc.devRef .tc main_v73)
theorem e_v73 (V : Vl) : b_v73 V = Host.reduce IntOp.ori (b_v72 V) (b_c V) reducesTo_S8x60x33600_S8x33600_d1 h_S_ := by
  have h := line_ok.s2 V 80 rfl (by decide) (by decide) (by decide)
  exact h
def b_v74 (V : Vl) : IVec S8x60x33600 1 := after (ops (F := Ideal)) V (Proc.devRef .tc main_v74)
theorem e_v74 (V : Vl) : b_v74 V = andi (b_v28 V) (b_v71 V) := by
  have h := line_ok.s2 V 81 rfl (by decide) (by decide) (by decide)
  exact h
def b_v75 (V : Vl) : FVec Ideal S8x60x2 .f32 := after (ops (F := Ideal)) V (Proc.devRef .tc main_v75)
theorem e_v75 (V : Vl) : b_v75 V = extractStridedSlice S8x60x2 ![0, 0, 0] (b_arg6 V) slices_S8x60x4_S8x60x2_0_0_0 := by
  have h := line_ok.s1 V 82 rfl (by decide) (by decide)
  rw [k_arg6] at h
  exact h
def b_v76 (V : Vl) : FVec Ideal S8x60x1x2 .f32 := after (ops (F := Ideal)) V (Proc.devRef .tc main_v76)
theorem e_v76 (V : Vl) : b_v76 V = broadcastInDim S8x60x1x2 ![0, 1, 3] bcast_S8x60x2_S8x60x1x2_0_1_3 (b_v75 V) := by
  have h := line_ok.s1 V 83 rfl (by decide) (by decide)
  exact h
def b_v77 (V : Vl) : FVec Ideal S8x33600x2 .f32 := after (ops (F := Ideal)) V (Proc.devRef .tc main_v77)
theorem e_v77 (V : Vl) : b_v77 V = extractStridedSlice S8x33600x2 ![0, 0, 0] (b_arg1 V) slices_S8x33600x4_S8x33600x2_0_0_0 := by
  have h := line_ok.s1 V 84 rfl (by decide) (by decide)
  rw [k_arg1] at h
  exact h
def b_v78 (V : Vl) : FVec Ideal S8x1x33600x2 .f32 := after (ops (F := Ideal)) V (Proc.devRef .tc main_v78)
theorem e_v78 (V : Vl) : b_v78 V = broadcastInDim S8x1x33600x2 ![0, 2, 3] bcast_S8x33600x2_S8x1x33600x2_0_2_3 (b_v77 V) := by
  have h := line_ok.s1 V 85 rfl (by decide) (by decide)
  exact h
def b_v79 (V : Vl) : FVec Ideal S8x60x33600x2 .f32 := after (ops (F := Ideal)) V (Proc.devRef .tc main_v79)
theorem e_v79 (V : Vl) : b_v79 V = broadcastInDim S8x60x33600x2 ![0, 1, 2, 3] bcast_S8x60x1x2_S8x60x33600x2_0_1_2_3 (b_v76 V) := by
  have h := line_ok.s1 V 86 rfl (by decide) (by decide)
  exact h
def b_v80 (V : Vl) : FVec Ideal S8x60x33600x2 .f32 := after (ops (F := Ideal)) V (Proc.devRef .tc main_v80)
theorem e_v80 (V : Vl) : b_v80 V = broadcastInDim S8x60x33600x2 ![0, 1, 2, 3] bcast_S8x1x33600x2_S8x60x33600x2_0_1_2_3 (b_v78 V) := by
  have h := line_ok.s1 V 87 rfl (by decide) (by decide)
  exact h
def b_v81 (V : Vl) : FVec Ideal S8x60x33600x2 .f32 := after (ops (F := Ideal)) V (Proc.devRef .tc main_v81)
theorem e_v81 (V : Vl) : b_v81 V = maximumf (b_v79 V) (b_v80 V) := by
  have h := line_ok.s2 V 88 rfl (by decide) (by decide) (by decide)
  exact h
def b_v82 (V : Vl) : FVec Ideal S8x60x2 .f32 := after (ops (F := Ideal)) V (Proc.devRef .tc main_v82)
theorem e_v82 (V : Vl) : b_v82 V = extractStridedSlice S8x60x2 ![0, 0, 2] (b_arg6 V) slices_S8x60x4_S8x60x2_0_0_2 := by
  have h := line_ok.s1 V 89 rfl (by decide) (by decide)
  rw [k_arg6] at h
  exact h
def b_v83 (V : Vl) : FVec Ideal S8x60x1x2 .f32 := after (ops (F := Ideal)) V (Proc.devRef .tc main_v83)
theorem e_v83 (V : Vl) : b_v83 V = broadcastInDim S8x60x1x2 ![0, 1, 3] bcast_S8x60x2_S8x60x1x2_0_1_3 (b_v82 V) := by
  have h := line_ok.s1 V 90 rfl (by decide) (by decide)
  exact h
def b_v84 (V : Vl) : FVec Ideal S8x33600x2 .f32 := after (ops (F := Ideal)) V (Proc.devRef .tc main_v84)
theorem e_v84 (V : Vl) : b_v84 V = extractStridedSlice S8x33600x2 ![0, 0, 2] (b_arg1 V) slices_S8x33600x4_S8x33600x2_0_0_2 := by
  have h := line_ok.s1 V 91 rfl (by decide) (by decide)
  rw [k_arg1] at h
  exact h
def b_v85 (V : Vl) : FVec Ideal S8x1x33600x2 .f32 := after (ops (F := Ideal)) V (Proc.devRef .tc main_v85)
theorem e_v85 (V : Vl) : b_v85 V = broadcastInDim S8x1x33600x2 ![0, 2, 3] bcast_S8x33600x2_S8x1x33600x2_0_2_3 (b_v84 V) := by
  have h := line_ok.s1 V 92 rfl (by decide) (by decide)
  exact h
def b_v86 (V : Vl) : FVec Ideal S8x60x33600x2 .f32 := after (ops (F := Ideal)) V (Proc.devRef .tc main_v86)
theorem e_v86 (V : Vl) : b_v86 V = broadcastInDim S8x60x33600x2 ![0, 1, 2, 3] bcast_S8x60x1x2_S8x60x33600x2_0_1_2_3 (b_v83 V) := by
  have h := line_ok.s1 V 93 rfl (by decide) (by decide)
  exact h
def b_v87 (V : Vl) : FVec Ideal S8x60x33600x2 .f32 := after (ops (F := Ideal)) V (Proc.devRef .tc main_v87)
theorem e_v87 (V : Vl) : b_v87 V = broadcastInDim S8x60x33600x2 ![0, 1, 2, 3] bcast_S8x1x33600x2_S8x60x33600x2_0_1_2_3 (b_v85 V) := by
  have h := line_ok.s1 V 94 rfl (by decide) (by decide)
  exact h
def b_v88 (V : Vl) : FVec Ideal S8x60x33600x2 .f32 := after (ops (F := Ideal)) V (Proc.devRef .tc main_v88)
theorem e_v88 (V : Vl) : b_v88 V = minimumf (b_v86 V) (b_v87 V) := by
  have h := line_ok.s2 V 95 rfl (by decide) (by decide) (by decide)
  exact h
def b_v89 (V : Vl) : FVec Ideal S8x60x33600x2 .f32 := after (ops (F := Ideal)) V (Proc.devRef .tc main_v89)
theorem e_v89 (V : Vl) : b_v89 V = subf (b_v88 V) (b_v81 V) := by
  have h := line_ok.s2 V 96 rfl (by decide) (by decide) (by decide)
  exact h
def b_cst_5 (V : Vl) : FVec Ideal S_ .f32 := after (ops (F := Ideal)) V (Proc.devRef .tc main_cst_5)
theorem e_cst_5 (V : Vl) : b_cst_5 V = (constant S_ .f32 0x00000000#32) := by
  have h := line_ok.s0 V 97 rfl (by decide)
  exact h
def b_v90 (V : Vl) : FVec Ideal S8x60x33600x2 .f32 := after (ops (F := Ideal)) V (Proc.devRef .tc main_v90)
theorem e_v90 (V : Vl) : b_v90 V = broadcastInDim S8x60x33600x2 ![] bcast_S_S8x60x33600x2 (b_cst_5 V) := by
  have h := line_ok.s1 V 98 rfl (by decide) (by decide)
  exact h
def b_v91 (V : Vl) : FVec Ideal S8x60x33600x2 .f32 := after (ops (F := Ideal)) V (Proc.devRef .tc main_v91)
theorem e_v91 (V : Vl) : b_v91 V = maximumf (b_v89 V) (b_v90 V) := by
  have h := line_ok.s2 V 99 rfl (by decide) (by decide) (by decide)
  exact h
def b_v92 (V : Vl) : FVec Ideal S8x60x33600x1 .f32 := after (ops (F := Ideal)) V (Proc.devRef .tc main_v92)
theorem e_v92 (V : Vl) : b_v92 V = extractStridedSlice S8x60x33600x1 ![0, 0, 0, 0] (b_v91 V) slices_S8x60x33600x2_S8x60x33600x1_0_0_0_0 := by
  have h := line_ok.s1 V 100 rfl (by decide) (by decide)
  exact h
def b_v93 (V : Vl) : FVec Ideal S8x60x33600 .f32 := after (ops (F := Ideal)) V (Proc.devRef .tc main_v93)
theorem e_v93 (V : Vl) : b_v93 V = shapeCast S8x60x33600 (b_v92 V) shapeCasts_S8x60x33600x1_S8x60x33600 := by
  have h := line_ok.sr V 101 rfl (by decide) (by decide)
  exact h
def b_v94 (V : Vl) : FVec Ideal S8x60x33600x1 .f32 := after (ops (F := Ideal)) V (Proc.devRef .tc main_v94)
theorem e_v94 (V : Vl) : b_v94 V = extractStridedSlice S8x60x33600x1 ![0, 0, 0, 1] (b_v91 V) slices_S8x60x33600x2_S8x60x33600x1_0_0_0_1 := by
  have h := line_ok.s1 V 102 rfl (by decide) (by decide)
  exact h
def b_v95 (V : Vl) : FVec Ideal S8x60x33600 .f32 := after (ops (F := Ideal)) V (Proc.devRef .tc main_v95)
theorem e_v95 (V : Vl) : b_v95 V = shapeCast S8x60x33600 (b_v94 V) shapeCasts_S8x60x33600x1_S8x60x33600 := by
  have h := line_ok.sr V 103 rfl (by decide) (by decide)
  exact h
def b_v96 (V : Vl) : FVec Ideal S8x60x33600 .f32 := after (ops (F := Ideal)) V (Proc.devRef .tc main_v96)
theorem e_v96 (V : Vl) : b_v96 V = mulf (b_v93 V) (b_v95 V) := by
  have h := line_ok.s2 V 104 rfl (by decide) (by decide) (by decide)
  exact h
def b_v97 (V : Vl) : FVec Ideal S8x60x1 .f32 := after (ops (F := Ideal)) V (Proc.devRef .tc main_v97)
theorem e_v97 (V : Vl) : b_v97 V = extractStridedSlice S8x60x1 ![0, 0, 2] (b_arg6 V) slices_S8x60x4_S8x60x1_0_0_2 := by
  have h := line_ok.s1 V 105 rfl (by decide) (by decide)
  rw [k_arg6] at h
  exact h
def b_v98 (V : Vl) : FVec Ideal S8x60 .f32 := after (ops (F := Ideal)) V (Proc.devRef .tc main_v98)
theorem e_v98 (V : Vl) : b_v98 V = shapeCast S8x60 (b_v97 V) shapeCasts_S8x60x1_S8x60 := by
  have h := line_ok.sr V 106 rfl (by decide) (by decide)
  exact h
def b_v99 (V : Vl) : FVec Ideal S8x60x1 .f32 := after (ops (F := Ideal)) V (Proc.devRef .tc main_v99)
theorem e_v99 (V : Vl) : b_v99 V = extractStridedSlice S8x60x1 ![0, 0, 0] (b_arg6 V) slices_S8x60x4_S8x60x1_0_0_0 := by
  have h := line_ok.s1 V 107 rfl (by decide) (by decide)
  rw [k_arg6] at h
  exact h
def b_v100 (V : Vl) : FVec Ideal S8x60 .f32 := after (ops (F := Ideal)) V (Proc.devRef .tc main_v100)
theorem e_v100 (V : Vl) : b_v100 V = shapeCast S8x60 (b_v99 V) shapeCasts_S8x60x1_S8x60 := by
  have h := line_ok.sr V 108 rfl (by decide) (by decide)
  exact h
def b_v101 (V : Vl) : FVec Ideal S8x60 .f32 := after (ops (F := Ideal)) V (Proc.devRef .tc main_v101)
theorem e_v101 (V : Vl) : b_v101 V = subf (b_v98 V) (b_v100 V) := by
  have h := line_ok.s2 V 109 rfl (by decide) (by decide) (by decide)
  exact h
def b_cst_6 (V : Vl) : FVec Ideal S_ .f32 := after (ops (F := Ideal)) V (Proc.devRef .tc main_cst_6)
theorem e_cst_6 (V : Vl) : b_cst_6 V = (constant S_ .f32 0x00000000#32) := by
  have h := line_ok.s0 V 110 rfl (by decide)
  exact h
def b_v102 (V : Vl) : FVec Ideal S8x60 .f32 := after (ops (F := Ideal)) V (Proc.devRef .tc main_v102)
theorem e_v102 (V : Vl) : b_v102 V = broadcastInDim S8x60 ![] bcast_S_S8x60 (b_cst_6 V) := by
  have h := line_ok.s1 V 111 rfl (by decide) (by decide)
  exact h
def b_v103 (V : Vl) : FVec Ideal S8x60 .f32 := after (ops (F := Ideal)) V (Proc.devRef .tc main_v103)
theorem e_v103 (V : Vl) : b_v103 V = maximumf (b_v101 V) (b_v102 V) := by
  have h := line_ok.s2 V 112 rfl (by decide) (by decide) (by decide)
  exact h
def b_v104 (V : Vl) : FVec Ideal S8x60x1 .f32 := after (ops (F := Ideal)) V (Proc.devRef .tc main_v104)
theorem e_v104 (V : Vl) : b_v104 V = extractStridedSlice S8x60x1 ![0, 0, 3] (b_arg6 V) slices_S8x60x4_S8x60x1_0_0_3 := by
  have h := line_ok.s1 V 113 rfl (by decide) (by decide)
  rw [k_arg6] at h
  exact h
def b_v105 (V : Vl) : FVec Ideal S8x60 .f32 := after (ops (F := Ideal)) V (Proc.devRef .tc main_v105)
theorem e_v105 (V : Vl) : b_v105 V = shapeCast S8x60 (b_v104 V) shapeCasts_S8x60x1_S8x60 := by
  have h := line_ok.sr V 114 rfl (by decide) (by decide)
  exact h
def b_v106 (V : Vl) : FVec Ideal S8x60x1 .f32 := after (ops (F := Ideal)) V (Proc.devRef .tc main_v106)
theorem e_v106 (V : Vl) : b_v106 V = extractStridedSlice S8x60x1 ![0, 0, 1] (b_arg6 V) slices_S8x60x4_S8x60x1_0_0_1 := by
  have h := line_ok.s1 V 115 rfl (by decide) (by decide)
  rw [k_arg6] at h
  exact h
def b_v107 (V : Vl) : FVec Ideal S8x60 .f32 := after (ops (F := Ideal)) V (Proc.devRef .tc main_v107)
theorem e_v107 (V : Vl) : b_v107 V = shapeCast S8x60 (b_v106 V) shapeCasts_S8x60x1_S8x60 := by
  have h := line_ok.sr V 116 rfl (by decide) (by decide)
  exact h
def b_v108 (V : Vl) : FVec Ideal S8x60 .f32 := after (ops (F := Ideal)) V (Proc.devRef .tc main_v108)
theorem e_v108 (V : Vl) : b_v108 V = subf (b_v105 V) (b_v107 V) := by
  have h := line_ok.s2 V 117 rfl (by decide) (by decide) (by decide)
  exact h
def b_cst_7 (V : Vl) : FVec Ideal S_ .f32 := after (ops (F := Ideal)) V (Proc.devRef .tc main_cst_7)
theorem e_cst_7 (V : Vl) : b_cst_7 V = (constant S_ .f32 0x00000000#32) := by
  have h := line_ok.s0 V 118 rfl (by decide)
  exact h
def b_v109 (V : Vl) : FVec Ideal S8x60 .f32 := after (ops (F := Ideal)) V (Proc.devRef .tc main_v109)
theorem e_v109 (V : Vl) : b_v109 V = broadcastInDim S8x60 ![] bcast_S_S8x60 (b_cst_7 V) := by
  have h := line_ok.s1 V 119 rfl (by decide) (by decide)
  exact h
def b_v110 (V : Vl) : FVec Ideal S8x60 .f32 := after (ops (F := Ideal)) V (Proc.devRef .tc main_v110)
theorem e_v110 (V : Vl) : b_v110 V = maximumf (b_v108 V) (b_v109 V) := by
  have h := line_ok.s2 V 120 rfl (by decide) (by decide) (by decide)
  exact h
def b_v111 (V : Vl) : FVec Ideal S8x60 .f32 := after (ops (F := Ideal)) V (Proc.devRef .tc main_v111)
theorem e_v111 (V : Vl) : b_v111 V = mulf (b_v103 V) (b_v110 V) := by
  have h := line_ok.s2 V 121 rfl (by decide) (by decide) (by decide)
  exact h
def b_v112 (V : Vl) : FVec Ideal S8x33600x1 .f32 := after (ops (F := Ideal)) V (Proc.devRef .tc main_v112)
theorem e_v112 (V : Vl) : b_v112 V = extractStridedSlice S8x33600x1 ![0, 0, 2] (b_arg1 V) slices_S8x33600x4_S8x33600x1_0_0_2 := by
  have h := line_ok.s1 V 122 rfl (by decide) (by decide)
  rw [k_arg1] at h
  exact h
def b_v113 (V : Vl) : FVec Ideal S8x33600 .f32 := after (ops (F := Ideal)) V (Proc.devRef .tc main_v113)
theorem e_v113 (V : Vl) : b_v113 V = shapeCast S8x33600 (b_v112 V) shapeCasts_S8x33600x1_S8x33600 := by
  have h := line_ok.sr V 123 rfl (by decide) (by decide)
  exact h
def b_v114 (V : Vl) : FVec Ideal S8x33600x1 .f32 := after (ops (F := Ideal)) V (Proc.devRef .tc main_v114)
theorem e_v114 (V : Vl) : b_v114 V = extractStridedSlice S8x33600x1 ![0, 0, 0] (b_arg1 V) slices_S8x33600x4_S8x33600x1_0_0_0 := by
  have h := line_ok.s1 V 124 rfl (by decide) (by decide)
  rw [k_arg1] at h
  exact h
def b_v115 (V : Vl) : FVec Ideal S8x33600 .f32 := after (ops (F := Ideal)) V (Proc.devRef .tc main_v115)
theorem e_v115 (V : Vl) : b_v115 V = shapeCast S8x33600 (b_v114 V) shapeCasts_S8x33600x1_S8x33600 := by
  have h := line_ok.sr V 125 rfl (by decide) (by decide)
  exact h
def b_v116 (V : Vl) : FVec Ideal S8x33600 .f32 := after (ops (F := Ideal)) V (Proc.devRef .tc main_v116)
theorem e_v116 (V : Vl) : b_v116 V = subf (b_v113 V) (b_v115 V) := by
  have h := line_ok.s2 V 126 rfl (by decide) (by decide) (by decide)
  exact h
def b_cst_8 (V : Vl) : FVec Ideal S_ .f32 := after (ops (F := Ideal)) V (Proc.devRef .tc main_cst_8)
theorem e_cst_8 (V : Vl) : b_cst_8 V = (constant S_ .f32 0x00000000#32) := by
  have h := line_ok.s0 V 127 rfl (by decide)
  exact h
def b_v117 (V : Vl) : FVec Ideal S8x33600 .f32 := after (ops (F := Ideal)) V (Proc.devRef .tc main_v117)
theorem e_v117 (V : Vl) : b_v117 V = broadcastInDim S8x33600 ![] bcast_S_S8x33600 (b_cst_8 V) := by
  have h := line_ok.s1 V 128 rfl (by decide) (by decide)
  exact h
def b_v118 (V : Vl) : FVec Ideal S8x33600 .f32 := after (ops (F := Ideal)) V (Proc.devRef .tc main_v118)
theorem e_v118 (V : Vl) : b_v118 V = maximumf (b_v116 V) (b_v117 V) := by
  have h := line_ok.s2 V 129 rfl (by decide) (by decide) (by decide)
  exact h
def b_v119 (V : Vl) : FVec Ideal S8x33600x1 .f32 := after (ops (F := Ideal)) V (Proc.devRef .tc main_v119)
theorem e_v119 (V : Vl) : b_v119 V = extractStridedSlice S8x33600x1 ![0, 0, 3] (b_arg1 V) slices_S8x33600x4_S8x33600x1_0_0_3 := by
  have h := line_ok.s1 V 130 rfl (by decide) (by decide)
  rw [k_arg1] at h
  exact h
def b_v120 (V : Vl) : FVec Ideal S8x33600 .f32 := after (ops (F := Ideal)) V (Proc.devRef .tc main_v120)
theorem e_v120 (V : Vl) : b_v120 V = shapeCast S8x33600 (b_v119 V) shapeCasts_S8x33600x1_S8x33600 := by
  have h := line_ok.sr V 131 rfl (by decide) (by decide)
  exact h
def b_v121 (V : Vl) : FVec Ideal S8x33600x1 .f32 := after (ops (F := Ideal)) V (Proc.devRef .tc main_v121)
theorem e_v121 (V : Vl) : b_v121 V = extractStridedSlice S8x33600x1 ![0, 0, 1] (b_arg1 V) slices_S8x33600x4_S8x33600x1_0_0_1 := by
  have h := line_ok.s1 V 132 rfl (by decide) (by decide)
  rw [k_arg1] at h
  exact h
def b_v122 (V : Vl) : FVec Ideal S8x33600 .f32 := after (ops (F := Ideal)) V (Proc.devRef .tc main_v122)
theorem e_v122 (V : Vl) : b_v122 V = shapeCast S8x33600 (b_v121 V) shapeCasts_S8x33600x1_S8x33600 := by
  have h := line_ok.sr V 133 rfl (by decide) (by decide)
  exact h
def b_v123 (V : Vl) : FVec Ideal S8x33600 .f32 := after (ops (F := Ideal)) V (Proc.devRef .tc main_v123)
theorem e_v123 (V : Vl) : b_v123 V = subf (b_v120 V) (b_v122 V) := by
  have h := line_ok.s2 V 134 rfl (by decide) (by decide) (by decide)
  exact h
def b_cst_9 (V : Vl) : FVec Ideal S_ .f32 := after (ops (F := Ideal)) V (Proc.devRef .tc main_cst_9)
theorem e_cst_9 (V : Vl) : b_cst_9 V = (constant S_ .f32 0x00000000#32) := by
  have h := line_ok.s0 V 135 rfl (by decide)
  exact h
def b_v124 (V : Vl) : FVec Ideal S8x33600 .f32 := after (ops (F := Ideal)) V (Proc.devRef .tc main_v124)
theorem e_v124 (V : Vl) : b_v124 V = broadcastInDim S8x33600 ![] bcast_S_S8x33600 (b_cst_9 V) := by
  have h := line_ok.s1 V 136 rfl (by decide) (by decide)
  exact h
def b_v125 (V : Vl) : FVec Ideal S8x33600 .f32 := after (ops (F := Ideal)) V (Proc.devRef .tc main_v125)
theorem e_v125 (V : Vl) : b_v125 V = maximumf (b_v123 V) (b_v124 V) := by
  have h := line_ok.s2 V 137 rfl (by decide) (by decide) (by decide)
  exact h
def b_v126 (V : Vl) : FVec Ideal S8x33600 .f32 := after (ops (F := Ideal)) V (Proc.devRef .tc main_v126)
theorem e_v126 (V : Vl) : b_v126 V = mulf (b_v118 V) (b_v125 V) := by
  have h := line_ok.s2 V 138 rfl (by decide) (by decide) (by decide)
  exact h
def b_v127 (V : Vl) : FVec Ideal S8x60x1 .f32 := after (ops (F := Ideal)) V (Proc.devRef .tc main_v127)
theorem e_v127 (V : Vl) : b_v127 V = broadcastInDim S8x60x1 ![0, 1] bcast_S8x60_S8x60x1_0_1 (b_v111 V) := by
  have h := line_ok.s1 V 139 rfl (by decide) (by decide)
  exact h
def b_v128 (V : Vl) : FVec Ideal S8x1x33600 .f32 := after (ops (F := Ideal)) V (Proc.devRef .tc main_v128)
theorem e_v128 (V : Vl) : b_v128 V = broadcastInDim S8x1x33600 ![0, 2] bcast_S8x33600_S8x1x33600_0_2 (b_v126 V) := by
  have h := line_ok.s1 V 140 rfl (by decide) (by decide)
  exact h
def b_v129 (V : Vl) : FVec Ideal S8x60x33600 .f32 := after (ops (F := Ideal)) V (Proc.devRef .tc main_v129)
theorem e_v129 (V : Vl) : b_v129 V = broadcastInDim S8x60x33600 ![0, 1, 2] bcast_S8x60x1_S8x60x33600_0_1_2 (b_v127 V) := by
  have h := line_ok.s1 V 141 rfl (by decide) (by decide)
  exact h
def b_v130 (V : Vl) : FVec Ideal S8x60x33600 .f32 := after (ops (F := Ideal)) V (Proc.devRef .tc main_v130)
theorem e_v130 (V : Vl) : b_v130 V = broadcastInDim S8x60x33600 ![0, 1, 2] bcast_S8x1x33600_S8x60x33600_0_1_2 (b_v128 V) := by
  have h := line_ok.s1 V 142 rfl (by decide) (by decide)
  exact h
def b_v131 (V : Vl) : FVec Ideal S8x60x33600 .f32 := after (ops (F := Ideal)) V (Proc.devRef .tc main_v131)
theorem e_v131 (V : Vl) : b_v131 V = addf (b_v129 V) (b_v130 V) := by
  have h := line_ok.s2 V 143 rfl (by decide) (by decide) (by decide)
  exact h
def b_v132 (V : Vl) : FVec Ideal S8x60x33600 .f32 := after (ops (F := Ideal)) V (Proc.devRef .tc main_v132)
theorem e_v132 (V : Vl) : b_v132 V = subf (b_v131 V) (b_v96 V) := by
  have h := line_ok.s2 V 144 rfl (by decide) (by decide) (by decide)
  exact h
def b_cst_10 (V : Vl) : FVec Ideal S_ .f32 := after (ops (F := Ideal)) V (Proc.devRef .tc main_cst_10)
theorem e_cst_10 (V : Vl) : b_cst_10 V = (constant S_ .f32 0x322BCC77#32) := by
  have h := line_ok.s0 V 145 rfl (by decide)
  exact h
def b_v133 (V : Vl) : FVec Ideal S8x60x33600 .f32 := after (ops (F := Ideal)) V (Proc.devRef .tc main_v133)
theorem e_v133 (V : Vl) : b_v133 V = broadcastInDim S8x60x33600 ![] bcast_S_S8x60x33600 (b_cst_10 V) := by
  have h := line_ok.s1 V 146 rfl (by decide) (by decide)
  exact h
def b_v134 (V : Vl) : FVec Ideal S8x60x33600 .f32 := after (ops (F := Ideal)) V (Proc.devRef .tc main_v134)
theorem e_v134 (V : Vl) : b_v134 V = maximumf (b_v132 V) (b_v133 V) := by
  have h := line_ok.s2 V 147 rfl (by decide) (by decide) (by decide)
  exact h
def b_v135 (V : Vl) : FVec Ideal S8x60x33600 .f32 := after (ops (F := Ideal)) V (Proc.devRef .tc main_v135)
theorem e_v135 (V : Vl) : b_v135 V = Host.divf (b_v96 V) (b_v134 V) := by
  have h := line_ok.s2 V 148 rfl (by decide) (by decide) (by decide)
  exact h
def b_cst_11 (V : Vl) : FVec Ideal S_ .f32 := after (ops (F := Ideal)) V (Proc.devRef .tc main_cst_11)
theorem e_cst_11 (V : Vl) : b_cst_11 V = (constant S_ .f32 0x322BCC77#32) := by
  have h := line_ok.s0 V 149 rfl (by decide)
  exact h
def b_v136 (V : Vl) : FVec Ideal S8x60x33600 .f32 := after (ops (F := Ideal)) V (Proc.devRef .tc main_v136)
theorem e_v136 (V : Vl) : b_v136 V = broadcastInDim S8x60x33600 ![] bcast_S_S8x60x33600 (b_cst_11 V) := by
  have h := line_ok.s1 V 150 rfl (by decide) (by decide)
  exact h
def b_v137 (V : Vl) : FVec Ideal S8x60x33600 .f32 := after (ops (F := Ideal)) V (Proc.devRef .tc main_v137)
theorem e_v137 (V : Vl) : b_v137 V = addf (b_v135 V) (b_v136 V) := by
  have h := line_ok.s2 V 151 rfl (by decide) (by decide) (by decide)
  exact h
def b_v138 (V : Vl) : FVec Ideal S8x60x33600 .f32 := after (ops (F := Ideal)) V (Proc.devRef .tc main_v138)
theorem e_v138 (V : Vl) : b_v138 V = Host.log (b_v137 V) := by
  have h := line_ok.s1 V 152 rfl (by decide) (by decide)
  exact h
def b_v139 (V : Vl) : FVec Ideal S8x60x33600 .f32 := after (ops (F := Ideal)) V (Proc.devRef .tc main_v139)
theorem e_v139 (V : Vl) : b_v139 V = Host.negf (b_v138 V) := by
  have h := line_ok.s1 V 153 rfl (by decide) (by decide)
  exact h
def b_cst_12 (V : Vl) : FVec Ideal S_ .f32 := after (ops (F := Ideal)) V (Proc.devRef .tc main_cst_12)
theorem e_cst_12 (V : Vl) : b_cst_12 V = (constant S_ .f32 0x3F800000#32) := by
  have h := line_ok.s0 V 154 rfl (by decide)
  exact h
def b_v140 (V : Vl) : FVec Ideal S33600x80 .f32 := after (ops (F := Ideal)) V (Proc.devRef .tc main_v140)
theorem e_v140 (V : Vl) : b_v140 V = broadcastInDim S33600x80 ![] bcast_S_S33600x80 (b_cst_12 V) := by
  have h := line_ok.s1 V 155 rfl (by decide) (by decide)
  exact h
def b_v141 (V : Vl) : FVec Ideal S8x33600x80 .f32 := after (ops (F := Ideal)) V (Proc.devRef .tc main_v141)
theorem e_v141 (V : Vl) : b_v141 V = Host.negf (b_arg0 V) := by
  have h := line_ok.s1 V 156 rfl (by decide) (by decide)
  rw [k_arg0] at h
  exact h
def b_v142 (V : Vl) : FVec Ideal S8x33600x80 .f32 := after (ops (F := Ideal)) V (Proc.devRef .tc main_v142)
theorem e_v142 (V : Vl) : b_v142 V = Host.exp (b_v141 V) := by
  have h := line_ok.s1 V 157 rfl (by decide) (by decide)
  exact h
def b_cst_13 (V : Vl) : FVec Ideal S_ .f32 := after (ops (F := Ideal)) V (Proc.devRef .tc main_cst_13)
theorem e_cst_13 (V : Vl) : b_cst_13 V = (constant S_ .f32 0x3F800000#32) := by
  have h := line_ok.s0 V 158 rfl (by decide)
  exact h
def b_v143 (V : Vl) : FVec Ideal S8x33600x80 .f32 := after (ops (F := Ideal)) V (Proc.devRef .tc main_v143)
theorem e_v143 (V : Vl) : b_v143 V = broadcastInDim S8x33600x80 ![] bcast_S_S8x33600x80 (b_cst_13 V) := by
  have h := line_ok.s1 V 159 rfl (by decide) (by decide)
  exact h
def b_v144 (V : Vl) : FVec Ideal S8x33600x80 .f32 := after (ops (F := Ideal)) V (Proc.devRef .tc main_v144)
theorem e_v144 (V : Vl) : b_v144 V = addf (b_v143 V) (b_v142 V) := by
  have h := line_ok.s2 V 160 rfl (by decide) (by decide) (by decide)
  exact h
def b_cst_14 (V : Vl) : FVec Ideal S_ .f32 := after (ops (F := Ideal)) V (Proc.devRef .tc main_cst_14)
theorem e_cst_14 (V : Vl) : b_cst_14 V = (constant S_ .f32 0x3F800000#32) := by
  have h := line_ok.s0 V 161 rfl (by decide)
  exact h
def b_v145 (V : Vl) : FVec Ideal S8x33600x80 .f32 := after (ops (F := Ideal)) V (Proc.devRef .tc main_v145)
theorem e_v145 (V : Vl) : b_v145 V = broadcastInDim S8x33600x80 ![] bcast_S_S8x33600x80 (b_cst_14 V) := by
  have h := line_ok.s1 V 162 rfl (by decide) (by decide)
  exact h
def b_v146 (V : Vl) : FVec Ideal S8x33600x80 .f32 := after (ops (F := Ideal)) V (Proc.devRef .tc main_v146)
theorem e_v146 (V : Vl) : b_v146 V = Host.divf (b_v145 V) (b_v144 V) := by
  have h := line_ok.s2 V 163 rfl (by decide) (by decide) (by decide)
  exact h
def b_cst_15 (V : Vl) : FVec Ideal S_ .f32 := after (ops (F := Ideal)) V (Proc.devRef .tc main_cst_15)
theorem e_cst_15 (V : Vl) : b_cst_15 V = (constant S_ .f32 0x00000000#32) := by
  have h := line_ok.s0 V 164 rfl (by decide)
  exact h
def b_v147 (V : Vl) : FVec Ideal S8x33600x80 .f32 := after (ops (F := Ideal)) V (Proc.devRef .tc main_v147)
theorem e_v147 (V : Vl) : b_v147 V = broadcastInDim S8x33600x80 ![] bcast_S_S8x33600x80 (b_cst_15 V) := by
  have h := line_ok.s1 V 165 rfl (by decide) (by decide)
  exact h
def b_v148 (V : Vl) : FVec Ideal S8x33600x80 .f32 := after (ops (F := Ideal)) V (Proc.devRef .tc main_v148)
theorem e_v148 (V : Vl) : b_v148 V = maximumf (b_arg0 V) (b_v147 V) := by
  have h := line_ok.s2 V 166 rfl (by decide) (by decide) (by decide)
  rw [k_arg0] at h
  exact h
def b_v149 (V : Vl) : FVec Ideal S1x33600x80 .f32 := after (ops (F := Ideal)) V (Proc.devRef .tc main_v149)
theorem e_v149 (V : Vl) : b_v149 V = broadcastInDim S1x33600x80 ![1, 2] bcast_S33600x80_S1x33600x80_1_2 (b_v140 V) := by
  have h := line_ok.s1 V 167 rfl (by decide) (by decide)
  exact h
def b_v150 (V : Vl) : FVec Ideal S8x33600x80 .f32 := after (ops (F := Ideal)) V (Proc.devRef .tc main_v150)
theorem e_v150 (V : Vl) : b_v150 V = broadcastInDim S8x33600x80 ![0, 1, 2] bcast_S1x33600x80_S8x33600x80_0_1_2 (b_v149 V) := by
  have h := line_ok.s1 V 168 rfl (by decide) (by decide)
  exact h
def b_v151 (V : Vl) : FVec Ideal S8x33600x80 .f32 := after (ops (F := Ideal)) V (Proc.devRef .tc main_v151)
theorem e_v151 (V : Vl) : b_v151 V = mulf (b_arg0 V) (b_v150 V) := by
  have h := line_ok.s2 V 169 rfl (by decide) (by decide) (by decide)
  rw [k_arg0] at h
  exact h
def b_v152 (V : Vl) : FVec Ideal S8x33600x80 .f32 := after (ops (F := Ideal)) V (Proc.devRef .tc main_v152)
theorem e_v152 (V : Vl) : b_v152 V = subf (b_v148 V) (b_v151 V) := by
  have h := line_ok.s2 V 170 rfl (by decide) (by decide) (by decide)
  exact h
def b_v153 (V : Vl) : FVec Ideal S8x33600x80 .f32 := after (ops (F := Ideal)) V (Proc.devRef .tc main_v153)
theorem e_v153 (V : Vl) : b_v153 V = Host.absf (b_arg0 V) := by
  have h := line_ok.s1 V 171 rfl (by decide) (by decide)
  rw [k_arg0] at h
  exact h
def b_v154 (V : Vl) : FVec Ideal S8x33600x80 .f32 := after (ops (F := Ideal)) V (Proc.devRef .tc main_v154)
theorem e_v154 (V : Vl) : b_v154 V = Host.negf (b_v153 V) := by
  have h := line_ok.s1 V 172 rfl (by decide) (by decide)
  exact h
def b_v155 (V : Vl) : FVec Ideal S8x33600x80 .f32 := after (ops (F := Ideal)) V (Proc.devRef .tc main_v155)
theorem e_v155 (V : Vl) : b_v155 V = Host.exp (b_v154 V) := by
  have h := line_ok.s1 V 173 rfl (by decide) (by decide)
  exact h
def b_v156 (V : Vl) : FVec Ideal S8x33600x80 .f32 := after (ops (F := Ideal)) V (Proc.devRef .tc main_v156)
theorem e_v156 (V : Vl) : b_v156 V = Host.log1p (b_v155 V) := by
  have h := line_ok.s1 V 174 rfl (by decide) (by decide)
  exact h
def b_v157 (V : Vl) : FVec Ideal S8x33600x80 .f32 := after (ops (F := Ideal)) V (Proc.devRef .tc main_v157)
theorem e_v157 (V : Vl) : b_v157 V = addf (b_v152 V) (b_v156 V) := by
  have h := line_ok.s2 V 175 rfl (by decide) (by decide) (by decide)
  exact h
def b_v158 (V : Vl) : FVec Ideal S1x33600x80 .f32 := after (ops (F := Ideal)) V (Proc.devRef .tc main_v158)
theorem e_v158 (V : Vl) : b_v158 V = broadcastInDim S1x33600x80 ![1, 2] bcast_S33600x80_S1x33600x80_1_2 (b_v140 V) := by
  have h := line_ok.s1 V 176 rfl (by decide) (by decide)
  exact h
def b_v159 (V : Vl) : FVec Ideal S8x33600x80 .f32 := after (ops (F := Ideal)) V (Proc.devRef .tc main_v159)
theorem e_v159 (V : Vl) : b_v159 V = broadcastInDim S8x33600x80 ![0, 1, 2] bcast_S1x33600x80_S8x33600x80_0_1_2 (b_v158 V) := by
  have h := line_ok.s1 V 177 rfl (by decide) (by decide)
  exact h
def b_v160 (V : Vl) : FVec Ideal S8x33600x80 .f32 := after (ops (F := Ideal)) V (Proc.devRef .tc main_v160)
theorem e_v160 (V : Vl) : b_v160 V = mulf (b_v146 V) (b_v159 V) := by
  have h := line_ok.s2 V 178 rfl (by decide) (by decide) (by decide)
  exact h
def b_cst_16 (V : Vl) : FVec Ideal S_ .f32 := after (ops (F := Ideal)) V (Proc.devRef .tc main_cst_16)
theorem e_cst_16 (V : Vl) : b_cst_16 V = (constant S_ .f32 0x3F800000#32) := by
  have h := line_ok.s0 V 179 rfl (by decide)
  exact h
def b_v161 (V : Vl) : FVec Ideal S8x33600x80 .f32 := after (ops (F := Ideal)) V (Proc.devRef .tc main_v161)
theorem e_v161 (V : Vl) : b_v161 V = broadcastInDim S8x33600x80 ![] bcast_S_S8x33600x80 (b_cst_16 V) := by
  have h := line_ok.s1 V 180 rfl (by decide) (by decide)
  exact h
def b_v162 (V : Vl) : FVec Ideal S8x33600x80 .f32 := after (ops (F := Ideal)) V (Proc.devRef .tc main_v162)
theorem e_v162 (V : Vl) : b_v162 V = subf (b_v161 V) (b_v146 V) := by
  have h := line_ok.s2 V 181 rfl (by decide) (by decide) (by decide)
  exact h
def b_cst_17 (V : Vl) : FVec Ideal S_ .f32 := after (ops (F := Ideal)) V (Proc.devRef .tc main_cst_17)
theorem e_cst_17 (V : Vl) : b_cst_17 V = (constant S_ .f32 0x3F800000#32) := by
  have h := line_ok.s0 V 182 rfl (by decide)
  exact h
def b_v163 (V : Vl) : FVec Ideal S33600x80 .f32 := after (ops (F := Ideal)) V (Proc.devRef .tc main_v163)
theorem e_v163 (V : Vl) : b_v163 V = broadcastInDim S33600x80 ![] bcast_S_S33600x80 (b_cst_17 V) := by
  have h := line_ok.s1 V 183 rfl (by decide) (by decide)
  exact h
def b_v164 (V : Vl) : FVec Ideal S33600x80 .f32 := after (ops (F := Ideal)) V (Proc.devRef .tc main_v164)
theorem e_v164 (V : Vl) : b_v164 V = subf (b_v163 V) (b_v140 V) := by
  have h := line_ok.s2 V 184 rfl (by decide) (by decide) (by decide)
  exact h
def b_v165 (V : Vl) : FVec Ideal S1x33600x80 .f32 := after (ops (F := Ideal)) V (Proc.devRef .tc main_v165)
theorem e_v165 (V : Vl) : b_v165 V = broadcastInDim S1x33600x80 ![1, 2] bcast_S33600x80_S1x33600x80_1_2 (b_v164 V) := by
  have h := line_ok.s1 V 185 rfl (by decide) (by decide)
  exact h
def b_v166 (V : Vl) : FVec Ideal S8x33600x80 .f32 := after (ops (F := Ideal)) V (Proc.devRef .tc main_v166)
theorem e_v166 (V : Vl) : b_v166 V = broadcastInDim S8x33600x80 ![0, 1, 2] bcast_S1x33600x80_S8x33600x80_0_1_2 (b_v165 V) := by
  have h := line_ok.s1 V 186 rfl (by decide) (by decide)
  exact h
def b_v167 (V : Vl) : FVec Ideal S8x33600x80 .f32 := after (ops (F := Ideal)) V (Proc.devRef .tc main_v167)
theorem e_v167 (V : Vl) : b_v167 V = mulf (b_v162 V) (b_v166 V) := by
  have h := line_ok.s2 V 187 rfl (by decide) (by decide) (by decide)
  exact h
def b_v168 (V : Vl) : FVec Ideal S8x33600x80 .f32 := after (ops (F := Ideal)) V (Proc.devRef .tc main_v168)
theorem e_v168 (V : Vl) : b_v168 V = addf (b_v160 V) (b_v167 V) := by
  have h := line_ok.s2 V 188 rfl (by decide) (by decide) (by decide)
  exact h
def b_cst_18 (V : Vl) : FVec Ideal S_ .f32 := after (ops (F := Ideal)) V (Proc.devRef .tc main_cst_18)
theorem e_cst_18 (V : Vl) : b_cst_18 V = (constant S_ .f32 0x3F800000#32) := by
  have h := line_ok.s0 V 189 rfl (by decide)
  exact h
def b_v169 (V : Vl) : FVec Ideal S8x33600x80 .f32 := after (ops (F := Ideal)) V (Proc.devRef .tc main_v169)
theorem e_v169 (V : Vl) : b_v169 V = broadcastInDim S8x33600x80 ![] bcast_S_S8x33600x80 (b_cst_18 V) := by
  have h := line_ok.s1 V 190 rfl (by decide) (by decide)
  exact h
def b_v170 (V : Vl) : FVec Ideal S8x33600x80 .f32 := after (ops (F := Ideal)) V (Proc.devRef .tc main_v170)
theorem e_v170 (V : Vl) : b_v170 V = subf (b_v169 V) (b_v168 V) := by
  have h := line_ok.s2 V 191 rfl (by decide) (by decide) (by decide)
  exact h
def b_cst_19 (V : Vl) : FVec Ideal S_ .f32 := after (ops (F := Ideal)) V (Proc.devRef .tc main_cst_19)
theorem e_cst_19 (V : Vl) : b_cst_19 V = (constant S_ .f32 0x40000000#32) := by
  have h := line_ok.s0 V 192 rfl (by decide)
  exact h
def b_v171 (V : Vl) : FVec Ideal S8x33600x80 .f32 := after (ops (F := Ideal)) V (Proc.devRef .tc main_v171)
theorem e_v171 (V : Vl) : b_v171 V = broadcastInDim S8x33600x80 ![] bcast_S_S8x33600x80 (b_cst_19 V) := by
  have h := line_ok.s1 V 193 rfl (by decide) (by decide)
  exact h
def b_v172 (V : Vl) : FVec Ideal S8x33600x80 .f32 := after (ops (F := Ideal)) V (Proc.devRef .tc main_v172)
theorem e_v172 (V : Vl) : b_v172 V = Host.powf (b_v170 V) (b_v171 V) := by
  have h := line_ok.s2 V 194 rfl (by decide) (by decide) (by decide)
  exact h
def b_v173 (V : Vl) : FVec Ideal S8x33600x80 .f32 := after (ops (F := Ideal)) V (Proc.devRef .tc main_v173)
theorem e_v173 (V : Vl) : b_v173 V = mulf (b_v157 V) (b_v172 V) := by
  have h := line_ok.s2 V 195 rfl (by decide) (by decide) (by decide)
  exact h
def b_cst_20 (V : Vl) : FVec Ideal S_ .f32 := after (ops (F := Ideal)) V (Proc.devRef .tc main_cst_20)
theorem e_cst_20 (V : Vl) : b_cst_20 V = (constant S_ .f32 0x3E800000#32) := by
  have h := line_ok.s0 V 196 rfl (by decide)
  exact h
def b_v174 (V : Vl) : FVec Ideal S33600x80 .f32 := after (ops (F := Ideal)) V (Proc.devRef .tc main_v174)
theorem e_v174 (V : Vl) : b_v174 V = broadcastInDim S33600x80 ![] bcast_S_S33600x80 (b_cst_20 V) := by
  have h := line_ok.s1 V 197 rfl (by decide) (by decide)
  exact h
def b_v175 (V : Vl) : FVec Ideal S33600x80 .f32 := after (ops (F := Ideal)) V (Proc.devRef .tc main_v175)
theorem e_v175 (V : Vl) : b_v175 V = mulf (b_v174 V) (b_v140 V) := by
  have h := line_ok.s2 V 198 rfl (by decide) (by decide) (by decide)
  exact h
def b_cst_21 (V : Vl) : FVec Ideal S_ .f32 := after (ops (F := Ideal)) V (Proc.devRef .tc main_cst_21)
theorem e_cst_21 (V : Vl) : b_cst_21 V = (constant S_ .f32 0x3F800000#32) := by
  have h := line_ok.s0 V 199 rfl (by decide)
  exact h
def b_v176 (V : Vl) : FVec Ideal S33600x80 .f32 := after (ops (F := Ideal)) V (Proc.devRef .tc main_v176)
theorem e_v176 (V : Vl) : b_v176 V = broadcastInDim S33600x80 ![] bcast_S_S33600x80 (b_cst_21 V) := by
  have h := line_ok.s1 V 200 rfl (by decide) (by decide)
  exact h
def b_v177 (V : Vl) : FVec Ideal S33600x80 .f32 := after (ops (F := Ideal)) V (Proc.devRef .tc main_v177)
theorem e_v177 (V : Vl) : b_v177 V = subf (b_v176 V) (b_v140 V) := by
  have h := line_ok.s2 V 201 rfl (by decide) (by decide) (by decide)
  exact h
def b_cst_22 (V : Vl) : FVec Ideal S_ .f32 := after (ops (F := Ideal)) V (Proc.devRef .tc main_cst_22)
theorem e_cst_22 (V : Vl) : b_cst_22 V = (constant S_ .f32 0x3F400000#32) := by
  have h := line_ok.s0 V 202 rfl (by decide)
  exact h
def b_v178 (V : Vl) : FVec Ideal S33600x80 .f32 := after (ops (F := Ideal)) V (Proc.devRef .tc main_v178)
theorem e_v178 (V : Vl) : b_v178 V = broadcastInDim S33600x80 ![] bcast_S_S33600x80 (b_cst_22 V) := by
  have h := line_ok.s1 V 203 rfl (by decide) (by decide)
  exact h
def b_v179 (V : Vl) : FVec Ideal S33600x80 .f32 := after (ops (F := Ideal)) V (Proc.devRef .tc main_v179)
theorem e_v179 (V : Vl) : b_v179 V = mulf (b_v178 V) (b_v177 V) := by
  have h := line_ok.s2 V 204 rfl (by decide) (by decide) (by decide)
  exact h
def b_v180 (V : Vl) : FVec Ideal S33600x80 .f32 := after (ops (F := Ideal)) V (Proc.devRef .tc main_v180)
theorem e_v180 (V : Vl) : b_v180 V = addf (b_v175 V) (b_v179 V) := by
  have h := line_ok.s2 V 205 rfl (by decide) (by decide) (by decide)
  exact h
def b_v181 (V : Vl) : FVec Ideal S1x33600x80 .f32 := after (ops (F := Ideal)) V (Proc.devRef .tc main_v181)
theorem e_v181 (V : Vl) : b_v181 V = broadcastInDim S1x33600x80 ![1, 2] bcast_S33600x80_S1x33600x80_1_2 (b_v180 V) := by
  have h := line_ok.s1 V 206 rfl (by decide) (by decide)
  exact h
def b_v182 (V : Vl) : FVec Ideal S8x33600x80 .f32 := after (ops (F := Ideal)) V (Proc.devRef .tc main_v182)
theorem e_v182 (V : Vl) : b_v182 V = broadcastInDim S8x33600x80 ![0, 1, 2] bcast_S1x33600x80_S8x33600x80_0_1_2 (b_v181 V) := by
  have h := line_ok.s1 V 207 rfl (by decide) (by decide)
  exact h
def b_v183 (V : Vl) : FVec Ideal S8x33600x80 .f32 := after (ops (F := Ideal)) V (Proc.devRef .tc main_v183)
theorem e_v183 (V : Vl) : b_v183 V = mulf (b_v182 V) (b_v173 V) := by
  have h := line_ok.s2 V 208 rfl (by decide) (by decide) (by decide)
  exact h
def b_cst_23 (V : Vl) : FVec Ideal S_ .f32 := after (ops (F := Ideal)) V (Proc.devRef .tc main_cst_23)
theorem e_cst_23 (V : Vl) : b_cst_23 V = (constant S_ .f32 0x00000000#32) := by
  have h := line_ok.s0 V 209 rfl (by decide)
  exact h
def b_v184 (V : Vl) : FVec Ideal S33600x80 .f32 := after (ops (F := Ideal)) V (Proc.devRef .tc main_v184)
theorem e_v184 (V : Vl) : b_v184 V = broadcastInDim S33600x80 ![] bcast_S_S33600x80 (b_cst_23 V) := by
  have h := line_ok.s1 V 210 rfl (by decide) (by decide)
  exact h
def b_v185 (V : Vl) : FVec Ideal S8x33600x80 .f32 := after (ops (F := Ideal)) V (Proc.devRef .tc main_v185)
theorem e_v185 (V : Vl) : b_v185 V = Host.negf (b_arg0 V) := by
  have h := line_ok.s1 V 211 rfl (by decide) (by decide)
  rw [k_arg0] at h
  exact h
def b_v186 (V : Vl) : FVec Ideal S8x33600x80 .f32 := after (ops (F := Ideal)) V (Proc.devRef .tc main_v186)
theorem e_v186 (V : Vl) : b_v186 V = Host.exp (b_v185 V) := by
  have h := line_ok.s1 V 212 rfl (by decide) (by decide)
  exact h
def b_cst_24 (V : Vl) : FVec Ideal S_ .f32 := after (ops (F := Ideal)) V (Proc.devRef .tc main_cst_24)
theorem e_cst_24 (V : Vl) : b_cst_24 V = (constant S_ .f32 0x3F800000#32) := by
  have h := line_ok.s0 V 213 rfl (by decide)
  exact h
def b_v187 (V : Vl) : FVec Ideal S8x33600x80 .f32 := after (ops (F := Ideal)) V (Proc.devRef .tc main_v187)
theorem e_v187 (V : Vl) : b_v187 V = broadcastInDim S8x33600x80 ![] bcast_S_S8x33600x80 (b_cst_24 V) := by
  have h := line_ok.s1 V 214 rfl (by decide) (by decide)
  exact h
def b_v188 (V : Vl) : FVec Ideal S8x33600x80 .f32 := after (ops (F := Ideal)) V (Proc.devRef .tc main_v188)
theorem e_v188 (V : Vl) : b_v188 V = addf (b_v187 V) (b_v186 V) := by
  have h := line_ok.s2 V 215 rfl (by decide) (by decide) (by decide)
  exact h
def b_cst_25 (V : Vl) : FVec Ideal S_ .f32 := after (ops (F := Ideal)) V (Proc.devRef .tc main_cst_25)
theorem e_cst_25 (V : Vl) : b_cst_25 V = (constant S_ .f32 0x3F800000#32) := by
  have h := line_ok.s0 V 216 rfl (by decide)
  exact h
def b_v189 (V : Vl) : FVec Ideal S8x33600x80 .f32 := after (ops (F := Ideal)) V (Proc.devRef .tc main_v189)
theorem e_v189 (V : Vl) : b_v189 V = broadcastInDim S8x33600x80 ![] bcast_S_S8x33600x80 (b_cst_25 V) := by
  have h := line_ok.s1 V 217 rfl (by decide) (by decide)
  exact h
def b_v190 (V : Vl) : FVec Ideal S8x33600x80 .f32 := after (ops (F := Ideal)) V (Proc.devRef .tc main_v190)
theorem e_v190 (V : Vl) : b_v190 V = Host.divf (b_v189 V) (b_v188 V) := by
  have h := line_ok.s2 V 218 rfl (by decide) (by decide) (by decide)
  exact h
def b_cst_26 (V : Vl) : FVec Ideal S_ .f32 := after (ops (F := Ideal)) V (Proc.devRef .tc main_cst_26)
theorem e_cst_26 (V : Vl) : b_cst_26 V = (constant S_ .f32 0x00000000#32) := by
  have h := line_ok.s0 V 219 rfl (by decide)
  exact h
def b_v191 (V : Vl) : FVec Ideal S8x33600x80 .f32 := after (ops (F := Ideal)) V (Proc.devRef .tc main_v191)
theorem e_v191 (V : Vl) : b_v191 V = broadcastInDim S8x33600x80 ![] bcast_S_S8x33600x80 (b_cst_26 V) := by
  have h := line_ok.s1 V 220 rfl (by decide) (by decide)
  exact h
def b_v192 (V : Vl) : FVec Ideal S8x33600x80 .f32 := after (ops (F := Ideal)) V (Proc.devRef .tc main_v192)
theorem e_v192 (V : Vl) : b_v192 V = maximumf (b_arg0 V) (b_v191 V) := by
  have h := line_ok.s2 V 221 rfl (by decide) (by decide) (by decide)
  rw [k_arg0] at h
  exact h
def b_v193 (V : Vl) : FVec Ideal S1x33600x80 .f32 := after (ops (F := Ideal)) V (Proc.devRef .tc main_v193)
theorem e_v193 (V : Vl) : b_v193 V = broadcastInDim S1x33600x80 ![1, 2] bcast_S33600x80_S1x33600x80_1_2 (b_v184 V) := by
  have h := line_ok.s1 V 222 rfl (by decide) (by decide)
  exact h
def b_v194 (V : Vl) : FVec Ideal S8x33600x80 .f32 := after (ops (F := Ideal)) V (Proc.devRef .tc main_v194)
theorem e_v194 (V : Vl) : b_v194 V = broadcastInDim S8x33600x80 ![0, 1, 2] bcast_S1x33600x80_S8x33600x80_0_1_2 (b_v193 V) := by
  have h := line_ok.s1 V 223 rfl (by decide) (by decide)
  exact h
def b_v195 (V : Vl) : FVec Ideal S8x33600x80 .f32 := after (ops (F := Ideal)) V (Proc.devRef .tc main_v195)
theorem e_v195 (V : Vl) : b_v195 V = mulf (b_arg0 V) (b_v194 V) := by
  have h := line_ok.s2 V 224 rfl (by decide) (by decide) (by decide)
  rw [k_arg0] at h
  exact h
def b_v196 (V : Vl) : FVec Ideal S8x33600x80 .f32 := after (ops (F := Ideal)) V (Proc.devRef .tc main_v196)
theorem e_v196 (V : Vl) : b_v196 V = subf (b_v192 V) (b_v195 V) := by
  have h := line_ok.s2 V 225 rfl (by decide) (by decide) (by decide)
  exact h
def b_v197 (V : Vl) : FVec Ideal S8x33600x80 .f32 := after (ops (F := Ideal)) V (Proc.devRef .tc main_v197)
theorem e_v197 (V : Vl) : b_v197 V = Host.absf (b_arg0 V) := by
  have h := line_ok.s1 V 226 rfl (by decide) (by decide)
  rw [k_arg0] at h
  exact h
def b_v198 (V : Vl) : FVec Ideal S8x33600x80 .f32 := after (ops (F := Ideal)) V (Proc.devRef .tc main_v198)
theorem e_v198 (V : Vl) : b_v198 V = Host.negf (b_v197 V) := by
  have h := line_ok.s1 V 227 rfl (by decide) (by decide)
  exact h
def b_v199 (V : Vl) : FVec Ideal S8x33600x80 .f32 := after (ops (F := Ideal)) V (Proc.devRef .tc main_v199)
theorem e_v199 (V : Vl) : b_v199 V = Host.exp (b_v198 V) := by
  have h := line_ok.s1 V 228 rfl (by decide) (by decide)
  exact h
def b_v200 (V : Vl) : FVec Ideal S8x33600x80 .f32 := after (ops (F := Ideal)) V (Proc.devRef .tc main_v200)
theorem e_v200 (V : Vl) : b_v200 V = Host.log1p (b_v199 V) := by
  have h := line_ok.s1 V 229 rfl (by decide) (by decide)
  exact h
def b_v201 (V : Vl) : FVec Ideal S8x33600x80 .f32 := after (ops (F := Ideal)) V (Proc.devRef .tc main_v201)
theorem e_v201 (V : Vl) : b_v201 V = addf (b_v196 V) (b_v200 V) := by
  have h := line_ok.s2 V 230 rfl (by decide) (by decide) (by decide)
  exact h
def b_v202 (V : Vl) : FVec Ideal S1x33600x80 .f32 := after (ops (F := Ideal)) V (Proc.devRef .tc main_v202)
theorem e_v202 (V : Vl) : b_v202 V = broadcastInDim S1x33600x80 ![1, 2] bcast_S33600x80_S1x33600x80_1_2 (b_v184 V) := by
  have h := line_ok.s1 V 231 rfl (by decide) (by decide)
  exact h
def b_v203 (V : Vl) : FVec Ideal S8x33600x80 .f32 := after (ops (F := Ideal)) V (Proc.devRef .tc main_v203)
theorem e_v203 (V : Vl) : b_v203 V = broadcastInDim S8x33600x80 ![0, 1, 2] bcast_S1x33600x80_S8x33600x80_0_1_2 (b_v202 V) := by
  have h := line_ok.s1 V 232 rfl (by decide) (by decide)
  exact h
def b_v204 (V : Vl) : FVec Ideal S8x33600x80 .f32 := after (ops (F := Ideal)) V (Proc.devRef .tc main_v204)
theorem e_v204 (V : Vl) : b_v204 V = mulf (b_v190 V) (b_v203 V) := by
  have h := line_ok.s2 V 233 rfl (by decide) (by decide) (by decide)
  exact h
def b_cst_27 (V : Vl) : FVec Ideal S_ .f32 := after (ops (F := Ideal)) V (Proc.devRef .tc main_cst_27)
theorem e_cst_27 (V : Vl) : b_cst_27 V = (constant S_ .f32 0x3F800000#32) := by
  have h := line_ok.s0 V 234 rfl (by decide)
  exact h
def b_v205 (V : Vl) : FVec Ideal S8x33600x80 .f32 := after (ops (F := Ideal)) V (Proc.devRef .tc main_v205)
theorem e_v205 (V : Vl) : b_v205 V = broadcastInDim S8x33600x80 ![] bcast_S_S8x33600x80 (b_cst_27 V) := by
  have h := line_ok.s1 V 235 rfl (by decide) (by decide)
  exact h
def b_v206 (V : Vl) : FVec Ideal S8x33600x80 .f32 := after (ops (F := Ideal)) V (Proc.devRef .tc main_v206)
theorem e_v206 (V : Vl) : b_v206 V = subf (b_v205 V) (b_v190 V) := by
  have h := line_ok.s2 V 236 rfl (by decide) (by decide) (by decide)
  exact h
def b_cst_28 (V : Vl) : FVec Ideal S_ .f32 := after (ops (F := Ideal)) V (Proc.devRef .tc main_cst_28)
theorem e_cst_28 (V : Vl) : b_cst_28 V = (constant S_ .f32 0x3F800000#32) := by
  have h := line_ok.s0 V 237 rfl (by decide)
  exact h
def b_v207 (V : Vl) : FVec Ideal S33600x80 .f32 := after (ops (F := Ideal)) V (Proc.devRef .tc main_v207)
theorem e_v207 (V : Vl) : b_v207 V = broadcastInDim S33600x80 ![] bcast_S_S33600x80 (b_cst_28 V) := by
  have h := line_ok.s1 V 238 rfl (by decide) (by decide)
  exact h
def b_v208 (V : Vl) : FVec Ideal S33600x80 .f32 := after (ops (F := Ideal)) V (Proc.devRef .tc main_v208)
theorem e_v208 (V : Vl) : b_v208 V = subf (b_v207 V) (b_v184 V) := by
  have h := line_ok.s2 V 239 rfl (by decide) (by decide) (by decide)
  exact h
def b_v209 (V : Vl) : FVec Ideal S1x33600x80 .f32 := after (ops (F := Ideal)) V (Proc.devRef .tc main_v209)
theorem e_v209 (V : Vl) : b_v209 V = broadcastInDim S1x33600x80 ![1, 2] bcast_S33600x80_S1x33600x80_1_2 (b_v208 V) := by
  have h := line_ok.s1 V 240 rfl (by decide) (by decide)
  exact h
def b_v210 (V : Vl) : FVec Ideal S8x33600x80 .f32 := after (ops (F := Ideal)) V (Proc.devRef .tc main_v210)
theorem e_v210 (V : Vl) : b_v210 V = broadcastInDim S8x33600x80 ![0, 1, 2] bcast_S1x33600x80_S8x33600x80_0_1_2 (b_v209 V) := by
  have h := line_ok.s1 V 241 rfl (by decide) (by decide)
  exact h
def b_v211 (V : Vl) : FVec Ideal S8x33600x80 .f32 := after (ops (F := Ideal)) V (Proc.devRef .tc main_v211)
theorem e_v211 (V : Vl) : b_v211 V = mulf (b_v206 V) (b_v210 V) := by
  have h := line_ok.s2 V 242 rfl (by decide) (by decide) (by decide)
  exact h
def b_v212 (V : Vl) : FVec Ideal S8x33600x80 .f32 := after (ops (F := Ideal)) V (Proc.devRef .tc main_v212)
theorem e_v212 (V : Vl) : b_v212 V = addf (b_v204 V) (b_v211 V) := by
  have h := line_ok.s2 V 243 rfl (by decide) (by decide) (by decide)
  exact h
def b_cst_29 (V : Vl) : FVec Ideal S_ .f32 := after (ops (F := Ideal)) V (Proc.devRef .tc main_cst_29)
theorem e_cst_29 (V : Vl) : b_cst_29 V = (constant S_ .f32 0x3F800000#32) := by
  have h := line_ok.s0 V 244 rfl (by decide)
  exact h
def b_v213 (V : Vl) : FVec Ideal S8x33600x80 .f32 := after (ops (F := Ideal)) V (Proc.devRef .tc main_v213)
theorem e_v213 (V : Vl) : b_v213 V = broadcastInDim S8x33600x80 ![] bcast_S_S8x33600x80 (b_cst_29 V) := by
  have h := line_ok.s1 V 245 rfl (by decide) (by decide)
  exact h
def b_v214 (V : Vl) : FVec Ideal S8x33600x80 .f32 := after (ops (F := Ideal)) V (Proc.devRef .tc main_v214)
theorem e_v214 (V : Vl) : b_v214 V = subf (b_v213 V) (b_v212 V) := by
  have h := line_ok.s2 V 246 rfl (by decide) (by decide) (by decide)
  exact h
def b_cst_30 (V : Vl) : FVec Ideal S_ .f32 := after (ops (F := Ideal)) V (Proc.devRef .tc main_cst_30)
theorem e_cst_30 (V : Vl) : b_cst_30 V = (constant S_ .f32 0x40000000#32) := by
  have h := line_ok.s0 V 247 rfl (by decide)
  exact h
def b_v215 (V : Vl) : FVec Ideal S8x33600x80 .f32 := after (ops (F := Ideal)) V (Proc.devRef .tc main_v215)
theorem e_v215 (V : Vl) : b_v215 V = broadcastInDim S8x33600x80 ![] bcast_S_S8x33600x80 (b_cst_30 V) := by
  have h := line_ok.s1 V 248 rfl (by decide) (by decide)
  exact h
def b_v216 (V : Vl) : FVec Ideal S8x33600x80 .f32 := after (ops (F := Ideal)) V (Proc.devRef .tc main_v216)
theorem e_v216 (V : Vl) : b_v216 V = Host.powf (b_v214 V) (b_v215 V) := by
  have h := line_ok.s2 V 249 rfl (by decide) (by decide) (by decide)
  exact h
def b_v217 (V : Vl) : FVec Ideal S8x33600x80 .f32 := after (ops (F := Ideal)) V (Proc.devRef .tc main_v217)
theorem e_v217 (V : Vl) : b_v217 V = mulf (b_v201 V) (b_v216 V) := by
  have h := line_ok.s2 V 250 rfl (by decide) (by decide) (by decide)
  exact h
def b_cst_31 (V : Vl) : FVec Ideal S_ .f32 := after (ops (F := Ideal)) V (Proc.devRef .tc main_cst_31)
theorem e_cst_31 (V : Vl) : b_cst_31 V = (constant S_ .f32 0x3E800000#32) := by
  have h := line_ok.s0 V 251 rfl (by decide)
  exact h
def b_v218 (V : Vl) : FVec Ideal S33600x80 .f32 := after (ops (F := Ideal)) V (Proc.devRef .tc main_v218)
theorem e_v218 (V : Vl) : b_v218 V = broadcastInDim S33600x80 ![] bcast_S_S33600x80 (b_cst_31 V) := by
  have h := line_ok.s1 V 252 rfl (by decide) (by decide)
  exact h
def b_v219 (V : Vl) : FVec Ideal S33600x80 .f32 := after (ops (F := Ideal)) V (Proc.devRef .tc main_v219)
theorem e_v219 (V : Vl) : b_v219 V = mulf (b_v218 V) (b_v184 V) := by
  have h := line_ok.s2 V 253 rfl (by decide) (by decide) (by decide)
  exact h
def b_cst_32 (V : Vl) : FVec Ideal S_ .f32 := after (ops (F := Ideal)) V (Proc.devRef .tc main_cst_32)
theorem e_cst_32 (V : Vl) : b_cst_32 V = (constant S_ .f32 0x3F800000#32) := by
  have h := line_ok.s0 V 254 rfl (by decide)
  exact h
def b_v220 (V : Vl) : FVec Ideal S33600x80 .f32 := after (ops (F := Ideal)) V (Proc.devRef .tc main_v220)
theorem e_v220 (V : Vl) : b_v220 V = broadcastInDim S33600x80 ![] bcast_S_S33600x80 (b_cst_32 V) := by
  have h := line_ok.s1 V 255 rfl (by decide) (by decide)
  exact h
def b_v221 (V : Vl) : FVec Ideal S33600x80 .f32 := after (ops (F := Ideal)) V (Proc.devRef .tc main_v221)
theorem e_v221 (V : Vl) : b_v221 V = subf (b_v220 V) (b_v184 V) := by
  have h := line_ok.s2 V 256 rfl (by decide) (by decide) (by decide)
  exact h
def b_cst_33 (V : Vl) : FVec Ideal S_ .f32 := after (ops (F := Ideal)) V (Proc.devRef .tc main_cst_33)
theorem e_cst_33 (V : Vl) : b_cst_33 V = (constant S_ .f32 0x3F400000#32) := by
  have h := line_ok.s0 V 257 rfl (by decide)
  exact h
def b_v222 (V : Vl) : FVec Ideal S33600x80 .f32 := after (ops (F := Ideal)) V (Proc.devRef .tc main_v222)
theorem e_v222 (V : Vl) : b_v222 V = broadcastInDim S33600x80 ![] bcast_S_S33600x80 (b_cst_33 V) := by
  have h := line_ok.s1 V 258 rfl (by decide) (by decide)
  exact h
def b_v223 (V : Vl) : FVec Ideal S33600x80 .f32 := after (ops (F := Ideal)) V (Proc.devRef .tc main_v223)
theorem e_v223 (V : Vl) : b_v223 V = mulf (b_v222 V) (b_v221 V) := by
  have h := line_ok.s2 V 259 rfl (by decide) (by decide) (by decide)
  exact h
def b_v224 (V : Vl) : FVec Ideal S33600x80 .f32 := after (ops (F := Ideal)) V (Proc.devRef .tc main_v224)
theorem e_v224 (V : Vl) : b_v224 V = addf (b_v219 V) (b_v223 V) := by
  have h := line_ok.s2 V 260 rfl (by decide) (by decide) (by decide)
  exact h
def b_v225 (V : Vl) : FVec Ideal S1x33600x80 .f32 := after (ops (F := Ideal)) V (Proc.devRef .tc main_v225)
theorem e_v225 (V : Vl) : b_v225 V = broadcastInDim S1x33600x80 ![1, 2] bcast_S33600x80_S1x33600x80_1_2 (b_v224 V) := by
  have h := line_ok.s1 V 261 rfl (by decide) (by decide)
  exact h
def b_v226 (V : Vl) : FVec Ideal S8x33600x80 .f32 := after (ops (F := Ideal)) V (Proc.devRef .tc main_v226)
theorem e_v226 (V : Vl) : b_v226 V = broadcastInDim S8x33600x80 ![0, 1, 2] bcast_S1x33600x80_S8x33600x80_0_1_2 (b_v225 V) := by
  have h := line_ok.s1 V 262 rfl (by decide) (by decide)
  exact h
def b_v227 (V : Vl) : FVec Ideal S8x33600x80 .f32 := after (ops (F := Ideal)) V (Proc.devRef .tc main_v227)
theorem e_v227 (V : Vl) : b_v227 V = mulf (b_v226 V) (b_v217 V) := by
  have h := line_ok.s2 V 263 rfl (by decide) (by decide) (by decide)
  exact h
def b_cst_34 (V : Vl) : FVec Ideal S_ .f32 := after (ops (F := Ideal)) V (Proc.devRef .tc main_cst_34)
theorem e_cst_34 (V : Vl) : b_cst_34 V = (constant S_ .f32 0x00000000#32) := by
  have h := line_ok.s0 V 264 rfl (by decide)
  exact h
def b_v228 (V : Vl) : FVec Ideal S8x33600 .f32 := after (ops (F := Ideal)) V (Proc.devRef .tc main_v228)
theorem e_v228 (V : Vl) : b_v228 V = Host.reduceAdd (b_v227 V) (b_cst_34 V) reducesTo_S8x33600x80_S8x33600_d2 h_S_ := by
  have h := line_ok.s2 V 265 rfl (by decide) (by decide) (by decide)
  exact h
def b_v229 (V : Vl) : FVec Ideal S8x1x33600 .f32 := after (ops (F := Ideal)) V (Proc.devRef .tc main_v229)
theorem e_v229 (V : Vl) : b_v229 V = broadcastInDim S8x1x33600 ![0, 2] bcast_S8x33600_S8x1x33600_0_2 (b_v228 V) := by
  have h := line_ok.s1 V 266 rfl (by decide) (by decide)
  exact h
def b_c_35 (V : Vl) : IVec S_ 32 := after (ops (F := Ideal)) V (Proc.devRef .tc main_c_35)
theorem e_c_35 (V : Vl) : b_c_35 V = (constantI S_ 32 0#32) := by
  have h := line_ok.s0 V 267 rfl (by decide)
  exact h
def b_v230 (V : Vl) : IVec S8x60 32 := after (ops (F := Ideal)) V (Proc.devRef .tc main_v230)
theorem e_v230 (V : Vl) : b_v230 V = broadcastInDim S8x60 ![] bcast_S_S8x60 (b_c_35 V) := by
  have h := line_ok.s1 V 268 rfl (by decide) (by decide)
  exact h
def b_v231 (V : Vl) : IVec S8x60 1 := after (ops (F := Ideal)) V (Proc.devRef .tc main_v231)
theorem e_v231 (V : Vl) : b_v231 V = cmpi .slt (b_arg5 V) (b_v230 V) := by
  have h := line_ok.s2 V 269 rfl (by decide) (by decide) (by decide)
  rw [k_arg5] at h
  exact h
def b_c_36 (V : Vl) : IVec S_ 32 := after (ops (F := Ideal)) V (Proc.devRef .tc main_c_36)
theorem e_c_36 (V : Vl) : b_c_36 V = (constantI S_ 32 80#32) := by
  have h := line_ok.s0 V 270 rfl (by decide)
  exact h
def b_v232 (V : Vl) : IVec S8x60 32 := after (ops (F := Ideal)) V (Proc.devRef .tc main_v232)
theorem e_v232 (V : Vl) : b_v232 V = broadcastInDim S8x60 ![] bcast_S_S8x60 (b_c_36 V) := by
  have h := line_ok.s1 V 271 rfl (by decide) (by decide)
  exact h
def b_v233 (V : Vl) : IVec S8x60 32 := after (ops (F := Ideal)) V (Proc.devRef .tc main_v233)
theorem e_v233 (V : Vl) : b_v233 V = addi (b_arg5 V) (b_v232 V) := by
  have h := line_ok.s2 V 272 rfl (by decide) (by decide) (by decide)
  rw [k_arg5] at h
  exact h
def b_v234 (V : Vl) : IVec S8x60 32 := after (ops (F := Ideal)) V (Proc.devRef .tc main_v234)
theorem e_v234 (V : Vl) : b_v234 V = select (b_v231 V) (b_v233 V) (b_arg5 V) := by
  have h := line_ok.s3 V 273 rfl (by decide) (by decide) (by decide) (by decide)
  rw [k_arg5] at h
  exact h
def b_v235 (V : Vl) : IVec S8x60x1 32 := after (ops (F := Ideal)) V (Proc.devRef .tc main_v235)
theorem e_v235 (V : Vl) : b_v235 V = broadcastInDim S8x60x1 ![0, 1] bcast_S8x60_S8x60x1_0_1 (b_v234 V) := by
  have h := line_ok.s1 V 274 rfl (by decide) (by decide)
  exact h
def b_v236 (V : Vl) : FVec Ideal S8x33600x60 .f32 := after (ops (F := Ideal)) V (Proc.devRef .tc main_v236)
theorem e_v236 (V : Vl) : b_v236 V = Host.gather gather_S8x33600x80_S8x60x1_S8x33600x60_1_2_0_0_2_2_1336001 (b_v227 V) (b_v235 V) := by
  have h := line_ok.s2 V 275 rfl (by decide) (by decide) (by decide)
  exact h
def b_v237 (V : Vl) : FVec Ideal S8x60x33600 .f32 := after (ops (F := Ideal)) V (Proc.devRef .tc main_v237)
theorem e_v237 (V : Vl) : b_v237 V = transpose S8x60x33600 [0, 2, 1] (b_v236 V) transposes_S8x33600x60_S8x60x33600_0_2_1 := by
  have h := line_ok.s1 V 276 rfl (by decide) (by decide)
  exact h
def b_v238 (V : Vl) : FVec Ideal S8x60x33600 .f32 := after (ops (F := Ideal)) V (Proc.devRef .tc main_v238)
theorem e_v238 (V : Vl) : b_v238 V = broadcastInDim S8x60x33600 ![0, 1, 2] bcast_S8x1x33600_S8x60x33600_0_1_2 (b_v229 V) := by
  have h := line_ok.s1 V 277 rfl (by decide) (by decide)
  exact h
def b_v239 (V : Vl) : FVec Ideal S8x60x33600 .f32 := after (ops (F := Ideal)) V (Proc.devRef .tc main_v239)
theorem e_v239 (V : Vl) : b_v239 V = subf (b_v238 V) (b_v237 V) := by
  have h := line_ok.s2 V 278 rfl (by decide) (by decide) (by decide)
  exact h
def b_c_37 (V : Vl) : IVec S_ 32 := after (ops (F := Ideal)) V (Proc.devRef .tc main_c_37)
theorem e_c_37 (V : Vl) : b_c_37 V = (constantI S_ 32 0#32) := by
  have h := line_ok.s0 V 279 rfl (by decide)
  exact h
def b_v240 (V : Vl) : IVec S8x60 32 := after (ops (F := Ideal)) V (Proc.devRef .tc main_v240)
theorem e_v240 (V : Vl) : b_v240 V = broadcastInDim S8x60 ![] bcast_S_S8x60 (b_c_37 V) := by
  have h := line_ok.s1 V 280 rfl (by decide) (by decide)
  exact h
def b_v241 (V : Vl) : IVec S8x60 1 := after (ops (F := Ideal)) V (Proc.devRef .tc main_v241)
theorem e_v241 (V : Vl) : b_v241 V = cmpi .slt (b_arg5 V) (b_v240 V) := by
  have h := line_ok.s2 V 281 rfl (by decide) (by decide) (by decide)
  rw [k_arg5] at h
  exact h
def b_c_38 (V : Vl) : IVec S_ 32 := after (ops (F := Ideal)) V (Proc.devRef .tc main_c_38)
theorem e_c_38 (V : Vl) : b_c_38 V = (constantI S_ 32 80#32) := by
  have h := line_ok.s0 V 282 rfl (by decide)
  exact h
def b_v242 (V : Vl) : IVec S8x60 32 := after (ops (F := Ideal)) V (Proc.devRef .tc main_v242)
theorem e_v242 (V : Vl) : b_v242 V = broadcastInDim S8x60 ![] bcast_S_S8x60 (b_c_38 V) := by
  have h := line_ok.s1 V 283 rfl (by decide) (by decide)
  exact h
def b_v243 (V : Vl) : IVec S8x60 32 := after (ops (F := Ideal)) V (Proc.devRef .tc main_v243)
theorem e_v243 (V : Vl) : b_v243 V = addi (b_arg5 V) (b_v242 V) := by
  have h := line_ok.s2 V 284 rfl (by decide) (by decide) (by decide)
  rw [k_arg5] at h
  exact h
def b_v244 (V : Vl) : IVec S8x60 32 := after (ops (F := Ideal)) V (Proc.devRef .tc main_v244)
theorem e_v244 (V : Vl) : b_v244 V = select (b_v241 V) (b_v243 V) (b_arg5 V) := by
  have h := line_ok.s3 V 285 rfl (by decide) (by decide) (by decide) (by decide)
  rw [k_arg5] at h
  exact h
def b_v245 (V : Vl) : IVec S8x60x1 32 := after (ops (F := Ideal)) V (Proc.devRef .tc main_v245)
theorem e_v245 (V : Vl) : b_v245 V = broadcastInDim S8x60x1 ![0, 1] bcast_S8x60_S8x60x1_0_1 (b_v244 V) := by
  have h := line_ok.s1 V 286 rfl (by decide) (by decide)
  exact h
def b_v246 (V : Vl) : FVec Ideal S8x33600x60 .f32 := after (ops (F := Ideal)) V (Proc.devRef .tc main_v246)
theorem e_v246 (V : Vl) : b_v246 V = Host.gather gather_S8x33600x80_S8x60x1_S8x33600x60_1_2_0_0_2_2_1336001 (b_v183 V) (b_v245 V) := by
  have h := line_ok.s2 V 287 rfl (by decide) (by decide) (by decide)
  exact h
def b_v247 (V : Vl) : FVec Ideal S8x60x33600 .f32 := after (ops (F := Ideal)) V (Proc.devRef .tc main_v247)
theorem e_v247 (V : Vl) : b_v247 V = transpose S8x60x33600 [0, 2, 1] (b_v246 V) transposes_S8x33600x60_S8x60x33600_0_2_1 := by
  have h := line_ok.s1 V 288 rfl (by decide) (by decide)
  exact h
def b_v248 (V : Vl) : FVec Ideal S8x60x33600 .f32 := after (ops (F := Ideal)) V (Proc.devRef .tc main_v248)
theorem e_v248 (V : Vl) : b_v248 V = addf (b_v239 V) (b_v247 V) := by
  have h := line_ok.s2 V 289 rfl (by decide) (by decide) (by decide)
  exact h
def b_cst_39 (V : Vl) : FVec Ideal S_ .f32 := after (ops (F := Ideal)) V (Proc.devRef .tc main_cst_39)
theorem e_cst_39 (V : Vl) : b_cst_39 V = (constant S_ .f32 0x40400000#32) := by
  have h := line_ok.s0 V 290 rfl (by decide)
  exact h
def b_v249 (V : Vl) : FVec Ideal S8x60x33600 .f32 := after (ops (F := Ideal)) V (Proc.devRef .tc main_v249)
theorem e_v249 (V : Vl) : b_v249 V = broadcastInDim S8x60x33600 ![] bcast_S_S8x60x33600 (b_cst_39 V) := by
  have h := line_ok.s1 V 291 rfl (by decide) (by decide)
  exact h
def b_v250 (V : Vl) : FVec Ideal S8x60x33600 .f32 := after (ops (F := Ideal)) V (Proc.devRef .tc main_v250)
theorem e_v250 (V : Vl) : b_v250 V = mulf (b_v249 V) (b_v139 V) := by
  have h := line_ok.s2 V 292 rfl (by decide) (by decide) (by decide)
  exact h
def b_v251 (V : Vl) : FVec Ideal S8x60x33600 .f32 := after (ops (F := Ideal)) V (Proc.devRef .tc main_v251)
theorem e_v251 (V : Vl) : b_v251 V = addf (b_v248 V) (b_v250 V) := by
  have h := line_ok.s2 V 293 rfl (by decide) (by decide) (by decide)
  exact h
def b_v252 (V : Vl) : IVec S8x60x33600 1 := after (ops (F := Ideal)) V (Proc.devRef .tc main_v252)
theorem e_v252 (V : Vl) : b_v252 V = noti (b_v74 V) := by
  have h := line_ok.s1 V 294 rfl (by decide) (by decide)
  exact h
def b_v253 (V : Vl) : FVec Ideal S8x60x33600 .f32 := after (ops (F := Ideal)) V (Proc.devRef .tc main_v253)
theorem e_v253 (V : Vl) : b_v253 V = uitofp .f32 (b_v252 V) := by
  have h := line_ok.s1 V 295 rfl (by decide) (by decide)
  exact h
def b_cst_40 (V : Vl) : FVec Ideal S_ .f32 := after (ops (F := Ideal)) V (Proc.devRef .tc main_cst_40)
theorem e_cst_40 (V : Vl) : b_cst_40 V = (constant S_ .f32 0x47C35000#32) := by
  have h := line_ok.s0 V 296 rfl (by decide)
  exact h
def b_v254 (V : Vl) : FVec Ideal S8x60x33600 .f32 := after (ops (F := Ideal)) V (Proc.devRef .tc main_v254)
theorem e_v254 (V : Vl) : b_v254 V = broadcastInDim S8x60x33600 ![] bcast_S_S8x60x33600 (b_cst_40 V) := by
  have h := line_ok.s1 V 297 rfl (by decide) (by decide)
  exact h
def b_v255 (V : Vl) : FVec Ideal S8x60x33600 .f32 := after (ops (F := Ideal)) V (Proc.devRef .tc main_v255)
theorem e_v255 (V : Vl) : b_v255 V = mulf (b_v254 V) (b_v253 V) := by
  have h := line_ok.s2 V 298 rfl (by decide) (by decide) (by decide)
  exact h
def b_v256 (V : Vl) : FVec Ideal S8x60x33600 .f32 := after (ops (F := Ideal)) V (Proc.devRef .tc main_v256)
theorem e_v256 (V : Vl) : b_v256 V = id (b_v255 V) := by
  have h := line_ok.s1 V 299 rfl (by decide) (by decide)
  exact h
def b_v257 (V : Vl) : FVec Ideal S8x60x33600 .f32 := after (ops (F := Ideal)) V (Proc.devRef .tc main_v257)
theorem e_v257 (V : Vl) : b_v257 V = addf (b_v251 V) (b_v256 V) := by
  have h := line_ok.s2 V 300 rfl (by decide) (by decide) (by decide)
  exact h
def b_v258 (V : Vl) : IVec S8x33600 1 := after (ops (F := Ideal)) V (Proc.devRef .tc main_v258)
theorem e_v258 (V : Vl) : b_v258 V = noti (b_v73 V) := by
  have h := line_ok.s1 V 301 rfl (by decide) (by decide)
  exact h
def b_v259 (V : Vl) : IVec S8x1x33600 1 := after (ops (F := Ideal)) V (Proc.devRef .tc main_v259)
theorem e_v259 (V : Vl) : b_v259 V = broadcastInDim S8x1x33600 ![0, 2] bcast_S8x33600_S8x1x33600_0_2 (b_v258 V) := by
  have h := line_ok.s1 V 302 rfl (by decide) (by decide)
  exact h
def b_v260 (V : Vl) : FVec Ideal S8x1x33600 .f32 := after (ops (F := Ideal)) V (Proc.devRef .tc main_v260)
theorem e_v260 (V : Vl) : b_v260 V = uitofp .f32 (b_v259 V) := by
  have h := line_ok.s1 V 303 rfl (by decide) (by decide)
  exact h
def b_cst_41 (V : Vl) : FVec Ideal S_ .f32 := after (ops (F := Ideal)) V (Proc.devRef .tc main_cst_41)
theorem e_cst_41 (V : Vl) : b_cst_41 V = (constant S_ .f32 0x47C35000#32) := by
  have h := line_ok.s0 V 304 rfl (by decide)
  exact h
def b_v261 (V : Vl) : FVec Ideal S8x1x33600 .f32 := after (ops (F := Ideal)) V (Proc.devRef .tc main_v261)
theorem e_v261 (V : Vl) : b_v261 V = broadcastInDim S8x1x33600 ![] bcast_S_S8x1x33600 (b_cst_41 V) := by
  have h := line_ok.s1 V 305 rfl (by decide) (by decide)
  exact h
def b_v262 (V : Vl) : FVec Ideal S8x1x33600 .f32 := after (ops (F := Ideal)) V (Proc.devRef .tc main_v262)
theorem e_v262 (V : Vl) : b_v262 V = mulf (b_v261 V) (b_v260 V) := by
  have h := line_ok.s2 V 306 rfl (by decide) (by decide) (by decide)
  exact h
def b_v263 (V : Vl) : FVec Ideal S8x1x33600 .f32 := after (ops (F := Ideal)) V (Proc.devRef .tc main_v263)
theorem e_v263 (V : Vl) : b_v263 V = id (b_v262 V) := by
  have h := line_ok.s1 V 307 rfl (by decide) (by decide)
  exact h
def b_v264 (V : Vl) : FVec Ideal S8x60x33600 .f32 := after (ops (F := Ideal)) V (Proc.devRef .tc main_v264)
theorem e_v264 (V : Vl) : b_v264 V = broadcastInDim S8x60x33600 ![0, 1, 2] bcast_S8x1x33600_S8x60x33600_0_1_2 (b_v263 V) := by
  have h := line_ok.s1 V 308 rfl (by decide) (by decide)
  exact h
def b_v265 (V : Vl) : FVec Ideal S8x60x33600 .f32 := after (ops (F := Ideal)) V (Proc.devRef .tc main_v265)
theorem e_v265 (V : Vl) : b_v265 V = addf (b_v257 V) (b_v264 V) := by
  have h := line_ok.s2 V 309 rfl (by decide) (by decide) (by decide)
  exact h
def b_v266 (V : Vl) : IVec S8x1x33600 1 := after (ops (F := Ideal)) V (Proc.devRef .tc main_v266)
theorem e_v266 (V : Vl) : b_v266 V = broadcastInDim S8x1x33600 ![0, 2] bcast_S8x33600_S8x1x33600_0_2 (b_v73 V) := by
  have h := line_ok.s1 V 310 rfl (by decide) (by decide)
  exact h
def b_cst_42 (V : Vl) : FVec Ideal S_ .f32 := after (ops (F := Ideal)) V (Proc.devRef .tc main_cst_42)
theorem e_cst_42 (V : Vl) : b_cst_42 V = (constant S_ .f32 0x00000000#32) := by
  have h := line_ok.s0 V 311 rfl (by decide)
  exact h
def b_call0_v0 (V : Vl) : FVec Ideal S_ .f32 := after (ops (F := Ideal)) V (Proc.devRef .tc main_call0_v0)
theorem e_call0_v0 (V : Vl) : b_call0_v0 V = id (b_cst_42 V) := by
  have h := line_ok.s1 V 312 rfl (by decide) (by decide)
  exact h
def b_call0_v1 (V : Vl) : IVec S8x60x33600 1 := after (ops (F := Ideal)) V (Proc.devRef .tc main_call0_v1)
theorem e_call0_v1 (V : Vl) : b_call0_v1 V = (broadcastInDim S8x60x33600 ![0, 1, 2] bcast_S8x1x33600_S8x60x33600_0_1_2) (b_v266 V) := by
  have h := line_ok.s1 V 313 rfl (by decide) (by decide)
  exact h
def b_call0_v2 (V : Vl) : FVec Ideal S60x33600 .f32 := after (ops (F := Ideal)) V (Proc.devRef .tc main_call0_v2)
theorem e_call0_v2 (V : Vl) : b_call0_v2 V = (broadcastInDim S60x33600 ![] bcast_S_S60x33600) (b_call0_v0 V) := by
  have h := line_ok.s1 V 314 rfl (by decide) (by decide)
  exact h
def b_call0_v3 (V : Vl) : FVec Ideal S8x60x33600 .f32 := after (ops (F := Ideal)) V (Proc.devRef .tc main_call0_v3)
theorem e_call0_v3 (V : Vl) : b_call0_v3 V = (broadcastInDim S8x60x33600 ![1, 2] bcast_S60x33600_S8x60x33600_1_2) (b_call0_v2 V) := by
  have h := line_ok.s1 V 315 rfl (by decide) (by decide)
  exact h
def b_v267 (V : Vl) : FVec Ideal S8x60x33600 .f32 := after (ops (F := Ideal)) V (Proc.devRef .tc main_v267)
theorem e_v267 (V : Vl) : b_v267 V = select (b_call0_v1 V) (b_v135 V) (b_call0_v3 V) := by
  have h := line_ok.s3 V 316 rfl (by decide) (by decide) (by decide) (by decide)
  exact h
def b_values (V : Vl) : FVec Ideal S8x60x10 .f32 := after (ops (F := Ideal)) V (Proc.devRef .tc main_values)
theorem e_values (V : Vl) : b_values V = (Host.topK S8x60x10 2 (FloatOps.cmpfTotal .gt) (b_v267 V) sliceFits_S8x60x33600_S8x60x10).1 := by
  have h := line_ok.s1 V 317 rfl (by decide) (by decide)
  exact h
def b_indices (V : Vl) : IVec S8x60x10 32 := after (ops (F := Ideal)) V (Proc.devRef .tc main_indices)
theorem e_indices (V : Vl) : b_indices V = (Host.topK S8x60x10 2 (FloatOps.cmpfTotal .gt) (b_v267 V) sliceFits_S8x60x33600_S8x60x10).2 := by
  have h := line_ok.s1 V 318 rfl (by decide) (by decide)
  exact h
def b_cst_43 (V : Vl) : FVec Ideal S_ .f32 := after (ops (F := Ideal)) V (Proc.devRef .tc main_cst_43)
theorem e_cst_43 (V : Vl) : b_cst_43 V = (constant S_ .f32 0x00000000#32) := by
  have h := line_ok.s0 V 319 rfl (by decide)
  exact h
def b_v268 (V : Vl) : FVec Ideal S8x60 .f32 := after (ops (F := Ideal)) V (Proc.devRef .tc main_v268)
theorem e_v268 (V : Vl) : b_v268 V = Host.reduceAdd (b_values V) (b_cst_43 V) reducesTo_S8x60x10_S8x60_d2 h_S_ := by
  have h := line_ok.s2 V 320 rfl (by decide) (by decide) (by decide)
  exact h
def b_v269 (V : Vl) : IVec S8x60 32 := after (ops (F := Ideal)) V (Proc.devRef .tc main_v269)
theorem e_v269 (V : Vl) : b_v269 V = fptosi 32 (b_v268 V) := by
  have h := line_ok.s1 V 321 rfl (by decide) (by decide)
  exact h
def b_c_44 (V : Vl) : IVec S_ 32 := after (ops (F := Ideal)) V (Proc.devRef .tc main_c_44)
theorem e_c_44 (V : Vl) : b_c_44 V = (constantI S_ 32 1#32) := by
  have h := line_ok.s0 V 322 rfl (by decide)
  exact h
def b_v270 (V : Vl) : IVec S8x60 32 := after (ops (F := Ideal)) V (Proc.devRef .tc main_v270)
theorem e_v270 (V : Vl) : b_v270 V = broadcastInDim S8x60 ![] bcast_S_S8x60 (b_c_44 V) := by
  have h := line_ok.s1 V 323 rfl (by decide) (by decide)
  exact h
def b_v271 (V : Vl) : IVec S8x60 32 := after (ops (F := Ideal)) V (Proc.devRef .tc main_v271)
theorem e_v271 (V : Vl) : b_v271 V = maxsi (b_v269 V) (b_v270 V) := by
  have h := line_ok.s2 V 324 rfl (by decide) (by decide) (by decide)
  exact h
def b_call1_v0 (V : Vl) : IVec S60x33600 32 := after (ops (F := Ideal)) V (Proc.devRef .tc main_call1_v0)
theorem e_call1_v0 (V : Vl) : b_call1_v0 V = (iotaInDim S60x33600 32 1) := by
  have h := line_ok.s0 V 325 rfl (by decide)
  exact h
def b_call1_v1 (V : Vl) : IVec S8x60x33600 32 := after (ops (F := Ideal)) V (Proc.devRef .tc main_call1_v1)
theorem e_call1_v1 (V : Vl) : b_call1_v1 V = (broadcastInDim S8x60x33600 ![1, 2] bcast_S60x33600_S8x60x33600_1_2) (b_call1_v0 V) := by
  have h := line_ok.s1 V 326 rfl (by decide) (by decide)
  exact h
def b_call1_v2_0 (V : Vl) : FVec Ideal S8x60x33600 .f32 := after (ops (F := Ideal)) V (Proc.devRef .tc main_call1_v2_0)
theorem e_call1_v2_0 (V : Vl) : b_call1_v2_0 V = (Host.sort2 S8x60x33600 2 comparator_f32_i32_d2 (b_v265 V) (b_call1_v1 V)).1 := by
  have h := line_ok.s2 V 327 rfl (by decide) (by decide) (by decide)
  exact h
def b_v272 (V : Vl) : IVec S8x60x33600 32 := after (ops (F := Ideal)) V (Proc.devRef .tc main_v272)
theorem e_v272 (V : Vl) : b_v272 V = (Host.sort2 S8x60x33600 2 comparator_f32_i32_d2 (b_v265 V) (b_call1_v1 V)).2 := by
  have h := line_ok.s2 V 328 rfl (by decide) (by decide) (by decide)
  exact h
def b_call2_v0 (V : Vl) : IVec S60x33600 32 := after (ops (F := Ideal)) V (Proc.devRef .tc main_call2_v0)
theorem e_call2_v0 (V : Vl) : b_call2_v0 V = (iotaInDim S60x33600 32 1) := by
  have h := line_ok.s0 V 329 rfl (by decide)
  exact h

end Cert.ReferenceIdeal.Own
-- ==== Proof.RefEqs1.lean ====
/-
  The buffers of the reference after the run, each as its operation applied to the buffers it reads (second half).
-/
module

public import proofs.«01_k».proof.Proof.RefEqs0

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo

set_option maxRecDepth 8192

def b_call2_v1 (V : Vl) : IVec S8x60x33600 32 := after (ops (F := Ideal)) V (Proc.devRef .tc main_call2_v1)
theorem e_call2_v1 (V : Vl) : b_call2_v1 V = (broadcastInDim S8x60x33600 ![1, 2] bcast_S60x33600_S8x60x33600_1_2) (b_call2_v0 V) := by
  have h := line_ok.s1 V 330 rfl (by decide) (by decide)
  exact h
def b_call2_v2_0 (V : Vl) : IVec S8x60x33600 32 := after (ops (F := Ideal)) V (Proc.devRef .tc main_call2_v2_0)
theorem e_call2_v2_0 (V : Vl) : b_call2_v2_0 V = (Host.sort2 S8x60x33600 2 comparator_i32_i32_d2 (b_v272 V) (b_call2_v1 V)).1 := by
  have h := line_ok.s2 V 331 rfl (by decide) (by decide) (by decide)
  exact h
def b_v273 (V : Vl) : IVec S8x60x33600 32 := after (ops (F := Ideal)) V (Proc.devRef .tc main_v273)
theorem e_v273 (V : Vl) : b_v273 V = (Host.sort2 S8x60x33600 2 comparator_i32_i32_d2 (b_v272 V) (b_call2_v1 V)).2 := by
  have h := line_ok.s2 V 332 rfl (by decide) (by decide) (by decide)
  exact h
def b_v274 (V : Vl) : IVec S8x60x1 32 := after (ops (F := Ideal)) V (Proc.devRef .tc main_v274)
theorem e_v274 (V : Vl) : b_v274 V = broadcastInDim S8x60x1 ![0, 1] bcast_S8x60_S8x60x1_0_1 (b_v271 V) := by
  have h := line_ok.s1 V 333 rfl (by decide) (by decide)
  exact h
def b_v275 (V : Vl) : IVec S8x60x33600 32 := after (ops (F := Ideal)) V (Proc.devRef .tc main_v275)
theorem e_v275 (V : Vl) : b_v275 V = broadcastInDim S8x60x33600 ![0, 1, 2] bcast_S8x60x1_S8x60x33600_0_1_2 (b_v274 V) := by
  have h := line_ok.s1 V 334 rfl (by decide) (by decide)
  exact h
def b_v276 (V : Vl) : IVec S8x60x33600 1 := after (ops (F := Ideal)) V (Proc.devRef .tc main_v276)
theorem e_v276 (V : Vl) : b_v276 V = cmpi .slt (b_v273 V) (b_v275 V) := by
  have h := line_ok.s2 V 335 rfl (by decide) (by decide) (by decide)
  exact h
def b_v277 (V : Vl) : FVec Ideal S8x60x33600 .f32 := after (ops (F := Ideal)) V (Proc.devRef .tc main_v277)
theorem e_v277 (V : Vl) : b_v277 V = uitofp .f32 (b_v276 V) := by
  have h := line_ok.s1 V 336 rfl (by decide) (by decide)
  exact h
def b_cst_45 (V : Vl) : FVec Ideal S_ .f32 := after (ops (F := Ideal)) V (Proc.devRef .tc main_cst_45)
theorem e_cst_45 (V : Vl) : b_cst_45 V = (constant S_ .f32 0x00000000#32) := by
  have h := line_ok.s0 V 337 rfl (by decide)
  exact h
def b_v278 (V : Vl) : FVec Ideal S8x33600 .f32 := after (ops (F := Ideal)) V (Proc.devRef .tc main_v278)
theorem e_v278 (V : Vl) : b_v278 V = Host.reduceAdd (b_v277 V) (b_cst_45 V) reducesTo_S8x60x33600_S8x33600_d1 h_S_ := by
  have h := line_ok.s2 V 338 rfl (by decide) (by decide) (by decide)
  exact h
def b_cst_46 (V : Vl) : FVec Ideal S_ .f32 := after (ops (F := Ideal)) V (Proc.devRef .tc main_cst_46)
theorem e_cst_46 (V : Vl) : b_cst_46 V = (constant S_ .f32 0x3F800000#32) := by
  have h := line_ok.s0 V 339 rfl (by decide)
  exact h
def b_v279 (V : Vl) : FVec Ideal S8x33600 .f32 := after (ops (F := Ideal)) V (Proc.devRef .tc main_v279)
theorem e_v279 (V : Vl) : b_v279 V = broadcastInDim S8x33600 ![] bcast_S_S8x33600 (b_cst_46 V) := by
  have h := line_ok.s1 V 340 rfl (by decide) (by decide)
  exact h
def b_v280 (V : Vl) : IVec S8x33600 1 := after (ops (F := Ideal)) V (Proc.devRef .tc main_v280)
theorem e_v280 (V : Vl) : b_v280 V = cmpf .ogt (b_v278 V) (b_v279 V) := by
  have h := line_ok.s2 V 341 rfl (by decide) (by decide) (by decide)
  exact h
def b_call3_v0 (V : Vl) : IVec S8x60x33600 32 := after (ops (F := Ideal)) V (Proc.devRef .tc main_call3_v0)
theorem e_call3_v0 (V : Vl) : b_call3_v0 V = (iotaInDim S8x60x33600 32 1) := by
  have h := line_ok.s0 V 342 rfl (by decide)
  exact h
def b_call3_cst (V : Vl) : FVec Ideal S_ .f32 := after (ops (F := Ideal)) V (Proc.devRef .tc main_call3_cst)
theorem e_call3_cst (V : Vl) : b_call3_cst V = (constant S_ .f32 0x7F800000#32) := by
  have h := line_ok.s0 V 343 rfl (by decide)
  exact h
def b_call3_c (V : Vl) : IVec S_ 32 := after (ops (F := Ideal)) V (Proc.devRef .tc main_call3_c)
theorem e_call3_c (V : Vl) : b_call3_c V = (constantI S_ 32 0#32) := by
  have h := line_ok.s0 V 344 rfl (by decide)
  exact h
def b_call3_v1_0 (V : Vl) : FVec Ideal S8x33600 .f32 := after (ops (F := Ideal)) V (Proc.devRef .tc main_call3_v1_0)
theorem e_call3_v1_0 (V : Vl) : b_call3_v1_0 V = fun j => (Host.argReduce reducer_argmin_f32_i32 (b_v265 V) (b_call3_v0 V) (b_call3_cst V) (b_call3_c V) reducesTo_S8x60x33600_S8x33600_d1 h_S_ j).1 := by
  have h := line_ok.s4 V 345 rfl (by decide) (by decide) (by decide) (by decide) (by decide)
  exact h
def b_v281 (V : Vl) : IVec S8x33600 32 := after (ops (F := Ideal)) V (Proc.devRef .tc main_v281)
theorem e_v281 (V : Vl) : b_v281 V = fun j => (Host.argReduce reducer_argmin_f32_i32 (b_v265 V) (b_call3_v0 V) (b_call3_cst V) (b_call3_c V) reducesTo_S8x60x33600_S8x33600_d1 h_S_ j).2 := by
  have h := line_ok.s4 V 346 rfl (by decide) (by decide) (by decide) (by decide) (by decide)
  exact h
def b_call4_v0 (V : Vl) : IVec S8x33600x1 32 := after (ops (F := Ideal)) V (Proc.devRef .tc main_call4_v0)
theorem e_call4_v0 (V : Vl) : b_call4_v0 V = (broadcastInDim S8x33600x1 ![0, 1] bcast_S8x33600_S8x33600x1_0_1) (b_v281 V) := by
  have h := line_ok.s1 V 347 rfl (by decide) (by decide)
  exact h
def b_call4_v1 (V : Vl) : IVec S1x60 32 := after (ops (F := Ideal)) V (Proc.devRef .tc main_call4_v1)
theorem e_call4_v1 (V : Vl) : b_call4_v1 V = (iotaInDim S1x60 32 1) := by
  have h := line_ok.s0 V 348 rfl (by decide)
  exact h
def b_call4_v2 (V : Vl) : IVec S1x1x60 32 := after (ops (F := Ideal)) V (Proc.devRef .tc main_call4_v2)
theorem e_call4_v2 (V : Vl) : b_call4_v2 V = (broadcastInDim S1x1x60 ![1, 2] bcast_S1x60_S1x1x60_1_2) (b_call4_v1 V) := by
  have h := line_ok.s1 V 349 rfl (by decide) (by decide)
  exact h
def b_call4_v3 (V : Vl) : IVec S8x33600x60 32 := after (ops (F := Ideal)) V (Proc.devRef .tc main_call4_v3)
theorem e_call4_v3 (V : Vl) : b_call4_v3 V = (broadcastInDim S8x33600x60 ![0, 1, 2] bcast_S8x33600x1_S8x33600x60_0_1_2) (b_call4_v0 V) := by
  have h := line_ok.s1 V 350 rfl (by decide) (by decide)
  exact h
def b_call4_v4 (V : Vl) : IVec S8x33600x60 32 := after (ops (F := Ideal)) V (Proc.devRef .tc main_call4_v4)
theorem e_call4_v4 (V : Vl) : b_call4_v4 V = (broadcastInDim S8x33600x60 ![0, 1, 2] bcast_S1x1x60_S8x33600x60_0_1_2) (b_call4_v2 V) := by
  have h := line_ok.s1 V 351 rfl (by decide) (by decide)
  exact h
def b_call4_v5 (V : Vl) : IVec S8x33600x60 1 := after (ops (F := Ideal)) V (Proc.devRef .tc main_call4_v5)
theorem e_call4_v5 (V : Vl) : b_call4_v5 V = (cmpi .eq) (b_call4_v3 V) (b_call4_v4 V) := by
  have h := line_ok.s2 V 352 rfl (by decide) (by decide) (by decide)
  exact h
def b_v282 (V : Vl) : FVec Ideal S8x33600x60 .f32 := after (ops (F := Ideal)) V (Proc.devRef .tc main_v282)
theorem e_v282 (V : Vl) : b_v282 V = (uitofp .f32) (b_call4_v5 V) := by
  have h := line_ok.s1 V 353 rfl (by decide) (by decide)
  exact h
def b_v283 (V : Vl) : FVec Ideal S8x60x33600 .f32 := after (ops (F := Ideal)) V (Proc.devRef .tc main_v283)
theorem e_v283 (V : Vl) : b_v283 V = transpose S8x60x33600 [0, 2, 1] (b_v282 V) transposes_S8x33600x60_S8x60x33600_0_2_1 := by
  have h := line_ok.s1 V 354 rfl (by decide) (by decide)
  exact h
def b_v284 (V : Vl) : IVec S8x1x33600 1 := after (ops (F := Ideal)) V (Proc.devRef .tc main_v284)
theorem e_v284 (V : Vl) : b_v284 V = broadcastInDim S8x1x33600 ![0, 2] bcast_S8x33600_S8x1x33600_0_2 (b_v280 V) := by
  have h := line_ok.s1 V 355 rfl (by decide) (by decide)
  exact h
def b_call5_v0 (V : Vl) : IVec S8x60x33600 1 := after (ops (F := Ideal)) V (Proc.devRef .tc main_call5_v0)
theorem e_call5_v0 (V : Vl) : b_call5_v0 V = (broadcastInDim S8x60x33600 ![0, 1, 2] bcast_S8x1x33600_S8x60x33600_0_1_2) (b_v284 V) := by
  have h := line_ok.s1 V 356 rfl (by decide) (by decide)
  exact h
def b_v285 (V : Vl) : FVec Ideal S8x60x33600 .f32 := after (ops (F := Ideal)) V (Proc.devRef .tc main_v285)
theorem e_v285 (V : Vl) : b_v285 V = select (b_call5_v0 V) (b_v283 V) (b_v277 V) := by
  have h := line_ok.s3 V 357 rfl (by decide) (by decide) (by decide) (by decide)
  exact h
def b_cst_47 (V : Vl) : FVec Ideal S_ .f32 := after (ops (F := Ideal)) V (Proc.devRef .tc main_cst_47)
theorem e_cst_47 (V : Vl) : b_cst_47 V = (constant S_ .f32 0x00000000#32) := by
  have h := line_ok.s0 V 358 rfl (by decide)
  exact h
def b_v286 (V : Vl) : FVec Ideal S8x33600 .f32 := after (ops (F := Ideal)) V (Proc.devRef .tc main_v286)
theorem e_v286 (V : Vl) : b_v286 V = Host.reduceAdd (b_v285 V) (b_cst_47 V) reducesTo_S8x60x33600_S8x33600_d1 h_S_ := by
  have h := line_ok.s2 V 359 rfl (by decide) (by decide) (by decide)
  exact h
def b_cst_48 (V : Vl) : FVec Ideal S_ .f32 := after (ops (F := Ideal)) V (Proc.devRef .tc main_cst_48)
theorem e_cst_48 (V : Vl) : b_cst_48 V = (constant S_ .f32 0x00000000#32) := by
  have h := line_ok.s0 V 360 rfl (by decide)
  exact h
def b_v287 (V : Vl) : FVec Ideal S8x33600 .f32 := after (ops (F := Ideal)) V (Proc.devRef .tc main_v287)
theorem e_v287 (V : Vl) : b_v287 V = broadcastInDim S8x33600 ![] bcast_S_S8x33600 (b_cst_48 V) := by
  have h := line_ok.s1 V 361 rfl (by decide) (by decide)
  exact h
def b_v288 (V : Vl) : IVec S8x33600 1 := after (ops (F := Ideal)) V (Proc.devRef .tc main_v288)
theorem e_v288 (V : Vl) : b_v288 V = cmpf .ogt (b_v286 V) (b_v287 V) := by
  have h := line_ok.s2 V 362 rfl (by decide) (by decide) (by decide)
  exact h
def b_v289 (V : Vl) : IVec S8x33600 1 := after (ops (F := Ideal)) V (Proc.devRef .tc main_v289)
theorem e_v289 (V : Vl) : b_v289 V = andi (b_v288 V) (b_v73 V) := by
  have h := line_ok.s2 V 363 rfl (by decide) (by decide) (by decide)
  exact h
def b_call6_v0 (V : Vl) : IVec S8x60x33600 32 := after (ops (F := Ideal)) V (Proc.devRef .tc main_call6_v0)
theorem e_call6_v0 (V : Vl) : b_call6_v0 V = (iotaInDim S8x60x33600 32 1) := by
  have h := line_ok.s0 V 364 rfl (by decide)
  exact h
def b_call6_cst (V : Vl) : FVec Ideal S_ .f32 := after (ops (F := Ideal)) V (Proc.devRef .tc main_call6_cst)
theorem e_call6_cst (V : Vl) : b_call6_cst V = (constant S_ .f32 0xFF800000#32) := by
  have h := line_ok.s0 V 365 rfl (by decide)
  exact h
def b_call6_c (V : Vl) : IVec S_ 32 := after (ops (F := Ideal)) V (Proc.devRef .tc main_call6_c)
theorem e_call6_c (V : Vl) : b_call6_c V = (constantI S_ 32 0#32) := by
  have h := line_ok.s0 V 366 rfl (by decide)
  exact h
def b_call6_v1_0 (V : Vl) : FVec Ideal S8x33600 .f32 := after (ops (F := Ideal)) V (Proc.devRef .tc main_call6_v1_0)
theorem e_call6_v1_0 (V : Vl) : b_call6_v1_0 V = fun j => (Host.argReduce reducer_argmax_f32_i32 (b_v285 V) (b_call6_v0 V) (b_call6_cst V) (b_call6_c V) reducesTo_S8x60x33600_S8x33600_d1 h_S_ j).1 := by
  have h := line_ok.s4 V 367 rfl (by decide) (by decide) (by decide) (by decide) (by decide)
  exact h
def b_v290 (V : Vl) : IVec S8x33600 32 := after (ops (F := Ideal)) V (Proc.devRef .tc main_v290)
theorem e_v290 (V : Vl) : b_v290 V = fun j => (Host.argReduce reducer_argmax_f32_i32 (b_v285 V) (b_call6_v0 V) (b_call6_cst V) (b_call6_c V) reducesTo_S8x60x33600_S8x33600_d1 h_S_ j).2 := by
  have h := line_ok.s4 V 368 rfl (by decide) (by decide) (by decide) (by decide) (by decide)
  exact h
def b_c_49 (V : Vl) : IVec S_ 32 := after (ops (F := Ideal)) V (Proc.devRef .tc main_c_49)
theorem e_c_49 (V : Vl) : b_c_49 V = (constantI S_ 32 0#32) := by
  have h := line_ok.s0 V 369 rfl (by decide)
  exact h
def b_v291 (V : Vl) : IVec S8x33600 32 := after (ops (F := Ideal)) V (Proc.devRef .tc main_v291)
theorem e_v291 (V : Vl) : b_v291 V = broadcastInDim S8x33600 ![] bcast_S_S8x33600 (b_c_49 V) := by
  have h := line_ok.s1 V 370 rfl (by decide) (by decide)
  exact h
def b_v292 (V : Vl) : IVec S8x33600 1 := after (ops (F := Ideal)) V (Proc.devRef .tc main_v292)
theorem e_v292 (V : Vl) : b_v292 V = cmpi .slt (b_v290 V) (b_v291 V) := by
  have h := line_ok.s2 V 371 rfl (by decide) (by decide) (by decide)
  exact h
def b_c_50 (V : Vl) : IVec S_ 32 := after (ops (F := Ideal)) V (Proc.devRef .tc main_c_50)
theorem e_c_50 (V : Vl) : b_c_50 V = (constantI S_ 32 60#32) := by
  have h := line_ok.s0 V 372 rfl (by decide)
  exact h
def b_v293 (V : Vl) : IVec S8x33600 32 := after (ops (F := Ideal)) V (Proc.devRef .tc main_v293)
theorem e_v293 (V : Vl) : b_v293 V = broadcastInDim S8x33600 ![] bcast_S_S8x33600 (b_c_50 V) := by
  have h := line_ok.s1 V 373 rfl (by decide) (by decide)
  exact h
def b_v294 (V : Vl) : IVec S8x33600 32 := after (ops (F := Ideal)) V (Proc.devRef .tc main_v294)
theorem e_v294 (V : Vl) : b_v294 V = addi (b_v290 V) (b_v293 V) := by
  have h := line_ok.s2 V 374 rfl (by decide) (by decide) (by decide)
  exact h
def b_v295 (V : Vl) : IVec S8x33600 32 := after (ops (F := Ideal)) V (Proc.devRef .tc main_v295)
theorem e_v295 (V : Vl) : b_v295 V = select (b_v292 V) (b_v294 V) (b_v290 V) := by
  have h := line_ok.s3 V 375 rfl (by decide) (by decide) (by decide) (by decide)
  exact h
def b_v296 (V : Vl) : IVec S8x33600x1 32 := after (ops (F := Ideal)) V (Proc.devRef .tc main_v296)
theorem e_v296 (V : Vl) : b_v296 V = broadcastInDim S8x33600x1 ![0, 1] bcast_S8x33600_S8x33600x1_0_1 (b_v295 V) := by
  have h := line_ok.s1 V 376 rfl (by decide) (by decide)
  exact h
def b_v297 (V : Vl) : IVec S8x33600 32 := after (ops (F := Ideal)) V (Proc.devRef .tc main_v297)
theorem e_v297 (V : Vl) : b_v297 V = Host.gather gather_S8x60_S8x33600x1_S8x33600_n_1_0_0_1_2_11 (b_arg5 V) (b_v296 V) := by
  have h := line_ok.s2 V 377 rfl (by decide) (by decide) (by decide)
  rw [k_arg5] at h
  exact h
def b_c_51 (V : Vl) : IVec S_ 32 := after (ops (F := Ideal)) V (Proc.devRef .tc main_c_51)
theorem e_c_51 (V : Vl) : b_c_51 V = (constantI S_ 32 80#32) := by
  have h := line_ok.s0 V 378 rfl (by decide)
  exact h
def b_call7_v0 (V : Vl) : IVec S_ 32 := after (ops (F := Ideal)) V (Proc.devRef .tc main_call7_v0)
theorem e_call7_v0 (V : Vl) : b_call7_v0 V = id (b_c_51 V) := by
  have h := line_ok.s1 V 379 rfl (by decide) (by decide)
  exact h
def b_call7_v1 (V : Vl) : IVec S33600 32 := after (ops (F := Ideal)) V (Proc.devRef .tc main_call7_v1)
theorem e_call7_v1 (V : Vl) : b_call7_v1 V = (broadcastInDim S33600 ![] bcast_S_S33600) (b_call7_v0 V) := by
  have h := line_ok.s1 V 380 rfl (by decide) (by decide)
  exact h
def b_call7_v2 (V : Vl) : IVec S8x33600 32 := after (ops (F := Ideal)) V (Proc.devRef .tc main_call7_v2)
theorem e_call7_v2 (V : Vl) : b_call7_v2 V = (broadcastInDim S8x33600 ![1] bcast_S33600_S8x33600_1) (b_call7_v1 V) := by
  have h := line_ok.s1 V 381 rfl (by decide) (by decide)
  exact h
def b_v298 (V : Vl) : IVec S8x33600 32 := after (ops (F := Ideal)) V (Proc.devRef .tc main_v298)
theorem e_v298 (V : Vl) : b_v298 V = select (b_v289 V) (b_v297 V) (b_call7_v2 V) := by
  have h := line_ok.s3 V 382 rfl (by decide) (by decide) (by decide) (by decide)
  exact h
def b_v299 (V : Vl) : IVec S8x33600x1 1 := after (ops (F := Ideal)) V (Proc.devRef .tc main_v299)
theorem e_v299 (V : Vl) : b_v299 V = broadcastInDim S8x33600x1 ![0, 1] bcast_S8x33600_S8x33600x1_0_1 (b_v289 V) := by
  have h := line_ok.s1 V 383 rfl (by decide) (by decide)
  exact h
def b_c_52 (V : Vl) : IVec S_ 32 := after (ops (F := Ideal)) V (Proc.devRef .tc main_c_52)
theorem e_c_52 (V : Vl) : b_c_52 V = (constantI S_ 32 0#32) := by
  have h := line_ok.s0 V 384 rfl (by decide)
  exact h
def b_v300 (V : Vl) : IVec S8x33600 32 := after (ops (F := Ideal)) V (Proc.devRef .tc main_v300)
theorem e_v300 (V : Vl) : b_v300 V = broadcastInDim S8x33600 ![] bcast_S_S8x33600 (b_c_52 V) := by
  have h := line_ok.s1 V 385 rfl (by decide) (by decide)
  exact h
def b_v301 (V : Vl) : IVec S8x33600 1 := after (ops (F := Ideal)) V (Proc.devRef .tc main_v301)
theorem e_v301 (V : Vl) : b_v301 V = cmpi .slt (b_v290 V) (b_v300 V) := by
  have h := line_ok.s2 V 386 rfl (by decide) (by decide) (by decide)
  exact h
def b_c_53 (V : Vl) : IVec S_ 32 := after (ops (F := Ideal)) V (Proc.devRef .tc main_c_53)
theorem e_c_53 (V : Vl) : b_c_53 V = (constantI S_ 32 60#32) := by
  have h := line_ok.s0 V 387 rfl (by decide)
  exact h
def b_v302 (V : Vl) : IVec S8x33600 32 := after (ops (F := Ideal)) V (Proc.devRef .tc main_v302)
theorem e_v302 (V : Vl) : b_v302 V = broadcastInDim S8x33600 ![] bcast_S_S8x33600 (b_c_53 V) := by
  have h := line_ok.s1 V 388 rfl (by decide) (by decide)
  exact h
def b_v303 (V : Vl) : IVec S8x33600 32 := after (ops (F := Ideal)) V (Proc.devRef .tc main_v303)
theorem e_v303 (V : Vl) : b_v303 V = addi (b_v290 V) (b_v302 V) := by
  have h := line_ok.s2 V 389 rfl (by decide) (by decide) (by decide)
  exact h
def b_v304 (V : Vl) : IVec S8x33600 32 := after (ops (F := Ideal)) V (Proc.devRef .tc main_v304)
theorem e_v304 (V : Vl) : b_v304 V = select (b_v301 V) (b_v303 V) (b_v290 V) := by
  have h := line_ok.s3 V 390 rfl (by decide) (by decide) (by decide) (by decide)
  exact h
def b_v305 (V : Vl) : IVec S8x33600x1 32 := after (ops (F := Ideal)) V (Proc.devRef .tc main_v305)
theorem e_v305 (V : Vl) : b_v305 V = broadcastInDim S8x33600x1 ![0, 1] bcast_S8x33600_S8x33600x1_0_1 (b_v304 V) := by
  have h := line_ok.s1 V 391 rfl (by decide) (by decide)
  exact h
def b_v306 (V : Vl) : FVec Ideal S8x33600x4 .f32 := after (ops (F := Ideal)) V (Proc.devRef .tc main_v306)
theorem e_v306 (V : Vl) : b_v306 V = Host.gather gather_S8x60x4_S8x33600x1_S8x33600x4_2_1_0_0_1_2_114 (b_arg6 V) (b_v305 V) := by
  have h := line_ok.s2 V 392 rfl (by decide) (by decide) (by decide)
  rw [k_arg6] at h
  exact h
def b_cst_54 (V : Vl) : FVec Ideal S_ .f32 := after (ops (F := Ideal)) V (Proc.devRef .tc main_cst_54)
theorem e_cst_54 (V : Vl) : b_cst_54 V = (constant S_ .f32 0x00000000#32) := by
  have h := line_ok.s0 V 393 rfl (by decide)
  exact h
def b_call8_v0 (V : Vl) : FVec Ideal S_ .f32 := after (ops (F := Ideal)) V (Proc.devRef .tc main_call8_v0)
theorem e_call8_v0 (V : Vl) : b_call8_v0 V = id (b_cst_54 V) := by
  have h := line_ok.s1 V 394 rfl (by decide) (by decide)
  exact h
def b_call8_v1 (V : Vl) : IVec S8x33600x4 1 := after (ops (F := Ideal)) V (Proc.devRef .tc main_call8_v1)
theorem e_call8_v1 (V : Vl) : b_call8_v1 V = (broadcastInDim S8x33600x4 ![0, 1, 2] bcast_S8x33600x1_S8x33600x4_0_1_2) (b_v299 V) := by
  have h := line_ok.s1 V 395 rfl (by decide) (by decide)
  exact h
def b_call8_v2 (V : Vl) : FVec Ideal S33600x4 .f32 := after (ops (F := Ideal)) V (Proc.devRef .tc main_call8_v2)
theorem e_call8_v2 (V : Vl) : b_call8_v2 V = (broadcastInDim S33600x4 ![] bcast_S_S33600x4) (b_call8_v0 V) := by
  have h := line_ok.s1 V 396 rfl (by decide) (by decide)
  exact h
def b_call8_v3 (V : Vl) : FVec Ideal S8x33600x4 .f32 := after (ops (F := Ideal)) V (Proc.devRef .tc main_call8_v3)
theorem e_call8_v3 (V : Vl) : b_call8_v3 V = (broadcastInDim S8x33600x4 ![1, 2] bcast_S33600x4_S8x33600x4_1_2) (b_call8_v2 V) := by
  have h := line_ok.s1 V 397 rfl (by decide) (by decide)
  exact h
def b_v307 (V : Vl) : FVec Ideal S8x33600x4 .f32 := after (ops (F := Ideal)) V (Proc.devRef .tc main_v307)
theorem e_v307 (V : Vl) : b_v307 V = select (b_call8_v1 V) (b_v306 V) (b_call8_v3 V) := by
  have h := line_ok.s3 V 398 rfl (by decide) (by decide) (by decide) (by decide)
  exact h
def b_v308 (V : Vl) : IVec S33600 32 := after (ops (F := Ideal)) V (Proc.devRef .tc main_v308)
theorem e_v308 (V : Vl) : b_v308 V = (iotaInDim S33600 32 0) := by
  have h := line_ok.s0 V 399 rfl (by decide)
  exact h
def b_c_55 (V : Vl) : IVec S_ 32 := after (ops (F := Ideal)) V (Proc.devRef .tc main_c_55)
theorem e_c_55 (V : Vl) : b_c_55 V = (constantI S_ 32 0#32) := by
  have h := line_ok.s0 V 400 rfl (by decide)
  exact h
def b_v309 (V : Vl) : IVec S8x33600 32 := after (ops (F := Ideal)) V (Proc.devRef .tc main_v309)
theorem e_v309 (V : Vl) : b_v309 V = broadcastInDim S8x33600 ![] bcast_S_S8x33600 (b_c_55 V) := by
  have h := line_ok.s1 V 401 rfl (by decide) (by decide)
  exact h
def b_v310 (V : Vl) : IVec S8x33600 1 := after (ops (F := Ideal)) V (Proc.devRef .tc main_v310)
theorem e_v310 (V : Vl) : b_v310 V = cmpi .slt (b_v290 V) (b_v309 V) := by
  have h := line_ok.s2 V 402 rfl (by decide) (by decide) (by decide)
  exact h
def b_c_56 (V : Vl) : IVec S_ 32 := after (ops (F := Ideal)) V (Proc.devRef .tc main_c_56)
theorem e_c_56 (V : Vl) : b_c_56 V = (constantI S_ 32 60#32) := by
  have h := line_ok.s0 V 403 rfl (by decide)
  exact h
def b_v311 (V : Vl) : IVec S8x33600 32 := after (ops (F := Ideal)) V (Proc.devRef .tc main_v311)
theorem e_v311 (V : Vl) : b_v311 V = broadcastInDim S8x33600 ![] bcast_S_S8x33600 (b_c_56 V) := by
  have h := line_ok.s1 V 404 rfl (by decide) (by decide)
  exact h
def b_v312 (V : Vl) : IVec S8x33600 32 := after (ops (F := Ideal)) V (Proc.devRef .tc main_v312)
theorem e_v312 (V : Vl) : b_v312 V = addi (b_v290 V) (b_v311 V) := by
  have h := line_ok.s2 V 405 rfl (by decide) (by decide) (by decide)
  exact h
def b_v313 (V : Vl) : IVec S8x33600 32 := after (ops (F := Ideal)) V (Proc.devRef .tc main_v313)
theorem e_v313 (V : Vl) : b_v313 V = select (b_v310 V) (b_v312 V) (b_v290 V) := by
  have h := line_ok.s3 V 406 rfl (by decide) (by decide) (by decide) (by decide)
  exact h
def b_c_57 (V : Vl) : IVec S_ 32 := after (ops (F := Ideal)) V (Proc.devRef .tc main_c_57)
theorem e_c_57 (V : Vl) : b_c_57 V = (constantI S_ 32 0#32) := by
  have h := line_ok.s0 V 407 rfl (by decide)
  exact h
def b_v314 (V : Vl) : IVec S33600 32 := after (ops (F := Ideal)) V (Proc.devRef .tc main_v314)
theorem e_v314 (V : Vl) : b_v314 V = broadcastInDim S33600 ![] bcast_S_S33600 (b_c_57 V) := by
  have h := line_ok.s1 V 408 rfl (by decide) (by decide)
  exact h
def b_v315 (V : Vl) : IVec S33600 1 := after (ops (F := Ideal)) V (Proc.devRef .tc main_v315)
theorem e_v315 (V : Vl) : b_v315 V = cmpi .slt (b_v308 V) (b_v314 V) := by
  have h := line_ok.s2 V 409 rfl (by decide) (by decide) (by decide)
  exact h
def b_c_58 (V : Vl) : IVec S_ 32 := after (ops (F := Ideal)) V (Proc.devRef .tc main_c_58)
theorem e_c_58 (V : Vl) : b_c_58 V = (constantI S_ 32 33600#32) := by
  have h := line_ok.s0 V 410 rfl (by decide)
  exact h
def b_v316 (V : Vl) : IVec S33600 32 := after (ops (F := Ideal)) V (Proc.devRef .tc main_v316)
theorem e_v316 (V : Vl) : b_v316 V = broadcastInDim S33600 ![] bcast_S_S33600 (b_c_58 V) := by
  have h := line_ok.s1 V 411 rfl (by decide) (by decide)
  exact h
def b_v317 (V : Vl) : IVec S33600 32 := after (ops (F := Ideal)) V (Proc.devRef .tc main_v317)
theorem e_v317 (V : Vl) : b_v317 V = addi (b_v308 V) (b_v316 V) := by
  have h := line_ok.s2 V 412 rfl (by decide) (by decide) (by decide)
  exact h
def b_v318 (V : Vl) : IVec S33600 32 := after (ops (F := Ideal)) V (Proc.devRef .tc main_v318)
theorem e_v318 (V : Vl) : b_v318 V = select (b_v315 V) (b_v317 V) (b_v308 V) := by
  have h := line_ok.s3 V 413 rfl (by decide) (by decide) (by decide) (by decide)
  exact h
def b_v319 (V : Vl) : IVec S8x33600x1 32 := after (ops (F := Ideal)) V (Proc.devRef .tc main_v319)
theorem e_v319 (V : Vl) : b_v319 V = broadcastInDim S8x33600x1 ![0, 1] bcast_S8x33600_S8x33600x1_0_1 (b_v313 V) := by
  have h := line_ok.s1 V 414 rfl (by decide) (by decide)
  exact h
def b_v320 (V : Vl) : IVec S33600x1 32 := after (ops (F := Ideal)) V (Proc.devRef .tc main_v320)
theorem e_v320 (V : Vl) : b_v320 V = broadcastInDim S33600x1 ![0] bcast_S33600_S33600x1_0 (b_v318 V) := by
  have h := line_ok.s1 V 415 rfl (by decide) (by decide)
  exact h
def b_v321 (V : Vl) : IVec S8x33600x1 32 := after (ops (F := Ideal)) V (Proc.devRef .tc main_v321)
theorem e_v321 (V : Vl) : b_v321 V = broadcastInDim S8x33600x1 ![1, 2] bcast_S33600x1_S8x33600x1_1_2 (b_v320 V) := by
  have h := line_ok.s1 V 416 rfl (by decide) (by decide)
  exact h
def b_v322 (V : Vl) : IVec S8x33600x2 32 := after (ops (F := Ideal)) V (Proc.devRef .tc main_v322)
theorem e_v322 (V : Vl) : b_v322 V = concatenate S8x33600x2 2 [⟨S8x33600x1, (b_v319 V)⟩, ⟨S8x33600x1, (b_v321 V)⟩] concatenates_S8x33600x1_S8x33600x1_S8x33600x2_d2 := by
  have h := line_ok.s2 V 417 rfl (by decide) (by decide) (by decide)
  exact h
def b_v323 (V : Vl) : FVec Ideal S8x33600 .f32 := after (ops (F := Ideal)) V (Proc.devRef .tc main_v323)
theorem e_v323 (V : Vl) : b_v323 V = Host.gather gather_S8x60x33600_S8x33600x2_S8x33600_n_12_0_0_12_2_111 (b_v135 V) (b_v322 V) := by
  have h := line_ok.s2 V 418 rfl (by decide) (by decide) (by decide)
  exact h
def b_cst_59 (V : Vl) : FVec Ideal S_ .f32 := after (ops (F := Ideal)) V (Proc.devRef .tc main_cst_59)
theorem e_cst_59 (V : Vl) : b_cst_59 V = (constant S_ .f32 0x00000000#32) := by
  have h := line_ok.s0 V 419 rfl (by decide)
  exact h
def b_call9_v0 (V : Vl) : FVec Ideal S_ .f32 := after (ops (F := Ideal)) V (Proc.devRef .tc main_call9_v0)
theorem e_call9_v0 (V : Vl) : b_call9_v0 V = id (b_cst_59 V) := by
  have h := line_ok.s1 V 420 rfl (by decide) (by decide)
  exact h
def b_call9_v1 (V : Vl) : FVec Ideal S33600 .f32 := after (ops (F := Ideal)) V (Proc.devRef .tc main_call9_v1)
theorem e_call9_v1 (V : Vl) : b_call9_v1 V = (broadcastInDim S33600 ![] bcast_S_S33600) (b_call9_v0 V) := by
  have h := line_ok.s1 V 421 rfl (by decide) (by decide)
  exact h
def b_call9_v2 (V : Vl) : FVec Ideal S8x33600 .f32 := after (ops (F := Ideal)) V (Proc.devRef .tc main_call9_v2)
theorem e_call9_v2 (V : Vl) : b_call9_v2 V = (broadcastInDim S8x33600 ![1] bcast_S33600_S8x33600_1) (b_call9_v1 V) := by
  have h := line_ok.s1 V 422 rfl (by decide) (by decide)
  exact h
def b_v324 (V : Vl) : FVec Ideal S8x33600 .f32 := after (ops (F := Ideal)) V (Proc.devRef .tc main_v324)
theorem e_v324 (V : Vl) : b_v324 V = select (b_v289 V) (b_v323 V) (b_call9_v2 V) := by
  have h := line_ok.s3 V 423 rfl (by decide) (by decide) (by decide) (by decide)
  exact h
def b_c_60 (V : Vl) : IVec S_ 32 := after (ops (F := Ideal)) V (Proc.devRef .tc main_c_60)
theorem e_c_60 (V : Vl) : b_c_60 V = (constantI S_ 32 0#32) := by
  have h := line_ok.s0 V 424 rfl (by decide)
  exact h
def b_v325 (V : Vl) : IVec S8x33600 32 := after (ops (F := Ideal)) V (Proc.devRef .tc main_v325)
theorem e_v325 (V : Vl) : b_v325 V = broadcastInDim S8x33600 ![] bcast_S_S8x33600 (b_c_60 V) := by
  have h := line_ok.s1 V 425 rfl (by decide) (by decide)
  exact h
def b_v326 (V : Vl) : IVec S8x33600 1 := after (ops (F := Ideal)) V (Proc.devRef .tc main_v326)
theorem e_v326 (V : Vl) : b_v326 V = cmpi .sge (b_v298 V) (b_v325 V) := by
  have h := line_ok.s2 V 426 rfl (by decide) (by decide) (by decide)
  exact h
def b_c_61 (V : Vl) : IVec S_ 32 := after (ops (F := Ideal)) V (Proc.devRef .tc main_c_61)
theorem e_c_61 (V : Vl) : b_c_61 V = (constantI S_ 32 80#32) := by
  have h := line_ok.s0 V 427 rfl (by decide)
  exact h
def b_v327 (V : Vl) : IVec S8x33600 32 := after (ops (F := Ideal)) V (Proc.devRef .tc main_v327)
theorem e_v327 (V : Vl) : b_v327 V = broadcastInDim S8x33600 ![] bcast_S_S8x33600 (b_c_61 V) := by
  have h := line_ok.s1 V 428 rfl (by decide) (by decide)
  exact h
def b_v328 (V : Vl) : IVec S8x33600 1 := after (ops (F := Ideal)) V (Proc.devRef .tc main_v328)
theorem e_v328 (V : Vl) : b_v328 V = cmpi .ne (b_v298 V) (b_v327 V) := by
  have h := line_ok.s2 V 429 rfl (by decide) (by decide) (by decide)
  exact h
def b_v329 (V : Vl) : IVec S8x33600 1 := after (ops (F := Ideal)) V (Proc.devRef .tc main_v329)
theorem e_v329 (V : Vl) : b_v329 V = andi (b_v326 V) (b_v328 V) := by
  have h := line_ok.s2 V 430 rfl (by decide) (by decide) (by decide)
  exact h
def b_v330 (V : Vl) : FVec Ideal S8x33600 .f32 := after (ops (F := Ideal)) V (Proc.devRef .tc main_v330)
theorem e_v330 (V : Vl) : b_v330 V = uitofp .f32 (b_v329 V) := by
  have h := line_ok.s1 V 431 rfl (by decide) (by decide)
  exact h
def b_cst_62 (V : Vl) : FVec Ideal S_ .f32 := after (ops (F := Ideal)) V (Proc.devRef .tc main_cst_62)
theorem e_cst_62 (V : Vl) : b_cst_62 V = (constant S_ .f32 0x00000000#32) := by
  have h := line_ok.s0 V 432 rfl (by decide)
  exact h
def b_v331 (V : Vl) : FVec Ideal S_ .f32 := after (ops (F := Ideal)) V (Proc.devRef .tc main_v331)
theorem e_v331 (V : Vl) : b_v331 V = Host.reduceAdd (b_v330 V) (b_cst_62 V) reducesTo_S8x33600_S_d0_1 h_S_ := by
  have h := line_ok.s2 V 433 rfl (by decide) (by decide) (by decide)
  exact h
def b_cst_63 (V : Vl) : FVec Ideal S_ .f32 := after (ops (F := Ideal)) V (Proc.devRef .tc main_cst_63)
theorem e_cst_63 (V : Vl) : b_cst_63 V = (constant S_ .f32 0x3F800000#32) := by
  have h := line_ok.s0 V 434 rfl (by decide)
  exact h
def b_v332 (V : Vl) : FVec Ideal S_ .f32 := after (ops (F := Ideal)) V (Proc.devRef .tc main_v332)
theorem e_v332 (V : Vl) : b_v332 V = maximumf (b_v331 V) (b_cst_63 V) := by
  have h := line_ok.s2 V 435 rfl (by decide) (by decide) (by decide)
  exact h
def b_v333 (V : Vl) : IVec S8x33600 1 := after (ops (F := Ideal)) V (Proc.devRef .tc main_v333)
theorem e_v333 (V : Vl) : b_v333 V = noti (b_arg4 V) := by
  have h := line_ok.s1 V 436 rfl (by decide) (by decide)
  rw [k_arg4] at h
  exact h
def b_c_64 (V : Vl) : IVec S_ 32 := after (ops (F := Ideal)) V (Proc.devRef .tc main_c_64)
theorem e_c_64 (V : Vl) : b_c_64 V = (constantI S_ 32 0#32) := by
  have h := line_ok.s0 V 437 rfl (by decide)
  exact h
def b_v334 (V : Vl) : IVec S8x33600 32 := after (ops (F := Ideal)) V (Proc.devRef .tc main_v334)
theorem e_v334 (V : Vl) : b_v334 V = broadcastInDim S8x33600 ![] bcast_S_S8x33600 (b_c_64 V) := by
  have h := line_ok.s1 V 438 rfl (by decide) (by decide)
  exact h
def b_v335 (V : Vl) : IVec S8x33600 1 := after (ops (F := Ideal)) V (Proc.devRef .tc main_v335)
theorem e_v335 (V : Vl) : b_v335 V = cmpi .sge (b_v298 V) (b_v334 V) := by
  have h := line_ok.s2 V 439 rfl (by decide) (by decide) (by decide)
  exact h
def b_v336 (V : Vl) : IVec S8x33600 1 := after (ops (F := Ideal)) V (Proc.devRef .tc main_v336)
theorem e_v336 (V : Vl) : b_v336 V = andi (b_v333 V) (b_v335 V) := by
  have h := line_ok.s2 V 440 rfl (by decide) (by decide) (by decide)
  exact h
def b_v337 (V : Vl) : FVec Ideal S8x33600 .f32 := after (ops (F := Ideal)) V (Proc.devRef .tc main_v337)
theorem e_v337 (V : Vl) : b_v337 V = uitofp .f32 (b_v336 V) := by
  have h := line_ok.s1 V 441 rfl (by decide) (by decide)
  exact h
def b_c_65 (V : Vl) : IVec S_ 32 := after (ops (F := Ideal)) V (Proc.devRef .tc main_c_65)
theorem e_c_65 (V : Vl) : b_c_65 V = (constantI S_ 32 0#32) := by
  have h := line_ok.s0 V 442 rfl (by decide)
  exact h
def b_call10_v0 (V : Vl) : IVec S_ 32 := after (ops (F := Ideal)) V (Proc.devRef .tc main_call10_v0)
theorem e_call10_v0 (V : Vl) : b_call10_v0 V = id (b_c_65 V) := by
  have h := line_ok.s1 V 443 rfl (by decide) (by decide)
  exact h
def b_call10_v1 (V : Vl) : IVec S8x33600 32 := after (ops (F := Ideal)) V (Proc.devRef .tc main_call10_v1)
theorem e_call10_v1 (V : Vl) : b_call10_v1 V = (broadcastInDim S8x33600 ![] bcast_S_S8x33600) (b_call10_v0 V) := by
  have h := line_ok.s1 V 444 rfl (by decide) (by decide)
  exact h
def b_v338 (V : Vl) : IVec S8x33600 32 := after (ops (F := Ideal)) V (Proc.devRef .tc main_v338)
theorem e_v338 (V : Vl) : b_v338 V = select (b_v329 V) (b_v298 V) (b_call10_v1 V) := by
  have h := line_ok.s3 V 445 rfl (by decide) (by decide) (by decide) (by decide)
  exact h
def b_call11_v0 (V : Vl) : IVec S8x33600x1 32 := after (ops (F := Ideal)) V (Proc.devRef .tc main_call11_v0)
theorem e_call11_v0 (V : Vl) : b_call11_v0 V = (broadcastInDim S8x33600x1 ![0, 1] bcast_S8x33600_S8x33600x1_0_1) (b_v338 V) := by
  have h := line_ok.s1 V 446 rfl (by decide) (by decide)
  exact h
def b_call11_v1 (V : Vl) : IVec S1x1x80 32 := after (ops (F := Ideal)) V (Proc.devRef .tc main_call11_v1)
theorem e_call11_v1 (V : Vl) : b_call11_v1 V = (iotaInDim S1x1x80 32 2) := by
  have h := line_ok.s0 V 447 rfl (by decide)
  exact h
def b_call11_v2 (V : Vl) : IVec S8x33600x80 32 := after (ops (F := Ideal)) V (Proc.devRef .tc main_call11_v2)
theorem e_call11_v2 (V : Vl) : b_call11_v2 V = (broadcastInDim S8x33600x80 ![0, 1, 2] bcast_S8x33600x1_S8x33600x80_0_1_2) (b_call11_v0 V) := by
  have h := line_ok.s1 V 448 rfl (by decide) (by decide)
  exact h
def b_call11_v3 (V : Vl) : IVec S8x33600x80 32 := after (ops (F := Ideal)) V (Proc.devRef .tc main_call11_v3)
theorem e_call11_v3 (V : Vl) : b_call11_v3 V = (broadcastInDim S8x33600x80 ![0, 1, 2] bcast_S1x1x80_S8x33600x80_0_1_2) (b_call11_v1 V) := by
  have h := line_ok.s1 V 449 rfl (by decide) (by decide)
  exact h
def b_call11_v4 (V : Vl) : IVec S8x33600x80 1 := after (ops (F := Ideal)) V (Proc.devRef .tc main_call11_v4)
theorem e_call11_v4 (V : Vl) : b_call11_v4 V = (cmpi .eq) (b_call11_v2 V) (b_call11_v3 V) := by
  have h := line_ok.s2 V 450 rfl (by decide) (by decide) (by decide)
  exact h
def b_v339 (V : Vl) : FVec Ideal S8x33600x80 .f32 := after (ops (F := Ideal)) V (Proc.devRef .tc main_v339)
theorem e_v339 (V : Vl) : b_v339 V = (uitofp .f32) (b_call11_v4 V) := by
  have h := line_ok.s1 V 451 rfl (by decide) (by decide)
  exact h
def b_v340 (V : Vl) : FVec Ideal S8x33600x1 .f32 := after (ops (F := Ideal)) V (Proc.devRef .tc main_v340)
theorem e_v340 (V : Vl) : b_v340 V = broadcastInDim S8x33600x1 ![0, 1] bcast_S8x33600_S8x33600x1_0_1 (b_v330 V) := by
  have h := line_ok.s1 V 452 rfl (by decide) (by decide)
  exact h
def b_v341 (V : Vl) : FVec Ideal S8x33600x80 .f32 := after (ops (F := Ideal)) V (Proc.devRef .tc main_v341)
theorem e_v341 (V : Vl) : b_v341 V = broadcastInDim S8x33600x80 ![0, 1, 2] bcast_S8x33600x1_S8x33600x80_0_1_2 (b_v340 V) := by
  have h := line_ok.s1 V 453 rfl (by decide) (by decide)
  exact h
def b_v342 (V : Vl) : FVec Ideal S8x33600x80 .f32 := after (ops (F := Ideal)) V (Proc.devRef .tc main_v342)
theorem e_v342 (V : Vl) : b_v342 V = mulf (b_v339 V) (b_v341 V) := by
  have h := line_ok.s2 V 454 rfl (by decide) (by decide) (by decide)
  exact h
def b_v343 (V : Vl) : FVec Ideal S8x33600x80 .f32 := after (ops (F := Ideal)) V (Proc.devRef .tc main_v343)
theorem e_v343 (V : Vl) : b_v343 V = Host.negf (b_arg0 V) := by
  have h := line_ok.s1 V 455 rfl (by decide) (by decide)
  rw [k_arg0] at h
  exact h
def b_v344 (V : Vl) : FVec Ideal S8x33600x80 .f32 := after (ops (F := Ideal)) V (Proc.devRef .tc main_v344)
theorem e_v344 (V : Vl) : b_v344 V = Host.exp (b_v343 V) := by
  have h := line_ok.s1 V 456 rfl (by decide) (by decide)
  exact h
def b_cst_66 (V : Vl) : FVec Ideal S_ .f32 := after (ops (F := Ideal)) V (Proc.devRef .tc main_cst_66)
theorem e_cst_66 (V : Vl) : b_cst_66 V = (constant S_ .f32 0x3F800000#32) := by
  have h := line_ok.s0 V 457 rfl (by decide)
  exact h
def b_v345 (V : Vl) : FVec Ideal S8x33600x80 .f32 := after (ops (F := Ideal)) V (Proc.devRef .tc main_v345)
theorem e_v345 (V : Vl) : b_v345 V = broadcastInDim S8x33600x80 ![] bcast_S_S8x33600x80 (b_cst_66 V) := by
  have h := line_ok.s1 V 458 rfl (by decide) (by decide)
  exact h
def b_v346 (V : Vl) : FVec Ideal S8x33600x80 .f32 := after (ops (F := Ideal)) V (Proc.devRef .tc main_v346)
theorem e_v346 (V : Vl) : b_v346 V = addf (b_v345 V) (b_v344 V) := by
  have h := line_ok.s2 V 459 rfl (by decide) (by decide) (by decide)
  exact h
def b_cst_67 (V : Vl) : FVec Ideal S_ .f32 := after (ops (F := Ideal)) V (Proc.devRef .tc main_cst_67)
theorem e_cst_67 (V : Vl) : b_cst_67 V = (constant S_ .f32 0x3F800000#32) := by
  have h := line_ok.s0 V 460 rfl (by decide)
  exact h
def b_v347 (V : Vl) : FVec Ideal S8x33600x80 .f32 := after (ops (F := Ideal)) V (Proc.devRef .tc main_v347)
theorem e_v347 (V : Vl) : b_v347 V = broadcastInDim S8x33600x80 ![] bcast_S_S8x33600x80 (b_cst_67 V) := by
  have h := line_ok.s1 V 461 rfl (by decide) (by decide)
  exact h
def b_v348 (V : Vl) : FVec Ideal S8x33600x80 .f32 := after (ops (F := Ideal)) V (Proc.devRef .tc main_v348)
theorem e_v348 (V : Vl) : b_v348 V = Host.divf (b_v347 V) (b_v346 V) := by
  have h := line_ok.s2 V 462 rfl (by decide) (by decide) (by decide)
  exact h
def b_cst_68 (V : Vl) : FVec Ideal S_ .f32 := after (ops (F := Ideal)) V (Proc.devRef .tc main_cst_68)
theorem e_cst_68 (V : Vl) : b_cst_68 V = (constant S_ .f32 0x00000000#32) := by
  have h := line_ok.s0 V 463 rfl (by decide)
  exact h
def b_v349 (V : Vl) : FVec Ideal S8x33600x80 .f32 := after (ops (F := Ideal)) V (Proc.devRef .tc main_v349)
theorem e_v349 (V : Vl) : b_v349 V = broadcastInDim S8x33600x80 ![] bcast_S_S8x33600x80 (b_cst_68 V) := by
  have h := line_ok.s1 V 464 rfl (by decide) (by decide)
  exact h
def b_v350 (V : Vl) : FVec Ideal S8x33600x80 .f32 := after (ops (F := Ideal)) V (Proc.devRef .tc main_v350)
theorem e_v350 (V : Vl) : b_v350 V = maximumf (b_arg0 V) (b_v349 V) := by
  have h := line_ok.s2 V 465 rfl (by decide) (by decide) (by decide)
  rw [k_arg0] at h
  exact h
def b_v351 (V : Vl) : FVec Ideal S8x33600x80 .f32 := after (ops (F := Ideal)) V (Proc.devRef .tc main_v351)
theorem e_v351 (V : Vl) : b_v351 V = mulf (b_arg0 V) (b_v342 V) := by
  have h := line_ok.s2 V 466 rfl (by decide) (by decide) (by decide)
  rw [k_arg0] at h
  exact h
def b_v352 (V : Vl) : FVec Ideal S8x33600x80 .f32 := after (ops (F := Ideal)) V (Proc.devRef .tc main_v352)
theorem e_v352 (V : Vl) : b_v352 V = subf (b_v350 V) (b_v351 V) := by
  have h := line_ok.s2 V 467 rfl (by decide) (by decide) (by decide)
  exact h
def b_v353 (V : Vl) : FVec Ideal S8x33600x80 .f32 := after (ops (F := Ideal)) V (Proc.devRef .tc main_v353)
theorem e_v353 (V : Vl) : b_v353 V = Host.absf (b_arg0 V) := by
  have h := line_ok.s1 V 468 rfl (by decide) (by decide)
  rw [k_arg0] at h
  exact h
def b_v354 (V : Vl) : FVec Ideal S8x33600x80 .f32 := after (ops (F := Ideal)) V (Proc.devRef .tc main_v354)
theorem e_v354 (V : Vl) : b_v354 V = Host.negf (b_v353 V) := by
  have h := line_ok.s1 V 469 rfl (by decide) (by decide)
  exact h
def b_v355 (V : Vl) : FVec Ideal S8x33600x80 .f32 := after (ops (F := Ideal)) V (Proc.devRef .tc main_v355)
theorem e_v355 (V : Vl) : b_v355 V = Host.exp (b_v354 V) := by
  have h := line_ok.s1 V 470 rfl (by decide) (by decide)
  exact h
def b_v356 (V : Vl) : FVec Ideal S8x33600x80 .f32 := after (ops (F := Ideal)) V (Proc.devRef .tc main_v356)
theorem e_v356 (V : Vl) : b_v356 V = Host.log1p (b_v355 V) := by
  have h := line_ok.s1 V 471 rfl (by decide) (by decide)
  exact h
def b_v357 (V : Vl) : FVec Ideal S8x33600x80 .f32 := after (ops (F := Ideal)) V (Proc.devRef .tc main_v357)
theorem e_v357 (V : Vl) : b_v357 V = addf (b_v352 V) (b_v356 V) := by
  have h := line_ok.s2 V 472 rfl (by decide) (by decide) (by decide)
  exact h
def b_v358 (V : Vl) : FVec Ideal S8x33600x80 .f32 := after (ops (F := Ideal)) V (Proc.devRef .tc main_v358)
theorem e_v358 (V : Vl) : b_v358 V = mulf (b_v348 V) (b_v342 V) := by
  have h := line_ok.s2 V 473 rfl (by decide) (by decide) (by decide)
  exact h
def b_cst_69 (V : Vl) : FVec Ideal S_ .f32 := after (ops (F := Ideal)) V (Proc.devRef .tc main_cst_69)
theorem e_cst_69 (V : Vl) : b_cst_69 V = (constant S_ .f32 0x3F800000#32) := by
  have h := line_ok.s0 V 474 rfl (by decide)
  exact h
def b_v359 (V : Vl) : FVec Ideal S8x33600x80 .f32 := after (ops (F := Ideal)) V (Proc.devRef .tc main_v359)
theorem e_v359 (V : Vl) : b_v359 V = broadcastInDim S8x33600x80 ![] bcast_S_S8x33600x80 (b_cst_69 V) := by
  have h := line_ok.s1 V 475 rfl (by decide) (by decide)
  exact h
def b_v360 (V : Vl) : FVec Ideal S8x33600x80 .f32 := after (ops (F := Ideal)) V (Proc.devRef .tc main_v360)
theorem e_v360 (V : Vl) : b_v360 V = subf (b_v359 V) (b_v348 V) := by
  have h := line_ok.s2 V 476 rfl (by decide) (by decide) (by decide)
  exact h
def b_cst_70 (V : Vl) : FVec Ideal S_ .f32 := after (ops (F := Ideal)) V (Proc.devRef .tc main_cst_70)
theorem e_cst_70 (V : Vl) : b_cst_70 V = (constant S_ .f32 0x3F800000#32) := by
  have h := line_ok.s0 V 477 rfl (by decide)
  exact h
def b_v361 (V : Vl) : FVec Ideal S8x33600x80 .f32 := after (ops (F := Ideal)) V (Proc.devRef .tc main_v361)
theorem e_v361 (V : Vl) : b_v361 V = broadcastInDim S8x33600x80 ![] bcast_S_S8x33600x80 (b_cst_70 V) := by
  have h := line_ok.s1 V 478 rfl (by decide) (by decide)
  exact h
def b_v362 (V : Vl) : FVec Ideal S8x33600x80 .f32 := after (ops (F := Ideal)) V (Proc.devRef .tc main_v362)
theorem e_v362 (V : Vl) : b_v362 V = subf (b_v361 V) (b_v342 V) := by
  have h := line_ok.s2 V 479 rfl (by decide) (by decide) (by decide)
  exact h
def b_v363 (V : Vl) : FVec Ideal S8x33600x80 .f32 := after (ops (F := Ideal)) V (Proc.devRef .tc main_v363)
theorem e_v363 (V : Vl) : b_v363 V = mulf (b_v360 V) (b_v362 V) := by
  have h := line_ok.s2 V 480 rfl (by decide) (by decide) (by decide)
  exact h
def b_v364 (V : Vl) : FVec Ideal S8x33600x80 .f32 := after (ops (F := Ideal)) V (Proc.devRef .tc main_v364)
theorem e_v364 (V : Vl) : b_v364 V = addf (b_v358 V) (b_v363 V) := by
  have h := line_ok.s2 V 481 rfl (by decide) (by decide) (by decide)
  exact h
def b_cst_71 (V : Vl) : FVec Ideal S_ .f32 := after (ops (F := Ideal)) V (Proc.devRef .tc main_cst_71)
theorem e_cst_71 (V : Vl) : b_cst_71 V = (constant S_ .f32 0x3F800000#32) := by
  have h := line_ok.s0 V 482 rfl (by decide)
  exact h
def b_v365 (V : Vl) : FVec Ideal S8x33600x80 .f32 := after (ops (F := Ideal)) V (Proc.devRef .tc main_v365)
theorem e_v365 (V : Vl) : b_v365 V = broadcastInDim S8x33600x80 ![] bcast_S_S8x33600x80 (b_cst_71 V) := by
  have h := line_ok.s1 V 483 rfl (by decide) (by decide)
  exact h
def b_v366 (V : Vl) : FVec Ideal S8x33600x80 .f32 := after (ops (F := Ideal)) V (Proc.devRef .tc main_v366)
theorem e_v366 (V : Vl) : b_v366 V = subf (b_v365 V) (b_v364 V) := by
  have h := line_ok.s2 V 484 rfl (by decide) (by decide) (by decide)
  exact h
def b_cst_72 (V : Vl) : FVec Ideal S_ .f32 := after (ops (F := Ideal)) V (Proc.devRef .tc main_cst_72)
theorem e_cst_72 (V : Vl) : b_cst_72 V = (constant S_ .f32 0x40000000#32) := by
  have h := line_ok.s0 V 485 rfl (by decide)
  exact h
def b_v367 (V : Vl) : FVec Ideal S8x33600x80 .f32 := after (ops (F := Ideal)) V (Proc.devRef .tc main_v367)
theorem e_v367 (V : Vl) : b_v367 V = broadcastInDim S8x33600x80 ![] bcast_S_S8x33600x80 (b_cst_72 V) := by
  have h := line_ok.s1 V 486 rfl (by decide) (by decide)
  exact h
def b_v368 (V : Vl) : FVec Ideal S8x33600x80 .f32 := after (ops (F := Ideal)) V (Proc.devRef .tc main_v368)
theorem e_v368 (V : Vl) : b_v368 V = Host.powf (b_v366 V) (b_v367 V) := by
  have h := line_ok.s2 V 487 rfl (by decide) (by decide) (by decide)
  exact h
def b_v369 (V : Vl) : FVec Ideal S8x33600x80 .f32 := after (ops (F := Ideal)) V (Proc.devRef .tc main_v369)
theorem e_v369 (V : Vl) : b_v369 V = mulf (b_v357 V) (b_v368 V) := by
  have h := line_ok.s2 V 488 rfl (by decide) (by decide) (by decide)
  exact h
def b_cst_73 (V : Vl) : FVec Ideal S_ .f32 := after (ops (F := Ideal)) V (Proc.devRef .tc main_cst_73)
theorem e_cst_73 (V : Vl) : b_cst_73 V = (constant S_ .f32 0x3E800000#32) := by
  have h := line_ok.s0 V 489 rfl (by decide)
  exact h
def b_v370 (V : Vl) : FVec Ideal S8x33600x80 .f32 := after (ops (F := Ideal)) V (Proc.devRef .tc main_v370)
theorem e_v370 (V : Vl) : b_v370 V = broadcastInDim S8x33600x80 ![] bcast_S_S8x33600x80 (b_cst_73 V) := by
  have h := line_ok.s1 V 490 rfl (by decide) (by decide)
  exact h
def b_v371 (V : Vl) : FVec Ideal S8x33600x80 .f32 := after (ops (F := Ideal)) V (Proc.devRef .tc main_v371)
theorem e_v371 (V : Vl) : b_v371 V = mulf (b_v370 V) (b_v342 V) := by
  have h := line_ok.s2 V 491 rfl (by decide) (by decide) (by decide)
  exact h
def b_cst_74 (V : Vl) : FVec Ideal S_ .f32 := after (ops (F := Ideal)) V (Proc.devRef .tc main_cst_74)
theorem e_cst_74 (V : Vl) : b_cst_74 V = (constant S_ .f32 0x3F800000#32) := by
  have h := line_ok.s0 V 492 rfl (by decide)
  exact h
def b_v372 (V : Vl) : FVec Ideal S8x33600x80 .f32 := after (ops (F := Ideal)) V (Proc.devRef .tc main_v372)
theorem e_v372 (V : Vl) : b_v372 V = broadcastInDim S8x33600x80 ![] bcast_S_S8x33600x80 (b_cst_74 V) := by
  have h := line_ok.s1 V 493 rfl (by decide) (by decide)
  exact h
def b_v373 (V : Vl) : FVec Ideal S8x33600x80 .f32 := after (ops (F := Ideal)) V (Proc.devRef .tc main_v373)
theorem e_v373 (V : Vl) : b_v373 V = subf (b_v372 V) (b_v342 V) := by
  have h := line_ok.s2 V 494 rfl (by decide) (by decide) (by decide)
  exact h
def b_cst_75 (V : Vl) : FVec Ideal S_ .f32 := after (ops (F := Ideal)) V (Proc.devRef .tc main_cst_75)
theorem e_cst_75 (V : Vl) : b_cst_75 V = (constant S_ .f32 0x3F400000#32) := by
  have h := line_ok.s0 V 495 rfl (by decide)
  exact h
def b_v374 (V : Vl) : FVec Ideal S8x33600x80 .f32 := after (ops (F := Ideal)) V (Proc.devRef .tc main_v374)
theorem e_v374 (V : Vl) : b_v374 V = broadcastInDim S8x33600x80 ![] bcast_S_S8x33600x80 (b_cst_75 V) := by
  have h := line_ok.s1 V 496 rfl (by decide) (by decide)
  exact h
def b_v375 (V : Vl) : FVec Ideal S8x33600x80 .f32 := after (ops (F := Ideal)) V (Proc.devRef .tc main_v375)
theorem e_v375 (V : Vl) : b_v375 V = mulf (b_v374 V) (b_v373 V) := by
  have h := line_ok.s2 V 497 rfl (by decide) (by decide) (by decide)
  exact h
def b_v376 (V : Vl) : FVec Ideal S8x33600x80 .f32 := after (ops (F := Ideal)) V (Proc.devRef .tc main_v376)
theorem e_v376 (V : Vl) : b_v376 V = addf (b_v371 V) (b_v375 V) := by
  have h := line_ok.s2 V 498 rfl (by decide) (by decide) (by decide)
  exact h
def b_v377 (V : Vl) : FVec Ideal S8x33600x80 .f32 := after (ops (F := Ideal)) V (Proc.devRef .tc main_v377)
theorem e_v377 (V : Vl) : b_v377 V = mulf (b_v376 V) (b_v369 V) := by
  have h := line_ok.s2 V 499 rfl (by decide) (by decide) (by decide)
  exact h
def b_v378 (V : Vl) : FVec Ideal S8x33600x1 .f32 := after (ops (F := Ideal)) V (Proc.devRef .tc main_v378)
theorem e_v378 (V : Vl) : b_v378 V = broadcastInDim S8x33600x1 ![0, 1] bcast_S8x33600_S8x33600x1_0_1 (b_v337 V) := by
  have h := line_ok.s1 V 500 rfl (by decide) (by decide)
  exact h
def b_v379 (V : Vl) : FVec Ideal S8x33600x80 .f32 := after (ops (F := Ideal)) V (Proc.devRef .tc main_v379)
theorem e_v379 (V : Vl) : b_v379 V = broadcastInDim S8x33600x80 ![0, 1, 2] bcast_S8x33600x1_S8x33600x80_0_1_2 (b_v378 V) := by
  have h := line_ok.s1 V 501 rfl (by decide) (by decide)
  exact h
def b_v380 (V : Vl) : FVec Ideal S8x33600x80 .f32 := after (ops (F := Ideal)) V (Proc.devRef .tc main_v380)
theorem e_v380 (V : Vl) : b_v380 V = mulf (b_v377 V) (b_v379 V) := by
  have h := line_ok.s2 V 502 rfl (by decide) (by decide) (by decide)
  exact h
def b_cst_76 (V : Vl) : FVec Ideal S_ .f32 := after (ops (F := Ideal)) V (Proc.devRef .tc main_cst_76)
theorem e_cst_76 (V : Vl) : b_cst_76 V = (constant S_ .f32 0x00000000#32) := by
  have h := line_ok.s0 V 503 rfl (by decide)
  exact h
def b_v381 (V : Vl) : FVec Ideal S_ .f32 := after (ops (F := Ideal)) V (Proc.devRef .tc main_v381)
theorem e_v381 (V : Vl) : b_v381 V = Host.reduceAdd (b_v380 V) (b_cst_76 V) reducesTo_S8x33600x80_S_d0_1_2 h_S_ := by
  have h := line_ok.s2 V 504 rfl (by decide) (by decide) (by decide)
  exact h
def b_v382 (V : Vl) : FVec Ideal S_ .f32 := after (ops (F := Ideal)) V (Proc.devRef .tc main_v382)
theorem e_v382 (V : Vl) : b_v382 V = Host.divf (b_v381 V) (b_v332 V) := by
  have h := line_ok.s2 V 505 rfl (by decide) (by decide) (by decide)
  exact h
def b_v383 (V : Vl) : FVec Ideal S8x33600x2 .f32 := after (ops (F := Ideal)) V (Proc.devRef .tc main_v383)
theorem e_v383 (V : Vl) : b_v383 V = extractStridedSlice S8x33600x2 ![0, 0, 0] (b_arg1 V) slices_S8x33600x4_S8x33600x2_0_0_0 := by
  have h := line_ok.s1 V 506 rfl (by decide) (by decide)
  rw [k_arg1] at h
  exact h
def b_v384 (V : Vl) : FVec Ideal S8x33600x2 .f32 := after (ops (F := Ideal)) V (Proc.devRef .tc main_v384)
theorem e_v384 (V : Vl) : b_v384 V = extractStridedSlice S8x33600x2 ![0, 0, 0] (b_v307 V) slices_S8x33600x4_S8x33600x2_0_0_0 := by
  have h := line_ok.s1 V 507 rfl (by decide) (by decide)
  exact h
def b_v385 (V : Vl) : FVec Ideal S8x33600x2 .f32 := after (ops (F := Ideal)) V (Proc.devRef .tc main_v385)
theorem e_v385 (V : Vl) : b_v385 V = maximumf (b_v383 V) (b_v384 V) := by
  have h := line_ok.s2 V 508 rfl (by decide) (by decide) (by decide)
  exact h
def b_v386 (V : Vl) : FVec Ideal S8x33600x2 .f32 := after (ops (F := Ideal)) V (Proc.devRef .tc main_v386)
theorem e_v386 (V : Vl) : b_v386 V = extractStridedSlice S8x33600x2 ![0, 0, 2] (b_arg1 V) slices_S8x33600x4_S8x33600x2_0_0_2 := by
  have h := line_ok.s1 V 509 rfl (by decide) (by decide)
  rw [k_arg1] at h
  exact h
def b_v387 (V : Vl) : FVec Ideal S8x33600x2 .f32 := after (ops (F := Ideal)) V (Proc.devRef .tc main_v387)
theorem e_v387 (V : Vl) : b_v387 V = extractStridedSlice S8x33600x2 ![0, 0, 2] (b_v307 V) slices_S8x33600x4_S8x33600x2_0_0_2 := by
  have h := line_ok.s1 V 510 rfl (by decide) (by decide)
  exact h
def b_v388 (V : Vl) : FVec Ideal S8x33600x2 .f32 := after (ops (F := Ideal)) V (Proc.devRef .tc main_v388)
theorem e_v388 (V : Vl) : b_v388 V = minimumf (b_v386 V) (b_v387 V) := by
  have h := line_ok.s2 V 511 rfl (by decide) (by decide) (by decide)
  exact h
def b_v389 (V : Vl) : FVec Ideal S8x33600x2 .f32 := after (ops (F := Ideal)) V (Proc.devRef .tc main_v389)
theorem e_v389 (V : Vl) : b_v389 V = subf (b_v388 V) (b_v385 V) := by
  have h := line_ok.s2 V 512 rfl (by decide) (by decide) (by decide)
  exact h
def b_cst_77 (V : Vl) : FVec Ideal S_ .f32 := after (ops (F := Ideal)) V (Proc.devRef .tc main_cst_77)
theorem e_cst_77 (V : Vl) : b_cst_77 V = (constant S_ .f32 0x00000000#32) := by
  have h := line_ok.s0 V 513 rfl (by decide)
  exact h
def b_v390 (V : Vl) : FVec Ideal S8x33600x2 .f32 := after (ops (F := Ideal)) V (Proc.devRef .tc main_v390)
theorem e_v390 (V : Vl) : b_v390 V = broadcastInDim S8x33600x2 ![] bcast_S_S8x33600x2 (b_cst_77 V) := by
  have h := line_ok.s1 V 514 rfl (by decide) (by decide)
  exact h
def b_v391 (V : Vl) : FVec Ideal S8x33600x2 .f32 := after (ops (F := Ideal)) V (Proc.devRef .tc main_v391)
theorem e_v391 (V : Vl) : b_v391 V = maximumf (b_v389 V) (b_v390 V) := by
  have h := line_ok.s2 V 515 rfl (by decide) (by decide) (by decide)
  exact h
def b_v392 (V : Vl) : FVec Ideal S8x33600x1 .f32 := after (ops (F := Ideal)) V (Proc.devRef .tc main_v392)
theorem e_v392 (V : Vl) : b_v392 V = extractStridedSlice S8x33600x1 ![0, 0, 0] (b_v391 V) slices_S8x33600x2_S8x33600x1_0_0_0 := by
  have h := line_ok.s1 V 516 rfl (by decide) (by decide)
  exact h
def b_v393 (V : Vl) : FVec Ideal S8x33600 .f32 := after (ops (F := Ideal)) V (Proc.devRef .tc main_v393)
theorem e_v393 (V : Vl) : b_v393 V = shapeCast S8x33600 (b_v392 V) shapeCasts_S8x33600x1_S8x33600 := by
  have h := line_ok.sr V 517 rfl (by decide) (by decide)
  exact h
def b_v394 (V : Vl) : FVec Ideal S8x33600x1 .f32 := after (ops (F := Ideal)) V (Proc.devRef .tc main_v394)
theorem e_v394 (V : Vl) : b_v394 V = extractStridedSlice S8x33600x1 ![0, 0, 1] (b_v391 V) slices_S8x33600x2_S8x33600x1_0_0_1 := by
  have h := line_ok.s1 V 518 rfl (by decide) (by decide)
  exact h
def b_v395 (V : Vl) : FVec Ideal S8x33600 .f32 := after (ops (F := Ideal)) V (Proc.devRef .tc main_v395)
theorem e_v395 (V : Vl) : b_v395 V = shapeCast S8x33600 (b_v394 V) shapeCasts_S8x33600x1_S8x33600 := by
  have h := line_ok.sr V 519 rfl (by decide) (by decide)
  exact h
def b_v396 (V : Vl) : FVec Ideal S8x33600 .f32 := after (ops (F := Ideal)) V (Proc.devRef .tc main_v396)
theorem e_v396 (V : Vl) : b_v396 V = mulf (b_v393 V) (b_v395 V) := by
  have h := line_ok.s2 V 520 rfl (by decide) (by decide) (by decide)
  exact h
def b_v397 (V : Vl) : FVec Ideal S8x33600x1 .f32 := after (ops (F := Ideal)) V (Proc.devRef .tc main_v397)
theorem e_v397 (V : Vl) : b_v397 V = extractStridedSlice S8x33600x1 ![0, 0, 2] (b_arg1 V) slices_S8x33600x4_S8x33600x1_0_0_2 := by
  have h := line_ok.s1 V 521 rfl (by decide) (by decide)
  rw [k_arg1] at h
  exact h
def b_v398 (V : Vl) : FVec Ideal S8x33600 .f32 := after (ops (F := Ideal)) V (Proc.devRef .tc main_v398)
theorem e_v398 (V : Vl) : b_v398 V = shapeCast S8x33600 (b_v397 V) shapeCasts_S8x33600x1_S8x33600 := by
  have h := line_ok.sr V 522 rfl (by decide) (by decide)
  exact h
def b_v399 (V : Vl) : FVec Ideal S8x33600x1 .f32 := after (ops (F := Ideal)) V (Proc.devRef .tc main_v399)
theorem e_v399 (V : Vl) : b_v399 V = extractStridedSlice S8x33600x1 ![0, 0, 0] (b_arg1 V) slices_S8x33600x4_S8x33600x1_0_0_0 := by
  have h := line_ok.s1 V 523 rfl (by decide) (by decide)
  rw [k_arg1] at h
  exact h
def b_v400 (V : Vl) : FVec Ideal S8x33600 .f32 := after (ops (F := Ideal)) V (Proc.devRef .tc main_v400)
theorem e_v400 (V : Vl) : b_v400 V = shapeCast S8x33600 (b_v399 V) shapeCasts_S8x33600x1_S8x33600 := by
  have h := line_ok.sr V 524 rfl (by decide) (by decide)
  exact h
def b_v401 (V : Vl) : FVec Ideal S8x33600 .f32 := after (ops (F := Ideal)) V (Proc.devRef .tc main_v401)
theorem e_v401 (V : Vl) : b_v401 V = subf (b_v398 V) (b_v400 V) := by
  have h := line_ok.s2 V 525 rfl (by decide) (by decide) (by decide)
  exact h
def b_cst_78 (V : Vl) : FVec Ideal S_ .f32 := after (ops (F := Ideal)) V (Proc.devRef .tc main_cst_78)
theorem e_cst_78 (V : Vl) : b_cst_78 V = (constant S_ .f32 0x00000000#32) := by
  have h := line_ok.s0 V 526 rfl (by decide)
  exact h
def b_v402 (V : Vl) : FVec Ideal S8x33600 .f32 := after (ops (F := Ideal)) V (Proc.devRef .tc main_v402)
theorem e_v402 (V : Vl) : b_v402 V = broadcastInDim S8x33600 ![] bcast_S_S8x33600 (b_cst_78 V) := by
  have h := line_ok.s1 V 527 rfl (by decide) (by decide)
  exact h
def b_v403 (V : Vl) : FVec Ideal S8x33600 .f32 := after (ops (F := Ideal)) V (Proc.devRef .tc main_v403)
theorem e_v403 (V : Vl) : b_v403 V = maximumf (b_v401 V) (b_v402 V) := by
  have h := line_ok.s2 V 528 rfl (by decide) (by decide) (by decide)
  exact h
def b_v404 (V : Vl) : FVec Ideal S8x33600x1 .f32 := after (ops (F := Ideal)) V (Proc.devRef .tc main_v404)
theorem e_v404 (V : Vl) : b_v404 V = extractStridedSlice S8x33600x1 ![0, 0, 3] (b_arg1 V) slices_S8x33600x4_S8x33600x1_0_0_3 := by
  have h := line_ok.s1 V 529 rfl (by decide) (by decide)
  rw [k_arg1] at h
  exact h
def b_v405 (V : Vl) : FVec Ideal S8x33600 .f32 := after (ops (F := Ideal)) V (Proc.devRef .tc main_v405)
theorem e_v405 (V : Vl) : b_v405 V = shapeCast S8x33600 (b_v404 V) shapeCasts_S8x33600x1_S8x33600 := by
  have h := line_ok.sr V 530 rfl (by decide) (by decide)
  exact h
def b_v406 (V : Vl) : FVec Ideal S8x33600x1 .f32 := after (ops (F := Ideal)) V (Proc.devRef .tc main_v406)
theorem e_v406 (V : Vl) : b_v406 V = extractStridedSlice S8x33600x1 ![0, 0, 1] (b_arg1 V) slices_S8x33600x4_S8x33600x1_0_0_1 := by
  have h := line_ok.s1 V 531 rfl (by decide) (by decide)
  rw [k_arg1] at h
  exact h
def b_v407 (V : Vl) : FVec Ideal S8x33600 .f32 := after (ops (F := Ideal)) V (Proc.devRef .tc main_v407)
theorem e_v407 (V : Vl) : b_v407 V = shapeCast S8x33600 (b_v406 V) shapeCasts_S8x33600x1_S8x33600 := by
  have h := line_ok.sr V 532 rfl (by decide) (by decide)
  exact h
def b_v408 (V : Vl) : FVec Ideal S8x33600 .f32 := after (ops (F := Ideal)) V (Proc.devRef .tc main_v408)
theorem e_v408 (V : Vl) : b_v408 V = subf (b_v405 V) (b_v407 V) := by
  have h := line_ok.s2 V 533 rfl (by decide) (by decide) (by decide)
  exact h
def b_cst_79 (V : Vl) : FVec Ideal S_ .f32 := after (ops (F := Ideal)) V (Proc.devRef .tc main_cst_79)
theorem e_cst_79 (V : Vl) : b_cst_79 V = (constant S_ .f32 0x00000000#32) := by
  have h := line_ok.s0 V 534 rfl (by decide)
  exact h
def b_v409 (V : Vl) : FVec Ideal S8x33600 .f32 := after (ops (F := Ideal)) V (Proc.devRef .tc main_v409)
theorem e_v409 (V : Vl) : b_v409 V = broadcastInDim S8x33600 ![] bcast_S_S8x33600 (b_cst_79 V) := by
  have h := line_ok.s1 V 535 rfl (by decide) (by decide)
  exact h
def b_v410 (V : Vl) : FVec Ideal S8x33600 .f32 := after (ops (F := Ideal)) V (Proc.devRef .tc main_v410)
theorem e_v410 (V : Vl) : b_v410 V = maximumf (b_v408 V) (b_v409 V) := by
  have h := line_ok.s2 V 536 rfl (by decide) (by decide) (by decide)
  exact h
def b_v411 (V : Vl) : FVec Ideal S8x33600 .f32 := after (ops (F := Ideal)) V (Proc.devRef .tc main_v411)
theorem e_v411 (V : Vl) : b_v411 V = mulf (b_v403 V) (b_v410 V) := by
  have h := line_ok.s2 V 537 rfl (by decide) (by decide) (by decide)
  exact h
def b_v412 (V : Vl) : FVec Ideal S8x33600x1 .f32 := after (ops (F := Ideal)) V (Proc.devRef .tc main_v412)
theorem e_v412 (V : Vl) : b_v412 V = extractStridedSlice S8x33600x1 ![0, 0, 2] (b_v307 V) slices_S8x33600x4_S8x33600x1_0_0_2 := by
  have h := line_ok.s1 V 538 rfl (by decide) (by decide)
  exact h
def b_v413 (V : Vl) : FVec Ideal S8x33600 .f32 := after (ops (F := Ideal)) V (Proc.devRef .tc main_v413)
theorem e_v413 (V : Vl) : b_v413 V = shapeCast S8x33600 (b_v412 V) shapeCasts_S8x33600x1_S8x33600 := by
  have h := line_ok.sr V 539 rfl (by decide) (by decide)
  exact h
def b_v414 (V : Vl) : FVec Ideal S8x33600x1 .f32 := after (ops (F := Ideal)) V (Proc.devRef .tc main_v414)
theorem e_v414 (V : Vl) : b_v414 V = extractStridedSlice S8x33600x1 ![0, 0, 0] (b_v307 V) slices_S8x33600x4_S8x33600x1_0_0_0 := by
  have h := line_ok.s1 V 540 rfl (by decide) (by decide)
  exact h
def b_v415 (V : Vl) : FVec Ideal S8x33600 .f32 := after (ops (F := Ideal)) V (Proc.devRef .tc main_v415)
theorem e_v415 (V : Vl) : b_v415 V = shapeCast S8x33600 (b_v414 V) shapeCasts_S8x33600x1_S8x33600 := by
  have h := line_ok.sr V 541 rfl (by decide) (by decide)
  exact h
def b_v416 (V : Vl) : FVec Ideal S8x33600 .f32 := after (ops (F := Ideal)) V (Proc.devRef .tc main_v416)
theorem e_v416 (V : Vl) : b_v416 V = subf (b_v413 V) (b_v415 V) := by
  have h := line_ok.s2 V 542 rfl (by decide) (by decide) (by decide)
  exact h
def b_cst_80 (V : Vl) : FVec Ideal S_ .f32 := after (ops (F := Ideal)) V (Proc.devRef .tc main_cst_80)
theorem e_cst_80 (V : Vl) : b_cst_80 V = (constant S_ .f32 0x00000000#32) := by
  have h := line_ok.s0 V 543 rfl (by decide)
  exact h
def b_v417 (V : Vl) : FVec Ideal S8x33600 .f32 := after (ops (F := Ideal)) V (Proc.devRef .tc main_v417)
theorem e_v417 (V : Vl) : b_v417 V = broadcastInDim S8x33600 ![] bcast_S_S8x33600 (b_cst_80 V) := by
  have h := line_ok.s1 V 544 rfl (by decide) (by decide)
  exact h
def b_v418 (V : Vl) : FVec Ideal S8x33600 .f32 := after (ops (F := Ideal)) V (Proc.devRef .tc main_v418)
theorem e_v418 (V : Vl) : b_v418 V = maximumf (b_v416 V) (b_v417 V) := by
  have h := line_ok.s2 V 545 rfl (by decide) (by decide) (by decide)
  exact h
def b_v419 (V : Vl) : FVec Ideal S8x33600x1 .f32 := after (ops (F := Ideal)) V (Proc.devRef .tc main_v419)
theorem e_v419 (V : Vl) : b_v419 V = extractStridedSlice S8x33600x1 ![0, 0, 3] (b_v307 V) slices_S8x33600x4_S8x33600x1_0_0_3 := by
  have h := line_ok.s1 V 546 rfl (by decide) (by decide)
  exact h
def b_v420 (V : Vl) : FVec Ideal S8x33600 .f32 := after (ops (F := Ideal)) V (Proc.devRef .tc main_v420)
theorem e_v420 (V : Vl) : b_v420 V = shapeCast S8x33600 (b_v419 V) shapeCasts_S8x33600x1_S8x33600 := by
  have h := line_ok.sr V 547 rfl (by decide) (by decide)
  exact h
def b_v421 (V : Vl) : FVec Ideal S8x33600x1 .f32 := after (ops (F := Ideal)) V (Proc.devRef .tc main_v421)
theorem e_v421 (V : Vl) : b_v421 V = extractStridedSlice S8x33600x1 ![0, 0, 1] (b_v307 V) slices_S8x33600x4_S8x33600x1_0_0_1 := by
  have h := line_ok.s1 V 548 rfl (by decide) (by decide)
  exact h
def b_v422 (V : Vl) : FVec Ideal S8x33600 .f32 := after (ops (F := Ideal)) V (Proc.devRef .tc main_v422)
theorem e_v422 (V : Vl) : b_v422 V = shapeCast S8x33600 (b_v421 V) shapeCasts_S8x33600x1_S8x33600 := by
  have h := line_ok.sr V 549 rfl (by decide) (by decide)
  exact h
def b_v423 (V : Vl) : FVec Ideal S8x33600 .f32 := after (ops (F := Ideal)) V (Proc.devRef .tc main_v423)
theorem e_v423 (V : Vl) : b_v423 V = subf (b_v420 V) (b_v422 V) := by
  have h := line_ok.s2 V 550 rfl (by decide) (by decide) (by decide)
  exact h
def b_cst_81 (V : Vl) : FVec Ideal S_ .f32 := after (ops (F := Ideal)) V (Proc.devRef .tc main_cst_81)
theorem e_cst_81 (V : Vl) : b_cst_81 V = (constant S_ .f32 0x00000000#32) := by
  have h := line_ok.s0 V 551 rfl (by decide)
  exact h
def b_v424 (V : Vl) : FVec Ideal S8x33600 .f32 := after (ops (F := Ideal)) V (Proc.devRef .tc main_v424)
theorem e_v424 (V : Vl) : b_v424 V = broadcastInDim S8x33600 ![] bcast_S_S8x33600 (b_cst_81 V) := by
  have h := line_ok.s1 V 552 rfl (by decide) (by decide)
  exact h
def b_v425 (V : Vl) : FVec Ideal S8x33600 .f32 := after (ops (F := Ideal)) V (Proc.devRef .tc main_v425)
theorem e_v425 (V : Vl) : b_v425 V = maximumf (b_v423 V) (b_v424 V) := by
  have h := line_ok.s2 V 553 rfl (by decide) (by decide) (by decide)
  exact h
def b_v426 (V : Vl) : FVec Ideal S8x33600 .f32 := after (ops (F := Ideal)) V (Proc.devRef .tc main_v426)
theorem e_v426 (V : Vl) : b_v426 V = mulf (b_v418 V) (b_v425 V) := by
  have h := line_ok.s2 V 554 rfl (by decide) (by decide) (by decide)
  exact h
def b_v427 (V : Vl) : FVec Ideal S8x33600 .f32 := after (ops (F := Ideal)) V (Proc.devRef .tc main_v427)
theorem e_v427 (V : Vl) : b_v427 V = addf (b_v411 V) (b_v426 V) := by
  have h := line_ok.s2 V 555 rfl (by decide) (by decide) (by decide)
  exact h
def b_v428 (V : Vl) : FVec Ideal S8x33600 .f32 := after (ops (F := Ideal)) V (Proc.devRef .tc main_v428)
theorem e_v428 (V : Vl) : b_v428 V = subf (b_v427 V) (b_v396 V) := by
  have h := line_ok.s2 V 556 rfl (by decide) (by decide) (by decide)
  exact h
def b_cst_82 (V : Vl) : FVec Ideal S_ .f32 := after (ops (F := Ideal)) V (Proc.devRef .tc main_cst_82)
theorem e_cst_82 (V : Vl) : b_cst_82 V = (constant S_ .f32 0x322BCC77#32) := by
  have h := line_ok.s0 V 557 rfl (by decide)
  exact h
def b_v429 (V : Vl) : FVec Ideal S8x33600 .f32 := after (ops (F := Ideal)) V (Proc.devRef .tc main_v429)
theorem e_v429 (V : Vl) : b_v429 V = broadcastInDim S8x33600 ![] bcast_S_S8x33600 (b_cst_82 V) := by
  have h := line_ok.s1 V 558 rfl (by decide) (by decide)
  exact h
def b_v430 (V : Vl) : FVec Ideal S8x33600 .f32 := after (ops (F := Ideal)) V (Proc.devRef .tc main_v430)
theorem e_v430 (V : Vl) : b_v430 V = maximumf (b_v428 V) (b_v429 V) := by
  have h := line_ok.s2 V 559 rfl (by decide) (by decide) (by decide)
  exact h
def b_v431 (V : Vl) : FVec Ideal S8x33600 .f32 := after (ops (F := Ideal)) V (Proc.devRef .tc main_v431)
theorem e_v431 (V : Vl) : b_v431 V = Host.divf (b_v396 V) (b_v430 V) := by
  have h := line_ok.s2 V 560 rfl (by decide) (by decide) (by decide)
  exact h
def b_v432 (V : Vl) : FVec Ideal S8x33600x2 .f32 := after (ops (F := Ideal)) V (Proc.devRef .tc main_v432)
theorem e_v432 (V : Vl) : b_v432 V = extractStridedSlice S8x33600x2 ![0, 0, 0] (b_arg1 V) slices_S8x33600x4_S8x33600x2_0_0_0 := by
  have h := line_ok.s1 V 561 rfl (by decide) (by decide)
  rw [k_arg1] at h
  exact h
def b_v433 (V : Vl) : FVec Ideal S8x33600x2 .f32 := after (ops (F := Ideal)) V (Proc.devRef .tc main_v433)
theorem e_v433 (V : Vl) : b_v433 V = extractStridedSlice S8x33600x2 ![0, 0, 0] (b_v307 V) slices_S8x33600x4_S8x33600x2_0_0_0 := by
  have h := line_ok.s1 V 562 rfl (by decide) (by decide)
  exact h
def b_v434 (V : Vl) : FVec Ideal S8x33600x2 .f32 := after (ops (F := Ideal)) V (Proc.devRef .tc main_v434)
theorem e_v434 (V : Vl) : b_v434 V = minimumf (b_v432 V) (b_v433 V) := by
  have h := line_ok.s2 V 563 rfl (by decide) (by decide) (by decide)
  exact h
def b_v435 (V : Vl) : FVec Ideal S8x33600x2 .f32 := after (ops (F := Ideal)) V (Proc.devRef .tc main_v435)
theorem e_v435 (V : Vl) : b_v435 V = extractStridedSlice S8x33600x2 ![0, 0, 2] (b_arg1 V) slices_S8x33600x4_S8x33600x2_0_0_2 := by
  have h := line_ok.s1 V 564 rfl (by decide) (by decide)
  rw [k_arg1] at h
  exact h
def b_v436 (V : Vl) : FVec Ideal S8x33600x2 .f32 := after (ops (F := Ideal)) V (Proc.devRef .tc main_v436)
theorem e_v436 (V : Vl) : b_v436 V = extractStridedSlice S8x33600x2 ![0, 0, 2] (b_v307 V) slices_S8x33600x4_S8x33600x2_0_0_2 := by
  have h := line_ok.s1 V 565 rfl (by decide) (by decide)
  exact h
def b_v437 (V : Vl) : FVec Ideal S8x33600x2 .f32 := after (ops (F := Ideal)) V (Proc.devRef .tc main_v437)
theorem e_v437 (V : Vl) : b_v437 V = maximumf (b_v435 V) (b_v436 V) := by
  have h := line_ok.s2 V 566 rfl (by decide) (by decide) (by decide)
  exact h
def b_v438 (V : Vl) : FVec Ideal S8x33600x2 .f32 := after (ops (F := Ideal)) V (Proc.devRef .tc main_v438)
theorem e_v438 (V : Vl) : b_v438 V = subf (b_v437 V) (b_v434 V) := by
  have h := line_ok.s2 V 567 rfl (by decide) (by decide) (by decide)
  exact h
def b_cst_83 (V : Vl) : FVec Ideal S_ .f32 := after (ops (F := Ideal)) V (Proc.devRef .tc main_cst_83)
theorem e_cst_83 (V : Vl) : b_cst_83 V = (constant S_ .f32 0x00000000#32) := by
  have h := line_ok.s0 V 568 rfl (by decide)
  exact h
def b_v439 (V : Vl) : FVec Ideal S8x33600x2 .f32 := after (ops (F := Ideal)) V (Proc.devRef .tc main_v439)
theorem e_v439 (V : Vl) : b_v439 V = broadcastInDim S8x33600x2 ![] bcast_S_S8x33600x2 (b_cst_83 V) := by
  have h := line_ok.s1 V 569 rfl (by decide) (by decide)
  exact h
def b_v440 (V : Vl) : FVec Ideal S8x33600x2 .f32 := after (ops (F := Ideal)) V (Proc.devRef .tc main_v440)
theorem e_v440 (V : Vl) : b_v440 V = maximumf (b_v438 V) (b_v439 V) := by
  have h := line_ok.s2 V 570 rfl (by decide) (by decide) (by decide)
  exact h
def b_v441 (V : Vl) : FVec Ideal S8x33600x1 .f32 := after (ops (F := Ideal)) V (Proc.devRef .tc main_v441)
theorem e_v441 (V : Vl) : b_v441 V = extractStridedSlice S8x33600x1 ![0, 0, 0] (b_v440 V) slices_S8x33600x2_S8x33600x1_0_0_0 := by
  have h := line_ok.s1 V 571 rfl (by decide) (by decide)
  exact h
def b_v442 (V : Vl) : FVec Ideal S8x33600 .f32 := after (ops (F := Ideal)) V (Proc.devRef .tc main_v442)
theorem e_v442 (V : Vl) : b_v442 V = shapeCast S8x33600 (b_v441 V) shapeCasts_S8x33600x1_S8x33600 := by
  have h := line_ok.sr V 572 rfl (by decide) (by decide)
  exact h
def b_v443 (V : Vl) : FVec Ideal S8x33600x1 .f32 := after (ops (F := Ideal)) V (Proc.devRef .tc main_v443)
theorem e_v443 (V : Vl) : b_v443 V = extractStridedSlice S8x33600x1 ![0, 0, 1] (b_v440 V) slices_S8x33600x2_S8x33600x1_0_0_1 := by
  have h := line_ok.s1 V 573 rfl (by decide) (by decide)
  exact h
def b_v444 (V : Vl) : FVec Ideal S8x33600 .f32 := after (ops (F := Ideal)) V (Proc.devRef .tc main_v444)
theorem e_v444 (V : Vl) : b_v444 V = shapeCast S8x33600 (b_v443 V) shapeCasts_S8x33600x1_S8x33600 := by
  have h := line_ok.sr V 574 rfl (by decide) (by decide)
  exact h
def b_v445 (V : Vl) : FVec Ideal S8x33600 .f32 := after (ops (F := Ideal)) V (Proc.devRef .tc main_v445)
theorem e_v445 (V : Vl) : b_v445 V = mulf (b_v442 V) (b_v444 V) := by
  have h := line_ok.s2 V 575 rfl (by decide) (by decide) (by decide)
  exact h
def b_v446 (V : Vl) : FVec Ideal S8x33600 .f32 := after (ops (F := Ideal)) V (Proc.devRef .tc main_v446)
theorem e_v446 (V : Vl) : b_v446 V = subf (b_v445 V) (b_v428 V) := by
  have h := line_ok.s2 V 576 rfl (by decide) (by decide) (by decide)
  exact h
def b_cst_84 (V : Vl) : FVec Ideal S_ .f32 := after (ops (F := Ideal)) V (Proc.devRef .tc main_cst_84)
theorem e_cst_84 (V : Vl) : b_cst_84 V = (constant S_ .f32 0x322BCC77#32) := by
  have h := line_ok.s0 V 577 rfl (by decide)
  exact h
def b_v447 (V : Vl) : FVec Ideal S8x33600 .f32 := after (ops (F := Ideal)) V (Proc.devRef .tc main_v447)
theorem e_v447 (V : Vl) : b_v447 V = broadcastInDim S8x33600 ![] bcast_S_S8x33600 (b_cst_84 V) := by
  have h := line_ok.s1 V 578 rfl (by decide) (by decide)
  exact h
def b_v448 (V : Vl) : FVec Ideal S8x33600 .f32 := after (ops (F := Ideal)) V (Proc.devRef .tc main_v448)
theorem e_v448 (V : Vl) : b_v448 V = maximumf (b_v445 V) (b_v447 V) := by
  have h := line_ok.s2 V 579 rfl (by decide) (by decide) (by decide)
  exact h
def b_v449 (V : Vl) : FVec Ideal S8x33600 .f32 := after (ops (F := Ideal)) V (Proc.devRef .tc main_v449)
theorem e_v449 (V : Vl) : b_v449 V = Host.divf (b_v446 V) (b_v448 V) := by
  have h := line_ok.s2 V 580 rfl (by decide) (by decide) (by decide)
  exact h
def b_v450 (V : Vl) : FVec Ideal S8x33600 .f32 := after (ops (F := Ideal)) V (Proc.devRef .tc main_v450)
theorem e_v450 (V : Vl) : b_v450 V = subf (b_v431 V) (b_v449 V) := by
  have h := line_ok.s2 V 581 rfl (by decide) (by decide) (by decide)
  exact h
def b_cst_85 (V : Vl) : FVec Ideal S_ .f32 := after (ops (F := Ideal)) V (Proc.devRef .tc main_cst_85)
theorem e_cst_85 (V : Vl) : b_cst_85 V = (constant S_ .f32 0x3F800000#32) := by
  have h := line_ok.s0 V 582 rfl (by decide)
  exact h
def b_v451 (V : Vl) : FVec Ideal S8x33600 .f32 := after (ops (F := Ideal)) V (Proc.devRef .tc main_v451)
theorem e_v451 (V : Vl) : b_v451 V = broadcastInDim S8x33600 ![] bcast_S_S8x33600 (b_cst_85 V) := by
  have h := line_ok.s1 V 583 rfl (by decide) (by decide)
  exact h
def b_v452 (V : Vl) : FVec Ideal S8x33600 .f32 := after (ops (F := Ideal)) V (Proc.devRef .tc main_v452)
theorem e_v452 (V : Vl) : b_v452 V = subf (b_v451 V) (b_v450 V) := by
  have h := line_ok.s2 V 584 rfl (by decide) (by decide) (by decide)
  exact h
def b_v453 (V : Vl) : FVec Ideal S8x33600 .f32 := after (ops (F := Ideal)) V (Proc.devRef .tc main_v453)
theorem e_v453 (V : Vl) : b_v453 V = mulf (b_v452 V) (b_v330 V) := by
  have h := line_ok.s2 V 585 rfl (by decide) (by decide) (by decide)
  exact h
def b_cst_86 (V : Vl) : FVec Ideal S_ .f32 := after (ops (F := Ideal)) V (Proc.devRef .tc main_cst_86)
theorem e_cst_86 (V : Vl) : b_cst_86 V = (constant S_ .f32 0x00000000#32) := by
  have h := line_ok.s0 V 586 rfl (by decide)
  exact h
def b_v454 (V : Vl) : FVec Ideal S_ .f32 := after (ops (F := Ideal)) V (Proc.devRef .tc main_v454)
theorem e_v454 (V : Vl) : b_v454 V = Host.reduceAdd (b_v453 V) (b_cst_86 V) reducesTo_S8x33600_S_d0_1 h_S_ := by
  have h := line_ok.s2 V 587 rfl (by decide) (by decide) (by decide)
  exact h
def b_v455 (V : Vl) : FVec Ideal S_ .f32 := after (ops (F := Ideal)) V (Proc.devRef .tc main_v455)
theorem e_v455 (V : Vl) : b_v455 V = Host.divf (b_v454 V) (b_v332 V) := by
  have h := line_ok.s2 V 588 rfl (by decide) (by decide) (by decide)
  exact h
def b_v456 (V : Vl) : FVec Ideal S8x33600 .f32 := after (ops (F := Ideal)) V (Proc.devRef .tc main_v456)
theorem e_v456 (V : Vl) : b_v456 V = shapeCast S8x33600 (b_arg2 V) shapeCasts_S8x33600x1_S8x33600 := by
  have h := line_ok.sr V 589 rfl (by decide) (by decide)
  rw [k_arg2] at h
  exact h
def b_cst_87 (V : Vl) : FVec Ideal S_ .f32 := after (ops (F := Ideal)) V (Proc.devRef .tc main_cst_87)
theorem e_cst_87 (V : Vl) : b_cst_87 V = (constant S_ .f32 0x00000000#32) := by
  have h := line_ok.s0 V 590 rfl (by decide)
  exact h
def b_v457 (V : Vl) : FVec Ideal S8x33600 .f32 := after (ops (F := Ideal)) V (Proc.devRef .tc main_v457)
theorem e_v457 (V : Vl) : b_v457 V = broadcastInDim S8x33600 ![] bcast_S_S8x33600 (b_cst_87 V) := by
  have h := line_ok.s1 V 591 rfl (by decide) (by decide)
  exact h
def b_v458 (V : Vl) : FVec Ideal S8x33600 .f32 := after (ops (F := Ideal)) V (Proc.devRef .tc main_v458)
theorem e_v458 (V : Vl) : b_v458 V = maximumf (b_v456 V) (b_v457 V) := by
  have h := line_ok.s2 V 592 rfl (by decide) (by decide) (by decide)
  exact h
def b_v459 (V : Vl) : FVec Ideal S8x33600 .f32 := after (ops (F := Ideal)) V (Proc.devRef .tc main_v459)
theorem e_v459 (V : Vl) : b_v459 V = mulf (b_v456 V) (b_v324 V) := by
  have h := line_ok.s2 V 593 rfl (by decide) (by decide) (by decide)
  exact h
def b_v460 (V : Vl) : FVec Ideal S8x33600 .f32 := after (ops (F := Ideal)) V (Proc.devRef .tc main_v460)
theorem e_v460 (V : Vl) : b_v460 V = subf (b_v458 V) (b_v459 V) := by
  have h := line_ok.s2 V 594 rfl (by decide) (by decide) (by decide)
  exact h
def b_v461 (V : Vl) : FVec Ideal S8x33600 .f32 := after (ops (F := Ideal)) V (Proc.devRef .tc main_v461)
theorem e_v461 (V : Vl) : b_v461 V = Host.absf (b_v456 V) := by
  have h := line_ok.s1 V 595 rfl (by decide) (by decide)
  exact h
def b_v462 (V : Vl) : FVec Ideal S8x33600 .f32 := after (ops (F := Ideal)) V (Proc.devRef .tc main_v462)
theorem e_v462 (V : Vl) : b_v462 V = Host.negf (b_v461 V) := by
  have h := line_ok.s1 V 596 rfl (by decide) (by decide)
  exact h
def b_v463 (V : Vl) : FVec Ideal S8x33600 .f32 := after (ops (F := Ideal)) V (Proc.devRef .tc main_v463)
theorem e_v463 (V : Vl) : b_v463 V = Host.exp (b_v462 V) := by
  have h := line_ok.s1 V 597 rfl (by decide) (by decide)
  exact h
def b_v464 (V : Vl) : FVec Ideal S8x33600 .f32 := after (ops (F := Ideal)) V (Proc.devRef .tc main_v464)
theorem e_v464 (V : Vl) : b_v464 V = Host.log1p (b_v463 V) := by
  have h := line_ok.s1 V 598 rfl (by decide) (by decide)
  exact h
def b_v465 (V : Vl) : FVec Ideal S8x33600 .f32 := after (ops (F := Ideal)) V (Proc.devRef .tc main_v465)
theorem e_v465 (V : Vl) : b_v465 V = addf (b_v460 V) (b_v464 V) := by
  have h := line_ok.s2 V 599 rfl (by decide) (by decide) (by decide)
  exact h
def b_v466 (V : Vl) : FVec Ideal S8x33600 .f32 := after (ops (F := Ideal)) V (Proc.devRef .tc main_v466)
theorem e_v466 (V : Vl) : b_v466 V = mulf (b_v465 V) (b_v330 V) := by
  have h := line_ok.s2 V 600 rfl (by decide) (by decide) (by decide)
  exact h
def b_cst_88 (V : Vl) : FVec Ideal S_ .f32 := after (ops (F := Ideal)) V (Proc.devRef .tc main_cst_88)
theorem e_cst_88 (V : Vl) : b_cst_88 V = (constant S_ .f32 0x00000000#32) := by
  have h := line_ok.s0 V 601 rfl (by decide)
  exact h
def b_v467 (V : Vl) : FVec Ideal S_ .f32 := after (ops (F := Ideal)) V (Proc.devRef .tc main_v467)
theorem e_v467 (V : Vl) : b_v467 V = Host.reduceAdd (b_v466 V) (b_cst_88 V) reducesTo_S8x33600_S_d0_1 h_S_ := by
  have h := line_ok.s2 V 602 rfl (by decide) (by decide) (by decide)
  exact h
def b_v468 (V : Vl) : FVec Ideal S_ .f32 := after (ops (F := Ideal)) V (Proc.devRef .tc main_v468)
theorem e_v468 (V : Vl) : b_v468 V = Host.divf (b_v467 V) (b_v332 V) := by
  have h := line_ok.s2 V 603 rfl (by decide) (by decide) (by decide)
  exact h
def b_v469 (V : Vl) : FVec Ideal S1 .f32 := after (ops (F := Ideal)) V (Proc.devRef .tc main_v469)
theorem e_v469 (V : Vl) : b_v469 V = broadcastInDim S1 ![] bcast_S_S1 (b_v382 V) := by
  have h := line_ok.s1 V 604 rfl (by decide) (by decide)
  exact h
def b_v470 (V : Vl) : FVec Ideal S1 .f32 := after (ops (F := Ideal)) V (Proc.devRef .tc main_v470)
theorem e_v470 (V : Vl) : b_v470 V = broadcastInDim S1 ![] bcast_S_S1 (b_v455 V) := by
  have h := line_ok.s1 V 605 rfl (by decide) (by decide)
  exact h
def b_v471 (V : Vl) : FVec Ideal S1 .f32 := after (ops (F := Ideal)) V (Proc.devRef .tc main_v471)
theorem e_v471 (V : Vl) : b_v471 V = broadcastInDim S1 ![] bcast_S_S1 (b_v468 V) := by
  have h := line_ok.s1 V 606 rfl (by decide) (by decide)
  exact h
def b_v472 (V : Vl) : FVec Ideal S3 .f32 := after (ops (F := Ideal)) V (Proc.devRef .tc main_v472)
theorem e_v472 (V : Vl) : b_v472 V = concatenate S3 0 [⟨S1, b_v469 V⟩, ⟨S1, b_v470 V⟩, ⟨S1, b_v471 V⟩] concatenates_S1_S1_S1_S3_d0 := by
  have h := line_ok.sn V 607 rfl (by decide) (by decide)
  exact h

end Cert.ReferenceIdeal.Own
-- ==== Proof.RefRun.lean ====
/-
  The reference runs to its end, leaves its arguments as they were and every semaphore at zero.
-/
module

public import proofs.«01_k».proof.Proof.RefEqs1

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c _).trans (k_arg0 _), (h c _).trans (k_arg1 _), (h c _).trans (k_arg2 _),
      (h c _).trans (k_arg3 _), (h c _).trans (k_arg4 _), (h c _).trans (k_arg5 _), (h c _).trans (k_arg6 _)⟩,
    Idealize.ShloMosaic.sem_eq_zero_of_no_sems (by decide) r.2⟩) (run m g)

end Cert.ReferenceIdeal.Own
-- ==== Proof.Kth.lean ====
/-
  The values that repeated extraction of the least value leaves: the `r`-th least value of a finite set of values, and
  how it behaves under merging of blocks.
-/
module

public import Idealize.ShloMosaic.Lib.Pointwise
public import Mathlib.Data.Finset.Lattice.Prod
public import Mathlib.Data.Finset.Lattice.Fold

@[expose] public section

namespace Cert.Own

section Kth

variable {α : Type} [LinearOrder α] [BoundedOrder α]

/-- The `r`-th least value of `W`, and `d` once `W` is used up (every value above `d` reads as `d`). -/
def kth (d : α) (W : Finset α) : ℕ → α
  | 0 => min d (W.inf id)
  | r + 1 => kth d (W.erase (min d (W.inf id))) r

theorem inf_mem (W : Finset α) (h : W.Nonempty) : W.inf id ∈ W := by
  obtain ⟨i, hi, he⟩ := Finset.exists_mem_eq_inf W h id
  rw [he]; exact hi

theorem kth_le (d : α) (W : Finset α) (r : ℕ) : kth d W r ≤ d := by
  induction r generalizing W with
  | zero => exact min_le_left _ _
  | succ r ih => exact ih _

/-- A property that passes to smaller values and fails at `d` holds of the `r`-th value exactly if more than `r` values have it. -/
theorem kth_iff (d : α) (p : α → Prop) [DecidablePred p] (hp : ∀ x y, x ≤ y → p y → p x) (hd : ¬ p d)
    (W : Finset α) (r : ℕ) : p (kth d W r) ↔ r < (W.filter p).card := by
  induction r generalizing W with
  | zero =>
    constructor
    · intro h
      have hne : W.Nonempty := by
        rw [Finset.nonempty_iff_ne_empty]
        rintro rfl
        apply hd
        have : kth d (∅ : Finset α) 0 = d := by simp [kth]
        rwa [this] at h
      refine Finset.card_pos.mpr ⟨W.inf id, Finset.mem_filter.mpr ⟨inf_mem W hne, ?_⟩⟩
      have : kth d W 0 = min d (W.inf id) := rfl
      rw [this] at h
      rcases min_choice d (W.inf id) with h1 | h1
      · rw [h1] at h; exact absurd h hd
      · rwa [h1] at h
    · intro h
      obtain ⟨x, hx⟩ := Finset.card_pos.mp h
      obtain ⟨hx, hpx⟩ := Finset.mem_filter.mp hx
      exact hp _ _ ((min_le_right _ _).trans (Finset.inf_le (f := id) hx)) hpx
  | succ r ih =>
    show p (kth d (W.erase (min d (W.inf id))) r) ↔ _
    rw [ih]
    by_cases hv : p (min d (W.inf id))
    · have hmin : min d (W.inf id) = W.inf id := by
        rcases min_choice d (W.inf id) with h1 | h1
        · rw [h1] at hv; exact absurd hv hd
        · exact h1
      have hne : W.Nonempty := by
        rw [Finset.nonempty_iff_ne_empty]
        rintro rfl
        apply hd
        simpa using hv
      have hmem : min d (W.inf id) ∈ W.filter p := Finset.mem_filter.mpr ⟨by rw [hmin]; exact inf_mem W hne, hv⟩
      rw [Finset.filter_erase, Finset.card_erase_of_mem hmem]
      omega
    · have hnone : W.filter p = ∅ := by
        rw [Finset.filter_eq_empty_iff]
        intro x hx hpx
        exact hv (hp _ _ ((min_le_right _ _).trans (Finset.inf_le (f := id) hx)) hpx)
      rw [Finset.filter_erase, hnone]; simp

/-- Two values at most `d` with the same upper bounds below `d` are equal. -/
theorem eq_of_bounds (d x y : α) (hx : x ≤ d) (hy : y ≤ d) (h : ∀ t, t < d → (x ≤ t ↔ y ≤ t)) : x = y := by
  rcases lt_trichotomy x y with hlt | he | hlt
  · exact absurd ((h x (hlt.trans_le hy)).mp le_rfl) (not_le.mpr hlt)
  · exact he
  · exact absurd ((h y (hlt.trans_le hx)).mpr le_rfl) (not_le.mpr hlt)

theorem kth_le_iff (d : α) (W : Finset α) (r : ℕ) (t : α) (ht : t < d) : kth d W r ≤ t ↔ r < (W.filter (· ≤ t)).card :=
  kth_iff d (· ≤ t) (fun _ _ h1 h2 => h1.trans h2) (not_le.mpr ht) W r

theorem kth_congr (d : α) (S T : Finset α) (r : ℕ)
    (h : ∀ t, t < d → (r < (S.filter (· ≤ t)).card ↔ r < (T.filter (· ≤ t)).card)) : kth d S r = kth d T r :=
  eq_of_bounds d _ _ (kth_le _ _ _) (kth_le _ _ _) fun t ht => by
    rw [kth_le_iff d S r t ht, kth_le_iff d T r t ht]; exact h t ht

theorem kth_insert (d : α) (S : Finset α) (r : ℕ) : kth d (insert d S) r = kth d S r :=
  kth_congr d _ _ r fun t ht => by rw [Finset.filter_insert, if_neg (not_le.mpr ht)]

/-- The values extracted from `W` that are at most `t`: all of `W`'s, or `N` of them. -/
theorem image_kth (d t : α) (ht : t < d) (N : ℕ) (W : Finset α) :
    (((Finset.range N).image (kth d W)).filter (· ≤ t) ⊆ W.filter (· ≤ t))
      ∧ (((Finset.range N).image (kth d W)).filter (· ≤ t)).card = min N (W.filter (· ≤ t)).card := by
  induction N generalizing W with
  | zero => simp
  | succ N ih =>
    have hsplit : (Finset.range (N + 1)).image (kth d W)
        = insert (min d (W.inf id)) ((Finset.range N).image (kth d (W.erase (min d (W.inf id))))) := by
      ext x
      simp only [Finset.mem_image, Finset.mem_range, Finset.mem_insert]
      constructor
      · rintro ⟨r, hr, rfl⟩
        cases r with
        | zero => exact .inl rfl
        | succ r => exact .inr ⟨r, by omega, rfl⟩
      · rintro (rfl | ⟨r, hr, rfl⟩)
        · exact ⟨0, by omega, rfl⟩
        · exact ⟨r + 1, by omega, rfl⟩
    rw [hsplit, Finset.filter_insert]
    obtain ⟨ih1, ih2⟩ := ih (W.erase (min d (W.inf id)))
    rw [Finset.filter_erase] at ih1 ih2
    by_cases hv : min d (W.inf id) ≤ t
    · have hmin : min d (W.inf id) = W.inf id := by
        rcases min_choice d (W.inf id) with h1 | h1
        · rw [h1] at hv; exact absurd hv (not_le.mpr ht)
        · exact h1
      have hne : W.Nonempty := by
        rw [Finset.nonempty_iff_ne_empty]
        rintro rfl
        exact absurd hv (not_le.mpr (by simpa using ht))
      have hmem : min d (W.inf id) ∈ W.filter (· ≤ t) :=
        Finset.mem_filter.mpr ⟨by rw [hmin]; exact inf_mem W hne, hv⟩
      rw [if_pos hv]
      constructor
      · intro x hx
        rcases Finset.mem_insert.mp hx with rfl | hx
        · exact hmem
        · exact Finset.mem_of_mem_erase (ih1 hx)
      · rw [Finset.card_insert_of_notMem (fun h => Finset.notMem_erase _ _ (ih1 h)), ih2, Finset.card_erase_of_mem hmem]
        have := Finset.card_pos.mpr ⟨_, hmem⟩
        omega
    · have hnone : W.filter (· ≤ t) = ∅ := by
        rw [Finset.filter_eq_empty_iff]
        intro x hx hpx
        exact hv ((min_le_right _ _).trans ((Finset.inf_le (f := id) hx).trans hpx))
      rw [if_neg hv]
      rw [hnone] at ih1 ih2 ⊢
      refine ⟨ih1.trans (by simp), ?_⟩
      rw [ih2]; simp

/-- The least values of a union, from `N` extracted values of each part. -/
theorem kth_merge {ι : Type} [Fintype ι] [DecidableEq ι] (d : α) (W : ι → Finset α) (N r : ℕ) (hr : r < N) :
    kth d (Finset.univ.biUnion fun j => (Finset.range N).image (kth d (W j))) r = kth d (Finset.univ.biUnion W) r := by
  refine kth_congr d _ _ r fun t ht => ?_
  rw [Finset.filter_biUnion, Finset.filter_biUnion]
  constructor
  · intro h
    exact h.trans_le (Finset.card_le_card (Finset.biUnion_mono fun j _ => (image_kth d t ht N (W j)).1))
  · intro h
    by_cases hall : ∀ j, ((W j).filter (· ≤ t)).card ≤ N
    · have : ∀ j, ((Finset.range N).image (kth d (W j))).filter (· ≤ t) = (W j).filter (· ≤ t) := fun j =>
        Finset.eq_of_subset_of_card_le (image_kth d t ht N (W j)).1
          (by rw [(image_kth d t ht N (W j)).2]; exact le_min (hall j) le_rfl)
      simpa only [this] using h
    · push Not at hall
      obtain ⟨j, hj⟩ := hall
      refine hr.trans_le ?_
      calc N = (((Finset.range N).image (kth d (W j))).filter (· ≤ t)).card := by
            rw [(image_kth d t ht N (W j)).2]; omega
        _ ≤ _ := Finset.card_le_card (Finset.subset_biUnion_of_mem (fun j => ((Finset.range N).image (kth d (W j))).filter (· ≤ t)) (Finset.mem_univ j))

/-- One round of the extraction: every entry equal to the least value is replaced by `d`. -/
def step {ι : Type} [Fintype ι] (d : α) (f : ι → α) : ι → α :=
  fun i => if f i = Finset.univ.inf f then d else f i

/-- The least value after `r` rounds. -/
def round {ι : Type} [Fintype ι] (d : α) (f : ι → α) : ℕ → α
  | 0 => Finset.univ.inf f
  | r + 1 => round d (step d f) r

/-- The rounds' values are the least values of the set of entries. -/
theorem round_eq_kth {ι : Type} [Fintype ι] [Nonempty ι] (d : α) (f : ι → α) (hf : ∀ i, f i ≤ d) (r : ℕ) :
    round d f r = kth d (Finset.univ.image f) r := by
  have inf_eq : ∀ g : ι → α, (∀ i, g i ≤ d) → min d ((Finset.univ.image g).inf id) = Finset.univ.inf g := by
    intro g hg
    have h1 : (Finset.univ.image g).inf id = Finset.univ.inf g := by rw [Finset.inf_image]; rfl
    rw [h1, min_eq_right]
    obtain ⟨i⟩ := ‹Nonempty ι›
    exact (Finset.inf_le (Finset.mem_univ i)).trans (hg i)
  induction r generalizing f with
  | zero => exact (inf_eq f hf).symm
  | succ r ih =>
    have hs : ∀ i, step d f i ≤ d := by
      intro i; unfold step; split
      · exact le_rfl
      · exact hf i
    show round d (step d f) r = kth d ((Finset.univ.image f).erase (min d ((Finset.univ.image f).inf id))) r
    rw [ih _ hs, inf_eq f hf]
    have himg : Finset.univ.image (step d f) = insert d ((Finset.univ.image f).erase (Finset.univ.inf f)) := by
      ext x
      simp only [Finset.mem_image, Finset.mem_univ, true_and, Finset.mem_insert, Finset.mem_erase]
      constructor
      · rintro ⟨i, rfl⟩
        unfold step
        split
        · exact .inl rfl
        · rename_i h; exact .inr ⟨h, i, rfl⟩
      · rintro (rfl | ⟨hne, i, rfl⟩)
        · obtain ⟨i, _, hi⟩ := Finset.exists_mem_eq_inf Finset.univ Finset.univ_nonempty f
          exact ⟨i, by unfold step; rw [if_pos hi.symm]⟩
        · exact ⟨i, by unfold step; rw [if_neg hne]⟩
    rw [himg, kth_insert]

end Kth

/-- The least values of a family, none above the top. -/
noncomputable def lows {ι : Type} [Fintype ι] (f : ι → EReal) (r : ℕ) : EReal := kth (⊤ : EReal) (Finset.univ.image f) r

/-- The greatest values of a family, none below −1. -/
noncomputable def tops {ι : Type} [Fintype ι] (f : ι → EReal) (r : ℕ) : EReal :=
  OrderDual.ofDual (kth (OrderDual.toDual (-1 : EReal)) (Finset.univ.image fun i => OrderDual.toDual (f i)) r)

noncomputable def lowRound {ι : Type} [Fintype ι] (f : ι → EReal) (r : ℕ) : EReal := round (⊤ : EReal) f r

noncomputable def topRound {ι : Type} [Fintype ι] (f : ι → EReal) (r : ℕ) : EReal :=
  OrderDual.ofDual (round (OrderDual.toDual (-1 : EReal)) (fun i => OrderDual.toDual (f i)) r)

theorem lowRound_eq {ι : Type} [Fintype ι] [Nonempty ι] (f : ι → EReal) (r : ℕ) : lowRound f r = lows f r :=
  round_eq_kth _ _ (fun _ => le_top) r

theorem topRound_eq {ι : Type} [Fintype ι] [Nonempty ι] (f : ι → EReal) (hf : ∀ i, -1 ≤ f i) (r : ℕ) : topRound f r = tops f r :=
  congrArg OrderDual.ofDual (round_eq_kth (OrderDual.toDual (-1 : EReal)) _ (fun i => OrderDual.toDual_le_toDual.mpr (hf i)) r)

theorem lowRound_succ {ι : Type} [Fintype ι] (f : ι → EReal) (r : ℕ) :
    lowRound f (r + 1) = lowRound (fun i => if f i = Finset.univ.inf f then ⊤ else f i) r := rfl

theorem topRound_zero {ι : Type} [Fintype ι] (f : ι → EReal) : topRound f 0 = Finset.univ.sup f := rfl

theorem topRound_succ {ι : Type} [Fintype ι] (f : ι → EReal) (r : ℕ) :
    topRound f (r + 1) = topRound (fun i => if f i = Finset.univ.sup f then -1 else f i) r := by
  unfold topRound
  show OrderDual.ofDual (round _ (step _ _) r) = _
  congr 2

theorem tops_ge {ι : Type} [Fintype ι] (f : ι → EReal) (r : ℕ) : -1 ≤ tops f r :=
  OrderDual.toDual_le_toDual.mp (kth_le (OrderDual.toDual (-1 : EReal)) _ r)

end Cert.Own
-- ==== Proof.Spec.lean ====
/-
  The scalars both programs are read in: one anchor's class scores and predicted box against one image's ground truths.
-/
module

public import Idealize.ShloMosaic.Lib.Pointwise

@[expose] public section

noncomputable section

namespace Cert.Own

open Idealize.ShloMosaic

/-- A bit as a number. -/
def bitE (v : BitVec 1) : EReal := if v = 1#1 then 1 else 0

theorem uitofp_bit (v : BitVec 1) : FloatOps.uitofp (F := Ideal) FTy.f32 v = bitE v := by
  revert v
  have h : ∀ v : BitVec 1, v = 0#1 ∨ v = 1#1 := by decide
  intro v
  rcases h v with rfl | rfl
  · show ((BitVec.toNat (0#1) : ℝ) : EReal) = _; simp [bitE]
  · show ((BitVec.toNat (1#1) : ℝ) : EReal) = _; simp [bitE]

theorem sitofp_bit (v : BitVec 1) : FloatOps.sitofp (F := Ideal) FTy.f32 (BitVec.setWidth 32 v) = bitE v := by
  revert v
  have h : ∀ v : BitVec 1, v = 0#1 ∨ v = 1#1 := by decide
  intro v
  rcases h v with rfl | rfl
  · show ((BitVec.toInt (BitVec.setWidth 32 (0#1)) : ℝ) : EReal) = _; simp [bitE]
  · show ((BitVec.toInt (BitVec.setWidth 32 (1#1)) : ℝ) : EReal) = _; simp [bitE]

/-- The anchor lies in the ground truth's box. -/
def inBox (a : Fin 2 → EReal) (g : Fin 4 → EReal) : BitVec 1 :=
  IntOp.andi (IntOp.andi (IntOp.andi (BitVec.ofBool (decide (g 0 < a 0))) (BitVec.ofBool (decide (a 0 < g 2))))
    (BitVec.ofBool (decide (g 1 < a 1)))) (BitVec.ofBool (decide (a 1 < g 3)))

/-- The anchor lies within the radius of the ground truth's centre. -/
def inCtr (a : Fin 2 → EReal) (g : Fin 4 → EReal) : BitVec 1 :=
  IntOp.andi (IntOp.andi (IntOp.andi
    (BitVec.ofBool (decide ((g 0 + g 2) * Ideal.ofBits FTy.f32 1056964608#32 - Ideal.ofBits FTy.f32 1101004800#32 < a 0)))
    (BitVec.ofBool (decide (a 0 < (g 0 + g 2) * Ideal.ofBits FTy.f32 1056964608#32 + Ideal.ofBits FTy.f32 1101004800#32))))
    (BitVec.ofBool (decide ((g 1 + g 3) * Ideal.ofBits FTy.f32 1056964608#32 - Ideal.ofBits FTy.f32 1101004800#32 < a 1))))
    (BitVec.ofBool (decide (a 1 < (g 1 + g 3) * Ideal.ofBits FTy.f32 1056964608#32 + Ideal.ofBits FTy.f32 1101004800#32)))

def either (a : Fin 2 → EReal) (g : Fin 4 → EReal) : BitVec 1 := IntOp.ori (inBox a g) (inCtr a g)

def both (a : Fin 2 → EReal) (g : Fin 4 → EReal) : BitVec 1 := IntOp.andi (inBox a g) (inCtr a g)

/-- Some ground truth has the anchor in its box or near its centre. -/
def isFg (a : Fin 2 → EReal) (G : Fin 60 → Fin 4 → EReal) : Prop := ∃ m, either a (G m) = 1#1

open Classical in
def fgBit (a : Fin 2 → EReal) (G : Fin 60 → Fin 4 → EReal) : BitVec 1 := if isFg a G then 1#1 else 0#1

open Classical in
theorem fold_ori {ι : Type} (s : Finset ι) (f : ι → BitVec 1) :
    s.fold IntOp.ori 0#1 f = if ∃ i ∈ s, f i = 1#1 then 1#1 else 0#1 := by
  induction s using Finset.induction_on with
  | empty => simp
  | insert a s ha ih =>
    rw [Finset.fold_insert ha, ih]
    have h : ∀ v : BitVec 1, v = 0#1 ∨ v = 1#1 := by decide
    by_cases hs : ∃ i ∈ s, f i = 1#1
    · have : ∃ i ∈ insert a s, f i = 1#1 := by
        obtain ⟨i, hi, h1⟩ := hs; exact ⟨i, Finset.mem_insert_of_mem hi, h1⟩
      rw [if_pos hs, if_pos this]
      rcases h (f a) with e | e <;> rw [e] <;> rfl
    · rcases h (f a) with e | e
      · have : ¬ ∃ i ∈ insert a s, f i = 1#1 := by
          rintro ⟨i, hi, h1⟩
          rcases Finset.mem_insert.mp hi with rfl | hi
          · rw [e] at h1; exact absurd h1 (by decide)
          · exact hs ⟨i, hi, h1⟩
        rw [if_neg hs, if_neg this, e]; rfl
      · have : ∃ i ∈ insert a s, f i = 1#1 := ⟨a, Finset.mem_insert_self _ _, e⟩
        rw [if_neg hs, if_pos this, e]; rfl

theorem fgBit_eq_fold (a : Fin 2 → EReal) (G : Fin 60 → Fin 4 → EReal) :
    Finset.univ.fold IntOp.ori 0#1 (fun m => either a (G m)) = fgBit a G := by
  classical
  rw [fold_ori]; unfold fgBit isFg; congr 1; simp

theorem ofBits_ninf : Ideal.ofBits FTy.f32 4286578688#32 = ⊥ := by simp [Ideal.ofBits, Ideal.ieee]
theorem ofBits_pinf : Ideal.ofBits FTy.f32 2139095040#32 = ⊤ := by simp [Ideal.ofBits, Ideal.ieee]

theorem fg_eq_fold (a : Fin 2 → EReal) (G : Fin 60 → Fin 4 → EReal) :
    Finset.univ.fold max (Ideal.ofBits FTy.f32 4286578688#32) (fun m => bitE (either a (G m))) = bitE (fgBit a G) := by
  classical
  rw [ofBits_ninf]
  show Finset.univ.sup (fun m => bitE (either a (G m))) = _
  apply le_antisymm
  · refine Finset.sup_le fun m _ => ?_
    by_cases h : either a (G m) = 1#1
    · have : isFg a G := ⟨m, h⟩
      simp [bitE, fgBit, this, h]
    · simp only [bitE, if_neg h]; split <;> simp
  · by_cases h : isFg a G
    · obtain ⟨m, hm⟩ := h
      refine le_trans ?_ (Finset.le_sup (f := fun m => bitE (either a (G m))) (Finset.mem_univ m))
      simp only [bitE, hm, if_true]; split <;> simp
    · refine le_trans ?_ (Finset.le_sup (f := fun m => bitE (either a (G m))) (Finset.mem_univ (0 : Fin 60)))
      have : fgBit a G = 0#1 := by simp [fgBit, h]
      rw [this]; simp only [bitE]; rw [if_neg (by decide)]; split <;> simp

def inter (p g : Fin 4 → EReal) : EReal :=
  max (min (g 2) (p 2) - max (g 0) (p 0)) 0 * max (min (g 3) (p 3) - max (g 1) (p 1)) 0

def union (p g : Fin 4 → EReal) : EReal :=
  max (g 2 - g 0) 0 * max (g 3 - g 1) 0 + max (p 2 - p 0) 0 * max (p 3 - p 1) 0 - inter p g

/-- The overlap of a predicted box and a ground truth. -/
def iou (p g : Fin 4 → EReal) : EReal := Ideal.div (inter p g) (max (union p g) (Ideal.ofBits FTy.f32 841731191#32))

/-- The cross entropy of a score against the class being absent. -/
def ce0 (x : EReal) : EReal := max x 0 + Ideal.log1p (Ideal.exp (0 - FloatOps.absf (F := Ideal) (φ := .f32) x))

def negE (x : EReal) : EReal := Ideal.ofBits FTy.f32 1061158912#32 * ce0 x * Ideal.logistic x * Ideal.logistic x

def posE (x : EReal) : EReal :=
  Ideal.ofBits FTy.f32 1048576000#32 * (ce0 x - x) * (1 - Ideal.logistic x) * (1 - Ideal.logistic x)

def sumNeg (x : Fin 80 → EReal) : EReal := ∑ c, negE (x c)

/-- The score of the class a label names. -/
def pick (x : Fin 80 → EReal) (l : BitVec 32) : EReal :=
  ∑ c : Fin 80, x c * bitE (IntOp.cmpi CmpIPredicate.eq (BitVec.ofNat 32 ↑c) l)

def dx (x : Fin 80 → EReal) (l : BitVec 32) : EReal := posE (pick x l) - negE (pick x l)

/-- What the geometry adds to a pair's cost. -/
def rest (a : Fin 2 → EReal) (p g : Fin 4 → EReal) (G : Fin 60 → Fin 4 → EReal) : EReal :=
  Ideal.ofBits FTy.f32 3225419776#32 * Ideal.log (iou p g + Ideal.ofBits FTy.f32 841731191#32)
    + Ideal.ofBits FTy.f32 1203982336#32 * (1 - bitE (both a g))
    + Ideal.ofBits FTy.f32 1203982336#32 * (1 - bitE (fgBit a G))

/-- The matching cost of an anchor and a ground truth. -/
def cost (x : Fin 80 → EReal) (a : Fin 2 → EReal) (p g : Fin 4 → EReal) (G : Fin 60 → Fin 4 → EReal) (l : BitVec 32) : EReal :=
  sumNeg x + dx x l + rest a p g G

/-- The overlap, counted at foreground anchors only. -/
def fgIou (a : Fin 2 → EReal) (p g : Fin 4 → EReal) (G : Fin 60 → Fin 4 → EReal) : EReal := iou p g * bitE (fgBit a G)

theorem ofBits_eps_pos : 0 < Ideal.ofBits FTy.f32 841731191#32 := by
  simp [Ideal.ofBits, Ideal.ieee, -EReal.coe_mul]

theorem inter_nonneg (p g : Fin 4 → EReal) : 0 ≤ inter p g := mul_nonneg (le_max_right _ _) (le_max_right _ _)

theorem iou_nonneg (p g : Fin 4 → EReal) : 0 ≤ iou p g := by
  have h : 0 < max (union p g) (Ideal.ofBits FTy.f32 841731191#32) := lt_max_of_lt_right ofBits_eps_pos
  unfold iou Ideal.div
  rw [if_neg h.ne']
  exact mul_nonneg (inter_nonneg p g) (EReal.inv_nonneg_of_nonneg h.le)

theorem fgIou_nonneg (a : Fin 2 → EReal) (p g : Fin 4 → EReal) (G : Fin 60 → Fin 4 → EReal) : 0 ≤ fgIou a p g G :=
  mul_nonneg (iou_nonneg p g) (by unfold bitE; split <;> simp)

theorem fgIou_ge (a : Fin 2 → EReal) (p g : Fin 4 → EReal) (G : Fin 60 → Fin 4 → EReal) : -1 ≤ fgIou a p g G :=
  le_trans (by simp) (fgIou_nonneg a p g G)

/-- The sum of the ten greatest overlaps, in the kernel's order. -/
def topSum (g : ℕ → EReal) : EReal :=
  0 + max (g 0) 0 + max (g 1) 0 + max (g 2) 0 + max (g 3) 0 + max (g 4) 0 + max (g 5) 0 + max (g 6) 0 + max (g 7) 0 + max (g 8) 0 + max (g 9) 0

/-- The number of anchors a ground truth takes. -/
def dynK (s : EReal) : BitVec 32 := IntOp.maxsi (FloatOps.fptosi (F := Ideal) (φ := .f32) 32 s) 1#32

/-- The value of the rank a number of anchors names. -/
def pickK (k : BitVec 32) (g : ℕ → EReal) : EReal :=
  if k = 10#32 then g 9 else if k = 9#32 then g 8 else if k = 8#32 then g 7 else if k = 7#32 then g 6 else if k = 6#32 then g 5
  else if k = 5#32 then g 4 else if k = 4#32 then g 3 else if k = 3#32 then g 2 else if k = 2#32 then g 1 else if k = 1#32 then g 0 else 0

/-- The first ground truth of least cost. -/
theorem best_nonempty (c : Fin 60 → EReal) : (Finset.univ.filter fun m => ∀ k, c m ≤ c k).Nonempty := by
  obtain ⟨m, -, hm⟩ := Finset.exists_min_image Finset.univ c Finset.univ_nonempty
  exact ⟨m, Finset.mem_filter.mpr ⟨Finset.mem_univ _, fun k => hm k (Finset.mem_univ _)⟩⟩

def best (c : Fin 60 → EReal) : Fin 60 := (Finset.univ.filter fun m => ∀ k, c m ≤ c k).min' (best_nonempty c)

theorem best_le (c : Fin 60 → EReal) (k : Fin 60) : c (best c) ≤ c k :=
  (Finset.mem_filter.mp (Finset.min'_mem _ (best_nonempty c))).2 k

theorem best_first (c : Fin 60 → EReal) (m : Fin 60) (h : ∀ k, c m ≤ c k) : best c ≤ m :=
  Finset.min'_le _ _ (Finset.mem_filter.mpr ⟨Finset.mem_univ _, h⟩)

/-- Whether the anchor is among a ground truth's taken ones. -/
def taken (c thr : Fin 60 → EReal) (m : Fin 60) : EReal := bitE (BitVec.ofBool (decide (c m ≤ thr m)))

/-- An anchor's matching row, from its candidacies: a contested anchor goes to its cheapest ground truth. -/
def settle (c w : Fin 60 → EReal) (m : Fin 60) : EReal :=
  if 1 < ∑ k, w k then bitE (BitVec.ofBool (decide (m = best c))) else w m

/-- Whether the anchor is matched and in the foreground. -/
def posB (c w : Fin 60 → EReal) (f : BitVec 1) : BitVec 1 := IntOp.andi (BitVec.ofBool (decide (0 < ∑ m, settle c w m))) f

def msel (c w : Fin 60 → EReal) (f : BitVec 1) (m : Fin 60) : EReal := settle c w m * bitE (posB c w f)

def inter2 (p q : Fin 4 → EReal) : EReal :=
  max (min (p 2) (q 2) - max (p 0) (q 0)) 0 * max (min (p 3) (q 3) - max (p 1) (q 1)) 0

def union2 (p q : Fin 4 → EReal) : EReal :=
  max (p 2 - p 0) 0 * max (p 3 - p 1) 0 + max (q 2 - q 0) 0 * max (q 3 - q 1) 0 - inter2 p q

def hull (p q : Fin 4 → EReal) : EReal :=
  max (max (p 2) (q 2) - min (p 0) (q 0)) 0 * max (max (p 3) (q 3) - min (p 1) (q 1)) 0

/-- The generalised overlap of two boxes. -/
def giou (p q : Fin 4 → EReal) : EReal :=
  Ideal.div (inter2 p q) (max (union2 p q) (Ideal.ofBits FTy.f32 841731191#32))
    - Ideal.div (hull p q - union2 p q) (max (hull p q) (Ideal.ofBits FTy.f32 841731191#32))

/-- The cross entropy of an overlap score against an overlap. -/
def bce (x z : EReal) : EReal := max x 0 - x * z + Ideal.log1p (Ideal.exp (0 - FloatOps.absf (F := Ideal) (φ := .f32) x))

theorem minsi_le (a b : BitVec 32) : (IntOp.minsi a b).toInt = min a.toInt b.toInt := by
  unfold IntOp.minsi
  simp only [BitVec.slt, BitVec.sle, decide_eq_true_eq]
  split <;> omega

theorem fold_minsi_le {ι : Type} (s : Finset ι) (f : ι → BitVec 32) (b : BitVec 32) :
    (s.fold IntOp.minsi b f).toInt ≤ b.toInt ∧ ∀ i ∈ s, (s.fold IntOp.minsi b f).toInt ≤ (f i).toInt := by
  classical
  induction s using Finset.induction_on with
  | empty => simp
  | insert a s ha ih =>
    rw [Finset.fold_insert ha, minsi_le]
    refine ⟨le_trans (min_le_right _ _) ih.1, fun i hi => ?_⟩
    rcases Finset.mem_insert.mp hi with rfl | hi
    · exact min_le_left _ _
    · exact le_trans (min_le_right _ _) (ih.2 i hi)

theorem fold_minsi_ge {ι : Type} (s : Finset ι) (f : ι → BitVec 32) (b : BitVec 32) (z : ℤ) (hb : z ≤ b.toInt) (hf : ∀ i ∈ s, z ≤ (f i).toInt) :
    z ≤ (s.fold IntOp.minsi b f).toInt := by
  classical
  induction s using Finset.induction_on with
  | empty => simpa using hb
  | insert a s ha ih =>
    rw [Finset.fold_insert ha, minsi_le]
    exact le_min (hf a (Finset.mem_insert_self _ _)) (ih fun i hi => hf i (Finset.mem_insert_of_mem hi))

theorem toInt_ofNat_lt (n : ℕ) (h : n < 2147483648) : (BitVec.ofNat 32 n).toInt = n := by
  rw [BitVec.toInt_eq_toNat_of_lt]
  · simp; omega
  · simp; omega

theorem fold_best (c : Fin 60 → EReal) :
    Finset.univ.fold IntOp.minsi 2147483647#32 (fun x : Fin 60 => if c x = Finset.univ.inf c then BitVec.ofNat 32 ↑x else 60#32)
      = BitVec.ofNat 32 ↑(best c) := by
  have hinf : c (best c) = Finset.univ.inf c :=
    le_antisymm (Finset.le_inf fun k _ => best_le c k) (Finset.inf_le (Finset.mem_univ _))
  apply BitVec.eq_of_toInt_eq
  have hb := toInt_ofNat_lt (best c) (by have := (best c).isLt; omega)
  apply le_antisymm
  · have := (fold_minsi_le Finset.univ (fun x : Fin 60 => if c x = Finset.univ.inf c then BitVec.ofNat 32 ↑x else 60#32) 2147483647#32).2
      (best c) (Finset.mem_univ _)
    simpa only [if_pos hinf] using this
  · rw [hb]
    refine fold_minsi_ge _ _ _ _ ?_ fun x _ => ?_
    · have := (best c).isLt
      have h : (2147483647#32 : BitVec 32).toInt = 2147483647 := by decide
      rw [h]; omega
    · split
      · rename_i hx
        rw [toInt_ofNat_lt x (by have := x.isLt; omega)]
        have := best_first c x fun k => by rw [hx]; exact Finset.inf_le (Finset.mem_univ k)
        exact_mod_cast this
      · have := (best c).isLt
        have h : (60#32 : BitVec 32).toInt = 60 := by decide
        rw [h]; omega

theorem cmpi_fin (a b : Fin 60) : IntOp.cmpi CmpIPredicate.eq (BitVec.ofNat 32 ↑a) (BitVec.ofNat 32 ↑b) = BitVec.ofBool (decide (a = b)) := by
  unfold IntOp.cmpi
  have : (BitVec.ofNat 32 ↑a == BitVec.ofNat 32 ↑b) = decide (a = b) := by
    rw [beq_eq_decide]
    congr 1
    apply propext
    constructor
    · intro h
      have := congrArg BitVec.toInt h
      rw [toInt_ofNat_lt _ (by have := a.isLt; omega), toInt_ofNat_lt _ (by have := b.isLt; omega)] at this
      exact Fin.ext (by exact_mod_cast this)
    · rintro rfl; rfl
  simp only [this]

theorem bit_pos (b : BitVec 1) : BitVec.ofBool (decide (0 < bitE b)) = b := by
  have h : ∀ v : BitVec 1, v = 0#1 ∨ v = 1#1 := by decide
  rcases h b with rfl | rfl
  · simp [bitE]
  · simp [bitE]

end Cert.Own

end
-- ==== Proof.Block1.lean ====
/-
  What one block of the first call leaves, read at an index.
-/
module

public import proofs.«01_k».proof.Proof.Gen.KernelIdeal.Frame
public import proofs.«01_k».proof.Proof.Kth
public import proofs.«01_k».proof.Proof.Spec
public import Idealize.ShloMosaic.Lib.Pipeline.Value

@[expose] public section

noncomputable section

namespace Cert.KernelIdeal.Own

open Cert.KernelIdeal Cert.KernelIdeal.Gen Cert.Own Idealize.ShloMosaic Idealize.ShloMosaic.TcCoe Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

section

variable (x0 : Vec Ideal S1x4200x80 .f32) (x1 : Vec Ideal S1x4200x4 .f32) (x2 : Vec Ideal S4200x2 .f32) (x3 : Vec Ideal S1x1x60 .i32)
  (x4 : Vec Ideal S1x4x60 .f32)

/-- The rows of a block's arrays. -/
abbrev rX (t : Fin 4200) : Fin 80 → EReal := fun c => x0 (ix3 0 t c)
abbrev rP (t : Fin 4200) : Fin 4 → EReal := fun k => x1 (ix3 0 t k)
abbrev rA (t : Fin 4200) : Fin 2 → EReal := fun k => x2 (ix2 t k)
abbrev rL (m : Fin 60) : BitVec 32 := x3 (ix3 0 0 m)
abbrev rG (m : Fin 60) : Fin 4 → EReal := fun k => x4 (ix3 0 k m)

theorem pay5_apply (t : Fin 4200) : k0_pay5 x0 (ix2 t 0) = sumNeg (rX x0 t) := by
  pointwise [k0_pay5, k0_pay2]
  rfl

theorem pay7_apply (t : Fin 4200) (m : Fin 60) : k0_pay7 x0 x3 (ix2 t m) = pick (rX x0 t) (rL x3 m) := by
  pointwise [k0_pay7, k0_pay2]
  simp only [sitofp_bit]
  rfl

theorem pay9_apply (v w : FVec Ideal S4200x60 .f32) (t : Fin 4200) (m : Fin 60)
    (hw : w (ix2 t m) = Ideal.logistic (v (ix2 t m))) :
    k0_pay9 v w 0 (ix2 t m) = posE (v (ix2 t m)) - negE (v (ix2 t m)) := by
  pointwise [k0_pay9]
  rw [hw]
  rfl

theorem out0_5_apply (t : Fin 4200) : out0_5 x0 x1 x2 x3 x4 (ix3 0 t 0) = sumNeg (rX x0 t) := by
  unfold out0_5
  rw [View.canon_unit_zero hz3]
  simp only [View.ld_unit_zero (S := S1x4200x80) hz3]
  pointwise [k0_pay6]
  exact pay5_apply x0 t

theorem pay9_dx (t : Fin 4200) (m : Fin 60) :
    k0_pay9 (k0_pay64 x0 x1 x2 x3 x4) (k0_pay65 x0 x1 x2 x3 x4) 0 (ix2 t m) = dx (rX x0 t) (rL x3 m) := by
  have h64 : k0_pay64 x0 x1 x2 x3 x4 (ix2 t m) = pick (rX x0 t) (rL x3 m) := by
    unfold k0_pay64
    simp only [View.ld_unit_zero (S := S1x4200x80) hz3, View.ld_unit_zero (S := S1x1x60) hz3]
    exact pay7_apply x0 x3 t m
  have h65 : k0_pay65 x0 x1 x2 x3 x4 (ix2 t m) = Ideal.logistic (k0_pay64 x0 x1 x2 x3 x4 (ix2 t m)) := by
    unfold k0_pay64 k0_pay65
    pointwise [k0_pay8]
  rw [pay9_apply _ _ t m h65, h64]
  rfl

theorem out0_6_apply (t : Fin 4200) (m : Fin 60) : out0_6 x0 x1 x2 x3 x4 (ix3 0 t m) = dx (rX x0 t) (rL x3 m) := by
  unfold out0_6
  rw [View.canon_unit_zero hz3]
  pointwise [k0_pay10]
  exact pay9_dx x0 x1 x2 x3 x4 t m

theorem pay84_apply (t : Fin 4200) (m : Fin 60) :
    k0_pay84 x0 x1 x2 x3 x4 (ix2 t m) = fgIou (rA x2 t) (rP x1 t) (rG x4 m) (rG x4) := by
  unfold k0_pay84 k0_pay82 k0_pay81 k0_pay80 k0_pay79 k0_pay78 k0_pay77 k0_pay76 k0_pay75 k0_pay74 k0_pay73 k0_pay72 k0_pay71 k0_pay70 k0_pay69 k0_pay68 k0_pay67 k0_pay66 k0_pay63 k0_pay62
  simp only [View.ld_unit_zero (S := S1x4200x4) hz3, View.ld_unit_zero (S := S1x4x60) hz3, View.ld_unit_zero (S := S4200x2) hz2]
  pointwise [k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay4, k0_pay3]
  simp only [sitofp_bit]
  rw [show fgIou (rA x2 t) (rP x1 t) (rG x4 m) (rG x4) = iou (rP x1 t) (rG x4 m) * bitE (fgBit (rA x2 t) (rG x4)) from rfl, ← fg_eq_fold]
  rfl

theorem pay83_apply (t : Fin 4200) (m : Fin 60) :
    k0_pay83 x0 x1 x2 x3 x4 (ix2 t m) = cost (rX x0 t) (rA x2 t) (rP x1 t) (rG x4 m) (rG x4) (rL x3 m) := by
  unfold k0_pay83 k0_pay82 k0_pay81 k0_pay80 k0_pay79 k0_pay78 k0_pay77 k0_pay76 k0_pay75 k0_pay74 k0_pay73 k0_pay72 k0_pay71 k0_pay70 k0_pay69 k0_pay68 k0_pay67 k0_pay66 k0_pay63 k0_pay62
  simp only [View.ld_unit_zero (S := S1x4200x80) hz3, View.ld_unit_zero (S := S1x4200x4) hz3, View.ld_unit_zero (S := S1x4x60) hz3, View.ld_unit_zero (S := S4200x2) hz2]
  pointwise [k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay4, k0_pay3]
  simp only [sitofp_bit]
  rw [pay5_apply, pay9_dx]
  rw [show cost (rX x0 t) (rA x2 t) (rP x1 t) (rG x4 m) (rG x4) (rL x3 m) = sumNeg (rX x0 t) + dx (rX x0 t) (rL x3 m)
      + (Ideal.ofBits FTy.f32 3225419776#32 * Ideal.log (iou (rP x1 t) (rG x4 m) + Ideal.ofBits FTy.f32 841731191#32)
    + Ideal.ofBits FTy.f32 1203982336#32 * (1 - bitE (both (rA x2 t) (rG x4 m)))
    + Ideal.ofBits FTy.f32 1203982336#32 * (1 - bitE (fgBit (rA x2 t) (rG x4)))) from rfl, ← fg_eq_fold]
  rfl

end

end Cert.KernelIdeal.Own

end
-- ==== Proof.Cand1.lean ====
/-
  The candidates one block of the first call leaves: the ten largest overlaps and the ten least costs of each column.
-/
module

public import proofs.«01_k».proof.Proof.Gen.KernelIdeal.Frame
public import proofs.«01_k».proof.Proof.Block1
public import proofs.«01_k».proof.Proof.Spec
public import Idealize.ShloMosaic.Lib.Pipeline.Value

@[expose] public section

noncomputable section

namespace Cert.KernelIdeal.Own

open Cert.KernelIdeal Cert.KernelIdeal.Gen Cert.Own Idealize.ShloMosaic Idealize.ShloMosaic.TcCoe Idealize.SL.Sem

/-- A column's least entry, for each column. -/
def colMin (x : FVec Ideal S4200x60 .f32) : FVec Ideal S1x60 .f32 :=
  shapeCast S1x60 (multiReduction .minimumf [0] S60 x 0x7F800000#32 reduces_S4200x60_S60 (.inl rfl) rfl) shapeCasts_S60_S1x60

/-- The array with each column's least entries masked. -/
def nextMin (x : FVec Ideal S4200x60 .f32) : FVec Ideal S4200x60 .f32 :=
  select (cmpf .oeq x (broadcastTo S4200x60 (colMin x) broadcasts_S1x60_S4200x60))
    (broadcast S4200x60 (Named.named (F := Ideal) κ "mask" (0x7149F2CA#32 : BitVec (FTy.bits .f32)) : Ideal .f32)) x

def colMax (x : FVec Ideal S4200x60 .f32) : FVec Ideal S1x60 .f32 :=
  shapeCast S1x60 (multiReduction .maximumf [0] S60 x 0xFF800000#32 reduces_S4200x60_S60 (.inl rfl) rfl) shapeCasts_S60_S1x60

def nextMax (x : FVec Ideal S4200x60 .f32) : FVec Ideal S4200x60 .f32 :=
  select (cmpf .oeq x (broadcastTo S4200x60 (colMax x) broadcasts_S1x60_S4200x60))
    (broadcast S4200x60 (Scalar.ofBits (F := Ideal) .f32 0xBF800000#32)) x

theorem mask_top : (Named.named κ "mask" (0x7149F2CA#32 : BitVec (FTy.bits .f32)) : Ideal .f32) = (⊤ : EReal) :=
  IdealRules.named_const.ideal_named_scalar _ _ _ _ rfl

theorem ofBits_negone : Ideal.ofBits FTy.f32 3212836864#32 = -1 := by
  simp [Ideal.ofBits, Ideal.ieee, -EReal.coe_mul]; norm_num

theorem colMin_apply (x : FVec Ideal S4200x60 .f32) (m : Fin 60) :
    colMin x (ix2 0 m) = Finset.univ.inf fun t : Fin 4200 => (x (ix2 t m) : EReal) := by
  unfold colMin
  pointwise
  rw [ofBits_pinf]
  rfl

theorem colMax_apply (x : FVec Ideal S4200x60 .f32) (m : Fin 60) :
    colMax x (ix2 0 m) = Finset.univ.sup fun t : Fin 4200 => (x (ix2 t m) : EReal) := by
  unfold colMax
  pointwise
  rw [ofBits_ninf]
  rfl

theorem nextMin_apply (x : FVec Ideal S4200x60 .f32) (t : Fin 4200) (m : Fin 60) :
    nextMin x (ix2 t m) = (if (x (ix2 t m) : EReal) = Finset.univ.inf (fun t : Fin 4200 => (x (ix2 t m) : EReal)) then (⊤ : EReal) else x (ix2 t m)) := by
  unfold nextMin
  rw [← colMin_apply]
  pointwise
  rw [mask_top]

theorem nextMax_apply (x : FVec Ideal S4200x60 .f32) (t : Fin 4200) (m : Fin 60) :
    nextMax x (ix2 t m) = (if (x (ix2 t m) : EReal) = Finset.univ.sup (fun t : Fin 4200 => (x (ix2 t m) : EReal)) then (-1 : EReal) else x (ix2 t m)) := by
  unfold nextMax
  rw [← colMax_apply]
  pointwise
  rw [ofBits_negone]

theorem stack_apply (v : Fin 10 → FVec Ideal S1x60 .f32) (r : Fin 10) (m : Fin 60) :
    shapeCast S1x1x10x60 (concatenate S10x60 0 [⟨S1x60, v 0⟩, ⟨S1x60, v 1⟩, ⟨S1x60, v 2⟩, ⟨S1x60, v 3⟩, ⟨S1x60, v 4⟩, ⟨S1x60, v 5⟩, ⟨S1x60, v 6⟩,
      ⟨S1x60, v 7⟩, ⟨S1x60, v 8⟩, ⟨S1x60, v 9⟩] concatenates_S1x60_S1x60_S1x60_S1x60_S1x60_S1x60_S1x60_S1x60_S1x60_S1x60_S10x60_d0)
      shapeCasts_S10x60_S1x1x10x60 (ix4 0 0 r m) = v r (ix2 0 m) := by
  pointwise
  fin_cases r
  all_goals rfl

theorem iter_next {α : Type} (f : α → α) (r : ℕ) (x y : α) (h : y = f^[r] x) : f y = f^[r + 1] x := by
  rw [Function.iterate_succ_apply', h]

theorem pay52_eq (x : FVec Ideal S4200x60 .f32) : k0_pay52 x = nextMin^[1] x :=
  (show k0_pay52 x = nextMin x from rfl).trans (iter_next nextMin 0 x x rfl)

theorem pay54_eq (x : FVec Ideal S4200x60 .f32) : k0_pay54 x = nextMin^[2] x :=
  (show k0_pay54 x = nextMin (k0_pay52 x) from rfl).trans (iter_next nextMin 1 x (k0_pay52 x) (pay52_eq x))

theorem pay56_eq (x : FVec Ideal S4200x60 .f32) : k0_pay56 x = nextMin^[3] x :=
  (show k0_pay56 x = nextMin (k0_pay54 x) from rfl).trans (iter_next nextMin 2 x (k0_pay54 x) (pay54_eq x))

theorem pay58_eq (x : FVec Ideal S4200x60 .f32) : k0_pay58 x = nextMin^[4] x :=
  (show k0_pay58 x = nextMin (k0_pay56 x) from rfl).trans (iter_next nextMin 3 x (k0_pay56 x) (pay56_eq x))

theorem itnextMin (r : ℕ) (x : FVec Ideal S4200x60 .f32) : nextMin (nextMin^[r] x) = nextMin^[r + 1] x := iter_next _ r x _ rfl

theorem pay1_aux (x z : FVec Ideal S4200x60 .f32) (hz : k0_pay58 x = z) :
      k0_pay1 (k0_pay51 x) (k0_pay53 x) (k0_pay55 x) (k0_pay57 x) z (k0_pay59 x) (k0_pay60 x) (k0_pay61 (F := Ideal))
      = shapeCast S1x1x10x60 (concatenate S10x60 0 [⟨S1x60, colMin x⟩, ⟨S1x60, colMin (k0_pay52 x)⟩, ⟨S1x60, colMin (k0_pay54 x)⟩,
        ⟨S1x60, colMin (k0_pay56 x)⟩, ⟨S1x60, colMin z⟩, ⟨S1x60, colMin (nextMin z)⟩, ⟨S1x60, colMin (nextMin (nextMin z))⟩,
        ⟨S1x60, colMin (nextMin (nextMin (nextMin z)))⟩, ⟨S1x60, colMin (nextMin (nextMin (nextMin (nextMin z))))⟩,
        ⟨S1x60, colMin (nextMin (nextMin (nextMin (nextMin (nextMin z)))))⟩]
        concatenates_S1x60_S1x60_S1x60_S1x60_S1x60_S1x60_S1x60_S1x60_S1x60_S1x60_S10x60_d0) shapeCasts_S10x60_S1x1x10x60 := by
    have h59 : k0_pay59 x = colMin z := by rw [← hz]; rfl
    have h60 : k0_pay60 x = cmpf .oeq z (broadcastTo S4200x60 (colMin z) broadcasts_S1x60_S4200x60) := by rw [← h59, ← hz]; rfl
    rw [h59, h60]
    rfl

theorem pay1_eq (x : FVec Ideal S4200x60 .f32) :
    k0_pay1 (k0_pay51 x) (k0_pay53 x) (k0_pay55 x) (k0_pay57 x) (k0_pay58 x) (k0_pay59 x) (k0_pay60 x) (k0_pay61 (F := Ideal))
      = shapeCast S1x1x10x60 (concatenate S10x60 0 [⟨S1x60, colMin (nextMin^[0] x)⟩, ⟨S1x60, colMin (nextMin^[1] x)⟩, ⟨S1x60, colMin (nextMin^[2] x)⟩, ⟨S1x60, colMin (nextMin^[3] x)⟩, ⟨S1x60, colMin (nextMin^[4] x)⟩, ⟨S1x60, colMin (nextMin^[5] x)⟩, ⟨S1x60, colMin (nextMin^[6] x)⟩, ⟨S1x60, colMin (nextMin^[7] x)⟩, ⟨S1x60, colMin (nextMin^[8] x)⟩, ⟨S1x60, colMin (nextMin^[9] x)⟩]
        concatenates_S1x60_S1x60_S1x60_S1x60_S1x60_S1x60_S1x60_S1x60_S1x60_S1x60_S10x60_d0) shapeCasts_S10x60_S1x1x10x60 := by
  rw [pay1_aux x _ rfl, pay52_eq, pay54_eq, pay56_eq, pay58_eq]
  rw [show nextMin (nextMin^[4] x) = nextMin^[5] x from itnextMin 4 x, show nextMin (nextMin^[5] x) = nextMin^[6] x from itnextMin 5 x,
    show nextMin (nextMin^[6] x) = nextMin^[7] x from itnextMin 6 x, show nextMin (nextMin^[7] x) = nextMin^[8] x from itnextMin 7 x,
    show nextMin (nextMin^[8] x) = nextMin^[9] x from itnextMin 8 x]
  simp only [Function.iterate_zero, id]

theorem pay34_eq (x : FVec Ideal S4200x60 .f32) : k0_pay34 x (colMax x) = nextMax^[1] x :=
  (show k0_pay34 x (colMax x) = nextMax x from rfl).trans (iter_next nextMax 0 x x rfl)

theorem pay36_eq (x : FVec Ideal S4200x60 .f32) : k0_pay36 x (colMax x) = nextMax^[2] x :=
  (show k0_pay36 x (colMax x) = nextMax (k0_pay34 x (colMax x)) from rfl).trans (iter_next nextMax 1 x (k0_pay34 x (colMax x)) (pay34_eq x))

theorem pay38_eq (x : FVec Ideal S4200x60 .f32) : k0_pay38 x (colMax x) = nextMax^[3] x :=
  (show k0_pay38 x (colMax x) = nextMax (k0_pay36 x (colMax x)) from rfl).trans (iter_next nextMax 2 x (k0_pay36 x (colMax x)) (pay36_eq x))

theorem pay40_eq (x : FVec Ideal S4200x60 .f32) : k0_pay40 x (colMax x) = nextMax^[4] x :=
  (show k0_pay40 x (colMax x) = nextMax (k0_pay38 x (colMax x)) from rfl).trans (iter_next nextMax 3 x (k0_pay38 x (colMax x)) (pay38_eq x))

theorem pay42_eq (x : FVec Ideal S4200x60 .f32) : k0_pay42 x (colMax x) = nextMax^[5] x :=
  (show k0_pay42 x (colMax x) = nextMax (k0_pay40 x (colMax x)) from rfl).trans (iter_next nextMax 4 x (k0_pay40 x (colMax x)) (pay40_eq x))

theorem pay44_eq (x : FVec Ideal S4200x60 .f32) : k0_pay44 x (colMax x) = nextMax^[6] x :=
  (show k0_pay44 x (colMax x) = nextMax (k0_pay42 x (colMax x)) from rfl).trans (iter_next nextMax 5 x (k0_pay42 x (colMax x)) (pay42_eq x))

theorem pay46_eq (x : FVec Ideal S4200x60 .f32) : k0_pay46 x (colMax x) = nextMax^[7] x :=
  (show k0_pay46 x (colMax x) = nextMax (k0_pay44 x (colMax x)) from rfl).trans (iter_next nextMax 6 x (k0_pay44 x (colMax x)) (pay44_eq x))

theorem itnextMax (r : ℕ) (x : FVec Ideal S4200x60 .f32) : nextMax (nextMax^[r] x) = nextMax^[r + 1] x := iter_next _ r x _ rfl

theorem pay50_aux (x z : FVec Ideal S4200x60 .f32) (hz : k0_pay46 x (colMax x) = z) :
      k0_pay50 (colMax x) (k0_pay35 x (colMax x)) (k0_pay37 x (colMax x)) (k0_pay39 x (colMax x)) (k0_pay41 x (colMax x)) (k0_pay43 x (colMax x))
        (k0_pay45 x (colMax x)) z (k0_pay47 x (colMax x)) (k0_pay48 x (colMax x)) (k0_pay49 (F := Ideal))
      = shapeCast S1x1x10x60 (concatenate S10x60 0 [⟨S1x60, colMax x⟩, ⟨S1x60, colMax (k0_pay34 x (colMax x))⟩, ⟨S1x60, colMax (k0_pay36 x (colMax x))⟩,
        ⟨S1x60, colMax (k0_pay38 x (colMax x))⟩, ⟨S1x60, colMax (k0_pay40 x (colMax x))⟩, ⟨S1x60, colMax (k0_pay42 x (colMax x))⟩,
        ⟨S1x60, colMax (k0_pay44 x (colMax x))⟩, ⟨S1x60, colMax z⟩, ⟨S1x60, colMax (nextMax z)⟩, ⟨S1x60, colMax (nextMax (nextMax z))⟩]
        concatenates_S1x60_S1x60_S1x60_S1x60_S1x60_S1x60_S1x60_S1x60_S1x60_S1x60_S10x60_d0) shapeCasts_S10x60_S1x1x10x60 := by
    have h47 : k0_pay47 x (colMax x) = colMax z := by rw [← hz]; rfl
    have h48 : k0_pay48 x (colMax x) = cmpf .oeq z (broadcastTo S4200x60 (colMax z) broadcasts_S1x60_S4200x60) := by rw [← h47, ← hz]; rfl
    rw [h47, h48]
    rfl

theorem pay50_eq (x : FVec Ideal S4200x60 .f32) (y : FVec Ideal S1x60 .f32) (hy : y = colMax x) :
    k0_pay50 y (k0_pay35 x y) (k0_pay37 x y) (k0_pay39 x y) (k0_pay41 x y) (k0_pay43 x y) (k0_pay45 x y) (k0_pay46 x y) (k0_pay47 x y)
        (k0_pay48 x y) (k0_pay49 (F := Ideal))
      = shapeCast S1x1x10x60 (concatenate S10x60 0 [⟨S1x60, colMax (nextMax^[0] x)⟩, ⟨S1x60, colMax (nextMax^[1] x)⟩, ⟨S1x60, colMax (nextMax^[2] x)⟩, ⟨S1x60, colMax (nextMax^[3] x)⟩, ⟨S1x60, colMax (nextMax^[4] x)⟩, ⟨S1x60, colMax (nextMax^[5] x)⟩, ⟨S1x60, colMax (nextMax^[6] x)⟩, ⟨S1x60, colMax (nextMax^[7] x)⟩, ⟨S1x60, colMax (nextMax^[8] x)⟩, ⟨S1x60, colMax (nextMax^[9] x)⟩]
        concatenates_S1x60_S1x60_S1x60_S1x60_S1x60_S1x60_S1x60_S1x60_S1x60_S1x60_S10x60_d0) shapeCasts_S10x60_S1x1x10x60 := by
  subst hy
  rw [pay50_aux x _ rfl, pay34_eq, pay36_eq, pay38_eq, pay40_eq, pay42_eq, pay44_eq, pay46_eq]
  rw [show nextMax (nextMax^[7] x) = nextMax^[8] x from itnextMax 7 x, show nextMax (nextMax^[8] x) = nextMax^[9] x from itnextMax 8 x]
  simp only [Function.iterate_zero, id]

theorem colMin_rounds (x : FVec Ideal S4200x60 .f32) (r : ℕ) (m : Fin 60) :
    colMin (nextMin^[r] x) (ix2 0 m) = lowRound (fun t : Fin 4200 => x (ix2 t m)) r := by
  induction r generalizing x with
  | zero => exact colMin_apply x m
  | succ r ih =>
    rw [Function.iterate_succ_apply, ih, lowRound_succ]
    congr 1
    exact funext fun t => nextMin_apply x t m

theorem colMax_rounds (x : FVec Ideal S4200x60 .f32) (r : ℕ) (m : Fin 60) :
    colMax (nextMax^[r] x) (ix2 0 m) = topRound (fun t : Fin 4200 => x (ix2 t m)) r := by
  induction r generalizing x with
  | zero => exact colMax_apply x m
  | succ r ih =>
    rw [Function.iterate_succ_apply, ih, topRound_succ]
    congr 1
    exact funext fun t => nextMax_apply x t m

section

variable (x0 : Vec Ideal S1x4200x80 .f32) (x1 : Vec Ideal S1x4200x4 .f32) (x2 : Vec Ideal S4200x2 .f32) (x3 : Vec Ideal S1x1x60 .i32)
  (x4 : Vec Ideal S1x4x60 .f32)

theorem pay85_eq : k0_pay85 x0 x1 x2 x3 x4 = colMax (k0_pay84 x0 x1 x2 x3 x4) := rfl

theorem out0_7_apply (r : Fin 10) (m : Fin 60) : out0_7 x0 x1 x2 x3 x4 (ix4 0 0 r m)
    = tops (fun t : Fin 4200 => fgIou (rA x2 t) (rP x1 t) (rG x4 m) (rG x4)) r := by
  unfold out0_7
  rw [View.canon_unit_zero hz4, pay50_eq _ _ (pay85_eq x0 x1 x2 x3 x4)]
  refine (stack_apply (fun r => colMax (nextMax^[r] (k0_pay84 x0 x1 x2 x3 x4))) r m).trans ?_
  rw [colMax_rounds]
  simp only [pay84_apply]
  exact topRound_eq _ (fun t => fgIou_ge _ _ _ _) r

theorem out0_8_apply (r : Fin 10) (m : Fin 60) : out0_8 x0 x1 x2 x3 x4 (ix4 0 0 r m)
    = lows (fun t : Fin 4200 => cost (rX x0 t) (rA x2 t) (rP x1 t) (rG x4 m) (rG x4) (rL x3 m)) r := by
  unfold out0_8
  rw [View.canon_unit_zero hz4, pay1_eq]
  refine (stack_apply (fun r => colMin (nextMin^[r] (k0_pay83 x0 x1 x2 x3 x4))) r m).trans ?_
  rw [colMin_rounds]
  simp only [pay83_apply]
  exact lowRound_eq _ r

end

end Cert.KernelIdeal.Own

end
-- ==== Proof.Cand2.lean ====
/-
  The threshold the second call leaves for each ground truth, from the candidates of all blocks.
-/
module

public import proofs.«01_k».proof.Proof.Gen.KernelIdeal.Frame
public import proofs.«01_k».proof.Proof.Cand1
public import proofs.«01_k».proof.Proof.Spec
public import Idealize.ShloMosaic.Lib.Pipeline.Value

@[expose] public section

noncomputable section

namespace Cert.KernelIdeal.Own

open Cert.KernelIdeal Cert.KernelIdeal.Gen Cert.Own Idealize.ShloMosaic Idealize.ShloMosaic.TcCoe Idealize.SL.Sem

theorem select_cmpi_eq (a b : BitVec 32) (x y : EReal) : Scalar.select (IntOp.cmpi CmpIPredicate.eq a b) x y = if a = b then x else y := by
  unfold Scalar.select IntOp.cmpi
  by_cases h : a = b
  · simp [h]
  · have : (a == b) = false := by simpa using h
    simp [h, this]

def redMin (x : FVec Ideal S8x10x60 .f32) : FVec Ideal S1x1x60 .f32 :=
  shapeCast S1x1x60 (multiReduction .minimumf [1] S1x60 (shapeCast S1x10x60
    (multiReduction .minimumf [0] S10x60 x 0x7F800000#32 reduces_S8x10x60_S10x60 (.inl rfl) rfl) shapeCasts_S10x60_S1x10x60)
    0x7F800000#32 reduces_S1x10x60_S1x60 (.inl rfl) rfl) shapeCasts_S1x60_S1x1x60

def redMax (x : FVec Ideal S8x10x60 .f32) : FVec Ideal S1x1x60 .f32 :=
  shapeCast S1x1x60 (multiReduction .maximumf [1] S1x60 (shapeCast S1x10x60
    (multiReduction .maximumf [0] S10x60 x 0xFF800000#32 reduces_S8x10x60_S10x60 (.inl rfl) rfl) shapeCasts_S10x60_S1x10x60)
    0xFF800000#32 reduces_S1x10x60_S1x60 (.inl rfl) rfl) shapeCasts_S1x60_S1x1x60

def eqMin (x : FVec Ideal S8x10x60 .f32) : IVec S8x10x60 1 := cmpf .oeq x (broadcastTo S8x10x60 (redMin x) broadcasts_S1x1x60_S8x10x60)

def maskAll : FVec Ideal S8x10x60 .f32 := broadcast S8x10x60 (Named.named κ "mask" (0x7149F2CA#32 : BitVec (FTy.bits .f32)) : Ideal .f32)

def cutMin (x : FVec Ideal S8x10x60 .f32) : FVec Ideal S8x10x60 .f32 := select (eqMin x) maskAll x

def cutMax (x : FVec Ideal S8x10x60 .f32) : FVec Ideal S8x10x60 .f32 :=
  select (cmpf .oeq x (broadcastTo S8x10x60 (redMax x) broadcasts_S1x1x60_S8x10x60))
    (broadcast S8x10x60 (Scalar.ofBits (F := Ideal) .f32 0xBF800000#32)) x

/-- A column of the candidates. -/
abbrev cc (x : FVec Ideal S8x10x60 .f32) (m : Fin 60) : Fin 8 × Fin 10 → EReal := fun q => x (ix3 q.1 q.2 m)

theorem redMin_apply (x : FVec Ideal S8x10x60 .f32) (m : Fin 60) : redMin x (ix3 0 0 m) = Finset.univ.inf (cc x m) := by
  unfold redMin
  pointwise
  rw [ofBits_pinf, ← Finset.univ_product_univ, Finset.inf_product_right]
  rfl

theorem redMax_apply (x : FVec Ideal S8x10x60 .f32) (m : Fin 60) : redMax x (ix3 0 0 m) = Finset.univ.sup (cc x m) := by
  unfold redMax
  pointwise
  rw [ofBits_ninf, ← Finset.univ_product_univ, Finset.sup_product_right]
  rfl

theorem cutMin_apply (x : FVec Ideal S8x10x60 .f32) (m : Fin 60) (q : Fin 8 × Fin 10) :
    cc (cutMin x) m q = if cc x m q = Finset.univ.inf (cc x m) then (⊤ : EReal) else cc x m q := by
  rw [← redMin_apply]
  unfold cutMin eqMin maskAll
  pointwise
  rw [mask_top]

theorem cutMax_apply (x : FVec Ideal S8x10x60 .f32) (m : Fin 60) (q : Fin 8 × Fin 10) :
    cc (cutMax x) m q = if cc x m q = Finset.univ.sup (cc x m) then (-1 : EReal) else cc x m q := by
  rw [← redMax_apply]
  unfold cutMax
  pointwise
  rw [ofBits_negone]

theorem redMin_rounds (x : FVec Ideal S8x10x60 .f32) (r : ℕ) (m : Fin 60) :
    redMin (cutMin^[r] x) (ix3 0 0 m) = lowRound (cc x m) r := by
  induction r generalizing x with
  | zero => exact redMin_apply x m
  | succ r ih =>
    rw [Function.iterate_succ_apply, ih, lowRound_succ]
    congr 1
    exact funext fun q => cutMin_apply x m q

theorem redMax_rounds (x : FVec Ideal S8x10x60 .f32) (r : ℕ) (m : Fin 60) :
    redMax (cutMax^[r] x) (ix3 0 0 m) = topRound (cc x m) r := by
  induction r generalizing x with
  | zero => exact redMax_apply x m
  | succ r ih =>
    rw [Function.iterate_succ_apply, ih, topRound_succ]
    congr 1
    exact funext fun q => cutMax_apply x m q

theorem itcutMin (r : ℕ) (x : FVec Ideal S8x10x60 .f32) : cutMin (cutMin^[r] x) = cutMin^[r + 1] x := iter_next _ r x _ rfl
theorem itcutMax (r : ℕ) (x : FVec Ideal S8x10x60 .f32) : cutMax (cutMax^[r] x) = cutMax^[r + 1] x := iter_next _ r x _ rfl

theorem maximumf_apply' (x y : FVec Ideal S1x1x60 .f32) (m : Fin 60) : maximumf x y (ix3 0 0 m) = max (x (ix3 0 0 m) : EReal) (y (ix3 0 0 m)) := rfl

theorem pay9_read (v0 : Vec Ideal S1x8x10x60 .f32) (m : Fin 60) : k1_pay9 v0 (ix3 0 0 m)
    = 0 + max (redMax (k1_pay2 v0) (ix3 0 0 m) : EReal) 0 + max (redMax (cutMax (k1_pay2 v0)) (ix3 0 0 m) : EReal) 0
      + max (redMax (cutMax (cutMax (k1_pay2 v0))) (ix3 0 0 m) : EReal) 0 := by
  have h4 : k1_pay4 v0 = redMax (k1_pay2 v0) := rfl
  have h6 : k1_pay6 v0 = redMax (cutMax (k1_pay2 v0)) := rfl
  have h8 : k1_pay8 v0 = redMax (cutMax (cutMax (k1_pay2 v0))) := rfl
  rw [← h4, ← h6, ← h8]
  pointwise [k1_pay9]

theorem pay18_read (v33 : FVec Ideal S1x1x60 .f32) (w : FVec Ideal S8x10x60 .f32) (m : Fin 60) : k1_pay18 v33 w (ix3 0 0 m)
    = (v33 (ix3 0 0 m) : EReal) + max (redMax w (ix3 0 0 m) : EReal) 0 + max (redMax (cutMax w) (ix3 0 0 m) : EReal) 0
      + max (redMax (cutMax (cutMax w)) (ix3 0 0 m) : EReal) 0 + max (redMax (cutMax (cutMax (cutMax w))) (ix3 0 0 m) : EReal) 0 := by
  have h11 : k1_pay11 w = redMax w := rfl
  have h13 : k1_pay13 w = redMax (cutMax w) := rfl
  have h15 : k1_pay15 w = redMax (cutMax (cutMax w)) := rfl
  have h17 : k1_pay17 w = redMax (cutMax (cutMax (cutMax w))) := rfl
  rw [← h11, ← h13, ← h15, ← h17]
  pointwise [k1_pay18]

theorem pay20_read (v77 : FVec Ideal S1x1x60 .f32) (w : FVec Ideal S8x10x60 .f32) (m : Fin 60) : k1_pay20 v77 w (ix3 0 0 m)
    = IntOp.maxsi (FloatOps.fptosi (F := Ideal) (φ := .f32) 32 ((v77 (ix3 0 0 m) : EReal) + max (redMax w (ix3 0 0 m) : EReal) 0 + max (redMax (cutMax w) (ix3 0 0 m) : EReal) 0
      + max (redMax (cutMax (cutMax w)) (ix3 0 0 m) : EReal) 0)) 1#32 := by
  have h : k1_pay20 v77 w = maxsi (fptosi 32 (addf (addf (addf v77 (maximumf (redMax w) (broadcast S1x1x60 (Scalar.ofBits .f32 0x00000000#32))))
    (maximumf (redMax (cutMax w)) (broadcast S1x1x60 (Scalar.ofBits .f32 0x00000000#32))))
    (maximumf (redMax (cutMax (cutMax w))) (broadcast S1x1x60 (Scalar.ofBits .f32 0x00000000#32))))) (broadcast S1x1x60 1#32) := rfl
  rw [h]
  pointwise

section

variable (x0 x1 : Vec Ideal S1x8x10x60 .f32)

theorem h48 : k1_pay48 x0 x1 = cutMax (cutMax (cutMax (k1_pay2 (View.ld x0 r1_0)))) := rfl
theorem h50 : k1_pay50 x0 x1 = cutMax (cutMax (cutMax (cutMax (k1_pay48 x0 x1)))) := rfl

theorem dyn_read (m : Fin 60) : k1_pay51 x0 x1 (ix3 0 0 m) = dynK (topSum fun r => topRound (cc (k1_pay2 (View.ld x0 r1_0)) m) r) := by
  unfold k1_pay51 k1_pay49
  rw [pay20_read, pay18_read, pay9_read, h50, h48]
  generalize k1_pay2 (View.ld x0 r1_0) = w
  have e : ∀ r, redMax (cutMax^[r] w) (ix3 0 0 m) = topRound (cc w m) r := fun r => redMax_rounds w r m
  have i0 : w = cutMax^[0] w := rfl
  have i1 : cutMax w = cutMax^[1] w := rfl
  have i2 := itcutMax 1 w
  have i3 := itcutMax 2 w
  have i4 := itcutMax 3 w
  have i5 := itcutMax 4 w
  have i6 := itcutMax 5 w
  have i7 := itcutMax 6 w
  have i8 := itcutMax 7 w
  have i9 := itcutMax 8 w
  rw [i1, i2, i3, i4, i5, i6, i7, i8, i9]
  have e0 := e 0
  rw [← i0] at e0
  rw [e0]
  simp only [e]
  rfl

theorem h52 : k1_pay52 x0 x1 = eqMin (k1_pay47 x0 x1) := rfl
theorem h54 : k1_pay54 x0 x1 = cutMin (cutMin (cutMin (cutMin (k1_pay47 x0 x1)))) := rfl
theorem h55 : k1_pay55 x0 x1 = eqMin (cutMin (cutMin (cutMin (cutMin (k1_pay47 x0 x1))))) := rfl

theorem h22 (w : FVec Ideal S8x10x60 .f32) (d : IVec S1x1x60 32) (m : Fin 60) (v77 : FVec Ideal S1x1x60 .f32) (v81 : FVec Ideal S8x10x60 .f32)
    (hd : k1_pay20 v77 v81 = d) : k1_pay22 w v77 v81 (ix3 0 0 m) = if d (ix3 0 0 m) = 1#32 then (redMin w (ix3 0 0 m) : EReal) else 0 := by
  have h21 : k1_pay21 w = redMin w := rfl
  rw [← h21, ← hd]
  pointwise [k1_pay22]
  simp only [select_cmpi_eq]

theorem h33 (w : FVec Ideal S8x10x60 .f32) (d : IVec S1x1x60 32) (v : FVec Ideal S1x1x60 .f32) (m : Fin 60) :
    k1_pay33 w d v (eqMin w) maskAll (ix3 0 0 m)
      = if d (ix3 0 0 m) = 5#32 then (redMin (cutMin (cutMin (cutMin (cutMin w)))) (ix3 0 0 m) : EReal)
        else if d (ix3 0 0 m) = 4#32 then (redMin (cutMin (cutMin (cutMin w))) (ix3 0 0 m) : EReal)
        else if d (ix3 0 0 m) = 3#32 then (redMin (cutMin (cutMin w)) (ix3 0 0 m) : EReal)
        else if d (ix3 0 0 m) = 2#32 then (redMin (cutMin w) (ix3 0 0 m) : EReal) else v (ix3 0 0 m) := by
  have e26 : k1_pay26 w (eqMin w) maskAll = redMin (cutMin w) := rfl
  have e28 : k1_pay28 w (eqMin w) maskAll = redMin (cutMin (cutMin w)) := rfl
  have e30 : k1_pay30 w (eqMin w) maskAll = redMin (cutMin (cutMin (cutMin w))) := rfl
  have e32 : k1_pay32 w (eqMin w) maskAll = redMin (cutMin (cutMin (cutMin (cutMin w)))) := rfl
  rw [← e26, ← e28, ← e30, ← e32]
  pointwise [k1_pay33]
  simp only [select_cmpi_eq]

theorem h44 (w : FVec Ideal S8x10x60 .f32) (d : IVec S1x1x60 32) (v : FVec Ideal S1x1x60 .f32) (m : Fin 60) :
    k1_pay44 d w v (eqMin w) maskAll (ix3 0 0 m)
      = if d (ix3 0 0 m) = 9#32 then (redMin (cutMin (cutMin (cutMin (cutMin w)))) (ix3 0 0 m) : EReal)
        else if d (ix3 0 0 m) = 8#32 then (redMin (cutMin (cutMin (cutMin w))) (ix3 0 0 m) : EReal)
        else if d (ix3 0 0 m) = 7#32 then (redMin (cutMin (cutMin w)) (ix3 0 0 m) : EReal)
        else if d (ix3 0 0 m) = 6#32 then (redMin (cutMin w) (ix3 0 0 m) : EReal) else v (ix3 0 0 m) := by
  have e37 : k1_pay37 w (eqMin w) maskAll = redMin (cutMin w) := rfl
  have e39 : k1_pay39 w (eqMin w) maskAll = redMin (cutMin (cutMin w)) := rfl
  have e41 : k1_pay41 w (eqMin w) maskAll = redMin (cutMin (cutMin (cutMin w))) := rfl
  have e43 : k1_pay43 w (eqMin w) maskAll = redMin (cutMin (cutMin (cutMin (cutMin w)))) := rfl
  rw [← e37, ← e39, ← e41, ← e43]
  pointwise [k1_pay44]
  simp only [select_cmpi_eq]

theorem h1 (w : FVec Ideal S8x10x60 .f32) (d : IVec S1x1x60 32) (v : FVec Ideal S1x1x60 .f32) (m : Fin 60) :
    k1_pay1 d w v (eqMin w) maskAll (ix3 0 0 m)
      = if d (ix3 0 0 m) = 10#32 then (redMin (cutMin w) (ix3 0 0 m) : EReal) else v (ix3 0 0 m) := by
  have e : k1_pay1 d w v (eqMin w) maskAll = shapeCast S1x1x60 (shapeCast S1x60 (select (cmpi .eq d (broadcast S1x1x60 10#32)) (redMin (cutMin w)) v)
    shapeCasts_S1x1x60_S1x60) shapeCasts_S1x60_S1x1x60 := rfl
  rw [e]
  pointwise
  simp only [select_cmpi_eq]

theorem out1_2_apply (h : ∀ q : Fin 8 × Fin 10, ∀ m : Fin 60, (-1 : EReal) ≤ x0 (ix4 0 q.1 q.2 m)) (m : Fin 60) :
    out1_2 x0 x1 (ix3 0 0 m) = pickK (dynK (topSum (tops fun q : Fin 8 × Fin 10 => (x0 (ix4 0 q.1 q.2 m) : EReal))))
      (lows fun q : Fin 8 × Fin 10 => (x1 (ix4 0 q.1 q.2 m) : EReal)) := by
  unfold out1_2
  rw [View.canon_unit_zero hz3]
  have hd := dyn_read x0 x1 m
  have e2 : cc (k1_pay2 (View.ld x0 r1_0)) m = fun q : Fin 8 × Fin 10 => (x0 (ix4 0 q.1 q.2 m) : EReal) := by
    funext q
    simp only [View.ld_unit_zero (S := S1x8x10x60) hz4]
    pointwise [k1_pay2]
  have e3 : cc (k1_pay47 x0 x1) m = fun q : Fin 8 × Fin 10 => (x1 (ix4 0 q.1 q.2 m) : EReal) := by
    funext q
    unfold k1_pay47
    simp only [View.ld_unit_zero (S := S1x8x10x60) hz4]
    pointwise [k1_pay3]
  rw [e2, show (topRound fun q : Fin 8 × Fin 10 => (x0 (ix4 0 q.1 q.2 m) : EReal)) = tops fun q : Fin 8 × Fin 10 => (x0 (ix4 0 q.1 q.2 m) : EReal) from
    funext fun r => topRound_eq _ (fun q => h q m) r] at hd
  rw [← hd, ← e3, ← show lowRound (cc (k1_pay47 x0 x1) m) = lows (cc (k1_pay47 x0 x1) m) from funext fun r => lowRound_eq _ r]
  have e42 : k1_pay42 (k1_pay54 x0 x1) (k1_pay55 x0 x1) (k1_pay56 x0 x1) = cutMin (cutMin (cutMin (cutMin (k1_pay54 x0 x1)))) := rfl
  have e45 : k1_pay45 (k1_pay54 x0 x1) (k1_pay55 x0 x1) (k1_pay56 x0 x1) = eqMin (cutMin (cutMin (cutMin (cutMin (k1_pay54 x0 x1))))) := rfl
  have e46 : k1_pay46 (F := Ideal) = maskAll := rfl
  have e56 : k1_pay56 x0 x1 = maskAll := rfl
  have e55 : k1_pay55 x0 x1 = eqMin (k1_pay54 x0 x1) := rfl
  have e53 : k1_pay53 x0 x1 = maskAll := rfl
  rw [e42, e45, e46, h1, e55, e56, h44, h52, e53, h33, h22 _ (k1_pay51 x0 x1) m _ _ rfl, h54]
  generalize k1_pay51 x0 x1 (ix3 0 0 m) = d
  generalize k1_pay47 x0 x1 = w
  have e : ∀ r, redMin (cutMin^[r] w) (ix3 0 0 m) = lowRound (cc w m) r := fun r => redMin_rounds w r m
  have i0 : w = cutMin^[0] w := rfl
  have i1 : cutMin w = cutMin^[1] w := rfl
  have i2 := itcutMin 1 w
  have i3 := itcutMin 2 w
  have i4 := itcutMin 3 w
  have i5 := itcutMin 4 w
  have i6 := itcutMin 5 w
  have i7 := itcutMin 6 w
  have i8 := itcutMin 7 w
  have i9 := itcutMin 8 w
  rw [i1, i2, i3, i4, i5, i6, i7, i8, i9]
  have e0 := e 0
  rw [← i0] at e0
  rw [e0]
  simp only [e]
  rfl

end

end Cert.KernelIdeal.Own

end
-- ==== Proof.Block3.lean ====
/-
  What one block of the third call adds to its image's sums.
-/
module

public import proofs.«01_k».proof.Proof.Gen.KernelIdeal.Frame
public import proofs.«01_k».proof.Proof.Cand2
public import proofs.«01_k».proof.Proof.Spec
public import Idealize.ShloMosaic.Lib.Pipeline.Value

@[expose] public section

noncomputable section

namespace Cert.KernelIdeal.Own

open Cert.KernelIdeal Cert.KernelIdeal.Gen Cert.Own Idealize.ShloMosaic Idealize.ShloMosaic.TcCoe Idealize.SL.Sem

section

variable (x0 : Vec Ideal S1x4200x4 .f32) (x1 : Vec Ideal S4200x2 .f32) (x2 : Vec Ideal S1x4x60 .f32) (x3 : Vec Ideal S1x4200x1 .f32) (x4 : Vec Ideal S1x4200x60 .bf16) (x5 : Vec Ideal S1x1x60 .f32) (x6 : Vec Ideal S1x4200x1 .f32) (x7 : Vec Ideal S1x4200x1 .f32)

def fgV : FVec Ideal S4200x1 .f32 :=
  k2_pay25 (k2_pay9 x1) (k2_pay10 x1) (k2_pay15 x2) (k2_pay16 x2) (k2_pay17 x2) (k2_pay18 x2) (k2_pay19 x1 x2) (k2_pay20 x1) (k2_pay21 x2)

def iouV : FVec Ideal S4200x60 .f32 :=
  k2_pay27 (k2_pay11 x0) (k2_pay12 x0) (k2_pay13 x0) (k2_pay14 x0) (k2_pay15 x2) (k2_pay16 x2) (k2_pay17 x2) (k2_pay18 x2)
    (k2_pay26 (k2_pay11 x0) (k2_pay13 x0) (k2_pay15 x2) (k2_pay17 x2))

def restV : FVec Ideal S4200x60 .f32 :=
  k2_pay28 (k2_pay11 x0) (k2_pay12 x0) (k2_pay13 x0) (k2_pay14 x0) (k2_pay15 x2) (k2_pay16 x2) (k2_pay17 x2) (k2_pay18 x2)
    (k2_pay24 (k2_pay9 x1) (k2_pay10 x1) (k2_pay15 x2) (k2_pay16 x2) (k2_pay17 x2) (k2_pay18 x2) (k2_pay19 x1 x2) (k2_pay20 x1) (k2_pay21 x2))
    (fgV x1 x2) (k2_pay26 (k2_pay11 x0) (k2_pay13 x0) (k2_pay15 x2) (k2_pay17 x2))

def matV : FVec Ideal S4200x60 .f32 := k2_pay30 (k2_pay5 x4) (k2_pay6 x5) (restV x0 x1 x2) (k2_pay29 (k2_pay4 x3))
def posV : FVec Ideal S4200x1 .f32 := k2_pay31 (k2_pay5 x4) (k2_pay6 x5) (fgV x1 x2) (restV x0 x1 x2) (k2_pay29 (k2_pay4 x3))
def selV : FVec Ideal S4200x60 .f32 := k2_pay32 (k2_pay5 x4) (k2_pay6 x5) (fgV x1 x2) (restV x0 x1 x2) (k2_pay29 (k2_pay4 x3))

def part : FVec Ideal S1x1x4 .f32 :=
  k2_pay51 (k2_pay8 x7) (posV x0 x1 x2 x3 x4 x5) (k2_pay33 (k2_pay5 x4) (k2_pay6 x5) (fgV x1 x2) (restV x0 x1 x2) (k2_pay29 (k2_pay4 x3)))
    (k2_pay36 (k2_pay7 x6) (k2_pay34 (k2_pay4 x3) (k2_pay7 x6)) (k2_pay35 (k2_pay5 x4) (k2_pay6 x5) (fgV x1 x2) (restV x0 x1 x2) (k2_pay29 (k2_pay4 x3))))
    (k2_pay37 (iouV x0 x2) (selV x0 x1 x2 x3 x4 x5))
    (k2_pay39 (k2_pay2 x0)) (k2_pay40 (k2_pay2 x0)) (k2_pay42 (k2_pay2 x0))
    (k2_pay43 (k2_pay3 x2) (selV x0 x1 x2 x3 x4 x5)) (k2_pay44 (k2_pay3 x2) (selV x0 x1 x2 x3 x4 x5)) (k2_pay46 (k2_pay3 x2) (selV x0 x1 x2 x3 x4 x5))
    (k2_pay48 (k2_pay2 x0) (k2_pay3 x2) (selV x0 x1 x2 x3 x4 x5)) (k2_pay49 (k2_pay2 x0) (k2_pay3 x2) (selV x0 x1 x2 x3 x4 x5))
    (k2_pay50 (k2_pay2 x0) (k2_pay3 x2) (selV x0 x1 x2 x3 x4 x5))

end

theorem out_B (c : Dev nD) (i : grid2.Coords) (arg2 : Memref sig .tc .vmem S1x4200x4 .f32) (harg2 : arg2.IsWhole) (arg3 : Memref sig .tc .vmem S4200x2 .f32) (harg3 : arg3.IsWhole) (arg4 : Memref sig .tc .vmem S1x4x60 .f32) (harg4 : arg4.IsWhole) (arg5 : Memref sig .tc .vmem S1x4200x1 .f32) (harg5 : arg5.IsWhole) (arg6 : Memref sig .tc .vmem S1x4200x60 .bf16) (harg6 : arg6.IsWhole) (arg7 : Memref sig .tc .vmem S1x1x60 .f32) (harg7 : arg7.IsWhole) (arg8 : Memref sig .tc .vmem S1x4200x1 .f32) (harg8 : arg8.IsWhole) (arg9 : Memref sig .tc .vmem S1x4200x1 .f32) (harg9 : arg9.IsWhole) (arg10 : Memref sig .tc .vmem S1x1x4 .f32) (harg10 : arg10.IsWhole) (hc0 : ¬cond2_0 i) (x0 : Vec Ideal S1x4200x4 .f32) (x1 : Vec Ideal S4200x2 .f32) (x2 : Vec Ideal S1x4x60 .f32) (x3 : Vec Ideal S1x4200x1 .f32) (x4 : Vec Ideal S1x4200x60 .bf16) (x5 : Vec Ideal S1x1x60 .f32) (x6 : Vec Ideal S1x4200x1 .f32) (x7 : Vec Ideal S1x4200x1 .f32) (xo : Vec Ideal S1x1x4 .f32) :
    out2_B_8 c i arg2 harg2 arg3 harg3 arg4 harg4 arg5 harg5 arg6 harg6 arg7 harg7 arg8 harg8 arg9 harg9 arg10 harg10 hc0 x0 x1 x2 x3 x4 x5 x6 x7 xo = k2_pay1 (part x0 x1 x2 x3 x4 x5 x6 x7) xo := by
  unfold out2_B_8
  rw [View.read_writes_eq_canon _ _ _ (cover2_B_8 c i arg2 harg2 arg3 harg3 arg4 harg4 arg5 harg5 arg6 harg6 arg7 harg7 arg8 harg8 arg9 harg9 arg10 harg10 hc0 x0 x1 x2 x3 x4 x5 x6 x7 xo)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x4200x4) hz3, View.ld_unit_zero (S := S4200x2) hz2, View.ld_unit_zero (S := S1x4x60) hz3, View.ld_unit_zero (S := S1x4200x1) hz3, View.ld_unit_zero (S := S1x4200x60) hz3, View.ld_unit_zero (S := S1x1x60) hz3, View.ld_unit_zero (S := S1x1x4) hz3]
  unfold part selV posV restV fgV iouV
  rfl

theorem out_A (c : Dev nD) (i : grid2.Coords) (arg2 : Memref sig .tc .vmem S1x4200x4 .f32) (harg2 : arg2.IsWhole) (arg3 : Memref sig .tc .vmem S4200x2 .f32) (harg3 : arg3.IsWhole) (arg4 : Memref sig .tc .vmem S1x4x60 .f32) (harg4 : arg4.IsWhole) (arg5 : Memref sig .tc .vmem S1x4200x1 .f32) (harg5 : arg5.IsWhole) (arg6 : Memref sig .tc .vmem S1x4200x60 .bf16) (harg6 : arg6.IsWhole) (arg7 : Memref sig .tc .vmem S1x1x60 .f32) (harg7 : arg7.IsWhole) (arg8 : Memref sig .tc .vmem S1x4200x1 .f32) (harg8 : arg8.IsWhole) (arg9 : Memref sig .tc .vmem S1x4200x1 .f32) (harg9 : arg9.IsWhole) (arg10 : Memref sig .tc .vmem S1x1x4 .f32) (harg10 : arg10.IsWhole) (hc0 : cond2_0 i) (x0 : Vec Ideal S1x4200x4 .f32) (x1 : Vec Ideal S4200x2 .f32) (x2 : Vec Ideal S1x4x60 .f32) (x3 : Vec Ideal S1x4200x1 .f32) (x4 : Vec Ideal S1x4200x60 .bf16) (x5 : Vec Ideal S1x1x60 .f32) (x6 : Vec Ideal S1x4200x1 .f32) (x7 : Vec Ideal S1x4200x1 .f32) :
    out2_A_8 c i arg2 harg2 arg3 harg3 arg4 harg4 arg5 harg5 arg6 harg6 arg7 harg7 arg8 harg8 arg9 harg9 arg10 harg10 hc0 x0 x1 x2 x3 x4 x5 x6 x7 = k2_pay1 (part x0 x1 x2 x3 x4 x5 x6 x7) (k2_pay52 (F := Ideal)) := by
  unfold out2_A_8
  rw [View.read_writes_eq_canon _ _ _ (cover2_A_8 c i arg2 harg2 arg3 harg3 arg4 harg4 arg5 harg5 arg6 harg6 arg7 harg7 arg8 harg8 arg9 harg9 arg10 harg10 hc0 x0 x1 x2 x3 x4 x5 x6 x7)]
  unfold kernelRun2_A
  dsimp only
  sl_unfold_words
  rw [View.canon_cons_unit_zero (S := S1x1x4) hz3, View.readCov_unit_zero (S := S1x1x4) _ hz3]
  simp only [View.readAt_eq_ld, harg2.read_unread, harg3.read_unread, harg4.read_unread, harg5.read_unread, harg6.read_unread, harg7.read_unread, harg8.read_unread, harg9.read_unread, View.ld_unit_zero (S := S1x4200x4) hz3, View.ld_unit_zero (S := S4200x2) hz2, View.ld_unit_zero (S := S1x4x60) hz3, View.ld_unit_zero (S := S1x4200x1) hz3, View.ld_unit_zero (S := S1x4200x60) hz3, View.ld_unit_zero (S := S1x1x60) hz3]
  unfold part selV posV restV fgV iouV
  rfl

end Cert.KernelIdeal.Own

end
-- ==== Proof.Part3.lean ====
/-
  The sums one block of the third call adds, read in scalars.
-/
module

public import proofs.«01_k».proof.Proof.Gen.KernelIdeal.Frame
public import proofs.«01_k».proof.Proof.Block3
public import proofs.«01_k».proof.Proof.Spec
public import Idealize.ShloMosaic.Lib.Pipeline.Value

@[expose] public section

noncomputable section

namespace Cert.KernelIdeal.Own

open Cert.KernelIdeal Cert.KernelIdeal.Gen Cert.Own Idealize.ShloMosaic Idealize.ShloMosaic.TcCoe Idealize.SL.Sem

section

variable (x0 : Vec Ideal S1x4200x4 .f32) (x1 : Vec Ideal S4200x2 .f32) (x2 : Vec Ideal S1x4x60 .f32) (x3 : Vec Ideal S1x4200x1 .f32) (x4 : Vec Ideal S1x4200x60 .bf16) (x5 : Vec Ideal S1x1x60 .f32) (x6 : Vec Ideal S1x4200x1 .f32) (x7 : Vec Ideal S1x4200x1 .f32)

theorem fgV_apply (t : Fin 4200) : fgV x1 x2 (ix2 t 0) = bitE (fgBit (rA x1 t) (rG x2)) := by
  unfold fgV
  pointwise [k2_pay25, k2_pay22, k2_pay23, k2_pay9, k2_pay10, k2_pay15, k2_pay16, k2_pay17, k2_pay18, k2_pay19, k2_pay20, k2_pay21, k2_pay3]
  simp only [sitofp_bit]
  rw [← fg_eq_fold]
  rfl

theorem iouV_apply (t : Fin 4200) (m : Fin 60) : iouV x0 x2 (ix2 t m) = iou (rP x0 t) (rG x2 m) := by
  unfold iouV
  pointwise [k2_pay27, k2_pay26, k2_pay11, k2_pay12, k2_pay13, k2_pay14, k2_pay15, k2_pay16, k2_pay17, k2_pay18, k2_pay3, k2_pay2]
  rfl

theorem restV_apply (t : Fin 4200) (m : Fin 60) : restV x0 x1 x2 (ix2 t m) = rest (rA x1 t) (rP x0 t) (rG x2 m) (rG x2) := by
  have hf := fgV_apply x1 x2 t
  unfold restV
  generalize fgV x1 x2 = f at hf
  pointwise [k2_pay28, k2_pay27, k2_pay26, k2_pay24, k2_pay22, k2_pay23, k2_pay9, k2_pay10, k2_pay11, k2_pay12, k2_pay13, k2_pay14, k2_pay15, k2_pay16, k2_pay17, k2_pay18, k2_pay19, k2_pay20, k2_pay21, k2_pay2, k2_pay3]
  rw [hf]
  simp only [sitofp_bit]
  rfl

theorem sum_apply (t : Fin 4200) (m : Fin 60) : k2_pay29 (k2_pay4 x3) (ix2 t m) = x3 (ix3 0 t 0) := by
  pointwise [k2_pay29, k2_pay4]

theorem pay5_apply' (t : Fin 4200) (m : Fin 60) : k2_pay5 x4 (ix2 t m) = x4 (ix3 0 t m) := by
  pointwise [k2_pay5]

theorem pay6_apply' (m : Fin 60) : k2_pay6 x5 (ix2 0 m) = x5 (ix3 0 0 m) := by
  pointwise [k2_pay6]

theorem pay7_apply' (t : Fin 4200) : k2_pay7 x6 (ix2 t 0) = x6 (ix3 0 t 0) := by
  pointwise [k2_pay7]

theorem pay8_apply' (t : Fin 4200) : k2_pay8 x7 (ix2 t 0) = x7 (ix3 0 t 0) := by
  pointwise [k2_pay8]

theorem mat_read (d : FVec Ideal S4200x60 .f32) (h : FVec Ideal S1x60 .f32) (r s : FVec Ideal S4200x60 .f32) (t : Fin 4200) (m : Fin 60) :
    k2_pay30 d h r s (ix2 t m) = settle (fun m => s (ix2 t m) + d (ix2 t m) + r (ix2 t m))
      (taken (fun m => s (ix2 t m) + d (ix2 t m) + r (ix2 t m)) (fun m => h (ix2 0 m))) m := by
  pointwise [k2_pay30]
  simp only [sitofp_bit]
  rw [ofBits_pinf]
  have h := fold_best fun x : Fin 60 => (s (ix2 t x) : EReal) + d (ix2 t x) + r (ix2 t x)
  have e : Finset.fold min (⊤ : EReal) (fun x : Fin 60 => (s (ix2 t x) : EReal) + d (ix2 t x) + r (ix2 t x)) Finset.univ
    = Finset.univ.inf fun x : Fin 60 => (s (ix2 t x) : EReal) + d (ix2 t x) + r (ix2 t x) := rfl
  rw [e, h, cmpi_fin]
  rfl

theorem pos_read (d : FVec Ideal S4200x60 .f32) (h : FVec Ideal S1x60 .f32) (f : FVec Ideal S4200x1 .f32) (r s : FVec Ideal S4200x60 .f32) (t : Fin 4200) (b : BitVec 1) (hb : f (ix2 t 0) = bitE b) :
    k2_pay31 d h f r s (ix2 t 0) = bitE (IntOp.andi (BitVec.ofBool (decide (0 < ∑ m : Fin 60, (k2_pay30 d h r s (ix2 t m) : EReal)))) b) := by
  pointwise [k2_pay31]
  rw [hb, bit_pos, sitofp_bit]

theorem part_read (q c pos : FVec Ideal S4200x1 .f32) (u w : Ideal .f32) (a b e a' b' e' g h k : FVec Ideal S4200x1 .f32) :
    k2_pay51 q pos u w c a b e a' b' e' g h k (ix3 0 0 0) = w
    ∧ k2_pay51 q pos u w c a b e a' b' e' g h k (ix3 0 0 1) = (∑ t : Fin 4200, (1 - ((h (ix2 t 0) : EReal)
        - Ideal.div (max ((k (ix2 t 0) : EReal) - min (a (ix2 t 0) : EReal) (a' (ix2 t 0))) 0 * max (max (e (ix2 t 0) : EReal) (e' (ix2 t 0)) - min (b (ix2 t 0) : EReal) (b' (ix2 t 0))) 0 - (g (ix2 t 0) : EReal))
          (max (max ((k (ix2 t 0) : EReal) - min (a (ix2 t 0) : EReal) (a' (ix2 t 0))) 0 * max (max (e (ix2 t 0) : EReal) (e' (ix2 t 0)) - min (b (ix2 t 0) : EReal) (b' (ix2 t 0))) 0)
            (Ideal.ofBits FTy.f32 841731191#32)))) * (pos (ix2 t 0) : EReal))
    ∧ k2_pay51 q pos u w c a b e a' b' e' g h k (ix3 0 0 2) = (∑ t : Fin 4200, bce (q (ix2 t 0)) (c (ix2 t 0)) * (pos (ix2 t 0) : EReal))
    ∧ k2_pay51 q pos u w c a b e a' b' e' g h k (ix3 0 0 3) = u := by
  refine ⟨?_, ?_, ?_, ?_⟩
  all_goals pointwise [k2_pay51]
  all_goals simp [bce]

theorem pay33_read (d : FVec Ideal S4200x60 .f32) (h : FVec Ideal S1x60 .f32) (f : FVec Ideal S4200x1 .f32) (r s : FVec Ideal S4200x60 .f32) :
    k2_pay33 d h f r s = ∑ t : Fin 4200, (k2_pay31 d h f r s (ix2 t 0) : EReal) := by
  unfold k2_pay33
  pointwise
  simp

theorem pay36_read (v : FVec Ideal S4200x1 .f32) (s : FVec Ideal S4200x1 .f32) (w : FVec Ideal S4200x60 .f32) :
    k2_pay36 v (k2_pay34 s v) w = (∑ t : Fin 4200, (v (ix2 t 0) : EReal) * s (ix2 t 0)) + ∑ t : Fin 4200, ∑ m : Fin 60, (w (ix2 t m) : EReal) * v (ix2 t 0) := by
  unfold k2_pay36 k2_pay34
  pointwise
  simp

theorem pay38_read (g : FVec Ideal S4x60 .f32) (w : FVec Ideal S4200x60 .f32) (t : Fin 4200) (k : Fin 4) :
    k2_pay38 g w (ix2 t k) = ∑ m : Fin 60, (w (ix2 t m) : EReal) * g (ix2 k m) := by
  pointwise [k2_pay38]

theorem pay37_read (i : FVec Ideal S4200x60 .f32) (w : FVec Ideal S4200x60 .f32) (t : Fin 4200) :
    k2_pay37 i w (ix2 t 0) = ∑ m : Fin 60, (w (ix2 t m) : EReal) * i (ix2 t m) := by
  pointwise [k2_pay37]

/-- The rows of a block of the third call. -/
abbrev row3 (t : Fin 4200) : Fin 60 → EReal := fun m => x3 (ix3 0 t 0) + x4 (ix3 0 t m) + rest (rA x1 t) (rP x0 t) (rG x2 m) (rG x2)
abbrev tk3 (t : Fin 4200) : Fin 60 → EReal := taken (row3 x0 x1 x2 x3 x4 t) fun m => x5 (ix3 0 0 m)
abbrev fg3 (t : Fin 4200) : BitVec 1 := fgBit (rA x1 t) (rG x2)
abbrev sel3 (t : Fin 4200) : Fin 60 → EReal := msel (row3 x0 x1 x2 x3 x4 t) (tk3 x0 x1 x2 x3 x4 x5 t) (fg3 x1 x2 t)
abbrev pos3 (t : Fin 4200) : EReal := bitE (posB (row3 x0 x1 x2 x3 x4 t) (tk3 x0 x1 x2 x3 x4 x5 t) (fg3 x1 x2 t))

theorem matV_apply (t : Fin 4200) (m : Fin 60) :
    matV x0 x1 x2 x3 x4 x5 (ix2 t m) = settle (row3 x0 x1 x2 x3 x4 t) (tk3 x0 x1 x2 x3 x4 x5 t) m := by
  unfold matV
  rw [mat_read]
  simp only [sum_apply, pay5_apply', pay6_apply', restV_apply]

theorem posV_apply (t : Fin 4200) : posV x0 x1 x2 x3 x4 x5 (ix2 t 0) = pos3 x0 x1 x2 x3 x4 x5 t := by
  have h := fun m => matV_apply x0 x1 x2 x3 x4 x5 t m
  unfold matV at h
  unfold posV
  rw [pos_read _ _ _ _ _ t _ (fgV_apply x1 x2 t)]
  simp only [h]
  rfl

theorem selV_apply (t : Fin 4200) (m : Fin 60) : selV x0 x1 x2 x3 x4 x5 (ix2 t m) = sel3 x0 x1 x2 x3 x4 x5 t m := by
  have h := matV_apply x0 x1 x2 x3 x4 x5 t m
  have h' := posV_apply x0 x1 x2 x3 x4 x5 t
  unfold matV at h
  unfold posV at h'
  unfold selV
  pointwise [k2_pay32]
  rw [h, h']
  rfl

/-- The matched box's coordinates. -/
abbrev box3 (t : Fin 4200) : Fin 4 → EReal := fun k => ∑ m, sel3 x0 x1 x2 x3 x4 x5 t m * rG x2 m k

theorem abox_apply (t : Fin 4200) (k : Fin 4) : k2_pay38 (k2_pay3 x2) (selV x0 x1 x2 x3 x4 x5) (ix2 t k) = box3 x0 x1 x2 x3 x4 x5 t k := by
  rw [pay38_read]
  simp only [selV_apply]
  refine Finset.sum_congr rfl fun m _ => ?_
  congr 1
  pointwise [k2_pay3]

theorem part_0 : part x0 x1 x2 x3 x4 x5 x6 x7 (ix3 0 0 0)
    = (∑ t : Fin 4200, (x6 (ix3 0 t 0) : EReal) * x3 (ix3 0 t 0)) + ∑ t : Fin 4200, ∑ m : Fin 60, sel3 x0 x1 x2 x3 x4 x5 t m * x4 (ix3 0 t m) * x6 (ix3 0 t 0) := by
  have h := fun t m => selV_apply x0 x1 x2 x3 x4 x5 t m
  unfold part
  rw [(part_read _ _ _ _ _ _ _ _ _ _ _ _ _ _).1, pay36_read]
  simp only [pay7_apply']
  refine congrArg₂ (fun a b : EReal => a + b) ?_ ?_
  · refine Finset.sum_congr rfl fun t _ => ?_
    refine congrArg (fun a : EReal => (x6 (ix3 0 t 0) : EReal) * a) ?_
    pointwise [k2_pay4]
  · refine Finset.sum_congr rfl fun t _ => Finset.sum_congr rfl fun m _ => ?_
    rw [← h t m, ← pay5_apply' x4 t m]
    rfl

theorem part_1 : part x0 x1 x2 x3 x4 x5 x6 x7 (ix3 0 0 1)
    = ∑ t : Fin 4200, (1 - giou (rP x0 t) (box3 x0 x1 x2 x3 x4 x5 t)) * pos3 x0 x1 x2 x3 x4 x5 t := by
  unfold part
  rw [(part_read _ _ _ _ _ _ _ _ _ _ _ _ _ _).2.1]
  have h := fun t k => abox_apply x0 x1 x2 x3 x4 x5 t k
  refine Finset.sum_congr rfl fun t _ => ?_
  rw [posV_apply]
  congr 2
  generalize selV x0 x1 x2 x3 x4 x5 = w at h ⊢
  rw [show box3 x0 x1 x2 x3 x4 x5 t = fun k => k2_pay38 (k2_pay3 x2) w (ix2 t k) from funext fun k => (h t k).symm]
  unfold giou hull union2 inter2
  pointwise [k2_pay39, k2_pay40, k2_pay41, k2_pay42, k2_pay43, k2_pay44, k2_pay45, k2_pay46, k2_pay47, k2_pay48, k2_pay49, k2_pay50, k2_pay2]

theorem part_2 : part x0 x1 x2 x3 x4 x5 x6 x7 (ix3 0 0 2)
    = ∑ t : Fin 4200, bce (x7 (ix3 0 t 0)) (∑ m, sel3 x0 x1 x2 x3 x4 x5 t m * iou (rP x0 t) (rG x2 m)) * pos3 x0 x1 x2 x3 x4 x5 t := by
  unfold part
  rw [(part_read _ _ _ _ _ _ _ _ _ _ _ _ _ _).2.2.1]
  simp only [posV_apply, pay8_apply', pay37_read, selV_apply, iouV_apply]

theorem part_3 : part x0 x1 x2 x3 x4 x5 x6 x7 (ix3 0 0 3) = ∑ t : Fin 4200, pos3 x0 x1 x2 x3 x4 x5 t := by
  have h := fun t => posV_apply x0 x1 x2 x3 x4 x5 t
  unfold part
  rw [(part_read _ _ _ _ _ _ _ _ _ _ _ _ _ _).2.2.2, pay33_read]
  unfold posV at h
  simp only [h]

theorem acc_apply (a xo : FVec Ideal S1x1x4 .f32) (k : Fin 4) : k2_pay1 a xo (ix3 0 0 k) = (xo (ix3 0 0 k) : EReal) + a (ix3 0 0 k) := by
  pointwise [k2_pay1]

theorem zero_apply (k : Fin 4) : k2_pay52 (F := Ideal) (ix3 0 0 k) = (0 : EReal) := by
  pointwise [k2_pay52]

end

end Cert.KernelIdeal.Own

end
-- ==== Proof.Arrays.lean ====
/-
  The blocks of the three calls read off their arrays, and the arrays the calls leave.
-/
module

public import proofs.«01_k».proof.Proof.Gen.KernelIdeal.Frame
public import proofs.«01_k».proof.Proof.Cand1
public import proofs.«01_k».proof.Proof.Cand2
public import proofs.«01_k».proof.Proof.Part3
public import Idealize.ShloMosaic.Lib.Pipeline.Value

@[expose] public section

set_option maxRecDepth 16384

noncomputable section

namespace Cert.KernelIdeal.Own

open Cert.KernelIdeal Cert.KernelIdeal.Gen Cert.Own Idealize.ShloMosaic Idealize.ShloMosaic.TcCoe Idealize.SL.Sem
open Idealize.ShloMosaic.Pipeline (Dat Cfg Window)

/-- The example and the anchor of row `r` at grid point `t`. -/
def gb (t : ℕ) : Fin 8 := ⟨t / 8 % 8, Nat.mod_lt _ (by decide)⟩
def gj (t : ℕ) : Fin 8 := ⟨t % 8, Nat.mod_lt _ (by decide)⟩
def gn (j : Fin 8) (r : Fin 4200) : Fin 33600 := ⟨4200 * j.val + r.val, by have := j.isLt; have := r.isLt; omega⟩

variable (V : (c : Dev nD) → (b : Ref sig .tc) → Buf (Elt Ideal) ((c : Thread nD τ).loc b)) (c : Dev nD)

theorem at0_0 : ∀ t : Fin cfg0.N, win0_0.index t 0 = t.val / 8 ∧ win0_0.index t 1 = t.val % 8 ∧ win0_0.index t 2 = 0 := by decide +kernel

theorem at0_1 : ∀ t : Fin cfg0.N, win0_1.index t 0 = t.val / 8 ∧ win0_1.index t 1 = t.val % 8 ∧ win0_1.index t 2 = 0 := by decide +kernel

theorem at0_2 : ∀ t : Fin cfg0.N, win0_2.index t 0 = t.val % 8 ∧ win0_2.index t 1 = 0 := by decide +kernel

theorem at0_3 : ∀ t : Fin cfg0.N, win0_3.index t 0 = t.val / 8 ∧ win0_3.index t 1 = 0 ∧ win0_3.index t 2 = 0 := by decide +kernel

theorem at0_4 : ∀ t : Fin cfg0.N, win0_4.index t 0 = t.val / 8 ∧ win0_4.index t 1 = 0 ∧ win0_4.index t 2 = 0 := by decide +kernel

theorem at0_5 : ∀ t : Fin cfg0.N, win0_5.index t 0 = t.val / 8 ∧ win0_5.index t 1 = t.val % 8 ∧ win0_5.index t 2 = 0 := by decide +kernel

theorem at0_6 : ∀ t : Fin cfg0.N, win0_6.index t 0 = t.val / 8 ∧ win0_6.index t 1 = t.val % 8 ∧ win0_6.index t 2 = 0 := by decide +kernel

theorem at0_7 : ∀ t : Fin cfg0.N, win0_7.index t 0 = t.val / 8 ∧ win0_7.index t 1 = t.val % 8 ∧ win0_7.index t 2 = 0 ∧ win0_7.index t 3 = 0 := by decide +kernel

theorem at0_8 : ∀ t : Fin cfg0.N, win0_8.index t 0 = t.val / 8 ∧ win0_8.index t 1 = t.val % 8 ∧ win0_8.index t 2 = 0 ∧ win0_8.index t 3 = 0 := by decide +kernel

theorem iblk0_0 (t : Fin cfg0.N) (i1 : Fin 4200) (i2 : Fin 80) : (iblk0 V c 0 t : Vec Ideal S1x4200x80 .f32) (ix3 0 i1 i2) = V c main_arg0 (ix3 (gb t.val) (gn (gj t.val) i1) i2) := by
  have hi := at0_0 t
  have ht : t.val < 64 := t.isLt
  unfold iblk0
  rw [View.read_apply]
  show V c main_arg0 _ = V c main_arg0 _
  congr 1
  funext a
  apply Fin.ext
  match a with
  | ⟨0, _⟩ => show win0_0.index t 0 * 1 + 1 * 0 = t.val / 8 % 8; rw [hi.1]; omega
  | ⟨1, _⟩ => show win0_0.index t 1 * 4200 + 1 * i1.val = 4200 * (t.val % 8) + i1.val; rw [hi.2.1]; omega
  | ⟨2, _⟩ => show win0_0.index t 2 * 80 + 1 * i2.val = i2.val; rw [hi.2.2]; omega

theorem iblk0_1 (t : Fin cfg0.N) (i1 : Fin 4200) (i2 : Fin 4) : (iblk0 V c 1 t : Vec Ideal S1x4200x4 .f32) (ix3 0 i1 i2) = V c main_arg1 (ix3 (gb t.val) (gn (gj t.val) i1) i2) := by
  have hi := at0_1 t
  have ht : t.val < 64 := t.isLt
  unfold iblk0
  rw [View.read_apply]
  show V c main_arg1 _ = V c main_arg1 _
  congr 1
  funext a
  apply Fin.ext
  match a with
  | ⟨0, _⟩ => show win0_1.index t 0 * 1 + 1 * 0 = t.val / 8 % 8; rw [hi.1]; omega
  | ⟨1, _⟩ => show win0_1.index t 1 * 4200 + 1 * i1.val = 4200 * (t.val % 8) + i1.val; rw [hi.2.1]; omega
  | ⟨2, _⟩ => show win0_1.index t 2 * 4 + 1 * i2.val = i2.val; rw [hi.2.2]; omega

theorem iblk0_2 (t : Fin cfg0.N) (i0 : Fin 4200) (i1 : Fin 2) : (iblk0 V c 2 t : Vec Ideal S4200x2 .f32) (ix2 i0 i1) = V c main_arg3 (ix2 (gn (gj t.val) i0) i1) := by
  have hi := at0_2 t
  have ht : t.val < 64 := t.isLt
  unfold iblk0
  rw [View.read_apply]
  show V c main_arg3 _ = V c main_arg3 _
  congr 1
  funext a
  apply Fin.ext
  match a with
  | ⟨0, _⟩ => show win0_2.index t 0 * 4200 + 1 * i0.val = 4200 * (t.val % 8) + i0.val; rw [hi.1]; omega
  | ⟨1, _⟩ => show win0_2.index t 1 * 2 + 1 * i1.val = i1.val; rw [hi.2]; omega

theorem iblk0_3 (t : Fin cfg0.N) (i2 : Fin 60) : (iblk0 V c 3 t : Vec Ideal S1x1x60 .i32) (ix3 0 0 i2) = V c main_v0 (ix3 (gb t.val) 0 i2) := by
  have hi := at0_3 t
  have ht : t.val < 64 := t.isLt
  unfold iblk0
  rw [View.read_apply]
  show V c main_v0 _ = V c main_v0 _
  congr 1
  funext a
  apply Fin.ext
  match a with
  | ⟨0, _⟩ => show win0_3.index t 0 * 1 + 1 * 0 = t.val / 8 % 8; rw [hi.1]; omega
  | ⟨1, _⟩ => show win0_3.index t 1 * 1 + 1 * 0 = 0; rw [hi.2.1]
  | ⟨2, _⟩ => show win0_3.index t 2 * 60 + 1 * i2.val = i2.val; rw [hi.2.2]; omega

theorem iblk0_4 (t : Fin cfg0.N) (i1 : Fin 4) (i2 : Fin 60) : (iblk0 V c 4 t : Vec Ideal S1x4x60 .f32) (ix3 0 i1 i2) = V c main_v1 (ix3 (gb t.val) i1 i2) := by
  have hi := at0_4 t
  have ht : t.val < 64 := t.isLt
  unfold iblk0
  rw [View.read_apply]
  show V c main_v1 _ = V c main_v1 _
  congr 1
  funext a
  apply Fin.ext
  match a with
  | ⟨0, _⟩ => show win0_4.index t 0 * 1 + 1 * 0 = t.val / 8 % 8; rw [hi.1]; omega
  | ⟨1, _⟩ => show win0_4.index t 1 * 4 + 1 * i1.val = i1.val; rw [hi.2.1]; omega
  | ⟨2, _⟩ => show win0_4.index t 2 * 60 + 1 * i2.val = i2.val; rw [hi.2.2]; omega

theorem at1_0 : ∀ t : Fin cfg1.N, win1_0.index t 0 = t.val ∧ win1_0.index t 1 = 0 ∧ win1_0.index t 2 = 0 ∧ win1_0.index t 3 = 0 := by decide +kernel

theorem at1_1 : ∀ t : Fin cfg1.N, win1_1.index t 0 = t.val ∧ win1_1.index t 1 = 0 ∧ win1_1.index t 2 = 0 ∧ win1_1.index t 3 = 0 := by decide +kernel

theorem at1_2 : ∀ t : Fin cfg1.N, win1_2.index t 0 = t.val ∧ win1_2.index t 1 = 0 ∧ win1_2.index t 2 = 0 := by decide +kernel

theorem iblk1_0 (t : Fin cfg1.N) (i1 : Fin 8) (i2 : Fin 10) (i3 : Fin 60) : (iblk1 V c 0 t : Vec Ideal S1x8x10x60 .f32) (ix4 0 i1 i2 i3) = V c main_v5_2 (ix4 (⟨t.val, t.isLt⟩ : Fin 8) i1 i2 i3) := by
  have hi := at1_0 t
  have ht : t.val < 8 := t.isLt
  unfold iblk1
  rw [View.read_apply]
  show V c main_v5_2 _ = V c main_v5_2 _
  congr 1
  funext a
  apply Fin.ext
  match a with
  | ⟨0, _⟩ => show win1_0.index t 0 * 1 + 1 * 0 = t.val; rw [hi.1]; omega
  | ⟨1, _⟩ => show win1_0.index t 1 * 8 + 1 * i1.val = i1.val; rw [hi.2.1]; omega
  | ⟨2, _⟩ => show win1_0.index t 2 * 10 + 1 * i2.val = i2.val; rw [hi.2.2.1]; omega
  | ⟨3, _⟩ => show win1_0.index t 3 * 60 + 1 * i3.val = i3.val; rw [hi.2.2.2]; omega

theorem iblk1_1 (t : Fin cfg1.N) (i1 : Fin 8) (i2 : Fin 10) (i3 : Fin 60) : (iblk1 V c 1 t : Vec Ideal S1x8x10x60 .f32) (ix4 0 i1 i2 i3) = V c main_v5_3 (ix4 (⟨t.val, t.isLt⟩ : Fin 8) i1 i2 i3) := by
  have hi := at1_1 t
  have ht : t.val < 8 := t.isLt
  unfold iblk1
  rw [View.read_apply]
  show V c main_v5_3 _ = V c main_v5_3 _
  congr 1
  funext a
  apply Fin.ext
  match a with
  | ⟨0, _⟩ => show win1_1.index t 0 * 1 + 1 * 0 = t.val; rw [hi.1]; omega
  | ⟨1, _⟩ => show win1_1.index t 1 * 8 + 1 * i1.val = i1.val; rw [hi.2.1]; omega
  | ⟨2, _⟩ => show win1_1.index t 2 * 10 + 1 * i2.val = i2.val; rw [hi.2.2.1]; omega
  | ⟨3, _⟩ => show win1_1.index t 3 * 60 + 1 * i3.val = i3.val; rw [hi.2.2.2]; omega

theorem at2_0 : ∀ t : Fin cfg2.N, win2_0.index t 0 = t.val / 8 ∧ win2_0.index t 1 = t.val % 8 ∧ win2_0.index t 2 = 0 := by decide +kernel

theorem at2_1 : ∀ t : Fin cfg2.N, win2_1.index t 0 = t.val % 8 ∧ win2_1.index t 1 = 0 := by decide +kernel

theorem at2_2 : ∀ t : Fin cfg2.N, win2_2.index t 0 = t.val / 8 ∧ win2_2.index t 1 = 0 ∧ win2_2.index t 2 = 0 := by decide +kernel

theorem at2_3 : ∀ t : Fin cfg2.N, win2_3.index t 0 = t.val / 8 ∧ win2_3.index t 1 = t.val % 8 ∧ win2_3.index t 2 = 0 := by decide +kernel

theorem at2_4 : ∀ t : Fin cfg2.N, win2_4.index t 0 = t.val / 8 ∧ win2_4.index t 1 = t.val % 8 ∧ win2_4.index t 2 = 0 := by decide +kernel

theorem at2_5 : ∀ t : Fin cfg2.N, win2_5.index t 0 = t.val / 8 ∧ win2_5.index t 1 = 0 ∧ win2_5.index t 2 = 0 := by decide +kernel

theorem at2_6 : ∀ t : Fin cfg2.N, win2_6.index t 0 = t.val / 8 ∧ win2_6.index t 1 = t.val % 8 ∧ win2_6.index t 2 = 0 := by decide +kernel

theorem at2_7 : ∀ t : Fin cfg2.N, win2_7.index t 0 = t.val / 8 ∧ win2_7.index t 1 = t.val % 8 ∧ win2_7.index t 2 = 0 := by decide +kernel

theorem at2_8 : ∀ t : Fin cfg2.N, win2_8.index t 0 = t.val / 8 ∧ win2_8.index t 1 = 0 ∧ win2_8.index t 2 = 0 := by decide +kernel

theorem iblk2_0 (t : Fin cfg2.N) (i1 : Fin 4200) (i2 : Fin 4) : (iblk2 V c 0 t : Vec Ideal S1x4200x4 .f32) (ix3 0 i1 i2) = V c main_arg1 (ix3 (gb t.val) (gn (gj t.val) i1) i2) := by
  have hi := at2_0 t
  have ht : t.val < 64 := t.isLt
  unfold iblk2
  rw [View.read_apply]
  show V c main_arg1 _ = V c main_arg1 _
  congr 1
  funext a
  apply Fin.ext
  match a with
  | ⟨0, _⟩ => show win2_0.index t 0 * 1 + 1 * 0 = t.val / 8 % 8; rw [hi.1]; omega
  | ⟨1, _⟩ => show win2_0.index t 1 * 4200 + 1 * i1.val = 4200 * (t.val % 8) + i1.val; rw [hi.2.1]; omega
  | ⟨2, _⟩ => show win2_0.index t 2 * 4 + 1 * i2.val = i2.val; rw [hi.2.2]; omega

theorem iblk2_1 (t : Fin cfg2.N) (i0 : Fin 4200) (i1 : Fin 2) : (iblk2 V c 1 t : Vec Ideal S4200x2 .f32) (ix2 i0 i1) = V c main_arg3 (ix2 (gn (gj t.val) i0) i1) := by
  have hi := at2_1 t
  have ht : t.val < 64 := t.isLt
  unfold iblk2
  rw [View.read_apply]
  show V c main_arg3 _ = V c main_arg3 _
  congr 1
  funext a
  apply Fin.ext
  match a with
  | ⟨0, _⟩ => show win2_1.index t 0 * 4200 + 1 * i0.val = 4200 * (t.val % 8) + i0.val; rw [hi.1]; omega
  | ⟨1, _⟩ => show win2_1.index t 1 * 2 + 1 * i1.val = i1.val; rw [hi.2]; omega

theorem iblk2_2 (t : Fin cfg2.N) (i1 : Fin 4) (i2 : Fin 60) : (iblk2 V c 2 t : Vec Ideal S1x4x60 .f32) (ix3 0 i1 i2) = V c main_v1 (ix3 (gb t.val) i1 i2) := by
  have hi := at2_2 t
  have ht : t.val < 64 := t.isLt
  unfold iblk2
  rw [View.read_apply]
  show V c main_v1 _ = V c main_v1 _
  congr 1
  funext a
  apply Fin.ext
  match a with
  | ⟨0, _⟩ => show win2_2.index t 0 * 1 + 1 * 0 = t.val / 8 % 8; rw [hi.1]; omega
  | ⟨1, _⟩ => show win2_2.index t 1 * 4 + 1 * i1.val = i1.val; rw [hi.2.1]; omega
  | ⟨2, _⟩ => show win2_2.index t 2 * 60 + 1 * i2.val = i2.val; rw [hi.2.2]; omega

theorem iblk2_3 (t : Fin cfg2.N) (i1 : Fin 4200) : (iblk2 V c 3 t : Vec Ideal S1x4200x1 .f32) (ix3 0 i1 0) = V c main_v5_0 (ix3 (gb t.val) (gn (gj t.val) i1) 0) := by
  have hi := at2_3 t
  have ht : t.val < 64 := t.isLt
  unfold iblk2
  rw [View.read_apply]
  show V c main_v5_0 _ = V c main_v5_0 _
  congr 1
  funext a
  apply Fin.ext
  match a with
  | ⟨0, _⟩ => show win2_3.index t 0 * 1 + 1 * 0 = t.val / 8 % 8; rw [hi.1]; omega
  | ⟨1, _⟩ => show win2_3.index t 1 * 4200 + 1 * i1.val = 4200 * (t.val % 8) + i1.val; rw [hi.2.1]; omega
  | ⟨2, _⟩ => show win2_3.index t 2 * 1 + 1 * 0 = 0; rw [hi.2.2]

theorem iblk2_4 (t : Fin cfg2.N) (i1 : Fin 4200) (i2 : Fin 60) : (iblk2 V c 4 t : Vec Ideal S1x4200x60 .bf16) (ix3 0 i1 i2) = V c main_v5_1 (ix3 (gb t.val) (gn (gj t.val) i1) i2) := by
  have hi := at2_4 t
  have ht : t.val < 64 := t.isLt
  unfold iblk2
  rw [View.read_apply]
  show V c main_v5_1 _ = V c main_v5_1 _
  congr 1
  funext a
  apply Fin.ext
  match a with
  | ⟨0, _⟩ => show win2_4.index t 0 * 1 + 1 * 0 = t.val / 8 % 8; rw [hi.1]; omega
  | ⟨1, _⟩ => show win2_4.index t 1 * 4200 + 1 * i1.val = 4200 * (t.val % 8) + i1.val; rw [hi.2.1]; omega
  | ⟨2, _⟩ => show win2_4.index t 2 * 60 + 1 * i2.val = i2.val; rw [hi.2.2]; omega

theorem iblk2_5 (t : Fin cfg2.N) (i2 : Fin 60) : (iblk2 V c 5 t : Vec Ideal S1x1x60 .f32) (ix3 0 0 i2) = V c main_v6 (ix3 (gb t.val) 0 i2) := by
  have hi := at2_5 t
  have ht : t.val < 64 := t.isLt
  unfold iblk2
  rw [View.read_apply]
  show V c main_v6 _ = V c main_v6 _
  congr 1
  funext a
  apply Fin.ext
  match a with
  | ⟨0, _⟩ => show win2_5.index t 0 * 1 + 1 * 0 = t.val / 8 % 8; rw [hi.1]; omega
  | ⟨1, _⟩ => show win2_5.index t 1 * 1 + 1 * 0 = 0; rw [hi.2.1]
  | ⟨2, _⟩ => show win2_5.index t 2 * 60 + 1 * i2.val = i2.val; rw [hi.2.2]; omega

theorem iblk2_6 (t : Fin cfg2.N) (i1 : Fin 4200) : (iblk2 V c 6 t : Vec Ideal S1x4200x1 .f32) (ix3 0 i1 0) = V c main_v4 (ix3 (gb t.val) (gn (gj t.val) i1) 0) := by
  have hi := at2_6 t
  have ht : t.val < 64 := t.isLt
  unfold iblk2
  rw [View.read_apply]
  show V c main_v4 _ = V c main_v4 _
  congr 1
  funext a
  apply Fin.ext
  match a with
  | ⟨0, _⟩ => show win2_6.index t 0 * 1 + 1 * 0 = t.val / 8 % 8; rw [hi.1]; omega
  | ⟨1, _⟩ => show win2_6.index t 1 * 4200 + 1 * i1.val = 4200 * (t.val % 8) + i1.val; rw [hi.2.1]; omega
  | ⟨2, _⟩ => show win2_6.index t 2 * 1 + 1 * 0 = 0; rw [hi.2.2]

theorem iblk2_7 (t : Fin cfg2.N) (i1 : Fin 4200) : (iblk2 V c 7 t : Vec Ideal S1x4200x1 .f32) (ix3 0 i1 0) = V c main_arg2 (ix3 (gb t.val) (gn (gj t.val) i1) 0) := by
  have hi := at2_7 t
  have ht : t.val < 64 := t.isLt
  unfold iblk2
  rw [View.read_apply]
  show V c main_arg2 _ = V c main_arg2 _
  congr 1
  funext a
  apply Fin.ext
  match a with
  | ⟨0, _⟩ => show win2_7.index t 0 * 1 + 1 * 0 = t.val / 8 % 8; rw [hi.1]; omega
  | ⟨1, _⟩ => show win2_7.index t 1 * 4200 + 1 * i1.val = 4200 * (t.val % 8) + i1.val; rw [hi.2.1]; omega
  | ⟨2, _⟩ => show win2_7.index t 2 * 1 + 1 * 0 = 0; rw [hi.2.2]

/-- The rows of the arrays the first call reads. -/
abbrev vX (b : Fin 8) (n : Fin 33600) : Fin 80 → EReal := fun k => V c main_arg0 (ix3 b n k)
abbrev vP (b : Fin 8) (n : Fin 33600) : Fin 4 → EReal := fun k => V c main_arg1 (ix3 b n k)
abbrev vA (n : Fin 33600) : Fin 2 → EReal := fun k => V c main_arg3 (ix2 n k)
abbrev vL (b : Fin 8) (m : Fin 60) : BitVec 32 := V c main_v0 (ix3 b 0 m)
abbrev vG (b : Fin 8) (m : Fin 60) : Fin 4 → EReal := fun k => V c main_v1 (ix3 b k m)

/-- The ten greatest overlaps and the ten least costs of a block, and the cut of a column. -/
def topAt (b j : Fin 8) (m : Fin 60) (r : Fin 10) : EReal :=
  tops (fun t : Fin 4200 => fgIou (vA V c (gn j t)) (vP V c b (gn j t)) (vG V c b m) (vG V c b)) r
def lowAt (b j : Fin 8) (m : Fin 60) (r : Fin 10) : EReal :=
  lows (fun t : Fin 4200 => cost (vX V c b (gn j t)) (vA V c (gn j t)) (vP V c b (gn j t)) (vG V c b m) (vG V c b) (vL V c b m)) r
def thrAt (b : Fin 8) (m : Fin 60) : EReal :=
  pickK (dynK (topSum (tops fun q : Fin 8 × Fin 10 => V c main_v5_2 (ix4 b q.1 q.2 m)))) (lows fun q : Fin 8 × Fin 10 => V c main_v5_3 (ix4 b q.1 q.2 m))

theorem rowX (t : Fin cfg0.N) (r : Fin 4200) : rX (iblk0 V c 0 t) r = vX V c (gb t.val) (gn (gj t.val) r) := funext fun k => iblk0_0 V c t r k
theorem rowP (t : Fin cfg0.N) (r : Fin 4200) : rP (iblk0 V c 1 t) r = vP V c (gb t.val) (gn (gj t.val) r) := funext fun k => iblk0_1 V c t r k
theorem rowA (t : Fin cfg0.N) (r : Fin 4200) : rA (iblk0 V c 2 t) r = vA V c (gn (gj t.val) r) := funext fun k => iblk0_2 V c t r k
theorem rowL (t : Fin cfg0.N) (m : Fin 60) : rL (iblk0 V c 3 t) m = vL V c (gb t.val) m := iblk0_3 V c t m
theorem rowG (t : Fin cfg0.N) (m : Fin 60) : rG (iblk0 V c 4 t) m = vG V c (gb t.val) m := funext fun k => iblk0_4 V c t k m
theorem rowG1 (t : Fin cfg0.N) : rG (iblk0 V c 4 t) = vG V c (gb t.val) := funext fun m => rowG V c t m

theorem gb_pt (b j : Fin 8) : gb (8 * b.val + j.val) = b := Fin.ext (by show (8 * b.val + j.val) / 8 % 8 = b.val; have := b.isLt; have := j.isLt; omega)
theorem gj_pt (b j : Fin 8) : gj (8 * b.val + j.val) = j := Fin.ext (by show (8 * b.val + j.val) % 8 = j.val; have := b.isLt; have := j.isLt; omega)
def pt2 (b j : Fin 8) : Fin cfg2.N := ⟨8 * b.val + j.val, by have := b.isLt; have := j.isLt; show _ < 64; omega⟩

/-- What grid point `t` of the third call adds. -/
def add2 (t : Fin cfg2.N) (k : Fin 4) : EReal :=
  part (iblk2 V c 0 t) (iblk2 V c 1 t) (iblk2 V c 2 t) (iblk2 V c 3 t) (iblk2 V c 4 t) (iblk2 V c 5 t) (iblk2 V c 6 t) (iblk2 V c 7 t) (ix3 0 0 k)

def add2' (n : ℕ) (k : Fin 4) : EReal := if h : n < cfg2.N then add2 V c ⟨n, h⟩ k else 0

theorem outsAt2_step (k : Fin 4) (n : ℕ) : ∀ h : n < cfg2.N, outsAt2 V c n h (ix3 0 0 k) = ∑ j ∈ Finset.range (n % 8 + 1), add2' V c (8 * (n / 8) + j) k := by
  induction n with
  | zero =>
    intro h
    rw [show outsAt2 V c 0 h = _ from outsAt2_A V c ⟨0, h⟩ rfl, out_A, acc_apply, zero_apply, zero_add]
    simp only [Nat.zero_mod, Nat.zero_div, zero_add, Finset.sum_range_one, Nat.mul_zero]
    unfold add2'
    rw [dif_pos h]
    rfl
  | succ n ih =>
    intro h
    have hn : n < cfg2.N := Nat.lt_of_succ_lt h
    by_cases h0 : (n + 1) % 8 = 0
    · rw [show outsAt2 V c (n + 1) h = _ from outsAt2_A V c ⟨n + 1, h⟩ h0, out_A, acc_apply, zero_apply, zero_add, h0]
      simp only [zero_add, Finset.sum_range_one]
      have e : 8 * ((n + 1) / 8) + 0 = n + 1 := by omega
      rw [e]
      unfold add2'
      rw [dif_pos h]
      rfl
    · rw [show outsAt2 V c (n + 1) h = _ from outsAt2_B V c ⟨n + 1, h⟩ h0, out_B, acc_apply]
      have e1 : (n + 1) % 8 = n % 8 + 1 := by omega
      have e2 : (n + 1) / 8 = n / 8 := by omega
      have e3 : 8 * (n / 8) + (n % 8 + 1) = n + 1 := by omega
      rw [e1, e2, Finset.sum_range_succ, ← ih hn, e3]
      refine congrArg₂ (fun a b : EReal => a + b) rfl ?_
      unfold add2'
      rw [dif_pos h]
      rfl

theorem outsAt2_last (k : Fin 4) (t : Fin cfg2.N) (h : t.val % 8 = 7) :
    outsAt2 V c t.val t.isLt (ix3 0 0 k) = ∑ j : Fin 8, add2 V c (pt2 (gb t.val) j) k := by
  rw [outsAt2_step, h, Finset.sum_range]
  refine Finset.sum_congr rfl fun j _ => ?_
  have ht : t.val < 64 := t.isLt
  unfold add2'
  have hj : 8 * (t.val / 8) + j.val < cfg2.N := by have := j.isLt; show _ < 64; omega
  rw [dif_pos hj]
  congr 1
  apply Fin.ext
  show 8 * (t.val / 8) + j.val = 8 * (t.val / 8 % 8) + j.val
  omega

theorem arr0_5 : (dat0 V c).arrAt 5 cfg0.N = fun i : S8x33600x1.Idx => (sumNeg (vX V c (i 0) (i 1)) : EReal) := by
  refine (dat0 V c).arrAt_eq_of_cover 5 _ (fun t hf => ?_) fun i => ?_
  · have hi := at0_5 t
    have ht : t.val < 64 := t.isLt
    show (cfg0.win 5).cut (grid0.coords t) ((dat0 V c).after 5 t) = _
    rw [after0_5]
    funext y
    obtain ⟨a0, a1, a2, rfl⟩ : ∃ (a0 : Fin 1) (a1 : Fin 4200) (a2 : Fin 1), y = ix3 a0 a1 a2 := ⟨y 0, y 1, y 2, by funext a; fin_cases a <;> rfl⟩
    obtain rfl : a0 = 0 := Subsingleton.elim _ _
    obtain rfl : a2 = 0 := Subsingleton.elim _ _
    rw [View.read_apply]
    have he : ((cfg0.win 5).blk t).view.emb (ix3 0 a1 0 : S1x4200x1.Idx) = (ix3 (gb t.val) (gn (gj t.val) a1) 0 : S8x33600x1.Idx) := by
      funext a
      apply Fin.ext
      match a with
      | ⟨0, _⟩ => show win0_5.index t 0 * 1 + 1 * 0 = t.val / 8 % 8; rw [hi.1]; omega
      | ⟨1, _⟩ => show win0_5.index t 1 * 4200 + 1 * a1.val = 4200 * (t.val % 8) + a1.val; rw [hi.2.1]; omega
      | ⟨2, _⟩ => show win0_5.index t 2 * 1 + 1 * 0 = 0; rw [hi.2.2]
    rw [he]
    refine (out0_5_apply _ _ _ _ _ a1).trans ?_
    refine Eq.trans (b := (sumNeg (vX V c (gb t.val) (gn (gj t.val) a1)) : EReal)) ?_ (cast_eq _ _).symm
    simp only [rowX, rowP, rowA, rowL, rowG, rowG1]
  · have hb : (i 0 : Nat) < 8 := (i 0).isLt
    have h1 : (i 1 : Nat) < 33600 := (i 1).isLt
    have h2 : (i 2 : Nat) < 1 := (i 2).isLt
    let T : Fin cfg0.N := ⟨8 * (i 0 : Nat) + (i 1 : Nat) / 4200, by show _ < 64; omega⟩
    refine ⟨T, flush0_5 _, ?_⟩
    have hi := at0_5 T
    dsimp only [T] at hi
    show i ∈ ((View.whole main_v5_0).slice (win0_5.rect T)).set
    rw [View.set_slice_whole, Rect.mem_set_unit]
    intro a
    match a with
    | ⟨0, _⟩ => show win0_5.index T 0 * 1 ≤ (i 0 : Nat) ∧ (i 0 : Nat) < win0_5.index T 0 * 1 + 1; dsimp only [T]; rw [hi.1]; omega
    | ⟨1, _⟩ => show win0_5.index T 1 * 4200 ≤ (i 1 : Nat) ∧ (i 1 : Nat) < win0_5.index T 1 * 4200 + 4200; dsimp only [T]; rw [hi.2.1]; omega
    | ⟨2, _⟩ => show win0_5.index T 2 * 1 ≤ (i 2 : Nat) ∧ (i 2 : Nat) < win0_5.index T 2 * 1 + 1; dsimp only [T]; rw [hi.2.2]; omega

theorem arr0_6 : (dat0 V c).arrAt 6 cfg0.N = fun i : S8x33600x60.Idx => (dx (vX V c (i 0) (i 1)) (vL V c (i 0) (i 2)) : EReal) := by
  refine (dat0 V c).arrAt_eq_of_cover 6 _ (fun t hf => ?_) fun i => ?_
  · have hi := at0_6 t
    have ht : t.val < 64 := t.isLt
    show (cfg0.win 6).cut (grid0.coords t) ((dat0 V c).after 6 t) = _
    rw [after0_6]
    funext y
    obtain ⟨a0, a1, a2, rfl⟩ : ∃ (a0 : Fin 1) (a1 : Fin 4200) (a2 : Fin 60), y = ix3 a0 a1 a2 := ⟨y 0, y 1, y 2, by funext a; fin_cases a <;> rfl⟩
    obtain rfl : a0 = 0 := Subsingleton.elim _ _
    rw [View.read_apply]
    have he : ((cfg0.win 6).blk t).view.emb (ix3 0 a1 a2 : S1x4200x60.Idx) = (ix3 (gb t.val) (gn (gj t.val) a1) a2 : S8x33600x60.Idx) := by
      funext a
      apply Fin.ext
      match a with
      | ⟨0, _⟩ => show win0_6.index t 0 * 1 + 1 * 0 = t.val / 8 % 8; rw [hi.1]; omega
      | ⟨1, _⟩ => show win0_6.index t 1 * 4200 + 1 * a1.val = 4200 * (t.val % 8) + a1.val; rw [hi.2.1]; omega
      | ⟨2, _⟩ => show win0_6.index t 2 * 60 + 1 * a2.val = a2.val; rw [hi.2.2]; omega
    rw [he]
    refine (out0_6_apply _ _ _ _ _ a1 a2).trans ?_
    refine Eq.trans (b := (dx (vX V c (gb t.val) (gn (gj t.val) a1)) (vL V c (gb t.val) a2) : EReal)) ?_ (cast_eq _ _).symm
    simp only [rowX, rowP, rowA, rowL, rowG, rowG1]
  · have hb : (i 0 : Nat) < 8 := (i 0).isLt
    have h1 : (i 1 : Nat) < 33600 := (i 1).isLt
    have h2 : (i 2 : Nat) < 60 := (i 2).isLt
    let T : Fin cfg0.N := ⟨8 * (i 0 : Nat) + (i 1 : Nat) / 4200, by show _ < 64; omega⟩
    refine ⟨T, flush0_6 _, ?_⟩
    have hi := at0_6 T
    dsimp only [T] at hi
    show i ∈ ((View.whole main_v5_1).slice (win0_6.rect T)).set
    rw [View.set_slice_whole, Rect.mem_set_unit]
    intro a
    match a with
    | ⟨0, _⟩ => show win0_6.index T 0 * 1 ≤ (i 0 : Nat) ∧ (i 0 : Nat) < win0_6.index T 0 * 1 + 1; dsimp only [T]; rw [hi.1]; omega
    | ⟨1, _⟩ => show win0_6.index T 1 * 4200 ≤ (i 1 : Nat) ∧ (i 1 : Nat) < win0_6.index T 1 * 4200 + 4200; dsimp only [T]; rw [hi.2.1]; omega
    | ⟨2, _⟩ => show win0_6.index T 2 * 60 ≤ (i 2 : Nat) ∧ (i 2 : Nat) < win0_6.index T 2 * 60 + 60; dsimp only [T]; rw [hi.2.2]; omega

theorem arr0_7 : (dat0 V c).arrAt 7 cfg0.N = fun i : S8x8x10x60.Idx => (topAt V c (i 0) (i 1) (i 3) (i 2) : EReal) := by
  refine (dat0 V c).arrAt_eq_of_cover 7 _ (fun t hf => ?_) fun i => ?_
  · have hi := at0_7 t
    have ht : t.val < 64 := t.isLt
    show (cfg0.win 7).cut (grid0.coords t) ((dat0 V c).after 7 t) = _
    rw [after0_7]
    funext y
    obtain ⟨a0, a1, a2, a3, rfl⟩ : ∃ (a0 : Fin 1) (a1 : Fin 1) (a2 : Fin 10) (a3 : Fin 60), y = ix4 a0 a1 a2 a3 := ⟨y 0, y 1, y 2, y 3, by funext a; fin_cases a <;> rfl⟩
    obtain rfl : a0 = 0 := Subsingleton.elim _ _
    obtain rfl : a1 = 0 := Subsingleton.elim _ _
    rw [View.read_apply]
    have he : ((cfg0.win 7).blk t).view.emb (ix4 0 0 a2 a3 : S1x1x10x60.Idx) = (ix4 (gb t.val) (gj t.val) a2 a3 : S8x8x10x60.Idx) := by
      funext a
      apply Fin.ext
      match a with
      | ⟨0, _⟩ => show win0_7.index t 0 * 1 + 1 * 0 = t.val / 8 % 8; rw [hi.1]; omega
      | ⟨1, _⟩ => show win0_7.index t 1 * 1 + 1 * 0 = t.val % 8; rw [hi.2.1]; omega
      | ⟨2, _⟩ => show win0_7.index t 2 * 10 + 1 * a2.val = a2.val; rw [hi.2.2.1]; omega
      | ⟨3, _⟩ => show win0_7.index t 3 * 60 + 1 * a3.val = a3.val; rw [hi.2.2.2]; omega
    rw [he]
    refine (out0_7_apply (iblk0 V c 0 t) (iblk0 V c 1 t) (iblk0 V c 2 t) (iblk0 V c 3 t) (iblk0 V c 4 t) a2 a3).trans ?_
    refine Eq.trans (b := (topAt V c (gb t.val) (gj t.val) a3 a2 : EReal)) ?_ (cast_eq _ _).symm
    simp only [rowX, rowP, rowA, rowL, rowG, rowG1]
    rfl
  · have hb : (i 0 : Nat) < 8 := (i 0).isLt
    have h1 : (i 1 : Nat) < 8 := (i 1).isLt
    have h2 : (i 2 : Nat) < 10 := (i 2).isLt
    have h3 : (i 3 : Nat) < 60 := (i 3).isLt
    let T : Fin cfg0.N := ⟨8 * (i 0 : Nat) + (i 1 : Nat), by show _ < 64; omega⟩
    refine ⟨T, flush0_7 _, ?_⟩
    have hi := at0_7 T
    dsimp only [T] at hi
    show i ∈ ((View.whole main_v5_2).slice (win0_7.rect T)).set
    rw [View.set_slice_whole, Rect.mem_set_unit]
    intro a
    match a with
    | ⟨0, _⟩ => show win0_7.index T 0 * 1 ≤ (i 0 : Nat) ∧ (i 0 : Nat) < win0_7.index T 0 * 1 + 1; dsimp only [T]; rw [hi.1]; omega
    | ⟨1, _⟩ => show win0_7.index T 1 * 1 ≤ (i 1 : Nat) ∧ (i 1 : Nat) < win0_7.index T 1 * 1 + 1; dsimp only [T]; rw [hi.2.1]; omega
    | ⟨2, _⟩ => show win0_7.index T 2 * 10 ≤ (i 2 : Nat) ∧ (i 2 : Nat) < win0_7.index T 2 * 10 + 10; dsimp only [T]; rw [hi.2.2.1]; omega
    | ⟨3, _⟩ => show win0_7.index T 3 * 60 ≤ (i 3 : Nat) ∧ (i 3 : Nat) < win0_7.index T 3 * 60 + 60; dsimp only [T]; rw [hi.2.2.2]; omega

theorem arr0_8 : (dat0 V c).arrAt 8 cfg0.N = fun i : S8x8x10x60.Idx => (lowAt V c (i 0) (i 1) (i 3) (i 2) : EReal) := by
  refine (dat0 V c).arrAt_eq_of_cover 8 _ (fun t hf => ?_) fun i => ?_
  · have hi := at0_8 t
    have ht : t.val < 64 := t.isLt
    show (cfg0.win 8).cut (grid0.coords t) ((dat0 V c).after 8 t) = _
    rw [after0_8]
    funext y
    obtain ⟨a0, a1, a2, a3, rfl⟩ : ∃ (a0 : Fin 1) (a1 : Fin 1) (a2 : Fin 10) (a3 : Fin 60), y = ix4 a0 a1 a2 a3 := ⟨y 0, y 1, y 2, y 3, by funext a; fin_cases a <;> rfl⟩
    obtain rfl : a0 = 0 := Subsingleton.elim _ _
    obtain rfl : a1 = 0 := Subsingleton.elim _ _
    rw [View.read_apply]
    have he : ((cfg0.win 8).blk t).view.emb (ix4 0 0 a2 a3 : S1x1x10x60.Idx) = (ix4 (gb t.val) (gj t.val) a2 a3 : S8x8x10x60.Idx) := by
      funext a
      apply Fin.ext
      match a with
      | ⟨0, _⟩ => show win0_8.index t 0 * 1 + 1 * 0 = t.val / 8 % 8; rw [hi.1]; omega
      | ⟨1, _⟩ => show win0_8.index t 1 * 1 + 1 * 0 = t.val % 8; rw [hi.2.1]; omega
      | ⟨2, _⟩ => show win0_8.index t 2 * 10 + 1 * a2.val = a2.val; rw [hi.2.2.1]; omega
      | ⟨3, _⟩ => show win0_8.index t 3 * 60 + 1 * a3.val = a3.val; rw [hi.2.2.2]; omega
    rw [he]
    refine (out0_8_apply (iblk0 V c 0 t) (iblk0 V c 1 t) (iblk0 V c 2 t) (iblk0 V c 3 t) (iblk0 V c 4 t) a2 a3).trans ?_
    refine Eq.trans (b := (lowAt V c (gb t.val) (gj t.val) a3 a2 : EReal)) ?_ (cast_eq _ _).symm
    simp only [rowX, rowP, rowA, rowL, rowG, rowG1]
    rfl
  · have hb : (i 0 : Nat) < 8 := (i 0).isLt
    have h1 : (i 1 : Nat) < 8 := (i 1).isLt
    have h2 : (i 2 : Nat) < 10 := (i 2).isLt
    have h3 : (i 3 : Nat) < 60 := (i 3).isLt
    let T : Fin cfg0.N := ⟨8 * (i 0 : Nat) + (i 1 : Nat), by show _ < 64; omega⟩
    refine ⟨T, flush0_8 _, ?_⟩
    have hi := at0_8 T
    dsimp only [T] at hi
    show i ∈ ((View.whole main_v5_3).slice (win0_8.rect T)).set
    rw [View.set_slice_whole, Rect.mem_set_unit]
    intro a
    match a with
    | ⟨0, _⟩ => show win0_8.index T 0 * 1 ≤ (i 0 : Nat) ∧ (i 0 : Nat) < win0_8.index T 0 * 1 + 1; dsimp only [T]; rw [hi.1]; omega
    | ⟨1, _⟩ => show win0_8.index T 1 * 1 ≤ (i 1 : Nat) ∧ (i 1 : Nat) < win0_8.index T 1 * 1 + 1; dsimp only [T]; rw [hi.2.1]; omega
    | ⟨2, _⟩ => show win0_8.index T 2 * 10 ≤ (i 2 : Nat) ∧ (i 2 : Nat) < win0_8.index T 2 * 10 + 10; dsimp only [T]; rw [hi.2.2.1]; omega
    | ⟨3, _⟩ => show win0_8.index T 3 * 60 ≤ (i 3 : Nat) ∧ (i 3 : Nat) < win0_8.index T 3 * 60 + 60; dsimp only [T]; rw [hi.2.2.2]; omega

theorem arr1_2 (h : ∀ b q r m, (-1 : EReal) ≤ V c main_v5_2 (ix4 b q r m)) : (dat1 V c).arrAt 2 cfg1.N = fun i : S8x1x60.Idx => (thrAt V c (i 0) (i 2) : EReal) := by
  refine (dat1 V c).arrAt_eq_of_cover 2 _ (fun t hf => ?_) fun i => ?_
  · have hi := at1_2 t
    have ht : t.val < 8 := t.isLt
    show (cfg1.win 2).cut (grid1.coords t) ((dat1 V c).after 2 t) = _
    rw [after1_2]
    funext y
    obtain ⟨a0, a1, a2, rfl⟩ : ∃ (a0 : Fin 1) (a1 : Fin 1) (a2 : Fin 60), y = ix3 a0 a1 a2 := ⟨y 0, y 1, y 2, by funext a; fin_cases a <;> rfl⟩
    obtain rfl : a0 = 0 := Subsingleton.elim _ _
    obtain rfl : a1 = 0 := Subsingleton.elim _ _
    rw [View.read_apply]
    have he : ((cfg1.win 2).blk t).view.emb (ix3 0 0 a2 : S1x1x60.Idx) = (ix3 (⟨t.val, t.isLt⟩ : Fin 8) 0 a2 : S8x1x60.Idx) := by
      funext a
      apply Fin.ext
      match a with
      | ⟨0, _⟩ => show win1_2.index t 0 * 1 + 1 * 0 = t.val; rw [hi.1]; omega
      | ⟨1, _⟩ => show win1_2.index t 1 * 1 + 1 * 0 = 0; rw [hi.2.1]
      | ⟨2, _⟩ => show win1_2.index t 2 * 60 + 1 * a2.val = a2.val; rw [hi.2.2]; omega
    rw [he]
    have hh : ∀ (q : Fin 8 × Fin 10) m, (-1 : EReal) ≤ (iblk1 V c 0 t : Vec Ideal S1x8x10x60 .f32) (ix4 0 q.1 q.2 m) := fun q m => by rw [iblk1_0]; exact h _ _ _ _
    refine (out1_2_apply (iblk1 V c 0 t) (iblk1 V c 1 t) hh a2).trans ?_
    refine Eq.trans (b := (thrAt V c (⟨t.val, t.isLt⟩ : Fin 8) a2 : EReal)) ?_ (cast_eq _ _).symm
    unfold thrAt
    refine congrArg₂ (fun a b => pickK (dynK (topSum (tops a))) (lows b)) (funext fun q => ?_) (funext fun q => ?_)
    · exact iblk1_0 V c t q.1 q.2 a2
    · exact iblk1_1 V c t q.1 q.2 a2
  · have hb : (i 0 : Nat) < 8 := (i 0).isLt
    have h1 : (i 1 : Nat) < 1 := (i 1).isLt
    have h2 : (i 2 : Nat) < 60 := (i 2).isLt
    let T : Fin cfg1.N := ⟨(i 0 : Nat), hb⟩
    refine ⟨T, flush1_2 _, ?_⟩
    have hi := at1_2 T
    dsimp only [T] at hi
    show i ∈ ((View.whole main_v6).slice (win1_2.rect T)).set
    rw [View.set_slice_whole, Rect.mem_set_unit]
    intro a
    match a with
    | ⟨0, _⟩ => show win1_2.index T 0 * 1 ≤ (i 0 : Nat) ∧ (i 0 : Nat) < win1_2.index T 0 * 1 + 1; dsimp only [T]; rw [hi.1]; omega
    | ⟨1, _⟩ => show win1_2.index T 1 * 1 ≤ (i 1 : Nat) ∧ (i 1 : Nat) < win1_2.index T 1 * 1 + 1; dsimp only [T]; rw [hi.2.1]; omega
    | ⟨2, _⟩ => show win1_2.index T 2 * 60 ≤ (i 2 : Nat) ∧ (i 2 : Nat) < win1_2.index T 2 * 60 + 60; dsimp only [T]; rw [hi.2.2]; omega

theorem arr2_8 : (dat2 V c).arrAt 8 cfg2.N = fun i : S8x1x4.Idx => (∑ j : Fin 8, add2 V c (pt2 (i 0) j) (i 2) : EReal) := by
  refine (dat2 V c).arrAt_eq_of_cover 8 _ (fun t hf => ?_) fun i => ?_
  · have hi := at2_8 t
    have ht : t.val < 64 := t.isLt
    show (cfg2.win 8).cut (grid2.coords t) ((dat2 V c).after 8 t) = _
    rw [after2_8]
    funext y
    obtain ⟨a0, a1, a2, rfl⟩ : ∃ (a0 : Fin 1) (a1 : Fin 1) (a2 : Fin 4), y = ix3 a0 a1 a2 := ⟨y 0, y 1, y 2, by funext a; fin_cases a <;> rfl⟩
    obtain rfl : a0 = 0 := Subsingleton.elim _ _
    obtain rfl : a1 = 0 := Subsingleton.elim _ _
    rw [View.read_apply]
    have he : ((cfg2.win 8).blk t).view.emb (ix3 0 0 a2 : S1x1x4.Idx) = (ix3 (gb t.val) 0 a2 : S8x1x4.Idx) := by
      funext a
      apply Fin.ext
      match a with
      | ⟨0, _⟩ => show win2_8.index t 0 * 1 + 1 * 0 = t.val / 8 % 8; rw [hi.1]; omega
      | ⟨1, _⟩ => show win2_8.index t 1 * 1 + 1 * 0 = 0; rw [hi.2.1]
      | ⟨2, _⟩ => show win2_8.index t 2 * 4 + 1 * a2.val = a2.val; rw [hi.2.2]; omega
    rw [he]
    exact outsAt2_last V c a2 t ((flush2_8 t).mp hf)
  · have hb : (i 0 : Nat) < 8 := (i 0).isLt
    have h1 : (i 1 : Nat) < 1 := (i 1).isLt
    have h2 : (i 2 : Nat) < 4 := (i 2).isLt
    let T : Fin cfg2.N := ⟨8 * (i 0 : Nat) + 7, by show _ < 64; omega⟩
    refine ⟨T, (flush2_8 _).mpr (by show (8 * (i 0 : Nat) + 7) % 8 = 7; omega), ?_⟩
    have hi := at2_8 T
    dsimp only [T] at hi
    show i ∈ ((View.whole main_v7).slice (win2_8.rect T)).set
    rw [View.set_slice_whole, Rect.mem_set_unit]
    intro a
    match a with
    | ⟨0, _⟩ => show win2_8.index T 0 * 1 ≤ (i 0 : Nat) ∧ (i 0 : Nat) < win2_8.index T 0 * 1 + 1; dsimp only [T]; rw [hi.1]; omega
    | ⟨1, _⟩ => show win2_8.index T 1 * 1 ≤ (i 1 : Nat) ∧ (i 1 : Nat) < win2_8.index T 1 * 1 + 1; dsimp only [T]; rw [hi.2.1]; omega
    | ⟨2, _⟩ => show win2_8.index T 2 * 4 ≤ (i 2 : Nat) ∧ (i 2 : Nat) < win2_8.index T 2 * 4 + 4; dsimp only [T]; rw [hi.2.2]; omega

end Cert.KernelIdeal.Own
-- ==== Proof.Task.lean ====
/-
  The quantities of one example, and the loss they make.
-/
module

public import proofs.«01_k».proof.Proof.Kth
public import proofs.«01_k».proof.Proof.Spec

@[expose] public section

noncomputable section

namespace Cert.Own

open Idealize.ShloMosaic

section

/- The scores, the boxes, the validity and the overlap score of each anchor, its centre; the labels and the boxes of the ground truths. -/
variable (X : Fin 33600 → Fin 80 → EReal) (P : Fin 33600 → Fin 4 → EReal) (A : Fin 33600 → Fin 2 → EReal)
  (L : Fin 60 → BitVec 32) (G : Fin 60 → Fin 4 → EReal) (v u : Fin 33600 → EReal)

/-- The cost of a pair. -/
def costs (n : Fin 33600) (m : Fin 60) : EReal := cost (X n) (A n) (P n) (G m) G (L m)

/-- A ground truth's overlaps. -/
def overlaps (m : Fin 60) (n : Fin 33600) : EReal := fgIou (A n) (P n) (G m) G

/-- The number of anchors a ground truth takes. -/
def count (m : Fin 60) : BitVec 32 := dynK (topSum (tops (overlaps P A G m)))

/-- The greatest cost at which a ground truth takes an anchor. -/
def cut (m : Fin 60) : EReal := pickK (count P A G m) (lows fun n => costs X P A L G n m)

/-- The ground truth an anchor is matched to, as a row of zeros and ones. -/
def chosen (n : Fin 33600) (m : Fin 60) : EReal :=
  msel (costs X P A L G n) (taken (costs X P A L G n) (cut X P A L G)) (fgBit (A n) G) m

/-- Whether an anchor is matched. -/
def matched (n : Fin 33600) : EReal :=
  bitE (posB (costs X P A L G n) (taken (costs X P A L G n) (cut X P A L G)) (fgBit (A n) G))

def clsSum : EReal := (∑ n, v n * sumNeg (X n)) + ∑ n, ∑ m, chosen X P A L G n m * dx (X n) (L m) * v n
def boxSum : EReal := ∑ n, (1 - giou (P n) fun k => ∑ m, chosen X P A L G n m * G m k) * matched X P A L G n
def iouSum : EReal := ∑ n, bce (u n) (∑ m, chosen X P A L G n m * iou (P n) (G m)) * matched X P A L G n
def posSum : EReal := ∑ n, matched X P A L G n

/-- The four sums of one example. -/
def sums (k : Fin 4) : EReal :=
  match k with
  | ⟨0, _⟩ => clsSum X P A L G v
  | ⟨1, _⟩ => boxSum X P A L G
  | ⟨2, _⟩ => iouSum X P A L G u
  | ⟨3, _⟩ => posSum X P A L G

end

/-- The losses: the three sums over the batch, over the number of matched anchors. -/
def losses (s : Fin 8 → Fin 4 → EReal) (q : Fin 3) : EReal := Ideal.div (∑ b, s b q.castSucc) (max (∑ b, s b 3) 1)

end Cert.Own
-- ==== Proof.Merge.lean ====
/-
  The blocks of anchors put together.
-/
module

public import proofs.«01_k».proof.Proof.Arrays
public import proofs.«01_k».proof.Proof.Task

@[expose] public section

noncomputable section

namespace Cert.KernelIdeal.Own

open Cert.KernelIdeal Cert.KernelIdeal.Gen Cert.Own Idealize.ShloMosaic Idealize.ShloMosaic.TcCoe Idealize.SL.Sem

theorem gn_surj (n : Fin 33600) : ∃ j t, gn j t = n :=
  ⟨⟨n.val / 4200, by have := n.isLt; omega⟩, ⟨n.val % 4200, Nat.mod_lt _ (by decide)⟩, Fin.ext (by show 4200 * (n.val / 4200) + n.val % 4200 = n.val; omega)⟩

theorem gn_inj : Function.Injective fun q : Fin 8 × Fin 4200 => gn q.1 q.2 := by
  rintro ⟨j, t⟩ ⟨j', t'⟩ h
  have h' : 4200 * j.val + t.val = 4200 * j'.val + t'.val := congrArg Fin.val h
  have := t.isLt
  have := t'.isLt
  exact Prod.ext (Fin.ext (by show j.val = j'.val; omega)) (Fin.ext (by show t.val = t'.val; omega))

theorem sum_gn (f : Fin 33600 → EReal) : ∑ j : Fin 8, ∑ t : Fin 4200, f (gn j t) = ∑ n, f n := by
  rw [← Fintype.sum_prod_type' (fun j t => f (gn j t))]
  exact Function.Bijective.sum_comp ⟨gn_inj, fun n => by obtain ⟨j, t, h⟩ := gn_surj n; exact ⟨(j, t), h⟩⟩ f

theorem image_gn {α : Type} [DecidableEq α] (f : Fin 33600 → α) :
    (Finset.univ.biUnion fun j : Fin 8 => Finset.univ.image fun t : Fin 4200 => f (gn j t)) = Finset.univ.image f := by
  ext x
  simp only [Finset.mem_biUnion, Finset.mem_image, Finset.mem_univ, true_and]
  constructor
  · rintro ⟨j, t, h⟩; exact ⟨_, h⟩
  · rintro ⟨n, h⟩
    obtain ⟨j, t, rfl⟩ := gn_surj n
    exact ⟨j, t, h⟩

theorem image_pairs {α : Type} [DecidableEq α] (g : Fin 8 → ℕ → α) :
    (Finset.univ.image fun q : Fin 8 × Fin 10 => g q.1 q.2) = Finset.univ.biUnion fun j : Fin 8 => (Finset.range 10).image (g j) := by
  ext x
  simp only [Finset.mem_biUnion, Finset.mem_image, Finset.mem_univ, true_and, Finset.mem_range]
  constructor
  · rintro ⟨q, h⟩; exact ⟨q.1, q.2, q.2.isLt, h⟩
  · rintro ⟨j, r, hr, h⟩
    exact ⟨(j, ⟨r, hr⟩), h⟩

theorem lows_merge (f : Fin 33600 → EReal) (r : ℕ) (hr : r < 10) :
    lows (fun q : Fin 8 × Fin 10 => lows (fun t : Fin 4200 => f (gn q.1 t)) q.2) r = lows f r := by
  unfold lows
  rw [image_pairs fun j => kth ⊤ (Finset.univ.image fun t : Fin 4200 => f (gn j t)), kth_merge _ _ 10 r hr, image_gn]

theorem tops_merge (f : Fin 33600 → EReal) (r : ℕ) (hr : r < 10) :
    tops (fun q : Fin 8 × Fin 10 => tops (fun t : Fin 4200 => f (gn q.1 t)) q.2) r = tops f r := by
  unfold tops
  simp only [OrderDual.toDual_ofDual]
  rw [image_pairs fun j => kth (OrderDual.toDual (-1 : EReal)) (Finset.univ.image fun t : Fin 4200 => OrderDual.toDual (f (gn j t))),
    kth_merge _ _ 10 r hr, image_gn fun n => OrderDual.toDual (f n)]

theorem topSum_congr (f g : ℕ → EReal) (h : ∀ r, r < 10 → f r = g r) : topSum f = topSum g := by
  unfold topSum
  rw [h 0 (by decide), h 1 (by decide), h 2 (by decide), h 3 (by decide), h 4 (by decide), h 5 (by decide), h 6 (by decide), h 7 (by decide), h 8 (by decide), h 9 (by decide)]

theorem pickK_congr (k : BitVec 32) (f g : ℕ → EReal) (h : ∀ r, r < 10 → f r = g r) : pickK k f = pickK k g := by
  unfold pickK
  rw [h 0 (by decide), h 1 (by decide), h 2 (by decide), h 3 (by decide), h 4 (by decide), h 5 (by decide), h 6 (by decide), h 7 (by decide), h 8 (by decide), h 9 (by decide)]

variable (V : (c : Dev nD) → (b : Ref sig .tc) → Buf (Elt Ideal) ((c : Thread nD τ).loc b)) (c : Dev nD)

/-- The cut of a column, from the candidates of all blocks. -/
theorem thr_merge (V' : (c : Dev nD) → (b : Ref sig .tc) → Buf (Elt Ideal) ((c : Thread nD τ).loc b)) (b : Fin 8) (m : Fin 60)
    (h2 : ∀ j r, V' c main_v5_2 (ix4 b j r m) = topAt V c b j m r) (h3 : ∀ j r, V' c main_v5_3 (ix4 b j r m) = lowAt V c b j m r) :
    thrAt V' c b m = cut (vX V c b) (vP V c b) (vA V c) (vL V c b) (vG V c b) m := by
  unfold thrAt cut Cert.Own.count
  rw [topSum_congr _ (tops (overlaps (vP V c b) (vA V c) (vG V c b) m)) fun r hr => by
    rw [← tops_merge _ r hr]
    exact congrArg (fun f => tops f r) (funext fun q => h2 q.1 q.2)]
  refine pickK_congr _ _ _ fun r hr => ?_
  rw [← lows_merge _ r hr]
  exact congrArg (fun f => lows f r) (funext fun q => h3 q.1 q.2)

end Cert.KernelIdeal.Own
-- ==== Proof.Sums.lean ====
/-
  What the third call leaves for one example.
-/
module

public import proofs.«01_k».proof.Proof.Merge

@[expose] public section

noncomputable section

namespace Cert.KernelIdeal.Own

open Cert.KernelIdeal Cert.KernelIdeal.Gen Cert.Own Idealize.ShloMosaic Idealize.ShloMosaic.TcCoe Idealize.SL.Sem

variable (V : (c : Dev nD) → (b : Ref sig .tc) → Buf (Elt Ideal) ((c : Thread nD τ).loc b)) (c : Dev nD)
  (h0 : ∀ b n, V c main_v5_0 (ix3 b n 0) = sumNeg (vX V c b n))
  (h1 : ∀ b n m, V c main_v5_1 (ix3 b n m) = dx (vX V c b n) (vL V c b m))
  (h6 : ∀ b m, V c main_v6 (ix3 b 0 m) = cut (vX V c b) (vP V c b) (vA V c) (vL V c b) (vG V c b) m)

section

variable (b j : Fin 8) (t : Fin 4200)

theorem blkP (k : Fin 4) : (iblk2 V c 0 (pt2 b j) : Vec Ideal S1x4200x4 .f32) (ix3 0 t k) = vP V c b (gn j t) k := by
  have h := iblk2_0 V c (pt2 b j) t k
  rw [h]; show V c main_arg1 (ix3 (gb (8 * b.val + j.val)) (gn (gj (8 * b.val + j.val)) t) k) = _; rw [gb_pt, gj_pt]
theorem blkA (k : Fin 2) : (iblk2 V c 1 (pt2 b j) : Vec Ideal S4200x2 .f32) (ix2 t k) = vA V c (gn j t) k := by
  have h := iblk2_1 V c (pt2 b j) t k
  rw [h]; show V c main_arg3 (ix2 (gn (gj (8 * b.val + j.val)) t) k) = _; rw [gj_pt]
theorem blkG (k : Fin 4) (m : Fin 60) : (iblk2 V c 2 (pt2 b j) : Vec Ideal S1x4x60 .f32) (ix3 0 k m) = vG V c b m k := by
  have h := iblk2_2 V c (pt2 b j) k m
  rw [h]; show V c main_v1 (ix3 (gb (8 * b.val + j.val)) k m) = _; rw [gb_pt]
theorem blkS : (iblk2 V c 3 (pt2 b j) : Vec Ideal S1x4200x1 .f32) (ix3 0 t 0) = V c main_v5_0 (ix3 b (gn j t) 0) := by
  have h := iblk2_3 V c (pt2 b j) t
  rw [h]; show V c main_v5_0 (ix3 (gb (8 * b.val + j.val)) (gn (gj (8 * b.val + j.val)) t) 0) = _; rw [gb_pt, gj_pt]
theorem blkD (m : Fin 60) : (iblk2 V c 4 (pt2 b j) : Vec Ideal S1x4200x60 .bf16) (ix3 0 t m) = V c main_v5_1 (ix3 b (gn j t) m) := by
  have h := iblk2_4 V c (pt2 b j) t m
  rw [h]; show V c main_v5_1 (ix3 (gb (8 * b.val + j.val)) (gn (gj (8 * b.val + j.val)) t) m) = _; rw [gb_pt, gj_pt]
theorem blkT (m : Fin 60) : (iblk2 V c 5 (pt2 b j) : Vec Ideal S1x1x60 .f32) (ix3 0 0 m) = V c main_v6 (ix3 b 0 m) := by
  have h := iblk2_5 V c (pt2 b j) m
  rw [h]; show V c main_v6 (ix3 (gb (8 * b.val + j.val)) 0 m) = _; rw [gb_pt]
theorem blkV : (iblk2 V c 6 (pt2 b j) : Vec Ideal S1x4200x1 .f32) (ix3 0 t 0) = V c main_v4 (ix3 b (gn j t) 0) := by
  have h := iblk2_6 V c (pt2 b j) t
  rw [h]; show V c main_v4 (ix3 (gb (8 * b.val + j.val)) (gn (gj (8 * b.val + j.val)) t) 0) = _; rw [gb_pt, gj_pt]
theorem blkU : (iblk2 V c 7 (pt2 b j) : Vec Ideal S1x4200x1 .f32) (ix3 0 t 0) = V c main_arg2 (ix3 b (gn j t) 0) := by
  have h := iblk2_7 V c (pt2 b j) t
  rw [h]; show V c main_arg2 (ix3 (gb (8 * b.val + j.val)) (gn (gj (8 * b.val + j.val)) t) 0) = _; rw [gb_pt, gj_pt]

end

section

variable (x0 : Vec Ideal S1x4200x4 .f32) (x1 : Vec Ideal S4200x2 .f32) (x2 : Vec Ideal S1x4x60 .f32) (x3 : Vec Ideal S1x4200x1 .f32)
  (x4 : Vec Ideal S1x4200x60 .bf16) (x5 : Vec Ideal S1x1x60 .f32) (x6 x7 : Vec Ideal S1x4200x1 .f32)
  (X : Fin 33600 → Fin 80 → EReal) (P : Fin 33600 → Fin 4 → EReal) (A : Fin 33600 → Fin 2 → EReal)
  (L : Fin 60 → BitVec 32) (G : Fin 60 → Fin 4 → EReal) (v u : Fin 33600 → EReal) (j : Fin 8)
  (e0 : ∀ t k, x0 (ix3 0 t k) = P (gn j t) k) (e1 : ∀ t k, x1 (ix2 t k) = A (gn j t) k) (e2 : ∀ k m, x2 (ix3 0 k m) = G m k)
  (e3 : ∀ t, x3 (ix3 0 t 0) = sumNeg (X (gn j t))) (e4 : ∀ t m, x4 (ix3 0 t m) = dx (X (gn j t)) (L m))
  (e5 : ∀ m, x5 (ix3 0 0 m) = cut X P A L G m) (e6 : ∀ t, x6 (ix3 0 t 0) = v (gn j t)) (e7 : ∀ t, x7 (ix3 0 t 0) = u (gn j t))

include e0 e1 e2 in
theorem rows_eq (t : Fin 4200) : rP x0 t = P (gn j t) ∧ rA x1 t = A (gn j t) ∧ (∀ m, rG x2 m = G m) ∧ rG x2 = G :=
  ⟨funext fun k => e0 t k, funext fun k => e1 t k, fun m => funext fun k => e2 k m, funext fun m => funext fun k => e2 k m⟩

include e0 e1 e2 e3 e4 in
theorem row3_eq (t : Fin 4200) : row3 x0 x1 x2 x3 x4 t = costs X P A L G (gn j t) := by
  obtain ⟨hp, ha, hg, hG⟩ := rows_eq x0 x1 x2 P A G j e0 e1 e2 t
  funext m
  show x3 (ix3 0 t 0) + x4 (ix3 0 t m) + rest (rA x1 t) (rP x0 t) (rG x2 m) (rG x2) = _
  rw [hp, ha, hg m, hG, e3, e4]
  rfl

include e0 e1 e2 e3 e4 e5 in
theorem sel3_eq (t : Fin 4200) (m : Fin 60) : sel3 x0 x1 x2 x3 x4 x5 t m = chosen X P A L G (gn j t) m := by
  obtain ⟨hp, ha, hg, hG⟩ := rows_eq x0 x1 x2 P A G j e0 e1 e2 t
  show msel (row3 x0 x1 x2 x3 x4 t) (taken (row3 x0 x1 x2 x3 x4 t) fun m => x5 (ix3 0 0 m)) (fgBit (rA x1 t) (rG x2)) m = _
  rw [row3_eq x0 x1 x2 x3 x4 X P A L G j e0 e1 e2 e3 e4 t, ha, hG, show (fun m => x5 (ix3 0 0 m)) = cut X P A L G from funext e5]
  rfl

include e0 e1 e2 e3 e4 e5 in
theorem pos3_eq (t : Fin 4200) : pos3 x0 x1 x2 x3 x4 x5 t = matched X P A L G (gn j t) := by
  obtain ⟨hp, ha, hg, hG⟩ := rows_eq x0 x1 x2 P A G j e0 e1 e2 t
  show bitE (posB (row3 x0 x1 x2 x3 x4 t) (taken (row3 x0 x1 x2 x3 x4 t) fun m => x5 (ix3 0 0 m)) (fgBit (rA x1 t) (rG x2))) = _
  rw [row3_eq x0 x1 x2 x3 x4 X P A L G j e0 e1 e2 e3 e4 t, ha, hG, show (fun m => x5 (ix3 0 0 m)) = cut X P A L G from funext e5]
  rfl

include e0 e1 e2 e3 e4 e5 e6 in
theorem part0_eq : part x0 x1 x2 x3 x4 x5 x6 x7 (ix3 0 0 0) = (∑ t, v (gn j t) * sumNeg (X (gn j t)))
    + ∑ t, ∑ m, chosen X P A L G (gn j t) m * dx (X (gn j t)) (L m) * v (gn j t) := by
  rw [part_0]
  refine congrArg₂ (fun a b : EReal => a + b) (Finset.sum_congr rfl fun t _ => ?_) (Finset.sum_congr rfl fun t _ => Finset.sum_congr rfl fun m _ => ?_)
  · rw [e6, e3]
  · rw [sel3_eq x0 x1 x2 x3 x4 x5 X P A L G j e0 e1 e2 e3 e4 e5, e4, e6]

include e0 e1 e2 e3 e4 e5 in
theorem part1_eq : part x0 x1 x2 x3 x4 x5 x6 x7 (ix3 0 0 1)
    = ∑ t, (1 - giou (P (gn j t)) fun k => ∑ m, chosen X P A L G (gn j t) m * G m k) * matched X P A L G (gn j t) := by
  rw [part_1]
  refine Finset.sum_congr rfl fun t _ => ?_
  obtain ⟨hp, ha, hg, hG⟩ := rows_eq x0 x1 x2 P A G j e0 e1 e2 t
  rw [pos3_eq x0 x1 x2 x3 x4 x5 X P A L G j e0 e1 e2 e3 e4 e5, hp]
  have : box3 x0 x1 x2 x3 x4 x5 t = fun k => ∑ m, chosen X P A L G (gn j t) m * G m k := by
    funext k
    refine Finset.sum_congr rfl fun m _ => ?_
    rw [sel3_eq x0 x1 x2 x3 x4 x5 X P A L G j e0 e1 e2 e3 e4 e5, hg m]
  rw [this]

include e0 e1 e2 e3 e4 e5 e7 in
theorem part2_eq : part x0 x1 x2 x3 x4 x5 x6 x7 (ix3 0 0 2)
    = ∑ t, bce (u (gn j t)) (∑ m, chosen X P A L G (gn j t) m * iou (P (gn j t)) (G m)) * matched X P A L G (gn j t) := by
  rw [part_2]
  refine Finset.sum_congr rfl fun t _ => ?_
  obtain ⟨hp, ha, hg, hG⟩ := rows_eq x0 x1 x2 P A G j e0 e1 e2 t
  rw [pos3_eq x0 x1 x2 x3 x4 x5 X P A L G j e0 e1 e2 e3 e4 e5, hp, e7]
  refine congrArg (fun z => bce (u (gn j t)) z * matched X P A L G (gn j t)) (Finset.sum_congr rfl fun m _ => ?_)
  rw [sel3_eq x0 x1 x2 x3 x4 x5 X P A L G j e0 e1 e2 e3 e4 e5, hg m]

include e0 e1 e2 e3 e4 e5 in
theorem part3_eq : part x0 x1 x2 x3 x4 x5 x6 x7 (ix3 0 0 3) = ∑ t, matched X P A L G (gn j t) := by
  rw [part_3]
  exact Finset.sum_congr rfl fun t _ => pos3_eq x0 x1 x2 x3 x4 x5 X P A L G j e0 e1 e2 e3 e4 e5 t

end

include h0 h1 h6 in
theorem sums_eq (b : Fin 8) (k : Fin 4) : ∑ j : Fin 8, add2 V c (pt2 b j) k
    = sums (vX V c b) (vP V c b) (vA V c) (vL V c b) (vG V c b) (fun n => V c main_v4 (ix3 b n 0)) (fun n => V c main_arg2 (ix3 b n 0)) k := by
  have e0 := fun j t k => blkP V c b j t k
  have e1 := fun j t k => blkA V c b j t k
  have e2 := fun j k m => blkG V c b j k m
  have e3 := fun j t => (blkS V c b j t).trans (h0 b (gn j t))
  have e4 := fun j t m => (blkD V c b j t m).trans (h1 b (gn j t) m)
  have e5 := fun j m => (blkT V c b j m).trans (h6 b m)
  have e6 := fun j t => blkV V c b j t
  have e7 := fun j t => blkU V c b j t
  unfold add2
  match k with
  | ⟨0, _⟩ =>
    show ∑ j : Fin 8, part _ _ _ _ _ _ _ _ (ix3 0 0 0) = clsSum _ _ _ _ _ _
    unfold clsSum
    rw [← sum_gn, ← sum_gn, ← Finset.sum_add_distrib]
    exact Finset.sum_congr rfl fun j _ => part0_eq _ _ _ _ _ _ _ _ (vX V c b) (vP V c b) (vA V c) (vL V c b) (vG V c b) (fun n => V c main_v4 (ix3 b n 0)) j (e0 j) (e1 j) (e2 j) (e3 j) (e4 j) (e5 j) (e6 j)
  | ⟨1, _⟩ =>
    show ∑ j : Fin 8, part _ _ _ _ _ _ _ _ (ix3 0 0 1) = boxSum _ _ _ _ _
    unfold boxSum
    rw [← sum_gn]
    exact Finset.sum_congr rfl fun j _ => part1_eq _ _ _ _ _ _ _ _ (vX V c b) (vP V c b) (vA V c) (vL V c b) (vG V c b) j (e0 j) (e1 j) (e2 j) (e3 j) (e4 j) (e5 j)
  | ⟨2, _⟩ =>
    show ∑ j : Fin 8, part _ _ _ _ _ _ _ _ (ix3 0 0 2) = iouSum _ _ _ _ _ _
    unfold iouSum
    rw [← sum_gn]
    exact Finset.sum_congr rfl fun j _ => part2_eq _ _ _ _ _ _ _ _ (vX V c b) (vP V c b) (vA V c) (vL V c b) (vG V c b) (fun n => V c main_arg2 (ix3 b n 0)) j (e0 j) (e1 j) (e2 j) (e3 j) (e4 j) (e5 j) (e7 j)
  | ⟨3, _⟩ =>
    show ∑ j : Fin 8, part _ _ _ _ _ _ _ _ (ix3 0 0 3) = posSum _ _ _ _ _
    unfold posSum
    rw [← sum_gn]
    exact Finset.sum_congr rfl fun j _ => part3_eq _ _ _ _ _ _ _ _ (vX V c b) (vP V c b) (vA V c) (vL V c b) (vG V c b) j (e0 j) (e1 j) (e2 j) (e3 j) (e4 j) (e5 j)

end Cert.KernelIdeal.Own
-- ==== Proof.KVal.lean ====
/-
  The kernel's run: its result array holds the losses of the arguments.
-/
module

public import proofs.«01_k».proof.Proof.Sums
public import Idealize.ShloMosaic.Lib.StableHlo.Run
public import Idealize.ShloMosaic.Lib.Pointwise

@[expose] public section

set_option maxRecDepth 16384

noncomputable section

namespace Cert.KernelIdeal.Own

open Cert.KernelIdeal Cert.KernelIdeal.Gen Cert.Own Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩), funext fun g => hz g (.inr (no_unscoped g.2))⟩)

section

variable (m : (ℓ : Loc nD τ sig) → Buf (Elt Ideal) ℓ) (ρ : Dev nD → PrngReg) (c : Dev nD)

/-- The rows of the argument arrays. -/
abbrev mX (b : Fin 8) (n : Fin 33600) : Fin 80 → EReal := fun k => (m ((c : Thread nD τ).loc main_arg0) : FVec Ideal S8x33600x80 .f32) (ix3 b n k)
abbrev mP (b : Fin 8) (n : Fin 33600) : Fin 4 → EReal := fun k => (m ((c : Thread nD τ).loc main_arg1) : FVec Ideal S8x33600x4 .f32) (ix3 b n k)
abbrev mU (b : Fin 8) (n : Fin 33600) : EReal := (m ((c : Thread nD τ).loc main_arg2) : FVec Ideal S8x33600x1 .f32) (ix3 b n 0)
abbrev mA (n : Fin 33600) : Fin 2 → EReal := fun k => (m ((c : Thread nD τ).loc main_arg3) : FVec Ideal S33600x2 .f32) (ix2 n k)
abbrev mV (b : Fin 8) (n : Fin 33600) : EReal := bitE (~~~((m ((c : Thread nD τ).loc main_arg4) : IVec S8x33600 1) (ix2 b n)))
abbrev mL (b : Fin 8) (k : Fin 60) : BitVec 32 := (m ((c : Thread nD τ).loc main_arg5) : IVec S8x60 32) (ix2 b k)
abbrev mG (b : Fin 8) (k : Fin 60) : Fin 4 → EReal := fun i => (m ((c : Thread nD τ).loc main_arg6) : FVec Ideal S8x60x4 .f32) (ix3 b k i)

theorem w1_v0 (b : Fin 8) (k : Fin 60) : W1 m ρ c (Proc.devRef .tc main_v0) (ix3 b 0 k) = mL m c b k := by
  have h : W1 m ρ c (Proc.devRef .tc main_v0) = shapeCast S8x1x60 (m ((c : Thread nD τ).loc main_arg5) : IVec S8x60 32) shapeCasts_S8x60_S8x1x60 := by
    dsimp only [W1, hostOps0]
    after_results
    rfl
  rw [h]
  pointwise

theorem w1_v1 (b : Fin 8) (k : Fin 60) (i : Fin 4) : W1 m ρ c (Proc.devRef .tc main_v1) (ix3 b i k) = mG m c b k i := by
  have h : W1 m ρ c (Proc.devRef .tc main_v1) = transpose S8x4x60 [0, 2, 1] (m ((c : Thread nD τ).loc main_arg6) : FVec Ideal S8x60x4 .f32) transposes_S8x60x4_S8x4x60_0_2_1 := by
    dsimp only [W1, hostOps0]
    after_results
  rw [h]
  pointwise

theorem w1_v4 (b : Fin 8) (n : Fin 33600) : W1 m ρ c (Proc.devRef .tc main_v4) (ix3 b n 0) = mV m c b n := by
  have h : W1 m ρ c (Proc.devRef .tc main_v4) = shapeCast S8x33600x1 (uitofp .f32 (noti (m ((c : Thread nD τ).loc main_arg4) : IVec S8x33600 1)) : FVec Ideal S8x33600 .f32) shapeCasts_S8x33600_S8x33600x1 := by
    dsimp only [W1, hostOps0]
    after_results
    rfl
  rw [h]
  pointwise
  exact uitofp_bit _

end

/-- What the last operations make of the third call's array. -/
theorem tail_eq (W : Valuation τ sig (Elt Ideal)) (q : Fin 3) (s : Fin 8 → Fin 4 → EReal)
    (hs : ∀ b k, (W (Proc.devRef .tc main_v7) : FVec Ideal S8x1x4 .f32) (ix3 b 0 k) = s b k) :
    (StableHlo.after (hostOps3 (F := Ideal)) W (Proc.devRef .tc main_v24) : FVec Ideal S3 .f32) (ix1 q) = losses s q := by
  dsimp only [hostOps3]
  after_results
  have e : ∀ b k, s b k = (W (Proc.devRef .tc main_v7) : FVec Ideal S8x1x4 .f32) (ix3 b 0 k) := fun b k => (hs b k).symm
  unfold losses
  simp only [e]
  fin_cases q <;> pointwise
  all_goals
    repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide))
  · pointwise
    rfl
  · pointwise
    rfl
  · pointwise
    rfl

section

variable (m : (ℓ : Loc nD τ sig) → Buf (Elt Ideal) ℓ) (ρ : Dev nD → PrngReg) (c : Dev nD)

theorem v1_arg (a : Ref sig .tc) (h : a ∈ argRefs) : V1 m ρ c a = m ((c : Thread nD τ).loc a) := W1_args m ρ c a h

theorem v2_X (b : Fin 8) (n : Fin 33600) : vX (V2 m ρ) c b n = mX m c b n := by
  funext k; exact congrFun (W2_args m ρ c main_arg0 (by decide)) _
theorem v1_X (b : Fin 8) (n : Fin 33600) : vX (V1 m ρ) c b n = mX m c b n := by
  funext k; exact congrFun (W1_args m ρ c main_arg0 (by decide)) _
theorem v3_X (b : Fin 8) (n : Fin 33600) : vX (V3 m ρ) c b n = mX m c b n := by
  funext k; exact congrFun (W3_args m ρ c main_arg0 (by decide)) _
theorem v1_P (b : Fin 8) (n : Fin 33600) : vP (V1 m ρ) c b n = mP m c b n := by
  funext k; exact congrFun (W1_args m ρ c main_arg1 (by decide)) _
theorem v3_P (b : Fin 8) (n : Fin 33600) : vP (V3 m ρ) c b n = mP m c b n := by
  funext k; exact congrFun (W3_args m ρ c main_arg1 (by decide)) _
theorem v1_A (n : Fin 33600) : vA (V1 m ρ) c n = mA m c n := by
  funext k; exact congrFun (W1_args m ρ c main_arg3 (by decide)) _
theorem v3_A (n : Fin 33600) : vA (V3 m ρ) c n = mA m c n := by
  funext k; exact congrFun (W3_args m ρ c main_arg3 (by decide)) _
theorem v3_U (b : Fin 8) (n : Fin 33600) : V3 m ρ c main_arg2 (ix3 b n 0) = mU m c b n :=
  congrFun (W3_args m ρ c main_arg2 (by decide)) _
theorem v1_L (b : Fin 8) (k : Fin 60) : vL (V1 m ρ) c b k = mL m c b k := w1_v0 m ρ c b k
theorem v1_G (b : Fin 8) (k : Fin 60) : vG (V1 m ρ) c b k = mG m c b k := by
  funext i; exact w1_v1 m ρ c b k i

theorem v3_of1 (r : Ref sig .tc) (h0 : ∀ w : Fin cfg0.W, Pipeline.arrRef spec0 w = r → (cfg0.win w).isOut = false)
    (h1 : ∀ w : Fin cfg1.W, Pipeline.arrRef spec1 w = r → (cfg1.win w).isOut = false) :
    V3 m ρ c r = V1 m ρ c r := (W3_of m ρ c r h1).trans (W2_of m ρ c r h0)

theorem v3_L (b : Fin 8) (k : Fin 60) : vL (V3 m ρ) c b k = mL m c b k :=
  (congrFun (v3_of1 m ρ c main_v0 (by decide) (by decide)) _).trans (w1_v0 m ρ c b k)
theorem v3_G (b : Fin 8) (k : Fin 60) : vG (V3 m ρ) c b k = mG m c b k := by
  funext i; exact (congrFun (v3_of1 m ρ c main_v1 (by decide) (by decide)) _).trans (w1_v1 m ρ c b k i)
theorem v3_V (b : Fin 8) (n : Fin 33600) : V3 m ρ c main_v4 (ix3 b n 0) = mV m c b n :=
  (congrFun (v3_of1 m ρ c main_v4 (by decide) (by decide)) _).trans (w1_v4 m ρ c b n)

theorem v2_0 (b : Fin 8) (n : Fin 33600) : V2 m ρ c main_v5_0 (ix3 b n 0) = sumNeg (mX m c b n) := by
  refine (congrFun ((W2_arr m ρ c 5).trans (arr0_5 (V1 m ρ) c)) (ix3 b n 0)).trans ?_
  rw [← v1_X m ρ c b n]; rfl
theorem v2_1 (b : Fin 8) (n : Fin 33600) (k : Fin 60) : V2 m ρ c main_v5_1 (ix3 b n k) = dx (mX m c b n) (mL m c b k) := by
  refine (congrFun ((W2_arr m ρ c 6).trans (arr0_6 (V1 m ρ) c)) (ix3 b n k)).trans ?_
  rw [← v1_X m ρ c b n, ← v1_L m ρ c b k]; rfl
theorem v2_2 (b : Fin 8) (j : Fin 8) (r : Fin 10) (k : Fin 60) : V2 m ρ c main_v5_2 (ix4 b j r k) = topAt (V1 m ρ) c b j k r :=
  congrFun ((W2_arr m ρ c 7).trans (arr0_7 (V1 m ρ) c)) (ix4 b j r k)
theorem v2_3 (b : Fin 8) (j : Fin 8) (r : Fin 10) (k : Fin 60) : V2 m ρ c main_v5_3 (ix4 b j r k) = lowAt (V1 m ρ) c b j k r :=
  congrFun ((W2_arr m ρ c 8).trans (arr0_8 (V1 m ρ) c)) (ix4 b j r k)

theorem v3_cut (b : Fin 8) (k : Fin 60) : V3 m ρ c main_v6 (ix3 b 0 k) = cut (mX m c b) (mP m c b) (mA m c) (mL m c b) (mG m c b) k := by
  refine (congrFun ((W3_arr m ρ c 2).trans (arr1_2 (V2 m ρ) c ?_)) (ix3 b 0 k)).trans ?_
  · intro b q r k
    rw [v2_2]
    exact tops_ge _ _
  · refine (thr_merge (V1 m ρ) c (V2 m ρ) b k (fun j r => v2_2 m ρ c b j r k) (fun j r => v2_3 m ρ c b j r k)).trans ?_
    simp only [funext (v1_X m ρ c b), funext (v1_P m ρ c b), funext (v1_A m ρ c), funext (v1_L m ρ c b), funext (v1_G m ρ c b)]

/-- The third call's array: the four sums of each example. -/
theorem v4_sums (b : Fin 8) (k : Fin 4) : V4 m ρ c main_v7 (ix3 b 0 k)
    = sums (mX m c b) (mP m c b) (mA m c) (mL m c b) (mG m c b) (mV m c b) (mU m c b) k := by
  refine (congrFun ((W4_arr m ρ c 8).trans (arr2_8 (V3 m ρ) c)) (ix3 b 0 k)).trans ?_
  refine (sums_eq (V3 m ρ) c ?_ ?_ ?_ b k).trans ?_
  · intro b n
    rw [v3_X]
    exact (congrFun (W3_of m ρ c main_v5_0 (by decide)) _).trans (v2_0 m ρ c b n)
  · intro b n k
    rw [v3_X, v3_L]
    exact (congrFun (W3_of m ρ c main_v5_1 (by decide)) _).trans (v2_1 m ρ c b n k)
  · intro b k
    refine (v3_cut m ρ c b k).trans ?_
    simp only [funext (v3_X m ρ c b), funext (v3_P m ρ c b), funext (v3_A m ρ c), funext (v3_L m ρ c b), funext (v3_G m ρ c b)]
  · simp only [funext (v3_X m ρ c b), funext (v3_P m ρ c b), funext (v3_A m ρ c), funext (v3_L m ρ c b), funext (v3_G m ρ c b), funext (v3_V m ρ c b), funext (v3_U m ρ c b)]

/-- The kernel's result: the three losses. -/
theorem value (q : Fin 3) : (W5 m ρ c (Proc.devRef .tc main_v24) : FVec Ideal S3 .f32) (ix1 q)
    = losses (fun b => sums (mX m c b) (mP m c b) (mA m c) (mL m c b) (mG m c b) (mV m c b) (mU m c b)) q :=
  tail_eq (W4 m ρ c) q _ (fun b k => v4_sums m ρ c b k)

end

end Cert.KernelIdeal.Own
-- ==== Proof.Rank.lean ====
/-
  Sorting permutations: positions in a sorted row are numbers of smaller entries.
-/
module

public import proofs.«01_k».proof.Proof.Kth
public import Idealize.ShloMosaic.Lib.SortFacts
public import Mathlib.Order.Fin.Basic

@[expose] public section

namespace Cert.Own

open Idealize.ShloMosaic

variable {n : ℕ}

/-- The position of the `k`-th least entry of a row, ties in row order. -/
def ascending {α : Type} [LinearOrder α] (x : Fin n → α) : Fin n → Fin n := sortedFrom fun k k' => decide (x k < x k')

theorem ascending_monotone {α : Type} [LinearOrder α] (x : Fin n → α) : Monotone fun k => x (ascending x k) := by
  intro i j hij
  rcases hij.eq_or_lt with rfl | hlt
  · exact le_rfl
  have h := sortedFrom_noInversion (fun k k' => decide (x k < x k')) (fun k k' => decide (x k < x k'))
    (fun a b h => by simp only [decide_eq_true_eq, decide_eq_false_iff_not] at *; exact not_lt.mpr h.le)
    (fun _ _ h => h)
    (fun a b c h1 h2 => by simp only [decide_eq_false_iff_not, not_lt] at *; exact h2.trans h1) i j hlt
  exact not_lt.mp (of_decide_eq_false h)

theorem ascending_bijective {α : Type} [LinearOrder α] (x : Fin n → α) : Function.Bijective (ascending x) :=
  ⟨sortedFrom_injective _, sortedFrom_surjective _⟩

theorem ascending_strictMono {α : Type} [LinearOrder α] (x : Fin n → α) (hx : Function.Injective x) :
    StrictMono fun k => x (ascending x k) :=
  (ascending_monotone x).strictMono_of_injective (hx.comp (ascending_bijective x).1)

theorem card_lt_ascending {α : Type} [LinearOrder α] (x : Fin n → α) (hx : Function.Injective x) (k : Fin n) :
    (Finset.univ.filter fun i => x i < x (ascending x k)).card = k.val := by
  have : (Finset.univ.filter fun i => x i < x (ascending x k)) = (Finset.univ.filter fun l => l < k).image (ascending x) := by
    ext i
    simp only [Finset.mem_filter, Finset.mem_univ, true_and, Finset.mem_image]
    constructor
    · intro h
      obtain ⟨l, rfl⟩ := (ascending_bijective x).2 i
      exact ⟨l, (ascending_strictMono x hx).lt_iff_lt.mp h, rfl⟩
    · rintro ⟨l, hl, rfl⟩
      exact ascending_strictMono x hx hl
  rw [this, Finset.card_image_of_injective _ (ascending_bijective x).1]
  rw [show (Finset.univ.filter fun l => l < k) = Finset.Iio k from by ext l; simp, Fin.card_Iio]

/-- The positions of the sorting permutation, sorted: its inverse. -/
theorem ascending_ascending {α : Type} [LinearOrder α] (x : Fin n → α) (i : Fin n) :
    ascending x (ascending (ascending x) i) = i := by
  have h := ascending_strictMono (ascending x) (ascending_bijective x).1
  have : (fun k => ascending x (ascending (ascending x) k)) = id := by
    have h2 := h.range_inj (g := id) strictMono_id |>.mp (by
      rw [Set.range_id]
      exact ((ascending_bijective x).2.comp (ascending_bijective _).2).range_eq)
    exact h2
  exact congrFun this i

/-- The rank of an entry, as two sorts compute it. -/
theorem rank_eq {α : Type} [LinearOrder α] (x : Fin n → α) (hx : Function.Injective x) (i : Fin n) :
    (ascending (ascending x) i).val = (Finset.univ.filter fun j => x j < x i).card := by
  rw [← card_lt_ascending x hx, ascending_ascending]

theorem mem_iff_lt_card (p : Fin n → Prop) [DecidablePred p] (hp : ∀ i j, i ≤ j → p j → p i) (i : Fin n) :
    p i ↔ i.val < (Finset.univ.filter p).card := by
  constructor
  · intro h
    have : Finset.Iic i ⊆ Finset.univ.filter p := fun j hj =>
      Finset.mem_filter.mpr ⟨Finset.mem_univ _, hp _ _ (Finset.mem_Iic.mp hj) h⟩
    have := Finset.card_le_card this
    rw [Fin.card_Iic] at this
    omega
  · intro h
    by_contra hi
    have : Finset.univ.filter p ⊆ Finset.Iio i := fun j hj => by
      rw [Finset.mem_Iio]
      by_contra hj'
      exact hi (hp _ _ (not_lt.mp hj') (Finset.mem_filter.mp hj).2)
    have := Finset.card_le_card this
    rw [Fin.card_Iio] at this
    omega

/-- The `i`-th least entry of a row is at most `t` exactly if more than `i` entries are. -/
theorem ascending_le_iff {α : Type} [LinearOrder α] (x : Fin n → α) (i : Fin n) (t : α) :
    x (ascending x i) ≤ t ↔ i.val < (Finset.univ.filter fun j => x j ≤ t).card := by
  rw [mem_iff_lt_card (fun k => x (ascending x k) ≤ t) (fun a b hab h => (ascending_monotone x hab).trans h) i]
  have : (Finset.univ.filter fun j => x j ≤ t) = (Finset.univ.filter fun k => x (ascending x k) ≤ t).image (ascending x) := by
    ext j
    simp only [Finset.mem_filter, Finset.mem_univ, true_and, Finset.mem_image]
    constructor
    · intro h
      obtain ⟨l, rfl⟩ := (ascending_bijective x).2 j
      exact ⟨l, h, rfl⟩
    · rintro ⟨l, hl, rfl⟩; exact hl
  rw [this, Finset.card_image_of_injective _ (ascending_bijective x).1]

/-- The `i`-th least entry of a row whose sorted entries up to it increase strictly as far as they are below `z`, cut off at `z`. -/
theorem ascending_eq_kth {α : Type} [LinearOrder α] [BoundedOrder α] (x : Fin n → α) (d z : α) (hz : z ≤ d)
    (hx : ∀ i, x i ≤ z) (i : Fin n)
    (h : ∀ k l : Fin n, k.val + 1 = l.val → l ≤ i → x (ascending x k) < z → x (ascending x k) < x (ascending x l)) :
    x (ascending x i) = min (kth d (Finset.univ.image x) i.val) z := by
  refine eq_of_bounds z _ _ (hx _) (min_le_right _ _) fun t ht => ?_
  rw [min_le_iff, kth_le_iff d _ _ t (ht.trans_le hz)]
  constructor
  · intro hi
    left
    have hmono : StrictMonoOn (fun k => x (ascending x k)) (Finset.Iic i : Finset (Fin n)) := by
      intro a _ b hb hab
      have hb' : b ≤ i := by simpa using hb
      have hlt : a.val < b.val := hab
      have h0 : a.val + 1 < n := by omega
      have hab' : (⟨a.val + 1, h0⟩ : Fin n) ≤ b := by rw [Fin.le_def]; simp only; omega
      have h1 := h a ⟨a.val + 1, h0⟩ rfl (hab'.trans hb') (((ascending_monotone x (hab.le.trans hb')).trans hi).trans_lt ht)
      exact h1.trans_le (ascending_monotone x hab')
    have hsub : (Finset.Iic i).image (fun k => x (ascending x k)) ⊆ (Finset.univ.image x).filter (· ≤ t) := by
      intro y hy
      obtain ⟨k, hk, rfl⟩ := Finset.mem_image.mp hy
      exact Finset.mem_filter.mpr ⟨Finset.mem_image_of_mem _ (Finset.mem_univ _), (ascending_monotone x (Finset.mem_Iic.mp hk)).trans hi⟩
    have hcard := Finset.card_le_card hsub
    rw [Finset.card_image_of_injOn hmono.injOn, Fin.card_Iic] at hcard
    omega
  · rintro (h1 | h1)
    · rw [ascending_le_iff]
      refine h1.trans_le ?_
      rw [Finset.filter_image]
      exact Finset.card_image_le
    · exact absurd h1 (not_le.mpr ht)

end Cert.Own
-- ==== Proof.Focal.lean ====
/-
  The focal loss of a real score, against a class absent and present.
-/
module

public import proofs.«01_k».proof.Proof.Spec

@[expose] public section

noncomputable section

namespace Cert.Own

open Idealize.ShloMosaic

/-- A number that is neither infinity. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩
theorem fin_sub {x y : EReal} (hx : Fin' x) (hy : Fin' y) : Fin' (x - y) := by
  obtain ⟨a, rfl⟩ := hx; obtain ⟨b, rfl⟩ := hy; exact ⟨a - b, (EReal.coe_sub a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_max {x y : EReal} (hx : Fin' x) (hy : Fin' y) : Fin' (max x y) := by
  rcases max_choice x y with h | h <;> rw [h] <;> assumption
theorem fin_min {x y : EReal} (hx : Fin' x) (hy : Fin' y) : Fin' (min x y) := by
  rcases min_choice x y with h | h <;> rw [h] <;> assumption
theorem fin_zero : Fin' 0 := ⟨0, rfl⟩
theorem fin_one : Fin' 1 := ⟨1, rfl⟩
theorem fin_sum {ι : Type} (s : Finset ι) (f : ι → EReal) (h : ∀ i, Fin' (f i)) : Fin' (∑ i ∈ s, f i) := by
  classical
  induction s using Finset.induction_on with
  | empty => simpa using fin_zero
  | insert a s ha ih => rw [Finset.sum_insert ha]; exact fin_add (h a) ih
theorem fin_bitE (v : BitVec 1) : Fin' (bitE v) := by unfold bitE; split; exact fin_one; exact fin_zero

theorem ofBits_q : Ideal.ofBits FTy.f32 1048576000#32 = ((1 / 4 : ℝ) : EReal) := by
  simp [Ideal.ofBits, Ideal.ieee, -EReal.coe_mul]; norm_num
theorem ofBits_tq : Ideal.ofBits FTy.f32 1061158912#32 = ((3 / 4 : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num

theorem fin_logistic {x : EReal} (hx : Fin' x) : Fin' (Ideal.logistic x) := by
  obtain ⟨r, rfl⟩ := hx
  refine ⟨(1 + Real.exp (-r))⁻¹, ?_⟩
  have hp : (1 + Real.exp (-r)) ≠ 0 := by positivity
  have e : (1 + Ideal.exp (-(r : EReal))) = ((1 + Real.exp (-r) : ℝ) : EReal) := by
    rw [← EReal.coe_neg]; show (1 : EReal) + ((Real.exp (-r) : ℝ) : EReal) = _; rw [EReal.coe_add]; rfl
  unfold Ideal.logistic Ideal.div
  rw [e, if_neg (by simpa using EReal.coe_ne_zero.mpr hp), one_mul, ← EReal.coe_inv]

theorem fin_log {x : EReal} (hx : Fin' x) : Fin' (Ideal.log1p (Ideal.exp (-FloatOps.absf (F := Ideal) (φ := .f32) x))) := by
  obtain ⟨r, rfl⟩ := hx
  have e : FloatOps.absf (F := Ideal) (φ := .f32) ((r : ℝ) : EReal) = ((|r| : ℝ) : EReal) := by
    rw [abs_eq_max_neg, EReal.coe_strictMono.monotone.map_max, EReal.coe_neg]; rfl
  rw [e, ← EReal.coe_neg]
  show Fin' (Ideal.log ((1 : EReal) + ((Real.exp (-|r|) : ℝ) : EReal)))
  have e2 : ((1 : EReal) + ((Real.exp (-|r|) : ℝ) : EReal)) = ((1 + Real.exp (-|r|) : ℝ) : EReal) := by rw [EReal.coe_add]; rfl
  rw [e2]
  refine ⟨Real.log (1 + Real.exp (-|r|)), ?_⟩
  have : ¬ (1 + Real.exp (-|r|) ≤ 0) := by have := Real.exp_pos (-|r|); linarith
  show (if 1 + Real.exp (-|r|) ≤ 0 then (⊥ : EReal) else ((Real.log (1 + Real.exp (-|r|)) : ℝ) : EReal)) = _
  rw [if_neg this]

/-- The focal loss of a score against a target, as the problem states it. -/
def focal (x t : EReal) : EReal :=
  (Ideal.ofBits FTy.f32 1048576000#32 * t + Ideal.ofBits FTy.f32 1061158912#32 * (1 - t)) *
    ((max x 0 - x * t + Ideal.log1p (Ideal.exp (-FloatOps.absf (F := Ideal) (φ := .f32) x))) *
      Ideal.pow (1 - (Ideal.div 1 (1 + Ideal.exp (-x)) * t + (1 - Ideal.div 1 (1 + Ideal.exp (-x))) * (1 - t)))
        (Ideal.ofBits FTy.f32 1073741824#32))

theorem pow_two (p : ℝ) : Ideal.pow (p : EReal) (Ideal.ofBits FTy.f32 1073741824#32) = (p : EReal) * p := by
  rw [ofBits_two]
  show ((Real.rpow p 2 : ℝ) : EReal) = _
  rw [← EReal.coe_mul]
  congr 1
  have : Real.rpow p 2 = p ^ (2 : ℕ) := by
    have := Real.rpow_natCast p 2
    simpa using this
  rw [this, sq]

theorem one_sub_one : (1 : EReal) - 1 = 0 := EReal.sub_self (by decide) (by decide)

theorem sub_sub_one (p : ℝ) : (1 : EReal) - (1 - (p : EReal)) = p := by
  have : (1 : EReal) = ((1 : ℝ) : EReal) := rfl
  rw [this, ← EReal.coe_sub, ← EReal.coe_sub]; congr 1; ring

theorem ce0_eq (x : EReal) : ce0 x = max x 0 + Ideal.log1p (Ideal.exp (-FloatOps.absf (F := Ideal) (φ := .f32) x)) := by
  unfold ce0; rw [zero_sub]

theorem focal_zero {x : EReal} (hx : Fin' x) : focal x 0 = negE x := by
  obtain ⟨p, hp⟩ := fin_logistic hx
  have hp' : Ideal.div 1 (1 + Ideal.exp (-x)) = (p : EReal) := hp
  unfold focal negE
  rw [ce0_eq, hp', hp]
  simp only [mul_zero, zero_add, sub_zero, mul_one]
  rw [sub_sub_one, pow_two]
  simp only [mul_assoc]

theorem focal_one {x : EReal} (hx : Fin' x) : focal x 1 = posE x := by
  obtain ⟨p, hp⟩ := fin_logistic hx
  have hp' : Ideal.div 1 (1 + Ideal.exp (-x)) = (p : EReal) := hp
  unfold focal posE
  rw [ce0_eq, hp', hp]
  have h1 : (1 : EReal) - (p : EReal) = ((1 - p : ℝ) : EReal) := by rw [EReal.coe_sub]; rfl
  simp only [one_sub_one, mul_zero, add_zero, mul_one, h1, pow_two]
  have h2 : ∀ a b c : EReal, a - b + c = a + c - b := fun a b c => by rw [sub_eq_add_neg, sub_eq_add_neg, add_right_comm]
  rw [h2, mul_assoc, mul_assoc]

theorem fin_neg {x : EReal} (hx : Fin' x) : Fin' (negE x) := by
  unfold negE
  rw [ce0_eq]
  exact fin_mul (fin_mul (fin_mul ⟨_, ofBits_tq⟩ (fin_add (fin_max hx fin_zero) (fin_log hx))) (fin_logistic hx)) (fin_logistic hx)

theorem fin_pos {x : EReal} (hx : Fin' x) : Fin' (posE x) := by
  unfold posE
  rw [ce0_eq]
  exact fin_mul (fin_mul (fin_mul ⟨_, ofBits_q⟩ (fin_sub (fin_add (fin_max hx fin_zero) (fin_log hx)) hx))
    (fin_sub fin_one (fin_logistic hx))) (fin_sub fin_one (fin_logistic hx))

end Cert.Own
-- ==== Proof.Fair.lean ====
/-
  Assignable examples: how the cuts at the greatest overlaps and at the least costs are the ranks the problem speaks of.
-/
module

public import proofs.«01_k».proof.Proof.Task
public import proofs.«01_k».proof.Proof.Rank
public import proofs.«01_k».proof.Proof.Focal

@[expose] public section

noncomputable section

namespace Cert.Own

open Idealize.ShloMosaic

/-- The entry of rank `r`, greatest first. -/
def descending {n : ℕ} (f : Fin n → EReal) : Fin n → Fin n := sortedFrom fun k k' => decide (f k' < f k)

/-- Finite scores and true boxes, labels among the classes, and no tie where a ground truth draws its least costs and its greatest overlaps. -/
structure Fair (X : Fin 33600 → Fin 80 → EReal) (P : Fin 33600 → Fin 4 → EReal) (A : Fin 33600 → Fin 2 → EReal)
    (L : Fin 60 → BitVec 32) (G : Fin 60 → Fin 4 → EReal) : Prop where
  finX : ∀ n c, Fin' (X n c)
  finG : ∀ m k, Fin' (G m k)
  lab : ∀ m, ∃ c : Fin 80, L m = BitVec.ofNat 32 c.val
  low : ∀ m (k l : Fin 33600), k.val + 1 = l.val → l.val ≤ 10 →
    costs X P A L G (ascending (fun n => costs X P A L G n m) k) m < costs X P A L G (ascending (fun n => costs X P A L G n m) l) m
  high : ∀ m (k l : Fin 33600), k.val + 1 = l.val → l.val < 10 → 0 < overlaps P A G m (descending (overlaps P A G m) k) →
    overlaps P A G m (descending (overlaps P A G m) l) < overlaps P A G m (descending (overlaps P A G m) k)

theorem ofBits_eps : Fin' (Ideal.ofBits FTy.f32 841731191#32) := by
  refine ⟨(Ideal.ofBits FTy.f32 841731191#32).toReal, (EReal.coe_toReal ?_ ?_).symm⟩ <;> simp [Ideal.ofBits, Ideal.ieee, -EReal.coe_mul]

theorem fin_coe {x : EReal} (h0 : 0 ≤ x) (h1 : x ≤ 1) : Fin' x :=
  ⟨x.toReal, (EReal.coe_toReal (fun h => by rw [h] at h1; exact absurd h1 (by decide)) (fun h => by rw [h] at h0; exact absurd h0 (by decide))).symm⟩

theorem inter_le_left (p g : Fin 4 → EReal) : inter p g ≤ max (g 2 - g 0) 0 * max (g 3 - g 1) 0 := by
  unfold inter
  refine mul_le_mul ?_ ?_ (le_max_right _ _) (le_max_right _ _)
  · exact max_le_max (EReal.sub_le_sub (min_le_left _ _) (le_max_left _ _)) le_rfl
  · exact max_le_max (EReal.sub_le_sub (min_le_left _ _) (le_max_left _ _)) le_rfl

theorem inter_le_right (p g : Fin 4 → EReal) : inter p g ≤ max (p 2 - p 0) 0 * max (p 3 - p 1) 0 := by
  unfold inter
  refine mul_le_mul ?_ ?_ (le_max_right _ _) (le_max_right _ _)
  · exact max_le_max (EReal.sub_le_sub (min_le_right _ _) (le_max_right _ _)) le_rfl
  · exact max_le_max (EReal.sub_le_sub (min_le_right _ _) (le_max_right _ _)) le_rfl

theorem iou_le_one {p g : Fin 4 → EReal} (hg : ∀ k, Fin' (g k)) : iou p g ≤ 1 := by
  have fa : Fin' (max (g 2 - g 0) 0 * max (g 3 - g 1) 0) :=
    fin_mul (fin_max (fin_sub (hg _) (hg _)) fin_zero) (fin_max (fin_sub (hg _) (hg _)) fin_zero)
  have i0 : 0 ≤ inter p g := mul_nonneg (le_max_right _ _) (le_max_right _ _)
  have b0 : 0 ≤ max (p 2 - p 0) 0 * max (p 3 - p 1) 0 := mul_nonneg (le_max_right _ _) (le_max_right _ _)
  have fi : Fin' (inter p g) := by
    have h1 := inter_le_left p g
    obtain ⟨a, ha⟩ := fa
    rw [ha] at h1
    exact ⟨(inter p g).toReal, (EReal.coe_toReal (ne_top_of_le_ne_top (EReal.coe_ne_top a) h1)
      (fun h => by rw [h] at i0; exact absurd i0 (by decide))).symm⟩
  by_cases hb : max (p 2 - p 0) 0 * max (p 3 - p 1) 0 = ⊤
  · have hu : union p g = ⊤ := by
      unfold union
      obtain ⟨a, ha⟩ := fa
      obtain ⟨i, hi⟩ := fi
      rw [hb, ha, hi, EReal.coe_add_top, EReal.top_sub_coe]
    unfold iou Ideal.div
    rw [hu, max_eq_left le_top, if_neg (by simp), EReal.inv_top, mul_zero]
    exact zero_le_one
  have fb : Fin' (max (p 2 - p 0) 0 * max (p 3 - p 1) 0) :=
    ⟨_, (EReal.coe_toReal hb (fun h => by rw [h] at b0; exact absurd b0 (by decide))).symm⟩
  have ha := inter_le_left p g
  have hb := inter_le_right p g
  have h0 : 0 < max (union p g) (Ideal.ofBits FTy.f32 841731191#32) := lt_max_of_lt_right ofBits_eps_pos
  have fd : Fin' (max (union p g) (Ideal.ofBits FTy.f32 841731191#32)) := fin_max (by unfold union; exact fin_sub (fin_add fa fb) fi) ofBits_eps
  have hu : inter p g ≤ union p g := by
    unfold union
    obtain ⟨i, hi⟩ := fi
    obtain ⟨a, ha'⟩ := fa
    obtain ⟨b, hb'⟩ := fb
    rw [hi] at ha hb ⊢
    rw [ha'] at ha ⊢
    rw [hb'] at hb ⊢
    have h1 := EReal.coe_le_coe_iff.mp ha
    have h2 := EReal.coe_le_coe_iff.mp hb
    rw [← EReal.coe_add, ← EReal.coe_sub]
    exact EReal.coe_le_coe_iff.mpr (by linarith)
  have hd : inter p g ≤ max (union p g) (Ideal.ofBits FTy.f32 841731191#32) := hu.trans (le_max_left _ _)
  unfold iou Ideal.div
  rw [if_neg h0.ne']
  obtain ⟨i, hi⟩ := fi
  obtain ⟨d, hd'⟩ := fd
  rw [hi] at hd ⊢
  rw [hd'] at hd h0 ⊢
  have h1 := EReal.coe_le_coe_iff.mp hd
  have h2 : 0 < d := by exact_mod_cast h0
  rw [← EReal.coe_inv, ← EReal.coe_mul]
  have : i * d⁻¹ ≤ 1 := by rw [← div_eq_mul_inv]; exact (div_le_one h2).mpr h1
  exact_mod_cast this

theorem fgIou_le_one {a : Fin 2 → EReal} {p g : Fin 4 → EReal} {G : Fin 60 → Fin 4 → EReal} (hg : ∀ k, Fin' (g k)) :
    fgIou a p g G ≤ 1 := by
  unfold fgIou bitE
  split
  · rw [mul_one]; exact iou_le_one hg
  · rw [mul_zero]; exact zero_le_one

theorem descending_top (f : Fin 33600 → EReal) (h0 : ∀ i, 0 ≤ f i)
    (ht : ∀ k l : Fin 33600, k.val + 1 = l.val → l.val < 10 → 0 < f (descending f k) → f (descending f l) < f (descending f k)) (r : Fin 10) :
    f (descending f (r.castLE (by decide))) = max (tops f r.val) 0 := by
  have := ascending_eq_kth (fun i => OrderDual.toDual (f i)) (OrderDual.toDual (-1 : EReal)) (OrderDual.toDual (0 : EReal))
    (OrderDual.toDual_le_toDual.mpr (by simp)) (fun i => OrderDual.toDual_le_toDual.mpr (h0 i)) (r.castLE (by decide))
    (fun k l hkl hl hk => OrderDual.toDual_lt_toDual.mpr (ht k l hkl (lt_of_le_of_lt hl r.isLt) (OrderDual.toDual_lt_toDual.mp hk)))
  exact congrArg OrderDual.ofDual this

theorem topSum_eq (f : Fin 33600 → EReal) (h0 : ∀ i, 0 ≤ f i)
    (ht : ∀ k l : Fin 33600, k.val + 1 = l.val → l.val < 10 → 0 < f (descending f k) → f (descending f l) < f (descending f k)) :
    ∑ r : Fin 10, f (descending f (r.castLE (by decide))) = topSum (tops f) := by
  simp only [descending_top f h0 ht]
  unfold topSum
  simp only [Fin.sum_univ_succ, Fin.sum_univ_zero, add_zero, zero_add, ← add_assoc]
  rfl

theorem dynK_range (f : Fin 33600 → EReal) (h0 : ∀ i, 0 ≤ f i) (h1 : ∀ i, f i ≤ 1)
    (ht : ∀ k l : Fin 33600, k.val + 1 = l.val → l.val < 10 → 0 < f (descending f k) → f (descending f l) < f (descending f k)) :
    ∃ k : ℕ, 1 ≤ k ∧ k ≤ 10 ∧ dynK (topSum (tops f)) = BitVec.ofNat 32 k := by
  rw [← topSum_eq f h0 ht]
  choose t htt using fun r : Fin 10 => fin_coe (h0 (descending f (r.castLE (by decide)))) (h1 _)
  have hs : ∑ r : Fin 10, f (descending f (r.castLE (by decide))) = ((∑ r : Fin 10, t r : ℝ) : EReal) := by
    rw [Finset.sum_congr rfl fun r _ => htt r]
    simp only [Fin.sum_univ_succ, Fin.sum_univ_zero, EReal.coe_add, EReal.coe_zero]
  have l0 : 0 ≤ ∑ r : Fin 10, t r := Finset.sum_nonneg fun r _ => by
    have := h0 (descending f (r.castLE (by decide))); rw [htt] at this; exact_mod_cast this
  have l1 : ∑ r : Fin 10, t r ≤ 10 := by
    have : ∑ r : Fin 10, t r ≤ ∑ r : Fin 10, (1 : ℝ) := Finset.sum_le_sum fun r _ => by
      have := h1 (descending f (r.castLE (by decide))); rw [htt] at this; exact_mod_cast this
    simpa using this
  rw [hs]
  generalize (∑ r : Fin 10, t r) = s at l0 l1
  have f0 : 0 ≤ ⌊s⌋ := Int.floor_nonneg.mpr l0
  have f1 : ⌊s⌋ ≤ 10 := by
    have := Int.floor_le_floor l1
    simpa using this
  have e : FloatOps.fptosi (F := Ideal) (φ := .f32) 32 (s : EReal) = BitVec.ofInt 32 ⌊s⌋ := by
    show BitVec.ofInt 32 (Ideal.toIntClamped _ _ (s : EReal)) = _
    rw [Ideal.toIntClamped_coe, if_pos l0]
    congr 1
    have h3 : (min ((2 ^ (32 - 1) : ℕ) - 1 : ℤ) ⌊s⌋) = ⌊s⌋ := min_eq_right (by norm_num; omega)
    rw [h3]
    exact max_eq_right (by norm_num; omega)
  unfold dynK
  rw [e]
  generalize ⌊s⌋ = z at f0 f1
  interval_cases z
  · exact ⟨1, by decide, by decide, by decide⟩
  · exact ⟨1, by decide, by decide, by decide⟩
  · exact ⟨2, by decide, by decide, by decide⟩
  · exact ⟨3, by decide, by decide, by decide⟩
  · exact ⟨4, by decide, by decide, by decide⟩
  · exact ⟨5, by decide, by decide, by decide⟩
  · exact ⟨6, by decide, by decide, by decide⟩
  · exact ⟨7, by decide, by decide, by decide⟩
  · exact ⟨8, by decide, by decide, by decide⟩
  · exact ⟨9, by decide, by decide, by decide⟩
  · exact ⟨10, by decide, by decide, by decide⟩

theorem pickK_ofNat (k : ℕ) (h1 : 1 ≤ k) (h2 : k ≤ 10) (g : ℕ → EReal) : pickK (BitVec.ofNat 32 k) g = g (k - 1) := by
  interval_cases k <;> simp [pickK]

theorem cmpi_slt (a b : BitVec 32) : IntOp.cmpi .slt a b = BitVec.ofBool (decide (a.toInt < b.toInt)) := rfl

theorem rank_lt (c : Fin 33600 → EReal)
    (hc : ∀ k l : Fin 33600, k.val + 1 = l.val → l.val ≤ 10 → c (ascending c k) < c (ascending c l)) (k : ℕ) (h1 : 1 ≤ k) (h2 : k ≤ 10) (i : Fin 33600) :
    IntOp.cmpi .slt (BitVec.ofNat 32 (ascending (ascending c) i).val) (BitVec.ofNat 32 k) = BitVec.ofBool (decide (c i ≤ lows c (k - 1))) := by
  have hk : lows c (k - 1) = c (ascending c ⟨k - 1, by omega⟩) := by
    have := ascending_eq_kth c (⊤ : EReal) ⊤ le_rfl (fun _ => le_top) ⟨k - 1, by omega⟩
      (fun a b hab hb _ => hc a b hab (by have : b.val ≤ k - 1 := hb; omega))
    rw [this, min_eq_left le_top]
    rfl
  have hi := ascending_ascending c i
  refine (cmpi_slt _ _).trans (congrArg BitVec.ofBool ?_)
  rw [toInt_ofNat_lt _ (by have := (ascending (ascending c) i).isLt; omega), toInt_ofNat_lt _ (by omega), hk, decide_eq_decide]
  generalize ascending (ascending c) i = p at hi
  rw [← hi]
  constructor
  · intro h
    have hp : p.val < k := by exact_mod_cast h
    exact ascending_monotone c (show p ≤ (⟨k - 1, by omega⟩ : Fin 33600) by rw [Fin.le_def]; simp only; omega)
  · intro h
    by_contra hp
    have hp' : k ≤ p.val := by
      by_contra hq
      exact hp (by exact_mod_cast not_le.mp hq)
    have l1 := hc ⟨k - 1, by omega⟩ ⟨k, by omega⟩ (by simp only; omega) h2
    have l2 := ascending_monotone c (show (⟨k, by omega⟩ : Fin 33600) ≤ p from hp')
    exact absurd (l1.trans_le l2) (not_lt.mpr h)

section

variable {X : Fin 33600 → Fin 80 → EReal} {P : Fin 33600 → Fin 4 → EReal} {A : Fin 33600 → Fin 2 → EReal}
  {L : Fin 60 → BitVec 32} {G : Fin 60 → Fin 4 → EReal} (h : Fair X P A L G)
include h

/-- An anchor's rank among a ground truth's costs is below the number it takes just when its cost is at most the cut. -/
theorem rank_cut (m : Fin 60) (n : Fin 33600) :
    IntOp.cmpi .slt (BitVec.ofNat 32 (ascending (ascending fun i => costs X P A L G i m) n).val) (Cert.Own.count P A G m)
      = BitVec.ofBool (decide (costs X P A L G n m ≤ cut X P A L G m)) := by
  obtain ⟨k, h1, h2, hk⟩ := dynK_range (overlaps P A G m) (fun i => fgIou_nonneg _ _ _ _) (fun i => fgIou_le_one (h.finG m)) (h.high m)
  unfold cut
  have hc : Cert.Own.count P A G m = BitVec.ofNat 32 k := hk
  rw [hc, pickK_ofNat k h1 h2]
  exact rank_lt (fun i => costs X P A L G i m) (fun a b => h.low m a b) k h1 h2 n

theorem top_count (m : Fin 60) :
    IntOp.maxsi (FloatOps.fptosi (F := Ideal) (φ := .f32) 32 (∑ r : Fin 10, overlaps P A G m (descending (overlaps P A G m) (r.castLE (by decide))))) 1#32
      = Cert.Own.count P A G m := by
  rw [topSum_eq (overlaps P A G m) (fun i => fgIou_nonneg _ _ _ _) (h.high m)]; rfl

end

/-- A row of zeros and ones, once settled, holds at most one one. -/
theorem settle_cases (c w : Fin 60 → EReal) (hw : ∀ m, w m = 0 ∨ w m = 1) :
    (∀ m, settle c w m = 0) ∨ ∃ m0, ∀ m, settle c w m = if m = m0 then 1 else 0 := by
  unfold settle
  by_cases hs : 1 < ∑ k, w k
  · right
    refine ⟨best c, fun m => ?_⟩
    rw [if_pos hs]
    by_cases hm : m = best c <;> simp [bitE, hm]
  · simp only [if_neg hs]
    by_cases hz : ∀ m, w m = 0
    · exact Or.inl hz
    · right
      push Not at hz
      obtain ⟨m0, h0⟩ := hz
      have h1 : w m0 = 1 := (hw m0).resolve_left h0
      refine ⟨m0, fun m => ?_⟩
      by_cases hm : m = m0
      · rw [if_pos hm, hm, h1]
      · rw [if_neg hm]
        refine (hw m).resolve_right fun h2 => hs ?_
        have hn : ∀ k, 0 ≤ w k := fun k => by rcases hw k with e | e <;> rw [e]; exact zero_le_one
        have : w m0 + w m ≤ ∑ k, w k := by
          rw [← Finset.sum_pair (Ne.symm hm)]
          exact Finset.sum_le_sum_of_subset_of_nonneg (Finset.subset_univ _) fun k _ _ => hn k
        rw [h1, h2] at this
        refine lt_of_lt_of_le ?_ this
        have : ((1 : ℝ) : EReal) < ((1 + 1 : ℝ) : EReal) := EReal.coe_lt_coe_iff.mpr (by norm_num)
        rwa [EReal.coe_add] at this

theorem taken_cases (c thr : Fin 60 → EReal) (m : Fin 60) : taken c thr m = 0 ∨ taken c thr m = 1 := by
  unfold taken bitE; split; right; rfl; left; rfl

end Cert.Own
-- ==== Proof.Gath.lean ====
/-
  The four gathers the reference reads its tables by, read at an index whose start lies within the table.
-/
module

public import Idealize.ShloMosaic.Lib.Pointwise

@[expose] public section

namespace Cert.Own

open Idealize.ShloMosaic

theorem start_in (v : BitVec 32) (N c : ℕ) (hc : c < N) (hN : N ≤ 2000000000) (h : v = BitVec.ofNat 32 c) : min v.toInt.toNat (N - 1) = c := by
  subst h
  have : (BitVec.ofNat 32 c).toInt = c := by
    rw [BitVec.toInt_eq_toNat_of_lt]
    · simp; omega
    · simp; omega
  rw [this]; simp; omega

abbrev scoresDims (wf : GatherDims.WF ⟨3, ![8, 33600, 80]⟩ ⟨3, ![8, 60, 1]⟩ ⟨3, ![8, 33600, 60]⟩ [1] [2] [0] [2] [0] 2 ![1, 33600, 1]) : GatherDims ⟨3, ![8, 33600, 80]⟩ ⟨3, ![8, 60, 1]⟩ ⟨3, ![8, 33600, 60]⟩ where
  offsetDims := [1]
  collapsedSliceDims := [2]
  operandBatchingDims := [0]
  startIndicesBatchingDims := [0]
  startIndexMap := [2]
  indexVectorDim := 2
  sliceSizes := ![1, 33600, 1]
  wf := wf

theorem scores_apply {α : Type} (wf : GatherDims.WF ⟨3, ![8, 33600, 80]⟩ ⟨3, ![8, 60, 1]⟩ ⟨3, ![8, 33600, 60]⟩ [1] [2] [0] [2] [0] 2 ![1, 33600, 1])
    (x : (⟨3, ![8, 33600, 80]⟩ : Shape).Idx → α) (idx : IVec ⟨3, ![8, 60, 1]⟩ 32) (b : Fin 8) (n : Fin 33600) (m : Fin 60) (c : Fin 80) (h : idx (ix3 b m 0) = BitVec.ofNat 32 c.val) :
    Host.gather (scoresDims wf) x idx (ix3 b n m) = x (ix3 b n c) := by
  unfold Host.gather
  refine congrArg x ?_
  funext a
  refine Fin.ext ?_
  show (scoresDims wf).start (ix3 b n m) idx a + (scoresDims wf).batchCoord (ix3 b n m) a + (scoresDims wf).offCoord (ix3 b n m) a = _
  match a with
  | ⟨0, _⟩ =>
    change (scoresDims wf).start (ix3 b n m) idx ((0 : Fin 3) : Fin 3) + (scoresDims wf).batchCoord (ix3 b n m) ((0 : Fin 3) : Fin 3) + (scoresDims wf).offCoord (ix3 b n m) ((0 : Fin 3) : Fin 3) = _
    rw [GatherDims.start_batching _ _ _ _ (show (0 : Fin 3) ∈ ([0] : List (Fin 3)) by decide),
      GatherDims.offCoord_eq_zero _ _ _ (show ¬ (0 : Fin 3) ∈ Shape.kept ⟨3, ![8, 33600, 80]⟩ ([2] ++ [0]) by decide)]
    unfold GatherDims.batchCoord
    rw [dif_pos (show (0 : Fin 3) ∈ ([0] : List (Fin 3)) by decide)]
    simp only [Nat.zero_add, Nat.add_zero]
    rfl
  | ⟨1, _⟩ =>
    change (scoresDims wf).start (ix3 b n m) idx ((1 : Fin 3) : Fin 3) + (scoresDims wf).batchCoord (ix3 b n m) ((1 : Fin 3) : Fin 3) + (scoresDims wf).offCoord (ix3 b n m) ((1 : Fin 3) : Fin 3) = _
    rw [GatherDims.batchCoord_eq_zero _ _ _ (show ¬ (1 : Fin 3) ∈ ([0] : List (Fin 3)) by decide)]
    unfold GatherDims.start GatherDims.offCoord
    rw [dif_neg (show ¬ (1 : Fin 3) ∈ ([2] : List (Fin 3)) by decide), dif_pos (show (1 : Fin 3) ∈ Shape.kept ⟨3, ![8, 33600, 80]⟩ ([2] ++ [0]) by decide)]
    simp only [Nat.zero_add, Nat.add_zero]
    rfl
  | ⟨2, _⟩ =>
    change (scoresDims wf).start (ix3 b n m) idx ((2 : Fin 3) : Fin 3) + (scoresDims wf).batchCoord (ix3 b n m) ((2 : Fin 3) : Fin 3) + (scoresDims wf).offCoord (ix3 b n m) ((2 : Fin 3) : Fin 3) = _
    rw [GatherDims.batchCoord_eq_zero _ _ _ (show ¬ (2 : Fin 3) ∈ ([0] : List (Fin 3)) by decide),
      GatherDims.offCoord_eq_zero _ _ _ (show ¬ (2 : Fin 3) ∈ Shape.kept ⟨3, ![8, 33600, 80]⟩ ([2] ++ [0]) by decide)]
    simp only [Nat.add_zero]
    unfold GatherDims.start
    rw [dif_pos (show (2 : Fin 3) ∈ ([2] : List (Fin 3)) by decide)]
    have hsi : (scoresDims wf).siIdx (ix3 b n m) ⟨List.idxOf (2 : Fin 3) (scoresDims wf).startIndexMap,
        List.idxOf_lt_length_iff.2 (show (2 : Fin 3) ∈ ([2] : List (Fin 3)) by decide)⟩ = ix3 b m 0 := by
      funext e; refine Fin.ext ?_
      match e with
      | ⟨0, _⟩ => rfl
      | ⟨1, _⟩ => rfl
      | ⟨2, _⟩ => rfl
    rw [hsi]
    exact start_in _ 80 c.val c.isLt (by decide) h

abbrev labelsDims (wf : GatherDims.WF ⟨2, ![8, 60]⟩ ⟨3, ![8, 33600, 1]⟩ ⟨2, ![8, 33600]⟩ [] [1] [0] [1] [0] 2 ![1, 1]) : GatherDims ⟨2, ![8, 60]⟩ ⟨3, ![8, 33600, 1]⟩ ⟨2, ![8, 33600]⟩ where
  offsetDims := []
  collapsedSliceDims := [1]
  operandBatchingDims := [0]
  startIndicesBatchingDims := [0]
  startIndexMap := [1]
  indexVectorDim := 2
  sliceSizes := ![1, 1]
  wf := wf

theorem labels_apply {α : Type} (wf : GatherDims.WF ⟨2, ![8, 60]⟩ ⟨3, ![8, 33600, 1]⟩ ⟨2, ![8, 33600]⟩ [] [1] [0] [1] [0] 2 ![1, 1])
    (x : (⟨2, ![8, 60]⟩ : Shape).Idx → α) (idx : IVec ⟨3, ![8, 33600, 1]⟩ 32) (b : Fin 8) (n : Fin 33600) (m : Fin 60) (h : idx (ix3 b n 0) = BitVec.ofNat 32 m.val) :
    Host.gather (labelsDims wf) x idx (ix2 b n) = x (ix2 b m) := by
  unfold Host.gather
  refine congrArg x ?_
  funext a
  refine Fin.ext ?_
  show (labelsDims wf).start (ix2 b n) idx a + (labelsDims wf).batchCoord (ix2 b n) a + (labelsDims wf).offCoord (ix2 b n) a = _
  match a with
  | ⟨0, _⟩ =>
    change (labelsDims wf).start (ix2 b n) idx ((0 : Fin 2) : Fin 2) + (labelsDims wf).batchCoord (ix2 b n) ((0 : Fin 2) : Fin 2) + (labelsDims wf).offCoord (ix2 b n) ((0 : Fin 2) : Fin 2) = _
    rw [GatherDims.start_batching _ _ _ _ (show (0 : Fin 2) ∈ ([0] : List (Fin 2)) by decide),
      GatherDims.offCoord_eq_zero _ _ _ (show ¬ (0 : Fin 2) ∈ Shape.kept ⟨2, ![8, 60]⟩ ([1] ++ [0]) by decide)]
    unfold GatherDims.batchCoord
    rw [dif_pos (show (0 : Fin 2) ∈ ([0] : List (Fin 2)) by decide)]
    simp only [Nat.zero_add, Nat.add_zero]
    rfl
  | ⟨1, _⟩ =>
    change (labelsDims wf).start (ix2 b n) idx ((1 : Fin 2) : Fin 2) + (labelsDims wf).batchCoord (ix2 b n) ((1 : Fin 2) : Fin 2) + (labelsDims wf).offCoord (ix2 b n) ((1 : Fin 2) : Fin 2) = _
    rw [GatherDims.batchCoord_eq_zero _ _ _ (show ¬ (1 : Fin 2) ∈ ([0] : List (Fin 2)) by decide),
      GatherDims.offCoord_eq_zero _ _ _ (show ¬ (1 : Fin 2) ∈ Shape.kept ⟨2, ![8, 60]⟩ ([1] ++ [0]) by decide)]
    simp only [Nat.add_zero]
    unfold GatherDims.start
    rw [dif_pos (show (1 : Fin 2) ∈ ([1] : List (Fin 2)) by decide)]
    have hsi : (labelsDims wf).siIdx (ix2 b n) ⟨List.idxOf (1 : Fin 2) (labelsDims wf).startIndexMap,
        List.idxOf_lt_length_iff.2 (show (1 : Fin 2) ∈ ([1] : List (Fin 2)) by decide)⟩ = ix3 b n 0 := by
      funext e; refine Fin.ext ?_
      match e with
      | ⟨0, _⟩ => rfl
      | ⟨1, _⟩ => rfl
      | ⟨2, _⟩ => rfl
    rw [hsi]
    exact start_in _ 60 m.val m.isLt (by decide) h

abbrev boxesDims (wf : GatherDims.WF ⟨3, ![8, 60, 4]⟩ ⟨3, ![8, 33600, 1]⟩ ⟨3, ![8, 33600, 4]⟩ [2] [1] [0] [1] [0] 2 ![1, 1, 4]) : GatherDims ⟨3, ![8, 60, 4]⟩ ⟨3, ![8, 33600, 1]⟩ ⟨3, ![8, 33600, 4]⟩ where
  offsetDims := [2]
  collapsedSliceDims := [1]
  operandBatchingDims := [0]
  startIndicesBatchingDims := [0]
  startIndexMap := [1]
  indexVectorDim := 2
  sliceSizes := ![1, 1, 4]
  wf := wf

theorem boxes_apply {α : Type} (wf : GatherDims.WF ⟨3, ![8, 60, 4]⟩ ⟨3, ![8, 33600, 1]⟩ ⟨3, ![8, 33600, 4]⟩ [2] [1] [0] [1] [0] 2 ![1, 1, 4])
    (x : (⟨3, ![8, 60, 4]⟩ : Shape).Idx → α) (idx : IVec ⟨3, ![8, 33600, 1]⟩ 32) (b : Fin 8) (n : Fin 33600) (k : Fin 4) (m : Fin 60) (h : idx (ix3 b n 0) = BitVec.ofNat 32 m.val) :
    Host.gather (boxesDims wf) x idx (ix3 b n k) = x (ix3 b m k) := by
  unfold Host.gather
  refine congrArg x ?_
  funext a
  refine Fin.ext ?_
  show (boxesDims wf).start (ix3 b n k) idx a + (boxesDims wf).batchCoord (ix3 b n k) a + (boxesDims wf).offCoord (ix3 b n k) a = _
  match a with
  | ⟨0, _⟩ =>
    change (boxesDims wf).start (ix3 b n k) idx ((0 : Fin 3) : Fin 3) + (boxesDims wf).batchCoord (ix3 b n k) ((0 : Fin 3) : Fin 3) + (boxesDims wf).offCoord (ix3 b n k) ((0 : Fin 3) : Fin 3) = _
    rw [GatherDims.start_batching _ _ _ _ (show (0 : Fin 3) ∈ ([0] : List (Fin 3)) by decide),
      GatherDims.offCoord_eq_zero _ _ _ (show ¬ (0 : Fin 3) ∈ Shape.kept ⟨3, ![8, 60, 4]⟩ ([1] ++ [0]) by decide)]
    unfold GatherDims.batchCoord
    rw [dif_pos (show (0 : Fin 3) ∈ ([0] : List (Fin 3)) by decide)]
    simp only [Nat.zero_add, Nat.add_zero]
    rfl
  | ⟨1, _⟩ =>
    change (boxesDims wf).start (ix3 b n k) idx ((1 : Fin 3) : Fin 3) + (boxesDims wf).batchCoord (ix3 b n k) ((1 : Fin 3) : Fin 3) + (boxesDims wf).offCoord (ix3 b n k) ((1 : Fin 3) : Fin 3) = _
    rw [GatherDims.batchCoord_eq_zero _ _ _ (show ¬ (1 : Fin 3) ∈ ([0] : List (Fin 3)) by decide),
      GatherDims.offCoord_eq_zero _ _ _ (show ¬ (1 : Fin 3) ∈ Shape.kept ⟨3, ![8, 60, 4]⟩ ([1] ++ [0]) by decide)]
    simp only [Nat.add_zero]
    unfold GatherDims.start
    rw [dif_pos (show (1 : Fin 3) ∈ ([1] : List (Fin 3)) by decide)]
    have hsi : (boxesDims wf).siIdx (ix3 b n k) ⟨List.idxOf (1 : Fin 3) (boxesDims wf).startIndexMap,
        List.idxOf_lt_length_iff.2 (show (1 : Fin 3) ∈ ([1] : List (Fin 3)) by decide)⟩ = ix3 b n 0 := by
      funext e; refine Fin.ext ?_
      match e with
      | ⟨0, _⟩ => rfl
      | ⟨1, _⟩ => rfl
      | ⟨2, _⟩ => rfl
    rw [hsi]
    exact start_in _ 60 m.val m.isLt (by decide) h
  | ⟨2, _⟩ =>
    change (boxesDims wf).start (ix3 b n k) idx ((2 : Fin 3) : Fin 3) + (boxesDims wf).batchCoord (ix3 b n k) ((2 : Fin 3) : Fin 3) + (boxesDims wf).offCoord (ix3 b n k) ((2 : Fin 3) : Fin 3) = _
    rw [GatherDims.batchCoord_eq_zero _ _ _ (show ¬ (2 : Fin 3) ∈ ([0] : List (Fin 3)) by decide)]
    unfold GatherDims.start GatherDims.offCoord
    rw [dif_neg (show ¬ (2 : Fin 3) ∈ ([1] : List (Fin 3)) by decide), dif_pos (show (2 : Fin 3) ∈ Shape.kept ⟨3, ![8, 60, 4]⟩ ([1] ++ [0]) by decide)]
    simp only [Nat.zero_add, Nat.add_zero]
    rfl

abbrev pairsDims (wf : GatherDims.WF ⟨3, ![8, 60, 33600]⟩ ⟨3, ![8, 33600, 2]⟩ ⟨2, ![8, 33600]⟩ [] [1, 2] [0] [1, 2] [0] 2 ![1, 1, 1]) : GatherDims ⟨3, ![8, 60, 33600]⟩ ⟨3, ![8, 33600, 2]⟩ ⟨2, ![8, 33600]⟩ where
  offsetDims := []
  collapsedSliceDims := [1, 2]
  operandBatchingDims := [0]
  startIndicesBatchingDims := [0]
  startIndexMap := [1, 2]
  indexVectorDim := 2
  sliceSizes := ![1, 1, 1]
  wf := wf

theorem pairs_apply {α : Type} (wf : GatherDims.WF ⟨3, ![8, 60, 33600]⟩ ⟨3, ![8, 33600, 2]⟩ ⟨2, ![8, 33600]⟩ [] [1, 2] [0] [1, 2] [0] 2 ![1, 1, 1])
    (x : (⟨3, ![8, 60, 33600]⟩ : Shape).Idx → α) (idx : IVec ⟨3, ![8, 33600, 2]⟩ 32) (b : Fin 8) (n : Fin 33600) (m : Fin 60) (i : Fin 33600) (h : idx (ix3 b n 0) = BitVec.ofNat 32 m.val) (h2 : idx (ix3 b n 1) = BitVec.ofNat 32 i.val) :
    Host.gather (pairsDims wf) x idx (ix2 b n) = x (ix3 b m i) := by
  unfold Host.gather
  refine congrArg x ?_
  funext a
  refine Fin.ext ?_
  show (pairsDims wf).start (ix2 b n) idx a + (pairsDims wf).batchCoord (ix2 b n) a + (pairsDims wf).offCoord (ix2 b n) a = _
  match a with
  | ⟨0, _⟩ =>
    change (pairsDims wf).start (ix2 b n) idx ((0 : Fin 3) : Fin 3) + (pairsDims wf).batchCoord (ix2 b n) ((0 : Fin 3) : Fin 3) + (pairsDims wf).offCoord (ix2 b n) ((0 : Fin 3) : Fin 3) = _
    rw [GatherDims.start_batching _ _ _ _ (show (0 : Fin 3) ∈ ([0] : List (Fin 3)) by decide),
      GatherDims.offCoord_eq_zero _ _ _ (show ¬ (0 : Fin 3) ∈ Shape.kept ⟨3, ![8, 60, 33600]⟩ ([1, 2] ++ [0]) by decide)]
    unfold GatherDims.batchCoord
    rw [dif_pos (show (0 : Fin 3) ∈ ([0] : List (Fin 3)) by decide)]
    simp only [Nat.zero_add, Nat.add_zero]
    rfl
  | ⟨1, _⟩ =>
    change (pairsDims wf).start (ix2 b n) idx ((1 : Fin 3) : Fin 3) + (pairsDims wf).batchCoord (ix2 b n) ((1 : Fin 3) : Fin 3) + (pairsDims wf).offCoord (ix2 b n) ((1 : Fin 3) : Fin 3) = _
    rw [GatherDims.batchCoord_eq_zero _ _ _ (show ¬ (1 : Fin 3) ∈ ([0] : List (Fin 3)) by decide),
      GatherDims.offCoord_eq_zero _ _ _ (show ¬ (1 : Fin 3) ∈ Shape.kept ⟨3, ![8, 60, 33600]⟩ ([1, 2] ++ [0]) by decide)]
    simp only [Nat.add_zero]
    unfold GatherDims.start
    rw [dif_pos (show (1 : Fin 3) ∈ ([1, 2] : List (Fin 3)) by decide)]
    have hsi : (pairsDims wf).siIdx (ix2 b n) ⟨List.idxOf (1 : Fin 3) (pairsDims wf).startIndexMap,
        List.idxOf_lt_length_iff.2 (show (1 : Fin 3) ∈ ([1, 2] : List (Fin 3)) by decide)⟩ = ix3 b n 0 := by
      funext e; refine Fin.ext ?_
      match e with
      | ⟨0, _⟩ => rfl
      | ⟨1, _⟩ => rfl
      | ⟨2, _⟩ => rfl
    rw [hsi]
    exact start_in _ 60 m.val m.isLt (by decide) h
  | ⟨2, _⟩ =>
    change (pairsDims wf).start (ix2 b n) idx ((2 : Fin 3) : Fin 3) + (pairsDims wf).batchCoord (ix2 b n) ((2 : Fin 3) : Fin 3) + (pairsDims wf).offCoord (ix2 b n) ((2 : Fin 3) : Fin 3) = _
    rw [GatherDims.batchCoord_eq_zero _ _ _ (show ¬ (2 : Fin 3) ∈ ([0] : List (Fin 3)) by decide),
      GatherDims.offCoord_eq_zero _ _ _ (show ¬ (2 : Fin 3) ∈ Shape.kept ⟨3, ![8, 60, 33600]⟩ ([1, 2] ++ [0]) by decide)]
    simp only [Nat.add_zero]
    unfold GatherDims.start
    rw [dif_pos (show (2 : Fin 3) ∈ ([1, 2] : List (Fin 3)) by decide)]
    have hsi : (pairsDims wf).siIdx (ix2 b n) ⟨List.idxOf (2 : Fin 3) (pairsDims wf).startIndexMap,
        List.idxOf_lt_length_iff.2 (show (2 : Fin 3) ∈ ([1, 2] : List (Fin 3)) by decide)⟩ = ix3 b n 1 := by
      funext e; refine Fin.ext ?_
      match e with
      | ⟨0, _⟩ => rfl
      | ⟨1, _⟩ => rfl
      | ⟨2, _⟩ => rfl
    rw [hsi]
    exact start_in _ 33600 i.val i.isLt (by decide) h2

end Cert.Own
-- ==== Proof.CostEq.lean ====
/-
  The cost of a pair, as the problem writes it.
-/
module

public import proofs.«01_k».proof.Proof.Task
public import proofs.«01_k».proof.Proof.Focal

@[expose] public section

noncomputable section

namespace Cert.Own

open Idealize.ShloMosaic

theorem cmpi_eq_ofNat (a b : ℕ) (ha : a < 1000) (hb : b < 1000) :
    IntOp.cmpi CmpIPredicate.eq (BitVec.ofNat 32 a) (BitVec.ofNat 32 b) = BitVec.ofBool (decide (a = b)) := by
  show BitVec.ofBool (decide (BitVec.ofNat 32 a = BitVec.ofNat 32 b)) = _
  refine congrArg BitVec.ofBool (decide_eq_decide.mpr ⟨fun h => ?_, fun h => by rw [h]⟩)
  have := congrArg BitVec.toNat h
  simp only [BitVec.toNat_ofNat] at this
  omega

theorem bitE_ofBool (p : Prop) [Decidable p] : bitE (BitVec.ofBool (decide p)) = if p then 1 else 0 := by
  by_cases h : p <;> simp [h, bitE]

theorem pick_ofNat (x : Fin 80 → EReal) (c : Fin 80) : pick x (BitVec.ofNat 32 c.val) = x c := by
  unfold pick
  rw [Finset.sum_eq_single c]
  · rw [cmpi_eq_ofNat _ _ (by omega) (by omega), bitE_ofBool, if_pos rfl, mul_one]
  · intro k _ hk
    rw [cmpi_eq_ofNat _ _ (by omega) (by omega), bitE_ofBool, if_neg (fun h => hk (Fin.ext h)), mul_zero]
  · intro h; exact absurd (Finset.mem_univ c) h

theorem bitE_not (v : BitVec 1) : bitE (~~~v) = 1 - bitE v := by
  have h : ∀ v : BitVec 1, v = 0#1 ∨ v = 1#1 := by decide
  rcases h v with rfl | rfl
  · simp [bitE]
  · simp [bitE, one_sub_one]

theorem ofBits_three : Ideal.ofBits FTy.f32 1077936128#32 = ((3 : ℝ) : EReal) := by
  simp [Ideal.ofBits, Ideal.ieee, -EReal.coe_mul]; norm_num
theorem ofBits_nthree : Ideal.ofBits FTy.f32 3225419776#32 = -((3 : ℝ) : EReal) := by
  rw [← EReal.coe_neg]; simp [Ideal.ofBits, Ideal.ieee, -EReal.coe_mul]; norm_num

theorem cost_eq (x : Fin 80 → EReal) (a : Fin 2 → EReal) (p g : Fin 4 → EReal) (G : Fin 60 → Fin 4 → EReal) (c : Fin 80) (hx : ∀ k, Fin' (x k)) :
    (∑ k, negE (x k)) - negE (x c) + posE (x c)
      + Ideal.ofBits FTy.f32 1077936128#32 * -Ideal.log (iou p g + Ideal.ofBits FTy.f32 841731191#32)
      + Ideal.ofBits FTy.f32 1203982336#32 * bitE (~~~(both a g))
      + Ideal.ofBits FTy.f32 1203982336#32 * bitE (~~~(fgBit a G))
    = cost x a p g G (BitVec.ofNat 32 c.val) := by
  unfold cost dx rest sumNeg
  rw [pick_ofNat, bitE_not, bitE_not, ofBits_three, ofBits_nthree, mul_neg, neg_mul]
  have : ∀ s n q : EReal, s - n + q = s + (q - n) := fun s n q => by
    rw [sub_eq_add_neg, sub_eq_add_neg, add_assoc, add_comm (-n)]
  rw [this]
  simp only [add_assoc]

/-- An overlap where the anchor is in the foreground, nothing elsewhere. -/
theorem fgIou_eq (a : Fin 2 → EReal) (p g : Fin 4 → EReal) (G : Fin 60 → Fin 4 → EReal) :
    (if fgBit a G = 1#1 then iou p g else 0) = fgIou a p g G := by
  unfold fgIou bitE; split <;> simp

end Cert.Own
-- ==== Proof.RefA.lean ====
/-
  The reference's masks, overlaps and costs, read at one pair.
-/
module

public import proofs.«01_k».proof.Proof.RefEqs1
public import proofs.«01_k».proof.Proof.Fair
public import proofs.«01_k».proof.Proof.Gath
public import proofs.«01_k».proof.Proof.CostEq
public import Idealize.ShloMosaic.Lib.Pointwise

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

variable (V : Vl)

/-- The rows of the arguments. -/
abbrev rX (b : Fin 8) (n : Fin 33600) : Fin 80 → EReal := fun c => (b_arg0 V : FVec Ideal S8x33600x80 .f32) (ix3 b n c)
abbrev rP (b : Fin 8) (n : Fin 33600) : Fin 4 → EReal := fun k => (b_arg1 V : FVec Ideal S8x33600x4 .f32) (ix3 b n k)
abbrev rU (b : Fin 8) (n : Fin 33600) : EReal := (b_arg2 V : FVec Ideal S8x33600x1 .f32) (ix3 b n 0)
abbrev rA (n : Fin 33600) : Fin 2 → EReal := fun k => (b_arg3 V : FVec Ideal S33600x2 .f32) (ix2 n k)
abbrev rV (b : Fin 8) (n : Fin 33600) : EReal := bitE (~~~((b_arg4 V : IVec S8x33600 1) (ix2 b n)))
abbrev rL (b : Fin 8) (m : Fin 60) : BitVec 32 := (b_arg5 V : IVec S8x60 32) (ix2 b m)
abbrev rG (b : Fin 8) (m : Fin 60) : Fin 4 → EReal := fun k => (b_arg6 V : FVec Ideal S8x60x4 .f32) (ix3 b m k)

theorem r_v28 (b : Fin 8) (m : Fin 60) (n : Fin 33600) : (b_v28 V) (ix3 b m n) = inBox (rA V n) (rG V b m) := by
  pointwise [e_v28, e_v27, e_v26, e_v23, e_v25, e_v24, e_v5, e_v4, e_v3, e_v22, e_v21, e_v20, e_v17, e_v19, e_v18, e_v16, e_v15, e_v14, e_v11, e_v13, e_v12, e_v2, e_v1, e_v0, e_v10, e_v9, e_v6, e_v8, e_v7]
  rfl

theorem r_v71 (b : Fin 8) (m : Fin 60) (n : Fin 33600) : (b_v71 V) (ix3 b m n) = inCtr (rA V n) (rG V b m) := by
  pointwise [e_v71, e_v70, e_v69, e_v66, e_v65, e_cst_4, e_v44, e_v43, e_v42, e_cst_0, e_v41, e_v40, e_v39, e_v38, e_v37, e_v68, e_v67, e_v5, e_v4, e_v3, e_v64, e_v63, e_v62, e_v59, e_v58, e_cst_3, e_v61, e_v60, e_v57, e_v56, e_v55, e_v52, e_v51, e_cst_2, e_v36, e_v35, e_v34, e_cst, e_v33, e_v32, e_v31, e_v30, e_v29, e_v54, e_v53, e_v2, e_v1, e_v0, e_v50, e_v49, e_v46, e_v45, e_cst_1, e_v48, e_v47]
  rfl

theorem r_v72 (b : Fin 8) (m : Fin 60) (n : Fin 33600) : (b_v72 V) (ix3 b m n) = either (rA V n) (rG V b m) := by
  rw [e_v72]
  show IntOp.ori ((b_v28 V) (ix3 b m n)) ((b_v71 V) (ix3 b m n)) = _
  rw [r_v28, r_v71]; rfl

theorem r_v74 (b : Fin 8) (m : Fin 60) (n : Fin 33600) : (b_v74 V) (ix3 b m n) = both (rA V n) (rG V b m) := by
  rw [e_v74]
  show IntOp.andi ((b_v28 V) (ix3 b m n)) ((b_v71 V) (ix3 b m n)) = _
  rw [r_v28, r_v71]; rfl

theorem r_v73 (b : Fin 8) (n : Fin 33600) : (b_v73 V) (ix2 b n) = fgBit (rA V n) (rG V b) := by
  rw [← fgBit_eq_fold]
  simp only [← r_v72 V b]
  pointwise [e_v73, e_c]

theorem r_v135 (b : Fin 8) (m : Fin 60) (n : Fin 33600) : (b_v135 V) (ix3 b m n) = iou (rP V b n) (rG V b m) := by
  pointwise [e_v135, e_v134, e_v133, e_cst_10, e_v132, e_v96, e_v95, e_v94, e_v91, e_v90, e_cst_5, e_v89, e_v81, e_v80, e_v78, e_v77, e_v79, e_v76, e_v75, e_v88, e_v87, e_v85, e_v84, e_v86, e_v83, e_v82, e_v93, e_v92, e_v131, e_v130, e_v128, e_v126, e_v125, e_v124, e_cst_9, e_v123, e_v122, e_v121, e_v120, e_v119, e_v118, e_v117, e_cst_8, e_v116, e_v115, e_v114, e_v113, e_v112, e_v129, e_v127, e_v111, e_v110, e_v109, e_cst_7, e_v108, e_v107, e_v106, e_v105, e_v104, e_v103, e_v102, e_cst_6, e_v101, e_v100, e_v99, e_v98, e_v97]
  rfl

theorem r_v227 (b : Fin 8) (n : Fin 33600) (c : Fin 80) (h : Fin' (rX V b n c)) : (b_v227 V) (ix3 b n c) = negE (rX V b n c) := by
  rw [← focal_zero h]
  unfold focal
  pointwise [e_v227, e_v217, e_v216, e_v215, e_cst_30, e_v214, e_v212, e_v211, e_v210, e_v209, e_v208, e_v184, e_cst_23, e_v207, e_cst_28, e_v206, e_v190, e_v188, e_v186, e_v185, e_v187, e_cst_24, e_v189, e_cst_25, e_v205, e_cst_27, e_v204, e_v203, e_v202, e_v213, e_cst_29, e_v201, e_v200, e_v199, e_v198, e_v197, e_v196, e_v195, e_v194, e_v193, e_v192, e_v191, e_cst_26, e_v226, e_v225, e_v224, e_v223, e_v221, e_v220, e_cst_32, e_v222, e_cst_33, e_v219, e_v218, e_cst_31]

theorem r_v183 (b : Fin 8) (n : Fin 33600) (c : Fin 80) (h : Fin' (rX V b n c)) : (b_v183 V) (ix3 b n c) = posE (rX V b n c) := by
  rw [← focal_one h]
  unfold focal
  pointwise [e_v183, e_v173, e_v172, e_v171, e_cst_19, e_v170, e_v168, e_v167, e_v166, e_v165, e_v164, e_v140, e_cst_12, e_v163, e_cst_17, e_v162, e_v146, e_v144, e_v142, e_v141, e_v143, e_cst_13, e_v145, e_cst_14, e_v161, e_cst_16, e_v160, e_v159, e_v158, e_v169, e_cst_18, e_v157, e_v156, e_v155, e_v154, e_v153, e_v152, e_v151, e_v150, e_v149, e_v148, e_v147, e_cst_15, e_v182, e_v181, e_v180, e_v179, e_v177, e_v176, e_cst_21, e_v178, e_cst_22, e_v175, e_v174, e_cst_20]

theorem label_wrap (v : BitVec 32) (c : Fin 80) (h : v = BitVec.ofNat 32 c.val) (w : BitVec 32) :
    (if IntOp.cmpi .slt v 0#32 = 1#1 then w else v) = v := by
  rw [if_neg]
  subst h
  rw [cmpi_slt, toInt_ofNat_lt _ (by omega),
    decide_eq_false (show ¬ ((c.val : ℤ) < (0#32 : BitVec 32).toInt) by simp)]
  decide

theorem r_v235 (b : Fin 8) (m : Fin 60) (c : Fin 80) (h : rL V b m = BitVec.ofNat 32 c.val) : (b_v235 V) (ix3 b m 0) = BitVec.ofNat 32 c.val := by
  rw [← h, ← label_wrap _ c h (rL V b m + 80#32)]
  pointwise [e_v235, e_v234, e_v233, e_v232, e_c_36, e_v231, e_v230, e_c_35]
  rfl

theorem r_v245 (b : Fin 8) (m : Fin 60) (c : Fin 80) (h : rL V b m = BitVec.ofNat 32 c.val) : (b_v245 V) (ix3 b m 0) = BitVec.ofNat 32 c.val := by
  rw [← h, ← label_wrap _ c h (rL V b m + 80#32)]
  pointwise [e_v245, e_v244, e_v243, e_v242, e_c_38, e_v241, e_v240, e_c_37]
  rfl

theorem r_v236 (b : Fin 8) (m : Fin 60) (n : Fin 33600) (c : Fin 80) (h : rL V b m = BitVec.ofNat 32 c.val) :
    (b_v236 V) (ix3 b n m) = (b_v227 V) (ix3 b n c) := by
  rw [e_v236]
  exact scores_apply _ (b_v227 V) (b_v235 V) b n m c (r_v235 V b m c h)

theorem r_v246 (b : Fin 8) (m : Fin 60) (n : Fin 33600) (c : Fin 80) (h : rL V b m = BitVec.ofNat 32 c.val) :
    (b_v246 V) (ix3 b n m) = (b_v183 V) (ix3 b n c) := by
  rw [e_v246]
  exact scores_apply _ (b_v183 V) (b_v245 V) b n m c (r_v245 V b m c h)

theorem r_v265 (b : Fin 8) (m : Fin 60) (n : Fin 33600) (c : Fin 80) (hx : ∀ k, Fin' (rX V b n k)) (h : rL V b m = BitVec.ofNat 32 c.val) :
    (b_v265 V) (ix3 b m n) = costs (rX V b) (rP V b) (rA V) (rL V b) (rG V b) n m := by
  unfold costs
  rw [h, ← cost_eq _ _ _ _ _ _ hx]
  simp only [← r_v227 V b n _ (hx _), ← r_v183 V b n _ (hx _), ← r_v135 V, ← r_v74 V, ← r_v73 V, ← r_v236 V b m n c h, ← r_v246 V b m n c h, ← uitofp_bit]
  pointwise [e_v265, e_v264, e_v263, e_v262, e_v260, e_v259, e_v258, e_v261, e_cst_41, e_v257, e_v256, e_v255, e_v253, e_v252, e_v254, e_cst_40, e_v251, e_v250, e_v139, e_v138, e_v137, e_v136, e_cst_11, e_v249, e_cst_39, e_v248, e_v247, e_v239, e_v237, e_v238, e_v229, e_v228, e_cst_34, id_eq]

theorem r_v267 (b : Fin 8) (m : Fin 60) (n : Fin 33600) : (b_v267 V) (ix3 b m n) = overlaps (rP V b) (rA V) (rG V b) m n := by
  unfold overlaps
  rw [← fgIou_eq]
  simp only [← r_v135 V, ← r_v73 V]
  pointwise [e_v267, e_call0_v3, e_call0_v2, e_call0_v0, e_cst_42, e_call0_v1, e_v266, id_eq]
  rfl

end Cert.ReferenceIdeal.Own
-- ==== Proof.Pick.lean ====
/-
  The index of a least and of a greatest entry, as the reference takes it down the ground truths.
-/
module

public import proofs.«01_k».proof.Proof.RefEqs1
public import proofs.«01_k».proof.Proof.Spec
public import Idealize.ShloMosaic.Lib.Pointwise
public import Idealize.ShloMosaic.PureOps.Ideal.Laws

@[expose] public section

noncomputable section

namespace Cert.ReferenceIdeal.Own

open Cert.ReferenceIdeal Cert.ReferenceIdeal.Gen Cert.Own Idealize.ShloMosaic

/-- A fold by an operation that returns one of its operands, never above either. -/
theorem fold_least {α : Type} (le : α → α → Prop) (hr : ∀ a, le a a) (ht : ∀ a b c, le a b → le b c → le a c) (f : α → α → α)
    (h1 : ∀ a b, f a b = a ∨ f a b = b) (h2 : ∀ a b, le (f a b) a ∧ le (f a b) b) (l : List α) (z : α) :
    (l.foldl f z = z ∨ l.foldl f z ∈ l) ∧ le (l.foldl f z) z ∧ ∀ p ∈ l, le (l.foldl f z) p := by
  induction l generalizing z with
  | nil => exact ⟨Or.inl rfl, hr z, fun p hp => absurd hp (List.not_mem_nil)⟩
  | cons a l ih =>
    obtain ⟨i1, i2, i3⟩ := ih (f z a)
    simp only [List.foldl_cons]
    refine ⟨?_, ht _ _ _ i2 (h2 z a).1, ?_⟩
    · rcases i1 with e | e
      · rcases h1 z a with e2 | e2
        · left; rw [e, e2]
        · right; rw [e, e2]; exact List.mem_cons_self
      · right; exact List.mem_cons_of_mem _ e
    · intro p hp
      rcases List.mem_cons.mp hp with rfl | hp
      · exact ht _ _ _ i2 (h2 z p).2
      · exact i3 p hp

def below (a b : EReal × BitVec 32) : Prop := a.1 < b.1 ∨ (a.1 = b.1 ∧ a.2.toInt ≤ b.2.toInt)
def above (a b : EReal × BitVec 32) : Prop := b.1 < a.1 ∨ (a.1 = b.1 ∧ a.2.toInt ≤ b.2.toInt)

theorem argmin_cases (a b : EReal × BitVec 32) : reducer_argmin_f32_i32 (F := Ideal) a b
    = if a.1 < b.1 then a else if a.1 = b.1 ∧ a.2.toInt < b.2.toInt then a else b := by
  obtain ⟨a1, a2⟩ := a
  obtain ⟨b1, b2⟩ := b
  by_cases h : a1 < b1
  · rw [if_pos h]
    simp [reducer_argmin_f32_i32, FloatOps.cmpf, Ideal.cmp, IntOp.ori, IntOp.andi, IntOp.cmpi, Scalar.select, h]
    have hv : ∀ v : BitVec 1, 1#1 ||| v = 1#1 := by decide
    exact fun hh => absurd (hv _) hh
  · rw [if_neg h]
    by_cases h2 : a1 = b1 ∧ a2.toInt < b2.toInt
    · rw [if_pos h2]
      obtain ⟨rfl, h3⟩ := h2
      simp [reducer_argmin_f32_i32, FloatOps.cmpf, Ideal.cmp, IntOp.ori, IntOp.andi, IntOp.cmpi, Scalar.select, BitVec.slt, h3]
    · rw [if_neg h2]
      by_cases h3 : a1 = b1
      · have h4 : ¬ a2.toInt < b2.toInt := fun h4 => h2 ⟨h3, h4⟩
        simp [reducer_argmin_f32_i32, FloatOps.cmpf, Ideal.cmp, IntOp.ori, IntOp.andi, IntOp.cmpi, Scalar.select, BitVec.slt, h, h3, h4]
      · simp [reducer_argmin_f32_i32, FloatOps.cmpf, Ideal.cmp, IntOp.ori, IntOp.andi, IntOp.cmpi, Scalar.select, BitVec.slt, h, h3]

theorem argmax_cases (a b : EReal × BitVec 32) : reducer_argmax_f32_i32 (F := Ideal) a b
    = if b.1 < a.1 then a else if a.1 = b.1 ∧ a.2.toInt < b.2.toInt then a else b := by
  obtain ⟨a1, a2⟩ := a
  obtain ⟨b1, b2⟩ := b
  by_cases h : b1 < a1
  · rw [if_pos h]
    simp [reducer_argmax_f32_i32, FloatOps.cmpf, Ideal.cmp, IntOp.ori, IntOp.andi, IntOp.cmpi, Scalar.select, h]
    have hv : ∀ v : BitVec 1, 1#1 ||| v = 1#1 := by decide
    exact fun hh => absurd (hv _) hh
  · rw [if_neg h]
    by_cases h2 : a1 = b1 ∧ a2.toInt < b2.toInt
    · rw [if_pos h2]
      obtain ⟨rfl, h3⟩ := h2
      simp [reducer_argmax_f32_i32, FloatOps.cmpf, Ideal.cmp, IntOp.ori, IntOp.andi, IntOp.cmpi, Scalar.select, BitVec.slt, h3]
    · rw [if_neg h2]
      by_cases h3 : a1 = b1
      · have h4 : ¬ a2.toInt < b2.toInt := fun h4 => h2 ⟨h3, h4⟩
        simp [reducer_argmax_f32_i32, FloatOps.cmpf, Ideal.cmp, IntOp.ori, IntOp.andi, IntOp.cmpi, Scalar.select, BitVec.slt, h, h3, h4]
      · simp [reducer_argmax_f32_i32, FloatOps.cmpf, Ideal.cmp, IntOp.ori, IntOp.andi, IntOp.cmpi, Scalar.select, BitVec.slt, h, h3]

theorem below_trans (a b c : EReal × BitVec 32) (h1 : below a b) (h2 : below b c) : below a c := by
  unfold below at *
  rcases h1 with h1 | ⟨h1, h1'⟩ <;> rcases h2 with h2 | ⟨h2, h2'⟩
  · exact Or.inl (h1.trans h2)
  · exact Or.inl (h2 ▸ h1)
  · exact Or.inl (h1 ▸ h2)
  · exact Or.inr ⟨h1.trans h2, h1'.trans h2'⟩

theorem above_trans (a b c : EReal × BitVec 32) (h1 : above a b) (h2 : above b c) : above a c := by
  unfold above at *
  rcases h1 with h1 | ⟨h1, h1'⟩ <;> rcases h2 with h2 | ⟨h2, h2'⟩
  · exact Or.inl (h2.trans h1)
  · exact Or.inl (h2 ▸ h1)
  · exact Or.inl (h1 ▸ h2)
  · exact Or.inr ⟨h1.trans h2, h1'.trans h2'⟩

theorem argmin_below (a b : EReal × BitVec 32) :
    below (reducer_argmin_f32_i32 (F := Ideal) a b) a ∧ below (reducer_argmin_f32_i32 (F := Ideal) a b) b := by
  rw [argmin_cases]; unfold below
  split
  · rename_i h; exact ⟨Or.inr ⟨rfl, le_rfl⟩, Or.inl h⟩
  · rename_i h
    split
    · rename_i h2; exact ⟨Or.inr ⟨rfl, le_rfl⟩, Or.inr ⟨h2.1, h2.2.le⟩⟩
    · rename_i h2
      refine ⟨?_, Or.inr ⟨rfl, le_rfl⟩⟩
      rcases (not_lt.mp h).lt_or_eq with h3 | h3
      · exact Or.inl h3
      · exact Or.inr ⟨h3, not_lt.mp fun h4 => h2 ⟨h3.symm, h4⟩⟩

theorem argmax_above (a b : EReal × BitVec 32) :
    above (reducer_argmax_f32_i32 (F := Ideal) a b) a ∧ above (reducer_argmax_f32_i32 (F := Ideal) a b) b := by
  rw [argmax_cases]; unfold above
  split
  · rename_i h; exact ⟨Or.inr ⟨rfl, le_rfl⟩, Or.inl h⟩
  · rename_i h
    split
    · rename_i h2; exact ⟨Or.inr ⟨rfl, le_rfl⟩, Or.inr ⟨h2.1, h2.2.le⟩⟩
    · rename_i h2
      refine ⟨?_, Or.inr ⟨rfl, le_rfl⟩⟩
      rcases (not_lt.mp h).lt_or_eq with h3 | h3
      · exact Or.inl h3
      · exact Or.inr ⟨h3.symm, not_lt.mp fun h4 => h2 ⟨h3, h4⟩⟩

theorem mem_fiber (x : FVec Ideal S8x60x33600 .f32) (b : Fin 8) (n : Fin 33600) (p : EReal × BitVec 32) :
    p ∈ Host.argReduceFiber x (iotaInDim S8x60x33600 32 1) reducesTo_S8x60x33600_S8x33600_d1 (ix2 b n)
      ↔ ∃ m : Fin 60, p = (x (ix3 b m n), BitVec.ofNat 32 m.val) := by
  unfold Host.argReduceFiber
  simp only [List.mem_map, List.mem_filter, List.mem_finRange, true_and, decide_eq_true_eq]
  constructor
  · rintro ⟨k, hk, rfl⟩
    generalize S8x60x33600.rowMajor.symm k = i at hk
    have h0 : i 0 = b := congrFun hk 0
    have h2 : i 2 = n := congrFun hk 1
    have hi : i = ix3 b (i 1) n := by
      funext q; fin_cases q
      · exact h0
      · rfl
      · exact h2
    refine ⟨i 1, ?_⟩
    exact Prod.ext (congrArg x hi) rfl
  · rintro ⟨m, rfl⟩
    refine ⟨S8x60x33600.rowMajor (ix3 b m n), ?_, ?_⟩
    · rw [Equiv.symm_apply_apply]; funext q; fin_cases q <;> rfl
    · rw [Equiv.symm_apply_apply]; rfl

theorem argmin_eq (x : FVec Ideal S8x60x33600 .f32) (b : Fin 8) (n : Fin 33600) :
    (Host.argReduce reducer_argmin_f32_i32 x (iotaInDim S8x60x33600 32 1) (constant S_ .f32 0x7F800000#32) (constantI S_ 32 0#32)
      reducesTo_S8x60x33600_S8x33600_d1 h_S_ (ix2 b n)).2 = BitVec.ofNat 32 (best fun m => x (ix3 b m n)).val := by
  rw [Ideal.argReduce_eq_reduce2, Host.reduce2_eq_foldl_fiber]
  obtain ⟨h1, h2, h3⟩ := fold_least below (fun a => Or.inr ⟨rfl, le_rfl⟩) below_trans (reducer_argmin_f32_i32 (F := Ideal))
    (fun a b => by rw [argmin_cases]; split; left; rfl; split; left; rfl; right; rfl) argmin_below
    (Host.argReduceFiber x (iotaInDim S8x60x33600 32 1) reducesTo_S8x60x33600_S8x33600_d1 (ix2 b n)) ((⊤ : EReal), 0#32)
  have e : ((constant (F := Ideal) S_ .f32 0x7F800000#32 (Shape.Idx.first h_S_), constantI S_ 32 0#32 (Shape.Idx.first h_S_)) : EReal × BitVec 32)
      = ((⊤ : EReal), 0#32) := by
    refine Prod.ext ofBits_pinf rfl
  rw [e]
  generalize List.foldl (reducer_argmin_f32_i32 (F := Ideal)) ((⊤ : EReal), 0#32) _ = r at h1 h2 h3 ⊢
  have key : ∃ m : Fin 60, r = (x (ix3 b m n), BitVec.ofNat 32 m.val) := by
    rcases h1 with h1 | h1
    · refine ⟨0, ?_⟩
      have := h3 _ ((mem_fiber x b n _).mpr ⟨0, rfl⟩)
      rw [h1] at this
      rcases this with h | ⟨h, -⟩
      · exact absurd h not_top_lt
      · rw [h1]; exact Prod.ext h rfl
    · exact (mem_fiber x b n r).mp h1
  obtain ⟨m, rfl⟩ := key
  show BitVec.ofNat 32 m.val = _
  have hall : ∀ k : Fin 60, x (ix3 b m n) < x (ix3 b k n) ∨ (x (ix3 b m n) = x (ix3 b k n) ∧ (m.val : ℤ) ≤ k.val) := by
    intro k
    have := h3 _ ((mem_fiber x b n _).mpr ⟨k, rfl⟩)
    unfold below at this
    simp only [toInt_ofNat_lt m.val (by have := m.isLt; omega), toInt_ofNat_lt k.val (by have := k.isLt; omega)] at this
    exact this
  have hle : ∀ k : Fin 60, x (ix3 b m n) ≤ x (ix3 b k n) := fun k => by
    rcases hall k with h | h; exact h.le; exact h.1.le
  have hb := best_first (fun m => x (ix3 b m n)) m hle
  have hb2 : m ≤ best (fun m => x (ix3 b m n)) := by
    rcases hall (best fun m => x (ix3 b m n)) with h | h
    · exact absurd h (not_lt.mpr (best_le (fun m => x (ix3 b m n)) m))
    · exact_mod_cast h.2
  rw [le_antisymm hb2 hb]

theorem argmax_eq (x : FVec Ideal S8x60x33600 .f32) (b : Fin 8) (n : Fin 33600) : ∃ m : Fin 60,
    (Host.argReduce reducer_argmax_f32_i32 x (iotaInDim S8x60x33600 32 1) (constant S_ .f32 0xFF800000#32) (constantI S_ 32 0#32)
      reducesTo_S8x60x33600_S8x33600_d1 h_S_ (ix2 b n)).2 = BitVec.ofNat 32 m.val ∧ ∀ k, x (ix3 b k n) ≤ x (ix3 b m n) := by
  rw [Ideal.argReduce_eq_reduce2, Host.reduce2_eq_foldl_fiber]
  obtain ⟨h1, h2, h3⟩ := fold_least above (fun a => Or.inr ⟨rfl, le_rfl⟩) above_trans (reducer_argmax_f32_i32 (F := Ideal))
    (fun a b => by rw [argmax_cases]; split; left; rfl; split; left; rfl; right; rfl) argmax_above
    (Host.argReduceFiber x (iotaInDim S8x60x33600 32 1) reducesTo_S8x60x33600_S8x33600_d1 (ix2 b n)) ((⊥ : EReal), 0#32)
  have e : ((constant (F := Ideal) S_ .f32 0xFF800000#32 (Shape.Idx.first h_S_), constantI S_ 32 0#32 (Shape.Idx.first h_S_)) : EReal × BitVec 32)
      = ((⊥ : EReal), 0#32) := by
    refine Prod.ext ofBits_ninf rfl
  rw [e]
  generalize List.foldl (reducer_argmax_f32_i32 (F := Ideal)) ((⊥ : EReal), 0#32) _ = r at h1 h2 h3 ⊢
  have key : ∃ m : Fin 60, r = (x (ix3 b m n), BitVec.ofNat 32 m.val) := by
    rcases h1 with h1 | h1
    · refine ⟨0, ?_⟩
      have := h3 _ ((mem_fiber x b n _).mpr ⟨0, rfl⟩)
      rw [h1] at this
      rcases this with h | ⟨h, -⟩
      · exact absurd h not_lt_bot
      · rw [h1]; exact Prod.ext h rfl
    · exact (mem_fiber x b n r).mp h1
  obtain ⟨m, rfl⟩ := key
  refine ⟨m, rfl, fun k => ?_⟩
  rcases h3 _ ((mem_fiber x b n _).mpr ⟨k, rfl⟩) with h | h
  · exact le_of_lt h
  · exact h.1.ge

end Cert.ReferenceIdeal.Own
-- ==== Proof.RefB.lean ====
/-
  The reference's ranks: the sorted positions of a ground truth's costs and its greatest overlaps.
-/
module

public import proofs.«01_k».proof.Proof.RefA
public import proofs.«01_k».proof.Proof.Pick

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

theorem along_ix3 {a b c : ℕ} (i : Fin a) (j : Fin b) (k l : Fin c) :
    Shape.Idx.along (s := ⟨3, ![a, b, c]⟩) (ix3 i j k) (2 : Fin 3) l = ix3 i j l := by
  unfold Shape.Idx.along
  funext e
  match e with
  | ⟨0, _⟩ => rfl
  | ⟨1, _⟩ => rfl
  | ⟨2, _⟩ => rfl

theorem sort2_snd {α β : Type} (cmp : α × β → α × β → BitVec 1) (x : S8x60x33600.Idx → α) (y : S8x60x33600.Idx → β)
    (b : Fin 8) (m : Fin 60) (n : Fin 33600) :
    (Host.sort2 S8x60x33600 2 cmp x y).2 (ix3 b m n)
      = y (ix3 b m (sortedFrom (fun k k' : Fin 33600 => cmp (x (ix3 b m k), y (ix3 b m k)) (x (ix3 b m k'), y (ix3 b m k')) == 1#1) n)) := by
  have h : (Host.sort2 S8x60x33600 2 cmp x y).2 (ix3 b m n)
      = y (Shape.Idx.along (s := S8x60x33600) (ix3 b m n) (2 : Fin 3) (sortedFrom (fun k k' : Fin 33600 =>
        cmp (x (Shape.Idx.along (s := S8x60x33600) (ix3 b m n) (2 : Fin 3) k), y (Shape.Idx.along (s := S8x60x33600) (ix3 b m n) (2 : Fin 3) k))
          (x (Shape.Idx.along (s := S8x60x33600) (ix3 b m n) (2 : Fin 3) k'), y (Shape.Idx.along (s := S8x60x33600) (ix3 b m n) (2 : Fin 3) k')) == 1#1) n)) := rfl
  rw [h]
  simp only [along_ix3]
  exact congrArg y (along_ix3 _ _ _ _)

theorem sort2_fst {α β : Type} (cmp : α × β → α × β → BitVec 1) (x : S8x60x33600.Idx → α) (y : S8x60x33600.Idx → β)
    (b : Fin 8) (m : Fin 60) (n : Fin 33600) :
    (Host.sort2 S8x60x33600 2 cmp x y).1 (ix3 b m n)
      = x (ix3 b m (sortedFrom (fun k k' : Fin 33600 => cmp (x (ix3 b m k), y (ix3 b m k)) (x (ix3 b m k'), y (ix3 b m k')) == 1#1) n)) := by
  have h : (Host.sort2 S8x60x33600 2 cmp x y).1 (ix3 b m n)
      = x (Shape.Idx.along (s := S8x60x33600) (ix3 b m n) (2 : Fin 3) (sortedFrom (fun k k' : Fin 33600 =>
        cmp (x (Shape.Idx.along (s := S8x60x33600) (ix3 b m n) (2 : Fin 3) k), y (Shape.Idx.along (s := S8x60x33600) (ix3 b m n) (2 : Fin 3) k))
          (x (Shape.Idx.along (s := S8x60x33600) (ix3 b m n) (2 : Fin 3) k'), y (Shape.Idx.along (s := S8x60x33600) (ix3 b m n) (2 : Fin 3) k')) == 1#1) n)) := rfl
  rw [h]
  simp only [along_ix3]
  exact congrArg x (along_ix3 _ _ _ _)

theorem bit_beq (p : Prop) [Decidable p] : (BitVec.ofBool (decide p) == 1#1) = decide p := by
  by_cases h : p <;> simp [h]

/-- Zero normalised, nothing else: the extended reals hold no number unequal to itself. -/
theorem norm_eq (x : EReal) :
    Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
  have hz : FloatOps.ofBits (F := Ideal) .f32 0x00000000#32 = (0 : EReal) := by
    show Ideal.ofBits .f32 0x00000000#32 = 0
    simp [Ideal.ofBits, Ideal.ieee]
  rw [hz]
  have h1 : FloatOps.cmpf (F := Ideal) (φ := .f32) .une x x = 0#1 := by simp [Ideal.cmpf_def, Ideal.cmp]
  rw [h1]
  show Scalar.select (FloatOps.cmpf (F := Ideal) (φ := .f32) .oeq x (0 : EReal)) (0 : EReal) x = x
  by_cases h : x = 0
  · subst h; unfold Scalar.select; split <;> rfl
  · have : FloatOps.cmpf (F := Ideal) (φ := .f32) .oeq x (0 : EReal) = 0#1 := by simp [Ideal.cmpf_def, Ideal.cmp, h]
    rw [this]; rfl

theorem cmpfTotal_lt (x y : EReal) : FloatOps.cmpfTotal (F := Ideal) (φ := .f32) .lt x y = BitVec.ofBool (decide (x < y)) := by
  simp only [Ideal.cmpfTotal_def, Ideal.cmpTotal, Ideal.cmp]
  rfl
theorem cmpfTotal_gt (x y : EReal) : FloatOps.cmpfTotal (F := Ideal) (φ := .f32) .gt x y = BitVec.ofBool (decide (y < x)) := by
  simp only [Ideal.cmpfTotal_def, Ideal.cmpTotal, Ideal.cmp]
  rfl

theorem comparator_lt (x y : EReal) (i j : BitVec 32) : comparator_f32_i32_d2 (F := Ideal) (x, i) (y, j) = BitVec.ofBool (decide (x < y)) := by
  rw [← cmpfTotal_lt]
  conv_rhs => rw [← norm_eq x, ← norm_eq y]
  rfl

theorem comparator_slt (i j : BitVec 32) (k l : Fin 33600) :
    (comparator_i32_i32_d2 (BitVec.ofNat 32 k.val, i) (BitVec.ofNat 32 l.val, j) == 1#1) = decide (k < l) := by
  have h : comparator_i32_i32_d2 (BitVec.ofNat 32 k.val, i) (BitVec.ofNat 32 l.val, j) = BitVec.ofBool (decide (k < l)) := by
    show IntOp.cmpi .slt (BitVec.ofNat 32 k.val) (BitVec.ofNat 32 l.val) = _
    refine (cmpi_slt _ _).trans (congrArg BitVec.ofBool ?_)
    rw [toInt_ofNat_lt _ (by omega), toInt_ofNat_lt _ (by omega), decide_eq_decide]
    constructor
    · intro h; exact Fin.lt_def.mpr (by exact_mod_cast h)
    · intro h; exact_mod_cast Fin.lt_def.mp h
  rw [h, bit_beq]

variable (V : Vl)

theorem r_call1_v1 (b : Fin 8) (m : Fin 60) (n : Fin 33600) : (b_call1_v1 V) (ix3 b m n) = BitVec.ofNat 32 n.val := by
  pointwise [e_call1_v1, e_call1_v0]

theorem r_call2_v1 (b : Fin 8) (m : Fin 60) (n : Fin 33600) : (b_call2_v1 V) (ix3 b m n) = BitVec.ofNat 32 n.val := by
  pointwise [e_call2_v1, e_call2_v0]

theorem r_v272 (b : Fin 8) (m : Fin 60) (r : Fin 33600) (c : Fin 33600 → EReal) (hc : ∀ n, (b_v265 V) (ix3 b m n) = c n) :
    (b_v272 V) (ix3 b m r) = BitVec.ofNat 32 (ascending c r).val := by
  rw [e_v272, sort2_snd, r_call1_v1]
  refine congrArg (fun p : Fin 33600 → Fin 33600 => BitVec.ofNat 32 (p r).val) (congrArg sortedFrom ?_)
  funext k k'
  rw [comparator_lt, bit_beq, hc, hc]

theorem r_v273 (b : Fin 8) (m : Fin 60) (n : Fin 33600) (c : Fin 33600 → EReal) (hc : ∀ n, (b_v265 V) (ix3 b m n) = c n) :
    (b_v273 V) (ix3 b m n) = BitVec.ofNat 32 (ascending (ascending c) n).val := by
  rw [e_v273, sort2_snd, r_call2_v1]
  refine congrArg (fun p : Fin 33600 → Fin 33600 => BitVec.ofNat 32 (p n).val) (congrArg sortedFrom ?_)
  funext k k'
  rw [r_v272 V b m k c hc, r_v272 V b m k' c hc, comparator_slt]

theorem topK_fst {α : Type} (gt : α → α → BitVec 1) (x : S8x60x33600.Idx → α) (hs : S8x60x33600.Slices (fun _ => 0) S8x60x10) (b : Fin 8) (m : Fin 60) (r : Fin 10) :
    (Host.topK S8x60x10 2 gt x hs).1 (ix3 b m r)
      = (Host.sort2 S8x60x33600 2 (fun l r : α × BitVec 32 => gt l.1 r.1) x
          (fun i => if hd : 2 < S8x60x33600.rank then iotaInDim S8x60x33600 32 ⟨2, hd⟩ i else 0#32)).1 (ix3 b m (r.castLE (by decide))) := by
  have h : (Host.topK S8x60x10 2 gt x hs).1 (ix3 b m r) = extractStridedSlice S8x60x10 (fun _ => 0) (Host.sort2 S8x60x33600 2 (fun l r : α × BitVec 32 => gt l.1 r.1) x
          (fun i => if hd : 2 < S8x60x33600.rank then iotaInDim S8x60x33600 32 ⟨2, hd⟩ i else 0#32)).1 hs (ix3 b m r) := rfl
  rw [h]
  generalize (Host.sort2 S8x60x33600 2 (fun l r : α × BitVec 32 => gt l.1 r.1) x
          (fun i => if hd : 2 < S8x60x33600.rank then iotaInDim S8x60x33600 32 ⟨2, hd⟩ i else 0#32)) = p
  unfold extractStridedSlice
  refine congrArg p.1 ?_
  funext e
  match e with
  | ⟨0, _⟩ => exact Fin.ext (Nat.zero_add _)
  | ⟨1, _⟩ => exact Fin.ext (Nat.zero_add _)
  | ⟨2, _⟩ => exact Fin.ext (Nat.zero_add _)

theorem r_values (b : Fin 8) (m : Fin 60) (r : Fin 10) (f : Fin 33600 → EReal) (hf : ∀ n, (b_v267 V) (ix3 b m n) = f n) :
    (b_values V) (ix3 b m r) = f (descending f (r.castLE (by decide))) := by
  rw [e_values]
  rw [topK_fst, sort2_fst, hf]
  refine congrArg (fun p : Fin 33600 → Fin 33600 => f (p (r.castLE (by decide)))) (congrArg sortedFrom ?_)
  funext k k'
  rw [cmpfTotal_gt, bit_beq, hf, hf]

/-- The example `b` is assignable. -/
abbrev Fairb (b : Fin 8) : Prop := Fair (rX V b) (rP V b) (rA V) (rL V b) (rG V b)

variable {V} {b : Fin 8} (h : Fairb V b)
include h

theorem r_cost (m : Fin 60) (n : Fin 33600) : (b_v265 V) (ix3 b m n) = costs (rX V b) (rP V b) (rA V) (rL V b) (rG V b) n m := by
  obtain ⟨c, hc⟩ := h.lab m
  exact r_v265 V b m n c (h.finX n) hc

theorem r_v271 (m : Fin 60) : (b_v271 V) (ix2 b m) = Cert.Own.count (rP V b) (rA V) (rG V b) m := by
  rw [← top_count h m]
  simp only [← r_values V b m _ _ (fun n => r_v267 V b m n)]
  pointwise [e_v271, e_v270, e_c_44, e_v269, e_v268, e_cst_43]

theorem r_v277 (m : Fin 60) (n : Fin 33600) : (b_v277 V) (ix3 b m n)
    = taken (costs (rX V b) (rP V b) (rA V) (rL V b) (rG V b) n) (cut (rX V b) (rP V b) (rA V) (rL V b) (rG V b)) m := by
  unfold taken
  rw [← rank_cut h m n, ← r_v273 V b m n _ (fun i => r_cost h m i), ← r_v271 h m, ← uitofp_bit]
  pointwise [e_v276, e_v275, e_v274, e_v277]

theorem r_v281 (n : Fin 33600) : (b_v281 V) (ix2 b n) = BitVec.ofNat 32 (best (costs (rX V b) (rP V b) (rA V) (rL V b) (rG V b) n)).val := by
  rw [← funext fun m => r_cost h m n, ← argmin_eq]
  simp only [e_v281, e_call3_v0, e_call3_cst, e_call3_c]

theorem r_v285 (m : Fin 60) (n : Fin 33600) : (b_v285 V) (ix3 b m n)
    = settle (costs (rX V b) (rP V b) (rA V) (rL V b) (rG V b) n)
        (taken (costs (rX V b) (rP V b) (rA V) (rL V b) (rG V b) n) (cut (rX V b) (rP V b) (rA V) (rL V b) (rG V b))) m := by
  unfold settle
  have hb : BitVec.ofBool (decide (m = best (costs (rX V b) (rP V b) (rA V) (rL V b) (rG V b) n)))
      = IntOp.cmpi .eq ((b_v281 V) (ix2 b n)) (BitVec.ofNat 32 m.val) := by
    rw [r_v281 h n, cmpi_eq_ofNat _ _ (by omega) (by omega)]
    exact congrArg BitVec.ofBool (decide_eq_decide.mpr ⟨fun e => by rw [e], fun e => (Fin.ext e).symm⟩)
  rw [hb]
  simp only [← r_v277 h, ← uitofp_bit]
  pointwise [e_v285, e_v283, e_v282, e_call4_v5, e_call4_v4, e_call4_v2, e_call4_v1, e_call4_v3, e_call4_v0, e_call5_v0, e_v284, e_v280, e_v279, e_cst_46, e_v278, e_cst_45]

theorem r_v289 (n : Fin 33600) : (b_v289 V) (ix2 b n)
    = posB (costs (rX V b) (rP V b) (rA V) (rL V b) (rG V b) n)
        (taken (costs (rX V b) (rP V b) (rA V) (rL V b) (rG V b) n) (cut (rX V b) (rP V b) (rA V) (rL V b) (rG V b))) (fgBit (rA V n) (rG V b)) := by
  unfold posB
  simp only [← r_v285 h, ← r_v73 V]
  pointwise [e_v289, e_v288, e_v287, e_cst_48, e_v286, e_cst_47]

theorem r_v290 (n : Fin 33600) : ∃ m : Fin 60, (b_v290 V) (ix2 b n) = BitVec.ofNat 32 m.val ∧
    ∀ k, settle (costs (rX V b) (rP V b) (rA V) (rL V b) (rG V b) n)
        (taken (costs (rX V b) (rP V b) (rA V) (rL V b) (rG V b) n) (cut (rX V b) (rP V b) (rA V) (rL V b) (rG V b))) k
      ≤ settle (costs (rX V b) (rP V b) (rA V) (rL V b) (rG V b) n)
        (taken (costs (rX V b) (rP V b) (rA V) (rL V b) (rG V b) n) (cut (rX V b) (rP V b) (rA V) (rL V b) (rG V b))) m := by
  obtain ⟨m, h1, h2⟩ := argmax_eq (b_v285 V) b n
  refine ⟨m, ?_, fun k => ?_⟩
  · rw [← h1]
    simp only [e_v290, e_call6_v0, e_call6_cst, e_call6_c]
  · rw [← r_v285 h, ← r_v285 h]; exact h2 k

end Cert.ReferenceIdeal.Own
-- ==== Proof.RefC.lean ====
/-
  The reference's targets: the label, the box and the overlap of the ground truth an anchor is matched to.
-/
module

public import proofs.«01_k».proof.Proof.RefB

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

theorem bit_cases (v : BitVec 1) : v = 0#1 ∨ v = 1#1 := by revert v; decide

theorem select_nonneg {α : Type} (v : BitVec 32) (k : ℕ) (hk : k < 2147483648) (h : v = BitVec.ofNat 32 k) (x y : α) :
    Scalar.select (IntOp.cmpi CmpIPredicate.slt v 0#32) x y = y := by
  have : IntOp.cmpi CmpIPredicate.slt v 0#32 = 0#1 := by
    subst h
    rw [cmpi_slt, toInt_ofNat_lt _ hk, decide_eq_false (show ¬ ((k : ℤ) < (0#32 : BitVec 32).toInt) by simp)]
    decide
  rw [this]; rfl

section
variable (V : Vl) (b : Fin 8) (n : Fin 33600) (m : Fin 60) (hm : (b_v290 V) (ix2 b n) = BitVec.ofNat 32 m.val)
include hm

theorem r_v296 : (b_v296 V) (ix3 b n 0) = BitVec.ofNat 32 m.val := by
  rw [← hm, ← select_nonneg _ m.val (by omega) hm (IntOp.addi (b_v290 V (ix2 b n)) 60#32) (b_v290 V (ix2 b n))]
  pointwise [e_v296, e_v295, e_v294, e_v293, e_c_50, e_v292, e_v291, e_c_49]

theorem r_v305 : (b_v305 V) (ix3 b n 0) = BitVec.ofNat 32 m.val := by
  rw [← hm, ← select_nonneg _ m.val (by omega) hm (IntOp.addi (b_v290 V (ix2 b n)) 60#32) (b_v290 V (ix2 b n))]
  pointwise [e_v305, e_v304, e_v303, e_v302, e_c_53, e_v301, e_v300, e_c_52]

theorem r_v322_0 : (b_v322 V) (ix3 b n 0) = BitVec.ofNat 32 m.val := by
  rw [← hm, ← select_nonneg _ m.val (by omega) hm (IntOp.addi (b_v290 V (ix2 b n)) 60#32) (b_v290 V (ix2 b n))]
  pointwise [e_v322, e_v321, e_v320, e_v318, e_v308, e_v317, e_v316, e_c_58, e_v315, e_v314, e_c_57, e_v319, e_v313, e_v312, e_v311, e_c_56, e_v310, e_v309, e_c_55]

omit hm in
theorem r_v322_1 : (b_v322 V) (ix3 b n 1) = BitVec.ofNat 32 n.val := by
  rw [← select_nonneg (BitVec.ofNat 32 n.val) n.val (by omega) rfl (IntOp.addi (BitVec.ofNat 32 n.val) 33600#32) (BitVec.ofNat 32 n.val)]
  pointwise [e_v322, e_v321, e_v320, e_v318, e_v308, e_v317, e_v316, e_c_58, e_v315, e_v314, e_c_57, e_v319, e_v313, e_v312, e_v311, e_c_56, e_v310, e_v309, e_c_55]

theorem r_v297 : (b_v297 V) (ix2 b n) = rL V b m := by
  rw [e_v297]
  exact labels_apply _ (b_arg5 V) (b_v296 V) b n m (r_v296 V b n m hm)

theorem r_v306 (k : Fin 4) : (b_v306 V) (ix3 b n k) = rG V b m k := by
  rw [e_v306]
  exact boxes_apply _ (b_arg6 V) (b_v305 V) b n k m (r_v305 V b n m hm)

theorem r_v323 : (b_v323 V) (ix2 b n) = iou (rP V b n) (rG V b m) := by
  rw [e_v323, ← r_v135]
  exact pairs_apply _ (b_v135 V) (b_v322 V) b n m n (r_v322_0 V b n m hm) (r_v322_1 V b n)

end

/-- Whether an anchor is matched, as a bit. -/
abbrev posBit (V : Vl) (b : Fin 8) (n : Fin 33600) : BitVec 1 :=
  posB (costs (rX V b) (rP V b) (rA V) (rL V b) (rG V b) n)
    (taken (costs (rX V b) (rP V b) (rA V) (rL V b) (rG V b) n) (cut (rX V b) (rP V b) (rA V) (rL V b) (rG V b))) (fgBit (rA V n) (rG V b))

abbrev rChosen (V : Vl) (b : Fin 8) (n : Fin 33600) (m : Fin 60) : EReal := chosen (rX V b) (rP V b) (rA V) (rL V b) (rG V b) n m

variable {V : Vl} {b : Fin 8} (h : Fairb V b)
include h

/-- An anchor is matched to nothing, or to one ground truth. -/
theorem match_cases (n : Fin 33600) : (posBit V b n = 0#1 ∧ ∀ m, rChosen V b n m = 0) ∨
    ∃ m0, posBit V b n = 1#1 ∧ (∀ m, rChosen V b n m = if m = m0 then 1 else 0) ∧ (b_v290 V) (ix2 b n) = BitVec.ofNat 32 m0.val := by
  have hch : ∀ m, rChosen V b n m = settle (costs (rX V b) (rP V b) (rA V) (rL V b) (rG V b) n)
    (taken (costs (rX V b) (rP V b) (rA V) (rL V b) (rG V b) n) (cut (rX V b) (rP V b) (rA V) (rL V b) (rG V b))) m * bitE (posBit V b n) := fun m => rfl
  rcases bit_cases (posBit V b n) with hp | hp
  · left; refine ⟨hp, fun m => ?_⟩
    rw [hch, hp]; simp [bitE]
  right
  obtain ⟨m, hm, hmax⟩ := r_v290 h n
  rcases settle_cases (costs (rX V b) (rP V b) (rA V) (rL V b) (rG V b) n)
    (taken (costs (rX V b) (rP V b) (rA V) (rL V b) (rG V b) n) (cut (rX V b) (rP V b) (rA V) (rL V b) (rG V b))) (taken_cases _ _) with hz | ⟨m0, h0⟩
  · exfalso
    have : posBit V b n = 0#1 := by
      unfold posBit posB
      rw [Finset.sum_congr rfl fun m _ => hz m]
      simp [IntOp.andi]
    rw [this] at hp; exact absurd hp (by decide)
  · refine ⟨m0, hp, fun k => ?_, ?_⟩
    · rw [hch, h0, hp]; simp [bitE]
    · have := hmax m0
      rw [h0, h0, if_pos rfl] at this
      by_cases e : m = m0
      · rw [← e]; exact hm
      · rw [if_neg e] at this; exact absurd this (by simp)

theorem sum_onehot (m0 : Fin 60) (c f : Fin 60 → EReal) (hc : ∀ m, c m = if m = m0 then 1 else 0) : ∑ m, c m * f m = f m0 := by
  rw [Finset.sum_eq_single m0]
  · rw [hc, if_pos rfl, one_mul]
  · intro m _ hm; rw [hc, if_neg hm, zero_mul]
  · intro hh; exact absurd (Finset.mem_univ m0) hh

theorem r_pos (n : Fin 33600) : (b_v289 V) (ix2 b n) = posBit V b n := r_v289 h n

theorem r_v307 (n : Fin 33600) (k : Fin 4) : (b_v307 V) (ix3 b n k) = ∑ m, rChosen V b n m * rG V b m k := by
  have e : (b_v307 V) (ix3 b n k) = Scalar.select ((b_v289 V) (ix2 b n)) ((b_v306 V) (ix3 b n k)) 0 := by
    pointwise [e_v307, e_call8_v3, e_call8_v2, e_call8_v0, e_cst_54, e_call8_v1, e_v299, id_eq]
  rw [e, r_pos h n]
  rcases match_cases h n with ⟨hp, hz⟩ | ⟨m0, hp, h1, hm⟩
  · rw [hp]; simp only [hz, zero_mul, Finset.sum_const_zero]; rfl
  · rw [hp, r_v306 V b n m0 hm, sum_onehot h m0 _ _ h1]; rfl

theorem r_v324 (n : Fin 33600) : (b_v324 V) (ix2 b n) = ∑ m, rChosen V b n m * iou (rP V b n) (rG V b m) := by
  have e : (b_v324 V) (ix2 b n) = Scalar.select ((b_v289 V) (ix2 b n)) ((b_v323 V) (ix2 b n)) 0 := by
    pointwise [e_v324, e_call9_v2, e_call9_v1, e_call9_v0, e_cst_59, id_eq]
  rw [e, r_pos h n]
  rcases match_cases h n with ⟨hp, hz⟩ | ⟨m0, hp, h1, hm⟩
  · rw [hp]; simp only [hz, zero_mul, Finset.sum_const_zero]; rfl
  · rw [hp, r_v323 V b n m0 hm, sum_onehot h m0 _ _ h1]; rfl

theorem r_v298 (n : Fin 33600) : (posBit V b n = 0#1 ∧ (b_v298 V) (ix2 b n) = 80#32 ∧ ∀ m, rChosen V b n m = 0) ∨
    ∃ (m0 : Fin 60) (c : Fin 80), posBit V b n = 1#1 ∧ (b_v298 V) (ix2 b n) = BitVec.ofNat 32 c.val ∧ rL V b m0 = BitVec.ofNat 32 c.val ∧
      (∀ m, rChosen V b n m = if m = m0 then 1 else 0) := by
  have e : (b_v298 V) (ix2 b n) = Scalar.select ((b_v289 V) (ix2 b n)) ((b_v297 V) (ix2 b n)) 80#32 := by
    pointwise [e_v298, e_call7_v2, e_call7_v1, e_call7_v0, e_c_51, id_eq]
  rw [e, r_pos h n]
  rcases match_cases h n with ⟨hp, hz⟩ | ⟨m0, hp, h1, hm⟩
  · left; rw [hp]; exact ⟨rfl, rfl, hz⟩
  · right
    obtain ⟨c, hc⟩ := h.lab m0
    refine ⟨m0, c, hp, ?_, hc, h1⟩
    rw [hp, r_v297 V b n m0 hm, hc]; rfl

theorem r_v329 (n : Fin 33600) : (b_v329 V) (ix2 b n) = posBit V b n := by
  have e : (b_v329 V) (ix2 b n) = IntOp.andi (IntOp.cmpi CmpIPredicate.sge ((b_v298 V) (ix2 b n)) 0#32) (IntOp.cmpi CmpIPredicate.ne ((b_v298 V) (ix2 b n)) 80#32) := by
    pointwise [e_v329, e_v328, e_v327, e_c_61, e_v326, e_v325, e_c_60, id_eq]
  rw [e]
  rcases r_v298 h n with ⟨hp, hl, -⟩ | ⟨m0, c, hp, hl, -, -⟩
  · rw [hp, hl]; decide
  · rw [hp, hl]; clear hl; revert c; decide

theorem r_v330 (n : Fin 33600) : (b_v330 V) (ix2 b n) = matched (rX V b) (rP V b) (rA V) (rL V b) (rG V b) n := by
  have e : (b_v330 V) (ix2 b n) = FloatOps.uitofp (F := Ideal) FTy.f32 ((b_v329 V) (ix2 b n)) := by
    pointwise [e_v330]
  rw [e, uitofp_bit, r_v329 h n]; rfl

theorem r_v337 (n : Fin 33600) : (b_v337 V) (ix2 b n) = rV V b n := by
  have e : (b_v337 V) (ix2 b n) = FloatOps.uitofp (F := Ideal) FTy.f32
      (IntOp.andi (~~~((b_arg4 V : IVec S8x33600 1) (ix2 b n))) (IntOp.cmpi CmpIPredicate.sge ((b_v298 V) (ix2 b n)) 0#32)) := by
    pointwise [e_v337, e_v336, e_v335, e_v334, e_c_64, e_v333, id_eq]
  have hs : IntOp.cmpi CmpIPredicate.sge ((b_v298 V) (ix2 b n)) 0#32 = 1#1 := by
    rcases r_v298 h n with ⟨hp, hl, -⟩ | ⟨m0, c, hp, hl, -, -⟩
    · rw [hl]; decide
    · rw [hl]; clear hl; revert c; decide
  rw [e, hs, uitofp_bit]
  have ha : ∀ v : BitVec 1, IntOp.andi v 1#1 = v := by decide
  rw [ha]

/-- The class target: one at the matched label, where the anchor is matched. -/
theorem r_v342 (n : Fin 33600) (c : Fin 80) : (b_v342 V) (ix3 b n c) = bitE (IntOp.cmpi CmpIPredicate.eq (Scalar.select (posBit V b n) ((b_v298 V) (ix2 b n)) 0#32) (BitVec.ofNat 32 c.val)) * bitE (posBit V b n) := by
  rw [← r_v329 h n, ← uitofp_bit, ← uitofp_bit]
  pointwise [e_v342, e_v341, e_v340, e_v330, e_v339, e_call11_v4, e_call11_v3, e_call11_v1, e_call11_v2, e_call11_v0, e_v338, e_call10_v1, e_call10_v0, e_c_65, id_eq]

end Cert.ReferenceIdeal.Own
-- ==== Proof.RefD.lean ====
/-
  The reference's three losses.
-/
module

public import proofs.«01_k».proof.Proof.RefC

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

theorem sum_replace (c0 : Fin 80) (p q : Fin 80 → EReal) (hp : ∀ c, Fin' (p c)) (hq : ∀ c, Fin' (q c)) :
    ∑ c, (if c = c0 then p c else q c) = (∑ c, q c) + (p c0 - q c0) := by
  rw [← Finset.add_sum_erase Finset.univ (fun c => if c = c0 then p c else q c) (Finset.mem_univ c0),
    ← Finset.add_sum_erase Finset.univ q (Finset.mem_univ c0)]
  have e : ∑ c ∈ Finset.univ.erase c0, (if c = c0 then p c else q c) = ∑ c ∈ Finset.univ.erase c0, q c :=
    Finset.sum_congr rfl fun c hc => if_neg (Finset.ne_of_mem_erase hc)
  rw [e]
  simp only [if_true]
  obtain ⟨r, hr⟩ := fin_sum (Finset.univ.erase c0) q hq
  obtain ⟨a, ha⟩ := hp c0
  obtain ⟨d, hd⟩ := hq c0
  rw [hr, ha, hd, ← EReal.coe_add, ← EReal.coe_add, ← EReal.coe_sub, ← EReal.coe_add]
  congr 1; ring

theorem sum_onehot' (m0 : Fin 60) (c f : Fin 60 → EReal) (hc : ∀ m, c m = if m = m0 then 1 else 0) : ∑ m, c m * f m = f m0 := by
  rw [Finset.sum_eq_single m0]
  · rw [hc, if_pos rfl, one_mul]
  · intro m _ hm; rw [hc, if_neg hm, zero_mul]
  · intro hh; exact absurd (Finset.mem_univ m0) hh

/-- One anchor's class loss. -/
theorem row_eq (x : Fin 80 → EReal) (hx : ∀ c, Fin' (x c)) (t : Fin 80 → EReal) (w : BitVec 1) (ch : Fin 60 → EReal) (L : Fin 60 → BitVec 32)
    (h : (∀ m, ch m = 0) ∧ (∀ c, t c = 0) ∨ ∃ (m0 : Fin 60) (c0 : Fin 80), L m0 = BitVec.ofNat 32 c0.val ∧ (∀ m, ch m = if m = m0 then 1 else 0) ∧
      ∀ c, t c = if c = c0 then 1 else 0) :
    ∑ c, focal (x c) (t c) * bitE w = bitE w * sumNeg x + ∑ m, ch m * dx x (L m) * bitE w := by
  rcases bit_cases w with rfl | rfl
  · have : bitE 0#1 = 0 := by simp [bitE]
    simp only [this, mul_zero, zero_mul, Finset.sum_const_zero, add_zero]
  have : bitE 1#1 = 1 := by simp [bitE]
  simp only [this, mul_one, one_mul]
  unfold sumNeg
  rcases h with ⟨hc, ht⟩ | ⟨m0, c0, hl, hc, ht⟩
  · simp only [hc, ht, zero_mul, Finset.sum_const_zero, add_zero]
    exact Finset.sum_congr rfl fun c _ => focal_zero (hx c)
  · rw [sum_onehot' m0 ch _ hc]
    unfold dx
    rw [hl, pick_ofNat, ← sum_replace c0 (fun c => posE (x c)) (fun c => negE (x c)) (fun c => fin_pos (hx c)) (fun c => fin_neg (hx c))]
    refine Finset.sum_congr rfl fun c _ => ?_
    rw [ht]
    by_cases e : c = c0
    · rw [if_pos e, if_pos e]; exact focal_one (hx c)
    · rw [if_neg e, if_neg e]; exact focal_zero (hx c)

theorem r_v377 (V : Vl) (b : Fin 8) (n : Fin 33600) (c : Fin 80) : (b_v377 V) (ix3 b n c) = focal (rX V b n c) ((b_v342 V) (ix3 b n c)) := by
  unfold focal
  pointwise [e_v377, e_v369, e_v368, e_v367, e_cst_72, e_v366, e_v364, e_v363, e_v362, e_v361, e_cst_70, e_v360, e_v348, e_v346, e_v344, e_v343, e_v345, e_cst_66, e_v347, e_cst_67, e_v359, e_cst_69, e_v358, e_v365, e_cst_71, e_v357, e_v356, e_v355, e_v354, e_v353, e_v352, e_v351, e_v350, e_v349, e_cst_68, e_v376, e_v375, e_v373, e_v372, e_cst_74, e_v374, e_cst_75, e_v371, e_v370, e_cst_73]

variable {V : Vl} {b : Fin 8} (h : Fairb V b)
include h

theorem r_cls (n : Fin 33600) : ∑ c, (b_v380 V) (ix3 b n c)
    = rV V b n * sumNeg (rX V b n) + ∑ m, rChosen V b n m * dx (rX V b n) (rL V b m) * rV V b n := by
  have e : ∀ c, (b_v380 V) (ix3 b n c) = focal (rX V b n c) ((b_v342 V) (ix3 b n c)) * rV V b n := fun c => by
    rw [← r_v377, ← r_v337 h n]
    pointwise [e_v380, e_v379, e_v378]
  rw [Finset.sum_congr rfl fun c _ => e c]
  refine row_eq (rX V b n) (h.finX n) (fun c => (b_v342 V) (ix3 b n c)) _ (rChosen V b n) (rL V b) ?_
  rcases r_v298 h n with ⟨hp, hl, hz⟩ | ⟨m0, c0, hp, hl, hL, h1⟩
  · left
    refine ⟨hz, fun c => ?_⟩
    show (b_v342 V) (ix3 b n c) = 0
    rw [r_v342 h n c, hp]; simp [bitE]
  · right
    refine ⟨m0, c0, hL, h1, fun c => ?_⟩
    show (b_v342 V) (ix3 b n c) = _
    rw [r_v342 h n c, hp, hl]
    have : Scalar.select 1#1 (BitVec.ofNat 32 c0.val) 0#32 = BitVec.ofNat 32 c0.val := rfl
    rw [this, cmpi_eq_ofNat _ _ (by omega) (by omega), bitE_ofBool]
    have : bitE 1#1 = 1 := by simp [bitE]
    rw [this, mul_one]
    by_cases e : c = c0
    · rw [if_pos e, if_pos (by rw [e])]
    · rw [if_neg e, if_neg (fun q => e (Fin.ext q).symm)]

theorem r_v453 (n : Fin 33600) : (b_v453 V) (ix2 b n)
    = (1 - giou (rP V b n) fun k => ∑ m, rChosen V b n m * rG V b m k) * matched (rX V b) (rP V b) (rA V) (rL V b) (rG V b) n := by
  have e : (b_v453 V) (ix2 b n) = (1 - giou (rP V b n) fun k => (b_v307 V) (ix3 b n k)) * (b_v330 V) (ix2 b n) := by
    unfold giou union2 hull inter2
    pointwise [e_v453, e_v452, e_v450, e_v449, e_v448, e_v447, e_cst_84, e_v445, e_v444, e_v443, e_v440, e_v439, e_cst_83, e_v438, e_v434, e_v433, e_v432, e_v437, e_v436, e_v435, e_v442, e_v441, e_v446, e_v428, e_v396, e_v395, e_v394, e_v391, e_v390, e_cst_77, e_v389, e_v385, e_v384, e_v383, e_v388, e_v387, e_v386, e_v393, e_v392, e_v427, e_v426, e_v425, e_v424, e_cst_81, e_v423, e_v422, e_v421, e_v420, e_v419, e_v418, e_v417, e_cst_80, e_v416, e_v415, e_v414, e_v413, e_v412, e_v411, e_v410, e_v409, e_cst_79, e_v408, e_v407, e_v406, e_v405, e_v404, e_v403, e_v402, e_cst_78, e_v401, e_v400, e_v399, e_v398, e_v397, e_v431, e_v430, e_v429, e_cst_82, e_v451, e_cst_85]
  rw [e, r_v330 h n]
  simp only [r_v307 h n]

theorem r_v466 (n : Fin 33600) : (b_v466 V) (ix2 b n)
    = bce (rU V b n) (∑ m, rChosen V b n m * iou (rP V b n) (rG V b m)) * matched (rX V b) (rP V b) (rA V) (rL V b) (rG V b) n := by
  have e : (b_v466 V) (ix2 b n) = bce (rU V b n) ((b_v324 V) (ix2 b n)) * (b_v330 V) (ix2 b n) := by
    unfold bce
    rw [zero_sub]
    pointwise [e_v466, e_v465, e_v464, e_v463, e_v462, e_v461, e_v456, e_v460, e_v459, e_v458, e_v457, e_cst_87]
  rw [e, r_v330 h n, r_v324 h n]

end Cert.ReferenceIdeal.Own
-- ==== Proof.RefE.lean ====
/-
  The reference's result: the losses of the batch.
-/
module

public import proofs.«01_k».proof.Proof.RefD

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

/-- The four sums of example `b`. -/
abbrev rSums (V : Vl) (b : Fin 8) : Fin 4 → EReal := sums (rX V b) (rP V b) (rA V) (rL V b) (rG V b) (rV V b) (rU V b)

variable (V : Vl)

theorem total2 (x : FVec Ideal S8x33600 .f32) (y : FVec Ideal S_ .f32) (hy : y = constant S_ .f32 0x00000000#32) (j : S_.Idx) :
    Host.reduceAdd x y reducesTo_S8x33600_S_d0_1 h_S_ j = ∑ b : Fin 8, ∑ n : Fin 33600, x (ix2 b n) := by
  subst hy
  refine (Ideal.hostReduceAdd_total reducesTo_S8x33600_S_d0_1 (fun e => e.elim0) x _ j).trans ?_
  rw [sum_idx2]
  refine (congrArg (· + _) ?_).trans (zero_add _)
  show Ideal.ofBits .f32 0x00000000#32 = 0
  exact Ideal.ofBits_zero_f32

theorem total3 (x : FVec Ideal S8x33600x80 .f32) (y : FVec Ideal S_ .f32) (hy : y = constant S_ .f32 0x00000000#32) (j : S_.Idx) :
    Host.reduceAdd x y reducesTo_S8x33600x80_S_d0_1_2 h_S_ j = ∑ b : Fin 8, ∑ n : Fin 33600, ∑ c : Fin 80, x (ix3 b n c) := by
  subst hy
  refine (Ideal.hostReduceAdd_total reducesTo_S8x33600x80_S_d0_1_2 (fun e => e.elim0) x _ j).trans ?_
  rw [sum_idx3]
  refine (congrArg (· + _) ?_).trans (zero_add _)
  show Ideal.ofBits .f32 0x00000000#32 = 0
  exact Ideal.ofBits_zero_f32

theorem t_v331 (j : S_.Idx) : (b_v331 V) j = ∑ b : Fin 8, ∑ n : Fin 33600, (b_v330 V) (ix2 b n) := by rw [e_v331]; exact total2 _ _ (e_cst_62 V) j
theorem t_v381 (j : S_.Idx) : (b_v381 V) j = ∑ b : Fin 8, ∑ n : Fin 33600, ∑ c : Fin 80, (b_v380 V) (ix3 b n c) := by rw [e_v381]; exact total3 _ _ (e_cst_76 V) j
theorem t_v454 (j : S_.Idx) : (b_v454 V) j = ∑ b : Fin 8, ∑ n : Fin 33600, (b_v453 V) (ix2 b n) := by rw [e_v454]; exact total2 _ _ (e_cst_86 V) j
theorem t_v467 (j : S_.Idx) : (b_v467 V) j = ∑ b : Fin 8, ∑ n : Fin 33600, (b_v466 V) (ix2 b n) := by rw [e_v467]; exact total2 _ _ (e_cst_88 V) j
theorem ofBits_one' : Ideal.ofBits .f32 0x3F800000#32 = 1 := by
  simp [Ideal.ofBits, Ideal.ieee, -EReal.coe_mul]; norm_num
theorem g_max (x y : FVec Ideal S_ .f32) (hy : y = constant S_ .f32 0x3F800000#32) (j : S_.Idx) : maximumf x y j = max (x j : EReal) (1 : EReal) := by
  subst hy
  rw [← ofBits_one']; rfl
theorem g_div (x y : FVec Ideal S_ .f32) (j : S_.Idx) : Host.divf x y j = Ideal.div (x j : EReal) (y j : EReal) := rfl
theorem t_v332 (j : S_.Idx) : (b_v332 V) j = max ((b_v331 V) j : EReal) (1 : EReal) := by
  rw [e_v332]; exact g_max _ _ (e_cst_63 V) j
theorem t_v382 (j : S_.Idx) : (b_v382 V) j = Ideal.div ((b_v381 V) j : EReal) ((b_v332 V) j : EReal) := by rw [e_v382]; exact g_div _ _ j
theorem t_v455 (j : S_.Idx) : (b_v455 V) j = Ideal.div ((b_v454 V) j : EReal) ((b_v332 V) j : EReal) := by rw [e_v455]; exact g_div _ _ j
theorem t_v468 (j : S_.Idx) : (b_v468 V) j = Ideal.div ((b_v467 V) j : EReal) ((b_v332 V) j : EReal) := by rw [e_v468]; exact g_div _ _ j

variable (h : ∀ b, Fairb V b)
include h

omit h in
theorem sums_0 (b : Fin 8) : rSums V b 0 = (∑ n, rV V b n * sumNeg (rX V b n)) + ∑ n, ∑ m, rChosen V b n m * dx (rX V b n) (rL V b m) * rV V b n := rfl
omit h in
theorem sums_1 (b : Fin 8) : rSums V b 1 = ∑ n, (1 - giou (rP V b n) fun k => ∑ m, rChosen V b n m * rG V b m k) * matched (rX V b) (rP V b) (rA V) (rL V b) (rG V b) n := rfl
omit h in
theorem sums_2 (b : Fin 8) : rSums V b 2 = ∑ n, bce (rU V b n) (∑ m, rChosen V b n m * iou (rP V b n) (rG V b m)) * matched (rX V b) (rP V b) (rA V) (rL V b) (rG V b) n := rfl
omit h in
theorem sums_3 (b : Fin 8) : rSums V b 3 = ∑ n, matched (rX V b) (rP V b) (rA V) (rL V b) (rG V b) n := rfl

theorem s_num (j : S_.Idx) : (b_v332 V) j = max (∑ b : Fin 8, rSums V b 3) 1 := by
  rw [t_v332, t_v331]
  simp only [sums_3, r_v330 (h _)]

theorem s_cls (j : S_.Idx) : (b_v381 V) j = ∑ b : Fin 8, rSums V b 0 := by
  rw [t_v381]
  simp only [sums_0, r_cls (h _), Finset.sum_add_distrib]

theorem s_box (j : S_.Idx) : (b_v454 V) j = ∑ b : Fin 8, rSums V b 1 := by
  rw [t_v454]
  simp only [sums_1, r_v453 (h _)]

theorem s_iou (j : S_.Idx) : (b_v467 V) j = ∑ b : Fin 8, rSums V b 2 := by
  rw [t_v467]
  simp only [sums_2, r_v466 (h _)]

omit h in
theorem g_cat (x y z : FVec Ideal S1 .f32) (q : Fin 3) :
    concatenate S3 0 [⟨S1, x⟩, ⟨S1, y⟩, ⟨S1, z⟩] concatenates_S1_S1_S1_S3_d0 (ix1 q) = (![x (ix1 0), y (ix1 0), z (ix1 0)] : Fin 3 → EReal) q := by
  match q with
  | ⟨0, _⟩ => pointwise
  | ⟨1, _⟩ => pointwise
  | ⟨2, _⟩ => pointwise

omit h in
theorem g_one (x : FVec Ideal S_ .f32) : broadcastInDim S1 ![] bcast_S_S1 x (ix1 0) = x (fun e => e.elim0) :=
  congrArg x (funext fun e => e.elim0)

omit h in
theorem losses_vec (s : Fin 8 → Fin 4 → EReal) (q : Fin 3) :
    (![Ideal.div (∑ b : Fin 8, s b 0) (max (∑ b : Fin 8, s b 3) 1), Ideal.div (∑ b : Fin 8, s b 1) (max (∑ b : Fin 8, s b 3) 1),
      Ideal.div (∑ b : Fin 8, s b 2) (max (∑ b : Fin 8, s b 3) 1)] : Fin 3 → EReal) q = losses s q := by
  match q with
  | ⟨0, _⟩ => rfl
  | ⟨1, _⟩ => rfl
  | ⟨2, _⟩ => rfl

theorem s_losses (q : Fin 3) : (b_v472 V) (ix1 q) = losses (fun b => rSums V b) q := by
  rw [e_v472, e_v469, e_v470, e_v471]
  refine (g_cat _ _ _ q).trans ?_
  rw [g_one, g_one, g_one, t_v382, t_v455, t_v468, s_num V h, s_cls V h, s_box V h, s_iou V h]
  exact losses_vec (fun b => rSums V b) q

end Cert.ReferenceIdeal.Own
-- ==== Proof.PreA.lean ====
/-
  The condition's program computes the pair costs and the overlaps as the reference does: part by part,
  what the condition's function passes on is what the reference's run holds.
-/
module

public import proofs.«01_k».proof.Proof.RefEqs1
public import proofs.«01_k».proof.Pre_assignable
public import proofs.«01_k».proof.Proof.Gen.Pre_assignable

@[expose] public section

noncomputable section

namespace Cert.ReferenceIdeal.Own

open Cert.ReferenceIdeal Cert.ReferenceIdeal.Gen Cert.Pre_assignable.Gen Idealize.ShloMosaic Idealize.ShloMosaic.TcCoe Idealize.SL.Sem Idealize.ShloMosaic.StableHlo

theorem st0 (V : Vl) :
    Cert.Pre_assignable.fn (F := Ideal) (b_arg0 V) (b_arg1 V) (b_arg2 V) (b_arg3 V) (b_arg4 V) (b_arg5 V) (b_arg6 V) =
      Cert.Pre_assignable.fn_part1 (F := Ideal) (b_arg0 V) (b_arg1 V) (b_arg5 V) (b_arg6 V) (b_v2 V) (b_v5 V) (b_v22 V) (b_v23 V) := by
  simp only [e_v23, e_v22, e_v21, e_v20, e_v19, e_v18, e_v17, e_v16, e_v15, e_v14, e_v13, e_v12, e_v11, e_v10, e_v9, e_v8, e_v7, e_v6, e_v5, e_v4, e_v3, e_v2, e_v1, e_v0]
  generalize b_arg0 V = x_arg0, b_arg1 V = x_arg1, b_arg2 V = x_arg2, b_arg3 V = x_arg3, b_arg4 V = x_arg4, b_arg5 V = x_arg5, b_arg6 V = x_arg6
  rfl

theorem st1 (V : Vl) :
    Cert.Pre_assignable.fn_part1 (F := Ideal) (b_arg0 V) (b_arg1 V) (b_arg5 V) (b_arg6 V) (b_v2 V) (b_v5 V) (b_v22 V) (b_v23 V) =
      Cert.Pre_assignable.fn_part2 (F := Ideal) (b_arg0 V) (b_arg1 V) (b_arg5 V) (b_arg6 V) (b_v2 V) (b_v5 V) (b_v28 V) (b_v36 V) (b_v44 V) (b_cst_1 V) := by
  simp only [e_cst_1, e_v44, e_v43, e_v42, e_cst_0, e_v41, e_v40, e_v39, e_v38, e_v37, e_v36, e_v35, e_v34, e_cst, e_v33, e_v32, e_v31, e_v30, e_v29, e_v28, e_v27, e_v26, e_v25, e_v24]
  generalize b_arg0 V = x_arg0, b_arg1 V = x_arg1, b_arg5 V = x_arg5, b_arg6 V = x_arg6, b_v2 V = x_v2, b_v5 V = x_v5, b_v22 V = x_v22, b_v23 V = x_v23
  rfl

theorem st2 (V : Vl) :
    Cert.Pre_assignable.fn_part2 (F := Ideal) (b_arg0 V) (b_arg1 V) (b_arg5 V) (b_arg6 V) (b_v2 V) (b_v5 V) (b_v28 V) (b_v36 V) (b_v44 V) (b_cst_1 V) =
      Cert.Pre_assignable.fn_part3 (F := Ideal) (b_arg0 V) (b_arg1 V) (b_arg5 V) (b_arg6 V) (b_v5 V) (b_v28 V) (b_v44 V) (b_v64 V) (b_v65 V) := by
  simp only [e_v65, e_cst_4, e_v64, e_v63, e_v62, e_v61, e_v60, e_v59, e_v58, e_cst_3, e_v57, e_v56, e_v55, e_v54, e_v53, e_v52, e_v51, e_cst_2, e_v50, e_v49, e_v48, e_v47, e_v46, e_v45]
  generalize b_arg0 V = x_arg0, b_arg1 V = x_arg1, b_arg5 V = x_arg5, b_arg6 V = x_arg6, b_v2 V = x_v2, b_v5 V = x_v5, b_v28 V = x_v28, b_v36 V = x_v36, b_v44 V = x_v44, b_cst_1 V = x_cst_1
  rfl

theorem st3 (V : Vl) :
    Cert.Pre_assignable.fn_part3 (F := Ideal) (b_arg0 V) (b_arg1 V) (b_arg5 V) (b_arg6 V) (b_v5 V) (b_v28 V) (b_v44 V) (b_v64 V) (b_v65 V) =
      Cert.Pre_assignable.fn_part4 (F := Ideal) (b_arg0 V) (b_arg1 V) (b_arg5 V) (b_arg6 V) (b_v73 V) (b_v74 V) (b_v81 V) (b_v88 V) := by
  simp only [e_v88, e_v87, e_v86, e_v85, e_v84, e_v83, e_v82, e_v81, e_v80, e_v79, e_v78, e_v77, e_v76, e_v75, e_v74, e_v73, e_c, e_v72, e_v71, e_v70, e_v69, e_v68, e_v67, e_v66]
  generalize b_arg0 V = x_arg0, b_arg1 V = x_arg1, b_arg5 V = x_arg5, b_arg6 V = x_arg6, b_v5 V = x_v5, b_v28 V = x_v28, b_v44 V = x_v44, b_v64 V = x_v64, b_v65 V = x_v65
  rfl

theorem st4 (V : Vl) :
    Cert.Pre_assignable.fn_part4 (F := Ideal) (b_arg0 V) (b_arg1 V) (b_arg5 V) (b_arg6 V) (b_v73 V) (b_v74 V) (b_v81 V) (b_v88 V) =
      Cert.Pre_assignable.fn_part5 (F := Ideal) (b_arg0 V) (b_arg1 V) (b_arg5 V) (b_arg6 V) (b_v73 V) (b_v74 V) (b_v96 V) (b_v103 V) (b_v108 V) (b_v109 V) := by
  simp only [e_v109, e_cst_7, e_v108, e_v107, e_v106, e_v105, e_v104, e_v103, e_v102, e_cst_6, e_v101, e_v100, e_v99, e_v98, e_v97, e_v96, e_v95, e_v94, e_v93, e_v92, e_v91, e_v90, e_cst_5, e_v89]
  generalize b_arg0 V = x_arg0, b_arg1 V = x_arg1, b_arg5 V = x_arg5, b_arg6 V = x_arg6, b_v73 V = x_v73, b_v74 V = x_v74, b_v81 V = x_v81, b_v88 V = x_v88
  rfl

theorem st5 (V : Vl) :
    Cert.Pre_assignable.fn_part5 (F := Ideal) (b_arg0 V) (b_arg1 V) (b_arg5 V) (b_arg6 V) (b_v73 V) (b_v74 V) (b_v96 V) (b_v103 V) (b_v108 V) (b_v109 V) =
      Cert.Pre_assignable.fn_part6 (F := Ideal) (b_arg0 V) (b_arg5 V) (b_arg6 V) (b_v73 V) (b_v74 V) (b_v96 V) (b_v131 V) := by
  simp only [e_v131, e_v130, e_v129, e_v128, e_v127, e_v126, e_v125, e_v124, e_cst_9, e_v123, e_v122, e_v121, e_v120, e_v119, e_v118, e_v117, e_cst_8, e_v116, e_v115, e_v114, e_v113, e_v112, e_v111, e_v110]
  generalize b_arg0 V = x_arg0, b_arg1 V = x_arg1, b_arg5 V = x_arg5, b_arg6 V = x_arg6, b_v73 V = x_v73, b_v74 V = x_v74, b_v96 V = x_v96, b_v103 V = x_v103, b_v108 V = x_v108, b_v109 V = x_v109
  rfl

theorem st6 (V : Vl) :
    Cert.Pre_assignable.fn_part6 (F := Ideal) (b_arg0 V) (b_arg5 V) (b_arg6 V) (b_v73 V) (b_v74 V) (b_v96 V) (b_v131 V) =
      Cert.Pre_assignable.fn_part7 (F := Ideal) (b_arg0 V) (b_arg5 V) (b_arg6 V) (b_v73 V) (b_v74 V) (b_v135 V) (b_v139 V) (b_v140 V) (b_v146 V) (b_v148 V) (b_v149 V) := by
  simp only [e_v149, e_v148, e_v147, e_cst_15, e_v146, e_v145, e_cst_14, e_v144, e_v143, e_cst_13, e_v142, e_v141, e_v140, e_cst_12, e_v139, e_v138, e_v137, e_v136, e_cst_11, e_v135, e_v134, e_v133, e_cst_10, e_v132]
  generalize b_arg0 V = x_arg0, b_arg1 V = x_arg1, b_arg5 V = x_arg5, b_arg6 V = x_arg6, b_v73 V = x_v73, b_v74 V = x_v74, b_v96 V = x_v96, b_v131 V = x_v131
  rfl

theorem st7 (V : Vl) :
    Cert.Pre_assignable.fn_part7 (F := Ideal) (b_arg0 V) (b_arg5 V) (b_arg6 V) (b_v73 V) (b_v74 V) (b_v135 V) (b_v139 V) (b_v140 V) (b_v146 V) (b_v148 V) (b_v149 V) =
      Cert.Pre_assignable.fn_part8 (F := Ideal) (b_arg0 V) (b_arg5 V) (b_arg6 V) (b_v73 V) (b_v74 V) (b_v135 V) (b_v139 V) (b_v140 V) (b_v157 V) (b_v170 V) := by
  simp only [e_v170, e_v169, e_cst_18, e_v168, e_v167, e_v166, e_v165, e_v164, e_v163, e_cst_17, e_v162, e_v161, e_cst_16, e_v160, e_v159, e_v158, e_v157, e_v156, e_v155, e_v154, e_v153, e_v152, e_v151, e_v150]
  generalize b_arg0 V = x_arg0, b_arg1 V = x_arg1, b_arg5 V = x_arg5, b_arg6 V = x_arg6, b_v73 V = x_v73, b_v74 V = x_v74, b_v135 V = x_v135, b_v139 V = x_v139, b_v140 V = x_v140, b_v146 V = x_v146, b_v148 V = x_v148, b_v149 V = x_v149
  rfl

theorem st8 (V : Vl) :
    Cert.Pre_assignable.fn_part8 (F := Ideal) (b_arg0 V) (b_arg5 V) (b_arg6 V) (b_v73 V) (b_v74 V) (b_v135 V) (b_v139 V) (b_v140 V) (b_v157 V) (b_v170 V) =
      Cert.Pre_assignable.fn_part9 (F := Ideal) (b_arg0 V) (b_arg5 V) (b_arg6 V) (b_v73 V) (b_v74 V) (b_v135 V) (b_v139 V) (b_v183 V) (b_v184 V) (b_v188 V) := by
  simp only [e_v188, e_v187, e_cst_24, e_v186, e_v185, e_v184, e_cst_23, e_v183, e_v182, e_v181, e_v180, e_v179, e_v178, e_cst_22, e_v177, e_v176, e_cst_21, e_v175, e_v174, e_cst_20, e_v173, e_v172, e_v171, e_cst_19]
  generalize b_arg0 V = x_arg0, b_arg1 V = x_arg1, b_arg5 V = x_arg5, b_arg6 V = x_arg6, b_v73 V = x_v73, b_v74 V = x_v74, b_v135 V = x_v135, b_v139 V = x_v139, b_v140 V = x_v140, b_v157 V = x_v157, b_v170 V = x_v170
  rfl

theorem st9 (V : Vl) :
    Cert.Pre_assignable.fn_part9 (F := Ideal) (b_arg0 V) (b_arg5 V) (b_arg6 V) (b_v73 V) (b_v74 V) (b_v135 V) (b_v139 V) (b_v183 V) (b_v184 V) (b_v188 V) =
      Cert.Pre_assignable.fn_part10 (F := Ideal) (b_arg0 V) (b_arg5 V) (b_arg6 V) (b_v73 V) (b_v74 V) (b_v135 V) (b_v139 V) (b_v183 V) (b_v184 V) (b_v201 V) (b_v204 V) (b_v206 V) (b_v208 V) := by
  simp only [e_v208, e_v207, e_cst_28, e_v206, e_v205, e_cst_27, e_v204, e_v203, e_v202, e_v201, e_v200, e_v199, e_v198, e_v197, e_v196, e_v195, e_v194, e_v193, e_v192, e_v191, e_cst_26, e_v190, e_v189, e_cst_25]
  generalize b_arg0 V = x_arg0, b_arg1 V = x_arg1, b_arg5 V = x_arg5, b_arg6 V = x_arg6, b_v73 V = x_v73, b_v74 V = x_v74, b_v135 V = x_v135, b_v139 V = x_v139, b_v183 V = x_v183, b_v184 V = x_v184, b_v188 V = x_v188
  rfl

theorem st10 (V : Vl) :
    Cert.Pre_assignable.fn_part10 (F := Ideal) (b_arg0 V) (b_arg5 V) (b_arg6 V) (b_v73 V) (b_v74 V) (b_v135 V) (b_v139 V) (b_v183 V) (b_v184 V) (b_v201 V) (b_v204 V) (b_v206 V) (b_v208 V) =
      Cert.Pre_assignable.fn_part11 (F := Ideal) (b_arg0 V) (b_arg5 V) (b_arg6 V) (b_v73 V) (b_v74 V) (b_v135 V) (b_v139 V) (b_v183 V) (b_v227 V) := by
  simp only [e_v227, e_v226, e_v225, e_v224, e_v223, e_v222, e_cst_33, e_v221, e_v220, e_cst_32, e_v219, e_v218, e_cst_31, e_v217, e_v216, e_v215, e_cst_30, e_v214, e_v213, e_cst_29, e_v212, e_v211, e_v210, e_v209]
  generalize b_arg0 V = x_arg0, b_arg1 V = x_arg1, b_arg5 V = x_arg5, b_arg6 V = x_arg6, b_v73 V = x_v73, b_v74 V = x_v74, b_v135 V = x_v135, b_v139 V = x_v139, b_v183 V = x_v183, b_v184 V = x_v184, b_v201 V = x_v201, b_v204 V = x_v204, b_v206 V = x_v206, b_v208 V = x_v208
  rfl

theorem st11 (V : Vl) :
    Cert.Pre_assignable.fn_part11 (F := Ideal) (b_arg0 V) (b_arg5 V) (b_arg6 V) (b_v73 V) (b_v74 V) (b_v135 V) (b_v139 V) (b_v183 V) (b_v227 V) =
      Cert.Pre_assignable.fn_part12 (F := Ideal) (b_arg0 V) (b_arg5 V) (b_arg6 V) (b_v73 V) (b_v74 V) (b_v135 V) (b_v139 V) (b_v239 V) (b_v246 V) := by
  simp only [e_v246, e_v245, e_v244, e_v243, e_v242, e_c_38, e_v241, e_v240, e_c_37, e_v239, e_v238, e_v237, e_v236, e_v235, e_v234, e_v233, e_v232, e_c_36, e_v231, e_v230, e_c_35, e_v229, e_v228, e_cst_34]
  generalize b_arg0 V = x_arg0, b_arg1 V = x_arg1, b_arg5 V = x_arg5, b_arg6 V = x_arg6, b_v73 V = x_v73, b_v74 V = x_v74, b_v135 V = x_v135, b_v139 V = x_v139, b_v183 V = x_v183, b_v227 V = x_v227
  rfl

theorem st12 (V : Vl) :
    Cert.Pre_assignable.fn_part12 (F := Ideal) (b_arg0 V) (b_arg5 V) (b_arg6 V) (b_v73 V) (b_v74 V) (b_v135 V) (b_v139 V) (b_v239 V) (b_v246 V) =
      Cert.Pre_assignable.fn_part13 (F := Ideal) (b_arg0 V) (b_arg5 V) (b_arg6 V) (b_v135 V)
        (Host.sort Cert.Pre_assignable.S8x60x33600 2 (Cert.Pre_assignable.comparator_f32_d2 (F := Ideal)) (b_v265 V)) (uitofp .f32 (b_v73 V)) := by
  simp only [e_v265, e_v264, e_v263, e_v262, e_v261, e_cst_41, e_v260, e_v259, e_v258, e_v257, e_v256, e_v255, e_v254, e_cst_40, e_v253, e_v252, e_v251, e_v250, e_v249, e_cst_39, e_v248, e_v247]
  generalize b_arg0 V = x_arg0, b_arg1 V = x_arg1, b_arg5 V = x_arg5, b_arg6 V = x_arg6, b_v73 V = x_v73, b_v74 V = x_v74, b_v135 V = x_v135, b_v139 V = x_v139, b_v239 V = x_v239, b_v246 V = x_v246
  rfl

/-- The condition's function at the reference's arguments, with the sorted pair costs and the matched overlaps as the reference's run holds them. -/
theorem pre_eq (V : Vl) :
    Cert.Pre_assignable.fn (F := Ideal) (b_arg0 V) (b_arg1 V) (b_arg2 V) (b_arg3 V) (b_arg4 V) (b_arg5 V) (b_arg6 V) =
      Cert.Pre_assignable.fn_part13 (F := Ideal) (b_arg0 V) (b_arg5 V) (b_arg6 V) (b_v135 V)
        (Host.sort Cert.Pre_assignable.S8x60x33600 2 (Cert.Pre_assignable.comparator_f32_d2 (F := Ideal)) (b_v265 V)) (uitofp .f32 (b_v73 V)) :=
  (st0 V).trans ((st1 V).trans ((st2 V).trans ((st3 V).trans ((st4 V).trans ((st5 V).trans ((st6 V).trans ((st7 V).trans ((st8 V).trans ((st9 V).trans ((st10 V).trans ((st11 V).trans (st12 V))))))))))))

end Cert.ReferenceIdeal.Own

end
-- ==== Proof.PreB.lean ====
/-
  What the condition says: from its function being one to finite scores and true boxes, class labels in range, and no ties
  among a ground truth's least costs or its greatest positive overlaps.
-/
module

public import proofs.«01_k».proof.Proof.RefB
public import proofs.«01_k».proof.Proof.PreA
public import Idealize.ShloMosaic.Lib.ReduceAll

@[expose] public section

noncomputable section

namespace Cert.Pre_assignable.Own

open Cert.Pre_assignable Cert.Pre_assignable.Gen Cert.Own Idealize.ShloMosaic

theorem before_lt (x y : EReal) : comparator_f32_d2 (F := Ideal) x y = BitVec.ofBool (decide (x < y)) := by
  rw [← Cert.ReferenceIdeal.Own.cmpfTotal_lt]
  conv_rhs => rw [← Cert.ReferenceIdeal.Own.norm_eq x, ← Cert.ReferenceIdeal.Own.norm_eq y]
  rfl

/-- A row sorted along the last axis is the row read through its ascending order. -/
theorem sort_apply (x : S8x60x33600.Idx → EReal) (f : Fin 33600 → EReal) (b : Fin 8) (m : Fin 60) (hf : ∀ k, x (ix3 b m k) = f k) (n : Fin 33600) :
    Host.sort S8x60x33600 2 (comparator_f32_d2 (F := Ideal)) x (ix3 b m n) = f (ascending f n) := by
  have h : Host.sort S8x60x33600 2 (comparator_f32_d2 (F := Ideal)) x (ix3 b m n)
      = x (Shape.Idx.along (s := S8x60x33600) (ix3 b m n) (2 : Fin 3) (sortedFrom (fun k k' : Fin 33600 =>
        comparator_f32_d2 (F := Ideal) (x (Shape.Idx.along (s := S8x60x33600) (ix3 b m n) (2 : Fin 3) k))
          (x (Shape.Idx.along (s := S8x60x33600) (ix3 b m n) (2 : Fin 3) k')) == 1#1) n)) := rfl
  rw [h]
  simp only [Cert.ReferenceIdeal.Own.along_ix3, before_lt, Cert.ReferenceIdeal.Own.bit_beq]
  refine (congrArg x (Cert.ReferenceIdeal.Own.along_ix3 b m n _)).trans ((hf _).trans ?_)
  refine congrArg (fun p : Fin 33600 → Fin 33600 => f (p n)) (congrArg sortedFrom ?_)
  funext k k'
  rw [hf, hf]

/-- The greatest entries of a row along the last axis are the row read through its descending order. -/
theorem top_apply (x : S8x60x33600.Idx → EReal) (hs : S8x60x33600.Slices (fun _ => 0) S8x60x10) (f : Fin 33600 → EReal) (b : Fin 8) (m : Fin 60)
    (hf : ∀ k, x (ix3 b m k) = f k) (r : Fin 10) :
    (Host.topK S8x60x10 2 (FloatOps.cmpfTotal (F := Ideal) (φ := .f32) .gt) x hs).1 (ix3 b m r) = f (descending f (r.castLE (by decide))) := by
  refine (Cert.ReferenceIdeal.Own.topK_fst _ _ _ _ _ _).trans ?_
  rw [Cert.ReferenceIdeal.Own.sort2_fst, hf]
  refine congrArg (fun p : Fin 33600 → Fin 33600 => f (p (r.castLE (by decide)))) (congrArg sortedFrom ?_)
  funext k k'
  rw [Cert.ReferenceIdeal.Own.cmpfTotal_gt, Cert.ReferenceIdeal.Own.bit_beq, hf, hf]

theorem slice_apply {p q : ℕ} (x : Shape.Idx ⟨3, ![8, 60, p]⟩ → EReal) (o : Fin 3 → ℕ) (k : ℕ) (ho : o = ![0, 0, k])
    (hs : Shape.Slices ⟨3, ![8, 60, p]⟩ o ⟨3, ![8, 60, q]⟩) (b : Fin 8) (m : Fin 60) (n : Fin q) (l : Fin p)
    (hl : l.val = k + n.val) : extractStridedSlice ⟨3, ![8, 60, q]⟩ o x hs (ix3 b m n) = x (ix3 b m l) := by
  subst ho
  refine congrArg x (funext fun e => Fin.ext ?_)
  match e with
  | ⟨0, _⟩ => exact Nat.zero_add _
  | ⟨1, _⟩ => exact Nat.zero_add _
  | ⟨2, _⟩ => exact hl.symm

theorem fin_of_abs {x : EReal} (h : FloatOps.cmpf (F := Ideal) (φ := .f32) .olt (FloatOps.hostAbsf (F := Ideal) (φ := .f32) x) (FloatOps.ofBits (F := Ideal) .f32 0x7F800000#32) = 1#1) : Fin' x := by
  have h' : BitVec.ofBool (decide (max x (-x) < Ideal.ofBits FTy.f32 2139095040#32)) = 1#1 := h
  rw [ofBits_pinf] at h'
  have h2 : max x (-x) < ⊤ := by by_contra hc; simp [hc] at h'
  obtain ⟨h3, h4⟩ := max_lt_iff.mp h2
  exact ⟨x.toReal, (EReal.coe_toReal h3.ne (fun hb => by rw [hb] at h4; exact absurd h4 (by simp))).symm⟩

theorem label_range {x : BitVec 32} (h : IntOp.andi (IntOp.cmpi .sge x 0#32) (IntOp.cmpi .slt x 80#32) = 1#1) :
    ∃ c : Fin 80, x = BitVec.ofNat 32 c.val := by
  obtain ⟨h1, h2⟩ := IntOp.andi_eq_one.1 h
  have h1' : BitVec.ofBool (decide ((0#32).toInt ≤ x.toInt)) = 1#1 := h1
  have h2' : BitVec.ofBool (decide (x.toInt < (80#32).toInt)) = 1#1 := h2
  have g1 : (0 : ℤ) ≤ x.toInt := by by_contra hc; simp [hc] at h1'
  have g2 : x.toInt < 80 := by by_contra hc; simp [hc] at h2'
  have g3 : x.toNat < 80 := by
    rw [BitVec.toInt_eq_toNat_cond] at g1 g2
    have := x.isLt
    split at g1 <;> omega
  exact ⟨⟨x.toNat, g3⟩, by simp⟩

theorem sorted_lt {x y : EReal} (h : FloatOps.cmpf (F := Ideal) (φ := .f32) .olt x y = 1#1) : x < y := by
  have h' : BitVec.ofBool (decide (x < y)) = 1#1 := h
  by_contra hc; simp [hc] at h'

theorem drawn_gt {x y : EReal} (h : IntOp.ori (FloatOps.cmpf (F := Ideal) (φ := .f32) .ogt x y)
    (FloatOps.cmpf (F := Ideal) (φ := .f32) .ole x (FloatOps.ofBits (F := Ideal) .f32 0x00000000#32)) = 1#1) (hx : 0 < x) : y < x := by
  have h' : IntOp.ori (BitVec.ofBool (decide (y < x))) (BitVec.ofBool (decide (x ≤ Ideal.ofBits FTy.f32 0#32))) = 1#1 := h
  have hz : Ideal.ofBits FTy.f32 0#32 = 0 := by simp [Ideal.ofBits, Ideal.ieee]
  rw [hz] at h'
  by_contra hc
  simp [hc, not_le.mpr hx, IntOp.ori] at h'

section
variable (a0 : FVec Ideal S8x33600x80 .f32) (a5 : IVec S8x60 32) (a6 : FVec Ideal S8x60x4 .f32)
  (ov : FVec Ideal S8x60x33600 .f32) (sc : FVec Ideal S8x60x33600 .f32) (fg : FVec Ideal S8x33600 .f32)

def weighted : FVec Ideal S8x60x33600 .f32 :=
  mulf ov (broadcastInDim S8x60x33600 ![0, 1, 2] bcast_S8x1x33600_S8x60x33600_0_1_2 (broadcastInDim S8x1x33600 ![0, 2] bcast_S8x33600_S8x1x33600_0_2 fg))

theorem weighted_apply (b : Fin 8) (m : Fin 60) (n : Fin 33600) : weighted ov fg (ix3 b m n) = (ov (ix3 b m n) * fg (ix2 b n) : EReal) := by
  pointwise [weighted]

def drawn : FVec Ideal S8x60x10 .f32 :=
  (Host.topK S8x60x10 2 (FloatOps.cmpfTotal (F := Ideal) (φ := .f32) .gt) (weighted ov fg) sliceFits_S8x60x33600_S8x60x10).1

theorem conditions (h : fn_part13 (F := Ideal) a0 a5 a6 ov sc fg = fun _ => 1#1) :
    (∀ b n c, Fin' (a0 (ix3 b n c))) ∧ (∀ b m k, Fin' (a6 (ix3 b m k)))
    ∧ (∀ b m, ∃ c : Fin 80, a5 (ix2 b m) = BitVec.ofNat 32 c.val)
    ∧ (∀ (b : Fin 8) (m : Fin 60) (k l : Fin 33600), k.val + 1 = l.val → l.val ≤ 10 → (sc (ix3 b m k) : EReal) < sc (ix3 b m l))
    ∧ (∀ (b : Fin 8) (m : Fin 60) (k l : Fin 10), k.val + 1 = l.val → (0 : EReal) < drawn ov fg (ix3 b m k) →
        (drawn ov fg (ix3 b m l) : EReal) < drawn ov fg (ix3 b m k)) := by
  have e := congrFun h (fun e => e.elim0)
  unfold fn_part13 fn_part14 at e
  obtain ⟨e, e4⟩ := IntOp.andi_eq_one.1 e
  obtain ⟨e, e3⟩ := IntOp.andi_eq_one.1 e
  obtain ⟨e, e2⟩ := IntOp.andi_eq_one.1 e
  obtain ⟨e1a, e1b⟩ := IntOp.andi_eq_one.1 e
  haveI : Subsingleton S_.Idx := ⟨fun a b => funext fun e => e.elim0⟩
  have f1a := Host.reduce_andi_all _ _ _ _ _ e1a
  have f1b := Host.reduce_andi_all _ _ _ _ _ e1b
  have f2 := Host.reduce_andi_all _ _ _ _ _ e2
  have f3 := Host.reduce_andi_all _ _ _ _ _ e3
  have f4 := Host.reduce_andi_all _ _ _ _ _ e4
  clear e e1a e1b e2 e3 e4 h
  refine ⟨fun b n c => fin_of_abs (f1a (ix3 b n c)), fun b m k => fin_of_abs (f1b (ix3 b m k)),
    fun b m => label_range (f2 (ix2 b m)), fun b m k l hkl hl => ?_, fun b m k l hkl hpos => ?_⟩
  · have g := sorted_lt (f3 (ix3 b m ⟨k.val, by omega⟩))
    beta_reduce at g
    rwa [slice_apply sc _ 0 rfl _ b m _ k (by simp), slice_apply sc _ 1 rfl _ b m _ l (by simp; omega)] at g
  · have g := drawn_gt (x := drawn ov fg (ix3 b m k)) (y := drawn ov fg (ix3 b m l)) ?_ hpos
    · exact g
    have g := f4 (ix3 b m ⟨k.val, by omega⟩)
    rw [← slice_apply (drawn ov fg) ![0, 0, 0] 0 rfl slices_S8x60x10_S8x60x9_0_0_0 b m ⟨k.val, by omega⟩ k (by simp),
      ← slice_apply (drawn ov fg) ![0, 0, 1] 1 rfl slices_S8x60x10_S8x60x9_0_0_1 b m ⟨k.val, by omega⟩ l (by simp; omega)]
    exact g

end

end Cert.Pre_assignable.Own

namespace Cert.ReferenceIdeal.Own

open Cert.ReferenceIdeal Cert.ReferenceIdeal.Gen Cert.Pre_assignable.Gen Cert.Own Idealize.ShloMosaic Idealize.ShloMosaic.TcCoe Idealize.SL.Sem Idealize.ShloMosaic.StableHlo

/-- The condition holds of the arguments, so every example is assignable. -/
theorem fair (V : Vl) (h : Cert.Pre_assignable.fn (F := Ideal) (b_arg0 V) (b_arg1 V) (b_arg2 V) (b_arg3 V) (b_arg4 V) (b_arg5 V) (b_arg6 V) = fun _ => 1#1)
    (b : Fin 8) : Fairb V b := by
  rw [pre_eq] at h
  obtain ⟨hX, hG, hL, hc, ho⟩ := Cert.Pre_assignable.Own.conditions _ _ _ _ _ _ h
  have hcost : ∀ m n, (b_v265 V) (ix3 b m n) = costs (rX V b) (rP V b) (rA V) (rL V b) (rG V b) n m := fun m n => by
    obtain ⟨c, hc⟩ := hL b m
    exact r_v265 V b m n c (fun k => hX b n k) hc
  have hover : ∀ m n, Cert.Pre_assignable.Own.weighted (b_v135 V) (uitofp .f32 (b_v73 V)) (ix3 b m n) = overlaps (rP V b) (rA V) (rG V b) m n := fun m n => by
    rw [Cert.Pre_assignable.Own.weighted_apply, r_v135]
    unfold overlaps fgIou
    rw [← r_v73 V b n, ← uitofp_bit]
    rfl
  refine ⟨fun n c => hX b n c, fun m k => hG b m k, fun m => hL b m, fun m k l hkl hl => ?_, fun m k l hkl hl => ?_⟩
  · have := hc b m k l hkl hl
    rwa [Cert.Pre_assignable.Own.sort_apply _ _ b m (hcost m), Cert.Pre_assignable.Own.sort_apply _ _ b m (hcost m)] at this
  · have := ho b m ⟨k.val, by omega⟩ ⟨l.val, hl⟩ hkl
    unfold Cert.Pre_assignable.Own.drawn at this
    rwa [Cert.Pre_assignable.Own.top_apply _ _ _ b m (hover m), Cert.Pre_assignable.Own.top_apply _ _ _ b m (hover m)] at this

end Cert.ReferenceIdeal.Own

end
-- ==== Proof.Agree.lean ====
/-
  The value claim: under the condition, the kernel's three losses are the reference's.
-/
module

public import proofs.«01_k».proof.Defs
public import proofs.«01_k».proof.Proof.KVal
public import proofs.«01_k».proof.Proof.RefE
public import proofs.«01_k».proof.Proof.RefRun
public import proofs.«01_k».proof.Proof.PreB

@[expose] public section

noncomputable section

namespace Cert.Own

open Cert.KernelIdeal.Gen (W5)
open Cert.KernelIdeal.Own Cert.ReferenceIdeal.Own Idealize.ShloMosaic Idealize.ShloMosaic.TcCoe Idealize.SL.Sem Idealize.ShloMosaic.StableHlo

/-- Equal arguments, of which the condition holds, give equal losses. -/
theorem losses_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (V : Vl)
    (h0 : b_arg0 V = m ((c.tc : Thread Cert.KernelIdeal.nD Cert.KernelIdeal.τ).loc Cert.KernelIdeal.main_arg0))
    (h1 : b_arg1 V = m ((c.tc : Thread Cert.KernelIdeal.nD Cert.KernelIdeal.τ).loc Cert.KernelIdeal.main_arg1))
    (h2 : b_arg2 V = m ((c.tc : Thread Cert.KernelIdeal.nD Cert.KernelIdeal.τ).loc Cert.KernelIdeal.main_arg2))
    (h3 : b_arg3 V = m ((c.tc : Thread Cert.KernelIdeal.nD Cert.KernelIdeal.τ).loc Cert.KernelIdeal.main_arg3))
    (h4 : b_arg4 V = m ((c.tc : Thread Cert.KernelIdeal.nD Cert.KernelIdeal.τ).loc Cert.KernelIdeal.main_arg4))
    (h5 : b_arg5 V = m ((c.tc : Thread Cert.KernelIdeal.nD Cert.KernelIdeal.τ).loc Cert.KernelIdeal.main_arg5))
    (h6 : b_arg6 V = m ((c.tc : Thread Cert.KernelIdeal.nD Cert.KernelIdeal.τ).loc Cert.KernelIdeal.main_arg6))
    (hp : Cert.Pre_assignable.fn (F := Ideal) (b_arg0 V) (b_arg1 V) (b_arg2 V) (b_arg3 V) (b_arg4 V) (b_arg5 V) (b_arg6 V) = fun _ => 1#1) :
    (b_v472 V : FVec Ideal Cert.ReferenceIdeal.S3 .f32)
      = (W5 m ρ c (Proc.devRef .tc Cert.KernelIdeal.main_v24) : FVec Ideal Cert.KernelIdeal.S3 .f32) := by
  have key : ∀ q : Fin 3, (b_v472 V) (ix1 q)
      = (W5 m ρ c (Proc.devRef .tc Cert.KernelIdeal.main_v24) : FVec Ideal Cert.KernelIdeal.S3 .f32) (ix1 q) := fun q => by
    refine (s_losses V (fair V hp) q).trans (Eq.trans ?_ (value m ρ c q).symm)
    have eX : rX V = mX m c := by funext b n k; exact congrFun h0 (ix3 b n k)
    have eP : rP V = mP m c := by funext b n k; exact congrFun h1 (ix3 b n k)
    have eU : rU V = mU m c := by funext b n; exact congrFun h2 (ix3 b n 0)
    have eA : rA V = mA m c := by funext n k; exact congrFun h3 (ix2 n k)
    have eV : rV V = mV m c := by funext b n; exact congrArg (fun x : BitVec 1 => bitE (~~~x)) (congrFun h4 (ix2 b n))
    have eL : rL V = mL m c := by funext b k; exact congrFun h5 (ix2 b k)
    have eG : rG V = mG m c := by funext b k i; exact congrFun h6 (ix3 b k i)
    show losses (fun b => sums (rX V b) (rP V b) (rA V) (rL V b) (rG V b) (rV V b) (rU V b)) q = _
    rw [eX, eP, eU, eA, eV, eL, eG]
  generalize b_v472 V = x at key ⊢
  generalize (W5 m ρ c (Proc.devRef .tc Cert.KernelIdeal.main_v24) : FVec Ideal Cert.KernelIdeal.S3 .f32) = y at key ⊢
  funext i
  have hi : i = ix1 (i 0) := by
    funext e
    match e with
    | ⟨0, _⟩ => rfl
  rw [hi]
  exact key (i 0)

theorem algebraic : Cert.algebraic_KernelIdeal_ReferenceIdeal_pre_assignable (hKernelIdeal := Cert.KernelIdeal.Gen.facts)
    (hReferenceIdeal := Cert.ReferenceIdeal.Gen.facts) (hPre_assignable := Cert.Pre_assignable.Gen.facts) := by
  intro m g m' g' hp ha
  refine ⟨fun c => W5 m g c (Proc.devRef .tc Cert.KernelIdeal.main_v24), ?_, ?_⟩
  · exact (θ_run _ _ _).mono (fun r h => h.1) (Cert.KernelIdeal.Own.run m g)
  · refine (θ_run _ _ _).mono (fun r h => ?_) (Cert.ReferenceIdeal.Own.run m' g')
    intro c
    obtain ⟨h0, h1, h2, h3, h4, h5, h6⟩ := ha c
    have hpc := hp c
    have hv := losses_agree m g c (launchContents m' c) h0 h1 h2 h3 h4 h5 h6 (by rw [h0.symm, h1.symm, h2.symm, h3.symm, h4.symm, h5.symm, h6.symm] at hpc; exact hpc)
    exact ⟨(h c _).trans hv, (h c _).trans (k_arg0 _), (h c _).trans (k_arg1 _), (h c _).trans (k_arg2 _),
      (h c _).trans (k_arg3 _), (h c _).trans (k_arg4 _), (h c _).trans (k_arg5 _), (h c _).trans (k_arg6 _)⟩

end Cert.Own

end
-- ==== Proof.lean ====
/-
  The certificate's claims, put together from the frames and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_assignable
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_assignable.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Own.frame m ρ, fun m ρ _ => Cert.ReferenceIdeal.Own.frame m ρ,
  IdealRules.named_const.statement Cert.KernelIdeal.κ "mask" .f32 0x7149F2CA#32 ⊤ rfl, Cert.Own.algebraic⟩

end Cert.Proof

end
